-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v105) = v0 c
          ∧ r.2.mem ((c.tc : Thread Cert.Reference2Ideal.nD Cert.Reference2Ideal.τ).loc Cert.Reference2Ideal.main_v106) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)) (v4 : (c : Dev Cert.Kernel3Ideal.nD) → Buf (Elt Ideal) ((c.tc : Thread Cert.Kernel3Ideal.nD Cert.Kernel3Ideal.τ).loc Cert.Kernel3Ideal.main_v11_4)) (v5 : (c : Dev Cert.Kernel3Ideal.nD) → Buf (Elt Ideal) ((c.tc : Thread Cert.Kernel3Ideal.nD Cert.Kernel3Ideal.τ).loc Cert.Kernel3Ideal.main_v11_5)) (v6 : (c : Dev Cert.Kernel3Ideal.nD) → Buf (Elt Ideal) ((c.tc : Thread Cert.Kernel3Ideal.nD Cert.Kernel3Ideal.τ).loc Cert.Kernel3Ideal.main_v11_6)) (v7 : (c : Dev Cert.Kernel3Ideal.nD) → Buf (Elt Ideal) ((c.tc : Thread Cert.Kernel3Ideal.nD Cert.Kernel3Ideal.τ).loc Cert.Kernel3Ideal.main_v11_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_v11_4) = v4 c
          ∧ r.2.mem ((c.tc : Thread Cert.Kernel3Ideal.nD Cert.Kernel3Ideal.τ).loc Cert.Kernel3Ideal.main_v11_5) = v5 c
          ∧ r.2.mem ((c.tc : Thread Cert.Kernel3Ideal.nD Cert.Kernel3Ideal.τ).loc Cert.Kernel3Ideal.main_v11_6) = v6 c
          ∧ r.2.mem ((c.tc : Thread Cert.Kernel3Ideal.nD Cert.Kernel3Ideal.τ).loc Cert.Kernel3Ideal.main_v11_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v342) = v0 c
          ∧ r.2.mem ((c.tc : Thread Cert.Reference3Ideal.nD Cert.Reference3Ideal.τ).loc Cert.Reference3Ideal.main_v344) = v1 c
          ∧ r.2.mem ((c.tc : Thread Cert.Reference3Ideal.nD Cert.Reference3Ideal.τ).loc Cert.Reference3Ideal.main_v346) = v2 c
          ∧ r.2.mem ((c.tc : Thread Cert.Reference3Ideal.nD Cert.Reference3Ideal.τ).loc Cert.Reference3Ideal.main_v348) = v3 c
          ∧ r.2.mem ((c.tc : Thread Cert.Reference3Ideal.nD Cert.Reference3Ideal.τ).loc Cert.Reference3Ideal.main_v349) = v4 c
          ∧ r.2.mem ((c.tc : Thread Cert.Reference3Ideal.nD Cert.Reference3Ideal.τ).loc Cert.Reference3Ideal.main_v350) = v5 c
          ∧ r.2.mem ((c.tc : Thread Cert.Reference3Ideal.nD Cert.Reference3Ideal.τ).loc Cert.Reference3Ideal.main_v353) = v6 c
          ∧ r.2.mem ((c.tc : Thread Cert.Reference3Ideal.nD Cert.Reference3Ideal.τ).loc Cert.Reference3Ideal.main_v356) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v110) = v0 c
          ∧ r.2.mem ((c.tc : Thread Cert.Reference4Ideal.nD Cert.Reference4Ideal.τ).loc Cert.Reference4Ideal.main_v113) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v23_0)) (v1 : (c : Dev Cert.Kernel5Ideal.nD) → Buf (Elt Ideal) ((c.tc : Thread Cert.Kernel5Ideal.nD Cert.Kernel5Ideal.τ).loc Cert.Kernel5Ideal.main_v23_1)) (v2 : (c : Dev Cert.Kernel5Ideal.nD) → Buf (Elt Ideal) ((c.tc : Thread Cert.Kernel5Ideal.nD Cert.Kernel5Ideal.τ).loc Cert.Kernel5Ideal.main_v23_2)) (v3 : (c : Dev Cert.Kernel5Ideal.nD) → Buf (Elt Ideal) ((c.tc : Thread Cert.Kernel5Ideal.nD Cert.Kernel5Ideal.τ).loc Cert.Kernel5Ideal.main_v23_3)) (v4 : (c : Dev Cert.Kernel5Ideal.nD) → Buf (Elt Ideal) ((c.tc : Thread Cert.Kernel5Ideal.nD Cert.Kernel5Ideal.τ).loc Cert.Kernel5Ideal.main_v23_4)) (v5 : (c : Dev Cert.Kernel5Ideal.nD) → Buf (Elt Ideal) ((c.tc : Thread Cert.Kernel5Ideal.nD Cert.Kernel5Ideal.τ).loc Cert.Kernel5Ideal.main_v23_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23_0) = v0 c
          ∧ r.2.mem ((c.tc : Thread Cert.Kernel5Ideal.nD Cert.Kernel5Ideal.τ).loc Cert.Kernel5Ideal.main_v23_1) = v1 c
          ∧ r.2.mem ((c.tc : Thread Cert.Kernel5Ideal.nD Cert.Kernel5Ideal.τ).loc Cert.Kernel5Ideal.main_v23_2) = v2 c
          ∧ r.2.mem ((c.tc : Thread Cert.Kernel5Ideal.nD Cert.Kernel5Ideal.τ).loc Cert.Kernel5Ideal.main_v23_3) = v3 c
          ∧ r.2.mem ((c.tc : Thread Cert.Kernel5Ideal.nD Cert.Kernel5Ideal.τ).loc Cert.Kernel5Ideal.main_v23_4) = v4 c
          ∧ r.2.mem ((c.tc : Thread Cert.Kernel5Ideal.nD Cert.Kernel5Ideal.τ).loc Cert.Kernel5Ideal.main_v23_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v342) = v0 c
          ∧ r.2.mem ((c.tc : Thread Cert.Reference5Ideal.nD Cert.Reference5Ideal.τ).loc Cert.Reference5Ideal.main_v345) = v1 c
          ∧ r.2.mem ((c.tc : Thread Cert.Reference5Ideal.nD Cert.Reference5Ideal.τ).loc Cert.Reference5Ideal.main_v348) = v2 c
          ∧ r.2.mem ((c.tc : Thread Cert.Reference5Ideal.nD Cert.Reference5Ideal.τ).loc Cert.Reference5Ideal.main_v351) = v3 c
          ∧ r.2.mem ((c.tc : Thread Cert.Reference5Ideal.nD Cert.Reference5Ideal.τ).loc Cert.Reference5Ideal.main_v354) = v4 c
          ∧ r.2.mem ((c.tc : Thread Cert.Reference5Ideal.nD Cert.Reference5Ideal.τ).loc Cert.Reference5Ideal.main_v357) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S32x4x8x64 : Shape := ⟨4, ![32, 4, 8, 64]⟩
abbrev S2x32x2048x8x64 : Shape := ⟨5, ![2, 32, 2048, 8, 64]⟩
abbrev S_ : Shape := ⟨0, ![]⟩

class Facts : Prop where
  bcast_S_S32x4x8x64 : S_.BroadcastsInDim S32x4x8x64 (![] : Fin 0 → Fin S32x4x8x64.rank)
  reducesTo_S32x4x8x64_S_d0_1_2_3 : S32x4x8x64.ReducesTo [0, 1, 2, 3] S_
  h_S_ : 0 < S_.numel
  bcast_S_S2x32x2048x8x64 : S_.BroadcastsInDim S2x32x2048x8x64 (![] : Fin 0 → Fin S2x32x2048x8x64.rank)
  reducesTo_S2x32x2048x8x64_S_d0_1_2_3_4 : S2x32x2048x8x64.ReducesTo [0, 1, 2, 3, 4] S_

variable [Facts]

def fn_part1 {F : FTy → Type} [FloatOps F] (main_arg4 : FVec F S2x32x2048x8x64 .f32) (main_v14 : IVec S_ 1) (main_v15 : FVec F S2x32x2048x8x64 .f32) (main_cst_5 : FVec F S_ .f32) : IVec S_ 1 :=
  let main_v16 : FVec F S2x32x2048x8x64 .f32 := broadcastInDim S2x32x2048x8x64 ![] bcast_S_S2x32x2048x8x64 main_cst_5
  let main_v17 : IVec S2x32x2048x8x64 1 := cmpf .olt main_v15 main_v16
  let main_c_6 : IVec S_ 1 := constantI S_ 1 1#1
  let main_v18 : IVec S_ 1 := (fun x v => Host.reduce IntOp.andi x v reducesTo_S2x32x2048x8x64_S_d0_1_2_3_4 h_S_) main_v17 main_c_6
  let main_v19 : IVec S_ 1 := andi main_v14 main_v18
  let main_v20 : FVec F S2x32x2048x8x64 .f32 := Host.absf main_arg4
  let main_cst_7 : FVec F S_ .f32 := constant S_ .f32 0x7F800000#32
  let main_v21 : FVec F S2x32x2048x8x64 .f32 := broadcastInDim S2x32x2048x8x64 ![] bcast_S_S2x32x2048x8x64 main_cst_7
  let main_v22 : IVec S2x32x2048x8x64 1 := cmpf .olt main_v20 main_v21
  let main_c_8 : IVec S_ 1 := constantI S_ 1 1#1
  let main_v23 : IVec S_ 1 := (fun x v => Host.reduce IntOp.andi x v reducesTo_S2x32x2048x8x64_S_d0_1_2_3_4 h_S_) main_v22 main_c_8
  let main_v24 : IVec S_ 1 := andi main_v19 main_v23
  main_v24

def fn {F : FTy → Type} [FloatOps F] (main_arg0 : FVec F S32x4x8x64 .f32) (main_arg1 : FVec F S32x4x8x64 .f32) (main_arg2 : FVec F S32x4x8x64 .f32) (main_arg3 : FVec F S2x32x2048x8x64 .f32) (main_arg4 : FVec F S2x32x2048x8x64 .f32) : IVec S_ 1 :=
  let main_v0 : FVec F S32x4x8x64 .f32 := Host.absf main_arg0
  let main_cst : FVec F S_ .f32 := constant S_ .f32 0x7F800000#32
  let main_v1 : FVec F S32x4x8x64 .f32 := broadcastInDim S32x4x8x64 ![] bcast_S_S32x4x8x64 main_cst
  let main_v2 : IVec S32x4x8x64 1 := cmpf .olt main_v0 main_v1
  let main_c : IVec S_ 1 := constantI S_ 1 1#1
  let main_v3 : IVec S_ 1 := (fun x v => Host.reduce IntOp.andi x v reducesTo_S32x4x8x64_S_d0_1_2_3 h_S_) main_v2 main_c
  let main_c_0 : IVec S_ 1 := constantI S_ 1 1#1
  let main_v4 : IVec S_ 1 := andi main_c_0 main_v3
  let main_v5 : FVec F S32x4x8x64 .f32 := Host.absf main_arg1
  let main_cst_1 : FVec F S_ .f32 := constant S_ .f32 0x7F800000#32
  let main_v6 : FVec F S32x4x8x64 .f32 := broadcastInDim S32x4x8x64 ![] bcast_S_S32x4x8x64 main_cst_1
  let main_v7 : IVec S32x4x8x64 1 := cmpf .olt main_v5 main_v6
  let main_c_2 : IVec S_ 1 := constantI S_ 1 1#1
  let main_v8 : IVec S_ 1 := (fun x v => Host.reduce IntOp.andi x v reducesTo_S32x4x8x64_S_d0_1_2_3 h_S_) main_v7 main_c_2
  let main_v9 : IVec S_ 1 := andi main_v4 main_v8
  let main_v10 : FVec F S32x4x8x64 .f32 := Host.absf main_arg2
  let main_cst_3 : FVec F S_ .f32 := constant S_ .f32 0x7F800000#32
  let main_v11 : FVec F S32x4x8x64 .f32 := broadcastInDim S32x4x8x64 ![] bcast_S_S32x4x8x64 main_cst_3
  let main_v12 : IVec S32x4x8x64 1 := cmpf .olt main_v10 main_v11
  let main_c_4 : IVec S_ 1 := constantI S_ 1 1#1
  let main_v13 : IVec S_ 1 := (fun x v => Host.reduce IntOp.andi x v reducesTo_S32x4x8x64_S_d0_1_2_3 h_S_) main_v12 main_c_4
  let main_v14 : IVec S_ 1 := andi main_v9 main_v13
  let main_v15 : FVec F S2x32x2048x8x64 .f32 := Host.absf main_arg3
  let main_cst_5 : FVec F S_ .f32 := constant S_ .f32 0x7F800000#32
  fn_part1 (F := F) main_arg4 main_v14 main_v15 main_cst_5
-- ==== Kernel.lean ====
abbrev S32x4x8x64 : Shape := ⟨4, ![32, 4, 8, 64]⟩
abbrev S2x32x2048x8x64 : Shape := ⟨5, ![2, 32, 2048, 8, 64]⟩
abbrev S2x32x8x64x2048 : Shape := ⟨5, ![2, 32, 8, 64, 2048]⟩
abbrev S32x8x4x64 : Shape := ⟨4, ![32, 8, 4, 64]⟩
abbrev S1x8x4x64 : Shape := ⟨4, ![1, 8, 4, 64]⟩
abbrev S4x2048 : Shape := ⟨2, ![4, 2048]⟩
abbrev S4x4 : Shape := ⟨2, ![4, 4]⟩
abbrev S3x8x64x2048 : Shape := ⟨4, ![3, 8, 64, 2048]⟩
abbrev S2x3 : Shape := ⟨2, ![2, 3]⟩
abbrev S1x1 : Shape := ⟨2, ![1, 1]⟩
abbrev S_ : Shape := ⟨0, ![]⟩
abbrev S1x8x64x2048 : Shape := ⟨4, ![1, 8, 64, 2048]⟩
abbrev S8x64x2048 : Shape := ⟨3, ![8, 64, 2048]⟩
abbrev S1x1x8x64x2048 : Shape := ⟨5, ![1, 1, 8, 64, 2048]⟩
abbrev S1x1x4x64 : Shape := ⟨4, ![1, 1, 4, 64]⟩
abbrev S4x64 : Shape := ⟨2, ![4, 64]⟩
abbrev S1x64x2048 : Shape := ⟨3, ![1, 64, 2048]⟩
abbrev S64x2048 : Shape := ⟨2, ![64, 2048]⟩
abbrev S4 : Shape := ⟨1, ![4]⟩
abbrev S4x1 : Shape := ⟨2, ![4, 1]⟩

abbrev nBuf : Space → Nat
  | .hbm => 11
  | .vmem => 12
  | .smem => 0
  | _ => 0

abbrev bufTy : (tb : Table) → Fin (tcTables nBuf tb) → BufTy
  | .hbm, ⟨0, _⟩ => ⟨S32x4x8x64, .f32⟩
  | .hbm, ⟨1, _⟩ => ⟨S32x4x8x64, .f32⟩
  | .hbm, ⟨2, _⟩ => ⟨S32x4x8x64, .f32⟩
  | .hbm, ⟨3, _⟩ => ⟨S2x32x2048x8x64, .f32⟩
  | .hbm, ⟨4, _⟩ => ⟨S2x32x2048x8x64, .f32⟩
  | .hbm, ⟨5, _⟩ => ⟨S2x32x8x64x2048, .f32⟩
  | .hbm, ⟨6, _⟩ => ⟨S2x32x8x64x2048, .f32⟩
  | .hbm, ⟨7, _⟩ => ⟨S32x8x4x64, .f32⟩
  | .hbm, ⟨8, _⟩ => ⟨S32x8x4x64, .f32⟩
  | .hbm, ⟨9, _⟩ => ⟨S32x8x4x64, .f32⟩
  | .hbm, ⟨10, _⟩ => ⟨S32x8x4x64, .f32⟩
  | .local _ .vmem, ⟨0, _⟩ => ⟨S1x8x4x64, .f32⟩
  | .local _ .vmem, ⟨1, _⟩ => ⟨S1x8x4x64, .f32⟩
  | .local _ .vmem, ⟨2, _⟩ => ⟨S1x8x4x64, .f32⟩
  | .local _ .vmem, ⟨3, _⟩ => ⟨S1x8x4x64, .f32⟩
  | .local _ .vmem, ⟨4, _⟩ => ⟨S1x8x4x64, .f32⟩
  | .local _ .vmem, ⟨5, _⟩ => ⟨S1x8x4x64, .f32⟩
  | .local _ .vmem, ⟨6, _⟩ => ⟨S1x8x4x64, .f32⟩
  | .local _ .vmem, ⟨7, _⟩ => ⟨S1x8x4x64, .f32⟩
  | .local _ .vmem, ⟨8, _⟩ => ⟨S4x2048, .f32⟩
  | .local _ .vmem, ⟨9, _⟩ => ⟨S4x4, .f32⟩
  | .local _ .vmem, ⟨10, _⟩ => ⟨S3x8x64x2048, .f32⟩
  | .local _ .vmem, ⟨11, _⟩ => ⟨S3x8x64x2048, .f32⟩
  | _, _ => ⟨S32x4x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_off1 (i : grid0.Coords) : Fin 2 → Nat :=
  let c0_i32_367 : BitVec 32 := 0#32
  let arg0 : BitVec 32 := BitVec.ofNat 32 (i 0).val
  let c2_i32_359 : BitVec 32 := 2#32
  let v526 : BitVec 32 := Scalar.addi arg0 c2_i32_359
  let c3_i32_360 : BitVec 32 := 3#32
  let c0_i32_361 : BitVec 32 := 0#32
  let v527 : BitVec 1 := Scalar.cmpi .eq c3_i32_360 c0_i32_361
  let c1_i32_362 : BitVec 32 := 1#32
  let v528 : BitVec 32 := Scalar.select v527 c1_i32_362 c3_i32_360
  let v529 : BitVec 32 := Scalar.remsi v526 v528
  let c0_i32_364 : BitVec 32 := 0#32
  let v531 : BitVec 1 := Scalar.cmpi .slt v529 c0_i32_364
  let c0_i32_365 : BitVec 32 := 0#32
  let v532 : BitVec 1 := Scalar.cmpi .slt v528 c0_i32_365
  let v533 : BitVec 1 := Scalar.xori v531 v532
  let c0_i32_363 : BitVec 32 := 0#32
  let v530 : BitVec 1 := Scalar.cmpi .ne v529 c0_i32_363
  let v534 : BitVec 1 := Scalar.andi v533 v530
  let v535 : BitVec 32 := Scalar.addi v529 v528
  let v536 : BitVec 32 := Scalar.select v534 v535 v529
  ![0, v536.toNat]
def k0_off2 (i : grid0.Coords) : Fin 4 → Nat :=
  let arg0 : BitVec 32 := BitVec.ofNat 32 (i 0).val
  let c2_i32_359 : BitVec 32 := 2#32
  let v526 : BitVec 32 := Scalar.addi arg0 c2_i32_359
  let c3_i32_360 : BitVec 32 := 3#32
  let c0_i32_361 : BitVec 32 := 0#32
  let v527 : BitVec 1 := Scalar.cmpi .eq c3_i32_360 c0_i32_361
  let c1_i32_362 : BitVec 32 := 1#32
  let v528 : BitVec 32 := Scalar.select v527 c1_i32_362 c3_i32_360
  let v529 : BitVec 32 := Scalar.remsi v526 v528
  let c0_i32_364 : BitVec 32 := 0#32
  let v531 : BitVec 1 := Scalar.cmpi .slt v529 c0_i32_364
  let c0_i32_365 : BitVec 32 := 0#32
  let v532 : BitVec 1 := Scalar.cmpi .slt v528 c0_i32_365
  let v533 : BitVec 1 := Scalar.xori v531 v532
  let c0_i32_363 : BitVec 32 := 0#32
  let v530 : BitVec 1 := Scalar.cmpi .ne v529 c0_i32_363
  let v534 : BitVec 1 := Scalar.andi v533 v530
  let v535 : BitVec 32 := Scalar.addi v529 v528
  let v536 : BitVec 32 := Scalar.select v534 v535 v529
  let c0_i32_368 : BitVec 32 := 0#32
  let c0_i32_369 : BitVec 32 := 0#32
  let c0_i32_370 : BitVec 32 := 0#32
  ![v536.toNat, 0, 0, 0]
def k0_off3 (i : grid0.Coords) : Fin 5 → Nat :=
  let c0_i32_366 : BitVec 32 := 0#32
  let arg0 : BitVec 32 := BitVec.ofNat 32 (i 0).val
  let c2_i32_359 : BitVec 32 := 2#32
  let v526 : BitVec 32 := Scalar.addi arg0 c2_i32_359
  let c0_i32_371 : BitVec 32 := 0#32
  let c0_i32_372 : BitVec 32 := 0#32
  let c0_i32_373 : BitVec 32 := 0#32
  ![0, v526.toNat, 0, 0, 0]
def k0_off4 (i : grid0.Coords) : Fin 2 → Nat :=
  let c1_i32_375 : BitVec 32 := 1#32
  let arg0 : BitVec 32 := BitVec.ofNat 32 (i 0).val
  let c2_i32_359 : BitVec 32 := 2#32
  let v526 : BitVec 32 := Scalar.addi arg0 c2_i32_359
  let c3_i32_360 : BitVec 32 := 3#32
  let c0_i32_361 : BitVec 32 := 0#32
  let v527 : BitVec 1 := Scalar.cmpi .eq c3_i32_360 c0_i32_361
  let c1_i32_362 : BitVec 32 := 1#32
  let v528 : BitVec 32 := Scalar.select v527 c1_i32_362 c3_i32_360
  let v529 : BitVec 32 := Scalar.remsi v526 v528
  let c0_i32_364 : BitVec 32 := 0#32
  let v531 : BitVec 1 := Scalar.cmpi .slt v529 c0_i32_364
  let c0_i32_365 : BitVec 32 := 0#32
  let v532 : BitVec 1 := Scalar.cmpi .slt v528 c0_i32_365
  let v533 : BitVec 1 := Scalar.xori v531 v532
  let c0_i32_363 : BitVec 32 := 0#32
  let v530 : BitVec 1 := Scalar.cmpi .ne v529 c0_i32_363
  let v534 : BitVec 1 := Scalar.andi v533 v530
  let v535 : BitVec 32 := Scalar.addi v529 v528
  let v536 : BitVec 32 := Scalar.select v534 v535 v529
  ![1, v536.toNat]
def k0_off5 (i : grid0.Coords) : Fin 2 → Nat :=
  let c0_i32_7 : BitVec 32 := 0#32
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![0, v16.toNat]
def k0_off6 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_8 : BitVec 32 := 0#32
  let c0_i32_9 : BitVec 32 := 0#32
  let c0_i32_10 : BitVec 32 := 0#32
  ![v16.toNat, 0, 0, 0]
def k0_off7 (i : grid0.Coords) : Fin 5 → Nat :=
  let c0_i32_6 : BitVec 32 := 0#32
  let arg0 : BitVec 32 := BitVec.ofNat 32 (i 0).val
  let c0_i32_11 : BitVec 32 := 0#32
  let c0_i32_12 : BitVec 32 := 0#32
  let c0_i32_13 : BitVec 32 := 0#32
  ![0, arg0.toNat, 0, 0, 0]
def k0_off8 (i : grid0.Coords) : Fin 2 → Nat :=
  let c1_i32_15 : BitVec 32 := 1#32
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![1, v16.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x4x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x4x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x4x8x64 : Shape := ⟨4, ![32, 4, 8, 64]⟩
abbrev S2x32x2048x8x64 : Shape := ⟨5, ![2, 32, 2048, 8, 64]⟩
abbrev S1x32x2048x8x64 : Shape := ⟨5, ![1, 32, 2048, 8, 64]⟩
abbrev S32x2048x8x64 : Shape := ⟨4, ![32, 2048, 8, 64]⟩
abbrev S32x2052x8x64 : Shape := ⟨4, ![32, 2052, 8, 64]⟩
abbrev S4 : Shape := ⟨1, ![4]⟩
abbrev S_ : Shape := ⟨0, ![]⟩
abbrev S129 : Shape := ⟨1, ![129]⟩
abbrev S4x1 : Shape := ⟨2, ![4, 1]⟩
abbrev S1x129 : Shape := ⟨2, ![1, 129]⟩
abbrev S4x129 : Shape := ⟨2, ![4, 129]⟩
abbrev S4x129x1 : Shape := ⟨3, ![4, 129, 1]⟩
abbrev S32x4x129x8x64 : Shape := ⟨5, ![32, 4, 129, 8, 64]⟩
abbrev S32x4x8x129 : Shape := ⟨4, ![32, 4, 8, 129]⟩
abbrev S1x4x1x129 : Shape := ⟨4, ![1, 4, 1, 129]⟩
abbrev S32x4x8 : Shape := ⟨3, ![32, 4, 8]⟩
abbrev S32x4x8x1 : Shape := ⟨4, ![32, 4, 8, 1]⟩
abbrev S1x32x4x8 : Shape := ⟨4, ![1, 32, 4, 8]⟩
abbrev S3x32x4x8 : Shape := ⟨4, ![3, 32, 4, 8]⟩
abbrev S3x32x4x8x1 : Shape := ⟨5, ![3, 32, 4, 8, 1]⟩
abbrev S1x32x4x8x64 : Shape := ⟨5, ![1, 32, 4, 8, 64]⟩
abbrev S3x32x4x8x64 : Shape := ⟨5, ![3, 32, 4, 8, 64]⟩
abbrev S32x8x4x64 : Shape := ⟨4, ![32, 8, 4, 64]⟩

abbrev nBuf : Space → Nat
  | .hbm => 181
  | .vmem => 0
  | .smem => 0
  | _ => 0

abbrev hbmTy0_0 (i : Nat) : BufTy := match i % 128 with
  | 0 => ⟨S32x4x8x64, .f32⟩
  | 1 => ⟨S32x4x8x64, .f32⟩
  | 2 => ⟨S32x4x8x64, .f32⟩
  | 3 => ⟨S2x32x2048x8x64, .f32⟩
  | 4 => ⟨S2x32x2048x8x64, .f32⟩
  | 5 => ⟨S1x32x2048x8x64, .f32⟩
  | 6 => ⟨S32x2048x8x64, .f32⟩
  | 7 => ⟨S32x2052x8x64, .f32⟩
  | 8 => ⟨S1x32x2048x8x64, .f32⟩
  | 9 => ⟨S32x2048x8x64, .f32⟩
  | 10 => ⟨S32x2052x8x64, .f32⟩
  | 11 => ⟨S4, .i32⟩
  | 12 => ⟨S_, .i32⟩
  | 13 => ⟨S4, .i32⟩
  | 14 => ⟨S4, .i32⟩
  | 15 => ⟨S129, .i32⟩
  | 16 => ⟨S_, .i32⟩
  | 17 => ⟨S129, .i32⟩
  | 18 => ⟨S129, .i32⟩
  | 19 => ⟨S_, .i32⟩
  | 20 => ⟨S129, .i32⟩
  | 21 => ⟨S129, .i32⟩
  | 22 => ⟨S4x1, .i32⟩
  | 23 => ⟨S1x129, .i32⟩
  | 24 => ⟨S4x129, .i32⟩
  | 25 => ⟨S4x129, .i32⟩
  | 26 => ⟨S4x129, .i32⟩
  | 27 => ⟨S_, .i32⟩
  | 28 => ⟨S4x129, .i32⟩
  | 29 => ⟨S4x129, .i1⟩
  | 30 => ⟨S_, .i32⟩
  | 31 => ⟨S4x129, .i32⟩
  | 32 => ⟨S4x129, .i32⟩
  | 33 => ⟨S4x129x1, .i32⟩
  | 34 => ⟨S32x4x129x8x64, .f32⟩
  | 35 => ⟨S4x129x1, .i32⟩
  | 36 => ⟨S32x4x129x8x64, .f32⟩
  | 37 => ⟨S32x4x8x129, .f32⟩
  | 38 => ⟨S_, .f32⟩
  | 39 => ⟨S32x4x8x129, .f32⟩
  | 40 => ⟨S32x4x8x129, .f32⟩
  | 41 => ⟨S1x4x1x129, .i1⟩
  | 42 => ⟨S_, .f32⟩
  | 43 => ⟨S_, .f32⟩
  | 44 => ⟨S32x4x8x129, .i1⟩
  | 45 => ⟨S32x4x8x129, .f32⟩
  | 46 => ⟨S32x4x8x129, .f32⟩
  | 47 => ⟨S_, .f32⟩
  | 48 => ⟨S32x4x8, .f32⟩
  | 49 => ⟨S32x4x8x1, .f32⟩
  | 50 => ⟨S32x4x8x129, .f32⟩
  | 51 => ⟨S32x4x8x129, .f32⟩
  | 52 => ⟨S32x4x8x129, .f32⟩
  | 53 => ⟨S_, .f32⟩
  | 54 => ⟨S32x4x8, .f32⟩
  | 55 => ⟨S32x4x8, .f32⟩
  | 56 => ⟨S32x4x8, .f32⟩
  | 57 => ⟨S32x4x8x1, .f32⟩
  | 58 => ⟨S32x4x8x129, .f32⟩
  | 59 => ⟨S32x4x8x129, .f32⟩
  | 60 => ⟨S32x4x8x129, .f32⟩
  | 61 => ⟨S32x4x8x64, .f32⟩
  | 62 => ⟨S129, .i32⟩
  | 63 => ⟨S_, .i32⟩
  | 64 => ⟨S129, .i32⟩
  | 65 => ⟨S129, .i32⟩
  | 66 => ⟨S_, .i32⟩
  | 67 => ⟨S129, .i32⟩
  | 68 => ⟨S129, .i32⟩
  | 69 => ⟨S4x1, .i32⟩
  | 70 => ⟨S1x129, .i32⟩
  | 71 => ⟨S4x129, .i32⟩
  | 72 => ⟨S4x129, .i32⟩
  | 73 => ⟨S4x129, .i32⟩
  | 74 => ⟨S_, .i32⟩
  | 75 => ⟨S4x129, .i32⟩
  | 76 => ⟨S4x129, .i1⟩
  | 77 => ⟨S_, .i32⟩
  | 78 => ⟨S4x129, .i32⟩
  | 79 => ⟨S4x129, .i32⟩
  | 80 => ⟨S4x129x1, .i32⟩
  | 81 => ⟨S32x4x129x8x64, .f32⟩
  | 82 => ⟨S4x129x1, .i32⟩
  | 83 => ⟨S32x4x129x8x64, .f32⟩
  | 84 => ⟨S32x4x8x129, .f32⟩
  | 85 => ⟨S_, .f32⟩
  | 86 => ⟨S32x4x8x129, .f32⟩
  | 87 => ⟨S32x4x8x129, .f32⟩
  | 88 => ⟨S1x4x1x129, .i1⟩
  | 89 => ⟨S_, .f32⟩
  | 90 => ⟨S_, .f32⟩
  | 91 => ⟨S32x4x8x129, .i1⟩
  | 92 => ⟨S32x4x8x129, .f32⟩
  | 93 => ⟨S32x4x8x129, .f32⟩
  | 94 => ⟨S_, .f32⟩
  | 95 => ⟨S32x4x8, .f32⟩
  | 96 => ⟨S32x4x8x1, .f32⟩
  | 97 => ⟨S32x4x8x129, .f32⟩
  | 98 => ⟨S32x4x8x129, .f32⟩
  | 99 => ⟨S32x4x8x129, .f32⟩
  | 100 => ⟨S_, .f32⟩
  | 101 => ⟨S32x4x8, .f32⟩
  | 102 => ⟨S32x4x8, .f32⟩
  | 103 => ⟨S32x4x8, .f32⟩
  | 104 => ⟨S32x4x8x1, .f32⟩
  | 105 => ⟨S32x4x8x129, .f32⟩
  | 106 => ⟨S32x4x8x129, .f32⟩
  | 107 => ⟨S32x4x8x129, .f32⟩
  | 108 => ⟨S32x4x8x64, .f32⟩
  | 109 => ⟨S129, .i32⟩
  | 110 => ⟨S_, .i32⟩
  | 111 => ⟨S129, .i32⟩
  | 112 => ⟨S129, .i32⟩
  | 113 => ⟨S_, .i32⟩
  | 114 => ⟨S129, .i32⟩
  | 115 => ⟨S129, .i32⟩
  | 116 => ⟨S4x1, .i32⟩
  | 117 => ⟨S1x129, .i32⟩
  | 118 => ⟨S4x129, .i32⟩
  | 119 => ⟨S4x129, .i32⟩
  | 120 => ⟨S4x129, .i32⟩
  | 121 => ⟨S_, .i32⟩
  | 122 => ⟨S4x129, .i32⟩
  | 123 => ⟨S4x129, .i1⟩
  | 124 => ⟨S_, .i32⟩
  | 125 => ⟨S4x129, .i32⟩
  | 126 => ⟨S4x129, .i32⟩
  | 127 => ⟨S4x129x1, .i32⟩
  | _ => ⟨S32x4x8x64, .f32⟩

abbrev hbmTy0_1 (i : Nat) : BufTy := match i % 128 with
  | 0 => ⟨S32x4x129x8x64, .f32⟩
  | 1 => ⟨S4x129x1, .i32⟩
  | 2 => ⟨S32x4x129x8x64, .f32⟩
  | 3 => ⟨S32x4x8x129, .f32⟩
  | 4 => ⟨S_, .f32⟩
  | 5 => ⟨S32x4x8x129, .f32⟩
  | 6 => ⟨S32x4x8x129, .f32⟩
  | 7 => ⟨S1x4x1x129, .i1⟩
  | 8 => ⟨S_, .f32⟩
  | 9 => ⟨S_, .f32⟩
  | 10 => ⟨S32x4x8x129, .i1⟩
  | 11 => ⟨S32x4x8x129, .f32⟩
  | 12 => ⟨S32x4x8x129, .f32⟩
  | 13 => ⟨S_, .f32⟩
  | 14 => ⟨S32x4x8, .f32⟩
  | 15 => ⟨S32x4x8x1, .f32⟩
  | 16 => ⟨S32x4x8x129, .f32⟩
  | 17 => ⟨S32x4x8x129, .f32⟩
  | 18 => ⟨S32x4x8x129, .f32⟩
  | 19 => ⟨S_, .f32⟩
  | 20 => ⟨S32x4x8, .f32⟩
  | 21 => ⟨S32x4x8, .f32⟩
  | 22 => ⟨S32x4x8, .f32⟩
  | 23 => ⟨S32x4x8x1, .f32⟩
  | 24 => ⟨S32x4x8x129, .f32⟩
  | 25 => ⟨S32x4x8x129, .f32⟩
  | 26 => ⟨S32x4x8x129, .f32⟩
  | 27 => ⟨S32x4x8x64, .f32⟩
  | 28 => ⟨S1x32x4x8, .f32⟩
  | 29 => ⟨S1x32x4x8, .f32⟩
  | 30 => ⟨S1x32x4x8, .f32⟩
  | 31 => ⟨S3x32x4x8, .f32⟩
  | 32 => ⟨S_, .f32⟩
  | 33 => ⟨S32x4x8, .f32⟩
  | 34 => ⟨S1x32x4x8, .f32⟩
  | 35 => ⟨S3x32x4x8, .f32⟩
  | 36 => ⟨S3x32x4x8, .f32⟩
  | 37 => ⟨S3x32x4x8, .f32⟩
  | 38 => ⟨S_, .f32⟩
  | 39 => ⟨S32x4x8, .f32⟩
  | 40 => ⟨S1x32x4x8, .f32⟩
  | 41 => ⟨S3x32x4x8, .f32⟩
  | 42 => ⟨S3x32x4x8, .f32⟩
  | 43 => ⟨S3x32x4x8x1, .f32⟩
  | 44 => ⟨S1x32x4x8x64, .f32⟩
  | 45 => ⟨S1x32x4x8x64, .f32⟩
  | 46 => ⟨S1x32x4x8x64, .f32⟩
  | 47 => ⟨S3x32x4x8x64, .f32⟩
  | 48 => ⟨S3x32x4x8x64, .f32⟩
  | 49 => ⟨S3x32x4x8x64, .f32⟩
  | 50 => ⟨S_, .f32⟩
  | 51 => ⟨S32x4x8x64, .f32⟩
  | 52 => ⟨S32x8x4x64, .f32⟩
  | _ => ⟨S32x4x8x64, .f32⟩

abbrev hbmTy (i : Nat) : BufTy := match i / 128 with
  | 0 => hbmTy0_0 i
  | 1 => hbmTy0_1 i
  | _ => ⟨S32x4x8x64, .f32⟩

abbrev bufTy : (tb : Table) → Fin (tcTables nBuf tb) → BufTy
  | .hbm, ⟨i, _⟩ => hbmTy i
  | _, _ => ⟨S32x4x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_v23 : Ref sig .tc := ⟨.hbm, 34, rfl⟩
abbrev main_call1_v0 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_call3_v0 : Ref sig .tc := ⟨.hbm, 80, rfl⟩
abbrev main_v57 : Ref sig .tc := ⟨.hbm, 81, rfl⟩
abbrev main_call4_v0 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_15 : Ref sig .tc := ⟨.hbm, 110, rfl⟩
abbrev main_v78 : Ref sig .tc := ⟨.hbm, 111, rfl⟩
abbrev main_v79 : Ref sig .tc := ⟨.hbm, 112, rfl⟩
abbrev main_c_16 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_17 : Ref sig .tc := ⟨.hbm, 121, rfl⟩
abbrev main_v87 : Ref sig .tc := ⟨.hbm, 122, rfl⟩
abbrev main_v88 : Ref sig .tc := ⟨.hbm, 123, rfl⟩
abbrev main_c_18 : Ref sig .tc := ⟨.hbm, 124, rfl⟩
abbrev main_v89 : Ref sig .tc := ⟨.hbm, 125, rfl⟩
abbrev main_v90 : Ref sig .tc := ⟨.hbm, 126, rfl⟩
abbrev main_call6_v0 : Ref sig .tc := ⟨.hbm, 127, rfl⟩
abbrev main_v91 : Ref sig .tc := ⟨.hbm, 128, rfl⟩
abbrev main_call7_v0 : Ref sig .tc := ⟨.hbm, 129, rfl⟩
abbrev main_v92 : Ref sig .tc := ⟨.hbm, 130, rfl⟩
abbrev main_v93 : Ref sig .tc := ⟨.hbm, 131, rfl⟩
abbrev main_cst_19 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_20 : Ref sig .tc := ⟨.hbm, 136, rfl⟩
abbrev main_call8_v0 : Ref sig .tc := ⟨.hbm, 137, rfl⟩
abbrev main_call8_v1 : Ref sig .tc := ⟨.hbm, 138, rfl⟩
abbrev main_call8_v2 : Ref sig .tc := ⟨.hbm, 139, rfl⟩
abbrev main_v97 : Ref sig .tc := ⟨.hbm, 140, rfl⟩
abbrev main_cst_21 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_22 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_23 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_24 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_25 : Ref sig .tc := ⟨.hbm, 178, rfl⟩
abbrev main_v131 : Ref sig .tc := ⟨.hbm, 179, rfl⟩
abbrev main_v132 : Ref sig .tc := ⟨.hbm, 180, rfl⟩

abbrev nD : Nat := 1
abbrev τ : Topo := Topo.v7x

variable {F : FTy → Type} [FloatOps F]
-- ==== Kernel2.lean ====
abbrev S8x4096x512 : Shape := ⟨3, ![8, 4096, 512]⟩
abbrev S8x4096x1024 : Shape := ⟨3, ![8, 4096, 1024]⟩
abbrev S8x6144 : Shape := ⟨2, ![8, 6144]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816x1024 : Shape := ⟨2, ![2816, 1024]⟩
abbrev S8x4096x4x128 : Shape := ⟨4, ![8, 4096, 4, 128]⟩
abbrev S8x4x4096x128 : Shape := ⟨4, ![8, 4, 4096, 128]⟩
abbrev S1x512 : Shape := ⟨2, ![1, 512]⟩
abbrev S1x1024 : Shape := ⟨2, ![1, 1024]⟩
abbrev S8x6x1x1024 : Shape := ⟨4, ![8, 6, 1, 1024]⟩
abbrev S_ : Shape := ⟨0, ![]⟩
abbrev S8x8x2816 : Shape := ⟨3, ![8, 8, 2816]⟩
abbrev S1x512x512 : Shape := ⟨3, ![1, 512, 512]⟩
abbrev S1x4x512x128 : Shape := ⟨4, ![1, 4, 512, 128]⟩
abbrev S1x512x1024 : Shape := ⟨3, ![1, 512, 1024]⟩
abbrev S1x6x1x1024 : Shape := ⟨4, ![1, 6, 1, 1024]⟩
abbrev S1x8x2816 : Shape := ⟨3, ![1, 8, 2816]⟩
abbrev S520x2816 : Shape := ⟨2, ![520, 2816]⟩
abbrev S8x2816 : Shape := ⟨2, ![8, 2816]⟩
abbrev S1x1x512x128 : Shape := ⟨4, ![1, 1, 512, 128]⟩
abbrev S512x128 : Shape := ⟨2, ![512, 128]⟩
abbrev S512x512 : Shape := ⟨2, ![512, 512]⟩
abbrev S512x1 : Shape := ⟨2, ![512, 1]⟩
abbrev S512x1024 : Shape := ⟨2, ![512, 1024]⟩
abbrev S1x1x1x1024 : Shape := ⟨4, ![1, 1, 1, 1024]⟩
abbrev S512x2816 : Shape := ⟨2, ![512, 2816]⟩
abbrev S1x2816 : Shape := ⟨2, ![1, 2816]⟩

abbrev nBuf : Space → Nat
  | .hbm => 28
  | .vmem => 24
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .f32⟩
  | .hbm, ⟨2, _⟩ => ⟨S8x4096x1024, .f32⟩
  | .hbm, ⟨3, _⟩ => ⟨S8x6144, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S3x2816, .f32⟩
  | .hbm, ⟨11, _⟩ => ⟨S2816x1024, .f32⟩
  | .hbm, ⟨12, _⟩ => ⟨S1024, .f32⟩
  | .hbm, ⟨13, _⟩ => ⟨S8x4096x4x128, .f32⟩
  | .hbm, ⟨14, _⟩ => ⟨S8x4x4096x128, .f32⟩
  | .hbm, ⟨15, _⟩ => ⟨S1x512, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1024x2816, .bf16⟩
  | .hbm, ⟨20, _⟩ => ⟨S1024x2816, .bf16⟩
  | .hbm, ⟨21, _⟩ => ⟨S2816x1024, .bf16⟩
  | .hbm, ⟨22, _⟩ => ⟨S1x1024, .f32⟩
  | .hbm, ⟨23, _⟩ => ⟨S8x6x1x1024, .f32⟩
  | .hbm, ⟨24, _⟩ => ⟨S_, .f32⟩
  | .hbm, ⟨25, _⟩ => ⟨S8x8x2816, .f32⟩
  | .hbm, ⟨26, _⟩ => ⟨S8x4096x1024, .f32⟩
  | .hbm, ⟨27, _⟩ => ⟨S8x8x2816, .f32⟩
  | .local _ .vmem, ⟨0, _⟩ => ⟨S1x512x512, .bf16⟩
  | .local _ .vmem, ⟨1, _⟩ => ⟨S1x512x512, .bf16⟩
  | .local _ .vmem, ⟨2, _⟩ => ⟨S1x4x512x128, .f32⟩
  | .local _ .vmem, ⟨3, _⟩ => ⟨S1x4x512x128, .f32⟩
  | .local _ .vmem, ⟨4, _⟩ => ⟨S1x512x1024, .f32⟩
  | .local _ .vmem, ⟨5, _⟩ => ⟨S1x512x1024, .f32⟩
  | .local _ .vmem, ⟨6, _⟩ => ⟨S1x6x1x1024, .f32⟩
  | .local _ .vmem, ⟨7, _⟩ => ⟨S1x6x1x1024, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S3x2816, .f32⟩
  | .local _ .vmem, ⟨15, _⟩ => ⟨S2816x1024, .bf16⟩
  | .local _ .vmem, ⟨16, _⟩ => ⟨S1x1024, .f32⟩
  | .local _ .vmem, ⟨17, _⟩ => ⟨S1x8x2816, .f32⟩
  | .local _ .vmem, ⟨18, _⟩ => ⟨S1x8x2816, .f32⟩
  | .local _ .vmem, ⟨19, _⟩ => ⟨S1x512x1024, .f32⟩
  | .local _ .vmem, ⟨20, _⟩ => ⟨S1x512x1024, .f32⟩
  | .local _ .vmem, ⟨21, _⟩ => ⟨S1x8x2816, .f32⟩
  | .local _ .vmem, ⟨22, _⟩ => ⟨S1x8x2816, .f32⟩
  | .local _ .vmem, ⟨23, _⟩ => ⟨S520x2816, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x8x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference2Ideal.lean ====
abbrev S8x4096x512 : Shape := ⟨3, ![8, 4096, 512]⟩
abbrev S8x4096x1024 : Shape := ⟨3, ![8, 4096, 1024]⟩
abbrev S8x6144 : Shape := ⟨2, ![8, 6144]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S1x1x1024 : Shape := ⟨3, ![1, 1, 1024]⟩
abbrev S8x2x2816 : Shape := ⟨3, ![8, 2, 2816]⟩
abbrev S8x4096x2816 : Shape := ⟨3, ![8, 4096, 2816]⟩
abbrev S8x4098x2816 : Shape := ⟨3, ![8, 4098, 2816]⟩
abbrev S1x2816 : Shape := ⟨2, ![1, 2816]⟩
abbrev S2816 : Shape := ⟨1, ![2816]⟩
abbrev S1x1x2816 : Shape := ⟨3, ![1, 1, 2816]⟩
abbrev S8x8x2816 : Shape := ⟨3, ![8, 8, 2816]⟩

abbrev nBuf : Space → Nat
  | .hbm => 142
  | .vmem => 0
  | .smem => 0
  | _ => 0

abbrev hbmTy0_0 (i : Nat) : BufTy := match i % 128 with
  | 0 => ⟨S8x4096x512, .bf16⟩
  | 1 => ⟨S8x4096x512, .f32⟩
  | 2 => ⟨S8x4096x1024, .f32⟩
  | 3 => ⟨S8x6144, .f32⟩
  | 4 => ⟨S512, .f32⟩
  | 5 => ⟨S1024x1024, .f32⟩
  | 6 => ⟨S1024, .f32⟩
  | 7 => ⟨S1024, .f32⟩
  | 8 => ⟨S1024x2816, .f32⟩
  | 9 => ⟨S1024x2816, .f32⟩
  | 10 => ⟨S3x2816, .f32⟩
  | 11 => ⟨S2816x1024, .f32⟩
  | 12 => ⟨S1024, .f32⟩
  | 13 => ⟨S8x1024, .f32⟩
  | 14 => ⟨S8x1024, .f32⟩
  | 15 => ⟨S8x1024, .f32⟩
  | 16 => ⟨S8x1024, .f32⟩
  | 17 => ⟨S8x1024, .f32⟩
  | 18 => ⟨S8x1024, .f32⟩
  | 19 => ⟨S8x1x1024, .f32⟩
  | 20 => ⟨S8x1x1024, .f32⟩
  | 21 => ⟨S8x1x1024, .f32⟩
  | 22 => ⟨S8x1x1024, .f32⟩
  | 23 => ⟨S8x1x1024, .f32⟩
  | 24 => ⟨S8x1x1024, .f32⟩
  | 25 => ⟨S8x4096x512, .f32⟩
  | 26 => ⟨S8x4096x512, .f32⟩
  | 27 => ⟨S_, .f32⟩
  | 28 => ⟨S8x4096, .f32⟩
  | 29 => ⟨S8x4096x1, .f32⟩
  | 30 => ⟨S_, .f32⟩
  | 31 => ⟨S8x4096x1, .f32⟩
  | 32 => ⟨S8x4096x1, .f32⟩
  | 33 => ⟨S_, .f32⟩
  | 34 => ⟨S8x4096x1, .f32⟩
  | 35 => ⟨S8x4096x1, .f32⟩
  | 36 => ⟨S8x4096x1, .f32⟩
  | 37 => ⟨S8x4096x512, .f32⟩
  | 38 => ⟨S8x4096x512, .f32⟩
  | 39 => ⟨S1x1x512, .f32⟩
  | 40 => ⟨S8x4096x512, .f32⟩
  | 41 => ⟨S8x4096x512, .f32⟩
  | 42 => ⟨S8x4096x1024, .f32⟩
  | 43 => ⟨S8x4096x1024, .f32⟩
  | 44 => ⟨S8x4096x1024, .f32⟩
  | 45 => ⟨S_, .f32⟩
  | 46 => ⟨S8x4096, .f32⟩
  | 47 => ⟨S8x4096x1, .f32⟩
  | 48 => ⟨S_, .f32⟩
  | 49 => ⟨S8x4096x1, .f32⟩
  | 50 => ⟨S8x4096x1, .f32⟩
  | 51 => ⟨S_, .f32⟩
  | 52 => ⟨S8x4096x1, .f32⟩
  | 53 => ⟨S8x4096x1, .f32⟩
  | 54 => ⟨S8x4096x1, .f32⟩
  | 55 => ⟨S8x4096x1024, .f32⟩
  | 56 => ⟨S8x4096x1024, .f32⟩
  | 57 => ⟨S1x1x1024, .f32⟩
  | 58 => ⟨S8x4096x1024, .f32⟩
  | 59 => ⟨S8x4096x1024, .f32⟩
  | 60 => ⟨S8x4096x1024, .f32⟩
  | 61 => ⟨S8x4096x1024, .f32⟩
  | 62 => ⟨S8x4096x1024, .f32⟩
  | 63 => ⟨S8x4096x1024, .f32⟩
  | 64 => ⟨S_, .f32⟩
  | 65 => ⟨S8x4096, .f32⟩
  | 66 => ⟨S8x4096x1, .f32⟩
  | 67 => ⟨S_, .f32⟩
  | 68 => ⟨S8x4096x1, .f32⟩
  | 69 => ⟨S8x4096x1, .f32⟩
  | 70 => ⟨S_, .f32⟩
  | 71 => ⟨S8x4096x1, .f32⟩
  | 72 => ⟨S8x4096x1, .f32⟩
  | 73 => ⟨S8x4096x1, .f32⟩
  | 74 => ⟨S8x4096x1024, .f32⟩
  | 75 => ⟨S8x4096x1024, .f32⟩
  | 76 => ⟨S1x1x1024, .f32⟩
  | 77 => ⟨S8x4096x1024, .f32⟩
  | 78 => ⟨S8x4096x1024, .f32⟩
  | 79 => ⟨S_, .f32⟩
  | 80 => ⟨S8x1x1024, .f32⟩
  | 81 => ⟨S8x1x1024, .f32⟩
  | 82 => ⟨S8x4096x1024, .f32⟩
  | 83 => ⟨S8x4096x1024, .f32⟩
  | 84 => ⟨S8x4096x1024, .f32⟩
  | 85 => ⟨S8x4096x1024, .f32⟩
  | 86 => ⟨S_, .f32⟩
  | 87 => ⟨S8x2x2816, .f32⟩
  | 88 => ⟨S8x4096x2816, .f32⟩
  | 89 => ⟨S8x4098x2816, .f32⟩
  | 90 => ⟨S8x4096x2816, .f32⟩
  | 91 => ⟨S1x2816, .f32⟩
  | 92 => ⟨S2816, .f32⟩
  | 93 => ⟨S1x1x2816, .f32⟩
  | 94 => ⟨S8x4096x2816, .f32⟩
  | 95 => ⟨S8x4096x2816, .f32⟩
  | 96 => ⟨S8x4096x2816, .f32⟩
  | 97 => ⟨S1x2816, .f32⟩
  | 98 => ⟨S2816, .f32⟩
  | 99 => ⟨S1x1x2816, .f32⟩
  | 100 => ⟨S8x4096x2816, .f32⟩
  | 101 => ⟨S8x4096x2816, .f32⟩
  | 102 => ⟨S8x4096x2816, .f32⟩
  | 103 => ⟨S8x4096x2816, .f32⟩
  | 104 => ⟨S1x2816, .f32⟩
  | 105 => ⟨S2816, .f32⟩
  | 106 => ⟨S1x1x2816, .f32⟩
  | 107 => ⟨S8x4096x2816, .f32⟩
  | 108 => ⟨S8x4096x2816, .f32⟩
  | 109 => ⟨S8x4096x2816, .f32⟩
  | 110 => ⟨S8x4096x2816, .f32⟩
  | 111 => ⟨S8x4096x2816, .f32⟩
  | 112 => ⟨S_, .f32⟩
  | 113 => ⟨S8x4096x2816, .f32⟩
  | 114 => ⟨S8x4096x2816, .f32⟩
  | 115 => ⟨S_, .f32⟩
  | 116 => ⟨S8x4096x2816, .f32⟩
  | 117 => ⟨S8x4096x2816, .f32⟩
  | 118 => ⟨S8x4096x2816, .f32⟩
  | 119 => ⟨S8x4096x2816, .f32⟩
  | 120 => ⟨S8x4096x2816, .f32⟩
  | 121 => ⟨S8x4096x1024, .f32⟩
  | 122 => ⟨S8x4096x1024, .f32⟩
  | 123 => ⟨S_, .f32⟩
  | 124 => ⟨S8x4096, .f32⟩
  | 125 => ⟨S8x4096x1, .f32⟩
  | 126 => ⟨S_, .f32⟩
  | 127 => ⟨S8x4096x1, .f32⟩
  | _ => ⟨S8x4096x512, .bf16⟩

abbrev hbmTy0_1 (i : Nat) : BufTy := match i % 128 with
  | 0 => ⟨S8x4096x1, .f32⟩
  | 1 => ⟨S_, .f32⟩
  | 2 => ⟨S8x4096x1, .f32⟩
  | 3 => ⟨S8x4096x1, .f32⟩
  | 4 => ⟨S8x4096x1, .f32⟩
  | 5 => ⟨S8x4096x1024, .f32⟩
  | 6 => ⟨S8x4096x1024, .f32⟩
  | 7 => ⟨S1x1x1024, .f32⟩
  | 8 => ⟨S8x4096x1024, .f32⟩
  | 9 => ⟨S8x4096x1024, .f32⟩
  | 10 => ⟨S8x4096x1024, .f32⟩
  | 11 => ⟨S8x4096x1024, .f32⟩
  | 12 => ⟨S8x4096x1024, .f32⟩
  | 13 => ⟨S8x8x2816, .f32⟩
  | _ => ⟨S8x4096x512, .bf16⟩

abbrev hbmTy (i : Nat) : BufTy := match i / 128 with
  | 0 => hbmTy0_0 i
  | 1 => hbmTy0_1 i
  | _ => ⟨S8x4096x512, .bf16⟩

abbrev bufTy : (tb : Table) → Fin (tcTables nBuf tb) → BufTy
  | .hbm, ⟨i, _⟩ => hbmTy i
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_call0_v0 : Ref sig .tc := ⟨.hbm, 110, rfl⟩
abbrev main_call0_v1 : Ref sig .tc := ⟨.hbm, 111, rfl⟩
abbrev main_call0_cst : Ref sig .tc := ⟨.hbm, 112, rfl⟩
abbrev main_call0_v2 : Ref sig .tc := ⟨.hbm, 113, rfl⟩
abbrev main_call0_v3 : Ref sig .tc := ⟨.hbm, 114, rfl⟩
abbrev main_call0_cst_0 : Ref sig .tc := ⟨.hbm, 115, rfl⟩
abbrev main_call0_v4 : Ref sig .tc := ⟨.hbm, 116, rfl⟩
abbrev main_call0_v5 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_10 : Ref sig .tc := ⟨.hbm, 123, rfl⟩
abbrev main_v91 : Ref sig .tc := ⟨.hbm, 124, rfl⟩
abbrev main_v92 : Ref sig .tc := ⟨.hbm, 125, rfl⟩
abbrev main_cst_11 : Ref sig .tc := ⟨.hbm, 126, rfl⟩
abbrev main_v93 : Ref sig .tc := ⟨.hbm, 127, rfl⟩
abbrev main_v94 : Ref sig .tc := ⟨.hbm, 128, rfl⟩
abbrev main_cst_12 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6144 : Shape := ⟨2, ![8, 6144]⟩
abbrev S1024 : Shape := ⟨1, ![1024]⟩
abbrev S1024x2816 : Shape := ⟨2, ![1024, 2816]⟩
abbrev S31x256 : Shape := ⟨2, ![31, 256]⟩
abbrev S256 : Shape := ⟨1, ![256]⟩
abbrev S3x256 : Shape := ⟨2, ![3, 256]⟩
abbrev S512 : Shape := ⟨1, ![512]⟩
abbrev S1x1024 : Shape := ⟨2, ![1, 1024]⟩
abbrev S1x256 : Shape := ⟨2, ![1, 256]⟩
abbrev S1x512 : Shape := ⟨2, ![1, 512]⟩
abbrev S8x6x1x1024 : Shape := ⟨4, ![8, 6, 1, 1024]⟩
abbrev S_ : Shape := ⟨0, ![]⟩
abbrev S8x32x256 : Shape := ⟨3, ![8, 32, 256]⟩
abbrev S8x8x256 : Shape := ⟨3, ![8, 8, 256]⟩
abbrev S8x4096x512 : Shape := ⟨3, ![8, 4096, 512]⟩
abbrev S8x4x4096x128 : Shape := ⟨4, ![8, 4, 4096, 128]⟩
abbrev S1x8x512x2048 : Shape := ⟨4, ![1, 8, 512, 2048]⟩
abbrev S1x512x1024 : Shape := ⟨3, ![1, 512, 1024]⟩
abbrev S1x6x1x1024 : Shape := ⟨4, ![1, 6, 1, 1024]⟩
abbrev S1x32x256 : Shape := ⟨3, ![1, 32, 256]⟩
abbrev S1x8x256 : Shape := ⟨3, ![1, 8, 256]⟩
abbrev S1x512x512 : Shape := ⟨3, ![1, 512, 512]⟩
abbrev S1x4x512x128 : Shape := ⟨4, ![1, 4, 512, 128]⟩
abbrev S1x1x512x512 : Shape := ⟨4, ![1, 1, 512, 512]⟩
abbrev S544x256 : Shape := ⟨2, ![544, 256]⟩
abbrev S520x256 : Shape := ⟨2, ![520, 256]⟩
abbrev S32x256 : Shape := ⟨2, ![32, 256]⟩
abbrev S8x256 : Shape := ⟨2, ![8, 256]⟩
abbrev S512x1024 : Shape := ⟨2, ![512, 1024]⟩
abbrev S512x1 : Shape := ⟨2, ![512, 1]⟩
abbrev S1x1x1x1024 : Shape := ⟨4, ![1, 1, 1, 1024]⟩
abbrev S1024x512 : Shape := ⟨2, ![1024, 512]⟩
abbrev S512x512 : Shape := ⟨2, ![512, 512]⟩
abbrev S512x256 : Shape := ⟨2, ![512, 256]⟩
abbrev S1024x768 : Shape := ⟨2, ![1024, 768]⟩
abbrev S512x768 : Shape := ⟨2, ![512, 768]⟩
abbrev S512x128 : Shape := ⟨2, ![512, 128]⟩
abbrev S1x1x512x128 : Shape := ⟨4, ![1, 1, 512, 128]⟩
abbrev S64x256 : Shape := ⟨2, ![64, 256]⟩
abbrev S72x256 : Shape := ⟨2, ![72, 256]⟩
abbrev S1x512x256 : Shape := ⟨3, ![1, 512, 256]⟩

abbrev nBuf : Space → Nat
  | .hbm => 33
  | .vmem => 35
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x2816, .f32⟩
  | .hbm, ⟨4, _⟩ => ⟨S31x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S3x256, .f32⟩
  | .hbm, ⟨9, _⟩ => ⟨S256, .f32⟩
  | .hbm, ⟨10, _⟩ => ⟨S256, .f32⟩
  | .hbm, ⟨11, _⟩ => ⟨S512, .f32⟩
  | .hbm, ⟨12, _⟩ => ⟨S1x1024, .f32⟩
  | .hbm, ⟨13, _⟩ => ⟨S1024x2816, .bf16⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x512, .f32⟩
  | .hbm, ⟨20, _⟩ => ⟨S8x6x1x1024, .f32⟩
  | .hbm, ⟨21, _⟩ => ⟨S_, .f32⟩
  | .hbm, ⟨22, _⟩ => ⟨S8x32x256, .f32⟩
  | .hbm, ⟨23, _⟩ => ⟨S_, .f32⟩
  | .hbm, ⟨24, _⟩ => ⟨S8x8x256, .f32⟩
  | .hbm, ⟨25, _⟩ => ⟨S8x4096x512, .bf16⟩
  | .hbm, ⟨26, _⟩ => ⟨S8x4x4096x128, .f32⟩
  | .hbm, ⟨27, _⟩ => ⟨S8x4x4096x128, .f32⟩
  | .hbm, ⟨28, _⟩ => ⟨S8x4x4096x128, .f32⟩
  | .hbm, ⟨29, _⟩ => ⟨S8x32x256, .f32⟩
  | .hbm, ⟨30, _⟩ => ⟨S8x8x256, .f32⟩
  | .hbm, ⟨31, _⟩ => ⟨S1x8x512x2048, .f32⟩
  | .hbm, ⟨32, _⟩ => ⟨S1x8x512x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x1024, .f32⟩
  | .local _ .vmem, ⟨5, _⟩ => ⟨S1024x2816, .bf16⟩
  | .local _ .vmem, ⟨6, _⟩ => ⟨S31x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S3x256, .f32⟩
  | .local _ .vmem, ⟨11, _⟩ => ⟨S1x256, .f32⟩
  | .local _ .vmem, ⟨12, _⟩ => ⟨S1x256, .f32⟩
  | .local _ .vmem, ⟨13, _⟩ => ⟨S1x32x256, .f32⟩
  | .local _ .vmem, ⟨14, _⟩ => ⟨S1x32x256, .f32⟩
  | .local _ .vmem, ⟨15, _⟩ => ⟨S1x8x256, .f32⟩
  | .local _ .vmem, ⟨16, _⟩ => ⟨S1x8x256, .f32⟩
  | .local _ .vmem, ⟨17, _⟩ => ⟨S1x512x512, .bf16⟩
  | .local _ .vmem, ⟨18, _⟩ => ⟨S1x512x512, .bf16⟩
  | .local _ .vmem, ⟨19, _⟩ => ⟨S1x4x512x128, .f32⟩
  | .local _ .vmem, ⟨20, _⟩ => ⟨S1x4x512x128, .f32⟩
  | .local _ .vmem, ⟨21, _⟩ => ⟨S1x4x512x128, .f32⟩
  | .local _ .vmem, ⟨22, _⟩ => ⟨S1x4x512x128, .f32⟩
  | .local _ .vmem, ⟨23, _⟩ => ⟨S1x4x512x128, .f32⟩
  | .local _ .vmem, ⟨24, _⟩ => ⟨S1x4x512x128, .f32⟩
  | .local _ .vmem, ⟨25, _⟩ => ⟨S1x32x256, .f32⟩
  | .local _ .vmem, ⟨26, _⟩ => ⟨S1x32x256, .f32⟩
  | .local _ .vmem, ⟨27, _⟩ => ⟨S1x8x256, .f32⟩
  | .local _ .vmem, ⟨28, _⟩ => ⟨S1x8x256, .f32⟩
  | .local _ .vmem, ⟨29, _⟩ => ⟨S1x1x512x512, .f32⟩
  | .local _ .vmem, ⟨30, _⟩ => ⟨S1x1x512x512, .f32⟩
  | .local _ .vmem, ⟨31, _⟩ => ⟨S1x1x512x512, .f32⟩
  | .local _ .vmem, ⟨32, _⟩ => ⟨S1x1x512x512, .f32⟩
  | .local _ .vmem, ⟨33, _⟩ => ⟨S544x256, .f32⟩
  | .local _ .vmem, ⟨34, _⟩ => ⟨S520x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v11_5 : Ref sig .tc := ⟨.hbm, 30, rfl⟩
abbrev main_v11_6 : Ref sig .tc := ⟨.hbm, 31, rfl⟩
abbrev main_v11_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c4_i32 : BitVec 32 := 4#32
  let v1499 : BitVec 1 := Scalar.cmpi .sge arg1 c4_i32
  let v1500 : BitVec 32 := Scalar.extui v1499
  let c0_i32_1060 : BitVec 32 := 0#32
  let v1501 : BitVec 1 := Scalar.cmpi .ne v1500 c0_i32_1060
  v1501

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, arg0.toNat, c0_i32_1.toNat, v1.toNat]

def cc0_transform_20 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, arg0.toNat, c0_i32_1.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x32x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x1x512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference3Ideal.lean ====
abbrev S8x4096x1024 : Shape := ⟨3, ![8, 4096, 1024]⟩
abbrev S8x6144 : Shape := ⟨2, ![8, 6144]⟩
abbrev S1024 : Shape := ⟨1, ![1024]⟩
abbrev S1024x2816 : Shape := ⟨2, ![1024, 2816]⟩
abbrev S31x256 : Shape := ⟨2, ![31, 256]⟩
abbrev S256 : Shape := ⟨1, ![256]⟩
abbrev S3x256 : Shape := ⟨2, ![3, 256]⟩
abbrev S512 : Shape := ⟨1, ![512]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S8x4096x256 : Shape := ⟨3, ![8, 4096, 256]⟩
abbrev S8x4096x512 : Shape := ⟨3, ![8, 4096, 512]⟩
abbrev S8x30x256 : Shape := ⟨3, ![8, 30, 256]⟩
abbrev S8x4126x256 : Shape := ⟨3, ![8, 4126, 256]⟩
abbrev S1x256 : Shape := ⟨2, ![1, 256]⟩
abbrev S1x1x256 : Shape := ⟨3, ![1, 1, 256]⟩
abbrev S8x2x256 : Shape := ⟨3, ![8, 2, 256]⟩
abbrev S8x4098x256 : Shape := ⟨3, ![8, 4098, 256]⟩
abbrev S8x4096x4x128 : Shape := ⟨4, ![8, 4096, 4, 128]⟩
abbrev S8x4x4096x128 : Shape := ⟨4, ![8, 4, 4096, 128]⟩
abbrev S8x32x256 : Shape := ⟨3, ![8, 32, 256]⟩
abbrev S8x8x256 : Shape := ⟨3, ![8, 8, 256]⟩
abbrev S8x2048x512 : Shape := ⟨3, ![8, 2048, 512]⟩
abbrev S8x512x2048 : Shape := ⟨3, ![8, 512, 2048]⟩
abbrev S1x8x512x2048 : Shape := ⟨4, ![1, 8, 512, 2048]⟩

abbrev nBuf : Space → Nat
  | .hbm => 396
  | .vmem => 0
  | .smem => 0
  | _ => 0

abbrev hbmTy0_0 (i : Nat) : BufTy := match i % 128 with
  | 0 => ⟨S8x4096x1024, .f32⟩
  | 1 => ⟨S8x6144, .f32⟩
  | 2 => ⟨S1024, .f32⟩
  | 3 => ⟨S1024x2816, .f32⟩
  | 4 => ⟨S31x256, .f32⟩
  | 5 => ⟨S256, .f32⟩
  | 6 => ⟨S256, .f32⟩
  | 7 => ⟨S256, .f32⟩
  | 8 => ⟨S3x256, .f32⟩
  | 9 => ⟨S256, .f32⟩
  | 10 => ⟨S256, .f32⟩
  | 11 => ⟨S512, .f32⟩
  | 12 => ⟨S8x1024, .f32⟩
  | 13 => ⟨S8x1024, .f32⟩
  | 14 => ⟨S8x1024, .f32⟩
  | 15 => ⟨S8x1024, .f32⟩
  | 16 => ⟨S8x1024, .f32⟩
  | 17 => ⟨S8x1024, .f32⟩
  | 18 => ⟨S8x1x1024, .f32⟩
  | 19 => ⟨S8x1x1024, .f32⟩
  | 20 => ⟨S8x1x1024, .f32⟩
  | 21 => ⟨S8x1x1024, .f32⟩
  | 22 => ⟨S8x1x1024, .f32⟩
  | 23 => ⟨S8x1x1024, .f32⟩
  | 24 => ⟨S8x4096x1024, .f32⟩
  | 25 => ⟨S_, .f32⟩
  | 26 => ⟨S8x4096, .f32⟩
  | 27 => ⟨S8x4096x1, .f32⟩
  | 28 => ⟨S_, .f32⟩
  | 29 => ⟨S8x4096x1, .f32⟩
  | 30 => ⟨S8x4096x1, .f32⟩
  | 31 => ⟨S_, .f32⟩
  | 32 => ⟨S8x4096x1, .f32⟩
  | 33 => ⟨S8x4096x1, .f32⟩
  | 34 => ⟨S8x4096x1, .f32⟩
  | 35 => ⟨S8x4096x1024, .f32⟩
  | 36 => ⟨S8x4096x1024, .f32⟩
  | 37 => ⟨S1x1x1024, .f32⟩
  | 38 => ⟨S8x4096x1024, .f32⟩
  | 39 => ⟨S8x4096x1024, .f32⟩
  | 40 => ⟨S_, .f32⟩
  | 41 => ⟨S8x1x1024, .f32⟩
  | 42 => ⟨S8x1x1024, .f32⟩
  | 43 => ⟨S8x4096x1024, .f32⟩
  | 44 => ⟨S8x4096x1024, .f32⟩
  | 45 => ⟨S8x4096x1024, .f32⟩
  | 46 => ⟨S8x4096x1024, .f32⟩
  | 47 => ⟨S8x4096x2816, .f32⟩
  | 48 => ⟨S8x4096x256, .f32⟩
  | 49 => ⟨S8x4096x256, .f32⟩
  | 50 => ⟨S8x4096x256, .f32⟩
  | 51 => ⟨S8x4096x256, .f32⟩
  | 52 => ⟨S8x4096x256, .f32⟩
  | 53 => ⟨S8x4096x512, .f32⟩
  | 54 => ⟨S8x4096x512, .f32⟩
  | 55 => ⟨S8x4096x512, .f32⟩
  | 56 => ⟨S8x4096x256, .f32⟩
  | 57 => ⟨S8x4096x256, .f32⟩
  | 58 => ⟨S_, .f32⟩
  | 59 => ⟨S8x4096x256, .f32⟩
  | 60 => ⟨S8x4096x256, .f32⟩
  | 61 => ⟨S_, .f32⟩
  | 62 => ⟨S8x4096x256, .f32⟩
  | 63 => ⟨S8x4096x256, .f32⟩
  | 64 => ⟨S8x4096x256, .f32⟩
  | 65 => ⟨S_, .f32⟩
  | 66 => ⟨S8x30x256, .f32⟩
  | 67 => ⟨S8x4126x256, .f32⟩
  | 68 => ⟨S8x4096x256, .f32⟩
  | 69 => ⟨S1x256, .f32⟩
  | 70 => ⟨S256, .f32⟩
  | 71 => ⟨S1x1x256, .f32⟩
  | 72 => ⟨S8x4096x256, .f32⟩
  | 73 => ⟨S8x4096x256, .f32⟩
  | 74 => ⟨S8x4096x256, .f32⟩
  | 75 => ⟨S1x256, .f32⟩
  | 76 => ⟨S256, .f32⟩
  | 77 => ⟨S1x1x256, .f32⟩
  | 78 => ⟨S8x4096x256, .f32⟩
  | 79 => ⟨S8x4096x256, .f32⟩
  | 80 => ⟨S8x4096x256, .f32⟩
  | 81 => ⟨S8x4096x256, .f32⟩
  | 82 => ⟨S1x256, .f32⟩
  | 83 => ⟨S256, .f32⟩
  | 84 => ⟨S1x1x256, .f32⟩
  | 85 => ⟨S8x4096x256, .f32⟩
  | 86 => ⟨S8x4096x256, .f32⟩
  | 87 => ⟨S8x4096x256, .f32⟩
  | 88 => ⟨S8x4096x256, .f32⟩
  | 89 => ⟨S1x256, .f32⟩
  | 90 => ⟨S256, .f32⟩
  | 91 => ⟨S1x1x256, .f32⟩
  | 92 => ⟨S8x4096x256, .f32⟩
  | 93 => ⟨S8x4096x256, .f32⟩
  | 94 => ⟨S8x4096x256, .f32⟩
  | 95 => ⟨S8x4096x256, .f32⟩
  | 96 => ⟨S1x256, .f32⟩
  | 97 => ⟨S256, .f32⟩
  | 98 => ⟨S1x1x256, .f32⟩
  | 99 => ⟨S8x4096x256, .f32⟩
  | 100 => ⟨S8x4096x256, .f32⟩
  | 101 => ⟨S8x4096x256, .f32⟩
  | 102 => ⟨S8x4096x256, .f32⟩
  | 103 => ⟨S1x256, .f32⟩
  | 104 => ⟨S256, .f32⟩
  | 105 => ⟨S1x1x256, .f32⟩
  | 106 => ⟨S8x4096x256, .f32⟩
  | 107 => ⟨S8x4096x256, .f32⟩
  | 108 => ⟨S8x4096x256, .f32⟩
  | 109 => ⟨S8x4096x256, .f32⟩
  | 110 => ⟨S1x256, .f32⟩
  | 111 => ⟨S256, .f32⟩
  | 112 => ⟨S1x1x256, .f32⟩
  | 113 => ⟨S8x4096x256, .f32⟩
  | 114 => ⟨S8x4096x256, .f32⟩
  | 115 => ⟨S8x4096x256, .f32⟩
  | 116 => ⟨S8x4096x256, .f32⟩
  | 117 => ⟨S1x256, .f32⟩
  | 118 => ⟨S256, .f32⟩
  | 119 => ⟨S1x1x256, .f32⟩
  | 120 => ⟨S8x4096x256, .f32⟩
  | 121 => ⟨S8x4096x256, .f32⟩
  | 122 => ⟨S8x4096x256, .f32⟩
  | 123 => ⟨S8x4096x256, .f32⟩
  | 124 => ⟨S1x256, .f32⟩
  | 125 => ⟨S256, .f32⟩
  | 126 => ⟨S1x1x256, .f32⟩
  | 127 => ⟨S8x4096x256, .f32⟩
  | _ => ⟨S8x4096x1024, .f32⟩

abbrev hbmTy0_1 (i : Nat) : BufTy := match i % 128 with
  | 0 => ⟨S8x4096x256, .f32⟩
  | 1 => ⟨S8x4096x256, .f32⟩
  | 2 => ⟨S8x4096x256, .f32⟩
  | 3 => ⟨S1x256, .f32⟩
  | 4 => ⟨S256, .f32⟩
  | 5 => ⟨S1x1x256, .f32⟩
  | 6 => ⟨S8x4096x256, .f32⟩
  | 7 => ⟨S8x4096x256, .f32⟩
  | 8 => ⟨S8x4096x256, .f32⟩
  | 9 => ⟨S8x4096x256, .f32⟩
  | 10 => ⟨S1x256, .f32⟩
  | 11 => ⟨S256, .f32⟩
  | 12 => ⟨S1x1x256, .f32⟩
  | 13 => ⟨S8x4096x256, .f32⟩
  | 14 => ⟨S8x4096x256, .f32⟩
  | 15 => ⟨S8x4096x256, .f32⟩
  | 16 => ⟨S8x4096x256, .f32⟩
  | 17 => ⟨S1x256, .f32⟩
  | 18 => ⟨S256, .f32⟩
  | 19 => ⟨S1x1x256, .f32⟩
  | 20 => ⟨S8x4096x256, .f32⟩
  | 21 => ⟨S8x4096x256, .f32⟩
  | 22 => ⟨S8x4096x256, .f32⟩
  | 23 => ⟨S8x4096x256, .f32⟩
  | 24 => ⟨S1x256, .f32⟩
  | 25 => ⟨S256, .f32⟩
  | 26 => ⟨S1x1x256, .f32⟩
  | 27 => ⟨S8x4096x256, .f32⟩
  | 28 => ⟨S8x4096x256, .f32⟩
  | 29 => ⟨S8x4096x256, .f32⟩
  | 30 => ⟨S8x4096x256, .f32⟩
  | 31 => ⟨S1x256, .f32⟩
  | 32 => ⟨S256, .f32⟩
  | 33 => ⟨S1x1x256, .f32⟩
  | 34 => ⟨S8x4096x256, .f32⟩
  | 35 => ⟨S8x4096x256, .f32⟩
  | 36 => ⟨S8x4096x256, .f32⟩
  | 37 => ⟨S8x4096x256, .f32⟩
  | 38 => ⟨S1x256, .f32⟩
  | 39 => ⟨S256, .f32⟩
  | 40 => ⟨S1x1x256, .f32⟩
  | 41 => ⟨S8x4096x256, .f32⟩
  | 42 => ⟨S8x4096x256, .f32⟩
  | 43 => ⟨S8x4096x256, .f32⟩
  | 44 => ⟨S8x4096x256, .f32⟩
  | 45 => ⟨S1x256, .f32⟩
  | 46 => ⟨S256, .f32⟩
  | 47 => ⟨S1x1x256, .f32⟩
  | 48 => ⟨S8x4096x256, .f32⟩
  | 49 => ⟨S8x4096x256, .f32⟩
  | 50 => ⟨S8x4096x256, .f32⟩
  | 51 => ⟨S8x4096x256, .f32⟩
  | 52 => ⟨S1x256, .f32⟩
  | 53 => ⟨S256, .f32⟩
  | 54 => ⟨S1x1x256, .f32⟩
  | 55 => ⟨S8x4096x256, .f32⟩
  | 56 => ⟨S8x4096x256, .f32⟩
  | 57 => ⟨S8x4096x256, .f32⟩
  | 58 => ⟨S8x4096x256, .f32⟩
  | 59 => ⟨S1x256, .f32⟩
  | 60 => ⟨S256, .f32⟩
  | 61 => ⟨S1x1x256, .f32⟩
  | 62 => ⟨S8x4096x256, .f32⟩
  | 63 => ⟨S8x4096x256, .f32⟩
  | 64 => ⟨S8x4096x256, .f32⟩
  | 65 => ⟨S8x4096x256, .f32⟩
  | 66 => ⟨S1x256, .f32⟩
  | 67 => ⟨S256, .f32⟩
  | 68 => ⟨S1x1x256, .f32⟩
  | 69 => ⟨S8x4096x256, .f32⟩
  | 70 => ⟨S8x4096x256, .f32⟩
  | 71 => ⟨S8x4096x256, .f32⟩
  | 72 => ⟨S8x4096x256, .f32⟩
  | 73 => ⟨S1x256, .f32⟩
  | 74 => ⟨S256, .f32⟩
  | 75 => ⟨S1x1x256, .f32⟩
  | 76 => ⟨S8x4096x256, .f32⟩
  | 77 => ⟨S8x4096x256, .f32⟩
  | 78 => ⟨S8x4096x256, .f32⟩
  | 79 => ⟨S8x4096x256, .f32⟩
  | 80 => ⟨S1x256, .f32⟩
  | 81 => ⟨S256, .f32⟩
  | 82 => ⟨S1x1x256, .f32⟩
  | 83 => ⟨S8x4096x256, .f32⟩
  | 84 => ⟨S8x4096x256, .f32⟩
  | 85 => ⟨S8x4096x256, .f32⟩
  | 86 => ⟨S8x4096x256, .f32⟩
  | 87 => ⟨S1x256, .f32⟩
  | 88 => ⟨S256, .f32⟩
  | 89 => ⟨S1x1x256, .f32⟩
  | 90 => ⟨S8x4096x256, .f32⟩
  | 91 => ⟨S8x4096x256, .f32⟩
  | 92 => ⟨S8x4096x256, .f32⟩
  | 93 => ⟨S8x4096x256, .f32⟩
  | 94 => ⟨S1x256, .f32⟩
  | 95 => ⟨S256, .f32⟩
  | 96 => ⟨S1x1x256, .f32⟩
  | 97 => ⟨S8x4096x256, .f32⟩
  | 98 => ⟨S8x4096x256, .f32⟩
  | 99 => ⟨S8x4096x256, .f32⟩
  | 100 => ⟨S8x4096x256, .f32⟩
  | 101 => ⟨S1x256, .f32⟩
  | 102 => ⟨S256, .f32⟩
  | 103 => ⟨S1x1x256, .f32⟩
  | 104 => ⟨S8x4096x256, .f32⟩
  | 105 => ⟨S8x4096x256, .f32⟩
  | 106 => ⟨S8x4096x256, .f32⟩
  | 107 => ⟨S8x4096x256, .f32⟩
  | 108 => ⟨S1x256, .f32⟩
  | 109 => ⟨S256, .f32⟩
  | 110 => ⟨S1x1x256, .f32⟩
  | 111 => ⟨S8x4096x256, .f32⟩
  | 112 => ⟨S8x4096x256, .f32⟩
  | 113 => ⟨S8x4096x256, .f32⟩
  | 114 => ⟨S8x4096x256, .f32⟩
  | 115 => ⟨S1x256, .f32⟩
  | 116 => ⟨S256, .f32⟩
  | 117 => ⟨S1x1x256, .f32⟩
  | 118 => ⟨S8x4096x256, .f32⟩
  | 119 => ⟨S8x4096x256, .f32⟩
  | 120 => ⟨S8x4096x256, .f32⟩
  | 121 => ⟨S8x4096x256, .f32⟩
  | 122 => ⟨S1x256, .f32⟩
  | 123 => ⟨S256, .f32⟩
  | 124 => ⟨S1x1x256, .f32⟩
  | 125 => ⟨S8x4096x256, .f32⟩
  | 126 => ⟨S8x4096x256, .f32⟩
  | 127 => ⟨S8x4096x256, .f32⟩
  | _ => ⟨S8x4096x1024, .f32⟩

abbrev hbmTy0_2 (i : Nat) : BufTy := match i % 128 with
  | 0 => ⟨S8x4096x256, .f32⟩
  | 1 => ⟨S1x256, .f32⟩
  | 2 => ⟨S256, .f32⟩
  | 3 => ⟨S1x1x256, .f32⟩
  | 4 => ⟨S8x4096x256, .f32⟩
  | 5 => ⟨S8x4096x256, .f32⟩
  | 6 => ⟨S8x4096x256, .f32⟩
  | 7 => ⟨S8x4096x256, .f32⟩
  | 8 => ⟨S1x256, .f32⟩
  | 9 => ⟨S256, .f32⟩
  | 10 => ⟨S1x1x256, .f32⟩
  | 11 => ⟨S8x4096x256, .f32⟩
  | 12 => ⟨S8x4096x256, .f32⟩
  | 13 => ⟨S8x4096x256, .f32⟩
  | 14 => ⟨S8x4096x256, .f32⟩
  | 15 => ⟨S1x256, .f32⟩
  | 16 => ⟨S256, .f32⟩
  | 17 => ⟨S1x1x256, .f32⟩
  | 18 => ⟨S8x4096x256, .f32⟩
  | 19 => ⟨S8x4096x256, .f32⟩
  | 20 => ⟨S8x4096x256, .f32⟩
  | 21 => ⟨S8x4096x256, .f32⟩
  | 22 => ⟨S1x256, .f32⟩
  | 23 => ⟨S256, .f32⟩
  | 24 => ⟨S1x1x256, .f32⟩
  | 25 => ⟨S8x4096x256, .f32⟩
  | 26 => ⟨S8x4096x256, .f32⟩
  | 27 => ⟨S8x4096x256, .f32⟩
  | 28 => ⟨S1x1x256, .f32⟩
  | 29 => ⟨S8x4096x256, .f32⟩
  | 30 => ⟨S8x4096x256, .f32⟩
  | 31 => ⟨S_, .f32⟩
  | 32 => ⟨S8x4096, .f32⟩
  | 33 => ⟨S8x4096x1, .f32⟩
  | 34 => ⟨S_, .f32⟩
  | 35 => ⟨S8x4096x1, .f32⟩
  | 36 => ⟨S8x4096x1, .f32⟩
  | 37 => ⟨S8x4096x256, .f32⟩
  | 38 => ⟨S8x4096x256, .f32⟩
  | 39 => ⟨S8x4096x256, .f32⟩
  | 40 => ⟨S_, .f32⟩
  | 41 => ⟨S8x4096, .f32⟩
  | 42 => ⟨S8x4096x1, .f32⟩
  | 43 => ⟨S_, .f32⟩
  | 44 => ⟨S8x4096x1, .f32⟩
  | 45 => ⟨S8x4096x1, .f32⟩
  | 46 => ⟨S_, .f32⟩
  | 47 => ⟨S8x4096x1, .f32⟩
  | 48 => ⟨S8x4096x1, .f32⟩
  | 49 => ⟨S8x4096x1, .f32⟩
  | 50 => ⟨S8x4096x256, .f32⟩
  | 51 => ⟨S8x4096x256, .f32⟩
  | 52 => ⟨S1x1x256, .f32⟩
  | 53 => ⟨S8x4096x256, .f32⟩
  | 54 => ⟨S8x4096x256, .f32⟩
  | 55 => ⟨S1x1x256, .f32⟩
  | 56 => ⟨S8x4096x256, .f32⟩
  | 57 => ⟨S8x4096x256, .f32⟩
  | 58 => ⟨S8x4096x256, .f32⟩
  | 59 => ⟨S8x4096x256, .f32⟩
  | 60 => ⟨S_, .f32⟩
  | 61 => ⟨S8x4096x256, .f32⟩
  | 62 => ⟨S8x4096x256, .f32⟩
  | 63 => ⟨S_, .f32⟩
  | 64 => ⟨S8x4096x256, .f32⟩
  | 65 => ⟨S8x4096x256, .f32⟩
  | 66 => ⟨S8x4096x256, .f32⟩
  | 67 => ⟨S_, .f32⟩
  | 68 => ⟨S8x2x256, .f32⟩
  | 69 => ⟨S8x4096x256, .f32⟩
  | 70 => ⟨S8x4098x256, .f32⟩
  | 71 => ⟨S8x4096x256, .f32⟩
  | 72 => ⟨S1x256, .f32⟩
  | 73 => ⟨S256, .f32⟩
  | 74 => ⟨S1x1x256, .f32⟩
  | 75 => ⟨S8x4096x256, .f32⟩
  | 76 => ⟨S8x4096x256, .f32⟩
  | 77 => ⟨S8x4096x256, .f32⟩
  | 78 => ⟨S1x256, .f32⟩
  | 79 => ⟨S256, .f32⟩
  | 80 => ⟨S1x1x256, .f32⟩
  | 81 => ⟨S8x4096x256, .f32⟩
  | 82 => ⟨S8x4096x256, .f32⟩
  | 83 => ⟨S8x4096x256, .f32⟩
  | 84 => ⟨S8x4096x256, .f32⟩
  | 85 => ⟨S1x256, .f32⟩
  | 86 => ⟨S256, .f32⟩
  | 87 => ⟨S1x1x256, .f32⟩
  | 88 => ⟨S8x4096x256, .f32⟩
  | 89 => ⟨S8x4096x256, .f32⟩
  | 90 => ⟨S8x4096x256, .f32⟩
  | 91 => ⟨S8x4096x256, .f32⟩
  | 92 => ⟨S8x4096x256, .f32⟩
  | 93 => ⟨S_, .f32⟩
  | 94 => ⟨S8x4096, .f32⟩
  | 95 => ⟨S8x4096x1, .f32⟩
  | 96 => ⟨S_, .f32⟩
  | 97 => ⟨S8x4096x1, .f32⟩
  | 98 => ⟨S8x4096x1, .f32⟩
  | 99 => ⟨S_, .f32⟩
  | 100 => ⟨S8x4096x1, .f32⟩
  | 101 => ⟨S8x4096x1, .f32⟩
  | 102 => ⟨S8x4096x1, .f32⟩
  | 103 => ⟨S8x4096x256, .f32⟩
  | 104 => ⟨S8x4096x256, .f32⟩
  | 105 => ⟨S1x1x256, .f32⟩
  | 106 => ⟨S8x4096x256, .f32⟩
  | 107 => ⟨S8x4096x256, .f32⟩
  | 108 => ⟨S8x4096x256, .f32⟩
  | 109 => ⟨S_, .f32⟩
  | 110 => ⟨S8x4096, .f32⟩
  | 111 => ⟨S8x4096x1, .f32⟩
  | 112 => ⟨S_, .f32⟩
  | 113 => ⟨S8x4096x1, .f32⟩
  | 114 => ⟨S8x4096x1, .f32⟩
  | 115 => ⟨S_, .f32⟩
  | 116 => ⟨S8x4096x1, .f32⟩
  | 117 => ⟨S8x4096x1, .f32⟩
  | 118 => ⟨S8x4096x1, .f32⟩
  | 119 => ⟨S8x4096x256, .f32⟩
  | 120 => ⟨S8x4096x256, .f32⟩
  | 121 => ⟨S1x1x256, .f32⟩
  | 122 => ⟨S8x4096x256, .f32⟩
  | 123 => ⟨S8x4096x256, .f32⟩
  | 124 => ⟨S8x4096x512, .f32⟩
  | 125 => ⟨S8x4096x512, .bf16⟩
  | 126 => ⟨S8x4096x4x128, .f32⟩
  | 127 => ⟨S8x4x4096x128, .f32⟩
  | _ => ⟨S8x4096x1024, .f32⟩

abbrev hbmTy0_3 (i : Nat) : BufTy := match i % 128 with
  | 0 => ⟨S8x4096x4x128, .f32⟩
  | 1 => ⟨S8x4x4096x128, .f32⟩
  | 2 => ⟨S8x4096x4x128, .f32⟩
  | 3 => ⟨S8x4x4096x128, .f32⟩
  | 4 => ⟨S8x32x256, .f32⟩
  | 5 => ⟨S8x8x256, .f32⟩
  | 6 => ⟨S8x2048x512, .f32⟩
  | 7 => ⟨S8x512x2048, .f32⟩
  | 8 => ⟨S1x8x512x2048, .f32⟩
  | 9 => ⟨S8x2048x512, .f32⟩
  | 10 => ⟨S8x512x2048, .f32⟩
  | 11 => ⟨S1x8x512x2048, .f32⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_cst_4 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_cst_6 : Ref sig .tc := ⟨.hbm, 287, rfl⟩
abbrev main_v268 : Ref sig .tc := ⟨.hbm, 288, rfl⟩
abbrev main_v269 : Ref sig .tc := ⟨.hbm, 289, rfl⟩
abbrev main_cst_7 : Ref sig .tc := ⟨.hbm, 290, rfl⟩
abbrev main_v270 : Ref sig .tc := ⟨.hbm, 291, rfl⟩
abbrev main_v271 : Ref sig .tc := ⟨.hbm, 292, rfl⟩
abbrev main_v272 : Ref sig .tc := ⟨.hbm, 293, rfl⟩
abbrev main_v273 : Ref sig .tc := ⟨.hbm, 294, rfl⟩
abbrev main_v274 : Ref sig .tc := ⟨.hbm, 295, rfl⟩
abbrev main_cst_8 : Ref sig .tc := ⟨.hbm, 296, rfl⟩
abbrev main_v275 : Ref sig .tc := ⟨.hbm, 297, rfl⟩
abbrev main_v276 : Ref sig .tc := ⟨.hbm, 298, rfl⟩
abbrev main_cst_9 : Ref sig .tc := ⟨.hbm, 299, rfl⟩
abbrev main_v277 : Ref sig .tc := ⟨.hbm, 300, rfl⟩
abbrev main_v278 : Ref sig .tc := ⟨.hbm, 301, rfl⟩
abbrev main_cst_10 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_call0_v0 : Ref sig .tc := ⟨.hbm, 314, rfl⟩
abbrev main_call0_v1 : Ref sig .tc := ⟨.hbm, 315, rfl⟩
abbrev main_call0_cst : Ref sig .tc := ⟨.hbm, 316, rfl⟩
abbrev main_call0_v2 : Ref sig .tc := ⟨.hbm, 317, rfl⟩
abbrev main_call0_v3 : Ref sig .tc := ⟨.hbm, 318, rfl⟩
abbrev main_call0_cst_0 : Ref sig .tc := ⟨.hbm, 319, rfl⟩
abbrev main_call0_v4 : Ref sig .tc := ⟨.hbm, 320, rfl⟩
abbrev main_call0_v5 : Ref sig .tc := ⟨.hbm, 321, rfl⟩
abbrev main_v290 : Ref sig .tc := ⟨.hbm, 322, rfl⟩
abbrev main_cst_11 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_v310 : Ref sig .tc := ⟨.hbm, 343, rfl⟩
abbrev main_v311 : Ref sig .tc := ⟨.hbm, 344, rfl⟩
abbrev main_v312 : Ref sig .tc := ⟨.hbm, 345, rfl⟩
abbrev main_v313 : Ref sig .tc := ⟨.hbm, 346, rfl⟩
abbrev main_v314 : Ref sig .tc := ⟨.hbm, 347, rfl⟩
abbrev main_v315 : Ref sig .tc := ⟨.hbm, 348, rfl⟩
abbrev main_cst_12 : Ref sig .tc := ⟨.hbm, 349, rfl⟩
abbrev main_v316 : Ref sig .tc := ⟨.hbm, 350, rfl⟩
abbrev main_v317 : Ref sig .tc := ⟨.hbm, 351, rfl⟩
abbrev main_cst_13 : Ref sig .tc := ⟨.hbm, 352, rfl⟩
abbrev main_v318 : Ref sig .tc := ⟨.hbm, 353, rfl⟩
abbrev main_v319 : Ref sig .tc := ⟨.hbm, 354, rfl⟩
abbrev main_cst_14 : Ref sig .tc := ⟨.hbm, 355, rfl⟩
abbrev main_v320 : Ref sig .tc := ⟨.hbm, 356, rfl⟩
abbrev main_v321 : Ref sig .tc := ⟨.hbm, 357, rfl⟩
abbrev main_v322 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩
abbrev main_v326 : Ref sig .tc := ⟨.hbm, 362, rfl⟩
abbrev main_v327 : Ref sig .tc := ⟨.hbm, 363, rfl⟩
abbrev main_v328 : Ref sig .tc := ⟨.hbm, 364, rfl⟩
abbrev main_cst_15 : Ref sig .tc := ⟨.hbm, 365, rfl⟩
abbrev main_v329 : Ref sig .tc := ⟨.hbm, 366, rfl⟩
abbrev main_v330 : Ref sig .tc := ⟨.hbm, 367, rfl⟩
abbrev main_cst_16 : Ref sig .tc := ⟨.hbm, 368, rfl⟩
abbrev main_v331 : Ref sig .tc := ⟨.hbm, 369, rfl⟩
abbrev main_v332 : Ref sig .tc := ⟨.hbm, 370, rfl⟩
abbrev main_cst_17 : Ref sig .tc := ⟨.hbm, 371, rfl⟩
abbrev main_v333 : Ref sig .tc := ⟨.hbm, 372, rfl⟩
abbrev main_v334 : Ref sig .tc := ⟨.hbm, 373, rfl⟩
abbrev main_v335 : Ref sig .tc := ⟨.hbm, 374, rfl⟩
abbrev main_v336 : Ref sig .tc := ⟨.hbm, 375, rfl⟩
abbrev main_v337 : Ref sig .tc := ⟨.hbm, 376, rfl⟩
abbrev main_v338 : Ref sig .tc := ⟨.hbm, 377, rfl⟩
abbrev main_v339 : Ref sig .tc := ⟨.hbm, 378, rfl⟩
abbrev main_v340 : Ref sig .tc := ⟨.hbm, 379, rfl⟩
abbrev main_v341 : Ref sig .tc := ⟨.hbm, 380, rfl⟩
abbrev main_v342 : Ref sig .tc := ⟨.hbm, 381, rfl⟩
abbrev main_v343 : Ref sig .tc := ⟨.hbm, 382, rfl⟩
abbrev main_v344 : Ref sig .tc := ⟨.hbm, 383, rfl⟩
abbrev main_v345 : Ref sig .tc := ⟨.hbm, 384, rfl⟩
abbrev main_v346 : Ref sig .tc := ⟨.hbm, 385, rfl⟩
abbrev main_v347 : Ref sig .tc := ⟨.hbm, 386, rfl⟩
abbrev main_v348 : Ref sig .tc := ⟨.hbm, 387, rfl⟩
abbrev main_v349 : Ref sig .tc := ⟨.hbm, 388, rfl⟩
abbrev main_v350 : Ref sig .tc := ⟨.hbm, 389, rfl⟩
abbrev main_v351 : Ref sig .tc := ⟨.hbm, 390, rfl⟩
abbrev main_v352 : Ref sig .tc := ⟨.hbm, 391, rfl⟩
abbrev main_v353 : Ref sig .tc := ⟨.hbm, 392, rfl⟩
abbrev main_v354 : Ref sig .tc := ⟨.hbm, 393, rfl⟩
abbrev main_v355 : Ref sig .tc := ⟨.hbm, 394, rfl⟩
abbrev main_v356 : Ref sig .tc := ⟨.hbm, 395, rfl⟩

abbrev nD : Nat := 1
abbrev τ : Topo := Topo.v7x

variable {F : FTy → Type} [FloatOps F]
-- ==== Kernel4.lean ====
abbrev S1x128x512 : Shape := ⟨3, ![1, 128, 512]⟩
abbrev S32x8x4x64 : Shape := ⟨4, ![32, 8, 4, 64]⟩
abbrev S32x4x1024 : Shape := ⟨3, ![32, 4, 1024]⟩
abbrev S32x6144 : Shape := ⟨2, ![32, 6144]⟩
abbrev S32x2x2816 : Shape := ⟨3, ![32, 2, 2816]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816x1024 : Shape := ⟨2, ![2816, 1024]⟩
abbrev S4x32x8x64 : Shape := ⟨4, ![4, 32, 8, 64]⟩
abbrev S1x128x4x128 : Shape := ⟨4, ![1, 128, 4, 128]⟩
abbrev S1x4x128x128 : Shape := ⟨4, ![1, 4, 128, 128]⟩
abbrev S4x32x1024 : Shape := ⟨3, ![4, 32, 1024]⟩
abbrev S1x128x1024 : Shape := ⟨3, ![1, 128, 1024]⟩
abbrev S32x6x1024 : Shape := ⟨3, ![32, 6, 1024]⟩
abbrev S6x32x1024 : Shape := ⟨3, ![6, 32, 1024]⟩
abbrev S6x1x32x1024 : Shape := ⟨4, ![6, 1, 32, 1024]⟩
abbrev S1x6x1x1x1x32x1x1024 : Shape := ⟨8, ![1, 6, 1, 1, 1, 32, 1, 1024]⟩
abbrev S1x6x4x1x1x32x1x1024 : Shape := ⟨8, ![1, 6, 4, 1, 1, 32, 1, 1024]⟩
abbrev S6x4x32x1024 : Shape := ⟨4, ![6, 4, 32, 1024]⟩
abbrev S1x6x128x1024 : Shape := ⟨4, ![1, 6, 128, 1024]⟩
abbrev S1x512 : Shape := ⟨2, ![1, 512]⟩
abbrev S1x1024 : Shape := ⟨2, ![1, 1024]⟩
abbrev S2x32x2816 : Shape := ⟨3, ![2, 32, 2816]⟩
abbrev S1x64x2816 : Shape := ⟨3, ![1, 64, 2816]⟩
abbrev S_ : Shape := ⟨0, ![]⟩
abbrev S192x2816 : Shape := ⟨2, ![192, 2816]⟩
abbrev S64x2816 : Shape := ⟨2, ![64, 2816]⟩
abbrev S1x1x128x128 : Shape := ⟨4, ![1, 1, 128, 128]⟩
abbrev S128x128 : Shape := ⟨2, ![128, 128]⟩
abbrev S128x512 : Shape := ⟨2, ![128, 512]⟩
abbrev S128 : Shape := ⟨1, ![128]⟩
abbrev S128x1 : Shape := ⟨2, ![128, 1]⟩
abbrev S512x1024 : Shape := ⟨2, ![512, 1024]⟩
abbrev S128x1024 : Shape := ⟨2, ![128, 1024]⟩
abbrev S1x1x128x1024 : Shape := ⟨4, ![1, 1, 128, 1024]⟩
abbrev S128x2816 : Shape := ⟨2, ![128, 2816]⟩
abbrev S1x2816 : Shape := ⟨2, ![1, 2816]⟩

abbrev nBuf : Space → Nat
  | .hbm => 41
  | .vmem => 17
  | .smem => 0
  | _ => 0

abbrev bufTy : (tb : Table) → Fin (tcTables nBuf tb) → BufTy
  | .hbm, ⟨0, _⟩ => ⟨S1x128x512, .bf16⟩
  | .hbm, ⟨1, _⟩ => ⟨S32x8x4x64, .f32⟩
  | .hbm, ⟨2, _⟩ => ⟨S32x4x1024, .f32⟩
  | .hbm, ⟨3, _⟩ => ⟨S32x6144, .f32⟩
  | .hbm, ⟨4, _⟩ => ⟨S32x2x2816, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S3x2816, .f32⟩
  | .hbm, ⟨12, _⟩ => ⟨S2816x1024, .f32⟩
  | .hbm, ⟨13, _⟩ => ⟨S1024, .f32⟩
  | .hbm, ⟨14, _⟩ => ⟨S4x32x8x64, .f32⟩
  | .hbm, ⟨15, _⟩ => ⟨S1x128x4x128, .f32⟩
  | .hbm, ⟨16, _⟩ => ⟨S1x4x128x128, .f32⟩
  | .hbm, ⟨17, _⟩ => ⟨S4x32x1024, .f32⟩
  | .hbm, ⟨18, _⟩ => ⟨S1x128x1024, .f32⟩
  | .hbm, ⟨19, _⟩ => ⟨S32x6x1024, .f32⟩
  | .hbm, ⟨20, _⟩ => ⟨S6x32x1024, .f32⟩
  | .hbm, ⟨21, _⟩ => ⟨S6x1x32x1024, .f32⟩
  | .hbm, ⟨22, _⟩ => ⟨S1x6x1x1x1x32x1x1024, .f32⟩
  | .hbm, ⟨23, _⟩ => ⟨S1x6x4x1x1x32x1x1024, .f32⟩
  | .hbm, ⟨24, _⟩ => ⟨S6x4x32x1024, .f32⟩
  | .hbm, ⟨25, _⟩ => ⟨S1x6x128x1024, .f32⟩
  | .hbm, ⟨26, _⟩ => ⟨S1x512, .f32⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S1024x2816, .bf16⟩
  | .hbm, ⟨31, _⟩ => ⟨S1024x2816, .bf16⟩
  | .hbm, ⟨32, _⟩ => ⟨S2816x1024, .bf16⟩
  | .hbm, ⟨33, _⟩ => ⟨S1x1024, .f32⟩
  | .hbm, ⟨34, _⟩ => ⟨S2x32x2816, .f32⟩
  | .hbm, ⟨35, _⟩ => ⟨S1x64x2816, .f32⟩
  | .hbm, ⟨36, _⟩ => ⟨S_, .i32⟩
  | .hbm, ⟨37, _⟩ => ⟨S_, .f32⟩
  | .hbm, ⟨38, _⟩ => ⟨S1x64x2816, .f32⟩
  | .hbm, ⟨39, _⟩ => ⟨S1x128x1024, .f32⟩
  | .hbm, ⟨40, _⟩ => ⟨S1x64x2816, .f32⟩
  | .local _ .vmem, ⟨0, _⟩ => ⟨S1x128x512, .bf16⟩
  | .local _ .vmem, ⟨1, _⟩ => ⟨S1x4x128x128, .f32⟩
  | .local _ .vmem, ⟨2, _⟩ => ⟨S1x128x1024, .f32⟩
  | .local _ .vmem, ⟨3, _⟩ => ⟨S1x6x128x1024, .f32⟩
  | .local _ .vmem, ⟨4, _⟩ => ⟨S1x512, .f32⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S3x2816, .f32⟩
  | .local _ .vmem, ⟨11, _⟩ => ⟨S2816x1024, .bf16⟩
  | .local _ .vmem, ⟨12, _⟩ => ⟨S1x1024, .f32⟩
  | .local _ .vmem, ⟨13, _⟩ => ⟨S1x64x2816, .f32⟩
  | .local _ .vmem, ⟨14, _⟩ => ⟨S1x128x1024, .f32⟩
  | .local _ .vmem, ⟨15, _⟩ => ⟨S1x64x2816, .f32⟩
  | .local _ .vmem, ⟨16, _⟩ => ⟨S192x2816, .f32⟩
  | _, _ => ⟨S1x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_call0_v0 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x64x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S1x128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x64x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== Reference4Ideal.lean ====
abbrev S1x128x512 : Shape := ⟨3, ![1, 128, 512]⟩
abbrev S32x8x4x64 : Shape := ⟨4, ![32, 8, 4, 64]⟩
abbrev S32x4x1024 : Shape := ⟨3, ![32, 4, 1024]⟩
abbrev S32x6144 : Shape := ⟨2, ![32, 6144]⟩
abbrev S32x2x2816 : Shape := ⟨3, ![32, 2, 2816]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816x1024 : Shape := ⟨2, ![2816, 1024]⟩
abbrev S4x32x512 : Shape := ⟨3, ![4, 32, 512]⟩
abbrev S32x4x512 : Shape := ⟨3, ![32, 4, 512]⟩
abbrev S32x4x8x64 : Shape := ⟨4, ![32, 4, 8, 64]⟩
abbrev S32x1024 : Shape := ⟨2, ![32, 1024]⟩
abbrev S32x1x1024 : Shape := ⟨3, ![32, 1, 1024]⟩
abbrev S_ : Shape := ⟨0, ![]⟩
abbrev S32x4 : Shape := ⟨2, ![32, 4]⟩
abbrev S32x4x1 : Shape := ⟨3, ![32, 4, 1]⟩
abbrev S1x1x512 : Shape := ⟨3, ![1, 1, 512]⟩
abbrev S1x1x1024 : Shape := ⟨3, ![1, 1, 1024]⟩
abbrev S32x4x2816 : Shape := ⟨3, ![32, 4, 2816]⟩
abbrev S32x6x2816 : Shape := ⟨3, ![32, 6, 2816]⟩
abbrev S1x2816 : Shape := ⟨2, ![1, 2816]⟩
abbrev S2816 : Shape := ⟨1, ![2816]⟩
abbrev S1x1x2816 : Shape := ⟨3, ![1, 1, 2816]⟩
abbrev S4x32x1024 : Shape := ⟨3, ![4, 32, 1024]⟩
abbrev S1x128x1024 : Shape := ⟨3, ![1, 128, 1024]⟩
abbrev S2x32x2816 : Shape := ⟨3, ![2, 32, 2816]⟩
abbrev S1x64x2816 : Shape := ⟨3, ![1, 64, 2816]⟩

abbrev nBuf : Space → Nat
  | .hbm => 149
  | .vmem => 0
  | .smem => 0
  | _ => 0

abbrev hbmTy0_0 (i : Nat) : BufTy := match i % 128 with
  | 0 => ⟨S1x128x512, .bf16⟩
  | 1 => ⟨S32x8x4x64, .f32⟩
  | 2 => ⟨S32x4x1024, .f32⟩
  | 3 => ⟨S32x6144, .f32⟩
  | 4 => ⟨S32x2x2816, .f32⟩
  | 5 => ⟨S512, .f32⟩
  | 6 => ⟨S1024x1024, .f32⟩
  | 7 => ⟨S1024, .f32⟩
  | 8 => ⟨S1024, .f32⟩
  | 9 => ⟨S1024x2816, .f32⟩
  | 10 => ⟨S1024x2816, .f32⟩
  | 11 => ⟨S3x2816, .f32⟩
  | 12 => ⟨S2816x1024, .f32⟩
  | 13 => ⟨S1024, .f32⟩
  | 14 => ⟨S4x32x512, .bf16⟩
  | 15 => ⟨S32x4x512, .bf16⟩
  | 16 => ⟨S32x4x8x64, .f32⟩
  | 17 => ⟨S32x4x512, .f32⟩
  | 18 => ⟨S32x1024, .f32⟩
  | 19 => ⟨S32x1024, .f32⟩
  | 20 => ⟨S32x1024, .f32⟩
  | 21 => ⟨S32x1024, .f32⟩
  | 22 => ⟨S32x1024, .f32⟩
  | 23 => ⟨S32x1024, .f32⟩
  | 24 => ⟨S32x1x1024, .f32⟩
  | 25 => ⟨S32x1x1024, .f32⟩
  | 26 => ⟨S32x1x1024, .f32⟩
  | 27 => ⟨S32x1x1024, .f32⟩
  | 28 => ⟨S32x1x1024, .f32⟩
  | 29 => ⟨S32x1x1024, .f32⟩
  | 30 => ⟨S32x4x512, .f32⟩
  | 31 => ⟨S32x4x512, .f32⟩
  | 32 => ⟨S_, .f32⟩
  | 33 => ⟨S32x4, .f32⟩
  | 34 => ⟨S32x4x1, .f32⟩
  | 35 => ⟨S_, .f32⟩
  | 36 => ⟨S32x4x1, .f32⟩
  | 37 => ⟨S32x4x1, .f32⟩
  | 38 => ⟨S_, .f32⟩
  | 39 => ⟨S32x4x1, .f32⟩
  | 40 => ⟨S32x4x1, .f32⟩
  | 41 => ⟨S32x4x1, .f32⟩
  | 42 => ⟨S32x4x512, .f32⟩
  | 43 => ⟨S32x4x512, .f32⟩
  | 44 => ⟨S1x1x512, .f32⟩
  | 45 => ⟨S32x4x512, .f32⟩
  | 46 => ⟨S32x4x512, .f32⟩
  | 47 => ⟨S32x4x1024, .f32⟩
  | 48 => ⟨S32x4x1024, .f32⟩
  | 49 => ⟨S32x4x1024, .f32⟩
  | 50 => ⟨S_, .f32⟩
  | 51 => ⟨S32x4, .f32⟩
  | 52 => ⟨S32x4x1, .f32⟩
  | 53 => ⟨S_, .f32⟩
  | 54 => ⟨S32x4x1, .f32⟩
  | 55 => ⟨S32x4x1, .f32⟩
  | 56 => ⟨S_, .f32⟩
  | 57 => ⟨S32x4x1, .f32⟩
  | 58 => ⟨S32x4x1, .f32⟩
  | 59 => ⟨S32x4x1, .f32⟩
  | 60 => ⟨S32x4x1024, .f32⟩
  | 61 => ⟨S32x4x1024, .f32⟩
  | 62 => ⟨S1x1x1024, .f32⟩
  | 63 => ⟨S32x4x1024, .f32⟩
  | 64 => ⟨S32x4x1024, .f32⟩
  | 65 => ⟨S32x4x1024, .f32⟩
  | 66 => ⟨S32x4x1024, .f32⟩
  | 67 => ⟨S32x4x1024, .f32⟩
  | 68 => ⟨S32x4x1024, .f32⟩
  | 69 => ⟨S_, .f32⟩
  | 70 => ⟨S32x4, .f32⟩
  | 71 => ⟨S32x4x1, .f32⟩
  | 72 => ⟨S_, .f32⟩
  | 73 => ⟨S32x4x1, .f32⟩
  | 74 => ⟨S32x4x1, .f32⟩
  | 75 => ⟨S_, .f32⟩
  | 76 => ⟨S32x4x1, .f32⟩
  | 77 => ⟨S32x4x1, .f32⟩
  | 78 => ⟨S32x4x1, .f32⟩
  | 79 => ⟨S32x4x1024, .f32⟩
  | 80 => ⟨S32x4x1024, .f32⟩
  | 81 => ⟨S1x1x1024, .f32⟩
  | 82 => ⟨S32x4x1024, .f32⟩
  | 83 => ⟨S32x4x1024, .f32⟩
  | 84 => ⟨S_, .f32⟩
  | 85 => ⟨S32x1x1024, .f32⟩
  | 86 => ⟨S32x1x1024, .f32⟩
  | 87 => ⟨S32x4x1024, .f32⟩
  | 88 => ⟨S32x4x1024, .f32⟩
  | 89 => ⟨S32x4x1024, .f32⟩
  | 90 => ⟨S32x4x1024, .f32⟩
  | 91 => ⟨S32x4x2816, .f32⟩
  | 92 => ⟨S32x6x2816, .f32⟩
  | 93 => ⟨S32x4x2816, .f32⟩
  | 94 => ⟨S1x2816, .f32⟩
  | 95 => ⟨S2816, .f32⟩
  | 96 => ⟨S1x1x2816, .f32⟩
  | 97 => ⟨S32x4x2816, .f32⟩
  | 98 => ⟨S32x4x2816, .f32⟩
  | 99 => ⟨S32x4x2816, .f32⟩
  | 100 => ⟨S1x2816, .f32⟩
  | 101 => ⟨S2816, .f32⟩
  | 102 => ⟨S1x1x2816, .f32⟩
  | 103 => ⟨S32x4x2816, .f32⟩
  | 104 => ⟨S32x4x2816, .f32⟩
  | 105 => ⟨S32x4x2816, .f32⟩
  | 106 => ⟨S32x4x2816, .f32⟩
  | 107 => ⟨S1x2816, .f32⟩
  | 108 => ⟨S2816, .f32⟩
  | 109 => ⟨S1x1x2816, .f32⟩
  | 110 => ⟨S32x4x2816, .f32⟩
  | 111 => ⟨S32x4x2816, .f32⟩
  | 112 => ⟨S32x4x2816, .f32⟩
  | 113 => ⟨S32x4x2816, .f32⟩
  | 114 => ⟨S32x4x2816, .f32⟩
  | 115 => ⟨S_, .f32⟩
  | 116 => ⟨S32x4x2816, .f32⟩
  | 117 => ⟨S32x4x2816, .f32⟩
  | 118 => ⟨S_, .f32⟩
  | 119 => ⟨S32x4x2816, .f32⟩
  | 120 => ⟨S32x4x2816, .f32⟩
  | 121 => ⟨S32x4x2816, .f32⟩
  | 122 => ⟨S32x4x2816, .f32⟩
  | 123 => ⟨S32x4x2816, .f32⟩
  | 124 => ⟨S32x4x1024, .f32⟩
  | 125 => ⟨S32x4x1024, .f32⟩
  | 126 => ⟨S_, .f32⟩
  | 127 => ⟨S32x4, .f32⟩
  | _ => ⟨S1x128x512, .bf16⟩

abbrev hbmTy0_1 (i : Nat) : BufTy := match i % 128 with
  | 0 => ⟨S32x4x1, .f32⟩
  | 1 => ⟨S_, .f32⟩
  | 2 => ⟨S32x4x1, .f32⟩
  | 3 => ⟨S32x4x1, .f32⟩
  | 4 => ⟨S_, .f32⟩
  | 5 => ⟨S32x4x1, .f32⟩
  | 6 => ⟨S32x4x1, .f32⟩
  | 7 => ⟨S32x4x1, .f32⟩
  | 8 => ⟨S32x4x1024, .f32⟩
  | 9 => ⟨S32x4x1024, .f32⟩
  | 10 => ⟨S1x1x1024, .f32⟩
  | 11 => ⟨S32x4x1024, .f32⟩
  | 12 => ⟨S32x4x1024, .f32⟩
  | 13 => ⟨S32x4x1024, .f32⟩
  | 14 => ⟨S32x4x1024, .f32⟩
  | 15 => ⟨S32x4x1024, .f32⟩
  | 16 => ⟨S4x32x1024, .f32⟩
  | 17 => ⟨S1x128x1024, .f32⟩
  | 18 => ⟨S32x2x2816, .f32⟩
  | 19 => ⟨S2x32x2816, .f32⟩
  | 20 => ⟨S1x64x2816, .f32⟩
  | _ => ⟨S1x128x512, .bf16⟩

abbrev hbmTy (i : Nat) : BufTy := match i / 128 with
  | 0 => hbmTy0_0 i
  | 1 => hbmTy0_1 i
  | _ => ⟨S1x128x512, .bf16⟩

abbrev bufTy : (tb : Table) → Fin (tcTables nBuf tb) → BufTy
  | .hbm, ⟨i, _⟩ => hbmTy i
  | _, _ => ⟨S1x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_call0_v0 : Ref sig .tc := ⟨.hbm, 113, rfl⟩
abbrev main_call0_v1 : Ref sig .tc := ⟨.hbm, 114, rfl⟩
abbrev main_call0_cst : Ref sig .tc := ⟨.hbm, 115, rfl⟩
abbrev main_call0_v2 : Ref sig .tc := ⟨.hbm, 116, rfl⟩
abbrev main_call0_v3 : Ref sig .tc := ⟨.hbm, 117, rfl⟩
abbrev main_call0_cst_0 : Ref sig .tc := ⟨.hbm, 118, rfl⟩
abbrev main_call0_v4 : Ref sig .tc := ⟨.hbm, 119, rfl⟩
abbrev main_call0_v5 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_9 : Ref sig .tc := ⟨.hbm, 126, rfl⟩
abbrev main_v94 : Ref sig .tc := ⟨.hbm, 127, rfl⟩
abbrev main_v95 : Ref sig .tc := ⟨.hbm, 128, rfl⟩
abbrev main_cst_10 : Ref sig .tc := ⟨.hbm, 129, rfl⟩
abbrev main_v96 : Ref sig .tc := ⟨.hbm, 130, rfl⟩
abbrev main_v97 : Ref sig .tc := ⟨.hbm, 131, rfl⟩
abbrev main_cst_11 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩

abbrev nD : Nat := 1
abbrev τ : Topo := Topo.v7x

variable {F : FTy → Type} [FloatOps F]
-- ==== Kernel5.lean ====
abbrev S32x4x1024 : Shape := ⟨3, ![32, 4, 1024]⟩
abbrev S32x6144 : Shape := ⟨2, ![32, 6144]⟩
abbrev S32x30x256 : Shape := ⟨3, ![32, 30, 256]⟩
abbrev S32x2x256 : Shape := ⟨3, ![32, 2, 256]⟩
abbrev S1024 : Shape := ⟨1, ![1024]⟩
abbrev S1024x2816 : Shape := ⟨2, ![1024, 2816]⟩
abbrev S31x256 : Shape := ⟨2, ![31, 256]⟩
abbrev S256 : Shape := ⟨1, ![256]⟩
abbrev S3x256 : Shape := ⟨2, ![3, 256]⟩
abbrev S512 : Shape := ⟨1, ![512]⟩
abbrev S4x32x1024 : Shape := ⟨3, ![4, 32, 1024]⟩
abbrev S1x128x1024 : Shape := ⟨3, ![1, 128, 1024]⟩
abbrev S32x6x1024 : Shape := ⟨3, ![32, 6, 1024]⟩
abbrev S6x32x1024 : Shape := ⟨3, ![6, 32, 1024]⟩
abbrev S6x1x32x1024 : Shape := ⟨4, ![6, 1, 32, 1024]⟩
abbrev S1x6x1x1x1x32x1x1024 : Shape := ⟨8, ![1, 6, 1, 1, 1, 32, 1, 1024]⟩
abbrev S1x6x4x1x1x32x1x1024 : Shape := ⟨8, ![1, 6, 4, 1, 1, 32, 1, 1024]⟩
abbrev S6x4x32x1024 : Shape := ⟨4, ![6, 4, 32, 1024]⟩
abbrev S1x6x128x1024 : Shape := ⟨4, ![1, 6, 128, 1024]⟩
abbrev S1x1024 : Shape := ⟨2, ![1, 1024]⟩
abbrev S1x256 : Shape := ⟨2, ![1, 256]⟩
abbrev S1x512 : Shape := ⟨2, ![1, 512]⟩
abbrev S30x32x256 : Shape := ⟨3, ![30, 32, 256]⟩
abbrev S1x960x256 : Shape := ⟨3, ![1, 960, 256]⟩
abbrev S_ : Shape := ⟨0, ![]⟩
abbrev S2x32x256 : Shape := ⟨3, ![2, 32, 256]⟩
abbrev S1x64x256 : Shape := ⟨3, ![1, 64, 256]⟩
abbrev S1x128x512 : Shape := ⟨3, ![1, 128, 512]⟩
abbrev S1x4x128x128 : Shape := ⟨4, ![1, 4, 128, 128]⟩
abbrev S1088x256 : Shape := ⟨2, ![1088, 256]⟩
abbrev S192x256 : Shape := ⟨2, ![192, 256]⟩
abbrev S960x256 : Shape := ⟨2, ![960, 256]⟩
abbrev S64x256 : Shape := ⟨2, ![64, 256]⟩
abbrev S128x1024 : Shape := ⟨2, ![128, 1024]⟩
abbrev S128 : Shape := ⟨1, ![128]⟩
abbrev S128x1 : Shape := ⟨2, ![128, 1]⟩
abbrev S1x1x128x1024 : Shape := ⟨4, ![1, 1, 128, 1024]⟩
abbrev S1024x512 : Shape := ⟨2, ![1024, 512]⟩
abbrev S128x512 : Shape := ⟨2, ![128, 512]⟩
abbrev S128x256 : Shape := ⟨2, ![128, 256]⟩
abbrev S1024x768 : Shape := ⟨2, ![1024, 768]⟩
abbrev S128x768 : Shape := ⟨2, ![128, 768]⟩
abbrev S128x128 : Shape := ⟨2, ![128, 128]⟩
abbrev S1x1x128x128 : Shape := ⟨4, ![1, 1, 128, 128]⟩
abbrev S1x128x256 : Shape := ⟨3, ![1, 128, 256]⟩

abbrev nBuf : Space → Nat
  | .hbm => 47
  | .vmem => 21
  | .smem => 0
  | _ => 0

abbrev bufTy : (tb : Table) → Fin (tcTables nBuf tb) → BufTy
  | .hbm, ⟨0, _⟩ => ⟨S32x4x1024, .f32⟩
  | .hbm, ⟨1, _⟩ => ⟨S32x6144, .f32⟩
  | .hbm, ⟨2, _⟩ => ⟨S32x30x256, .f32⟩
  | .hbm, ⟨3, _⟩ => ⟨S32x2x256, .f32⟩
  | .hbm, ⟨4, _⟩ => ⟨S1024, .f32⟩
  | .hbm, ⟨5, _⟩ => ⟨S1024x2816, .f32⟩
  | .hbm, ⟨6, _⟩ => ⟨S31x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S3x256, .f32⟩
  | .hbm, ⟨11, _⟩ => ⟨S256, .f32⟩
  | .hbm, ⟨12, _⟩ => ⟨S256, .f32⟩
  | .hbm, ⟨13, _⟩ => ⟨S512, .f32⟩
  | .hbm, ⟨14, _⟩ => ⟨S4x32x1024, .f32⟩
  | .hbm, ⟨15, _⟩ => ⟨S1x128x1024, .f32⟩
  | .hbm, ⟨16, _⟩ => ⟨S32x6x1024, .f32⟩
  | .hbm, ⟨17, _⟩ => ⟨S6x32x1024, .f32⟩
  | .hbm, ⟨18, _⟩ => ⟨S6x1x32x1024, .f32⟩
  | .hbm, ⟨19, _⟩ => ⟨S1x6x1x1x1x32x1x1024, .f32⟩
  | .hbm, ⟨20, _⟩ => ⟨S1x6x4x1x1x32x1x1024, .f32⟩
  | .hbm, ⟨21, _⟩ => ⟨S6x4x32x1024, .f32⟩
  | .hbm, ⟨22, _⟩ => ⟨S1x6x128x1024, .f32⟩
  | .hbm, ⟨23, _⟩ => ⟨S1x1024, .f32⟩
  | .hbm, ⟨24, _⟩ => ⟨S1024x2816, .bf16⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x512, .f32⟩
  | .hbm, ⟨31, _⟩ => ⟨S30x32x256, .f32⟩
  | .hbm, ⟨32, _⟩ => ⟨S1x960x256, .f32⟩
  | .hbm, ⟨33, _⟩ => ⟨S_, .i32⟩
  | .hbm, ⟨34, _⟩ => ⟨S_, .f32⟩
  | .hbm, ⟨35, _⟩ => ⟨S1x960x256, .f32⟩
  | .hbm, ⟨36, _⟩ => ⟨S2x32x256, .f32⟩
  | .hbm, ⟨37, _⟩ => ⟨S1x64x256, .f32⟩
  | .hbm, ⟨38, _⟩ => ⟨S_, .i32⟩
  | .hbm, ⟨39, _⟩ => ⟨S_, .f32⟩
  | .hbm, ⟨40, _⟩ => ⟨S1x64x256, .f32⟩
  | .hbm, ⟨41, _⟩ => ⟨S1x128x512, .bf16⟩
  | .hbm, ⟨42, _⟩ => ⟨S1x4x128x128, .f32⟩
  | .hbm, ⟨43, _⟩ => ⟨S1x4x128x128, .f32⟩
  | .hbm, ⟨44, _⟩ => ⟨S1x4x128x128, .f32⟩
  | .hbm, ⟨45, _⟩ => ⟨S1x960x256, .f32⟩
  | .hbm, ⟨46, _⟩ => ⟨S1x64x256, .f32⟩
  | .local _ .vmem, ⟨0, _⟩ => ⟨S1x128x1024, .f32⟩
  | .local _ .vmem, ⟨1, _⟩ => ⟨S1x6x128x1024, .f32⟩
  | .local _ .vmem, ⟨2, _⟩ => ⟨S1x1024, .f32⟩
  | .local _ .vmem, ⟨3, _⟩ => ⟨S1024x2816, .bf16⟩
  | .local _ .vmem, ⟨4, _⟩ => ⟨S31x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1x960x256, .f32⟩
  | .local _ .vmem, ⟨12, _⟩ => ⟨S1x64x256, .f32⟩
  | .local _ .vmem, ⟨13, _⟩ => ⟨S1x128x512, .bf16⟩
  | .local _ .vmem, ⟨14, _⟩ => ⟨S1x4x128x128, .f32⟩
  | .local _ .vmem, ⟨15, _⟩ => ⟨S1x4x128x128, .f32⟩
  | .local _ .vmem, ⟨16, _⟩ => ⟨S1x4x128x128, .f32⟩
  | .local _ .vmem, ⟨17, _⟩ => ⟨S1x960x256, .f32⟩
  | .local _ .vmem, ⟨18, _⟩ => ⟨S1x64x256, .f32⟩
  | .local _ .vmem, ⟨19, _⟩ => ⟨S1088x256, .f32⟩
  | .local _ .vmem, ⟨20, _⟩ => ⟨S192x256, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_0 : Ref sig .tc := ⟨.hbm, 38, rfl⟩
abbrev main_call1_v0 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev main_v23_3 : Ref sig .tc := ⟨.hbm, 44, rfl⟩
abbrev main_v23_4 : Ref sig .tc := ⟨.hbm, 45, rfl⟩
abbrev main_v23_5 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x960x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x64x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S1x128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x960x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]

abbrev stage0_18 : Fin 1 → Memref sig .tc .vmem S1x64x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false]
-- ==== Reference5Ideal.lean ====
abbrev S32x4x1024 : Shape := ⟨3, ![32, 4, 1024]⟩
abbrev S32x6144 : Shape := ⟨2, ![32, 6144]⟩
abbrev S32x30x256 : Shape := ⟨3, ![32, 30, 256]⟩
abbrev S32x2x256 : Shape := ⟨3, ![32, 2, 256]⟩
abbrev S1024 : Shape := ⟨1, ![1024]⟩
abbrev S1024x2816 : Shape := ⟨2, ![1024, 2816]⟩
abbrev S31x256 : Shape := ⟨2, ![31, 256]⟩
abbrev S256 : Shape := ⟨1, ![256]⟩
abbrev S3x256 : Shape := ⟨2, ![3, 256]⟩
abbrev S512 : Shape := ⟨1, ![512]⟩
abbrev S32x1024 : Shape := ⟨2, ![32, 1024]⟩
abbrev S32x1x1024 : Shape := ⟨3, ![32, 1, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2816 : Shape := ⟨3, ![32, 4, 2816]⟩
abbrev S32x4x256 : Shape := ⟨3, ![32, 4, 256]⟩
abbrev S32x4x512 : Shape := ⟨3, ![32, 4, 512]⟩
abbrev S32x34x256 : Shape := ⟨3, ![32, 34, 256]⟩
abbrev S1x256 : Shape := ⟨2, ![1, 256]⟩
abbrev S1x1x256 : Shape := ⟨3, ![1, 1, 256]⟩
abbrev S32x6x256 : Shape := ⟨3, ![32, 6, 256]⟩
abbrev S4x32x512 : Shape := ⟨3, ![4, 32, 512]⟩
abbrev S1x128x512 : Shape := ⟨3, ![1, 128, 512]⟩
abbrev S32x4x4x128 : Shape := ⟨4, ![32, 4, 4, 128]⟩
abbrev S4x4x32x128 : Shape := ⟨4, ![4, 4, 32, 128]⟩
abbrev S1x4x128x128 : Shape := ⟨4, ![1, 4, 128, 128]⟩
abbrev S30x32x256 : Shape := ⟨3, ![30, 32, 256]⟩
abbrev S1x960x256 : Shape := ⟨3, ![1, 960, 256]⟩
abbrev S2x32x256 : Shape := ⟨3, ![2, 32, 256]⟩
abbrev S1x64x256 : Shape := ⟨3, ![1, 64, 256]⟩

abbrev nBuf : Space → Nat
  | .hbm => 397
  | .vmem => 0
  | .smem => 0
  | _ => 0

abbrev hbmTy0_0 (i : Nat) : BufTy := match i % 128 with
  | 0 => ⟨S32x4x1024, .f32⟩
  | 1 => ⟨S32x6144, .f32⟩
  | 2 => ⟨S32x30x256, .f32⟩
  | 3 => ⟨S32x2x256, .f32⟩
  | 4 => ⟨S1024, .f32⟩
  | 5 => ⟨S1024x2816, .f32⟩
  | 6 => ⟨S31x256, .f32⟩
  | 7 => ⟨S256, .f32⟩
  | 8 => ⟨S256, .f32⟩
  | 9 => ⟨S256, .f32⟩
  | 10 => ⟨S3x256, .f32⟩
  | 11 => ⟨S256, .f32⟩
  | 12 => ⟨S256, .f32⟩
  | 13 => ⟨S512, .f32⟩
  | 14 => ⟨S32x1024, .f32⟩
  | 15 => ⟨S32x1024, .f32⟩
  | 16 => ⟨S32x1024, .f32⟩
  | 17 => ⟨S32x1024, .f32⟩
  | 18 => ⟨S32x1024, .f32⟩
  | 19 => ⟨S32x1024, .f32⟩
  | 20 => ⟨S32x1x1024, .f32⟩
  | 21 => ⟨S32x1x1024, .f32⟩
  | 22 => ⟨S32x1x1024, .f32⟩
  | 23 => ⟨S32x1x1024, .f32⟩
  | 24 => ⟨S32x1x1024, .f32⟩
  | 25 => ⟨S32x1x1024, .f32⟩
  | 26 => ⟨S32x4x1024, .f32⟩
  | 27 => ⟨S_, .f32⟩
  | 28 => ⟨S32x4, .f32⟩
  | 29 => ⟨S32x4x1, .f32⟩
  | 30 => ⟨S_, .f32⟩
  | 31 => ⟨S32x4x1, .f32⟩
  | 32 => ⟨S32x4x1, .f32⟩
  | 33 => ⟨S_, .f32⟩
  | 34 => ⟨S32x4x1, .f32⟩
  | 35 => ⟨S32x4x1, .f32⟩
  | 36 => ⟨S32x4x1, .f32⟩
  | 37 => ⟨S32x4x1024, .f32⟩
  | 38 => ⟨S32x4x1024, .f32⟩
  | 39 => ⟨S1x1x1024, .f32⟩
  | 40 => ⟨S32x4x1024, .f32⟩
  | 41 => ⟨S32x4x1024, .f32⟩
  | 42 => ⟨S_, .f32⟩
  | 43 => ⟨S32x1x1024, .f32⟩
  | 44 => ⟨S32x1x1024, .f32⟩
  | 45 => ⟨S32x4x1024, .f32⟩
  | 46 => ⟨S32x4x1024, .f32⟩
  | 47 => ⟨S32x4x1024, .f32⟩
  | 48 => ⟨S32x4x1024, .f32⟩
  | 49 => ⟨S32x4x2816, .f32⟩
  | 50 => ⟨S32x4x256, .f32⟩
  | 51 => ⟨S32x4x256, .f32⟩
  | 52 => ⟨S32x4x256, .f32⟩
  | 53 => ⟨S32x4x256, .f32⟩
  | 54 => ⟨S32x4x256, .f32⟩
  | 55 => ⟨S32x4x512, .f32⟩
  | 56 => ⟨S32x4x512, .f32⟩
  | 57 => ⟨S32x4x512, .f32⟩
  | 58 => ⟨S32x4x256, .f32⟩
  | 59 => ⟨S32x4x256, .f32⟩
  | 60 => ⟨S_, .f32⟩
  | 61 => ⟨S32x4x256, .f32⟩
  | 62 => ⟨S32x4x256, .f32⟩
  | 63 => ⟨S_, .f32⟩
  | 64 => ⟨S32x4x256, .f32⟩
  | 65 => ⟨S32x4x256, .f32⟩
  | 66 => ⟨S32x4x256, .f32⟩
  | 67 => ⟨S32x34x256, .f32⟩
  | 68 => ⟨S32x4x256, .f32⟩
  | 69 => ⟨S1x256, .f32⟩
  | 70 => ⟨S256, .f32⟩
  | 71 => ⟨S1x1x256, .f32⟩
  | 72 => ⟨S32x4x256, .f32⟩
  | 73 => ⟨S32x4x256, .f32⟩
  | 74 => ⟨S32x4x256, .f32⟩
  | 75 => ⟨S1x256, .f32⟩
  | 76 => ⟨S256, .f32⟩
  | 77 => ⟨S1x1x256, .f32⟩
  | 78 => ⟨S32x4x256, .f32⟩
  | 79 => ⟨S32x4x256, .f32⟩
  | 80 => ⟨S32x4x256, .f32⟩
  | 81 => ⟨S32x4x256, .f32⟩
  | 82 => ⟨S1x256, .f32⟩
  | 83 => ⟨S256, .f32⟩
  | 84 => ⟨S1x1x256, .f32⟩
  | 85 => ⟨S32x4x256, .f32⟩
  | 86 => ⟨S32x4x256, .f32⟩
  | 87 => ⟨S32x4x256, .f32⟩
  | 88 => ⟨S32x4x256, .f32⟩
  | 89 => ⟨S1x256, .f32⟩
  | 90 => ⟨S256, .f32⟩
  | 91 => ⟨S1x1x256, .f32⟩
  | 92 => ⟨S32x4x256, .f32⟩
  | 93 => ⟨S32x4x256, .f32⟩
  | 94 => ⟨S32x4x256, .f32⟩
  | 95 => ⟨S32x4x256, .f32⟩
  | 96 => ⟨S1x256, .f32⟩
  | 97 => ⟨S256, .f32⟩
  | 98 => ⟨S1x1x256, .f32⟩
  | 99 => ⟨S32x4x256, .f32⟩
  | 100 => ⟨S32x4x256, .f32⟩
  | 101 => ⟨S32x4x256, .f32⟩
  | 102 => ⟨S32x4x256, .f32⟩
  | 103 => ⟨S1x256, .f32⟩
  | 104 => ⟨S256, .f32⟩
  | 105 => ⟨S1x1x256, .f32⟩
  | 106 => ⟨S32x4x256, .f32⟩
  | 107 => ⟨S32x4x256, .f32⟩
  | 108 => ⟨S32x4x256, .f32⟩
  | 109 => ⟨S32x4x256, .f32⟩
  | 110 => ⟨S1x256, .f32⟩
  | 111 => ⟨S256, .f32⟩
  | 112 => ⟨S1x1x256, .f32⟩
  | 113 => ⟨S32x4x256, .f32⟩
  | 114 => ⟨S32x4x256, .f32⟩
  | 115 => ⟨S32x4x256, .f32⟩
  | 116 => ⟨S32x4x256, .f32⟩
  | 117 => ⟨S1x256, .f32⟩
  | 118 => ⟨S256, .f32⟩
  | 119 => ⟨S1x1x256, .f32⟩
  | 120 => ⟨S32x4x256, .f32⟩
  | 121 => ⟨S32x4x256, .f32⟩
  | 122 => ⟨S32x4x256, .f32⟩
  | 123 => ⟨S32x4x256, .f32⟩
  | 124 => ⟨S1x256, .f32⟩
  | 125 => ⟨S256, .f32⟩
  | 126 => ⟨S1x1x256, .f32⟩
  | 127 => ⟨S32x4x256, .f32⟩
  | _ => ⟨S32x4x1024, .f32⟩

abbrev hbmTy0_1 (i : Nat) : BufTy := match i % 128 with
  | 0 => ⟨S32x4x256, .f32⟩
  | 1 => ⟨S32x4x256, .f32⟩
  | 2 => ⟨S32x4x256, .f32⟩
  | 3 => ⟨S1x256, .f32⟩
  | 4 => ⟨S256, .f32⟩
  | 5 => ⟨S1x1x256, .f32⟩
  | 6 => ⟨S32x4x256, .f32⟩
  | 7 => ⟨S32x4x256, .f32⟩
  | 8 => ⟨S32x4x256, .f32⟩
  | 9 => ⟨S32x4x256, .f32⟩
  | 10 => ⟨S1x256, .f32⟩
  | 11 => ⟨S256, .f32⟩
  | 12 => ⟨S1x1x256, .f32⟩
  | 13 => ⟨S32x4x256, .f32⟩
  | 14 => ⟨S32x4x256, .f32⟩
  | 15 => ⟨S32x4x256, .f32⟩
  | 16 => ⟨S32x4x256, .f32⟩
  | 17 => ⟨S1x256, .f32⟩
  | 18 => ⟨S256, .f32⟩
  | 19 => ⟨S1x1x256, .f32⟩
  | 20 => ⟨S32x4x256, .f32⟩
  | 21 => ⟨S32x4x256, .f32⟩
  | 22 => ⟨S32x4x256, .f32⟩
  | 23 => ⟨S32x4x256, .f32⟩
  | 24 => ⟨S1x256, .f32⟩
  | 25 => ⟨S256, .f32⟩
  | 26 => ⟨S1x1x256, .f32⟩
  | 27 => ⟨S32x4x256, .f32⟩
  | 28 => ⟨S32x4x256, .f32⟩
  | 29 => ⟨S32x4x256, .f32⟩
  | 30 => ⟨S32x4x256, .f32⟩
  | 31 => ⟨S1x256, .f32⟩
  | 32 => ⟨S256, .f32⟩
  | 33 => ⟨S1x1x256, .f32⟩
  | 34 => ⟨S32x4x256, .f32⟩
  | 35 => ⟨S32x4x256, .f32⟩
  | 36 => ⟨S32x4x256, .f32⟩
  | 37 => ⟨S32x4x256, .f32⟩
  | 38 => ⟨S1x256, .f32⟩
  | 39 => ⟨S256, .f32⟩
  | 40 => ⟨S1x1x256, .f32⟩
  | 41 => ⟨S32x4x256, .f32⟩
  | 42 => ⟨S32x4x256, .f32⟩
  | 43 => ⟨S32x4x256, .f32⟩
  | 44 => ⟨S32x4x256, .f32⟩
  | 45 => ⟨S1x256, .f32⟩
  | 46 => ⟨S256, .f32⟩
  | 47 => ⟨S1x1x256, .f32⟩
  | 48 => ⟨S32x4x256, .f32⟩
  | 49 => ⟨S32x4x256, .f32⟩
  | 50 => ⟨S32x4x256, .f32⟩
  | 51 => ⟨S32x4x256, .f32⟩
  | 52 => ⟨S1x256, .f32⟩
  | 53 => ⟨S256, .f32⟩
  | 54 => ⟨S1x1x256, .f32⟩
  | 55 => ⟨S32x4x256, .f32⟩
  | 56 => ⟨S32x4x256, .f32⟩
  | 57 => ⟨S32x4x256, .f32⟩
  | 58 => ⟨S32x4x256, .f32⟩
  | 59 => ⟨S1x256, .f32⟩
  | 60 => ⟨S256, .f32⟩
  | 61 => ⟨S1x1x256, .f32⟩
  | 62 => ⟨S32x4x256, .f32⟩
  | 63 => ⟨S32x4x256, .f32⟩
  | 64 => ⟨S32x4x256, .f32⟩
  | 65 => ⟨S32x4x256, .f32⟩
  | 66 => ⟨S1x256, .f32⟩
  | 67 => ⟨S256, .f32⟩
  | 68 => ⟨S1x1x256, .f32⟩
  | 69 => ⟨S32x4x256, .f32⟩
  | 70 => ⟨S32x4x256, .f32⟩
  | 71 => ⟨S32x4x256, .f32⟩
  | 72 => ⟨S32x4x256, .f32⟩
  | 73 => ⟨S1x256, .f32⟩
  | 74 => ⟨S256, .f32⟩
  | 75 => ⟨S1x1x256, .f32⟩
  | 76 => ⟨S32x4x256, .f32⟩
  | 77 => ⟨S32x4x256, .f32⟩
  | 78 => ⟨S32x4x256, .f32⟩
  | 79 => ⟨S32x4x256, .f32⟩
  | 80 => ⟨S1x256, .f32⟩
  | 81 => ⟨S256, .f32⟩
  | 82 => ⟨S1x1x256, .f32⟩
  | 83 => ⟨S32x4x256, .f32⟩
  | 84 => ⟨S32x4x256, .f32⟩
  | 85 => ⟨S32x4x256, .f32⟩
  | 86 => ⟨S32x4x256, .f32⟩
  | 87 => ⟨S1x256, .f32⟩
  | 88 => ⟨S256, .f32⟩
  | 89 => ⟨S1x1x256, .f32⟩
  | 90 => ⟨S32x4x256, .f32⟩
  | 91 => ⟨S32x4x256, .f32⟩
  | 92 => ⟨S32x4x256, .f32⟩
  | 93 => ⟨S32x4x256, .f32⟩
  | 94 => ⟨S1x256, .f32⟩
  | 95 => ⟨S256, .f32⟩
  | 96 => ⟨S1x1x256, .f32⟩
  | 97 => ⟨S32x4x256, .f32⟩
  | 98 => ⟨S32x4x256, .f32⟩
  | 99 => ⟨S32x4x256, .f32⟩
  | 100 => ⟨S32x4x256, .f32⟩
  | 101 => ⟨S1x256, .f32⟩
  | 102 => ⟨S256, .f32⟩
  | 103 => ⟨S1x1x256, .f32⟩
  | 104 => ⟨S32x4x256, .f32⟩
  | 105 => ⟨S32x4x256, .f32⟩
  | 106 => ⟨S32x4x256, .f32⟩
  | 107 => ⟨S32x4x256, .f32⟩
  | 108 => ⟨S1x256, .f32⟩
  | 109 => ⟨S256, .f32⟩
  | 110 => ⟨S1x1x256, .f32⟩
  | 111 => ⟨S32x4x256, .f32⟩
  | 112 => ⟨S32x4x256, .f32⟩
  | 113 => ⟨S32x4x256, .f32⟩
  | 114 => ⟨S32x4x256, .f32⟩
  | 115 => ⟨S1x256, .f32⟩
  | 116 => ⟨S256, .f32⟩
  | 117 => ⟨S1x1x256, .f32⟩
  | 118 => ⟨S32x4x256, .f32⟩
  | 119 => ⟨S32x4x256, .f32⟩
  | 120 => ⟨S32x4x256, .f32⟩
  | 121 => ⟨S32x4x256, .f32⟩
  | 122 => ⟨S1x256, .f32⟩
  | 123 => ⟨S256, .f32⟩
  | 124 => ⟨S1x1x256, .f32⟩
  | 125 => ⟨S32x4x256, .f32⟩
  | 126 => ⟨S32x4x256, .f32⟩
  | 127 => ⟨S32x4x256, .f32⟩
  | _ => ⟨S32x4x1024, .f32⟩

abbrev hbmTy0_2 (i : Nat) : BufTy := match i % 128 with
  | 0 => ⟨S32x4x256, .f32⟩
  | 1 => ⟨S1x256, .f32⟩
  | 2 => ⟨S256, .f32⟩
  | 3 => ⟨S1x1x256, .f32⟩
  | 4 => ⟨S32x4x256, .f32⟩
  | 5 => ⟨S32x4x256, .f32⟩
  | 6 => ⟨S32x4x256, .f32⟩
  | 7 => ⟨S32x4x256, .f32⟩
  | 8 => ⟨S1x256, .f32⟩
  | 9 => ⟨S256, .f32⟩
  | 10 => ⟨S1x1x256, .f32⟩
  | 11 => ⟨S32x4x256, .f32⟩
  | 12 => ⟨S32x4x256, .f32⟩
  | 13 => ⟨S32x4x256, .f32⟩
  | 14 => ⟨S32x4x256, .f32⟩
  | 15 => ⟨S1x256, .f32⟩
  | 16 => ⟨S256, .f32⟩
  | 17 => ⟨S1x1x256, .f32⟩
  | 18 => ⟨S32x4x256, .f32⟩
  | 19 => ⟨S32x4x256, .f32⟩
  | 20 => ⟨S32x4x256, .f32⟩
  | 21 => ⟨S32x4x256, .f32⟩
  | 22 => ⟨S1x256, .f32⟩
  | 23 => ⟨S256, .f32⟩
  | 24 => ⟨S1x1x256, .f32⟩
  | 25 => ⟨S32x4x256, .f32⟩
  | 26 => ⟨S32x4x256, .f32⟩
  | 27 => ⟨S32x4x256, .f32⟩
  | 28 => ⟨S1x1x256, .f32⟩
  | 29 => ⟨S32x4x256, .f32⟩
  | 30 => ⟨S32x4x256, .f32⟩
  | 31 => ⟨S_, .f32⟩
  | 32 => ⟨S32x4, .f32⟩
  | 33 => ⟨S32x4x1, .f32⟩
  | 34 => ⟨S_, .f32⟩
  | 35 => ⟨S32x4x1, .f32⟩
  | 36 => ⟨S32x4x1, .f32⟩
  | 37 => ⟨S32x4x256, .f32⟩
  | 38 => ⟨S32x4x256, .f32⟩
  | 39 => ⟨S32x4x256, .f32⟩
  | 40 => ⟨S_, .f32⟩
  | 41 => ⟨S32x4, .f32⟩
  | 42 => ⟨S32x4x1, .f32⟩
  | 43 => ⟨S_, .f32⟩
  | 44 => ⟨S32x4x1, .f32⟩
  | 45 => ⟨S32x4x1, .f32⟩
  | 46 => ⟨S_, .f32⟩
  | 47 => ⟨S32x4x1, .f32⟩
  | 48 => ⟨S32x4x1, .f32⟩
  | 49 => ⟨S32x4x1, .f32⟩
  | 50 => ⟨S32x4x256, .f32⟩
  | 51 => ⟨S32x4x256, .f32⟩
  | 52 => ⟨S1x1x256, .f32⟩
  | 53 => ⟨S32x4x256, .f32⟩
  | 54 => ⟨S32x4x256, .f32⟩
  | 55 => ⟨S1x1x256, .f32⟩
  | 56 => ⟨S32x4x256, .f32⟩
  | 57 => ⟨S32x4x256, .f32⟩
  | 58 => ⟨S32x4x256, .f32⟩
  | 59 => ⟨S32x4x256, .f32⟩
  | 60 => ⟨S_, .f32⟩
  | 61 => ⟨S32x4x256, .f32⟩
  | 62 => ⟨S32x4x256, .f32⟩
  | 63 => ⟨S_, .f32⟩
  | 64 => ⟨S32x4x256, .f32⟩
  | 65 => ⟨S32x4x256, .f32⟩
  | 66 => ⟨S32x4x256, .f32⟩
  | 67 => ⟨S32x4x256, .f32⟩
  | 68 => ⟨S32x6x256, .f32⟩
  | 69 => ⟨S32x4x256, .f32⟩
  | 70 => ⟨S1x256, .f32⟩
  | 71 => ⟨S256, .f32⟩
  | 72 => ⟨S1x1x256, .f32⟩
  | 73 => ⟨S32x4x256, .f32⟩
  | 74 => ⟨S32x4x256, .f32⟩
  | 75 => ⟨S32x4x256, .f32⟩
  | 76 => ⟨S1x256, .f32⟩
  | 77 => ⟨S256, .f32⟩
  | 78 => ⟨S1x1x256, .f32⟩
  | 79 => ⟨S32x4x256, .f32⟩
  | 80 => ⟨S32x4x256, .f32⟩
  | 81 => ⟨S32x4x256, .f32⟩
  | 82 => ⟨S32x4x256, .f32⟩
  | 83 => ⟨S1x256, .f32⟩
  | 84 => ⟨S256, .f32⟩
  | 85 => ⟨S1x1x256, .f32⟩
  | 86 => ⟨S32x4x256, .f32⟩
  | 87 => ⟨S32x4x256, .f32⟩
  | 88 => ⟨S32x4x256, .f32⟩
  | 89 => ⟨S32x4x256, .f32⟩
  | 90 => ⟨S32x4x256, .f32⟩
  | 91 => ⟨S_, .f32⟩
  | 92 => ⟨S32x4, .f32⟩
  | 93 => ⟨S32x4x1, .f32⟩
  | 94 => ⟨S_, .f32⟩
  | 95 => ⟨S32x4x1, .f32⟩
  | 96 => ⟨S32x4x1, .f32⟩
  | 97 => ⟨S_, .f32⟩
  | 98 => ⟨S32x4x1, .f32⟩
  | 99 => ⟨S32x4x1, .f32⟩
  | 100 => ⟨S32x4x1, .f32⟩
  | 101 => ⟨S32x4x256, .f32⟩
  | 102 => ⟨S32x4x256, .f32⟩
  | 103 => ⟨S1x1x256, .f32⟩
  | 104 => ⟨S32x4x256, .f32⟩
  | 105 => ⟨S32x4x256, .f32⟩
  | 106 => ⟨S32x4x256, .f32⟩
  | 107 => ⟨S_, .f32⟩
  | 108 => ⟨S32x4, .f32⟩
  | 109 => ⟨S32x4x1, .f32⟩
  | 110 => ⟨S_, .f32⟩
  | 111 => ⟨S32x4x1, .f32⟩
  | 112 => ⟨S32x4x1, .f32⟩
  | 113 => ⟨S_, .f32⟩
  | 114 => ⟨S32x4x1, .f32⟩
  | 115 => ⟨S32x4x1, .f32⟩
  | 116 => ⟨S32x4x1, .f32⟩
  | 117 => ⟨S32x4x256, .f32⟩
  | 118 => ⟨S32x4x256, .f32⟩
  | 119 => ⟨S1x1x256, .f32⟩
  | 120 => ⟨S32x4x256, .f32⟩
  | 121 => ⟨S32x4x256, .f32⟩
  | 122 => ⟨S32x4x512, .f32⟩
  | 123 => ⟨S32x4x512, .bf16⟩
  | 124 => ⟨S4x32x512, .bf16⟩
  | 125 => ⟨S1x128x512, .bf16⟩
  | 126 => ⟨S32x4x4x128, .f32⟩
  | 127 => ⟨S4x4x32x128, .f32⟩
  | _ => ⟨S32x4x1024, .f32⟩

abbrev hbmTy0_3 (i : Nat) : BufTy := match i % 128 with
  | 0 => ⟨S1x4x128x128, .f32⟩
  | 1 => ⟨S32x4x4x128, .f32⟩
  | 2 => ⟨S4x4x32x128, .f32⟩
  | 3 => ⟨S1x4x128x128, .f32⟩
  | 4 => ⟨S32x4x4x128, .f32⟩
  | 5 => ⟨S4x4x32x128, .f32⟩
  | 6 => ⟨S1x4x128x128, .f32⟩
  | 7 => ⟨S32x30x256, .f32⟩
  | 8 => ⟨S30x32x256, .f32⟩
  | 9 => ⟨S1x960x256, .f32⟩
  | 10 => ⟨S32x2x256, .f32⟩
  | 11 => ⟨S2x32x256, .f32⟩
  | 12 => ⟨S1x64x256, .f32⟩
  | _ => ⟨S32x4x1024, .f32⟩

abbrev hbmTy (i : Nat) : BufTy := match i / 128 with
  | 0 => hbmTy0_0 i
  | 1 => hbmTy0_1 i
  | 2 => hbmTy0_2 i
  | 3 => hbmTy0_3 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_cst_5 : Ref sig .tc := ⟨.hbm, 287, rfl⟩
abbrev main_v267 : Ref sig .tc := ⟨.hbm, 288, rfl⟩
abbrev main_v268 : Ref sig .tc := ⟨.hbm, 289, rfl⟩
abbrev main_cst_6 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_cst_7 : Ref sig .tc := ⟨.hbm, 296, rfl⟩
abbrev main_v274 : Ref sig .tc := ⟨.hbm, 297, rfl⟩
abbrev main_v275 : Ref sig .tc := ⟨.hbm, 298, rfl⟩
abbrev main_cst_8 : Ref sig .tc := ⟨.hbm, 299, rfl⟩
abbrev main_v276 : Ref sig .tc := ⟨.hbm, 300, rfl⟩
abbrev main_v277 : Ref sig .tc := ⟨.hbm, 301, rfl⟩
abbrev main_cst_9 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_call0_v0 : Ref sig .tc := ⟨.hbm, 314, rfl⟩
abbrev main_call0_v1 : Ref sig .tc := ⟨.hbm, 315, rfl⟩
abbrev main_call0_cst : Ref sig .tc := ⟨.hbm, 316, rfl⟩
abbrev main_call0_v2 : Ref sig .tc := ⟨.hbm, 317, rfl⟩
abbrev main_call0_v3 : Ref sig .tc := ⟨.hbm, 318, rfl⟩
abbrev main_call0_cst_0 : Ref sig .tc := ⟨.hbm, 319, rfl⟩
abbrev main_call0_v4 : Ref sig .tc := ⟨.hbm, 320, rfl⟩
abbrev main_call0_v5 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_v310 : Ref sig .tc := ⟨.hbm, 343, rfl⟩
abbrev main_v311 : Ref sig .tc := ⟨.hbm, 344, rfl⟩
abbrev main_v312 : Ref sig .tc := ⟨.hbm, 345, rfl⟩
abbrev main_v313 : Ref sig .tc := ⟨.hbm, 346, rfl⟩
abbrev main_cst_10 : Ref sig .tc := ⟨.hbm, 347, rfl⟩
abbrev main_v314 : Ref sig .tc := ⟨.hbm, 348, rfl⟩
abbrev main_v315 : Ref sig .tc := ⟨.hbm, 349, rfl⟩
abbrev main_cst_11 : Ref sig .tc := ⟨.hbm, 350, rfl⟩
abbrev main_v316 : Ref sig .tc := ⟨.hbm, 351, rfl⟩
abbrev main_v317 : Ref sig .tc := ⟨.hbm, 352, rfl⟩
abbrev main_cst_12 : Ref sig .tc := ⟨.hbm, 353, rfl⟩
abbrev main_v318 : Ref sig .tc := ⟨.hbm, 354, rfl⟩
abbrev main_v319 : Ref sig .tc := ⟨.hbm, 355, rfl⟩
abbrev main_v320 : Ref sig .tc := ⟨.hbm, 356, rfl⟩
abbrev main_v321 : Ref sig .tc := ⟨.hbm, 357, rfl⟩
abbrev main_v322 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩
abbrev main_v326 : Ref sig .tc := ⟨.hbm, 362, rfl⟩
abbrev main_cst_13 : Ref sig .tc := ⟨.hbm, 363, rfl⟩
abbrev main_v327 : Ref sig .tc := ⟨.hbm, 364, rfl⟩
abbrev main_v328 : Ref sig .tc := ⟨.hbm, 365, rfl⟩
abbrev main_cst_14 : Ref sig .tc := ⟨.hbm, 366, rfl⟩
abbrev main_v329 : Ref sig .tc := ⟨.hbm, 367, rfl⟩
abbrev main_v330 : Ref sig .tc := ⟨.hbm, 368, rfl⟩
abbrev main_cst_15 : Ref sig .tc := ⟨.hbm, 369, rfl⟩
abbrev main_v331 : Ref sig .tc := ⟨.hbm, 370, rfl⟩
abbrev main_v332 : Ref sig .tc := ⟨.hbm, 371, rfl⟩
abbrev main_v333 : Ref sig .tc := ⟨.hbm, 372, rfl⟩
abbrev main_v334 : Ref sig .tc := ⟨.hbm, 373, rfl⟩
abbrev main_v335 : Ref sig .tc := ⟨.hbm, 374, rfl⟩
abbrev main_v336 : Ref sig .tc := ⟨.hbm, 375, rfl⟩
abbrev main_v337 : Ref sig .tc := ⟨.hbm, 376, rfl⟩
abbrev main_v338 : Ref sig .tc := ⟨.hbm, 377, rfl⟩
abbrev main_v339 : Ref sig .tc := ⟨.hbm, 378, rfl⟩
abbrev main_v340 : Ref sig .tc := ⟨.hbm, 379, rfl⟩
abbrev main_v341 : Ref sig .tc := ⟨.hbm, 380, rfl⟩
abbrev main_v342 : Ref sig .tc := ⟨.hbm, 381, rfl⟩
abbrev main_v343 : Ref sig .tc := ⟨.hbm, 382, rfl⟩
abbrev main_v344 : Ref sig .tc := ⟨.hbm, 383, rfl⟩
abbrev main_v345 : Ref sig .tc := ⟨.hbm, 384, rfl⟩
abbrev main_v346 : Ref sig .tc := ⟨.hbm, 385, rfl⟩
abbrev main_v347 : Ref sig .tc := ⟨.hbm, 386, rfl⟩
abbrev main_v348 : Ref sig .tc := ⟨.hbm, 387, rfl⟩
abbrev main_v349 : Ref sig .tc := ⟨.hbm, 388, rfl⟩
abbrev main_v350 : Ref sig .tc := ⟨.hbm, 389, rfl⟩
abbrev main_v351 : Ref sig .tc := ⟨.hbm, 390, rfl⟩
abbrev main_v352 : Ref sig .tc := ⟨.hbm, 391, rfl⟩
abbrev main_v353 : Ref sig .tc := ⟨.hbm, 392, rfl⟩
abbrev main_v354 : Ref sig .tc := ⟨.hbm, 393, rfl⟩
abbrev main_v355 : Ref sig .tc := ⟨.hbm, 394, rfl⟩
abbrev main_v356 : Ref sig .tc := ⟨.hbm, 395, rfl⟩
abbrev main_v357 : Ref sig .tc := ⟨.hbm, 396, rfl⟩

abbrev nD : Nat := 1
abbrev τ : Topo := Topo.v7x

variable {F : FTy → Type} [FloatOps F]
-- ==== Kernel6.lean ====
abbrev S8x1024 : Shape := ⟨2, ![8, 1024]⟩
abbrev S32x1024 : Shape := ⟨2, ![32, 1024]⟩
abbrev S2x1024x6144 : Shape := ⟨3, ![2, 1024, 6144]⟩
abbrev S2x6144 : Shape := ⟨2, ![2, 6144]⟩
abbrev S40x1024 : Shape := ⟨2, ![40, 1024]⟩
abbrev S2x1x6144 : Shape := ⟨3, ![2, 1, 6144]⟩
abbrev S2x40x6144 : Shape := ⟨3, ![2, 40, 6144]⟩
abbrev S1x1024x1536 : Shape := ⟨3, ![1, 1024, 1536]⟩
abbrev S1x1x1536 : Shape := ⟨3, ![1, 1, 1536]⟩
abbrev S1x40x1536 : Shape := ⟨3, ![1, 40, 1536]⟩
abbrev S1024x1536 : Shape := ⟨2, ![1024, 1536]⟩
abbrev S40x1536 : Shape := ⟨2, ![40, 1536]⟩
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S32x1024, .f32⟩
  | .hbm, ⟨2, _⟩ => ⟨S2x1024x6144, .f32⟩
  | .hbm, ⟨3, _⟩ => ⟨S2x6144, .f32⟩
  | .hbm, ⟨4, _⟩ => ⟨S40x1024, .f32⟩
  | .hbm, ⟨5, _⟩ => ⟨S2x1x6144, .f32⟩
  | .hbm, ⟨6, _⟩ => ⟨S2x40x6144, .f32⟩
  | .local _ .vmem, ⟨0, _⟩ => ⟨S40x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x40x1536, .f32⟩
  | .local _ .vmem, ⟨6, _⟩ => ⟨S1x40x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S32x1024 : Shape := ⟨2, ![32, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S32x6144 : Shape := ⟨2, ![32, 6144]⟩
abbrev S40x6144 : Shape := ⟨2, ![40, 6144]⟩
abbrev S1x40x6144 : Shape := ⟨3, ![1, 40, 6144]⟩
abbrev S2x40x6144 : Shape := ⟨3, ![2, 40, 6144]⟩

abbrev nBuf : Space → Nat
  | .hbm => 77
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S32x1024, .f32⟩
  | .hbm, ⟨2, _⟩ => ⟨S2x1024x6144, .f32⟩
  | .hbm, ⟨3, _⟩ => ⟨S2x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1x1024x6144, .f32⟩
  | .hbm, ⟨14, _⟩ => ⟨S1024x6144, .f32⟩
  | .hbm, ⟨15, _⟩ => ⟨S8x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S8x6144, .f32⟩
  | .hbm, ⟨20, _⟩ => ⟨S8x6144, .f32⟩
  | .hbm, ⟨21, _⟩ => ⟨S32x1024, .f32⟩
  | .hbm, ⟨22, _⟩ => ⟨S32x1024, .f32⟩
  | .hbm, ⟨23, _⟩ => ⟨S_, .f32⟩
  | .hbm, ⟨24, _⟩ => ⟨S32x1024, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S32x1024, .f32⟩
  | .hbm, ⟨30, _⟩ => ⟨S1x1024x6144, .f32⟩
  | .hbm, ⟨31, _⟩ => ⟨S1024x6144, .f32⟩
  | .hbm, ⟨32, _⟩ => ⟨S32x6144, .f32⟩
  | .hbm, ⟨33, _⟩ => ⟨S1x6144, .f32⟩
  | .hbm, ⟨34, _⟩ => ⟨S6144, .f32⟩
  | .hbm, ⟨35, _⟩ => ⟨S1x6144, .f32⟩
  | .hbm, ⟨36, _⟩ => ⟨S32x6144, .f32⟩
  | .hbm, ⟨37, _⟩ => ⟨S32x6144, .f32⟩
  | .hbm, ⟨38, _⟩ => ⟨S40x6144, .f32⟩
  | .hbm, ⟨39, _⟩ => ⟨S8x1024, .f32⟩
  | .hbm, ⟨40, _⟩ => ⟨S8x1024, .f32⟩
  | .hbm, ⟨41, _⟩ => ⟨S_, .f32⟩
  | .hbm, ⟨42, _⟩ => ⟨S8x1024, .f32⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S8x1024, .f32⟩
  | .hbm, ⟨48, _⟩ => ⟨S1x1024x6144, .f32⟩
  | .hbm, ⟨49, _⟩ => ⟨S1024x6144, .f32⟩
  | .hbm, ⟨50, _⟩ => ⟨S8x6144, .f32⟩
  | .hbm, ⟨51, _⟩ => ⟨S1x6144, .f32⟩
  | .hbm, ⟨52, _⟩ => ⟨S6144, .f32⟩
  | .hbm, ⟨53, _⟩ => ⟨S1x6144, .f32⟩
  | .hbm, ⟨54, _⟩ => ⟨S8x6144, .f32⟩
  | .hbm, ⟨55, _⟩ => ⟨S8x6144, .f32⟩
  | .hbm, ⟨56, _⟩ => ⟨S32x1024, .f32⟩
  | .hbm, ⟨57, _⟩ => ⟨S32x1024, .f32⟩
  | .hbm, ⟨58, _⟩ => ⟨S_, .f32⟩
  | .hbm, ⟨59, _⟩ => ⟨S32x1024, .f32⟩
  | .hbm, ⟨60, _⟩ => ⟨S32x1024, .f32⟩
  | .hbm, ⟨61, _⟩ => ⟨S_, .f32⟩
  | .hbm, ⟨62, _⟩ => ⟨S32x1024, .f32⟩
  | .hbm, ⟨63, _⟩ => ⟨S32x1024, .f32⟩
  | .hbm, ⟨64, _⟩ => ⟨S32x1024, .f32⟩
  | .hbm, ⟨65, _⟩ => ⟨S1x1024x6144, .f32⟩
  | .hbm, ⟨66, _⟩ => ⟨S1024x6144, .f32⟩
  | .hbm, ⟨67, _⟩ => ⟨S32x6144, .f32⟩
  | .hbm, ⟨68, _⟩ => ⟨S1x6144, .f32⟩
  | .hbm, ⟨69, _⟩ => ⟨S6144, .f32⟩
  | .hbm, ⟨70, _⟩ => ⟨S1x6144, .f32⟩
  | .hbm, ⟨71, _⟩ => ⟨S32x6144, .f32⟩
  | .hbm, ⟨72, _⟩ => ⟨S32x6144, .f32⟩
  | .hbm, ⟨73, _⟩ => ⟨S40x6144, .f32⟩
  | .hbm, ⟨74, _⟩ => ⟨S1x40x6144, .f32⟩
  | .hbm, ⟨75, _⟩ => ⟨S1x40x6144, .f32⟩
  | .hbm, ⟨76, _⟩ => ⟨S2x40x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call3_v0 : Ref sig .tc := ⟨.hbm, 56, rfl⟩
abbrev main_call3_v1 : Ref sig .tc := ⟨.hbm, 57, rfl⟩
abbrev main_call3_cst : Ref sig .tc := ⟨.hbm, 58, rfl⟩
abbrev main_call3_v2 : Ref sig .tc := ⟨.hbm, 59, rfl⟩
abbrev main_call3_v3 : Ref sig .tc := ⟨.hbm, 60, rfl⟩
abbrev main_call3_cst_0 : Ref sig .tc := ⟨.hbm, 61, rfl⟩
abbrev main_call3_v4 : Ref sig .tc := ⟨.hbm, 62, rfl⟩
abbrev main_call3_v5 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩

abbrev nD : Nat := 1
abbrev τ : Topo := Topo.v7x

variable {F : FTy → Type} [FloatOps F]
-- ==== Proof.SampleSetup.lean ====
/- The set-up of the sample attention's launch: the program up to its one kernel call, the blocks of its windows, the
   branches of its body over the grid, and the two rings of transfers that bring the key and value caches in. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Sample

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a run to the arrays' final contents: an argument array is a staged input or no window's array. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points before point 30 — decided over the grid. -/
theorem hcond0_1 : ∀ t : Fin cfg0.N, cond0_1 (grid0.coords t) ↔ t.val < 30 :=
  (by decide +kernel : ∀ t : Fin grid0.N, cond0_1 (grid0.coords t) ↔ t.val < 30)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 0#32)) 0#32) = 1#1
/-- It holds at the first point only — by arithmetic of the point. -/
theorem hcond0_2 : ∀ t : Fin cfg0.N, cond0_2 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_2, e0]
    word_cmp
   : ∀ t : Fin grid0.N, cond0_2 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x8x4x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x4x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x4x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x4x64 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S4x2048 .f32 := Memref.whole cc0_scratch0
abbrev scM0_1 : Memref sig .tc .vmem S4x4 .f32 := Memref.whole cc0_scratch1
abbrev scM0_2 : Memref sig .tc .vmem S3x8x64x2048 .f32 := Memref.whole cc0_scratch2
abbrev scM0_3 : Memref sig .tc .vmem S3x8x64x2048 .f32 := Memref.whole cc0_scratch3
/-- The operands left in HBM that the body copies into scratch itself, whole. -/
abbrev hbM0_0 : Memref sig .tc .hbm S2x32x8x64x2048 .f32 := Memref.whole main_v0
abbrev hbM0_1 : Memref sig .tc .hbm S2x32x8x64x2048 .f32 := Memref.whole main_v1
/-- A memref's buffer on a core: its contents type, and it held whole at given contents. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 8, SemLoc.dma 9, SemLoc.dma 10, SemLoc.dma 11, SemLoc.dma 12, SemLoc.dma 13] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3, 4, 5] (by decide) (by decide)]; rfl
/-- The HBM operands the body moves, as references: unscoped, no window's array (`Pipeline.restRefs`). -/
def H0 : Finset (Ref sig .tc) := {main_v0, main_v1}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_v1)) := by
  rw [BI.bigSep_eq_bigSepL_of_eq [main_v0, main_v1] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_v0) ∗ hbPt0 c hbM0_1 (V m c main_v1))) := by
  rw [Pipeline.ΦD_eq, scopedRest0_eq, ownSems00_eq, hbmPts0_eq]; simp only [scM0_0, scM0_1, scM0_2, scM0_3, owns_whole]; try rfl

/-! ## Ring 0 of kernel 0: `main_v0` streamed through the 3 slots of `cc0_scratch2` on the cells of `cc0_scratch4`, 2 block ahead, in 32 steps -/

instance : NeZero grid0.N := ⟨by rw [N_0]; decide⟩
theorem inb_slot0_0 (s : Fin 3) : ∀ a, (![s.val, 0, 0, 0] : Fin 4 → Nat) a + S1x8x64x2048.size a ≤ S3x8x64x2048.size a := by
  have := s.isLt; intro a; fin_cases a <;> simp <;> omega
theorem inb_src0_0 (b : Fin 32) : ∀ a, (![0, 1 * b.val, 0, 0, 0] : Fin 5 → Nat) a + S1x1x8x64x2048.size a ≤ S2x32x8x64x2048.size a := by
  have := b.isLt; intro a; fin_cases a <;> simp <;> omega
theorem inb_cell0_0 (s : Fin 3) : ∀ a, (![0, s.val] : Fin 2 → Nat) a + S1x1.size a ≤ S2x3.size a := by
  have := s.isLt; intro a; fin_cases a <;> simp <;> omega
/-- Slot `s` of the ring, spelt as the body's transfers spell their destination, at offsets in `s`. -/
def rslot0_0 (s : Fin 3) : Memref sig .tc .vmem S8x64x2048 .f32 :=
  (scM0_2.slice (Rect.unit (s := S3x8x64x2048) ![s.val, 0, 0, 0] S1x8x64x2048.size (inb_slot0_0 s)) (fun _ => rfl)).squeeze S8x64x2048 squeezes_S1x8x64x2048_S8x64x2048
/-- Block `b` of the operand (the block step `b` waits), spelt as the transfers spell their source, at offsets in `b`. -/
def srcB0_0 (b : Fin 32) : Memref sig .tc .hbm S8x64x2048 .f32 :=
  (hbM0_0.slice (Rect.unit (s := S2x32x8x64x2048) ![0, 1 * b.val, 0, 0, 0] S1x1x8x64x2048.size (inb_src0_0 b)) (fun _ => rfl)).squeeze S8x64x2048 squeezes_S1x1x8x64x2048_S8x64x2048
/-- Cell `s` of `cc0_scratch4`, spelt as the body spells a cell; its number in the pool. -/
def cellA0_0 (s : Fin 3) : DmaSems sig S_ := (cc0_scratch4.slice (Rect.unit (s := S2x3) ![0, s.val] S1x1.size (inb_cell0_0 s))).squeeze S_ squeezes_S1x1_S_
abbrev cellR0_0 (s : Fin 3) : SemLoc sig := SemLoc.dma (cellA0_0 s).sem
theorem cellR0_0_0 : cellR0_0 0 = SemLoc.dma 8 := by decide
theorem cellR0_0_1 : cellR0_0 1 = SemLoc.dma 9 := by decide
theorem cellR0_0_2 : cellR0_0 2 = SemLoc.dma 10 := by decide

section Ring0_0
variable (c : Dev nD) (W : HbBuf0 (F := F) c hbM0_0)
/-- The operand is lent BY SHARE, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: a slot, its cell at zero, a block of the slot's copy of the operand, the rest of
    the copy, the copy whole, the slot once the block landed, and the transfer in flight. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 32) : sProp 𝕄 := (srcB0_0 b).view.loc (c : Thread nD τ) ↦[(srcB0_0 b).view.set]{qs0_0 s} W
/-- The rest of a slot's copy of the operand. -/
def restP0_0 (s : Fin 3) (b : Fin 32) : sProp 𝕄 := ((c : Thread nD τ).loc main_v0) ↦[Finset.univ \ (srcB0_0 b).view.set]{qs0_0 s} W
abbrev wholeP0_0 (s : Fin 3) : sProp 𝕄 := ((c : Thread nD τ).loc main_v0) ↦[Finset.univ]{qs0_0 s} W
abbrev landed0_0 (s : Fin 3) (b : Fin 32) (f : HbBuf0 (F := F) c (rslot0_0 s)) : HbBuf0 (F := F) c (rslot0_0 s) :=
  (rslot0_0 s).view.writes (Elt F) f [⟨Rect.whole S8x64x2048, ReadAs.same.apply ((srcB0_0 b).view.read (Elt F) W)⟩]
abbrev flightP0_0 (s : Fin 3) (b : Fin 32) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
abbrev flightW0_0 (s : Fin 3) (b : Fin 32) (f : HbBuf0 (F := F) c (rslot0_0 s)) : sProp 𝕄 := iprop(flightP0_0 c W s b f ∗ restP0_0 c W s b)
abbrev noHome0_0 (b : Fin 32) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 8) 0 := congrArg (fun x => (semVal ((c : Thread nD τ), x) 0 : sProp 𝕄)) cellR0_0_0
omit [FloatOps F] in
theorem cellP0_0_1 : cellP0_0 (F := F) c 1 = semVal ((c : Thread nD τ), SemLoc.dma 9) 0 := congrArg (fun x => (semVal ((c : Thread nD τ), x) 0 : sProp 𝕄)) cellR0_0_1
omit [FloatOps F] in
theorem cellP0_0_2 : cellP0_0 (F := F) c 2 = semVal ((c : Thread nD τ), SemLoc.dma 10) 0 := congrArg (fun x => (semVal ((c : Thread nD τ), x) 0 : sProp 𝕄)) cellR0_0_2
end Ring0_0

/-! ### The slots, disjoint and covering the scratch (Lib/Ring.lean `lead_disjoint` / `lead_cover`) -/

abbrev slotSet0_0 (s : Fin 3) : Finset S3x8x64x2048.Idx := (Rect.unit (s := S3x8x64x2048) ![s.val, 0, 0, 0] S1x8x64x2048.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x8x64x2048) (0 : Fin 4) 1 (fun s : Fin 3 => (![s.val, 0, 0, 0] : Fin 4 → Nat)) S1x8x64x2048.size inb_slot0_0 (fun s => by simp) rfl s s' h
theorem slots0_0_cover : Finset.univ.biUnion slotSet0_0 = Finset.univ :=
  Ring.lead_cover (s := S3x8x64x2048) (0 : Fin 4) 1 (fun s : Fin 3 => (![s.val, 0, 0, 0] : Fin 4 → Nat)) S1x8x64x2048.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 3) (f) : slotP0_0 (F := F) c s f = (((c : Thread nD τ).loc cc0_scratch2) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 32) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_2 fullShare d) ⊢ (iprop((∃ f, slotP0_0 (F := F) c 0 f) ∗ (∃ f, slotP0_0 (F := F) c 1 f) ∗ ∃ f, slotP0_0 (F := F) c 2 f) : sProp 𝕄) := by
  simp only [scM0_2, owns_whole]
  exact Ring.slots3_split (U := Pipeline.UD sig nD τ) (ℓ := (c : Thread nD τ).loc cc0_scratch2) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_2 fullShare d) := by
  simp only [scM0_2, owns_whole]
  exact Ring.slots3_join (U := Pipeline.UD sig nD τ) (ℓ := (c : Thread nD τ).loc cc0_scratch2) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- INTO THE RING: the launch's pieces — the scratch whole, the cells at zero, the operand whole — are the ring before its first step; -/
theorem ring0_0_in (c : Dev nD) :
    iprop((∃ d, owns (c : Thread nD τ) scM0_2 fullShare d) ∗ (semVal ((c : Thread nD τ), SemLoc.dma 8) 0 ∗ semVal ((c : Thread nD τ), SemLoc.dma 9) 0 ∗ semVal ((c : Thread nD τ), SemLoc.dma 10) 0) ∗ hbPt0 c hbM0_0 (V m c main_v0))
      ⊢ ringAt0_0 c (V m c main_v0) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_v0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_0_out (c : Dev nD) :
    ringAt0_0 c (V m c main_v0) 32
      ⊢ iprop((∃ d, owns (c : Thread nD τ) scM0_2 fullShare d) ∗ (semVal ((c : Thread nD τ), SemLoc.dma 8) 0 ∗ semVal ((c : Thread nD τ), SemLoc.dma 9) 0 ∗ semVal ((c : Thread nD τ), SemLoc.dma 10) 0) ∗ hbPt0 c hbM0_0 (V m c main_v0)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_v0)).2; isplitl [HW0]; · iexact HW0
    isplitl [HW1]; · iexact HW1
    iexact HW2

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → cond0_2 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → ¬cond0_2 (grid0.coords t) → 1 ≤ t.val ∧ t.val + 2 < 32 ∧ (t.val + 1) = t.val + 1 := by decide +kernel
/-- At the points of case C the ring takes its LAST step. -/
theorem rstep0_0_C : ∀ t : Fin grid0.N, ¬cond0_0 (grid0.coords t) → ¬cond0_1 (grid0.coords t) → ¬cond0_2 (grid0.coords t) → 1 ≤ t.val ∧ 32 ≤ t.val + 2 ∧ t.val < 32 ∧ (t.val + 1) = t.val + 1 := by decide +kernel
set_option synthInstance.maxSize 4096 in
theorem coff0_0_1 : ∀ t : Fin grid0.N, cond0_0 (grid0.coords t) → cond0_1 (grid0.coords t) → cond0_2 (grid0.coords t) → (![0, 0, 0, 0] : Fin 4 → Nat) = ![(Ring.sl 3 t.val).val, 0, 0, 0] := by decide +kernel
@[sl_canon] theorem canon0_0_1 (t : Fin grid0.N) (h0 : cond0_0 (grid0.coords t)) (h1 : cond0_1 (grid0.coords t)) (h2 : cond0_2 (grid0.coords t)) :
    (scM0_2.slice (Rect.unit (s := S3x8x64x2048) ![0, 0, 0, 0] S1x8x64x2048.size inb_S3x8x64x2048_S1x8x64x2048_0_0_0_0) (fun _ => rfl)).squeeze S8x64x2048 squeezes_S1x8x64x2048_S8x64x2048 = rslot0_0 (Ring.sl 3 t.val) :=
  congrArg (fun M : Memref sig .tc .vmem S1x8x64x2048 .f32 => M.squeeze S8x64x2048 squeezes_S1x8x64x2048_S8x64x2048) (Memref.slice_unit_congr _ (coff0_0_1 t h0 h1 h2) _ _ (fun _ => rfl) (fun _ => rfl))
set_option synthInstance.maxSize 4096 in
theorem coff0_0_2 : ∀ t : Fin grid0.N, cond0_0 (grid0.coords t) → cond0_1 (grid0.coords t) → cond0_2 (grid0.coords t) → (![0, 0] : Fin 2 → Nat) = ![0, (Ring.sl 3 t.val).val] := by decide +kernel
@[sl_canon] theorem canon0_0_2 (t : Fin grid0.N) (h0 : cond0_0 (grid0.coords t)) (h1 : cond0_1 (grid0.coords t)) (h2 : cond0_2 (grid0.coords t)) :
    (cc0_scratch4.slice (Rect.unit (s := S2x3) ![0, 0] S1x1.size inb_S2x3_S1x1_0_0)).squeeze S_ squeezes_S1x1_S_ = cellA0_0 (Ring.sl 3 t.val) :=
  congrArg (fun A : DmaSems sig S1x1 => A.squeeze S_ squeezes_S1x1_S_) (SemArray.slice_unit_congr _ (coff0_0_2 t h0 h1 h2) _ _)
set_option synthInstance.maxSize 4096 in
theorem coff0_0_3 : ∀ t : Fin grid0.N, cond0_0 (grid0.coords t) → cond0_1 (grid0.coords t) → cond0_2 (grid0.coords t) → (![0, 0, 0, 0, 0] : Fin 5 → Nat) = ![0, 1 * (Ring.bk 32 t.val).val, 0, 0, 0] := by decide +kernel
@[sl_canon] theorem canon0_0_3 (t : Fin grid0.N) (h0 : cond0_0 (grid0.coords t)) (h1 : cond0_1 (grid0.coords t)) (h2 : cond0_2 (grid0.coords t)) :
    (hbM0_0.slice (Rect.unit (s := S2x32x8x64x2048) ![0, 0, 0, 0, 0] S1x1x8x64x2048.size inb_S2x32x8x64x2048_S1x1x8x64x2048_0_0_0_0_0) (fun _ => rfl)).squeeze S8x64x2048 squeezes_S1x1x8x64x2048_S8x64x2048 = srcB0_0 (Ring.bk 32 t.val) :=
  congrArg (fun M : Memref sig .tc .hbm S1x1x8x64x2048 .f32 => M.squeeze S8x64x2048 squeezes_S1x1x8x64x2048_S8x64x2048) (Memref.slice_unit_congr _ (coff0_0_3 t h0 h1 h2) _ _ (fun _ => rfl) (fun _ => rfl))
set_option synthInstance.maxSize 4096 in
theorem coff0_0_4 : ∀ t : Fin grid0.N, cond0_0 (grid0.coords t) → cond0_1 (grid0.coords t) → cond0_2 (grid0.coords t) → (![1, 0, 0, 0] : Fin 4 → Nat) = ![(Ring.sl 3 (t.val + 1)).val, 0, 0, 0] := by decide +kernel
@[sl_canon] theorem canon0_0_4 (t : Fin grid0.N) (h0 : cond0_0 (grid0.coords t)) (h1 : cond0_1 (grid0.coords t)) (h2 : cond0_2 (grid0.coords t)) :
    (scM0_2.slice (Rect.unit (s := S3x8x64x2048) ![1, 0, 0, 0] S1x8x64x2048.size inb_S3x8x64x2048_S1x8x64x2048_1_0_0_0) (fun _ => rfl)).squeeze S8x64x2048 squeezes_S1x8x64x2048_S8x64x2048 = rslot0_0 (Ring.sl 3 (t.val + 1)) :=
  congrArg (fun M : Memref sig .tc .vmem S1x8x64x2048 .f32 => M.squeeze S8x64x2048 squeezes_S1x8x64x2048_S8x64x2048) (Memref.slice_unit_congr _ (coff0_0_4 t h0 h1 h2) _ _ (fun _ => rfl) (fun _ => rfl))
set_option synthInstance.maxSize 4096 in
theorem coff0_0_5 : ∀ t : Fin grid0.N, cond0_0 (grid0.coords t) → cond0_1 (grid0.coords t) → cond0_2 (grid0.coords t) → (![0, 1] : Fin 2 → Nat) = ![0, (Ring.sl 3 (t.val + 1)).val] := by decide +kernel
@[sl_canon] theorem canon0_0_5 (t : Fin grid0.N) (h0 : cond0_0 (grid0.coords t)) (h1 : cond0_1 (grid0.coords t)) (h2 : cond0_2 (grid0.coords t)) :
    (cc0_scratch4.slice (Rect.unit (s := S2x3) ![0, 1] S1x1.size inb_S2x3_S1x1_0_1)).squeeze S_ squeezes_S1x1_S_ = cellA0_0 (Ring.sl 3 (t.val + 1)) :=
  congrArg (fun A : DmaSems sig S1x1 => A.squeeze S_ squeezes_S1x1_S_) (SemArray.slice_unit_congr _ (coff0_0_5 t h0 h1 h2) _ _)
set_option synthInstance.maxSize 4096 in
theorem coff0_0_6 : ∀ t : Fin grid0.N, cond0_0 (grid0.coords t) → cond0_1 (grid0.coords t) → cond0_2 (grid0.coords t) → (![0, 1, 0, 0, 0] : Fin 5 → Nat) = ![0, 1 * (Ring.bk 32 (t.val + 1)).val, 0, 0, 0] := by decide +kernel
@[sl_canon] theorem canon0_0_6 (t : Fin grid0.N) (h0 : cond0_0 (grid0.coords t)) (h1 : cond0_1 (grid0.coords t)) (h2 : cond0_2 (grid0.coords t)) :
    (hbM0_0.slice (Rect.unit (s := S2x32x8x64x2048) ![0, 1, 0, 0, 0] S1x1x8x64x2048.size inb_S2x32x8x64x2048_S1x1x8x64x2048_0_1_0_0_0) (fun _ => rfl)).squeeze S8x64x2048 squeezes_S1x1x8x64x2048_S8x64x2048 = srcB0_0 (Ring.bk 32 (t.val + 1)) :=
  congrArg (fun M : Memref sig .tc .hbm S1x1x8x64x2048 .f32 => M.squeeze S8x64x2048 squeezes_S1x1x8x64x2048_S8x64x2048) (Memref.slice_unit_congr _ (coff0_0_6 t h0 h1 h2) _ _ (fun _ => rfl) (fun _ => rfl))
set_option synthInstance.maxSize 4096 in
theorem coff0_0_7 : ∀ t : Fin grid0.N, k0_off2 (grid0.coords t) = ![(Ring.sl 3 (t.val + 2)).val, 0, 0, 0] := by decide +kernel
@[sl_canon] theorem canon0_0_7 (t : Fin grid0.N) (h1 : cond0_1 (grid0.coords t)) :
    (scM0_2.slice (Rect.unit (s := S3x8x64x2048) (k0_off2 (grid0.coords t)) S1x8x64x2048.size (k0_off2_inb (grid0.coords t) h1)) (fun _ => rfl)).squeeze S8x64x2048 squeezes_S1x8x64x2048_S8x64x2048 = rslot0_0 (Ring.sl 3 (t.val + 2)) :=
  congrArg (fun M : Memref sig .tc .vmem S1x8x64x2048 .f32 => M.squeeze S8x64x2048 squeezes_S1x8x64x2048_S8x64x2048) (Memref.slice_unit_congr _ (coff0_0_7 t ) _ _ (fun _ => rfl) (fun _ => rfl))
set_option synthInstance.maxSize 4096 in
theorem coff0_0_8 : ∀ t : Fin grid0.N, k0_off1 (grid0.coords t) = ![0, (Ring.sl 3 (t.val + 2)).val] := by decide +kernel
@[sl_canon] theorem canon0_0_8 (t : Fin grid0.N) (h1 : cond0_1 (grid0.coords t)) :
    (cc0_scratch4.slice (Rect.unit (s := S2x3) (k0_off1 (grid0.coords t)) S1x1.size (k0_off1_inb (grid0.coords t) h1))).squeeze S_ squeezes_S1x1_S_ = cellA0_0 (Ring.sl 3 (t.val + 2)) :=
  congrArg (fun A : DmaSems sig S1x1 => A.squeeze S_ squeezes_S1x1_S_) (SemArray.slice_unit_congr _ (coff0_0_8 t ) _ _)
set_option synthInstance.maxSize 4096 in
theorem coff0_0_9 : ∀ t : Fin grid0.N, cond0_0 (grid0.coords t) → cond0_1 (grid0.coords t) → cond0_2 (grid0.coords t) → k0_off3 (grid0.coords t) = ![0, 1 * (Ring.bk 32 (t.val + 2)).val, 0, 0, 0] := by decide +kernel
@[sl_canon] theorem canon0_0_9 (t : Fin grid0.N) (h0 : cond0_0 (grid0.coords t)) (h1 : cond0_1 (grid0.coords t)) (h2 : cond0_2 (grid0.coords t)) :
    (hbM0_0.slice (Rect.unit (s := S2x32x8x64x2048) (k0_off3 (grid0.coords t)) S1x1x8x64x2048.size (k0_off3_inb (grid0.coords t) h1)) (fun _ => rfl)).squeeze S8x64x2048 squeezes_S1x1x8x64x2048_S8x64x2048 = srcB0_0 (Ring.bk 32 (t.val + 2)) :=
  congrArg (fun M : Memref sig .tc .hbm S1x1x8x64x2048 .f32 => M.squeeze S8x64x2048 squeezes_S1x1x8x64x2048_S8x64x2048) (Memref.slice_unit_congr _ (coff0_0_9 t h0 h1 h2) _ _ (fun _ => rfl) (fun _ => rfl))
set_option synthInstance.maxSize 4096 in
theorem coff0_0_10 : ∀ t : Fin grid0.N, k0_off6 (grid0.coords t) = ![(Ring.sl 3 t.val).val, 0, 0, 0] := by decide +kernel
@[sl_canon] theorem canon0_0_10 (t : Fin grid0.N) :
    (scM0_2.slice (Rect.unit (s := S3x8x64x2048) (k0_off6 (grid0.coords t)) S1x8x64x2048.size (k0_off6_inb (grid0.coords t))) (fun _ => rfl)).squeeze S8x64x2048 squeezes_S1x8x64x2048_S8x64x2048 = rslot0_0 (Ring.sl 3 t.val) :=
  congrArg (fun M : Memref sig .tc .vmem S1x8x64x2048 .f32 => M.squeeze S8x64x2048 squeezes_S1x8x64x2048_S8x64x2048) (Memref.slice_unit_congr _ (coff0_0_10 t ) _ _ (fun _ => rfl) (fun _ => rfl))
set_option synthInstance.maxSize 4096 in
theorem coff0_0_11 : ∀ t : Fin grid0.N, k0_off5 (grid0.coords t) = ![0, (Ring.sl 3 t.val).val] := by decide +kernel
@[sl_canon] theorem canon0_0_11 (t : Fin grid0.N) :
    (cc0_scratch4.slice (Rect.unit (s := S2x3) (k0_off5 (grid0.coords t)) S1x1.size (k0_off5_inb (grid0.coords t)))).squeeze S_ squeezes_S1x1_S_ = cellA0_0 (Ring.sl 3 t.val) :=
  congrArg (fun A : DmaSems sig S1x1 => A.squeeze S_ squeezes_S1x1_S_) (SemArray.slice_unit_congr _ (coff0_0_11 t ) _ _)
set_option synthInstance.maxSize 4096 in
theorem coff0_0_12 : ∀ t : Fin grid0.N, ¬cond0_0 (grid0.coords t) → cond0_1 (grid0.coords t) → ¬cond0_2 (grid0.coords t) → k0_off3 (grid0.coords t) = ![0, 1 * (Ring.bk 32 (t.val + 2)).val, 0, 0, 0] := by decide +kernel
@[sl_canon] theorem canon0_0_12 (t : Fin grid0.N) (h0 : ¬cond0_0 (grid0.coords t)) (h1 : cond0_1 (grid0.coords t)) (h2 : ¬cond0_2 (grid0.coords t)) :
    (hbM0_0.slice (Rect.unit (s := S2x32x8x64x2048) (k0_off3 (grid0.coords t)) S1x1x8x64x2048.size (k0_off3_inb (grid0.coords t) h1)) (fun _ => rfl)).squeeze S8x64x2048 squeezes_S1x1x8x64x2048_S8x64x2048 = srcB0_0 (Ring.bk 32 (t.val + 2)) :=
  congrArg (fun M : Memref sig .tc .hbm S1x1x8x64x2048 .f32 => M.squeeze S8x64x2048 squeezes_S1x1x8x64x2048_S8x64x2048) (Memref.slice_unit_congr _ (coff0_0_12 t h0 h1 h2) _ _ (fun _ => rfl) (fun _ => rfl))
end Canon0_0

/-! ## Ring 1 of kernel 0: `main_v1` streamed through the 3 slots of `cc0_scratch3` on the cells of `cc0_scratch4`, 2 block ahead, in 32 steps -/

theorem inb_slot0_1 (s : Fin 3) : ∀ a, (![s.val, 0, 0, 0] : Fin 4 → Nat) a + S1x8x64x2048.size a ≤ S3x8x64x2048.size a := by
  have := s.isLt; intro a; fin_cases a <;> simp <;> omega
theorem inb_src0_1 (b : Fin 32) : ∀ a, (![0, 1 * b.val, 0, 0, 0] : Fin 5 → Nat) a + S1x1x8x64x2048.size a ≤ S2x32x8x64x2048.size a := by
  have := b.isLt; intro a; fin_cases a <;> simp <;> omega
theorem inb_cell0_1 (s : Fin 3) : ∀ a, (![1, s.val] : Fin 2 → Nat) a + S1x1.size a ≤ S2x3.size a := by
  have := s.isLt; intro a; fin_cases a <;> simp <;> omega
/-- Slot `s` of the ring, spelt as the body's transfers spell their destination, at offsets in `s`. -/
def rslot0_1 (s : Fin 3) : Memref sig .tc .vmem S8x64x2048 .f32 :=
  (scM0_3.slice (Rect.unit (s := S3x8x64x2048) ![s.val, 0, 0, 0] S1x8x64x2048.size (inb_slot0_1 s)) (fun _ => rfl)).squeeze S8x64x2048 squeezes_S1x8x64x2048_S8x64x2048
/-- Block `b` of the operand (the block step `b` waits), spelt as the transfers spell their source, at offsets in `b`. -/
def srcB0_1 (b : Fin 32) : Memref sig .tc .hbm S8x64x2048 .f32 :=
  (hbM0_1.slice (Rect.unit (s := S2x32x8x64x2048) ![0, 1 * b.val, 0, 0, 0] S1x1x8x64x2048.size (inb_src0_1 b)) (fun _ => rfl)).squeeze S8x64x2048 squeezes_S1x1x8x64x2048_S8x64x2048
/-- Cell `s` of `cc0_scratch4`, spelt as the body spells a cell; its number in the pool. -/
def cellA0_1 (s : Fin 3) : DmaSems sig S_ := (cc0_scratch4.slice (Rect.unit (s := S2x3) ![1, s.val] S1x1.size (inb_cell0_1 s))).squeeze S_ squeezes_S1x1_S_
abbrev cellR0_1 (s : Fin 3) : SemLoc sig := SemLoc.dma (cellA0_1 s).sem
theorem cellR0_1_0 : cellR0_1 0 = SemLoc.dma 11 := by decide
theorem cellR0_1_1 : cellR0_1 1 = SemLoc.dma 12 := by decide
theorem cellR0_1_2 : cellR0_1 2 = SemLoc.dma 13 := by decide

section Ring0_1
variable (c : Dev nD) (W : HbBuf0 (F := F) c hbM0_1)
/-- The operand is lent BY SHARE, one read-share copy of it per slot (the full share halved, the right half halved again):
    whatever blocks the transfers in flight stream — the same one twice, ones that overlap —, each borrows from its own slot's copy. -/
abbrev qs0_1 (s : Fin 3) : PosShare TreeShare := if s.val = 0 then fullShare.left else if s.val = 1 then fullShare.right.left else fullShare.right.right
/-- The families the ring is stated over: a slot, its cell at zero, a block of the slot's copy of the operand, the rest of
    the copy, the copy whole, the slot once the block landed, and the transfer in flight. -/
abbrev slotP0_1 (s : Fin 3) (f : HbBuf0 (F := F) c (rslot0_1 s)) : sProp 𝕄 := (rslot0_1 s).view.loc (c : Thread nD τ) ↦[(rslot0_1 s).view.set]{fullShare} f
abbrev cellP0_1 (s : Fin 3) : sProp 𝕄 := semVal ((c : Thread nD τ), cellR0_1 s) 0
abbrev srcP0_1 (s : Fin 3) (b : Fin 32) : sProp 𝕄 := (srcB0_1 b).view.loc (c : Thread nD τ) ↦[(srcB0_1 b).view.set]{qs0_1 s} W
/-- The rest of a slot's copy of the operand. -/
def restP0_1 (s : Fin 3) (b : Fin 32) : sProp 𝕄 := ((c : Thread nD τ).loc main_v1) ↦[Finset.univ \ (srcB0_1 b).view.set]{qs0_1 s} W
abbrev wholeP0_1 (s : Fin 3) : sProp 𝕄 := ((c : Thread nD τ).loc main_v1) ↦[Finset.univ]{qs0_1 s} W
abbrev landed0_1 (s : Fin 3) (b : Fin 32) (f : HbBuf0 (F := F) c (rslot0_1 s)) : HbBuf0 (F := F) c (rslot0_1 s) :=
  (rslot0_1 s).view.writes (Elt F) f [⟨Rect.whole S8x64x2048, ReadAs.same.apply ((srcB0_1 b).view.read (Elt F) W)⟩]
abbrev flightP0_1 (s : Fin 3) (b : Fin 32) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
/-- Lib/Ring.lean's `slot` and `flight` families: a slot not in flight carries its copy of the operand whole; a flight, the
    rest of the copy it borrowed from. No block is held apart: the `home` family is `emp`. -/
abbrev slotW0_1 (s : Fin 3) (f : HbBuf0 (F := F) c (rslot0_1 s)) : sProp 𝕄 := iprop(slotP0_1 c s f ∗ wholeP0_1 c W s)
abbrev flightW0_1 (s : Fin 3) (b : Fin 32) (f : HbBuf0 (F := F) c (rslot0_1 s)) : sProp 𝕄 := iprop(flightP0_1 c W s b f ∗ restP0_1 c W s b)
abbrev noHome0_1 (b : Fin 32) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_1 (k : ℕ) : sProp 𝕄 :=
  if k = 0 then Ring.At₀ (cellP0_1 c) (slotW0_1 c W) noHome0_1
  else Ring.At 2 (cellP0_1 c) (slotW0_1 c W) noHome0_1 (flightW0_1 c W) k
omit [FloatOps F] in
theorem cellP0_1_0 : cellP0_1 (F := F) c 0 = semVal ((c : Thread nD τ), SemLoc.dma 11) 0 := congrArg (fun x => (semVal ((c : Thread nD τ), x) 0 : sProp 𝕄)) cellR0_1_0
omit [FloatOps F] in
theorem cellP0_1_1 : cellP0_1 (F := F) c 1 = semVal ((c : Thread nD τ), SemLoc.dma 12) 0 := congrArg (fun x => (semVal ((c : Thread nD τ), x) 0 : sProp 𝕄)) cellR0_1_1
omit [FloatOps F] in
theorem cellP0_1_2 : cellP0_1 (F := F) c 2 = semVal ((c : Thread nD τ), SemLoc.dma 13) 0 := congrArg (fun x => (semVal ((c : Thread nD τ), x) 0 : sProp 𝕄)) cellR0_1_2
end Ring0_1

/-! ### The slots, disjoint and covering the scratch (Lib/Ring.lean `lead_disjoint` / `lead_cover`) -/

abbrev slotSet0_1 (s : Fin 3) : Finset S3x8x64x2048.Idx := (Rect.unit (s := S3x8x64x2048) ![s.val, 0, 0, 0] S1x8x64x2048.size (inb_slot0_1 s)).set
theorem slotSet0_1_eq (s : Fin 3) : (rslot0_1 s).view.set = slotSet0_1 s := by
  simp only [rslot0_1, Memref.view_squeeze, View.set_reshape]; exact View.set_slice_whole _ _
theorem slots0_1_disjoint (s s' : Fin 3) (h : s ≠ s') : Disjoint (slotSet0_1 s) (slotSet0_1 s') :=
  Ring.lead_disjoint (s := S3x8x64x2048) (0 : Fin 4) 1 (fun s : Fin 3 => (![s.val, 0, 0, 0] : Fin 4 → Nat)) S1x8x64x2048.size inb_slot0_1 (fun s => by simp) rfl s s' h
theorem slots0_1_cover : Finset.univ.biUnion slotSet0_1 = Finset.univ :=
  Ring.lead_cover (s := S3x8x64x2048) (0 : Fin 4) 1 (fun s : Fin 3 => (![s.val, 0, 0, 0] : Fin 4 → Nat)) S1x8x64x2048.size inb_slot0_1 (fun s => by simp)
    (fun s a ha => by fin_cases a <;> first | exact absurd rfl ha | rfl) rfl (fun a ha => by fin_cases a <;> first | exact absurd rfl ha | rfl) rfl

/-! ### What the launch hands the ring, and takes back -/

section InOut0_1
variable (c : Dev nD) (W : HbBuf0 (F := F) c hbM0_1)
theorem slotP0_1_eq (s : Fin 3) (f) : slotP0_1 (F := F) c s f = (((c : Thread nD τ).loc cc0_scratch3) ↦[slotSet0_1 s]{fullShare} f : sProp 𝕄) := by
  unfold slotP0_1; rw [slotSet0_1_eq]; rfl
/-- A slot's copy of the operand, whole, is block `b`'s elements and the rest (any `b`: what a run splits off before its step
    starts block `b`, and joins back once the wait returned it); -/
theorem src0_1_split (s : Fin 3) (b : Fin 32) : wholeP0_1 (F := F) c W s ⊣⊢ iprop(srcP0_1 c W s b ∗ restP0_1 c W s b) := by
  unfold restP0_1; exact pointsTo_split_subset (Finset.subset_univ _)
/-- the operand whole at the full share is the three copies (halves, the right one halved again). -/
theorem whole0_1_split : (hbPt0 c hbM0_1 W : sProp 𝕄) ⊣⊢ iprop(wholeP0_1 c W 0 ∗ wholeP0_1 c W 1 ∗ wholeP0_1 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_1_in : iprop(∃ d, owns (c : Thread nD τ) scM0_3 fullShare d) ⊢ (iprop((∃ f, slotP0_1 (F := F) c 0 f) ∗ (∃ f, slotP0_1 (F := F) c 1 f) ∗ ∃ f, slotP0_1 (F := F) c 2 f) : sProp 𝕄) := by
  simp only [scM0_3, owns_whole]
  exact Ring.slots3_split (U := Pipeline.UD sig nD τ) (ℓ := (c : Thread nD τ).loc cc0_scratch3) (q := fullShare) slotSet0_1 slots0_1_disjoint slots0_1_cover
    (slotP0_1 c 0) (slotP0_1 c 1) (slotP0_1 c 2) (slotP0_1_eq c 0) (slotP0_1_eq c 1) (slotP0_1_eq c 2)
set_option maxHeartbeats 1000000 in
theorem slots0_1_out : (iprop((∃ f, slotP0_1 (F := F) c 0 f) ∗ (∃ f, slotP0_1 (F := F) c 1 f) ∗ ∃ f, slotP0_1 (F := F) c 2 f) : sProp 𝕄) ⊢ iprop(∃ d, owns (c : Thread nD τ) scM0_3 fullShare d) := by
  simp only [scM0_3, owns_whole]
  exact Ring.slots3_join (U := Pipeline.UD sig nD τ) (ℓ := (c : Thread nD τ).loc cc0_scratch3) (q := fullShare) slotSet0_1 slots0_1_disjoint slots0_1_cover
    (slotP0_1 c 0) (slotP0_1 c 1) (slotP0_1 c 2) (slotP0_1_eq c 0) (slotP0_1_eq c 1) (slotP0_1_eq c 2)
end InOut0_1

/-- INTO THE RING: the launch's pieces — the scratch whole, the cells at zero, the operand whole — are the ring before its first step; -/
theorem ring0_1_in (c : Dev nD) :
    iprop((∃ d, owns (c : Thread nD τ) scM0_3 fullShare d) ∗ (semVal ((c : Thread nD τ), SemLoc.dma 11) 0 ∗ semVal ((c : Thread nD τ), SemLoc.dma 12) 0 ∗ semVal ((c : Thread nD τ), SemLoc.dma 13) 0) ∗ hbPt0 c hbM0_1 (V m c main_v1))
      ⊢ ringAt0_1 c (V m c main_v1) 0 := by
  unfold ringAt0_1; rw [if_pos rfl]; unfold Ring.At₀
  rw [Ring.bigSep_fin3]
  simp only [Ring.free, cellP0_1_0, cellP0_1_1, cellP0_1_2]
  iintro ⟨HS, Hc, HW⟩
  iapply Ring.with_homes₀
  icases Hc with ⟨H0, H1, H2⟩
  ihave HS' := (slots0_1_in (F := F) c) $$ HS
  icases HS' with ⟨⟨%d0, HS0⟩, ⟨%d1, HS1⟩, ⟨%d2, HS2⟩⟩
  ihave HW' := (whole0_1_split (F := F) c (V m c main_v1)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_1_out (c : Dev nD) :
    ringAt0_1 c (V m c main_v1) 32
      ⊢ iprop((∃ d, owns (c : Thread nD τ) scM0_3 fullShare d) ∗ (semVal ((c : Thread nD τ), SemLoc.dma 11) 0 ∗ semVal ((c : Thread nD τ), SemLoc.dma 12) 0 ∗ semVal ((c : Thread nD τ), SemLoc.dma 13) 0) ∗ hbPt0 c hbM0_1 (V m c main_v1)) := by
  unfold ringAt0_1; rw [if_neg (by decide)]
  iintro H
  ihave H' := (Ring.free3_of_At_last _ _ _ _) $$ H
  simp only [Ring.free, cellP0_1_0, cellP0_1_1, cellP0_1_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_1_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_1_split (F := F) c (V m c main_v1)).2; isplitl [HW0]; · iexact HW0
    isplitl [HW1]; · iexact HW1
    iexact HW2

/-! ### Ring 1's steps at each case's points, and its canonical names: the body's operands at point `t` are the ring's slots, blocks and cells -/

section Canon0_1
omit [FloatOps F]
/-- At the points of case A the ring takes its FIRST step. -/
theorem rstep0_1_A : ∀ t : Fin grid0.N, cond0_0 (grid0.coords t) → cond0_1 (grid0.coords t) → cond0_2 (grid0.coords t) → t.val = 0 ∧ (t.val + 1) = 1 := by decide +kernel
/-- At the points of case B the ring takes a step, a block still to start. -/
theorem rstep0_1_B : ∀ t : Fin grid0.N, ¬cond0_0 (grid0.coords t) → cond0_1 (grid0.coords t) → ¬cond0_2 (grid0.coords t) → 1 ≤ t.val ∧ t.val + 2 < 32 ∧ (t.val + 1) = t.val + 1 := by decide +kernel
/-- At the points of case C the ring takes its LAST step. -/
theorem rstep0_1_C : ∀ t : Fin grid0.N, ¬cond0_0 (grid0.coords t) → ¬cond0_1 (grid0.coords t) → ¬cond0_2 (grid0.coords t) → 1 ≤ t.val ∧ 32 ≤ t.val + 2 ∧ t.val < 32 ∧ (t.val + 1) = t.val + 1 := by decide +kernel
set_option synthInstance.maxSize 4096 in
theorem coff0_1_1 : ∀ t : Fin grid0.N, cond0_0 (grid0.coords t) → cond0_1 (grid0.coords t) → cond0_2 (grid0.coords t) → (![0, 0, 0, 0] : Fin 4 → Nat) = ![(Ring.sl 3 t.val).val, 0, 0, 0] := by decide +kernel
@[sl_canon] theorem canon0_1_1 (t : Fin grid0.N) (h0 : cond0_0 (grid0.coords t)) (h1 : cond0_1 (grid0.coords t)) (h2 : cond0_2 (grid0.coords t)) :
    (scM0_3.slice (Rect.unit (s := S3x8x64x2048) ![0, 0, 0, 0] S1x8x64x2048.size inb_S3x8x64x2048_S1x8x64x2048_0_0_0_0) (fun _ => rfl)).squeeze S8x64x2048 squeezes_S1x8x64x2048_S8x64x2048 = rslot0_1 (Ring.sl 3 t.val) :=
  congrArg (fun M : Memref sig .tc .vmem S1x8x64x2048 .f32 => M.squeeze S8x64x2048 squeezes_S1x8x64x2048_S8x64x2048) (Memref.slice_unit_congr _ (coff0_1_1 t h0 h1 h2) _ _ (fun _ => rfl) (fun _ => rfl))
set_option synthInstance.maxSize 4096 in
theorem coff0_1_2 : ∀ t : Fin grid0.N, cond0_0 (grid0.coords t) → cond0_1 (grid0.coords t) → cond0_2 (grid0.coords t) → (![1, 0] : Fin 2 → Nat) = ![1, (Ring.sl 3 t.val).val] := by decide +kernel
@[sl_canon] theorem canon0_1_2 (t : Fin grid0.N) (h0 : cond0_0 (grid0.coords t)) (h1 : cond0_1 (grid0.coords t)) (h2 : cond0_2 (grid0.coords t)) :
    (cc0_scratch4.slice (Rect.unit (s := S2x3) ![1, 0] S1x1.size inb_S2x3_S1x1_1_0)).squeeze S_ squeezes_S1x1_S_ = cellA0_1 (Ring.sl 3 t.val) :=
  congrArg (fun A : DmaSems sig S1x1 => A.squeeze S_ squeezes_S1x1_S_) (SemArray.slice_unit_congr _ (coff0_1_2 t h0 h1 h2) _ _)
set_option synthInstance.maxSize 4096 in
theorem coff0_1_3 : ∀ t : Fin grid0.N, cond0_0 (grid0.coords t) → cond0_1 (grid0.coords t) → cond0_2 (grid0.coords t) → (![0, 0, 0, 0, 0] : Fin 5 → Nat) = ![0, 1 * (Ring.bk 32 t.val).val, 0, 0, 0] := by decide +kernel
@[sl_canon] theorem canon0_1_3 (t : Fin grid0.N) (h0 : cond0_0 (grid0.coords t)) (h1 : cond0_1 (grid0.coords t)) (h2 : cond0_2 (grid0.coords t)) :
    (hbM0_1.slice (Rect.unit (s := S2x32x8x64x2048) ![0, 0, 0, 0, 0] S1x1x8x64x2048.size inb_S2x32x8x64x2048_S1x1x8x64x2048_0_0_0_0_0) (fun _ => rfl)).squeeze S8x64x2048 squeezes_S1x1x8x64x2048_S8x64x2048 = srcB0_1 (Ring.bk 32 t.val) :=
  congrArg (fun M : Memref sig .tc .hbm S1x1x8x64x2048 .f32 => M.squeeze S8x64x2048 squeezes_S1x1x8x64x2048_S8x64x2048) (Memref.slice_unit_congr _ (coff0_1_3 t h0 h1 h2) _ _ (fun _ => rfl) (fun _ => rfl))
set_option synthInstance.maxSize 4096 in
theorem coff0_1_4 : ∀ t : Fin grid0.N, cond0_0 (grid0.coords t) → cond0_1 (grid0.coords t) → cond0_2 (grid0.coords t) → (![1, 0, 0, 0] : Fin 4 → Nat) = ![(Ring.sl 3 (t.val + 1)).val, 0, 0, 0] := by decide +kernel
@[sl_canon] theorem canon0_1_4 (t : Fin grid0.N) (h0 : cond0_0 (grid0.coords t)) (h1 : cond0_1 (grid0.coords t)) (h2 : cond0_2 (grid0.coords t)) :
    (scM0_3.slice (Rect.unit (s := S3x8x64x2048) ![1, 0, 0, 0] S1x8x64x2048.size inb_S3x8x64x2048_S1x8x64x2048_1_0_0_0) (fun _ => rfl)).squeeze S8x64x2048 squeezes_S1x8x64x2048_S8x64x2048 = rslot0_1 (Ring.sl 3 (t.val + 1)) :=
  congrArg (fun M : Memref sig .tc .vmem S1x8x64x2048 .f32 => M.squeeze S8x64x2048 squeezes_S1x8x64x2048_S8x64x2048) (Memref.slice_unit_congr _ (coff0_1_4 t h0 h1 h2) _ _ (fun _ => rfl) (fun _ => rfl))
set_option synthInstance.maxSize 4096 in
theorem coff0_1_5 : ∀ t : Fin grid0.N, cond0_0 (grid0.coords t) → cond0_1 (grid0.coords t) → cond0_2 (grid0.coords t) → (![1, 1] : Fin 2 → Nat) = ![1, (Ring.sl 3 (t.val + 1)).val] := by decide +kernel
@[sl_canon] theorem canon0_1_5 (t : Fin grid0.N) (h0 : cond0_0 (grid0.coords t)) (h1 : cond0_1 (grid0.coords t)) (h2 : cond0_2 (grid0.coords t)) :
    (cc0_scratch4.slice (Rect.unit (s := S2x3) ![1, 1] S1x1.size inb_S2x3_S1x1_1_1)).squeeze S_ squeezes_S1x1_S_ = cellA0_1 (Ring.sl 3 (t.val + 1)) :=
  congrArg (fun A : DmaSems sig S1x1 => A.squeeze S_ squeezes_S1x1_S_) (SemArray.slice_unit_congr _ (coff0_1_5 t h0 h1 h2) _ _)
set_option synthInstance.maxSize 4096 in
theorem coff0_1_6 : ∀ t : Fin grid0.N, cond0_0 (grid0.coords t) → cond0_1 (grid0.coords t) → cond0_2 (grid0.coords t) → (![0, 1, 0, 0, 0] : Fin 5 → Nat) = ![0, 1 * (Ring.bk 32 (t.val + 1)).val, 0, 0, 0] := by decide +kernel
@[sl_canon] theorem canon0_1_6 (t : Fin grid0.N) (h0 : cond0_0 (grid0.coords t)) (h1 : cond0_1 (grid0.coords t)) (h2 : cond0_2 (grid0.coords t)) :
    (hbM0_1.slice (Rect.unit (s := S2x32x8x64x2048) ![0, 1, 0, 0, 0] S1x1x8x64x2048.size inb_S2x32x8x64x2048_S1x1x8x64x2048_0_1_0_0_0) (fun _ => rfl)).squeeze S8x64x2048 squeezes_S1x1x8x64x2048_S8x64x2048 = srcB0_1 (Ring.bk 32 (t.val + 1)) :=
  congrArg (fun M : Memref sig .tc .hbm S1x1x8x64x2048 .f32 => M.squeeze S8x64x2048 squeezes_S1x1x8x64x2048_S8x64x2048) (Memref.slice_unit_congr _ (coff0_1_6 t h0 h1 h2) _ _ (fun _ => rfl) (fun _ => rfl))
set_option synthInstance.maxSize 4096 in
theorem coff0_1_7 : ∀ t : Fin grid0.N, k0_off2 (grid0.coords t) = ![(Ring.sl 3 (t.val + 2)).val, 0, 0, 0] := by decide +kernel
@[sl_canon] theorem canon0_1_7 (t : Fin grid0.N) (h1 : cond0_1 (grid0.coords t)) :
    (scM0_3.slice (Rect.unit (s := S3x8x64x2048) (k0_off2 (grid0.coords t)) S1x8x64x2048.size (k0_off2_inb (grid0.coords t) h1)) (fun _ => rfl)).squeeze S8x64x2048 squeezes_S1x8x64x2048_S8x64x2048 = rslot0_1 (Ring.sl 3 (t.val + 2)) :=
  congrArg (fun M : Memref sig .tc .vmem S1x8x64x2048 .f32 => M.squeeze S8x64x2048 squeezes_S1x8x64x2048_S8x64x2048) (Memref.slice_unit_congr _ (coff0_1_7 t ) _ _ (fun _ => rfl) (fun _ => rfl))
set_option synthInstance.maxSize 4096 in
theorem coff0_1_8 : ∀ t : Fin grid0.N, k0_off4 (grid0.coords t) = ![1, (Ring.sl 3 (t.val + 2)).val] := by decide +kernel
@[sl_canon] theorem canon0_1_8 (t : Fin grid0.N) (h1 : cond0_1 (grid0.coords t)) :
    (cc0_scratch4.slice (Rect.unit (s := S2x3) (k0_off4 (grid0.coords t)) S1x1.size (k0_off4_inb (grid0.coords t) h1))).squeeze S_ squeezes_S1x1_S_ = cellA0_1 (Ring.sl 3 (t.val + 2)) :=
  congrArg (fun A : DmaSems sig S1x1 => A.squeeze S_ squeezes_S1x1_S_) (SemArray.slice_unit_congr _ (coff0_1_8 t ) _ _)
set_option synthInstance.maxSize 4096 in
theorem coff0_1_9 : ∀ t : Fin grid0.N, cond0_0 (grid0.coords t) → cond0_1 (grid0.coords t) → cond0_2 (grid0.coords t) → k0_off3 (grid0.coords t) = ![0, 1 * (Ring.bk 32 (t.val + 2)).val, 0, 0, 0] := by decide +kernel
@[sl_canon] theorem canon0_1_9 (t : Fin grid0.N) (h0 : cond0_0 (grid0.coords t)) (h1 : cond0_1 (grid0.coords t)) (h2 : cond0_2 (grid0.coords t)) :
    (hbM0_1.slice (Rect.unit (s := S2x32x8x64x2048) (k0_off3 (grid0.coords t)) S1x1x8x64x2048.size (k0_off3_inb (grid0.coords t) h1)) (fun _ => rfl)).squeeze S8x64x2048 squeezes_S1x1x8x64x2048_S8x64x2048 = srcB0_1 (Ring.bk 32 (t.val + 2)) :=
  congrArg (fun M : Memref sig .tc .hbm S1x1x8x64x2048 .f32 => M.squeeze S8x64x2048 squeezes_S1x1x8x64x2048_S8x64x2048) (Memref.slice_unit_congr _ (coff0_1_9 t h0 h1 h2) _ _ (fun _ => rfl) (fun _ => rfl))
set_option synthInstance.maxSize 4096 in
theorem coff0_1_10 : ∀ t : Fin grid0.N, k0_off6 (grid0.coords t) = ![(Ring.sl 3 t.val).val, 0, 0, 0] := by decide +kernel
@[sl_canon] theorem canon0_1_10 (t : Fin grid0.N) :
    (scM0_3.slice (Rect.unit (s := S3x8x64x2048) (k0_off6 (grid0.coords t)) S1x8x64x2048.size (k0_off6_inb (grid0.coords t))) (fun _ => rfl)).squeeze S8x64x2048 squeezes_S1x8x64x2048_S8x64x2048 = rslot0_1 (Ring.sl 3 t.val) :=
  congrArg (fun M : Memref sig .tc .vmem S1x8x64x2048 .f32 => M.squeeze S8x64x2048 squeezes_S1x8x64x2048_S8x64x2048) (Memref.slice_unit_congr _ (coff0_1_10 t ) _ _ (fun _ => rfl) (fun _ => rfl))
set_option synthInstance.maxSize 4096 in
theorem coff0_1_11 : ∀ t : Fin grid0.N, k0_off8 (grid0.coords t) = ![1, (Ring.sl 3 t.val).val] := by decide +kernel
@[sl_canon] theorem canon0_1_11 (t : Fin grid0.N) :
    (cc0_scratch4.slice (Rect.unit (s := S2x3) (k0_off8 (grid0.coords t)) S1x1.size (k0_off8_inb (grid0.coords t)))).squeeze S_ squeezes_S1x1_S_ = cellA0_1 (Ring.sl 3 t.val) :=
  congrArg (fun A : DmaSems sig S1x1 => A.squeeze S_ squeezes_S1x1_S_) (SemArray.slice_unit_congr _ (coff0_1_11 t ) _ _)
set_option synthInstance.maxSize 4096 in
theorem coff0_1_12 : ∀ t : Fin grid0.N, ¬cond0_0 (grid0.coords t) → cond0_1 (grid0.coords t) → ¬cond0_2 (grid0.coords t) → k0_off3 (grid0.coords t) = ![0, 1 * (Ring.bk 32 (t.val + 2)).val, 0, 0, 0] := by decide +kernel
@[sl_canon] theorem canon0_1_12 (t : Fin grid0.N) (h0 : ¬cond0_0 (grid0.coords t)) (h1 : cond0_1 (grid0.coords t)) (h2 : ¬cond0_2 (grid0.coords t)) :
    (hbM0_1.slice (Rect.unit (s := S2x32x8x64x2048) (k0_off3 (grid0.coords t)) S1x1x8x64x2048.size (k0_off3_inb (grid0.coords t) h1)) (fun _ => rfl)).squeeze S8x64x2048 squeezes_S1x1x8x64x2048_S8x64x2048 = srcB0_1 (Ring.bk 32 (t.val + 2)) :=
  congrArg (fun M : Memref sig .tc .hbm S1x1x8x64x2048 .f32 => M.squeeze S8x64x2048 squeezes_S1x1x8x64x2048_S8x64x2048) (Memref.slice_unit_congr _ (coff0_1_12 t h0 h1 h2) _ _ (fun _ => rfl) (fun _ => rfl))
end Canon0_1

end Cert.KernelIdeal.Sample

end
-- ==== Proof.SampleRun.lean ====
/- The runs of the sample attention's body, one for each of the three kinds of grid point, at any float instance:
   the first point fills the two count tables, the others find them filled. Each run hands back the pieces its
   stores leave in the output block. -/
module

public import proofs.«01_k».proof.Proof.SampleSetup

@[expose] public section

set_option maxRecDepth 16384

noncomputable section

namespace Cert.KernelIdeal.Sample

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1228000 in
/-- The body at the first point: it starts the rings, fills the two count tables and computes its block. Beside the
    triple, the pieces its stores leave in the output block and in the two tables. -/
noncomputable def bodyRun_A (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : cond0_0 (grid0.coords t)) (hc1 : cond0_1 (grid0.coords t)) (hc2 : cond0_2 (grid0.coords t))
    (x0 : Vec F S1x8x4x64 .f32) (x1 : Vec F S1x8x4x64 .f32) (x2 : Vec F S1x8x4x64 .f32) (fh0 : HbBuf0 (F := F) c hbM0_0) (fh1 : HbBuf0 (F := F) c hbM0_1) :
    Σ' (L3 : List (View.Piece (Elt F) S1x8x4x64 .f32)), Σ' (LS0 : List (View.Piece (Elt F) S4x2048 .f32)), { LS1 : List (View.Piece (Elt F) S4x4 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg6 fullShare d) ∗ (∃ d, owns (c : Thread nD τ) arg7 fullShare d) ∗ (∃ d, owns (c : Thread nD τ) arg8 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ Ring.free (cellP0_1 c) (slotW0_1 c fh1) (Ring.sl 3 t.val) ∗ Ring.free (cellP0_1 c) (slotW0_1 c fh1) (Ring.sl 3 (t.val + 1)) ∗ Ring.free (cellP0_1 c) (slotW0_1 c fh1) (Ring.sl 3 (t.val + 2)) ∗ owes (c : Thread nD τ) 0 W
            ∗ (iprop(owns (c : Thread nD τ) arg1 fullShare x0 ∗ owns (c : Thread nD τ) arg2 fullShare x1 ∗ owns (c : Thread nD τ) arg3 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ Ring.inflight (flightW0_0 c fh0) (Ring.sl 3 (t.val + 1)) (Ring.bk 32 (t.val + 1)) ∗ Ring.inflight (flightW0_0 c fh0) (Ring.sl 3 (t.val + 2)) (Ring.bk 32 (t.val + 2)) ∗ Ring.free (cellP0_0 c) (slotW0_0 c fh0) (Ring.sl 3 t.val) ∗ Ring.inflight (flightW0_1 c fh1) (Ring.sl 3 (t.val + 1)) (Ring.bk 32 (t.val + 1)) ∗ Ring.inflight (flightW0_1 c fh1) (Ring.sl 3 (t.val + 2)) (Ring.bk 32 (t.val + 2)) ∗ Ring.free (cellP0_1 c) (slotW0_1 c fh1) (Ring.sl 3 t.val) ∗ (∃ W', owes (c : Thread nD τ) 0 W')) -∗ K ⟨⟩))
          ⊢ wp frame (wpE (defs₀ (F := F)) Variants.none c none) Set.univ (cc0_attn_sample (grid0.coords t) arg1 harg1 arg2 harg2 arg3 harg3 (Memref.whole main_v0) (Memref.isWhole_whole _) (Memref.whole main_v1) (Memref.isWhole_whole _) arg6 harg6 arg7 harg7 arg8 harg8 scM0_2 (Memref.isWhole_whole _) scM0_3 (Memref.isWhole_whole _) cc0_scratch4) K } := by
  refine ⟨?_, ?_, ?_, fun W K => ?run⟩
  case run =>
    haveI : Fact (cond0_0 (grid0.coords t)) := ⟨hc0⟩
    haveI : Fact (cond0_1 (grid0.coords t)) := ⟨hc1⟩
    haveI : Fact (cond0_2 (grid0.coords t)) := ⟨hc2⟩
    simp only [cc0_attn_sample_eq_skeleton]; unfold cc0_attn_sample_skel
    simp only [k0_part6_eq_skeleton, k0_part1_eq_skeleton, k0_part7_eq_skeleton, k0_part2_eq_skeleton, k0_part3_eq_skeleton, k0_part4_eq_skeleton, k0_part5_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    have hcanon0 := canon0_0_1 t hc0 hc1 hc2
    have hcanon1 := canon0_0_2 t hc0 hc1 hc2
    have hcanon2 := canon0_0_3 t hc0 hc1 hc2
    have hcanon3 := canon0_0_4 t hc0 hc1 hc2
    have hcanon4 := canon0_0_5 t hc0 hc1 hc2
    have hcanon5 := canon0_0_6 t hc0 hc1 hc2
    have hcanon6 := canon0_0_10 t
    have hcanon7 := canon0_1_1 t hc0 hc1 hc2
    have hcanon8 := canon0_1_2 t hc0 hc1 hc2
    have hcanon9 := canon0_1_3 t hc0 hc1 hc2
    have hcanon10 := canon0_1_4 t hc0 hc1 hc2
    have hcanon11 := canon0_1_5 t hc0 hc1 hc2
    have hcanon12 := canon0_1_6 t hc0 hc1 hc2
    have hcanon13 := canon0_1_10 t
    unfold owns Ring.free Ring.inflight
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, ⟨Hc0_1_0, ⟨%fs0_1_0, Hs0_1_0, Hw0_1_0⟩⟩, ⟨Hc0_1_1, ⟨%fs0_1_1, Hs0_1_1, Hw0_1_1⟩⟩, ⟨Hc0_1_2, ⟨%fs0_1_2, Hs0_1_2, Hw0_1_2⟩⟩, HW, Hk⟩
    ihave Hsp0_0_0 := (src0_0_split c fh0 (Ring.sl 3 t.val) (Ring.bk 32 t.val)).1 $$ Hw0_0_0
    icases Hsp0_0_0 with ⟨Hh0_0_0, Hr0_0_0⟩
    ihave Hsp0_0_1 := (src0_0_split c fh0 (Ring.sl 3 (t.val + 1)) (Ring.bk 32 (t.val + 1))).1 $$ Hw0_0_1
    icases Hsp0_0_1 with ⟨Hh0_0_1, Hr0_0_1⟩
    ihave Hsp0_0_2 := (src0_0_split c fh0 (Ring.sl 3 (t.val + 2)) (Ring.bk 32 (t.val + 2))).1 $$ Hw0_0_2
    icases Hsp0_0_2 with ⟨Hh0_0_2, Hr0_0_2⟩
    ihave Hsp0_1_0 := (src0_1_split c fh1 (Ring.sl 3 t.val) (Ring.bk 32 t.val)).1 $$ Hw0_1_0
    icases Hsp0_1_0 with ⟨Hh0_1_0, Hr0_1_0⟩
    ihave Hsp0_1_1 := (src0_1_split c fh1 (Ring.sl 3 (t.val + 1)) (Ring.bk 32 (t.val + 1))).1 $$ Hw0_1_1
    icases Hsp0_1_1 with ⟨Hh0_1_1, Hr0_1_1⟩
    ihave Hsp0_1_2 := (src0_1_split c fh1 (Ring.sl 3 (t.val + 2)) (Ring.bk 32 (t.val + 2))).1 $$ Hw0_1_2
    icases Hsp0_1_2 with ⟨Hh0_1_2, Hr0_1_2⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    isplitl [HS1]; · iexists _; iexact HS1
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 32 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_2 Hr0_1_2]
    · iexists _; isplitl [Hc0_1_2]; · iexact Hc0_1_2
      iexact Hr0_1_2
    isplitl [Hc0_1_0 Hs0_1_0 Hh0_1_0 Hr0_1_0]
    · isplitl [Hc0_1_0]; · iexact Hc0_1_0
      iexists _; isplitl [Hs0_1_0]; · iexact Hs0_1_0
      iapply (src0_1_split c fh1 (Ring.sl 3 t.val) (Ring.bk 32 t.val)).2; isplitl [Hh0_1_0]; · iexact Hh0_1_0
      iexact Hr0_1_0
    iexists _; iexact HW

set_option maxHeartbeats 1028000 in
/-- The body at a middle point: the tables hold `xs0` and `xs1`, are read and left as they are. Beside the triple, the
    pieces its stores leave in the output block. -/
noncomputable def bodyRun_B (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : ¬cond0_0 (grid0.coords t)) (hc1 : cond0_1 (grid0.coords t)) (hc2 : ¬cond0_2 (grid0.coords t))
    (x0 : Vec F S1x8x4x64 .f32) (x1 : Vec F S1x8x4x64 .f32) (x2 : Vec F S1x8x4x64 .f32) (fh0 : HbBuf0 (F := F) c hbM0_0) (fh1 : HbBuf0 (F := F) c hbM0_1) (xs0 : Vec F S4x2048 .f32) (xs1 : Vec F S4x4 .f32) :
    { L3 : List (View.Piece (Elt F) S1x8x4x64 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg6 fullShare d) ∗ owns (c : Thread nD τ) arg7 fullShare xs0 ∗ owns (c : Thread nD τ) arg8 fullShare xs1 ∗ Ring.inflight (flightW0_0 c fh0) (Ring.sl 3 t.val) (Ring.bk 32 t.val) ∗ Ring.inflight (flightW0_0 c fh0) (Ring.sl 3 (t.val + 1)) (Ring.bk 32 (t.val + 1)) ∗ Ring.free (cellP0_0 c) (slotW0_0 c fh0) (Ring.sl 3 (t.val + 2)) ∗ Ring.inflight (flightW0_1 c fh1) (Ring.sl 3 t.val) (Ring.bk 32 t.val) ∗ Ring.inflight (flightW0_1 c fh1) (Ring.sl 3 (t.val + 1)) (Ring.bk 32 (t.val + 1)) ∗ Ring.free (cellP0_1 c) (slotW0_1 c fh1) (Ring.sl 3 (t.val + 2)) ∗ owes (c : Thread nD τ) 0 W
            ∗ (iprop(owns (c : Thread nD τ) arg1 fullShare x0 ∗ owns (c : Thread nD τ) arg2 fullShare x1 ∗ owns (c : Thread nD τ) arg3 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ Ring.inflight (flightW0_0 c fh0) (Ring.sl 3 (t.val + 1)) (Ring.bk 32 (t.val + 1)) ∗ Ring.inflight (flightW0_0 c fh0) (Ring.sl 3 (t.val + 2)) (Ring.bk 32 (t.val + 2)) ∗ Ring.free (cellP0_0 c) (slotW0_0 c fh0) (Ring.sl 3 t.val) ∗ Ring.inflight (flightW0_1 c fh1) (Ring.sl 3 (t.val + 1)) (Ring.bk 32 (t.val + 1)) ∗ Ring.inflight (flightW0_1 c fh1) (Ring.sl 3 (t.val + 2)) (Ring.bk 32 (t.val + 2)) ∗ Ring.free (cellP0_1 c) (slotW0_1 c fh1) (Ring.sl 3 t.val) ∗ (∃ W', owes (c : Thread nD τ) 0 W')) -∗ K ⟨⟩))
          ⊢ wp frame (wpE (defs₀ (F := F)) Variants.none c none) Set.univ (cc0_attn_sample (grid0.coords t) arg1 harg1 arg2 harg2 arg3 harg3 (Memref.whole main_v0) (Memref.isWhole_whole _) (Memref.whole main_v1) (Memref.isWhole_whole _) arg6 harg6 arg7 harg7 arg8 harg8 scM0_2 (Memref.isWhole_whole _) scM0_3 (Memref.isWhole_whole _) cc0_scratch4) K } := by
  refine ⟨?_, fun W K => ?run⟩
  case run =>
    haveI : Fact (¬cond0_0 (grid0.coords t)) := ⟨hc0⟩
    haveI : Fact (cond0_1 (grid0.coords t)) := ⟨hc1⟩
    haveI : Fact (¬cond0_2 (grid0.coords t)) := ⟨hc2⟩
    simp only [cc0_attn_sample_eq_skeleton]; unfold cc0_attn_sample_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    have hcanon0 := canon0_0_10 t
    have hcanon1 := canon0_1_10 t
    unfold owns Ring.free Ring.inflight
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1_0, Hf0_1_0, Hrf0_1_0⟩, ⟨%ff0_1_1, Hf0_1_1, Hrf0_1_1⟩, ⟨Hc0_1_2, ⟨%fs0_1_2, Hs0_1_2, Hw0_1_2⟩⟩, HW, Hk⟩
    ihave Hsp0_0_2 := (src0_0_split c fh0 (Ring.sl 3 (t.val + 2)) (Ring.bk 32 (t.val + 2))).1 $$ Hw0_0_2
    icases Hsp0_0_2 with ⟨Hh0_0_2, Hr0_0_2⟩
    ihave Hsp0_1_2 := (src0_1_split c fh1 (Ring.sl 3 (t.val + 2)) (Ring.bk 32 (t.val + 2))).1 $$ Hw0_1_2
    icases Hsp0_1_2 with ⟨Hh0_1_2, Hr0_1_2⟩
    obtain rfl := harg1.eq_unread hf0; obtain rfl := harg2.eq_unread hf1; obtain rfl := harg3.eq_unread hf2; obtain rfl := harg7.eq_unread hfs0; obtain rfl := harg8.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 32 t.val)).2; isplitl [Hf0_0_0_src]; · iexact Hf0_0_0_src
      iexact Hrf0_0_0
    isplitl [Hf0_1_1 Hrf0_1_1]
    · iexists ff0_1_1; isplitl [Hf0_1_1]; · iexact Hf0_1_1
      iexact Hrf0_1_1
    isplitl [Hc0_1_2 Hr0_1_2]
    · iexists _; isplitl [Hc0_1_2]; · iexact Hc0_1_2
      iexact Hr0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh1 (Ring.sl 3 t.val) (Ring.bk 32 t.val)).2; isplitl [Hf0_1_0_src]; · iexact Hf0_1_0_src
      iexact Hrf0_1_0
    iexists _; iexact HW

set_option maxHeartbeats 1000000 in
/-- The body at one of the last two points, where no transfer is started. Otherwise as at a middle point. -/
noncomputable def bodyRun_C (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : ¬cond0_0 (grid0.coords t)) (hc1 : ¬cond0_1 (grid0.coords t)) (hc2 : ¬cond0_2 (grid0.coords t))
    (x0 : Vec F S1x8x4x64 .f32) (x1 : Vec F S1x8x4x64 .f32) (x2 : Vec F S1x8x4x64 .f32) (fh0 : HbBuf0 (F := F) c hbM0_0) (fh1 : HbBuf0 (F := F) c hbM0_1) (xs0 : Vec F S4x2048 .f32) (xs1 : Vec F S4x4 .f32) :
    { L3 : List (View.Piece (Elt F) S1x8x4x64 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg6 fullShare d) ∗ owns (c : Thread nD τ) arg7 fullShare xs0 ∗ owns (c : Thread nD τ) arg8 fullShare xs1 ∗ Ring.inflight (flightW0_0 c fh0) (Ring.sl 3 t.val) (Ring.bk 32 t.val) ∗ Ring.slotAt 2 (cellP0_0 c) (slotW0_0 c fh0) (flightW0_0 c fh0) t.val 1 ∗ Ring.free (cellP0_0 c) (slotW0_0 c fh0) (Ring.sl 3 (t.val + 2)) ∗ Ring.inflight (flightW0_1 c fh1) (Ring.sl 3 t.val) (Ring.bk 32 t.val) ∗ Ring.slotAt 2 (cellP0_1 c) (slotW0_1 c fh1) (flightW0_1 c fh1) t.val 1 ∗ Ring.free (cellP0_1 c) (slotW0_1 c fh1) (Ring.sl 3 (t.val + 2)) ∗ owes (c : Thread nD τ) 0 W
            ∗ (iprop(owns (c : Thread nD τ) arg1 fullShare x0 ∗ owns (c : Thread nD τ) arg2 fullShare x1 ∗ owns (c : Thread nD τ) arg3 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ Ring.slotAt 2 (cellP0_1 c) (slotW0_1 c fh1) (flightW0_1 c fh1) t.val 1 ∗ Ring.free (cellP0_1 c) (slotW0_1 c fh1) (Ring.sl 3 (t.val + 2)) ∗ Ring.free (cellP0_1 c) (slotW0_1 c fh1) (Ring.sl 3 t.val) ∗ (∃ W', owes (c : Thread nD τ) 0 W')) -∗ K ⟨⟩))
          ⊢ wp frame (wpE (defs₀ (F := F)) Variants.none c none) Set.univ (cc0_attn_sample (grid0.coords t) arg1 harg1 arg2 harg2 arg3 harg3 (Memref.whole main_v0) (Memref.isWhole_whole _) (Memref.whole main_v1) (Memref.isWhole_whole _) arg6 harg6 arg7 harg7 arg8 harg8 scM0_2 (Memref.isWhole_whole _) scM0_3 (Memref.isWhole_whole _) cc0_scratch4) K } := by
  refine ⟨?_, fun W K => ?run⟩
  case run =>
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0_attn_sample_eq_skeleton]; unfold cc0_attn_sample_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    have hcanon0 := canon0_0_10 t
    have hcanon1 := canon0_1_10 t
    unfold owns Ring.free Ring.inflight
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ff0_0_0, Hf0_0_0, Hrf0_0_0⟩, Hro0_0_1, ⟨Hc0_0_2, ⟨%fs0_0_2, Hs0_0_2, Hw0_0_2⟩⟩, ⟨%ff0_1_0, Hf0_1_0, Hrf0_1_0⟩, Hro0_1_1, ⟨Hc0_1_2, ⟨%fs0_1_2, Hs0_1_2, Hw0_1_2⟩⟩, HW, Hk⟩
    obtain rfl := harg1.eq_unread hf0; obtain rfl := harg2.eq_unread hf1; obtain rfl := harg3.eq_unread hf2; obtain rfl := harg7.eq_unread hfs0; obtain rfl := harg8.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 32 t.val)).2; isplitl [Hf0_0_0_src]; · iexact Hf0_0_0_src
      iexact Hrf0_0_0
    isplitl [Hro0_1_1]; · iexact Hro0_1_1
    isplitl [Hc0_1_2 Hs0_1_2 Hw0_1_2]
    · isplitl [Hc0_1_2]; · iexact Hc0_1_2
      iexists _; isplitl [Hs0_1_2]; · iexact Hs0_1_2
      iexact Hw0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh1 (Ring.sl 3 t.val) (Ring.bk 32 t.val)).2; isplitl [Hf0_1_0_src]; · iexact Hf0_1_0_src
      iexact Hrf0_1_0
    iexists _; iexact HW

end Cert.KernelIdeal.Sample

end
-- ==== Proof.SampleFrame.lean ====
/- The sample attention's whole launch, at any float instance: what each grid point leaves in the output block is
   named, and the count tables the first point fills are carried to the points after it. -/
module

public import proofs.«01_k».proof.Proof.SampleRun
public import Idealize.ShloMosaic.Lib.Claim

@[expose] public section

set_option maxRecDepth 16384

noncomputable section

namespace Cert.KernelIdeal.Sample

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The buffers through which the stored pieces are read back; the choice does not matter. -/
abbrev VO : View sig .tc .vmem S1x8x4x64 .f32 := (Memref.whole cc0_stg3_0 : Memref sig .tc .vmem S1x8x4x64 .f32).view
abbrev VT : View sig .tc .vmem S4x2048 .f32 := scM0_0.view
abbrev VN : View sig .tc .vmem S4x4 .f32 := scM0_1.view

/-- The eight stores, one of each head, cover the output block (kind A of point). -/
theorem covers_A (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : cond0_0 (grid0.coords t)) (hc1 : cond0_1 (grid0.coords t)) (hc2 : cond0_2 (grid0.coords t))
    (x0 x1 x2 : Vec F S1x8x4x64 .f32) (fh0 : HbBuf0 (F := F) c hbM0_0) (fh1 : HbBuf0 (F := F) c hbM0_1) (y : S1x8x4x64.Idx) :
    ∃ pc ∈ (bodyRun_A c t arg1 harg1 arg2 harg2 arg3 harg3 arg6 harg6 arg7 harg7 arg8 harg8 hc0 hc1 hc2 x0 x1 x2 fh0 fh1).1, y ∈ pc.1.set :=
  View.cover_of_tiledL (bodyRun_A c t arg1 harg1 arg2 harg2 arg3 harg3 arg6 harg6 arg7 harg7 arg8 harg8 hc0 hc1 hc2 x0 x1 x2 fh0 fh1).1 S1x1x4x64.size (by sl_kernel_rfl) y

/-- What a point of kind A leaves in the output block. -/
def left_A (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : cond0_0 (grid0.coords t)) (hc1 : cond0_1 (grid0.coords t)) (hc2 : cond0_2 (grid0.coords t))
    (x0 x1 x2 : Vec F S1x8x4x64 .f32) (fh0 : HbBuf0 (F := F) c hbM0_0) (fh1 : HbBuf0 (F := F) c hbM0_1) : Vec F S1x8x4x64 .f32 :=
  VO.read (Elt F) (VO.writes (Elt F) VO.junk (bodyRun_A c t arg1 harg1 arg2 harg2 arg3 harg3 arg6 harg6 arg7 harg7 arg8 harg8 hc0 hc1 hc2 x0 x1 x2 fh0 fh1).1)

/-- The eight stores, one of each head, cover the output block (kind B of point). -/
theorem covers_B (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : ¬cond0_0 (grid0.coords t)) (hc1 : cond0_1 (grid0.coords t)) (hc2 : ¬cond0_2 (grid0.coords t))
    (x0 x1 x2 : Vec F S1x8x4x64 .f32) (fh0 : HbBuf0 (F := F) c hbM0_0) (fh1 : HbBuf0 (F := F) c hbM0_1) (xs0 : Vec F S4x2048 .f32) (xs1 : Vec F S4x4 .f32) (y : S1x8x4x64.Idx) :
    ∃ pc ∈ (bodyRun_B c t arg1 harg1 arg2 harg2 arg3 harg3 arg6 harg6 arg7 harg7 arg8 harg8 hc0 hc1 hc2 x0 x1 x2 fh0 fh1 xs0 xs1).1, y ∈ pc.1.set :=
  View.cover_of_tiledL (bodyRun_B c t arg1 harg1 arg2 harg2 arg3 harg3 arg6 harg6 arg7 harg7 arg8 harg8 hc0 hc1 hc2 x0 x1 x2 fh0 fh1 xs0 xs1).1 S1x1x4x64.size (by sl_kernel_rfl) y

/-- What a point of kind B leaves in the output block. -/
def left_B (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : ¬cond0_0 (grid0.coords t)) (hc1 : cond0_1 (grid0.coords t)) (hc2 : ¬cond0_2 (grid0.coords t))
    (x0 x1 x2 : Vec F S1x8x4x64 .f32) (fh0 : HbBuf0 (F := F) c hbM0_0) (fh1 : HbBuf0 (F := F) c hbM0_1) (xs0 : Vec F S4x2048 .f32) (xs1 : Vec F S4x4 .f32) : Vec F S1x8x4x64 .f32 :=
  VO.read (Elt F) (VO.writes (Elt F) VO.junk (bodyRun_B c t arg1 harg1 arg2 harg2 arg3 harg3 arg6 harg6 arg7 harg7 arg8 harg8 hc0 hc1 hc2 x0 x1 x2 fh0 fh1 xs0 xs1).1)

/-- The eight stores, one of each head, cover the output block (kind C of point). -/
theorem covers_C (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : ¬cond0_0 (grid0.coords t)) (hc1 : ¬cond0_1 (grid0.coords t)) (hc2 : ¬cond0_2 (grid0.coords t))
    (x0 x1 x2 : Vec F S1x8x4x64 .f32) (fh0 : HbBuf0 (F := F) c hbM0_0) (fh1 : HbBuf0 (F := F) c hbM0_1) (xs0 : Vec F S4x2048 .f32) (xs1 : Vec F S4x4 .f32) (y : S1x8x4x64.Idx) :
    ∃ pc ∈ (bodyRun_C c t arg1 harg1 arg2 harg2 arg3 harg3 arg6 harg6 arg7 harg7 arg8 harg8 hc0 hc1 hc2 x0 x1 x2 fh0 fh1 xs0 xs1).1, y ∈ pc.1.set :=
  View.cover_of_tiledL (bodyRun_C c t arg1 harg1 arg2 harg2 arg3 harg3 arg6 harg6 arg7 harg7 arg8 harg8 hc0 hc1 hc2 x0 x1 x2 fh0 fh1 xs0 xs1).1 S1x1x4x64.size (by sl_kernel_rfl) y

/-- What a point of kind C leaves in the output block. -/
def left_C (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : ¬cond0_0 (grid0.coords t)) (hc1 : ¬cond0_1 (grid0.coords t)) (hc2 : ¬cond0_2 (grid0.coords t))
    (x0 x1 x2 : Vec F S1x8x4x64 .f32) (fh0 : HbBuf0 (F := F) c hbM0_0) (fh1 : HbBuf0 (F := F) c hbM0_1) (xs0 : Vec F S4x2048 .f32) (xs1 : Vec F S4x4 .f32) : Vec F S1x8x4x64 .f32 :=
  VO.read (Elt F) (VO.writes (Elt F) VO.junk (bodyRun_C c t arg1 harg1 arg2 harg2 arg3 harg3 arg6 harg6 arg7 harg7 arg8 harg8 hc0 hc1 hc2 x0 x1 x2 fh0 fh1 xs0 xs1).1)

/-- The first point's stores cover the count table. -/
theorem coversTab (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : cond0_0 (grid0.coords t)) (hc1 : cond0_1 (grid0.coords t)) (hc2 : cond0_2 (grid0.coords t))
    (x0 x1 x2 : Vec F S1x8x4x64 .f32) (fh0 : HbBuf0 (F := F) c hbM0_0) (fh1 : HbBuf0 (F := F) c hbM0_1) (y : S4x2048.Idx) :
    ∃ pc ∈ (bodyRun_A c t arg1 harg1 arg2 harg2 arg3 harg3 arg6 harg6 arg7 harg7 arg8 harg8 hc0 hc1 hc2 x0 x1 x2 fh0 fh1).2.1, y ∈ pc.1.set :=
  View.cover_of_tiledL (bodyRun_A c t arg1 harg1 arg2 harg2 arg3 harg3 arg6 harg6 arg7 harg7 arg8 harg8 hc0 hc1 hc2 x0 x1 x2 fh0 fh1).2.1 S4x2048.size (by sl_kernel_rfl) y

/-- What the first point leaves in the count table. -/
def leftTab (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : cond0_0 (grid0.coords t)) (hc1 : cond0_1 (grid0.coords t)) (hc2 : cond0_2 (grid0.coords t))
    (x0 x1 x2 : Vec F S1x8x4x64 .f32) (fh0 : HbBuf0 (F := F) c hbM0_0) (fh1 : HbBuf0 (F := F) c hbM0_1) : Vec F S4x2048 .f32 :=
  VT.read (Elt F) (VT.writes (Elt F) VT.junk (bodyRun_A c t arg1 harg1 arg2 harg2 arg3 harg3 arg6 harg6 arg7 harg7 arg8 harg8 hc0 hc1 hc2 x0 x1 x2 fh0 fh1).2.1)

/-- The first point's stores cover the count table. -/
theorem coversNew (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : cond0_0 (grid0.coords t)) (hc1 : cond0_1 (grid0.coords t)) (hc2 : cond0_2 (grid0.coords t))
    (x0 x1 x2 : Vec F S1x8x4x64 .f32) (fh0 : HbBuf0 (F := F) c hbM0_0) (fh1 : HbBuf0 (F := F) c hbM0_1) (y : S4x4.Idx) :
    ∃ pc ∈ (bodyRun_A c t arg1 harg1 arg2 harg2 arg3 harg3 arg6 harg6 arg7 harg7 arg8 harg8 hc0 hc1 hc2 x0 x1 x2 fh0 fh1).2.2.1, y ∈ pc.1.set :=
  View.cover_of_tiledL (bodyRun_A c t arg1 harg1 arg2 harg2 arg3 harg3 arg6 harg6 arg7 harg7 arg8 harg8 hc0 hc1 hc2 x0 x1 x2 fh0 fh1).2.2.1 S4x4.size (by sl_kernel_rfl) y

/-- What the first point leaves in the count table. -/
def leftNew (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : cond0_0 (grid0.coords t)) (hc1 : cond0_1 (grid0.coords t)) (hc2 : cond0_2 (grid0.coords t))
    (x0 x1 x2 : Vec F S1x8x4x64 .f32) (fh0 : HbBuf0 (F := F) c hbM0_0) (fh1 : HbBuf0 (F := F) c hbM0_1) : Vec F S4x4 .f32 :=
  VN.read (Elt F) (VN.writes (Elt F) VN.junk (bodyRun_A c t arg1 harg1 arg2 harg2 arg3 harg3 arg6 harg6 arg7 harg7 arg8 harg8 hc0 hc1 hc2 x0 x1 x2 fh0 fh1).2.2.1)

variable (m : (ℓ : Loc nD τ sig) → Buf (Elt F) ℓ) (ρ : Dev nD → PrngReg)

/-- The first grid point. -/
def t0 : Fin cfg0.N := ⟨0, by decide⟩

theorem t0_val : t0.val = 0 := rfl

theorem t0_c0 : cond0_0 (grid0.coords t0) := (hcond0_0 t0).mpr (Nat.zero_mod _)
theorem t0_c1 : cond0_1 (grid0.coords t0) := (hcond0_1 t0).mpr (by rw [t0_val]; decide)
theorem t0_c2 : cond0_2 (grid0.coords t0) := (hcond0_2 t0).mpr (Nat.zero_mod _)

/-- The count table of the cached keys, as the first point leaves it. -/
def tabC (c : Dev nD) : Vec F S4x2048 .f32 := leftTab c t0 (ms0_0 t0) (hs0_0 t0) (ms0_1 t0) (hs0_1 t0) (ms0_2 t0) (hs0_2 t0) (ms0_3 t0) (hs0_3 t0) scM0_0 (Memref.isWhole_whole _) scM0_1 (Memref.isWhole_whole _) t0_c0 t0_c1 t0_c2 (iblk m c 0 t0) (iblk m c 1 t0) (iblk m c 2 t0) (V m c main_v0) (V m c main_v1)

/-- The count table of the new keys, as the first point leaves it. -/
def tabN (c : Dev nD) : Vec F S4x4 .f32 := leftNew c t0 (ms0_0 t0) (hs0_0 t0) (ms0_1 t0) (hs0_1 t0) (ms0_2 t0) (hs0_2 t0) (ms0_3 t0) (hs0_3 t0) scM0_0 (Memref.isWhole_whole _) scM0_1 (Memref.isWhole_whole _) t0_c0 t0_c1 t0_c2 (iblk m c 0 t0) (iblk m c 1 t0) (iblk m c 2 t0) (V m c main_v0) (V m c main_v1)

/-- What point `t` leaves in its output block. -/
def outAt (c : Dev nD) (t : Fin cfg0.N) : Vec F S1x8x4x64 .f32 :=
  if h0 : t.val % 32 = 0 then
    if h1 : t.val < 30 then
      left_A c t (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) ((hcond0_2 t).mpr h0) (iblk m c 0 t) (iblk m c 1 t) (iblk m c 2 t) (V m c main_v0) (V m c main_v1)
    else VO.read (Elt F) VO.junk
  else
    if h1 : t.val < 30 then
      left_B c t (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h0 ((hcond0_2 t).mp h)) (iblk m c 0 t) (iblk m c 1 t) (iblk m c 2 t) (V m c main_v0) (V m c main_v1) (tabC m c) (tabN m c)
    else
      left_C c t (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h0 ((hcond0_2 t).mp h)) (iblk m c 0 t) (iblk m c 1 t) (iblk m c 2 t) (V m c main_v0) (V m c main_v1) (tabC m c) (tabN m c)

theorem outAt_A (c : Dev nD) (t : Fin cfg0.N) (h0 : t.val % 32 = 0) (h1 : t.val < 30) :
    outAt m c t = left_A c t (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) ((hcond0_2 t).mpr h0) (iblk m c 0 t) (iblk m c 1 t) (iblk m c 2 t) (V m c main_v0) (V m c main_v1) :=
  (dif_pos h0).trans (dif_pos h1)

theorem outAt_B (c : Dev nD) (t : Fin cfg0.N) (h0 : ¬t.val % 32 = 0) (h1 : t.val < 30) :
    outAt m c t = left_B c t (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h0 ((hcond0_2 t).mp h)) (iblk m c 0 t) (iblk m c 1 t) (iblk m c 2 t) (V m c main_v0) (V m c main_v1) (tabC m c) (tabN m c) :=
  (dif_neg h0).trans (dif_pos h1)

theorem outAt_C (c : Dev nD) (t : Fin cfg0.N) (h0 : ¬t.val % 32 = 0) (h1 : ¬t.val < 30) :
    outAt m c t = left_C c t (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h0 ((hcond0_2 t).mp h)) (iblk m c 0 t) (iblk m c 1 t) (iblk m c 2 t) (V m c main_v0) (V m c main_v1) (tabC m c) (tabN m c) :=
  (dif_neg h0).trans (dif_neg h1)

/-- The two count tables before point `k`: at anything before the first, as the first leaves them from then on. -/
def tabsAt (c : Dev nD) (k : ℕ) : sProp 𝕄 :=
  if k = 0 then iprop((∃ d, owns (c : Thread nD τ) scM0_0 fullShare d) ∗ (∃ d, owns (c : Thread nD τ) scM0_1 fullShare d))
  else iprop(owns (c : Thread nD τ) scM0_0 fullShare (tabC m c) ∗ owns (c : Thread nD τ) scM0_1 fullShare (tabN m c))

/-- The region invariant before point `k`: the count tables, the generator register, and each ring. -/
def PhiR (c : Dev nD) (k : ℕ) : sProp 𝕄 := iprop(tabsAt m c k ∗ (∃ r, prngReg c r) ∗ ringAt0_0 c (V m c main_v0) k ∗ ringAt0_1 c (V m c main_v1) k)

/-- The proof data: each input block at its contents, the output block at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 2400000 in
/-- The body at any point, from the run of the point's kind. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [after0_0, after0_1, after0_2, after0_3]
  rw [PhiR_castSucc m c t, PhiR_succ m c t]
  unfold Dat.owesAt Pipeline.owesWithin
  rw [show (dats m 0 c).owed t.castSucc = 0 from rfl, show (dats m 0 c).owed t.succ = 0 from rfl]
  unfold PhiR tabsAt ringAt0_0 ringAt0_1
  have hgN : grid0.N = 32 := N_0
  have hN : t.val < 32 := lt_of_lt_of_eq t.isLt (show cfg0.N = 32 from N_0)
  by_cases h0 : t.val % 32 = 0
  · by_cases h1 : t.val < 30
    · by_cases h2 : t.val % 32 = 0
      · have ht0 : t = t0 := Fin.ext (by rw [t0_val]; omega)
        subst ht0
        rw [outAt_A m c t0 h0 h1]
        unfold left_A
        rw [if_pos t0_val, if_neg (show ¬t0.val + 1 = 0 by omega)]
        unfold tabC tabN leftTab leftNew
        have hr0 := rstep0_0_A t0 ((hcond0_0 t0).mpr h0) ((hcond0_1 t0).mpr h1) ((hcond0_2 t0).mpr h2)
        obtain ⟨hK00, hK10⟩ := hr0
        rw [if_pos hK00, if_neg (show ¬t0.val + 1 = 0 by omega)]
        rw [Ring.At₀_eq3' _ _ _ t0.val hK00 (by decide : 3 ≤ 32), Ring.At3_one' _ _ _ _ t0.val hK00 (by decide : 3 ≤ 32)]
        have hr1 := rstep0_1_A t0 ((hcond0_0 t0).mpr h0) ((hcond0_1 t0).mpr h1) ((hcond0_2 t0).mpr h2)
        obtain ⟨hK01, hK11⟩ := hr1
        rw [if_pos hK01, if_neg (show ¬t0.val + 1 = 0 by omega)]
        rw [Ring.At₀_eq3' _ _ _ t0.val hK01 (by decide : 3 ≤ 32), Ring.At3_one' _ _ _ _ t0.val hK01 (by decide : 3 ≤ 32)]
        iintro ⟨⟨⟨HS0, HS1⟩, Hg, ⟨-, Hfr0_0_0, Hfr0_0_1, Hfr0_0_2⟩, ⟨-, Hfr0_1_0, Hfr0_1_1, Hfr0_1_2⟩⟩, ⟨%W, -, HW⟩, ⟨%d0, H0⟩, ⟨%d1, H1⟩, ⟨%d2, H2⟩, ⟨%d3, H3⟩⟩
        iapply ((bodyRun_A c t0 _ _ _ _ _ _ _ _ _ _ _ _ ((hcond0_0 t0).mpr h0) ((hcond0_1 t0).mpr h1) ((hcond0_2 t0).mpr h2) (iblk m c 0 t0) (iblk m c 1 t0) (iblk m c 2 t0) (V m c main_v0) (V m c main_v1)).2.2.2 W _)
        isplitl [H0]; · iexact H0
        isplitl [H1]; · iexact H1
        isplitl [H2]; · iexact H2
        isplitl [H3]; · iexists _; iexact H3
        isplitl [HS0]; · iexact HS0
        isplitl [HS1]; · iexact HS1
        isplitl [Hfr0_0_0]; · iexact Hfr0_0_0
        isplitl [Hfr0_0_1]; · iexact Hfr0_0_1
        isplitl [Hfr0_0_2]; · iexact Hfr0_0_2
        isplitl [Hfr0_1_0]; · iexact Hfr0_1_0
        isplitl [Hfr0_1_1]; · iexact Hfr0_1_1
        isplitl [Hfr0_1_2]; · iexact Hfr0_1_2
        isplitl [HW]; · iexact HW
        iintro ⟨H0, H1, H2, ⟨%e3, H3⟩, ⟨%es0, HS0⟩, ⟨%es1, HS1⟩, Hfa0_0', Hfb0_0', Hfc0_0', Hfa0_1', Hfb0_1', Hfc0_1', ⟨%W', HW'⟩⟩
        isplitl [HS0 HS1 Hg Hfa0_0' Hfb0_0' Hfc0_0' Hfa0_1' Hfb0_1' Hfc0_1']
        · isplitl [HS0 HS1]
          · isplitl [HS0]
            · unfold owns; iexists _; isplitr
              swap; · iexact HS0
              ipureintro; exact View.read_writes_of_cover _ _ _ _ _ (coversTab c _ _ _ _ _ _ _ _ _ _ _ _ _ _ _ _ _ _ _ _ _)
            unfold owns; iexists _; isplitr
            swap; · iexact HS1
            ipureintro; exact View.read_writes_of_cover _ _ _ _ _ (coversNew c _ _ _ _ _ _ _ _ _ _ _ _ _ _ _ _ _ _ _ _ _)
          isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          iapply (Ring.with_homes (Idealize.SL.BI.Entails.refl _))
          isplitl [Hfa0_1']; · iexact Hfa0_1'
          isplitl [Hfb0_1']; · iexact Hfb0_1'
          iexact Hfc0_1'
        isplitl [HW']
        · iexists W'; isplitr; · ipureintro; exact fun _ _ => Or.inl trivial
          iexact HW'
        isplitl [H0]; · iexact H0
        isplitl [H1]; · iexact H1
        isplitl [H2]; · iexact H2
        unfold owns; iexists _; isplitr
        swap; · iexact H3
        ipureintro; exact View.read_writes_of_cover _ _ _ _ _ (covers_A c _ _ _ _ _ _ _ _ _ _ _ _ _ _ _ _ _ _ _ _ _)
      · exfalso; omega
    · exfalso; omega
  · by_cases h1 : t.val < 30
    · by_cases h2 : t.val % 32 = 0
      · exfalso; omega
      · rw [outAt_B m c t h0 h1]
        unfold left_B
        rw [if_neg (show ¬t.val = 0 by omega), if_neg (show ¬t.val + 1 = 0 by omega)]
        have hr0 := rstep0_0_B t (fun h => h0 ((hcond0_0 t).mp h)) ((hcond0_1 t).mpr h1) (fun h => h2 ((hcond0_2 t).mp h))
        obtain ⟨hK10, hKB0, hKs0⟩ := hr0
        rw [if_neg (show ¬t.val = 0 by omega), if_neg (show ¬t.val + 1 = 0 by omega)]
        rw [Ring.At3_here _ _ _ _ t.val hKB0, Ring.At3_next _ _ _ _ t.val hKB0, Ring.slotAt3_next0 _ _ _ t.val (by omega), Ring.slotAt3_next1 _ _ _ t.val hKB0]
        have hr1 := rstep0_1_B t (fun h => h0 ((hcond0_0 t).mp h)) ((hcond0_1 t).mpr h1) (fun h => h2 ((hcond0_2 t).mp h))
        obtain ⟨hK11, hKB1, hKs1⟩ := hr1
        rw [if_neg (show ¬t.val = 0 by omega), if_neg (show ¬t.val + 1 = 0 by omega)]
        rw [Ring.At3_here _ _ _ _ t.val hKB1, Ring.At3_next _ _ _ _ t.val hKB1, Ring.slotAt3_next0 _ _ _ t.val (by omega), Ring.slotAt3_next1 _ _ _ t.val hKB1]
        iintro ⟨⟨⟨HS0, HS1⟩, Hg, ⟨-, Hfr0_0_0, Hfr0_0_1, Hfr0_0_2⟩, ⟨-, Hfr0_1_0, Hfr0_1_1, Hfr0_1_2⟩⟩, ⟨%W, -, HW⟩, ⟨%d0, H0⟩, ⟨%d1, H1⟩, ⟨%d2, H2⟩, ⟨%d3, H3⟩⟩
        iapply ((bodyRun_B c t _ _ _ _ _ _ _ _ _ _ _ _ (fun h => h0 ((hcond0_0 t).mp h)) ((hcond0_1 t).mpr h1) (fun h => h2 ((hcond0_2 t).mp h)) (iblk m c 0 t) (iblk m c 1 t) (iblk m c 2 t) (V m c main_v0) (V m c main_v1) (tabC m c) (tabN m c)).2 W _)
        isplitl [H0]; · iexact H0
        isplitl [H1]; · iexact H1
        isplitl [H2]; · iexact H2
        isplitl [H3]; · iexists _; iexact H3
        isplitl [HS0]; · iexact HS0
        isplitl [HS1]; · iexact HS1
        isplitl [Hfr0_0_0]; · iexact Hfr0_0_0
        isplitl [Hfr0_0_1]; · iexact Hfr0_0_1
        isplitl [Hfr0_0_2]; · iexact Hfr0_0_2
        isplitl [Hfr0_1_0]; · iexact Hfr0_1_0
        isplitl [Hfr0_1_1]; · iexact Hfr0_1_1
        isplitl [Hfr0_1_2]; · iexact Hfr0_1_2
        isplitl [HW]; · iexact HW
        iintro ⟨H0, H1, H2, ⟨%e3, H3⟩, HS0, HS1, Hfa0_0', Hfb0_0', Hfc0_0', Hfa0_1', Hfb0_1', Hfc0_1', ⟨%W', HW'⟩⟩
        isplitl [HS0 HS1 Hg Hfa0_0' Hfb0_0' Hfc0_0' Hfa0_1' Hfb0_1' Hfc0_1']
        · isplitl [HS0 HS1]
          · isplitl [HS0]; · iexact HS0
            iexact HS1
          isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          iapply (Ring.with_homes (Idealize.SL.BI.Entails.refl _))
          isplitl [Hfa0_1']; · iexact Hfa0_1'
          isplitl [Hfb0_1']; · iexact Hfb0_1'
          iexact Hfc0_1'
        isplitl [HW']
        · iexists W'; isplitr; · ipureintro; exact fun _ _ => Or.inl trivial
          iexact HW'
        isplitl [H0]; · iexact H0
        isplitl [H1]; · iexact H1
        isplitl [H2]; · iexact H2
        unfold owns; iexists _; isplitr
        swap; · iexact H3
        ipureintro; exact View.read_writes_of_cover _ _ _ _ _ (covers_B c _ _ _ _ _ _ _ _ _ _ _ _ _ _ _ _ _ _ _ _ _ _ _)
    · by_cases h2 : t.val % 32 = 0
      · exfalso; omega
      · rw [outAt_C m c t h0 h1]
        unfold left_C
        rw [if_neg (show ¬t.val = 0 by omega), if_neg (show ¬t.val + 1 = 0 by omega)]
        have hr0 := rstep0_0_C t (fun h => h0 ((hcond0_0 t).mp h)) (fun h => h1 ((hcond0_1 t).mp h)) (fun h => h2 ((hcond0_2 t).mp h))
        obtain ⟨hK10, hKB0, hKlt0, hKs0⟩ := hr0
        rw [if_neg (show ¬t.val = 0 by omega), if_neg (show ¬t.val + 1 = 0 by omega)]
        rw [Ring.At3_here_tail _ _ _ _ t.val hKlt0, Ring.At3_next_tail _ _ _ _ t.val hKB0 hKlt0, Ring.slotAt3_tail_role _ _ _ t.val]
        have hr1 := rstep0_1_C t (fun h => h0 ((hcond0_0 t).mp h)) (fun h => h1 ((hcond0_1 t).mp h)) (fun h => h2 ((hcond0_2 t).mp h))
        obtain ⟨hK11, hKB1, hKlt1, hKs1⟩ := hr1
        rw [if_neg (show ¬t.val = 0 by omega), if_neg (show ¬t.val + 1 = 0 by omega)]
        rw [Ring.At3_here_tail _ _ _ _ t.val hKlt1, Ring.At3_next_tail _ _ _ _ t.val hKB1 hKlt1, Ring.slotAt3_tail_role _ _ _ t.val]
        iintro ⟨⟨⟨HS0, HS1⟩, Hg, ⟨-, Hfr0_0_0, Hfr0_0_1, Hfr0_0_2⟩, ⟨-, Hfr0_1_0, Hfr0_1_1, Hfr0_1_2⟩⟩, ⟨%W, -, HW⟩, ⟨%d0, H0⟩, ⟨%d1, H1⟩, ⟨%d2, H2⟩, ⟨%d3, H3⟩⟩
        iapply ((bodyRun_C c t _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (V m c main_v0) (V m c main_v1) (tabC m c) (tabN m c)).2 W _)
        isplitl [H0]; · iexact H0
        isplitl [H1]; · iexact H1
        isplitl [H2]; · iexact H2
        isplitl [H3]; · iexists _; iexact H3
        isplitl [HS0]; · iexact HS0
        isplitl [HS1]; · iexact HS1
        isplitl [Hfr0_0_0]; · iexact Hfr0_0_0
        isplitl [Hfr0_0_1]; · iexact Hfr0_0_1
        isplitl [Hfr0_0_2]; · iexact Hfr0_0_2
        isplitl [Hfr0_1_0]; · iexact Hfr0_1_0
        isplitl [Hfr0_1_1]; · iexact Hfr0_1_1
        isplitl [Hfr0_1_2]; · iexact Hfr0_1_2
        isplitl [HW]; · iexact HW
        iintro ⟨H0, H1, H2, ⟨%e3, H3⟩, HS0, HS1, Hfa0_0', Hfb0_0', Hfc0_0', Hfa0_1', Hfb0_1', Hfc0_1', ⟨%W', HW'⟩⟩
        isplitl [HS0 HS1 Hg Hfa0_0' Hfb0_0' Hfc0_0' Hfa0_1' Hfb0_1' Hfc0_1']
        · isplitl [HS0 HS1]
          · isplitl [HS0]; · iexact HS0
            iexact HS1
          isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          iapply (Ring.with_homes (Idealize.SL.BI.Entails.refl _))
          isplitl [Hfa0_1']; · iexact Hfa0_1'
          isplitl [Hfb0_1']; · iexact Hfb0_1'
          iexact Hfc0_1'
        isplitl [HW']
        · iexists W'; isplitr; · ipureintro; exact fun _ _ => Or.inl trivial
          iexact HW'
        isplitl [H0]; · iexact H0
        isplitl [H1]; · iexact H1
        isplitl [H2]; · iexact H2
        unfold owns; iexists _; isplitr
        swap; · iexact H3
        ipureintro; exact View.read_writes_of_cover _ _ _ _ _ (covers_C c _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR tabsAt
  rw [if_pos rfl]
  iintro ⟨⟨HS0, HS1, HR0_0, HR0_1⟩, Hg, ⟨Hq0, Hq1, Hq2, Hq3, Hq4, Hq5⟩, ⟨Hh0, Hh1⟩⟩
  isplitl [HS0 HS1]
  · isplitl [HS0]; · iexact HS0
    iexact HS1
  isplitl [Hg]; · iexact Hg
  isplitl [HR0_0 Hq0 Hq1 Hq2 Hh0]
  · iapply (ring0_0_in (F := F) m c)
    isplitl [HR0_0]; · iexact HR0_0
    isplitl [Hq0 Hq1 Hq2]
    · isplitl [Hq0]; · iexact Hq0
      isplitl [Hq1]; · iexact Hq1
      iexact Hq2
    iexact Hh0
  iapply (ring0_1_in (F := F) m c)
  isplitl [HR0_1]; · iexact HR0_1
  isplitl [Hq3 Hq4 Hq5]
  · isplitl [Hq3]; · iexact Hq3
    isplitl [Hq4]; · iexact Hq4
    iexact Hq5
  iexact Hh1
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR tabsAt
  rw [show grid0.N = 32 by rw [N_0], if_neg (by decide)]
  iintro ⟨⟨HS0, HS1⟩, Hg, HR0_0, HR0_1⟩
  ihave HX0_0 := (ring0_0_out (F := F) m c) $$ HR0_0
  icases HX0_0 with ⟨HR0_0, ⟨Hq0, Hq1, Hq2⟩, Hh0⟩
  ihave HX0_1 := (ring0_1_out (F := F) m c) $$ HR0_1
  icases HX0_1 with ⟨HR0_1, ⟨Hq3, Hq4, Hq5⟩, Hh1⟩
  isplitl [HS0 HS1 HR0_0 HR0_1]
  · isplitl [HS0]; · iexists _; iexact HS0
    isplitl [HS1]; · iexists _; iexact HS1
    isplitl [HR0_0]; · iexact HR0_0
    iexact HR0_1
  isplitl [Hg]
  · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  iexact Hh1

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends, with every array of the launch at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- No argument array is changed. -/
theorem kept0 (c : Dev nD) (r : PUnit × MemSt nD τ sig (Elt F)) (h : Pipeline.FramePost cfgs (dats m) 0 (V m) r) :
    r.2.mem ((c : Thread nD τ).loc main_arg0) = m ((c : Thread nD τ).loc main_arg0) :=
  ((h c).2 main_arg0 (Pipeline.mem_restRefs_of main_arg0 (by decide) (by decide))).trans (V_main_arg0 m c)
theorem kept1 (c : Dev nD) (r : PUnit × MemSt nD τ sig (Elt F)) (h : Pipeline.FramePost cfgs (dats m) 0 (V m) r) :
    r.2.mem ((c : Thread nD τ).loc main_arg1) = m ((c : Thread nD τ).loc main_arg1) :=
  ((h c).2 main_arg1 (Pipeline.mem_restRefs_of main_arg1 (by decide) (by decide))).trans (V_main_arg1 m c)
theorem kept2 (c : Dev nD) (r : PUnit × MemSt nD τ sig (Elt F)) (h : Pipeline.FramePost cfgs (dats m) 0 (V m) r) :
    r.2.mem ((c : Thread nD τ).loc main_arg2) = m ((c : Thread nD τ).loc main_arg2) :=
  ((h c).2 main_arg2 (Pipeline.mem_restRefs_of main_arg2 (by decide) (by decide))).trans (V_main_arg2 m c)
theorem kept3 (c : Dev nD) (r : PUnit × MemSt nD τ sig (Elt F)) (h : Pipeline.FramePost cfgs (dats m) 0 (V m) r) :
    r.2.mem ((c : Thread nD τ).loc main_arg3) = m ((c : Thread nD τ).loc main_arg3) :=
  ((h c).2 main_arg3 (Pipeline.mem_restRefs_of main_arg3 (by decide) (by decide))).trans (V_main_arg3 m c)
theorem kept4 (c : Dev nD) (r : PUnit × MemSt nD τ sig (Elt F)) (h : Pipeline.FramePost cfgs (dats m) 0 (V m) r) :
    r.2.mem ((c : Thread nD τ).loc main_arg4) = m ((c : Thread nD τ).loc main_arg4) :=
  ((h c).2 main_arg4 (Pipeline.mem_restRefs_of main_arg4 (by decide) (by decide))).trans (V_main_arg4 m c)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨kept0 m c _ h, kept1 m c _ h, kept2 m c _ h, kept3 m c _ h, kept4 m c _ h⟩) (run_main m ρ)

/-- The frame: every run ends, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Sample

end
-- ==== Proof.SampleHead.lean ====
module

public import proofs.«01_k».proof.Proof.SampleFrame
public import Idealize.ShloMosaic.Lib.Pointwise
public import Idealize.ShloMosaic.Lib.Pipeline.ValueKit
public import Idealize.ShloMosaic.Lib.Pipeline.ReadBack
public import Idealize.ShloMosaic.Lib.WritesUnit

/-! One head of the sample attention at one grid point, entry by entry. -/

@[expose] public section

set_option maxRecDepth 16384

noncomputable section

open Idealize.ShloMosaic Idealize.ShloMosaic.TcCoe Idealize.SL.Sem
open Idealize.ShloMosaic.Pipeline (Dat)
open scoped BigOperators

namespace Cert.KernelIdeal.Sample

open Cert.KernelIdeal Cert.KernelIdeal.Gen

/-- The scaled queries of a head. -/
def hq (q : FVec Ideal S1x1x4x64 .f32) : FVec Ideal S4x64 .bf16 :=
  truncf .bf16 (mulf (shapeCast S4x64 q shapeCasts_S1x1x4x64_S4x64) (broadcast S4x64 (Scalar.ofBits .f32 0x3E000000#32))) bitsLt_bf16_f32

/-- The scores against the cached keys, masked by the count table. -/
def hsc (mc : FVec Ideal S4x2048 .f32) (q : FVec Ideal S1x1x4x64 .f32) (kt : FVec Ideal S1x64x2048 .f32) : FVec Ideal S4x2048 .f32 :=
  select (cmpf .ogt mc (broadcast S4x2048 (Scalar.ofBits .f32 0x00000000#32)))
    (matmul dot_S4x64_S64x2048_S4x2048_1_0_0_1_n_n none (hq q) (truncf .bf16 (shapeCast S64x2048 kt shapeCasts_S1x64x2048_S64x2048) bitsLt_bf16_f32) (constant S4x2048 .f32 0x00000000#32))
    (broadcast S4x2048 (Scalar.ofBits .f32 0xF149F2CA#32))

/-- The scores against the new keys, masked by the count table. -/
def hsn (mn : FVec Ideal S4x4 .f32) (q kn : FVec Ideal S1x1x4x64 .f32) : FVec Ideal S4x4 .f32 :=
  select (cmpf .ogt mn (broadcast S4x4 (Scalar.ofBits .f32 0x00000000#32)))
    (matmul dot_S4x64_S4x64_S4x4_1_1_0_0_n_n none (hq q) (truncf .bf16 (shapeCast S4x64 kn shapeCasts_S1x1x4x64_S4x64) bitsLt_bf16_f32) (constant S4x4 .f32 0x00000000#32))
    (broadcast S4x4 (Scalar.ofBits .f32 0xF149F2CA#32))

/-- The largest score of each query. -/
def hm (sc : FVec Ideal S4x2048 .f32) (sn : FVec Ideal S4x4 .f32) : FVec Ideal S4x1 .f32 :=
  maximumf (shapeCast S4x1 (multiReduction .maximumf [1] S4 sc 0xFF800000#32 reduces_S4x2048_S4 (.inl rfl) rfl) shapeCasts_S4_S4x1)
    (shapeCast S4x1 (multiReduction .maximumf [1] S4 sn 0xFF800000#32 reduces_S4x4_S4 (.inl rfl) rfl) shapeCasts_S4_S4x1)

/-- The weights of the cached keys. -/
def hpc (mc sc : FVec Ideal S4x2048 .f32) (mx : FVec Ideal S4x1 .f32) : FVec Ideal S4x2048 .f32 :=
  mulf mc (exp (subf sc (broadcastTo S4x2048 mx broadcasts_S4x1_S4x2048)))

/-- The weights of the new keys. -/
def hpn (mn sn : FVec Ideal S4x4 .f32) (mx : FVec Ideal S4x1 .f32) : FVec Ideal S4x4 .f32 :=
  mulf mn (exp (subf sn (broadcastTo S4x4 mx broadcasts_S4x1_S4x4)))

/-- The head's result, from the weights. -/
def ho (pc : FVec Ideal S4x2048 .f32) (pn : FVec Ideal S4x4 .f32) (vt : FVec Ideal S1x64x2048 .f32) (vn : FVec Ideal S1x1x4x64 .f32) : FVec Ideal S1x1x4x64 .f32 :=
  shapeCast S1x1x4x64 (divf (addf
      (matmul dot_S4x2048_S64x2048_S4x64_1_1_0_0_n_n none (truncf .bf16 pc bitsLt_bf16_f32) (truncf .bf16 (shapeCast S64x2048 vt shapeCasts_S1x64x2048_S64x2048) bitsLt_bf16_f32) (constant S4x64 .f32 0x00000000#32))
      (matmul dot_S4x4_S4x64_S4x64_1_0_0_1_n_n none (truncf .bf16 pn bitsLt_bf16_f32) (truncf .bf16 (shapeCast S4x64 vn shapeCasts_S1x1x4x64_S4x64) bitsLt_bf16_f32) (constant S4x64 .f32 0x00000000#32)))
    (broadcastTo S4x64 (addf
      (shapeCast S4x1 (multiReduction .add [1] S4 pc 0x00000000#32 reduces_S4x2048_S4 (.inl rfl) rfl) shapeCasts_S4_S4x1)
      (shapeCast S4x1 (multiReduction .add [1] S4 pn 0x00000000#32 reduces_S4x4_S4 (.inl rfl) rfl) shapeCasts_S4_S4x1)) broadcasts_S4x1_S4x64)) shapeCasts_S4x64_S1x1x4x64

theorem hsc_at (mc : FVec Ideal S4x2048 .f32) (q : FVec Ideal S1x1x4x64 .f32) (kt : FVec Ideal S1x64x2048 .f32) (i : Fin 4) (j : Fin 2048) :
    hsc mc q kt (ix2 i j) = if 0 < mc (ix2 i j) then ∑ x, q (ix4 0 0 i x) * Ideal.ofBits FTy.f32 1040187392#32 * kt (ix3 0 x j) else Ideal.ofBits FTy.f32 4048155338#32 := by
  pointwise [hsc, hq]

theorem hsn_at (mn : FVec Ideal S4x4 .f32) (q kn : FVec Ideal S1x1x4x64 .f32) (i : Fin 4) (j : Fin 4) :
    hsn mn q kn (ix2 i j) = if 0 < mn (ix2 i j) then ∑ x, q (ix4 0 0 i x) * Ideal.ofBits FTy.f32 1040187392#32 * kn (ix4 0 0 j x) else Ideal.ofBits FTy.f32 4048155338#32 := by
  pointwise [hsn, hq]

theorem hm_at (sc : FVec Ideal S4x2048 .f32) (sn : FVec Ideal S4x4 .f32) (i : Fin 4) :
    hm sc sn (ix2 i 0) = max (Finset.fold max (Ideal.ofBits FTy.f32 4286578688#32) (fun x => sc (ix2 i x)) Finset.univ)
      (Finset.fold max (Ideal.ofBits FTy.f32 4286578688#32) (fun x => sn (ix2 i x)) Finset.univ) := by
  pointwise [hm]

theorem hpc_at (mc sc : FVec Ideal S4x2048 .f32) (mx : FVec Ideal S4x1 .f32) (i : Fin 4) (j : Fin 2048) :
    hpc mc sc mx (ix2 i j) = mc (ix2 i j) * Ideal.exp (sc (ix2 i j) - mx (ix2 i 0)) := by
  pointwise [hpc]

theorem hpn_at (mn sn : FVec Ideal S4x4 .f32) (mx : FVec Ideal S4x1 .f32) (i : Fin 4) (j : Fin 4) :
    hpn mn sn mx (ix2 i j) = mn (ix2 i j) * Ideal.exp (sn (ix2 i j) - mx (ix2 i 0)) := by
  pointwise [hpn]

theorem ho_at (pc : FVec Ideal S4x2048 .f32) (pn : FVec Ideal S4x4 .f32) (vt : FVec Ideal S1x64x2048 .f32) (vn : FVec Ideal S1x1x4x64 .f32) (i : Fin 4) (d : Fin 64) :
    ho pc pn vt vn (ix4 0 0 i d) = Ideal.div (∑ x, pc (ix2 i x) * vt (ix3 0 d x) + ∑ x, pn (ix2 i x) * vn (ix4 0 0 x d))
      (∑ x, pc (ix2 i x) + ∑ x, pn (ix2 i x)) := by
  pointwise [ho]

end Cert.KernelIdeal.Sample
end
-- ==== Proof.SampleBlocks.lean ====
module

public import proofs.«01_k».proof.Proof.SampleHead
public import Idealize.ShloMosaic.Lib.ValueLayout

/-! What the sample attention's kernel reads at a grid point, as entries of the argument arrays, and what reading its
    stores back gives. -/

@[expose] public section

set_option maxRecDepth 16384

noncomputable section

open Idealize.ShloMosaic Idealize.ShloMosaic.TcCoe Idealize.SL.Sem
open scoped BigOperators

namespace Cert.KernelIdeal.Sample

open Cert.KernelIdeal Cert.KernelIdeal.Gen

/-- A read of one head of a block, at an entry. -/
theorem block_at (a : Memref sig .tc .vmem S1x8x4x64 .f32) (ha : a.IsWhole) (x : Vec Ideal S1x8x4x64 .f32) (h : Fin 8)
    (inb : ∀ a, (![0, h.val, 0, 0] : Fin 4 → Nat) a + S1x1x4x64.size a ≤ S1x8x4x64.size a) (i : Fin 4) (d : Fin 64) :
    View.readAt (Elt Ideal) a.view (Rect.unit (s := S1x8x4x64) ![0, h.val, 0, 0] S1x1x4x64.size inb).toLoadRect (ha.unread x) (ix4 0 0 i d) = x (ix4 0 h i d) := by
  rw [View.readAt_apply, ha.read_unread]
  refine congrArg x (funext fun a => Fin.ext ?_)
  fin_cases a
  · rfl
  · show h.val + 1 * 0 = h.val; omega
  · show 0 + 1 * i.val = i.val; omega
  · show 0 + 1 * d.val = d.val; omega

/-- A read of one head of a cache slot, at an entry. -/
theorem slot_at (v : View sig .tc .vmem S8x64x2048 .f32) (X : S8x64x2048.Idx → Elt Ideal .f32) (h : Fin 8)
    (inb : ∀ a, (![h.val, 0, 0] : Fin 3 → Nat) a + S1x64x2048.size a ≤ S8x64x2048.size a) (d : Fin 64) (j : Fin 2048) :
    v.readCov (Val := Elt Ideal) [⟨Rect.whole S8x64x2048, X⟩] (Rect.unit (s := S8x64x2048) ![h.val, 0, 0] S1x64x2048.size inb).toLoadRect (ix3 0 d j) = X (ix3 h d j) := by
  rw [View.readCov_eq_canon']
  refine (congrArg _ (?_ : _ = (Rect.whole S8x64x2048).emb (ix3 h d j))).trans (View.canon_cons_emb (Val := Elt Ideal) (Rect.whole S8x64x2048) X [] (ix3 h d j))
  funext a
  refine Fin.ext ?_
  fin_cases a
  · show h.val + 1 * 0 = 0 + 1 * h.val; omega
  · show 0 + 1 * d.val = 0 + 1 * d.val; rfl
  · show 0 + 1 * j.val = 0 + 1 * j.val; rfl

/-- The whole of a table, read back. -/
theorem tab_read (a : Memref sig .tc .vmem S4x2048 .f32) (ha : a.IsWhole) (x : Vec Ideal S4x2048 .f32) :
    View.readAt (Elt Ideal) a.view (Rect.unit (s := S4x2048) ![0, 0] S4x2048.size inb_S4x2048_S4x2048_0_0).toLoadRect (ha.unread x) = x := by
  funext y
  rw [View.readAt_apply, ha.read_unread]
  refine congrArg x (funext fun a => Fin.ext ?_)
  fin_cases a
  · show 0 + 1 * (y 0).val = (y 0).val; omega
  · show 0 + 1 * (y 1).val = (y 1).val; omega

theorem new_read (a : Memref sig .tc .vmem S4x4 .f32) (ha : a.IsWhole) (x : Vec Ideal S4x4 .f32) :
    View.readAt (Elt Ideal) a.view (Rect.unit (s := S4x4) ![0, 0] S4x4.size inb_S4x4_S4x4_0_0).toLoadRect (ha.unread x) = x := by
  funext y
  rw [View.readAt_apply, ha.read_unread]
  refine congrArg x (funext fun a => Fin.ext ?_)
  fin_cases a
  · show 0 + 1 * (y 0).val = (y 0).val; omega
  · show 0 + 1 * (y 1).val = (y 1).val; omega

/-- Contents after a last store of the whole table, read back. -/
theorem tab_stored (v : View sig .tc .vmem S4x2048 .f32) (f : v.ty.Contents (Elt Ideal)) (w : FVec Ideal S4x2048 .f32) :
    v.read (Elt Ideal) (v.writes (Elt Ideal) f [⟨Rect.unit (s := S4x2048) ![0, 0] S4x2048.size inb_S4x2048_S4x2048_0_0, w⟩]) = w := by
  funext y
  refine (congrArg _ (?_ : y = (Rect.unit (s := S4x2048) ![0, 0] S4x2048.size inb_S4x2048_S4x2048_0_0).emb y)).trans
    (View.read_writes_cons_emb v f (Rect.unit (s := S4x2048) ![0, 0] S4x2048.size inb_S4x2048_S4x2048_0_0) w [] y)
  refine funext fun a => Fin.ext ?_
  fin_cases a
  · show (y 0).val = 0 + 1 * (y 0).val; omega
  · show (y 1).val = 0 + 1 * (y 1).val; omega

theorem new_stored (v : View sig .tc .vmem S4x4 .f32) (f : v.ty.Contents (Elt Ideal)) (w : FVec Ideal S4x4 .f32) :
    v.read (Elt Ideal) (v.writes (Elt Ideal) f [⟨Rect.unit (s := S4x4) ![0, 0] S4x4.size inb_S4x4_S4x4_0_0, w⟩]) = w := by
  funext y
  refine (congrArg _ (?_ : y = (Rect.unit (s := S4x4) ![0, 0] S4x4.size inb_S4x4_S4x4_0_0).emb y)).trans
    (View.read_writes_cons_emb v f (Rect.unit (s := S4x4) ![0, 0] S4x4.size inb_S4x4_S4x4_0_0) w [] y)
  refine funext fun a => Fin.ext ?_
  fin_cases a
  · show (y 0).val = 0 + 1 * (y 0).val; omega
  · show (y 1).val = 0 + 1 * (y 1).val; omega

variable (m : (ℓ : Loc nD τ sig) → Buf (Elt Ideal) ℓ)

theorem src0_at (c : Dev nD) (f : HbBuf0 (F := Ideal) c hbM0_0) (b : Fin 32) (h : Fin 8) (d : Fin 64) (j : Fin 2048) :
    View.read (Elt Ideal) (srcB0_0 b).view f (ix3 h d j) = f (ix5 0 b h d j) := by
  have h1 : View.read (Elt Ideal) (srcB0_0 b).view f (ix3 h d j)
      = hbM0_0.view.read (Elt Ideal) f ((Rect.unit (s := S2x32x8x64x2048) ![0, 1 * b.val, 0, 0, 0] S1x1x8x64x2048.size (inb_src0_0 b)).emb
        (Shape.reshapeEquiv squeezes_S1x1x8x64x2048_S8x64x2048.numel_eq (ix3 h d j))) := rfl
  have h2 := ValueIdx.reshapeEquiv_ix3_11abc squeezes_S1x1x8x64x2048_S8x64x2048.numel_eq h d j
  refine (h1.trans (congrArg (fun z => hbM0_0.view.read (Elt Ideal) f ((Rect.unit (s := S2x32x8x64x2048) ![0, 1 * b.val, 0, 0, 0] S1x1x8x64x2048.size (inb_src0_0 b)).emb z)) h2)).trans ?_
  refine congrArg f ?_
  funext a
  refine Fin.ext ?_
  fin_cases a
  · rfl
  · show 1 * b.val + 1 * 0 = b.val; omega
  · show 0 + 1 * h.val = h.val; omega
  · show 0 + 1 * d.val = d.val; omega
  · show 0 + 1 * j.val = j.val; omega

theorem src1_at (c : Dev nD) (f : HbBuf0 (F := Ideal) c hbM0_1) (b : Fin 32) (h : Fin 8) (d : Fin 64) (j : Fin 2048) :
    View.read (Elt Ideal) (srcB0_1 b).view f (ix3 h d j) = f (ix5 0 b h d j) := by
  have h1 : View.read (Elt Ideal) (srcB0_1 b).view f (ix3 h d j)
      = hbM0_1.view.read (Elt Ideal) f ((Rect.unit (s := S2x32x8x64x2048) ![0, 1 * b.val, 0, 0, 0] S1x1x8x64x2048.size (inb_src0_1 b)).emb
        (Shape.reshapeEquiv squeezes_S1x1x8x64x2048_S8x64x2048.numel_eq (ix3 h d j))) := rfl
  have h2 := ValueIdx.reshapeEquiv_ix3_11abc squeezes_S1x1x8x64x2048_S8x64x2048.numel_eq h d j
  refine (h1.trans (congrArg (fun z => hbM0_1.view.read (Elt Ideal) f ((Rect.unit (s := S2x32x8x64x2048) ![0, 1 * b.val, 0, 0, 0] S1x1x8x64x2048.size (inb_src0_1 b)).emb z)) h2)).trans ?_
  refine congrArg f ?_
  funext a
  refine Fin.ext ?_
  fin_cases a
  · rfl
  · show 1 * b.val + 1 * 0 = b.val; omega
  · show 0 + 1 * h.val = h.val; omega
  · show 0 + 1 * d.val = d.val; omega
  · show 0 + 1 * j.val = j.val; omega

theorem V0_at (c : Dev nD) (b : Fin 32) (h : Fin 8) (d : Fin 64) (j : Fin 2048) :
    (V m c main_v0 : FVec Ideal S2x32x8x64x2048 .f32) (ix5 0 b h d j) = (m ((c : Thread nD τ).loc main_arg3) : FVec Ideal S2x32x2048x8x64 .f32) (ix5 0 b j h d) := by
  entry_read
  pointwise []

theorem V1_at (c : Dev nD) (b : Fin 32) (h : Fin 8) (d : Fin 64) (j : Fin 2048) :
    (V m c main_v1 : FVec Ideal S2x32x8x64x2048 .f32) (ix5 0 b h d j) = (m ((c : Thread nD τ).loc main_arg4) : FVec Ideal S2x32x2048x8x64 .f32) (ix5 0 b j h d) := by
  entry_read
  pointwise []

theorem V2_at (c : Dev nD) (b : Fin 32) (h : Fin 8) (i : Fin 4) (d : Fin 64) :
    (V m c main_v2 : FVec Ideal S32x8x4x64 .f32) (ix4 b h i d) = (m ((c : Thread nD τ).loc main_arg0) : FVec Ideal S32x4x8x64 .f32) (ix4 b i h d) := by
  entry_read
  pointwise []

theorem V3_at (c : Dev nD) (b : Fin 32) (h : Fin 8) (i : Fin 4) (d : Fin 64) :
    (V m c main_v3 : FVec Ideal S32x8x4x64 .f32) (ix4 b h i d) = (m ((c : Thread nD τ).loc main_arg1) : FVec Ideal S32x4x8x64 .f32) (ix4 b i h d) := by
  entry_read
  pointwise []

theorem V4_at (c : Dev nD) (b : Fin 32) (h : Fin 8) (i : Fin 4) (d : Fin 64) :
    (V m c main_v4 : FVec Ideal S32x8x4x64 .f32) (ix4 b h i d) = (m ((c : Thread nD τ).loc main_arg2) : FVec Ideal S32x4x8x64 .f32) (ix4 b i h d) := by
  entry_read
  pointwise []

theorem N_eq : cfg0.N = 32 := by decide +kernel

/-- The sequence of a grid point. -/
def seq (t : Fin cfg0.N) : Fin 32 := ⟨t.val, lt_of_lt_of_eq t.isLt N_eq⟩

theorem bk_seq (t : Fin cfg0.N) : Ring.bk 32 t.val = seq t := by
  revert t; decide +kernel

/-- Every window's block index at every grid point. -/
theorem idx : ∀ t : Fin cfg0.N, win0_0.index t = ![t.val, 0, 0, 0] ∧ win0_1.index t = ![t.val, 0, 0, 0]
    ∧ win0_2.index t = ![t.val, 0, 0, 0] ∧ win0_3.index t = ![t.val, 0, 0, 0] :=
  (by decide +kernel : ∀ t : Fin grid0.N, _)

theorem emb0 (t : Fin cfg0.N) (h : Fin 8) (i : Fin 4) (d : Fin 64) : (win0_0.blk t).view.emb (ix4 0 h i d : S1x8x4x64.Idx) = (ix4 (seq t) h i d : S32x8x4x64.Idx) := by
  have hi : win0_0.index t = ![t.val, 0, 0, 0] := by simp only [idx t]
  funext a
  refine Fin.ext ?_
  fin_cases a
  · show win0_0.index t 0 * 1 + 1 * 0 = t.val
    rw [hi]; show t.val * 1 + 1 * 0 = t.val; omega
  · show win0_0.index t 1 * 8 + 1 * h.val = h.val
    rw [hi]; show 0 * 8 + 1 * h.val = h.val; omega
  · show win0_0.index t 2 * 4 + 1 * i.val = i.val
    rw [hi]; show 0 * 4 + 1 * i.val = i.val; omega
  · show win0_0.index t 3 * 64 + 1 * d.val = d.val
    rw [hi]; show 0 * 64 + 1 * d.val = d.val; omega

theorem iblk0_at (c : Dev nD) (t : Fin cfg0.N) (h : Fin 8) (i : Fin 4) (d : Fin 64) :
    (iblk m c 0 t : FVec Ideal S1x8x4x64 .f32) (ix4 0 h i d) = (m ((c : Thread nD τ).loc main_arg0) : FVec Ideal S32x4x8x64 .f32) (ix4 (seq t) i h d) :=
  (congrArg (V m c main_v2 : FVec Ideal S32x8x4x64 .f32) (emb0 t h i d)).trans (V2_at m c (seq t) h i d)

theorem emb1 (t : Fin cfg0.N) (h : Fin 8) (i : Fin 4) (d : Fin 64) : (win0_1.blk t).view.emb (ix4 0 h i d : S1x8x4x64.Idx) = (ix4 (seq t) h i d : S32x8x4x64.Idx) := by
  have hi : win0_1.index t = ![t.val, 0, 0, 0] := by simp only [idx t]
  funext a
  refine Fin.ext ?_
  fin_cases a
  · show win0_1.index t 0 * 1 + 1 * 0 = t.val
    rw [hi]; show t.val * 1 + 1 * 0 = t.val; omega
  · show win0_1.index t 1 * 8 + 1 * h.val = h.val
    rw [hi]; show 0 * 8 + 1 * h.val = h.val; omega
  · show win0_1.index t 2 * 4 + 1 * i.val = i.val
    rw [hi]; show 0 * 4 + 1 * i.val = i.val; omega
  · show win0_1.index t 3 * 64 + 1 * d.val = d.val
    rw [hi]; show 0 * 64 + 1 * d.val = d.val; omega

theorem iblk1_at (c : Dev nD) (t : Fin cfg0.N) (h : Fin 8) (i : Fin 4) (d : Fin 64) :
    (iblk m c 1 t : FVec Ideal S1x8x4x64 .f32) (ix4 0 h i d) = (m ((c : Thread nD τ).loc main_arg1) : FVec Ideal S32x4x8x64 .f32) (ix4 (seq t) i h d) :=
  (congrArg (V m c main_v3 : FVec Ideal S32x8x4x64 .f32) (emb1 t h i d)).trans (V3_at m c (seq t) h i d)

theorem emb2 (t : Fin cfg0.N) (h : Fin 8) (i : Fin 4) (d : Fin 64) : (win0_2.blk t).view.emb (ix4 0 h i d : S1x8x4x64.Idx) = (ix4 (seq t) h i d : S32x8x4x64.Idx) := by
  have hi : win0_2.index t = ![t.val, 0, 0, 0] := by simp only [idx t]
  funext a
  refine Fin.ext ?_
  fin_cases a
  · show win0_2.index t 0 * 1 + 1 * 0 = t.val
    rw [hi]; show t.val * 1 + 1 * 0 = t.val; omega
  · show win0_2.index t 1 * 8 + 1 * h.val = h.val
    rw [hi]; show 0 * 8 + 1 * h.val = h.val; omega
  · show win0_2.index t 2 * 4 + 1 * i.val = i.val
    rw [hi]; show 0 * 4 + 1 * i.val = i.val; omega
  · show win0_2.index t 3 * 64 + 1 * d.val = d.val
    rw [hi]; show 0 * 64 + 1 * d.val = d.val; omega

theorem iblk2_at (c : Dev nD) (t : Fin cfg0.N) (h : Fin 8) (i : Fin 4) (d : Fin 64) :
    (iblk m c 2 t : FVec Ideal S1x8x4x64 .f32) (ix4 0 h i d) = (m ((c : Thread nD τ).loc main_arg2) : FVec Ideal S32x4x8x64 .f32) (ix4 (seq t) i h d) :=
  (congrArg (V m c main_v4 : FVec Ideal S32x8x4x64 .f32) (emb2 t h i d)).trans (V4_at m c (seq t) h i d)

theorem emb3 (t : Fin cfg0.N) (h : Fin 8) (i : Fin 4) (d : Fin 64) : (win0_3.blk t).view.emb (ix4 0 h i d : S1x8x4x64.Idx) = (ix4 (seq t) h i d : S32x8x4x64.Idx) := by
  have hi : win0_3.index t = ![t.val, 0, 0, 0] := by simp only [idx t]
  funext a
  refine Fin.ext ?_
  fin_cases a
  · show win0_3.index t 0 * 1 + 1 * 0 = t.val
    rw [hi]; show t.val * 1 + 1 * 0 = t.val; omega
  · show win0_3.index t 1 * 8 + 1 * h.val = h.val
    rw [hi]; show 0 * 8 + 1 * h.val = h.val; omega
  · show win0_3.index t 2 * 4 + 1 * i.val = i.val
    rw [hi]; show 0 * 4 + 1 * i.val = i.val; omega
  · show win0_3.index t 3 * 64 + 1 * d.val = d.val
    rw [hi]; show 0 * 64 + 1 * d.val = d.val; omega

end Cert.KernelIdeal.Sample
end
-- ==== Proof.SampleMath.lean ====
module

public import Idealize.ShloMosaic.Lib.Pointwise

/-! The mathematics of the sample attention. A query at position `2048 + i` sees the keys of three patterns, the
    `k`-th key of a pattern `k` steps of its dilation back. The reference takes a softmax in each pattern and mixes
    the three results by their log-sum-exps; the kernel takes one softmax over every position, each position weighted
    by the number of patterns that see it. For real scores and values both are `num / den` below. -/

@[expose] public section

noncomputable section

open Idealize.ShloMosaic
open scoped BigOperators

namespace Cert.Attn

/-- A pattern's dilation. -/
def dil : Fin 3 → ℕ := ![1, 4, 16]

theorem dil_pos (p : Fin 3) : 1 ≤ dil p := by fin_cases p <;> decide
theorem dil_le (p : Fin 3) : dil p ≤ 16 := by fin_cases p <;> decide

/-- Pattern `p` lets query `i` see the key at position `n`. -/
def hit (p : Fin 3) (i : Fin 4) (n : ℕ) : Prop :=
  n ≤ 2048 + i.val ∧ 2048 + i.val - n ≤ 128 * dil p ∧ (2048 + i.val - n) % dil p = 0

instance (p : Fin 3) (i : Fin 4) (n : ℕ) : Decidable (hit p i n) := by unfold hit; infer_instance

/-- How many patterns let query `i` see the key at position `n`. -/
def mult (i : Fin 4) (n : ℕ) : ℝ := ∑ p : Fin 3, if hit p i n then 1 else 0

theorem mul_bound (p : Fin 3) (k : Fin 129) : dil p * k.val ≤ 2048 :=
  (Nat.mul_le_mul (dil_le p) (show k.val ≤ 128 by have := k.isLt; omega)).trans (by decide)

/-- The position of the `k`-th key of pattern `p` for query `i`. -/
def pos (p : Fin 3) (i : Fin 4) (k : Fin 129) : Fin 2052 :=
  ⟨2048 + i.val - dil p * k.val, by have := i.isLt; omega⟩

theorem sum_hit (p : Fin 3) (i : Fin 4) (f : Fin 2052 → ℝ) :
    ∑ n : Fin 2052, (if hit p i n.val then f n else 0) = ∑ k, f (pos p i k) := by
  rw [← Finset.sum_filter]
  symm
  refine Finset.sum_bij (fun k _ => pos p i k) ?_ ?_ ?_ ?_
  · intro k _
    have hb := mul_bound p k
    refine Finset.mem_filter.mpr ⟨Finset.mem_univ _, ?_⟩
    have e : 2048 + i.val - (pos p i k).val = dil p * k.val := by
      show 2048 + i.val - (2048 + i.val - dil p * k.val) = dil p * k.val; omega
    refine ⟨?_, ?_, ?_⟩
    · show 2048 + i.val - dil p * k.val ≤ 2048 + i.val; omega
    · rw [e, Nat.mul_comm]; exact Nat.mul_le_mul_right _ (by have := k.isLt; omega)
    · rw [e]; exact Nat.mul_mod_right _ _
  · intro a _ b _ h
    have ha := mul_bound p a
    have hb := mul_bound p b
    have h' : 2048 + i.val - dil p * a.val = 2048 + i.val - dil p * b.val := congrArg Fin.val h
    have h2 : dil p * a.val = dil p * b.val := by omega
    exact Fin.ext (Nat.eq_of_mul_eq_mul_left (dil_pos p) h2)
  · intro n hn
    obtain ⟨h1, h2, h3⟩ := (Finset.mem_filter.mp hn).2
    have hd := Nat.div_add_mod (2048 + i.val - n.val) (dil p)
    rw [h3, Nat.add_zero] at hd
    refine ⟨⟨(2048 + i.val - n.val) / dil p, ?_⟩, Finset.mem_univ _, ?_⟩
    · have := Nat.div_le_of_le_mul (show 2048 + i.val - n.val ≤ dil p * 128 by rw [Nat.mul_comm]; exact h2)
      omega
    · apply Fin.ext
      show 2048 + i.val - dil p * ((2048 + i.val - n.val) / dil p) = n.val
      rw [hd]; omega
  · intro k _; rfl

/-- A sum over all positions weighted by the counts is the sum over the three patterns' keys. -/
theorem sum_mult (i : Fin 4) (f : Fin 2052 → ℝ) : ∑ n : Fin 2052, mult i n.val * f n = ∑ p, ∑ k, f (pos p i k) := by
  unfold mult
  simp_rw [Finset.sum_mul, ite_mul, one_mul, zero_mul]
  rw [Finset.sum_comm]
  exact Finset.sum_congr rfl fun p _ => sum_hit p i f

theorem mult_nonneg (i : Fin 4) (n : ℕ) : 0 ≤ mult i n :=
  Finset.sum_nonneg fun p _ => by split <;> norm_num

/-- The values a query sees, weighted by the exponentials of its scores. -/
def num (S v : Fin 2052 → ℝ) (i : Fin 4) : ℝ := ∑ p, ∑ k, Real.exp (S (pos p i k)) * v (pos p i k)
/-- The exponentials of a query's scores, summed. -/
def den (S : Fin 2052 → ℝ) (i : Fin 4) : ℝ := ∑ p, ∑ k, Real.exp (S (pos p i k))

theorem den_pos (S : Fin 2052 → ℝ) (i : Fin 4) : 0 < den S i :=
  Finset.sum_pos (fun p _ => Finset.sum_pos (fun k _ => Real.exp_pos _) ⟨0, Finset.mem_univ _⟩) ⟨0, Finset.mem_univ _⟩

/-! ## One softmax over every position -/

theorem weighted (i : Fin 4) (S s g : Fin 2052 → ℝ) (hs : ∀ n, 0 < mult i n.val → s n = S n) (M : ℝ) :
    ∑ n : Fin 2052, mult i n.val * Real.exp (s n - M) * g n = Real.exp (-M) * ∑ p, ∑ k, Real.exp (S (pos p i k)) * g (pos p i k) := by
  rw [← sum_mult i (fun n => Real.exp (S n) * g n), Finset.mul_sum]
  refine Finset.sum_congr rfl fun n _ => ?_
  rcases (mult_nonneg i n.val).eq_or_lt with h | h
  · rw [← h]; ring
  · rw [hs n h, sub_eq_add_neg, Real.exp_add]; ring

theorem one_softmax (i : Fin 4) (S s v : Fin 2052 → ℝ) (hs : ∀ n, 0 < mult i n.val → s n = S n) (M : ℝ) :
    (∑ n : Fin 2052, mult i n.val * Real.exp (s n - M) * v n) / (∑ n : Fin 2052, mult i n.val * Real.exp (s n - M))
      = num S v i / den S i := by
  have h1 := weighted i S s v hs M
  have h2 := weighted i S s (fun _ => 1) hs M
  simp only [mul_one] at h2
  rw [h1, h2]
  exact mul_div_mul_left _ _ (Real.exp_pos _).ne'

theorem one_softmax_den (i : Fin 4) (S s : Fin 2052 → ℝ) (hs : ∀ n, 0 < mult i n.val → s n = S n) (M : ℝ) :
    0 < ∑ n : Fin 2052, mult i n.val * Real.exp (s n - M) := by
  have h2 := weighted i S s (fun _ => 1) hs M
  simp only [mul_one] at h2
  rw [h2]
  exact mul_pos (Real.exp_pos _) (den_pos S i)

/-! ## Three softmaxes mixed by their log-sum-exps -/

theorem three_softmaxes (S v : Fin 2052 → ℝ) (i : Fin 4) (l : Fin 3 → ℝ) (hl : ∀ p, Real.exp (l p) = ∑ k, Real.exp (S (pos p i k))) (M : ℝ) :
    ∑ p, Real.exp (l p - M) / (∑ p, Real.exp (l p - M)) * ∑ k, Real.exp (S (pos p i k) - l p) * v (pos p i k)
      = num S v i / den S i := by
  have hden : ∑ p, Real.exp (l p - M) = Real.exp (-M) * den S i := by
    unfold den
    rw [Finset.mul_sum]
    refine Finset.sum_congr rfl fun p _ => ?_
    rw [← hl p, ← Real.exp_add]; congr 1; ring
  rw [hden]
  unfold num
  rw [Finset.sum_div]
  refine Finset.sum_congr rfl fun p _ => ?_
  rw [Finset.mul_sum, Finset.sum_div]
  refine Finset.sum_congr rfl fun k _ => ?_
  have hd := (den_pos S i).ne'
  rw [sub_eq_add_neg, Real.exp_add, sub_eq_add_neg, Real.exp_add, Real.exp_neg (l p)]
  have h1 := (Real.exp_pos (-M)).ne'
  have h2 := (Real.exp_pos (l p)).ne'
  field_simp

/-! ## Extended reals that are real -/

theorem coe_sum {ι : Type} [Fintype ι] (f : ι → ℝ) : (∑ x, (f x : EReal)) = ((∑ x, f x : ℝ) : EReal) := by
  classical
  have h : ∀ s : Finset ι, (∑ x ∈ s, (f x : EReal)) = ((∑ x ∈ s, f x : ℝ) : EReal) := fun s => by
    induction s using Finset.induction_on with
    | empty => simp
    | insert a s ha ih => rw [Finset.sum_insert ha, Finset.sum_insert ha, ih, EReal.coe_add]
  exact h _

/-- The largest of finitely many reals, started at minus infinity, is a real. -/
theorem fold_real {ι : Type} (s : Finset ι) (hs : s.Nonempty) (f : ι → EReal) (hf : ∀ x ∈ s, ∃ r : ℝ, f x = r) :
    ∃ r : ℝ, s.fold max ⊥ f = r := by
  classical
  induction s using Finset.induction_on with
  | empty => exact absurd hs Finset.not_nonempty_empty
  | insert a s ha ih =>
    rw [Finset.fold_insert ha]
    obtain ⟨r, hr⟩ := hf a (Finset.mem_insert_self _ _)
    rcases s.eq_empty_or_nonempty with rfl | hne
    · exact ⟨r, by rw [Finset.fold_empty, hr]; exact max_eq_left bot_le⟩
    · obtain ⟨u, hu⟩ := ih hne fun x hx => hf x (Finset.mem_insert_of_mem hx)
      exact ⟨max r u, by rw [hr, hu]; exact (EReal.coe_strictMono.monotone.map_max).symm⟩

/-- The bit patterns of minus infinity, of the scale and of the mask's value. -/
theorem bits_bot : Ideal.ofBits .f32 0xFF800000#32 = (⊥ : EReal) := by simp [Ideal.ofBits, Ideal.ieee]
theorem bits_scale : Ideal.ofBits .f32 0x3E000000#32 = (((1 : ℝ) / 8 : ℝ) : EReal) := by
  simp [Ideal.ofBits, Ideal.ieee]
  rw [← EReal.coe_mul]; norm_num
theorem bits_one : Ideal.ofBits .f32 0x3F800000#32 = ((1 : ℝ) : EReal) := by
  simp [Ideal.ofBits, Ideal.ieee]
  rw [← EReal.coe_mul]; norm_num
theorem bits_mask : ∃ r : ℝ, Ideal.ofBits .f32 0xF149F2CA#32 = (r : EReal) := by
  unfold Ideal.ofBits Ideal.ieee
  dsimp only
  rw [if_neg (by decide), if_neg (by decide)]
  exact ⟨_, rfl⟩

/-- A sum over all positions, split at the new keys. -/
theorem sum_split (f : Fin 2052 → ℝ) : ∑ n, f n = ∑ j : Fin 2048, f ⟨j.val, by have := j.isLt; omega⟩ + ∑ j : Fin 4, f ⟨2048 + j.val, by have := j.isLt; omega⟩ := by
  exact Fin.sum_univ_add (a := 2048) (b := 4) f

/-! ## The arguments -/

/-- The keys (or values) of a sequence and head at one column, by position: the cached ones, then the new ones. -/
def cat (c : (⟨5, ![2, 32, 2048, 8, 64]⟩ : Shape).Idx → EReal) (n : (⟨4, ![32, 4, 8, 64]⟩ : Shape).Idx → EReal) (b : Fin 32) (h : Fin 8) (x : Fin 64)
    (j : Fin 2052) : EReal :=
  if hj : j.val < 2048 then c (ix5 0 b ⟨j.val, hj⟩ h x) else n (ix4 b ⟨j.val - 2048, by have := j.isLt; omega⟩ h x)

/-- The scores of a query, by position. -/
def score (q k : (⟨4, ![32, 4, 8, 64]⟩ : Shape).Idx → EReal) (ck : (⟨5, ![2, 32, 2048, 8, 64]⟩ : Shape).Idx → EReal) (b : Fin 32) (h : Fin 8) (i : Fin 4)
    (j : Fin 2052) : ℝ :=
  ∑ x, (q (ix4 b i h x)).toReal * (1 / 8) * (cat ck k b h x j).toReal

/-- The values of a head at one column, by position. -/
def val (v : (⟨4, ![32, 4, 8, 64]⟩ : Shape).Idx → EReal) (cv : (⟨5, ![2, 32, 2048, 8, 64]⟩ : Shape).Idx → EReal) (b : Fin 32) (h : Fin 8) (d : Fin 64)
    (j : Fin 2052) : ℝ := (cat cv v b h d j).toReal

/-- The attention's result at a sequence, a head, a query and a column. -/
def out (q k v : (⟨4, ![32, 4, 8, 64]⟩ : Shape).Idx → EReal) (ck cv : (⟨5, ![2, 32, 2048, 8, 64]⟩ : Shape).Idx → EReal) (b : Fin 32) (h : Fin 8) (i : Fin 4)
    (d : Fin 64) : EReal :=
  ((num (score q k ck b h i) (val v cv b h d) i / den (score q k ck b h i) i : ℝ) : EReal)

/-- Every entry is a real number. -/
def IsReal {s : Shape} (x : s.Idx → EReal) : Prop := ∀ i, x i = ((x i).toReal : EReal)

theorem cat_real {c : (⟨5, ![2, 32, 2048, 8, 64]⟩ : Shape).Idx → EReal} {n : (⟨4, ![32, 4, 8, 64]⟩ : Shape).Idx → EReal} (hc : IsReal c) (hn : IsReal n)
    (b : Fin 32) (h : Fin 8) (x : Fin 64) (j : Fin 2052) : cat c n b h x j = ((cat c n b h x j).toReal : EReal) := by
  unfold cat
  split
  · exact hc _
  · exact hn _

/-- The kernel's arithmetic at one query and column. -/
theorem kernel_value (i : Fin 4) (S v : Fin 2052 → ℝ) (mc sc vc : Fin 2048 → EReal) (mn sn vn : Fin 4 → EReal) (M : EReal)
    (hmc : ∀ j, mc j = (mult i j.val : EReal)) (hmn : ∀ j, mn j = (mult i (2048 + j.val) : EReal))
    (hsc : ∀ j, ∃ r : ℝ, sc j = r ∧ (0 < mult i j.val → r = S ⟨j.val, by have := j.isLt; omega⟩))
    (hsn : ∀ j, ∃ r : ℝ, sn j = r ∧ (0 < mult i (2048 + j.val) → r = S ⟨2048 + j.val, by have := j.isLt; omega⟩))
    (hM : ∃ r : ℝ, M = r)
    (hvc : ∀ j, vc j = (v ⟨j.val, by have := j.isLt; omega⟩ : EReal)) (hvn : ∀ j, vn j = (v ⟨2048 + j.val, by have := j.isLt; omega⟩ : EReal)) :
    Ideal.div (∑ x, mc x * Ideal.exp (sc x - M) * vc x + ∑ x, mn x * Ideal.exp (sn x - M) * vn x)
      (∑ x, mc x * Ideal.exp (sc x - M) + ∑ x, mn x * Ideal.exp (sn x - M)) = ((num S v i / den S i : ℝ) : EReal) := by
  choose rc hrc hrcS using hsc
  choose rn hrn hrnS using hsn
  obtain ⟨M, rfl⟩ := hM
  let s : Fin 2052 → ℝ := fun n => if h : n.val < 2048 then rc ⟨n.val, h⟩ else rn ⟨n.val - 2048, by have := n.isLt; omega⟩
  have hsC : ∀ j : Fin 2048, s ⟨j.val, by have := j.isLt; omega⟩ = rc j := fun j => dif_pos j.isLt
  have hsN : ∀ j : Fin 4, s ⟨2048 + j.val, by have := j.isLt; omega⟩ = rn j := fun j =>
    (dif_neg (show ¬ 2048 + j.val < 2048 by omega)).trans (congrArg rn (Fin.ext (by show 2048 + j.val - 2048 = j.val; omega)))
  have hs : ∀ n, 0 < mult i n.val → s n = S n := fun n hn => by
    by_cases h : n.val < 2048
    · exact (hsC ⟨n.val, h⟩).trans (hrcS ⟨n.val, h⟩ hn)
    · have hl := n.isLt
      have e : n = ⟨2048 + (⟨n.val - 2048, by omega⟩ : Fin 4).val, by show 2048 + (n.val - 2048) < 2052; omega⟩ :=
        Fin.ext (by show n.val = 2048 + (n.val - 2048); omega)
      rw [e]
      refine (hsN _).trans (hrnS _ ?_)
      show 0 < mult i (2048 + (n.val - 2048))
      rwa [show 2048 + (n.val - 2048) = n.val by omega]
  have hpos := one_softmax_den i S s hs M
  have key := one_softmax i S s v hs M
  rw [sum_split, sum_split (fun n => mult i n.val * Real.exp (s n - M))] at key
  rw [sum_split] at hpos
  simp only [hsC, hsN] at key hpos
  simp only [hmc, hmn, hrc, hrn, hvc, hvn, ← EReal.coe_sub, Ideal.exp_coe, ← EReal.coe_mul, coe_sum, ← EReal.coe_add]
  rw [Ideal.div_coe hpos.ne', ← EReal.coe_mul, ← key, mul_one_div]

/-- The reference's log-sum-exp of one pattern. -/
theorem lse_value (s : Fin 129 → ℝ) (M : ℝ) :
    ∃ r : ℝ, (M : EReal) + Ideal.log (∑ x, Ideal.exp ((s x : EReal) - M)) = r ∧ Real.exp r = ∑ x, Real.exp (s x) := by
  have hp : 0 < ∑ x, Real.exp (s x - M) := Finset.sum_pos (fun k _ => Real.exp_pos _) ⟨0, Finset.mem_univ _⟩
  refine ⟨M + Real.log (∑ x, Real.exp (s x - M)), ?_, ?_⟩
  · simp only [← EReal.coe_sub, Ideal.exp_coe, coe_sum, Ideal.log_coe, if_neg (not_le.mpr hp), ← EReal.coe_add]
  · rw [Real.exp_add, Real.exp_log hp, Finset.mul_sum]
    refine Finset.sum_congr rfl fun x _ => ?_
    rw [← Real.exp_add]; congr 1; ring

/-- The reference's arithmetic at one query and column. -/
theorem reference_value (i : Fin 4) (S v : Fin 2052 → ℝ) (l : Fin 3 → ℝ) (hl : ∀ p, Real.exp (l p) = ∑ k, Real.exp (S (pos p i k))) (M : ℝ) :
    ∑ p : Fin 3, Ideal.div (Ideal.exp ((l p : EReal) - M)) (∑ p : Fin 3, Ideal.exp ((l p : EReal) - M))
        * ∑ k, Ideal.exp ((S (pos p i k) : EReal) - l p) * (v (pos p i k) : EReal)
      = ((num S v i / den S i : ℝ) : EReal) := by
  have hp : 0 < ∑ p : Fin 3, Real.exp (l p - M) := Finset.sum_pos (fun k _ => Real.exp_pos _) ⟨0, Finset.mem_univ _⟩
  simp only [← EReal.coe_sub, Ideal.exp_coe, ← EReal.coe_mul, coe_sum, Ideal.div_coe hp.ne']
  rw [← three_softmaxes S v i l hl M]
  simp only [mul_one_div]

end Cert.Attn

end
-- ==== Proof.SampleTables.lean ====
module

public import proofs.«01_k».proof.Proof.SampleHead
public import proofs.«01_k».proof.Proof.SampleMath

/-! The count tables the sample attention's kernel writes at its first grid point: an entry is the number of dilation
    patterns that reach the key. -/

@[expose] public section

set_option maxRecDepth 16384

noncomputable section

open Idealize.ShloMosaic Idealize.ShloMosaic.TcCoe Idealize.SL.Sem
open scoped BigOperators

namespace Cert.KernelIdeal.Sample

open Cert.KernelIdeal Cert.KernelIdeal.Gen

/-- The table of the cached keys. -/
def tc : FVec Ideal S4x2048 .f32 :=
  k0_pay10 (k0_pay6 k0_pay2 k0_pay3 k0_pay4 k0_pay5 4#32 (Scalar.cmpi .eq 4#32 0#32) 1#32) (k0_pay7 k0_pay2) (k0_pay8 k0_pay2) (k0_pay9 k0_pay2)

/-- The table of the new keys. -/
def tn : FVec Ideal S4x4 .f32 :=
  k0_pay19 (k0_pay14 k0_pay11 k0_pay12 k0_pay13 (Scalar.ofBits .f32 0x3F800000#32) (Scalar.ofBits .f32 0x00000000#32)) (k0_pay15 k0_pay11) (k0_pay16 k0_pay11)
    (Scalar.select (Scalar.cmpi .eq 16#32 0#32) 1#32 16#32) (k0_pay17 k0_pay11) (k0_pay18 k0_pay11) 0#32

/-- The kernel's test of one pattern at a distance: not negative, at most the reach, and the distance's remainder by
    the dilation, brought to the dilation's sign, zero. -/
def word (w dl d : BitVec 32) : BitVec 1 :=
  IntOp.andi (IntOp.cmpi .sge d 0#32) (IntOp.andi (IntOp.cmpi .sle d w) (IntOp.cmpi .eq
    (Scalar.select (IntOp.andi (IntOp.xori
        (IntOp.cmpi .slt (IntOp.remsi .vector d dl) 0#32)
        (Scalar.cmpi .slt dl 0#32))
      (IntOp.cmpi .ne (IntOp.remsi .vector d dl) 0#32))
      (IntOp.addi (IntOp.remsi .vector d dl) dl)
      (IntOp.remsi .vector d dl)) 0#32))

theorem wordc0 : ∀ (i : Fin 4) (j : Fin 2048), word 128#32 1#32 (IntOp.subi (IntOp.addi (2048#32) (BitVec.ofNat 32 i.val)) (IntOp.addi (0#32) (BitVec.ofNat 32 j.val)))
    = if Cert.Attn.hit 0 i j.val then 1#1 else 0#1 := by decide +kernel
theorem wordc1 : ∀ (i : Fin 4) (j : Fin 2048), word 512#32 (Scalar.select (Scalar.cmpi .eq 4#32 0#32) 1#32 4#32) (IntOp.subi (IntOp.addi (2048#32) (BitVec.ofNat 32 i.val)) (IntOp.addi (0#32) (BitVec.ofNat 32 j.val)))
    = if Cert.Attn.hit 1 i j.val then 1#1 else 0#1 := by decide +kernel
theorem wordc2 : ∀ (i : Fin 4) (j : Fin 2048), word 2048#32 (Scalar.select (Scalar.cmpi .eq 16#32 0#32) 1#32 16#32) (IntOp.subi (IntOp.addi (2048#32) (BitVec.ofNat 32 i.val)) (IntOp.addi (0#32) (BitVec.ofNat 32 j.val)))
    = if Cert.Attn.hit 2 i j.val then 1#1 else 0#1 := by decide +kernel
theorem wordn0 : ∀ (i j : Fin 4), word 128#32 1#32 (IntOp.subi (IntOp.addi (2048#32) (BitVec.ofNat 32 i.val)) (IntOp.addi (2048#32) (BitVec.ofNat 32 j.val)))
    = if Cert.Attn.hit 0 i (2048 + j.val) then 1#1 else 0#1 := by decide +kernel
theorem wordn1 : ∀ (i j : Fin 4), word 512#32 (Scalar.select (Scalar.cmpi .eq 4#32 0#32) 1#32 4#32) (IntOp.subi (IntOp.addi (2048#32) (BitVec.ofNat 32 i.val)) (IntOp.addi (2048#32) (BitVec.ofNat 32 j.val)))
    = if Cert.Attn.hit 1 i (2048 + j.val) then 1#1 else 0#1 := by decide +kernel
theorem wordn2 : ∀ (i j : Fin 4), word 2048#32 (Scalar.select (Scalar.cmpi .eq 16#32 0#32) 1#32 16#32) (IntOp.subi (IntOp.addi (2048#32) (BitVec.ofNat 32 i.val)) (IntOp.addi (2048#32) (BitVec.ofNat 32 j.val)))
    = if Cert.Attn.hit 2 i (2048 + j.val) then 1#1 else 0#1 := by decide +kernel

/-- Three tests, counted. -/
theorem count (a b c : Prop) [Decidable a] [Decidable b] [Decidable c] :
    (Scalar.select (if a then 1#1 else 0#1) (1 : EReal) 0 + Scalar.select (if b then 1#1 else 0#1) (1 : EReal) 0) + Scalar.select (if c then 1#1 else 0#1) (1 : EReal) 0
      = ((((if a then 1 else 0) + (if b then 1 else 0) + (if c then 1 else 0) : ℝ)) : EReal) := by
  have s1 : Scalar.select 1#1 (1 : EReal) 0 = ((1 : ℝ) : EReal) := rfl
  have s0 : Scalar.select 0#1 (1 : EReal) 0 = ((0 : ℝ) : EReal) := rfl
  rw [EReal.coe_add, EReal.coe_add]
  congr 1
  · congr 1
    · split <;> assumption
    · split <;> assumption
  · split <;> assumption

theorem tc_at (i : Fin 4) (j : Fin 2048) : tc (ix2 i j) = (Cert.Attn.mult i j.val : EReal) := by
  have e0 := wordc0 i j
  have e1 := wordc1 i j
  have e2 := wordc2 i j
  unfold word at e0 e1 e2
  pointwise [tc, k0_pay10, k0_pay6, k0_pay2, k0_pay3, k0_pay4, k0_pay5, k0_pay7, k0_pay8, k0_pay9]
  rw [e0, e1, e2]
  unfold Cert.Attn.mult
  rw [Fin.sum_univ_three]
  exact count _ _ _

theorem tn_at (i j : Fin 4) : tn (ix2 i j) = (Cert.Attn.mult i (2048 + j.val) : EReal) := by
  have e0 := wordn0 i j
  have e1 := wordn1 i j
  have e2 := wordn2 i j
  unfold word at e0 e1 e2
  pointwise [tn, k0_pay19, k0_pay14, k0_pay11, k0_pay12, k0_pay13, k0_pay15, k0_pay16, k0_pay17, k0_pay18]
  rw [e0, e1, e2]
  unfold Cert.Attn.mult
  rw [Fin.sum_univ_three]
  exact count _ _ _

end Cert.KernelIdeal.Sample
end
-- ==== Proof.SamplePieces.lean ====
module

public import proofs.«01_k».proof.Proof.SampleTables

/-! The blocks the sample attention's kernel stores at a grid point: each head's block is `head` of the blocks it read. -/

@[expose] public section

set_option maxRecDepth 16384

noncomputable section

open Idealize.ShloMosaic Idealize.ShloMosaic.TcCoe Idealize.SL.Sem
open scoped BigOperators

namespace Cert.KernelIdeal.Sample

open Cert.KernelIdeal Cert.KernelIdeal.Gen

/-- A head's result, from the tables, its queries, keys and values. -/
def head (mc : FVec Ideal S4x2048 .f32) (mn : FVec Ideal S4x4 .f32) (q kn vn : FVec Ideal S1x1x4x64 .f32) (kt vt : FVec Ideal S1x64x2048 .f32) : FVec Ideal S1x1x4x64 .f32 :=
  ho (hpc mc (hsc mc q kt) (hm (hsc mc q kt) (hsn mn q kn))) (hpn mn (hsn mn q kn) (hm (hsc mc q kt) (hsn mn q kn))) vt vn

theorem inbR : ∀ (h : Fin 8) (a : Fin 4), (![0, h.val, 0, 0] : Fin 4 → Nat) a + S1x1x4x64.size a ≤ S1x8x4x64.size a := by decide
theorem inbK : ∀ (h : Fin 8) (a : Fin 3), (![h.val, 0, 0] : Fin 3 → Nat) a + S1x64x2048.size a ≤ S8x64x2048.size a := by decide

/-- One head of a block of queries, keys, values or results. -/
abbrev RO (h : Fin 8) : Rect S1x8x4x64 := Rect.unit (s := S1x8x4x64) ![0, h.val, 0, 0] S1x1x4x64.size (inbR h)
/-- One head of a cache slot. -/
abbrev RK (h : Fin 8) : Rect S8x64x2048 := Rect.unit (s := S8x64x2048) ![h.val, 0, 0] S1x64x2048.size (inbK h)

/-- What a point stores for a head, from the tables and the blocks it reads. -/
def headAt (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole)
    (x0 x1 x2 : Vec Ideal S1x8x4x64 .f32) (fh0 : HbBuf0 (F := Ideal) c hbM0_0) (fh1 : HbBuf0 (F := Ideal) c hbM0_1) (mc : FVec Ideal S4x2048 .f32) (mn : FVec Ideal S4x4 .f32) (h : Fin 8) : FVec Ideal S1x1x4x64 .f32 :=
  head mc mn (View.readAt (Elt Ideal) arg1.view (RO h).toLoadRect (harg1.unread x0)) (View.readAt (Elt Ideal) arg2.view (RO h).toLoadRect (harg2.unread x1)) (View.readAt (Elt Ideal) arg3.view (RO h).toLoadRect (harg3.unread x2))
    ((rslot0_0 (Ring.sl 3 t.val)).view.readCov [⟨Rect.whole S8x64x2048, ReadAs.same.apply (View.read (Elt Ideal) (srcB0_0 (Ring.bk 32 t.val)).view fh0)⟩] (RK h).toLoadRect)
    ((rslot0_1 (Ring.sl 3 t.val)).view.readCov [⟨Rect.whole S8x64x2048, ReadAs.same.apply (View.read (Elt Ideal) (srcB0_1 (Ring.bk 32 t.val)).view fh1)⟩] (RK h).toLoadRect)

/-- The heads, the last stored first. -/
def heads : List (Fin 8) := [7, 6, 5, 4, 3, 2, 1, 0]

theorem pieces_B (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : ¬cond0_0 (grid0.coords t)) (hc1 : cond0_1 (grid0.coords t)) (hc2 : ¬cond0_2 (grid0.coords t)) (x0 x1 x2 : Vec Ideal S1x8x4x64 .f32) (fh0 : HbBuf0 (F := Ideal) c hbM0_0) (fh1 : HbBuf0 (F := Ideal) c hbM0_1) (xs0 : Vec Ideal S4x2048 .f32) (xs1 : Vec Ideal S4x4 .f32) :
    (bodyRun_B c t arg1 harg1 arg2 harg2 arg3 harg3 arg6 harg6 arg7 harg7 arg8 harg8 hc0 hc1 hc2 x0 x1 x2 fh0 fh1 xs0 xs1).1 = heads.map fun h => ⟨RO h, headAt c t arg1 harg1 arg2 harg2 arg3 harg3 x0 x1 x2 fh0 fh1
      (View.readAt (Elt Ideal) arg7.view (Rect.unit (s := S4x2048) ![0, 0] S4x2048.size inb_S4x2048_S4x2048_0_0).toLoadRect (harg7.unread xs0)) (View.readAt (Elt Ideal) arg8.view (Rect.unit (s := S4x4) ![0, 0] S4x4.size inb_S4x4_S4x4_0_0).toLoadRect (harg8.unread xs1)) h⟩ := by
  rfl

theorem pieces_C (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : ¬cond0_0 (grid0.coords t)) (hc1 : ¬cond0_1 (grid0.coords t)) (hc2 : ¬cond0_2 (grid0.coords t)) (x0 x1 x2 : Vec Ideal S1x8x4x64 .f32) (fh0 : HbBuf0 (F := Ideal) c hbM0_0) (fh1 : HbBuf0 (F := Ideal) c hbM0_1) (xs0 : Vec Ideal S4x2048 .f32) (xs1 : Vec Ideal S4x4 .f32) :
    (bodyRun_C c t arg1 harg1 arg2 harg2 arg3 harg3 arg6 harg6 arg7 harg7 arg8 harg8 hc0 hc1 hc2 x0 x1 x2 fh0 fh1 xs0 xs1).1 = heads.map fun h => ⟨RO h, headAt c t arg1 harg1 arg2 harg2 arg3 harg3 x0 x1 x2 fh0 fh1
      (View.readAt (Elt Ideal) arg7.view (Rect.unit (s := S4x2048) ![0, 0] S4x2048.size inb_S4x2048_S4x2048_0_0).toLoadRect (harg7.unread xs0)) (View.readAt (Elt Ideal) arg8.view (Rect.unit (s := S4x4) ![0, 0] S4x4.size inb_S4x4_S4x4_0_0).toLoadRect (harg8.unread xs1)) h⟩ := by
  rfl

theorem pieces_A (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : cond0_0 (grid0.coords t)) (hc1 : cond0_1 (grid0.coords t)) (hc2 : cond0_2 (grid0.coords t)) (x0 x1 x2 : Vec Ideal S1x8x4x64 .f32) (fh0 : HbBuf0 (F := Ideal) c hbM0_0) (fh1 : HbBuf0 (F := Ideal) c hbM0_1) :
    (bodyRun_A c t arg1 harg1 arg2 harg2 arg3 harg3 arg6 harg6 arg7 harg7 arg8 harg8 hc0 hc1 hc2 x0 x1 x2 fh0 fh1).1 = heads.map fun h => ⟨RO h, headAt c t arg1 harg1 arg2 harg2 arg3 harg3 x0 x1 x2 fh0 fh1
      (arg7.view.readCov (Val := Elt Ideal) [⟨(Rect.unit (s := S4x2048) ![0, 0] S4x2048.size inb_S4x2048_S4x2048_0_0), tc⟩] (Rect.unit (s := S4x2048) ![0, 0] S4x2048.size inb_S4x2048_S4x2048_0_0).toLoadRect) (arg8.view.readCov (Val := Elt Ideal) [⟨(Rect.unit (s := S4x4) ![0, 0] S4x4.size inb_S4x4_S4x4_0_0), tn⟩] (Rect.unit (s := S4x4) ![0, 0] S4x4.size inb_S4x4_S4x4_0_0).toLoadRect) h⟩ := by
  rfl

theorem pieces_tab (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : cond0_0 (grid0.coords t)) (hc1 : cond0_1 (grid0.coords t)) (hc2 : cond0_2 (grid0.coords t)) (x0 x1 x2 : Vec Ideal S1x8x4x64 .f32) (fh0 : HbBuf0 (F := Ideal) c hbM0_0) (fh1 : HbBuf0 (F := Ideal) c hbM0_1) :
    (bodyRun_A c t arg1 harg1 arg2 harg2 arg3 harg3 arg6 harg6 arg7 harg7 arg8 harg8 hc0 hc1 hc2 x0 x1 x2 fh0 fh1).2.1 = [⟨(Rect.unit (s := S4x2048) ![0, 0] S4x2048.size inb_S4x2048_S4x2048_0_0), tc⟩] := by
  rfl

theorem pieces_new (c : Dev nD) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole) (arg6 : Memref sig .tc .vmem S1x8x4x64 .f32) (harg6 : arg6.IsWhole) (arg7 : Memref sig .tc .vmem S4x2048 .f32) (harg7 : arg7.IsWhole) (arg8 : Memref sig .tc .vmem S4x4 .f32) (harg8 : arg8.IsWhole) (hc0 : cond0_0 (grid0.coords t)) (hc1 : cond0_1 (grid0.coords t)) (hc2 : cond0_2 (grid0.coords t)) (x0 x1 x2 : Vec Ideal S1x8x4x64 .f32) (fh0 : HbBuf0 (F := Ideal) c hbM0_0) (fh1 : HbBuf0 (F := Ideal) c hbM0_1) :
    (bodyRun_A c t arg1 harg1 arg2 harg2 arg3 harg3 arg6 harg6 arg7 harg7 arg8 harg8 hc0 hc1 hc2 x0 x1 x2 fh0 fh1).2.2.1 = [⟨(Rect.unit (s := S4x4) ![0, 0] S4x4.size inb_S4x4_S4x4_0_0), tn⟩] := by
  rfl

end Cert.KernelIdeal.Sample
end
-- ==== Proof.SampleHeadOut.lean ====
module

public import proofs.«01_k».proof.Proof.SamplePieces

/-! One head's block is the attention's result at that head. -/

@[expose] public section

set_option maxRecDepth 16384

noncomputable section

open Idealize.ShloMosaic Idealize.ShloMosaic.TcCoe Idealize.SL.Sem
open scoped BigOperators

namespace Cert.KernelIdeal.Sample

open Cert.KernelIdeal Cert.KernelIdeal.Gen Cert.Attn

/-- A head's block at an entry, over the entries of what it is computed from. -/
theorem head_at (mc : FVec Ideal S4x2048 .f32) (mn : FVec Ideal S4x4 .f32) (q kn vn : FVec Ideal S1x1x4x64 .f32) (kt vt : FVec Ideal S1x64x2048 .f32) (i : Fin 4) (d : Fin 64) :
    head mc mn q kn vn kt vt (ix4 0 0 i d)
      = Ideal.div (∑ x, mc (ix2 i x) * Ideal.exp (hsc mc q kt (ix2 i x) - hm (hsc mc q kt) (hsn mn q kn) (ix2 i 0)) * vt (ix3 0 d x)
          + ∑ x, mn (ix2 i x) * Ideal.exp (hsn mn q kn (ix2 i x) - hm (hsc mc q kt) (hsn mn q kn) (ix2 i 0)) * vn (ix4 0 0 x d))
        (∑ x, mc (ix2 i x) * Ideal.exp (hsc mc q kt (ix2 i x) - hm (hsc mc q kt) (hsn mn q kn) (ix2 i 0))
          + ∑ x, mn (ix2 i x) * Ideal.exp (hsn mn q kn (ix2 i x) - hm (hsc mc q kt) (hsn mn q kn) (ix2 i 0))) := by
  unfold head
  rw [ho_at]
  simp only [hpc_at, hpn_at]

theorem cat_cached (c : S2x32x2048x8x64.Idx → EReal) (n : S32x4x8x64.Idx → EReal) (b : Fin 32) (h : Fin 8) (x : Fin 64) (j : Fin 2048) :
    cat c n b h x ⟨j.val, by have := j.isLt; omega⟩ = c (ix5 0 b j h x) := dif_pos j.isLt

theorem cat_new (c : S2x32x2048x8x64.Idx → EReal) (n : S32x4x8x64.Idx → EReal) (b : Fin 32) (h : Fin 8) (x : Fin 64) (j : Fin 4) :
    cat c n b h x ⟨2048 + j.val, by have := j.isLt; omega⟩ = n (ix4 b j h x) :=
  (dif_neg (show ¬ 2048 + j.val < 2048 by omega)).trans
    (congrArg (fun z => n (ix4 b z h x)) (Fin.ext (by show 2048 + j.val - 2048 = j.val; omega)))

/-- A score: a sum of products of real numbers. -/
theorem dot_real (a k : Fin 64 → EReal) (ha : ∀ x, a x = ((a x).toReal : EReal)) (hk : ∀ x, k x = ((k x).toReal : EReal)) :
    ∑ x, a x * Ideal.ofBits FTy.f32 1040187392#32 * k x = ((∑ x, (a x).toReal * (1 / 8) * (k x).toReal : ℝ) : EReal) := by
  rw [show Ideal.ofBits FTy.f32 1040187392#32 = (((1 : ℝ) / 8 : ℝ) : EReal) from bits_scale, ← coe_sum]
  refine Finset.sum_congr rfl fun x _ => ?_
  rw [EReal.coe_mul, EReal.coe_mul, ← ha x, ← hk x]

/-- A masked score is a real number, the score itself where its key is looked at. -/
theorem masked (t : EReal) (w : ℝ) (s : EReal) (S : ℝ) (ht : t = (w : EReal)) (hs : s = (S : EReal)) :
    ∃ r : ℝ, (if 0 < t then s else Ideal.ofBits FTy.f32 4048155338#32) = (r : EReal) ∧ (0 < w → r = S) := by
  subst ht hs
  by_cases h : 0 < w
  · exact ⟨S, if_pos (by exact_mod_cast h), fun _ => rfl⟩
  · obtain ⟨r, hr⟩ := bits_mask
    exact ⟨r, (if_neg (by exact_mod_cast h)).trans hr, fun hw => absurd hw h⟩

theorem head_out (q k v : FVec Ideal S32x4x8x64 .f32) (ck cv : FVec Ideal S2x32x2048x8x64 .f32)
    (hq : IsReal q) (hk : IsReal k) (hv : IsReal v) (hck : IsReal ck) (hcv : IsReal cv)
    (xq xk xv : FVec Ideal S1x1x4x64 .f32) (kt vt : FVec Ideal S1x64x2048 .f32) (b : Fin 32) (h : Fin 8)
    (eq : ∀ i d, xq (ix4 0 0 i d) = q (ix4 b i h d)) (ek : ∀ i d, xk (ix4 0 0 i d) = k (ix4 b i h d)) (ev : ∀ i d, xv (ix4 0 0 i d) = v (ix4 b i h d))
    (ekt : ∀ d j, kt (ix3 0 d j) = ck (ix5 0 b j h d)) (evt : ∀ d j, vt (ix3 0 d j) = cv (ix5 0 b j h d)) (i : Fin 4) (d : Fin 64) :
    head tc tn xq xk xv kt vt (ix4 0 0 i d) = out q k v ck cv b h i d := by
  have h1 : ∀ j : Fin 2048, ∃ r : ℝ, hsc tc xq kt (ix2 i j) = (r : EReal) ∧ (0 < mult i j.val → r = score q k ck b h i ⟨j.val, by have := j.isLt; omega⟩) := fun j => by
    rw [hsc_at]
    refine masked _ _ _ _ (tc_at i j) ?_
    simp only [eq, ekt]
    rw [dot_real _ _ (fun x => hq _) (fun x => hck _)]
    unfold score
    simp only [cat_cached]
  have h2 : ∀ j : Fin 4, ∃ r : ℝ, hsn tn xq xk (ix2 i j) = (r : EReal) ∧ (0 < mult i (2048 + j.val) → r = score q k ck b h i ⟨2048 + j.val, by have := j.isLt; omega⟩) := fun j => by
    rw [hsn_at]
    refine masked _ _ _ _ (tn_at i j) ?_
    simp only [eq, ek]
    rw [dot_real _ _ (fun x => hq _) (fun x => hk _)]
    unfold score
    simp only [cat_new]
  rw [head_at]
  refine kernel_value i (score q k ck b h i) (val v cv b h d) (fun x => tc (ix2 i x)) (fun x => hsc tc xq kt (ix2 i x)) (fun x => vt (ix3 0 d x))
    (fun x => tn (ix2 i x)) (fun x => hsn tn xq xk (ix2 i x)) (fun x => xv (ix4 0 0 x d)) _ (tc_at i) (tn_at i) h1 h2 ?_ (fun j => ?_) (fun j => ?_)
  · rw [hm_at, show Ideal.ofBits FTy.f32 4286578688#32 = (⊥ : EReal) from bits_bot]
    obtain ⟨a, ha⟩ := fold_real Finset.univ ⟨0, Finset.mem_univ _⟩ (fun x : Fin 2048 => hsc tc xq kt (ix2 i x)) (fun x _ => (h1 x).imp fun r hr => hr.1)
    obtain ⟨a', ha'⟩ := fold_real Finset.univ ⟨0, Finset.mem_univ _⟩ (fun x : Fin 4 => hsn tn xq xk (ix2 i x)) (fun x _ => (h2 x).imp fun r hr => hr.1)
    exact ⟨max a a', by rw [ha, ha']; exact (EReal.coe_strictMono.monotone.map_max).symm⟩
  · unfold val
    rw [cat_cached, ← hcv]
    exact evt d j
  · unfold val
    rw [cat_new, ← hv]
    exact ev j d

end Cert.KernelIdeal.Sample
end
-- ==== Proof.SampleFinal.lean ====
module

public import proofs.«01_k».proof.Proof.SampleFrame
public import proofs.«01_k».proof.Proof.SampleBlocks
public import proofs.«01_k».proof.Proof.SampleHeadOut

/-! The sample attention's result array, entry by entry. -/

@[expose] public section

set_option maxRecDepth 16384

noncomputable section

open Idealize.ShloMosaic Idealize.ShloMosaic.TcCoe Idealize.SL.Sem
open Idealize.ShloMosaic.Pipeline (Dat)
open scoped BigOperators

namespace Cert.KernelIdeal.Sample

open Cert.KernelIdeal Cert.KernelIdeal.Gen Cert.Attn

/-- A head's entry after the stores of a list of heads that has it. -/
theorem read_heads (v : View sig .tc .vmem S1x8x4x64 .f32) (f : v.ty.Contents (Elt Ideal)) (w : Fin 8 → FVec Ideal S1x1x4x64 .f32) (h : Fin 8) (i : Fin 4) (d : Fin 64) :
    ∀ L : List (Fin 8), h ∈ L → v.read (Elt Ideal) (v.writes (Elt Ideal) f (L.map fun k => ⟨RO k, w k⟩)) (ix4 0 h i d) = w h (ix4 0 0 i d)
  | [], hm => nomatch hm
  | a :: L, hm => by
    by_cases e : h = a
    · subst e
      refine (congrArg _ (?_ : (ix4 0 h i d : S1x8x4x64.Idx) = (RO h).emb (ix4 0 0 i d))).trans
        (View.read_writes_cons_emb v f (RO h) (w h) (L.map fun k => ⟨RO k, w k⟩) (ix4 0 0 i d))
      refine funext fun a => Fin.ext ?_
      fin_cases a
      · rfl
      · show h.val = h.val + 1 * 0; omega
      · show i.val = 0 + 1 * i.val; omega
      · show d.val = 0 + 1 * d.val; omega
    · have hne : h.val ≠ a.val := fun q => e (Fin.ext q)
      refine (View.read_writes_cons_unit_of_not_mem v f (inbR a) (w a) (L.map fun k => ⟨RO k, w k⟩) (ix4 0 h i d) rfl 1 ?_).trans
        (read_heads v f w h i d L ((List.mem_cons.mp hm).resolve_left e))
      show h.val < a.val ∨ a.val + 1 ≤ h.val
      omega

theorem mem_heads (h : Fin 8) : h ∈ heads := by revert h; decide

variable (m : (ℓ : Loc nD τ sig) → Buf (Elt Ideal) ℓ)

theorem tabC_eq (c : Dev nD) : tabC m c = tc := by
  unfold tabC leftTab
  rw [pieces_tab]
  exact tab_stored VT VT.junk tc

theorem tabN_eq (c : Dev nD) : tabN m c = tn := by
  unfold tabN leftNew
  rw [pieces_new]
  exact new_stored VN VN.junk tn

/-- The arguments. -/
abbrev aQ (c : Dev nD) : FVec Ideal S32x4x8x64 .f32 := m ((c : Thread nD τ).loc main_arg0)
abbrev aK (c : Dev nD) : FVec Ideal S32x4x8x64 .f32 := m ((c : Thread nD τ).loc main_arg1)
abbrev aV (c : Dev nD) : FVec Ideal S32x4x8x64 .f32 := m ((c : Thread nD τ).loc main_arg2)
abbrev aCK (c : Dev nD) : FVec Ideal S2x32x2048x8x64 .f32 := m ((c : Thread nD τ).loc main_arg3)
abbrev aCV (c : Dev nD) : FVec Ideal S2x32x2048x8x64 .f32 := m ((c : Thread nD τ).loc main_arg4)

/-- Every argument is an array of real numbers. -/
def Real (c : Dev nD) : Prop := IsReal (aQ m c) ∧ IsReal (aK m c) ∧ IsReal (aV m c) ∧ IsReal (aCK m c) ∧ IsReal (aCV m c)

/-- What a point stores for a head is the attention's result there. -/
theorem headAt_out (c : Dev nD) (hr : Real m c) (t : Fin cfg0.N) (arg1 : Memref sig .tc .vmem S1x8x4x64 .f32) (harg1 : arg1.IsWhole) (arg2 : Memref sig .tc .vmem S1x8x4x64 .f32) (harg2 : arg2.IsWhole) (arg3 : Memref sig .tc .vmem S1x8x4x64 .f32) (harg3 : arg3.IsWhole)
    (h : Fin 8) (i : Fin 4) (d : Fin 64) :
    headAt c t arg1 harg1 arg2 harg2 arg3 harg3 (iblk m c 0 t) (iblk m c 1 t) (iblk m c 2 t) (V m c main_v0) (V m c main_v1) tc tn h (ix4 0 0 i d)
      = out (aQ m c) (aK m c) (aV m c) (aCK m c) (aCV m c) (seq t) h i d := by
  obtain ⟨hq, hk, hv, hck, hcv⟩ := hr
  unfold headAt
  refine head_out (aQ m c) (aK m c) (aV m c) (aCK m c) (aCV m c) hq hk hv hck hcv _ _ _ _ _ (seq t) h (fun i d => ?_) (fun i d => ?_) (fun i d => ?_) (fun d j => ?_) (fun d j => ?_) i d
  · exact (block_at arg1 harg1 _ h (inbR h) i d).trans (iblk0_at m c t h i d)
  · exact (block_at arg2 harg2 _ h (inbR h) i d).trans (iblk1_at m c t h i d)
  · exact (block_at arg3 harg3 _ h (inbR h) i d).trans (iblk2_at m c t h i d)
  · refine (slot_at _ _ h (inbK h) d j).trans ((src0_at c _ (Ring.bk 32 t.val) h d j).trans ?_)
    rw [bk_seq]
    exact V0_at m c (seq t) h d j
  · refine (slot_at _ _ h (inbK h) d j).trans ((src1_at c _ (Ring.bk 32 t.val) h d j).trans ?_)
    rw [bk_seq]
    exact V1_at m c (seq t) h d j

/-- A grid point leaves the attention's result in its block. -/
theorem point (c : Dev nD) (hr : Real m c) (t : Fin cfg0.N) (h : Fin 8) (i : Fin 4) (d : Fin 64) :
    outAt m c t (ix4 0 h i d) = out (aQ m c) (aK m c) (aV m c) (aCK m c) (aCV m c) (seq t) h i d := by
  have hN : t.val < 32 := (seq t).isLt
  by_cases h0 : t.val % 32 = 0
  · rw [outAt_A m c t h0 (by omega)]
    unfold left_A
    rw [pieces_A]
    refine (read_heads VO _ _ h i d heads (mem_heads h)).trans ?_
    rw [View.readCov_cons_toLoadRect, View.readCov_cons_toLoadRect]
    exact headAt_out m c hr t _ _ _ _ _ _ h i d
  · by_cases h1 : t.val < 30
    · rw [outAt_B m c t h0 h1]
      unfold left_B
      rw [pieces_B]
      refine (read_heads VO _ _ h i d heads (mem_heads h)).trans ?_
      rw [tab_read, new_read, tabC_eq, tabN_eq]
      exact headAt_out m c hr t _ _ _ _ _ _ h i d
    · rw [outAt_C m c t h0 h1]
      unfold left_C
      rw [pieces_C]
      refine (read_heads VO _ _ h i d heads (mem_heads h)).trans ?_
      rw [tab_read, new_read, tabC_eq, tabN_eq]
      exact headAt_out m c hr t _ _ _ _ _ _ h i d

theorem final_3 (c : Dev nD) (hr : Real m c) : (dats m 0 c).arrAt 3 (cfgs 0).N
    = ((fun i => out (aQ m c) (aK m c) (aV m c) (aCK m c) (aCV m c) (i 0) (i 1) (i 2) (i 3)) : FVec Ideal S32x8x4x64 .f32) := by
  refine (dats m 0 c).arrAt_eq_of_covers 3 _ (by decide +kernel) fun t hf y => ?_
  blk_simp; rw [after0_3]
  obtain ⟨h, i, d, rfl⟩ : ∃ (h : Fin 8) (i : Fin 4) (d : Fin 64), y = (ix4 0 h i d : S1x8x4x64.Idx) :=
    ⟨y 1, y 2, y 3, by
      funext a
      fin_cases a
      · exact Subsingleton.elim (α := Fin 1) _ _
      · rfl
      · rfl
      · rfl⟩
  refine (point m c hr t h i d).trans ?_
  rw [emb3]
  rfl

end Cert.KernelIdeal.Sample
end
-- ==== Proof.SampleRef.lean ====
module

public import proofs.«01_k».proof.Proof.Gen.ReferenceIdeal.Run
public import proofs.«01_k».proof.Proof.SampleMath

/-! The sample attention's reference, entry by entry: each pattern's gathered scores are the scores at the pattern's
    positions. -/

@[expose] public section

set_option maxRecDepth 16384

noncomputable section

open Idealize.ShloMosaic Idealize.ShloMosaic.TcCoe Idealize.SL.Sem
open scoped BigOperators

namespace Cert.ReferenceIdeal.Hand

open Cert.ReferenceIdeal Cert.ReferenceIdeal.Gen Cert.ReferenceIdeal.Value
open Cert.Attn

/-- The gather of rows `idx` along the positions, at an entry: the row is the index, clamped. -/
theorem gather_at (x : FVec Ideal S32x2052x8x64 .f32) (idx : IVec S4x129x1 32) (b : Fin 32) (i : Fin 4) (k : Fin 129) (h : Fin 8) (d : Fin 64) :
    Host.gather gather_S32x2052x8x64_S4x129x1_S32x4x129x8x64_034_1_n_n_1_2_321864 x idx (ix5 b i k h d)
     = x (ix4 b ⟨min (idx (ix3 i k 0)).toInt.toNat 2051, by omega⟩ h d) := by
  unfold Host.gather
  congr 1
  funext a
  refine Fin.ext ?_
  have off : ∀ (a : Fin 4) (r : ℕ) (hs : a ∉ (gather_S32x2052x8x64_S4x129x1_S32x4x129x8x64_034_1_n_n_1_2_321864).startIndexMap)
      (hk : a ∈ (gather_S32x2052x8x64_S4x129x1_S32x4x129x8x64_034_1_n_n_1_2_321864).sKept)
      (_ : ((ix5 b i k h d : S32x4x129x8x64.Idx) ((gather_S32x2052x8x64_S4x129x1_S32x4x129x8x64_034_1_n_n_1_2_321864).offsetDims[
        (gather_S32x2052x8x64_S4x129x1_S32x4x129x8x64_034_1_n_n_1_2_321864).sKept.idxOf a]'(by
          rw [GatherDims.offset_length]; exact List.idxOf_lt_length_iff.2 hk))).val = r),
      GatherDims.start gather_S32x2052x8x64_S4x129x1_S32x4x129x8x64_034_1_n_n_1_2_321864 (ix5 b i k h d) idx a
        + GatherDims.batchCoord gather_S32x2052x8x64_S4x129x1_S32x4x129x8x64_034_1_n_n_1_2_321864 (ix5 b i k h d) a
        + GatherDims.offCoord gather_S32x2052x8x64_S4x129x1_S32x4x129x8x64_034_1_n_n_1_2_321864 (ix5 b i k h d) a = r := by
    intro a r hs hk hr
    rw [GatherDims.batchCoord_eq_zero _ _ _ List.not_mem_nil]
    unfold GatherDims.start GatherDims.offCoord
    rw [dif_neg hs, dif_pos hk, hr]
    omega
  fin_cases a
  · exact off 0 b.val (by decide) (by decide) rfl
  · show GatherDims.start _ _ _ 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    have hs : (gather_S32x2052x8x64_S4x129x1_S32x4x129x8x64_034_1_n_n_1_2_321864).siIdx (ix5 b i k h d) ⟨0, by decide⟩ = ix3 i k 0 := by
      funext a
      refine Fin.ext ?_
      fin_cases a <;> rfl
    show min (idx ((gather_S32x2052x8x64_S4x129x1_S32x4x129x8x64_034_1_n_n_1_2_321864).siIdx (ix5 b i k h d) ⟨0, by decide⟩)).toInt.toNat 2051 = _
    rw [hs]
    rfl
  · exact off 2 h.val (by decide) (by decide) rfl
  · exact off 3 d.val (by decide) (by decide) rfl

theorem keys (V0 : Valuation τ sig (Elt Ideal)) (b : Fin 32) (n : Fin 2052) (h : Fin 8) (d : Fin 64) :
    res_main_v2 V0 (ix4 b n h d) = cat (V0 (Proc.devRef .tc main_arg3)) (V0 (Proc.devRef .tc main_arg1)) b h d n := by
  pointwise [res_main_v2, cat]

theorem vals (V0 : Valuation τ sig (Elt Ideal)) (b : Fin 32) (n : Fin 2052) (h : Fin 8) (d : Fin 64) :
    res_main_v5 V0 (ix4 b n h d) = cat (V0 (Proc.devRef .tc main_arg4)) (V0 (Proc.devRef .tc main_arg2)) b h d n := by
  pointwise [res_main_v5, cat]

/-- An extended real, seen as one. -/
abbrev asE (x : EReal) : EReal := x

variable {V0 : Valuation τ sig (Elt Ideal)}

/-- A scaled score of the reference is the real score. -/
theorem scaled (hq : IsReal (V0 (Proc.devRef .tc main_arg0) : FVec Ideal S32x4x8x64 .f32)) (hk : IsReal (V0 (Proc.devRef .tc main_arg1) : FVec Ideal S32x4x8x64 .f32))
    (hck : IsReal (V0 (Proc.devRef .tc main_arg3) : FVec Ideal S2x32x2048x8x64 .f32)) (b : Fin 32) (h : Fin 8) (i : Fin 4) (n : Fin 2052) :
    (∑ x, asE (V0 (Proc.devRef .tc main_arg0) (ix4 b i h x))
        * cat (V0 (Proc.devRef .tc main_arg3)) (V0 (Proc.devRef .tc main_arg1)) b h x n) * Ideal.ofBits .f32 1040187392#32
      = ((score (V0 (Proc.devRef .tc main_arg0)) (V0 (Proc.devRef .tc main_arg1)) (V0 (Proc.devRef .tc main_arg3)) b h i n : ℝ) : EReal) := by
  have e : ∀ x, asE (V0 (Proc.devRef .tc main_arg0) (ix4 b i h x))
        * cat (V0 (Proc.devRef .tc main_arg3)) (V0 (Proc.devRef .tc main_arg1)) b h x n
      = (((asE (V0 (Proc.devRef .tc main_arg0) (ix4 b i h x))).toReal
        * (cat (V0 (Proc.devRef .tc main_arg3)) (V0 (Proc.devRef .tc main_arg1)) b h x n).toReal : ℝ) : EReal) := fun x => by
    rw [EReal.coe_mul, ← cat_real hck hk]
    exact congrArg (fun y : EReal => y * _) (hq _)
  rw [Finset.sum_congr rfl fun x _ => e x, bits_scale, coe_sum, ← EReal.coe_mul, Finset.sum_mul]
  unfold score
  refine congrArg _ (Finset.sum_congr rfl fun x _ => ?_)
  ring

/-! ## Pattern 0 -/

theorem valid0 : ∀ (i : Fin 4) (k : Fin 129), IntOp.cmpi .sge (IntOp.subi (IntOp.addi (2048#32) (BitVec.ofNat 32 i.val)) (IntOp.addi (0#32) (IntOp.muli (1#32) (BitVec.ofNat 32 k.val)))) 0#32 = 1#1 := by decide +kernel

theorem index0 : ∀ (i : Fin 4) (k : Fin 129), min (IntOp.maxsi (IntOp.subi (IntOp.addi (2048#32) (BitVec.ofNat 32 i.val)) (IntOp.addi (0#32) (IntOp.muli (1#32) (BitVec.ofNat 32 k.val)))) 0#32).toInt.toNat 2051 = (pos 0 i k).val := by decide +kernel

theorem row0 (x : FVec Ideal S32x2052x8x64 .f32) (b : Fin 32) (i : Fin 4) (k : Fin 129) (h : Fin 8) (d : Fin 64) :
    Host.gather gather_S32x2052x8x64_S4x129x1_S32x4x129x8x64_034_1_n_n_1_2_321864 x
      (broadcastInDim S4x129x1 ![0, 1] Gen.bcast_S4x129_S4x129x1_0_1 (res_main_v22 V0)) (ix5 b i k h d) = x (ix4 b (pos 0 i k) h d) := by
  refine (gather_at _ _ b i k h d).trans (congrArg (fun n => x (ix4 b n h d)) (Fin.ext ?_))
  refine Eq.trans ?_ (index0 i k)
  pointwise [res_main_v22, res_main_v18, res_main_v8]

theorem score0 (hq : IsReal (V0 (Proc.devRef .tc main_arg0) : FVec Ideal S32x4x8x64 .f32)) (hk : IsReal (V0 (Proc.devRef .tc main_arg1) : FVec Ideal S32x4x8x64 .f32))
    (hck : IsReal (V0 (Proc.devRef .tc main_arg3) : FVec Ideal S2x32x2048x8x64 .f32)) (b : Fin 32) (i : Fin 4) (h : Fin 8) (k : Fin 129) :
    res_main_v29 V0 (ix4 b i h k)
      = ((score (V0 (Proc.devRef .tc main_arg0)) (V0 (Proc.devRef .tc main_arg1)) (V0 (Proc.devRef .tc main_arg3)) b h i (pos 0 i k) : ℝ) : EReal) := by
  have hv : res_main_v18 V0 (ix2 i k) = IntOp.subi (IntOp.addi (2048#32) (BitVec.ofNat 32 i.val)) (IntOp.addi (0#32) (IntOp.muli (1#32) (BitVec.ofNat 32 k.val))) := by pointwise [res_main_v18, res_main_v8]
  pointwise [res_main_v29]
  rw [hv, valid0 i k]
  refine Eq.trans ?_ (scaled hq hk hck b h i (pos 0 i k))
  refine congrArg (fun y : EReal => y * Ideal.ofBits .f32 1040187392#32) (Finset.sum_congr rfl fun x _ => ?_)
  exact congrArg (fun y : EReal => _ * y) ((row0 (V0 := V0) (res_main_v2 V0) b i k h x).trans (keys V0 b (pos 0 i k) h x))

theorem max0 (hq : IsReal (V0 (Proc.devRef .tc main_arg0) : FVec Ideal S32x4x8x64 .f32)) (hk : IsReal (V0 (Proc.devRef .tc main_arg1) : FVec Ideal S32x4x8x64 .f32))
    (hck : IsReal (V0 (Proc.devRef .tc main_arg3) : FVec Ideal S2x32x2048x8x64 .f32)) (b : Fin 32) (i : Fin 4) (h : Fin 8) :
    ∃ r : ℝ, res_main_v30 V0 (ix3 b i h) = (r : EReal) := by
  have e : res_main_v30 V0 (ix3 b i h) = Finset.fold max (Ideal.ofBits FTy.f32 4286578688#32) (res_main_v29 V0)
      {i_1 | Gen.reducesTo_S32x4x8x129_S32x4x8_d3.drop i_1 = ix3 b i h} := by pointwise [res_main_v30]
  rw [e, bits_bot]
  refine fold_real _ ⟨ix4 b i h 0, Finset.mem_filter.mpr ⟨Finset.mem_univ _, ?_⟩⟩ _ fun x _ => ?_
  · funext a; fin_cases a <;> rfl
  · obtain ⟨b', i', h', k', rfl⟩ : ∃ (b' : Fin 32) (i' : Fin 4) (h' : Fin 8) (k' : Fin 129), x = ix4 b' i' h' k' :=
      ⟨x 0, x 1, x 2, x 3, by funext a; fin_cases a <;> rfl⟩
    exact ⟨_, score0 hq hk hck b' i' h' k'⟩

theorem lse0 (hq : IsReal (V0 (Proc.devRef .tc main_arg0) : FVec Ideal S32x4x8x64 .f32)) (hk : IsReal (V0 (Proc.devRef .tc main_arg1) : FVec Ideal S32x4x8x64 .f32))
    (hck : IsReal (V0 (Proc.devRef .tc main_arg3) : FVec Ideal S2x32x2048x8x64 .f32)) (b : Fin 32) (i : Fin 4) (h : Fin 8) :
    ∃ r : ℝ, res_main_v37 V0 (ix3 b i h) = (r : EReal) ∧ Real.exp r
      = ∑ k, Real.exp (score (V0 (Proc.devRef .tc main_arg0)) (V0 (Proc.devRef .tc main_arg1)) (V0 (Proc.devRef .tc main_arg3)) b h i (pos 0 i k)) := by
  obtain ⟨M, hM⟩ := max0 hq hk hck b i h
  have e : asE (res_main_v37 V0 (ix3 b i h)) = asE (res_main_v30 V0 (ix3 b i h))
      + Ideal.log (∑ x, Ideal.exp (asE (res_main_v29 V0 (ix4 b i h x)) - asE (res_main_v30 V0 (ix3 b i h)))) := by pointwise [res_main_v37]
  obtain ⟨r, hr, hx⟩ := lse_value (fun k => score (V0 (Proc.devRef .tc main_arg0)) (V0 (Proc.devRef .tc main_arg1)) (V0 (Proc.devRef .tc main_arg3)) b h i (pos 0 i k)) M
  refine ⟨r, ?_, hx⟩
  refine e.trans (Eq.trans ?_ hr)
  simp only [asE, hM, score0 hq hk hck]

/-! ## Pattern 1 -/

theorem valid1 : ∀ (i : Fin 4) (k : Fin 129), IntOp.cmpi .sge (IntOp.subi (IntOp.addi (2048#32) (BitVec.ofNat 32 i.val)) (IntOp.addi (0#32) (IntOp.muli (4#32) (BitVec.ofNat 32 k.val)))) 0#32 = 1#1 := by decide +kernel

theorem index1 : ∀ (i : Fin 4) (k : Fin 129), min (IntOp.maxsi (IntOp.subi (IntOp.addi (2048#32) (BitVec.ofNat 32 i.val)) (IntOp.addi (0#32) (IntOp.muli (4#32) (BitVec.ofNat 32 k.val)))) 0#32).toInt.toNat 2051 = (pos 1 i k).val := by decide +kernel

theorem row1 (x : FVec Ideal S32x2052x8x64 .f32) (b : Fin 32) (i : Fin 4) (k : Fin 129) (h : Fin 8) (d : Fin 64) :
    Host.gather gather_S32x2052x8x64_S4x129x1_S32x4x129x8x64_034_1_n_n_1_2_321864 x
      (broadcastInDim S4x129x1 ![0, 1] Gen.bcast_S4x129_S4x129x1_0_1 (res_main_v56 V0)) (ix5 b i k h d) = x (ix4 b (pos 1 i k) h d) := by
  refine (gather_at _ _ b i k h d).trans (congrArg (fun n => x (ix4 b n h d)) (Fin.ext ?_))
  refine Eq.trans ?_ (index1 i k)
  pointwise [res_main_v56, res_main_v52, res_main_v8]

theorem score1 (hq : IsReal (V0 (Proc.devRef .tc main_arg0) : FVec Ideal S32x4x8x64 .f32)) (hk : IsReal (V0 (Proc.devRef .tc main_arg1) : FVec Ideal S32x4x8x64 .f32))
    (hck : IsReal (V0 (Proc.devRef .tc main_arg3) : FVec Ideal S2x32x2048x8x64 .f32)) (b : Fin 32) (i : Fin 4) (h : Fin 8) (k : Fin 129) :
    res_main_v63 V0 (ix4 b i h k)
      = ((score (V0 (Proc.devRef .tc main_arg0)) (V0 (Proc.devRef .tc main_arg1)) (V0 (Proc.devRef .tc main_arg3)) b h i (pos 1 i k) : ℝ) : EReal) := by
  have hv : res_main_v52 V0 (ix2 i k) = IntOp.subi (IntOp.addi (2048#32) (BitVec.ofNat 32 i.val)) (IntOp.addi (0#32) (IntOp.muli (4#32) (BitVec.ofNat 32 k.val))) := by pointwise [res_main_v52, res_main_v8]
  pointwise [res_main_v63]
  rw [hv, valid1 i k]
  refine Eq.trans ?_ (scaled hq hk hck b h i (pos 1 i k))
  refine congrArg (fun y : EReal => y * Ideal.ofBits .f32 1040187392#32) (Finset.sum_congr rfl fun x _ => ?_)
  exact congrArg (fun y : EReal => _ * y) ((row1 (V0 := V0) (res_main_v2 V0) b i k h x).trans (keys V0 b (pos 1 i k) h x))

theorem max1 (hq : IsReal (V0 (Proc.devRef .tc main_arg0) : FVec Ideal S32x4x8x64 .f32)) (hk : IsReal (V0 (Proc.devRef .tc main_arg1) : FVec Ideal S32x4x8x64 .f32))
    (hck : IsReal (V0 (Proc.devRef .tc main_arg3) : FVec Ideal S2x32x2048x8x64 .f32)) (b : Fin 32) (i : Fin 4) (h : Fin 8) :
    ∃ r : ℝ, res_main_v64 V0 (ix3 b i h) = (r : EReal) := by
  have e : res_main_v64 V0 (ix3 b i h) = Finset.fold max (Ideal.ofBits FTy.f32 4286578688#32) (res_main_v63 V0)
      {i_1 | Gen.reducesTo_S32x4x8x129_S32x4x8_d3.drop i_1 = ix3 b i h} := by pointwise [res_main_v64]
  rw [e, bits_bot]
  refine fold_real _ ⟨ix4 b i h 0, Finset.mem_filter.mpr ⟨Finset.mem_univ _, ?_⟩⟩ _ fun x _ => ?_
  · funext a; fin_cases a <;> rfl
  · obtain ⟨b', i', h', k', rfl⟩ : ∃ (b' : Fin 32) (i' : Fin 4) (h' : Fin 8) (k' : Fin 129), x = ix4 b' i' h' k' :=
      ⟨x 0, x 1, x 2, x 3, by funext a; fin_cases a <;> rfl⟩
    exact ⟨_, score1 hq hk hck b' i' h' k'⟩

theorem lse1 (hq : IsReal (V0 (Proc.devRef .tc main_arg0) : FVec Ideal S32x4x8x64 .f32)) (hk : IsReal (V0 (Proc.devRef .tc main_arg1) : FVec Ideal S32x4x8x64 .f32))
    (hck : IsReal (V0 (Proc.devRef .tc main_arg3) : FVec Ideal S2x32x2048x8x64 .f32)) (b : Fin 32) (i : Fin 4) (h : Fin 8) :
    ∃ r : ℝ, res_main_v71 V0 (ix3 b i h) = (r : EReal) ∧ Real.exp r
      = ∑ k, Real.exp (score (V0 (Proc.devRef .tc main_arg0)) (V0 (Proc.devRef .tc main_arg1)) (V0 (Proc.devRef .tc main_arg3)) b h i (pos 1 i k)) := by
  obtain ⟨M, hM⟩ := max1 hq hk hck b i h
  have e : asE (res_main_v71 V0 (ix3 b i h)) = asE (res_main_v64 V0 (ix3 b i h))
      + Ideal.log (∑ x, Ideal.exp (asE (res_main_v63 V0 (ix4 b i h x)) - asE (res_main_v64 V0 (ix3 b i h)))) := by pointwise [res_main_v71]
  obtain ⟨r, hr, hx⟩ := lse_value (fun k => score (V0 (Proc.devRef .tc main_arg0)) (V0 (Proc.devRef .tc main_arg1)) (V0 (Proc.devRef .tc main_arg3)) b h i (pos 1 i k)) M
  refine ⟨r, ?_, hx⟩
  refine e.trans (Eq.trans ?_ hr)
  simp only [asE, hM, score1 hq hk hck]

/-! ## Pattern 2 -/

theorem valid2 : ∀ (i : Fin 4) (k : Fin 129), IntOp.cmpi .sge (IntOp.subi (IntOp.addi (2048#32) (BitVec.ofNat 32 i.val)) (IntOp.addi (0#32) (IntOp.muli (16#32) (BitVec.ofNat 32 k.val)))) 0#32 = 1#1 := by decide +kernel

theorem index2 : ∀ (i : Fin 4) (k : Fin 129), min (IntOp.maxsi (IntOp.subi (IntOp.addi (2048#32) (BitVec.ofNat 32 i.val)) (IntOp.addi (0#32) (IntOp.muli (16#32) (BitVec.ofNat 32 k.val)))) 0#32).toInt.toNat 2051 = (pos 2 i k).val := by decide +kernel

theorem row2 (x : FVec Ideal S32x2052x8x64 .f32) (b : Fin 32) (i : Fin 4) (k : Fin 129) (h : Fin 8) (d : Fin 64) :
    Host.gather gather_S32x2052x8x64_S4x129x1_S32x4x129x8x64_034_1_n_n_1_2_321864 x
      (broadcastInDim S4x129x1 ![0, 1] Gen.bcast_S4x129_S4x129x1_0_1 (res_main_v90 V0)) (ix5 b i k h d) = x (ix4 b (pos 2 i k) h d) := by
  refine (gather_at _ _ b i k h d).trans (congrArg (fun n => x (ix4 b n h d)) (Fin.ext ?_))
  refine Eq.trans ?_ (index2 i k)
  pointwise [res_main_v90, res_main_v86, res_main_v8]

theorem score2 (hq : IsReal (V0 (Proc.devRef .tc main_arg0) : FVec Ideal S32x4x8x64 .f32)) (hk : IsReal (V0 (Proc.devRef .tc main_arg1) : FVec Ideal S32x4x8x64 .f32))
    (hck : IsReal (V0 (Proc.devRef .tc main_arg3) : FVec Ideal S2x32x2048x8x64 .f32)) (b : Fin 32) (i : Fin 4) (h : Fin 8) (k : Fin 129) :
    res_main_v97 V0 (ix4 b i h k)
      = ((score (V0 (Proc.devRef .tc main_arg0)) (V0 (Proc.devRef .tc main_arg1)) (V0 (Proc.devRef .tc main_arg3)) b h i (pos 2 i k) : ℝ) : EReal) := by
  have hv : res_main_v86 V0 (ix2 i k) = IntOp.subi (IntOp.addi (2048#32) (BitVec.ofNat 32 i.val)) (IntOp.addi (0#32) (IntOp.muli (16#32) (BitVec.ofNat 32 k.val))) := by pointwise [res_main_v86, res_main_v8]
  pointwise [res_main_v97]
  rw [hv, valid2 i k]
  refine Eq.trans ?_ (scaled hq hk hck b h i (pos 2 i k))
  refine congrArg (fun y : EReal => y * Ideal.ofBits .f32 1040187392#32) (Finset.sum_congr rfl fun x _ => ?_)
  exact congrArg (fun y : EReal => _ * y) ((row2 (V0 := V0) (res_main_v2 V0) b i k h x).trans (keys V0 b (pos 2 i k) h x))

theorem max2 (hq : IsReal (V0 (Proc.devRef .tc main_arg0) : FVec Ideal S32x4x8x64 .f32)) (hk : IsReal (V0 (Proc.devRef .tc main_arg1) : FVec Ideal S32x4x8x64 .f32))
    (hck : IsReal (V0 (Proc.devRef .tc main_arg3) : FVec Ideal S2x32x2048x8x64 .f32)) (b : Fin 32) (i : Fin 4) (h : Fin 8) :
    ∃ r : ℝ, res_main_v98 V0 (ix3 b i h) = (r : EReal) := by
  have e : res_main_v98 V0 (ix3 b i h) = Finset.fold max (Ideal.ofBits FTy.f32 4286578688#32) (res_main_v97 V0)
      {i_1 | Gen.reducesTo_S32x4x8x129_S32x4x8_d3.drop i_1 = ix3 b i h} := by pointwise [res_main_v98]
  rw [e, bits_bot]
  refine fold_real _ ⟨ix4 b i h 0, Finset.mem_filter.mpr ⟨Finset.mem_univ _, ?_⟩⟩ _ fun x _ => ?_
  · funext a; fin_cases a <;> rfl
  · obtain ⟨b', i', h', k', rfl⟩ : ∃ (b' : Fin 32) (i' : Fin 4) (h' : Fin 8) (k' : Fin 129), x = ix4 b' i' h' k' :=
      ⟨x 0, x 1, x 2, x 3, by funext a; fin_cases a <;> rfl⟩
    exact ⟨_, score2 hq hk hck b' i' h' k'⟩

theorem lse2 (hq : IsReal (V0 (Proc.devRef .tc main_arg0) : FVec Ideal S32x4x8x64 .f32)) (hk : IsReal (V0 (Proc.devRef .tc main_arg1) : FVec Ideal S32x4x8x64 .f32))
    (hck : IsReal (V0 (Proc.devRef .tc main_arg3) : FVec Ideal S2x32x2048x8x64 .f32)) (b : Fin 32) (i : Fin 4) (h : Fin 8) :
    ∃ r : ℝ, res_main_v105 V0 (ix3 b i h) = (r : EReal) ∧ Real.exp r
      = ∑ k, Real.exp (score (V0 (Proc.devRef .tc main_arg0)) (V0 (Proc.devRef .tc main_arg1)) (V0 (Proc.devRef .tc main_arg3)) b h i (pos 2 i k)) := by
  obtain ⟨M, hM⟩ := max2 hq hk hck b i h
  have e : asE (res_main_v105 V0 (ix3 b i h)) = asE (res_main_v98 V0 (ix3 b i h))
      + Ideal.log (∑ x, Ideal.exp (asE (res_main_v97 V0 (ix4 b i h x)) - asE (res_main_v98 V0 (ix3 b i h)))) := by pointwise [res_main_v105]
  obtain ⟨r, hr, hx⟩ := lse_value (fun k => score (V0 (Proc.devRef .tc main_arg0)) (V0 (Proc.devRef .tc main_arg1)) (V0 (Proc.devRef .tc main_arg3)) b h i (pos 2 i k)) M
  refine ⟨r, ?_, hx⟩
  refine e.trans (Eq.trans ?_ hr)
  simp only [asE, hM, score2 hq hk hck]

end Cert.ReferenceIdeal.Hand

end
-- ==== Proof.SampleRefOut.lean ====
module

public import proofs.«01_k».proof.Proof.SampleRef

/-! The sample attention's reference, its result: the quotient of `SampleMath`. -/

@[expose] public section

set_option maxRecDepth 16384

noncomputable section

open Idealize.ShloMosaic Idealize.ShloMosaic.TcCoe Idealize.SL.Sem
open scoped BigOperators

namespace Cert.ReferenceIdeal.Hand

open Cert.ReferenceIdeal Cert.ReferenceIdeal.Gen Cert.ReferenceIdeal.Value
open Cert.Attn

variable {V0 : Valuation τ sig (Elt Ideal)}

/-! ## The three patterns together -/

/-- The reference's result. -/
def res (V0 : Valuation τ sig (Elt Ideal)) : FVec Ideal S32x8x4x64 .f32 :=
  transpose S32x8x4x64 [0, 2, 1, 3] (Host.reduceAdd (mulf (broadcastInDim S3x32x4x8x64 ![0, 1, 2, 3, 4] bcast_S3x32x4x8x1_S3x32x4x8x64_0_1_2_3_4 (broadcastInDim S3x32x4x8x1 ![0, 1, 2, 3] bcast_S3x32x4x8_S3x32x4x8x1_0_1_2_3 (Host.divf (res_main_v119 V0) (broadcastInDim S3x32x4x8 ![0, 1, 2, 3] bcast_S1x32x4x8_S3x32x4x8_0_1_2_3 (broadcastInDim S1x32x4x8 ![1, 2, 3] bcast_S32x4x8_S1x32x4x8_1_2_3 (Host.reduceAdd (res_main_v119 V0) (constant S_ .f32 0x00000000#32) reducesTo_S3x32x4x8_S32x4x8_d0 h_S_)))))) ((concatenate S3x32x4x8x64 0 [⟨S1x32x4x8x64, ((broadcastInDim S1x32x4x8x64 ![1, 2, 3, 4] bcast_S32x4x8x64_S1x32x4x8x64_1_2_3_4 (Host.dotGeneral dot_S32x4x8x129_S32x4x129x8x64_S32x4x8x64_3_2_n_4_012_013 none (Host.exp (subf (res_main_v29 V0) (broadcastInDim S32x4x8x129 ![0, 1, 2, 3] bcast_S32x4x8x1_S32x4x8x129_0_1_2_3 (broadcastInDim S32x4x8x1 ![0, 1, 2] bcast_S32x4x8_S32x4x8x1_0_1_2 (res_main_v37 V0))))) (Host.gather gather_S32x2052x8x64_S4x129x1_S32x4x129x8x64_034_1_n_n_1_2_321864 (res_main_v5 V0) (broadcastInDim S4x129x1 ![0, 1] bcast_S4x129_S4x129x1_0_1 (res_main_v22 V0)) : FVec Ideal S32x4x129x8x64 .f32))) : (⟨S1x32x4x8x64, .f32⟩ : BufTy).Contents (Elt Ideal))⟩, ⟨S1x32x4x8x64, ((broadcastInDim S1x32x4x8x64 ![1, 2, 3, 4] bcast_S32x4x8x64_S1x32x4x8x64_1_2_3_4 (Host.dotGeneral dot_S32x4x8x129_S32x4x129x8x64_S32x4x8x64_3_2_n_4_012_013 none (Host.exp (subf (res_main_v63 V0) (broadcastInDim S32x4x8x129 ![0, 1, 2, 3] bcast_S32x4x8x1_S32x4x8x129_0_1_2_3 (broadcastInDim S32x4x8x1 ![0, 1, 2] bcast_S32x4x8_S32x4x8x1_0_1_2 (res_main_v71 V0))))) (Host.gather gather_S32x2052x8x64_S4x129x1_S32x4x129x8x64_034_1_n_n_1_2_321864 (res_main_v5 V0) (broadcastInDim S4x129x1 ![0, 1] bcast_S4x129_S4x129x1_0_1 (res_main_v56 V0)) : FVec Ideal S32x4x129x8x64 .f32))) : (⟨S1x32x4x8x64, .f32⟩ : BufTy).Contents (Elt Ideal))⟩, ⟨S1x32x4x8x64, ((broadcastInDim S1x32x4x8x64 ![1, 2, 3, 4] bcast_S32x4x8x64_S1x32x4x8x64_1_2_3_4 (Host.dotGeneral dot_S32x4x8x129_S32x4x129x8x64_S32x4x8x64_3_2_n_4_012_013 none (Host.exp (subf (res_main_v97 V0) (broadcastInDim S32x4x8x129 ![0, 1, 2, 3] bcast_S32x4x8x1_S32x4x8x129_0_1_2_3 (broadcastInDim S32x4x8x1 ![0, 1, 2] bcast_S32x4x8_S32x4x8x1_0_1_2 (res_main_v105 V0))))) (Host.gather gather_S32x2052x8x64_S4x129x1_S32x4x129x8x64_034_1_n_n_1_2_321864 (res_main_v5 V0) (broadcastInDim S4x129x1 ![0, 1] bcast_S4x129_S4x129x1_0_1 (res_main_v90 V0)) : FVec Ideal S32x4x129x8x64 .f32))) : (⟨S1x32x4x8x64, .f32⟩ : BufTy).Contents (Elt Ideal))⟩] concatenates_S1x32x4x8x64_S1x32x4x8x64_S1x32x4x8x64_S3x32x4x8x64_d0 : (⟨S3x32x4x8x64, .f32⟩ : BufTy).Contents (Elt Ideal)))) (constant S_ .f32 0x00000000#32) reducesTo_S3x32x4x8x64_S32x4x8x64_d0 h_S_) transposes_S32x4x8x64_S32x8x4x64_0_2_1_3

set_option maxHeartbeats 1000000 in
/-- The reference's result, entry by entry. -/
theorem out_at (hq : IsReal (V0 (Proc.devRef .tc main_arg0) : FVec Ideal S32x4x8x64 .f32)) (hk : IsReal (V0 (Proc.devRef .tc main_arg1) : FVec Ideal S32x4x8x64 .f32))
    (hv : IsReal (V0 (Proc.devRef .tc main_arg2) : FVec Ideal S32x4x8x64 .f32)) (hck : IsReal (V0 (Proc.devRef .tc main_arg3) : FVec Ideal S2x32x2048x8x64 .f32))
    (hcv : IsReal (V0 (Proc.devRef .tc main_arg4) : FVec Ideal S2x32x2048x8x64 .f32)) (b : Fin 32) (h : Fin 8) (i : Fin 4) (d : Fin 64) :
    res V0 (ix4 b h i d)
      = Cert.Attn.out (V0 (Proc.devRef .tc main_arg0)) (V0 (Proc.devRef .tc main_arg1)) (V0 (Proc.devRef .tc main_arg2)) (V0 (Proc.devRef .tc main_arg3)) (V0 (Proc.devRef .tc main_arg4)) b h i d := by
  pointwise [res, res_main_v119, res_main_v114]
  generalize hF : Finset.fold (max : EReal → EReal → EReal) _ _ _ = M
  obtain ⟨M, rfl⟩ : ∃ r : ℝ, M = (r : EReal) := by
    rw [← hF, bits_bot]
    refine fold_real _ ⟨ix4 0 b i h, Finset.mem_filter.mpr ⟨Finset.mem_univ _, ?_⟩⟩ _ fun x _ => ?_
    · funext a; fin_cases a <;> rfl
    · split
      · obtain ⟨r, hr, -⟩ := lse0 hq hk hck (x 1) (x 2) (x 3); exact ⟨r, hr⟩
      · split
        · obtain ⟨r, hr, -⟩ := lse1 hq hk hck (x 1) (x 2) (x 3); exact ⟨r, hr⟩
        · obtain ⟨r, hr, -⟩ := lse2 hq hk hck (x 1) (x 2) (x 3); exact ⟨r, hr⟩
  obtain ⟨r0, e0, h0⟩ := lse0 hq hk hck b i h
  obtain ⟨r1, e1, h1⟩ := lse1 hq hk hck b i h
  obtain ⟨r2, e2, h2⟩ := lse2 hq hk hck b i h
  simp only [e0, e1, e2]
  have hl : ∀ p : Fin 3, Real.exp ((![r0, r1, r2] : Fin 3 → ℝ) p) = ∑ k, Real.exp (score (V0 (Proc.devRef .tc main_arg0)) (V0 (Proc.devRef .tc main_arg1)) (V0 (Proc.devRef .tc main_arg3)) b h i (pos p i k)) := by
    intro p; fin_cases p
    · exact h0
    · exact h1
    · exact h2
  refine Eq.trans ?_ (reference_value i _ (val (V0 (Proc.devRef .tc main_arg2)) (V0 (Proc.devRef .tc main_arg4)) b h d) ![r0, r1, r2] hl M)
  have key : ∀ x : Fin 3, (if h_1 : x.val < 1 then (r0 : EReal) else if h_2 : x.val - 1 < 1 then (r1 : EReal) else (r2 : EReal))
      = (((![r0, r1, r2] : Fin 3 → ℝ) x : ℝ) : EReal) := by
    intro x; fin_cases x <;> rfl
  simp only [key]
  refine Finset.sum_congr rfl fun x _ => congrArg _ ?_
  simp only [score0 hq hk hck, score1 hq hk hck, score2 hq hk hck]
  fin_cases x
  · refine (dif_pos (show (0 : ℕ) < 1 by decide)).trans (Finset.sum_congr rfl fun k _ => ?_)
    refine congrArg₂ (fun x y : EReal => x * y) rfl ?_
    exact (row0 (V0 := V0) (res_main_v5 V0) b i k h d).trans ((vals V0 b (pos 0 i k) h d).trans (cat_real hcv hv b h d (pos 0 i k)))
  · refine ((dif_neg (show ¬ (1 : ℕ) < 1 by decide)).trans (dif_pos (show (1 : ℕ) - 1 < 1 by decide))).trans (Finset.sum_congr rfl fun k _ => ?_)
    refine congrArg₂ (fun x y : EReal => x * y) rfl ?_
    exact (row1 (V0 := V0) (res_main_v5 V0) b i k h d).trans ((vals V0 b (pos 1 i k) h d).trans (cat_real hcv hv b h d (pos 1 i k)))
  · refine ((dif_neg (show ¬ (2 : ℕ) < 1 by decide)).trans (dif_neg (show ¬ (2 : ℕ) - 1 < 1 by decide))).trans (Finset.sum_congr rfl fun k _ => ?_)
    refine congrArg₂ (fun x y : EReal => x * y) rfl ?_
    exact (row2 (V0 := V0) (res_main_v5 V0) b i k h d).trans ((vals V0 b (pos 2 i k) h d).trans (cat_real hcv hv b h d (pos 2 i k)))

end Cert.ReferenceIdeal.Hand

end
-- ==== Proof.SamplePre.lean ====
module

public import proofs.«01_k».proof.Pre_finite
public import proofs.«01_k».proof.Proof.SampleMath
public import Idealize.ShloMosaic.Lib.Pointwise
public import Idealize.ShloMosaic.Lib.ReduceAll

/-! The precondition `finite` read: where it holds, every argument is an array of real numbers. -/

@[expose] public section

set_option maxRecDepth 16384

noncomputable section

open Idealize.ShloMosaic
open scoped BigOperators

namespace Cert.Pre_finite

/-- The shape relations the precondition's operations take. -/
theorem facts : Facts where
  bcast_S_S32x4x8x64 := by decide
  reducesTo_S32x4x8x64_S_d0_1_2_3 := by decide
  h_S_ := by decide
  bcast_S_S2x32x2048x8x64 := by decide
  reducesTo_S2x32x2048x8x64_S_d0_1_2_3_4 := by decide

theorem bits_top : Ideal.ofBits .f32 0x7F800000#32 = (⊤ : EReal) := by simp [Ideal.ofBits, Ideal.ieee]

/-- A number whose absolute value is below infinity is real. -/
theorem real_of_lt (x : EReal) (h : max x (-x) < ⊤) : x = (x.toReal : EReal) := by
  refine (EReal.coe_toReal ?_ ?_).symm
  · rintro rfl; simp at h
  · rintro rfl; simp at h

/-- An array of which every absolute value is below infinity. -/
theorem array_real [hf : Facts] {s : Shape} {axes : List (Fin s.rank)} (x : FVec Ideal s .f32) (hb : S_.BroadcastsInDim s (![] : Fin 0 → Fin s.rank)) (hr : s.ReducesTo axes S_) (j : S_.Idx)
    (e : Host.reduce IntOp.andi (cmpf .olt (Host.absf x) (broadcastInDim s ![] hb (constant S_ .f32 0x7F800000#32))) (constantI S_ 1 1#1) hr hf.h_S_ j = 1#1) :
    Cert.Attn.IsReal x := fun i => by
  haveI : Subsingleton S_.Idx := ⟨fun a b => funext fun k => k.elim0⟩
  have h := Host.reduce_andi_all _ _ hr hf.h_S_ j e i
  refine real_of_lt (x i) ?_
  rw [← bits_top]
  have h' : BitVec.ofBool (decide (max (x i) (-(x i)) < Ideal.ofBits .f32 0x7F800000#32)) = 1#1 := h
  by_contra hn
  rw [decide_eq_false hn] at h'
  exact absurd h' (by decide)

/-- The precondition's five conjuncts. -/
theorem decode [hf : Facts] (x0 x1 x2 : FVec Ideal S32x4x8x64 .f32) (x3 x4 : FVec Ideal S2x32x2048x8x64 .f32) (h : fn (F := Ideal) x0 x1 x2 x3 x4 = fun _ => 1#1) :
    Cert.Attn.IsReal x0 ∧ Cert.Attn.IsReal x1 ∧ Cert.Attn.IsReal x2 ∧ Cert.Attn.IsReal x3 ∧ Cert.Attn.IsReal x4 := by
  have e := congrFun h (fun k => k.elim0)
  unfold fn fn_part1 at e
  obtain ⟨e, e4⟩ := IntOp.andi_eq_one.mp e
  obtain ⟨e, e3⟩ := IntOp.andi_eq_one.mp e
  obtain ⟨e, e2⟩ := IntOp.andi_eq_one.mp e
  obtain ⟨e, e1⟩ := IntOp.andi_eq_one.mp e
  obtain ⟨e, e0⟩ := IntOp.andi_eq_one.mp e
  exact ⟨array_real x0 _ _ _ e0, array_real x1 _ _ _ e1, array_real x2 _ _ _ e2, array_real x3 _ _ _ e3, array_real x4 _ _ _ e4⟩

end Cert.Pre_finite
end
-- ==== Proof.FfnSpec.lean ====
module

public import proofs.«01_k».proof.Proof.Gen.Reference2Ideal.Run
public import Idealize.ShloMosaic.Lib.Pointwise

/-! The output projection and the gated feed-forward block, row by row: every intermediate array of the reference as
    a function of a group `b`, a row `t` and a column, over the argument arrays, and the reference's composed terms
    read as these functions. -/

@[expose] public section

set_option maxRecDepth 16384

noncomputable section

open Idealize.ShloMosaic Idealize.ShloMosaic.TcCoe Idealize.SL.Sem
open scoped BigOperators

namespace Cert.Ffn

open Cert.Reference2Ideal

/-- The argument arrays of the call. -/
structure Args where
  mix : FVec Ideal S8x4096x512 .bf16
  att : FVec Ideal S8x4096x512 .f32
  x : FVec Ideal S8x4096x1024 .f32
  mod : FVec Ideal S8x6144 .f32
  gc : FVec Ideal S512 .f32
  wo : FVec Ideal S1024x1024 .f32
  gm : FVec Ideal S1024 .f32
  gf : FVec Ideal S1024 .f32
  wg : FVec Ideal S1024x2816 .f32
  wu : FVec Ideal S1024x2816 .f32
  cw : FVec Ideal S3x2816 .f32
  wd : FVec Ideal S2816x1024 .f32
  go : FVec Ideal S1024 .f32

/-- The constant added to a mean square. -/
def eps : EReal := Ideal.ofBits .f32 0x358637BD#32
/-- The reciprocal root mean square of a row of 512 entries. -/
def r512 (f : Fin 512 → EReal) : EReal :=
  Ideal.rsqrt (Ideal.div (∑ k : Fin 512, f k * f k) (Ideal.ofBits .f32 0x44000000#32) + eps)
/-- The reciprocal root mean square of a row of 1024 entries. -/
def r1024 (f : Fin 1024 → EReal) : EReal :=
  Ideal.rsqrt (Ideal.div (∑ k : Fin 1024, f k * f k) (Ideal.ofBits .f32 0x44800000#32) + eps)

variable (A : Args)

/-- A block of the modulation row: the columns from `o` on. -/
def md (o : ℕ) (h : o + 1024 ≤ 6144) (b : Fin 8) (j : Fin 1024) : EReal :=
  A.mod (ix2 b ⟨o + j.val, by have := j.isLt; omega⟩)

/-- The normalised attention row. -/
def oc (b : Fin 8) (t : Fin 4096) (k : Fin 512) : EReal :=
  A.att (ix3 b t k) * r512 (fun l => A.att (ix3 b t l)) * A.gc (ix1 k)
/-- The output projection. -/
def pr (b : Fin 8) (t : Fin 4096) (j : Fin 1024) : EReal :=
  (∑ k : Fin 512, A.mix (ix3 b t k) * A.wo (ix2 ⟨k.val, by have := k.isLt; omega⟩ j))
    + ∑ k : Fin 512, oc A b t k * A.wo (ix2 ⟨512 + k.val, by have := k.isLt; omega⟩ j)
/-- The residual stream after the mixing block. -/
def x1 (b : Fin 8) (t : Fin 4096) (j : Fin 1024) : EReal :=
  A.x (ix3 b t j) + md A 2048 (by decide) b j * (pr A b t j * r1024 (pr A b t) * A.gm (ix1 j))
/-- The modulated, normalised input of the feed-forward block. -/
def hh (b : Fin 8) (t : Fin 4096) (k : Fin 1024) : EReal :=
  x1 A b t k * r1024 (x1 A b t) * A.gf (ix1 k) * (1 + md A 4096 (by decide) b k) + md A 3072 (by decide) b k
/-- The gate projection. -/
def hg (b : Fin 8) (t : Fin 4096) (j : Fin 2816) : EReal := ∑ k : Fin 1024, hh A b t k * A.wg (ix2 k j)
/-- The up projection. -/
def hu (b : Fin 8) (t : Fin 4096) (j : Fin 2816) : EReal := ∑ k : Fin 1024, hh A b t k * A.wu (ix2 k j)
/-- The gate projection behind two rows of zeros. -/
def xp (b : Fin 8) (s : ℕ) (j : Fin 2816) : EReal :=
  if h : 2 ≤ s ∧ s < 4098 then hg A b ⟨s - 2, by omega⟩ j else 0
/-- The three-tap convolution along the rows. -/
def cv (b : Fin 8) (t : ℕ) (j : Fin 2816) : EReal :=
  xp A b t j * A.cw (ix2 0 j) + xp A b (1 + t) j * A.cw (ix2 1 j) + xp A b (2 + t) j * A.cw (ix2 2 j)
/-- The gated row. -/
def ff (b : Fin 8) (t : Fin 4096) (j : Fin 2816) : EReal :=
  cv A b t.val j * Ideal.div 1 (1 + Ideal.exp (- cv A b t.val j)) * hu A b t j
/-- The down projection. -/
def dn (b : Fin 8) (t : Fin 4096) (j : Fin 1024) : EReal := ∑ k : Fin 2816, ff A b t k * A.wd (ix2 k j)
/-- The first result. -/
def yy (b : Fin 8) (t : Fin 4096) (j : Fin 1024) : EReal :=
  x1 A b t j + md A 5120 (by decide) b j * (dn A b t j * r1024 (dn A b t) * A.go (ix1 j))
/-- The second result: the last eight rows behind the zeros. -/
def nf (b : Fin 8) (s : Fin 8) (j : Fin 2816) : EReal := xp A b (4090 + s.val) j

open Cert.Reference2Ideal.Gen Cert.Reference2Ideal.Value

/-- The argument arrays a valuation holds. -/
def argsOf (V0 : Valuation τ sig (Elt Ideal)) : Args where
  mix := V0 (Proc.devRef .tc main_arg0)
  att := V0 (Proc.devRef .tc main_arg1)
  x := V0 (Proc.devRef .tc main_arg2)
  mod := V0 (Proc.devRef .tc main_arg3)
  gc := V0 (Proc.devRef .tc main_arg4)
  wo := V0 (Proc.devRef .tc main_arg5)
  gm := V0 (Proc.devRef .tc main_arg6)
  gf := V0 (Proc.devRef .tc main_arg7)
  wg := V0 (Proc.devRef .tc main_arg8)
  wu := V0 (Proc.devRef .tc main_arg9)
  cw := V0 (Proc.devRef .tc main_arg10)
  wd := V0 (Proc.devRef .tc main_arg11)
  go := V0 (Proc.devRef .tc main_arg12)

variable (V0 : Valuation τ sig (Elt Ideal))

theorem sum_halves (f : Fin 1024 → EReal) :
    ∑ k, f k = (∑ k : Fin 512, f ⟨k.val, by have := k.isLt; omega⟩)
      + ∑ k : Fin 512, f ⟨512 + k.val, by have := k.isLt; omega⟩ := by
  exact Fin.sum_univ_add (a := 512) (b := 512) f

theorem ref_pr (b : Fin 8) (t : Fin 4096) (j : Fin 1024) :
    (res_main_v27 V0 : FVec Ideal S8x4096x1024 .f32) (ix3 b t j) = pr (argsOf V0) b t j := by
  pointwise [res_main_v27]
  rfl

theorem ref_x1 (b : Fin 8) (t : Fin 4096) (j : Fin 1024) :
    (res_main_v43 V0 : FVec Ideal S8x4096x1024 .f32) (ix3 b t j) = x1 (argsOf V0) b t j := by
  pointwise [res_main_v43, ref_pr]
  rfl

theorem ref_hh (b : Fin 8) (t : Fin 4096) (j : Fin 1024) :
    (res_main_v62 V0 : FVec Ideal S8x4096x1024 .f32) (ix3 b t j) = hh (argsOf V0) b t j := by
  pointwise [res_main_v62, ref_x1]
  rfl

theorem ref_xp (b : Fin 8) (t : Fin 4098) (j : Fin 2816) :
    (res_main_v65 V0 : FVec Ideal S8x4098x2816 .f32) (ix3 b t j) = xp (argsOf V0) b t.val j := by
  pointwise [res_main_v65, ref_hh]
  unfold xp
  have ht := t.isLt
  by_cases h : t.val < 2
  · rw [dif_pos h, dif_neg (by omega)]
  · rw [dif_neg h, dif_pos (by omega)]
    rfl

theorem ref_cv (b : Fin 8) (t : Fin 4096) (j : Fin 2816) :
    (res_main_v85 V0 : FVec Ideal S8x4096x2816 .f32) (ix3 b t j) = cv (argsOf V0) b t.val j := by
  pointwise [res_main_v85, ref_xp]
  rfl

theorem ref_dn (b : Fin 8) (t : Fin 4096) (j : Fin 1024) :
    (res_main_v89 V0 : FVec Ideal S8x4096x1024 .f32) (ix3 b t j) = dn (argsOf V0) b t j := by
  pointwise [res_main_v89, ref_cv, ref_hh]
  rfl

/-- The reference's first result, from the run's composed term. -/
theorem ref_yy (b : Fin 8) (t : Fin 4096) (j : Fin 1024) :
    (addf (res_main_v43 V0 : FVec Ideal S8x4096x1024 .f32) (mulf (broadcastInDim S8x4096x1024 ![0, 1, 2] bcast_S8x1x1024_S8x4096x1024_0_1_2 (broadcastInDim S8x1x1024 ![0, 2] bcast_S8x1024_S8x1x1024_0_2 (extractStridedSlice S8x1024 ![0, 5120] (V0 (Proc.devRef .tc main_arg3)) slices_S8x6144_S8x1024_0_5120))) (mulf (mulf (res_main_v89 V0) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v89 V0) (res_main_v89 V0)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (V0 (Proc.devRef .tc main_arg12)))))) : FVec Ideal S8x4096x1024 .f32) (ix3 b t j)
      = yy (argsOf V0) b t j := by
  pointwise [ref_dn, ref_x1]
  rfl

/-- The reference's second result, from the run's composed term. -/
theorem ref_nf (b : Fin 8) (s : Fin 8) (j : Fin 2816) :
    (extractStridedSlice S8x8x2816 ![0, 4090, 0] (res_main_v65 V0 : FVec Ideal S8x4098x2816 .f32) slices_S8x4098x2816_S8x8x2816_0_4090_0 : FVec Ideal S8x8x2816 .f32) (ix3 b s j)
      = nf (argsOf V0) b s j := by
  pointwise [ref_xp]
  rfl

end Cert.Ffn

end
-- ==== Proof.FfnRows.lean ====
module

public import proofs.«01_k».proof.Proof.Gen.Kernel2Ideal.Value
public import proofs.«01_k».proof.Proof.FfnSpec
public import Idealize.ShloMosaic.Lib.Pipeline.ValueKit

/-! One tile of the kernel: each of the values its body computes is the specification's intermediate array at the
    tile's rows. Stated over any vectors that hold the rows of the argument arrays. -/

@[expose] public section

set_option maxRecDepth 16384

noncomputable section

open Idealize.ShloMosaic Idealize.ShloMosaic.TcCoe Idealize.SL.Sem
open scoped BigOperators

namespace Cert.Kernel2Ideal.Hand

open Cert.Kernel2Ideal Cert.Kernel2Ideal.Gen
open Cert.Ffn (Args)

/-- The loaded vectors hold group `b`'s rows `T r` of the argument arrays. -/
structure Loads (A : Args) (b : Fin 8) (T : Fin 512 → Fin 4096)
    (v3 v5 v7 v9 : Vec Ideal S1x1x512x128 .f32) (v12 : Vec Ideal S1x512 .f32) (v27 : Vec Ideal S1x512x512 .bf16)
    (v29 v32 : Vec Ideal S512x1024 .bf16) (v36 : Vec Ideal S1x512x1024 .f32) (v38 : Vec Ideal S1x1x1x1024 .f32)
    (v40 v57 : Vec Ideal S1x1024 .f32) (v71 v77 : Vec Ideal S1x1x1x1024 .f32) (v82 : Vec Ideal S1024x2816 .bf16) : Prop where
  a0 : ∀ (r : Fin 512) (k : Fin 128), v3 (ix4 0 0 r k) = A.att (ix3 b (T r) ⟨k.val, by have := k.isLt; omega⟩)
  a1 : ∀ (r : Fin 512) (k : Fin 128), v5 (ix4 0 0 r k) = A.att (ix3 b (T r) ⟨128 + k.val, by have := k.isLt; omega⟩)
  a2 : ∀ (r : Fin 512) (k : Fin 128), v7 (ix4 0 0 r k) = A.att (ix3 b (T r) ⟨256 + k.val, by have := k.isLt; omega⟩)
  a3 : ∀ (r : Fin 512) (k : Fin 128), v9 (ix4 0 0 r k) = A.att (ix3 b (T r) ⟨384 + k.val, by have := k.isLt; omega⟩)
  gc : ∀ k : Fin 512, v12 (ix2 0 k) = A.gc (ix1 k)
  mix : ∀ (r : Fin 512) (k : Fin 512), v27 (ix3 0 r k) = A.mix (ix3 b (T r) k)
  wo0 : ∀ (k : Fin 512) (j : Fin 1024), v29 (ix2 k j) = A.wo (ix2 ⟨k.val, by have := k.isLt; omega⟩ j)
  wo1 : ∀ (k : Fin 512) (j : Fin 1024), v32 (ix2 k j) = A.wo (ix2 ⟨512 + k.val, by have := k.isLt; omega⟩ j)
  x : ∀ (r : Fin 512) (j : Fin 1024), v36 (ix3 0 r j) = A.x (ix3 b (T r) j)
  m2 : ∀ j : Fin 1024, v38 (ix4 0 0 0 j) = Cert.Ffn.md A 2048 (by decide) b j
  gm : ∀ j : Fin 1024, v40 (ix2 0 j) = A.gm (ix1 j)
  gf : ∀ j : Fin 1024, v57 (ix2 0 j) = A.gf (ix1 j)
  m4 : ∀ j : Fin 1024, v71 (ix4 0 0 0 j) = Cert.Ffn.md A 4096 (by decide) b j
  m3 : ∀ j : Fin 1024, v77 (ix4 0 0 0 j) = Cert.Ffn.md A 3072 (by decide) b j
  wg : ∀ (k : Fin 1024) (j : Fin 2816), v82 (ix2 k j) = A.wg (ix2 k j)

section

variable {A : Args} {b : Fin 8} {T : Fin 512 → Fin 4096}
    {v3 v5 v7 v9 : Vec Ideal S1x1x512x128 .f32} {v12 : Vec Ideal S1x512 .f32} {v27 : Vec Ideal S1x512x512 .bf16}
    {v29 v32 : Vec Ideal S512x1024 .bf16} {v36 : Vec Ideal S1x512x1024 .f32} {v38 : Vec Ideal S1x1x1x1024 .f32}
    {v40 v57 : Vec Ideal S1x1024 .f32} {v71 v77 : Vec Ideal S1x1x1x1024 .f32} {v82 : Vec Ideal S1024x2816 .bf16}
    (L : Loads A b T v3 v5 v7 v9 v12 v27 v29 v32 v36 v38 v40 v57 v71 v77 v82)

include L

/-- The four heads' blocks side by side are the attention row. -/
theorem cat_at (r k : Fin 512) :
    (concatenate S512x512 1 [⟨S512x128, (shapeCast S512x128 v3 shapeCasts_S1x1x512x128_S512x128 : FVec Ideal S512x128 .f32)⟩,
        ⟨S512x128, shapeCast S512x128 v5 shapeCasts_S1x1x512x128_S512x128⟩, ⟨S512x128, shapeCast S512x128 v7 shapeCasts_S1x1x512x128_S512x128⟩,
        ⟨S512x128, shapeCast S512x128 v9 shapeCasts_S1x1x512x128_S512x128⟩]
        concatenates_S512x128_S512x128_S512x128_S512x128_S512x512_d1 : FVec Ideal S512x512 .f32) (ix2 r k)
      = A.att (ix3 b (T r) k) := by
  pointwise [L.a0, L.a1, L.a2, L.a3]
  have hk := k.isLt
  split
  · rfl
  · split
    · exact congrArg (fun q => A.att (ix3 b (T r) q)) (Fin.ext (by show 128 + (k.val - 128) = k.val; omega))
    · split
      · exact congrArg (fun q => A.att (ix3 b (T r) q)) (Fin.ext (by show 256 + (k.val - 128 - 128) = k.val; omega))
      · exact congrArg (fun q => A.att (ix3 b (T r) q)) (Fin.ext (by show 384 + (k.val - 128 - 128 - 128) = k.val; omega))

theorem oc_at (r k : Fin 512) : k0_pay5 v3 v5 v7 v9 v12 (ix2 r k) = Cert.Ffn.oc A b (T r) k := by
  unfold k0_pay5
  generalize hv : (concatenate S512x512 1 _ _ : FVec Ideal S512x512 .f32) = v11
  have h : ∀ r k : Fin 512, v11 (ix2 r k) = A.att (ix3 b (T r) k) := fun r k => by
    rw [← hv]; exact cat_at L r k
  pointwise [h, L.gc]
  rfl

theorem x1_at (r : Fin 512) (j : Fin 1024) :
    k0_pay7 (k0_pay5 v3 v5 v7 v9 v12) (k0_pay6 v27) v29 v32 v36 v38 v40 (ix2 r j) = Cert.Ffn.x1 A b (T r) j := by
  have h := oc_at L
  generalize k0_pay5 v3 v5 v7 v9 v12 = v26 at h ⊢
  pointwise [k0_pay7, k0_pay6, h, L.mix, L.wo0, L.wo1, L.x, L.m2, L.gm]
  rfl

theorem hh_at (r : Fin 512) (j : Fin 1024) :
    k0_pay10 (k0_pay7 (k0_pay5 v3 v5 v7 v9 v12) (k0_pay6 v27) v29 v32 v36 v38 v40) (k0_pay8 v57)
      (k0_pay9 (k0_pay5 v3 v5 v7 v9 v12) (k0_pay6 v27) v29 v32 v36 v38 v40) v71 v77 (ix2 r j) = Cert.Ffn.hh A b (T r) j := by
  have h := x1_at L
  unfold k0_pay9
  generalize k0_pay7 (k0_pay5 v3 v5 v7 v9 v12) (k0_pay6 v27) v29 v32 v36 v38 v40 = v56 at h ⊢
  pointwise [k0_pay10, k0_pay8, h, L.gf, L.m4, L.m3]
  rfl

theorem hg_at (r : Fin 512) (j : Fin 2816) :
    k0_pay11 (k0_pay7 (k0_pay5 v3 v5 v7 v9 v12) (k0_pay6 v27) v29 v32 v36 v38 v40) (k0_pay8 v57)
      (k0_pay9 (k0_pay5 v3 v5 v7 v9 v12) (k0_pay6 v27) v29 v32 v36 v38 v40) v71 v77 v82 (ix2 r j) = Cert.Ffn.hg A b (T r) j := by
  have h := hh_at L
  unfold k0_pay11
  generalize k0_pay10 (k0_pay7 (k0_pay5 v3 v5 v7 v9 v12) (k0_pay6 v27) v29 v32 v36 v38 v40) (k0_pay8 v57)
      (k0_pay9 (k0_pay5 v3 v5 v7 v9 v12) (k0_pay6 v27) v29 v32 v36 v38 v40) v71 v77 = v81 at h ⊢
  pointwise [h, L.wg]
  rfl

/-- What the body stores to the first result's block. -/
theorem y_at {v88 : Vec Ideal S512x2816 .f32} {v89 : Vec Ideal S1x2816 .f32} {v92 : Vec Ideal S520x2816 .f32}
    {v93 : Vec Ideal S1x2816 .f32} {v98 : Vec Ideal S520x2816 .f32} {v99 : Vec Ideal S1x2816 .f32} {v112 : Vec Ideal S1024x2816 .bf16}
    {v117 : Vec Ideal S2816x1024 .bf16} {v120 : Vec Ideal S1x1x1x1024 .f32} {v122 : Vec Ideal S1x1024 .f32}
    (h88 : ∀ (r : Fin 512) (j : Fin 2816), v88 (ix2 r j) = Cert.Ffn.xp A b (2 + (T r).val) j)
    (h92 : ∀ (r : Fin 512) (j : Fin 2816), v92 (ix2 ⟨6 + r.val, by have := r.isLt; omega⟩ j) = Cert.Ffn.xp A b (T r).val j)
    (h98 : ∀ (r : Fin 512) (j : Fin 2816), v98 (ix2 ⟨7 + r.val, by have := r.isLt; omega⟩ j) = Cert.Ffn.xp A b (1 + (T r).val) j)
    (c2 : ∀ j : Fin 2816, v89 (ix2 0 j) = A.cw (ix2 2 j)) (c0 : ∀ j : Fin 2816, v93 (ix2 0 j) = A.cw (ix2 0 j))
    (c1 : ∀ j : Fin 2816, v99 (ix2 0 j) = A.cw (ix2 1 j))
    (wu : ∀ (k : Fin 1024) (j : Fin 2816), v112 (ix2 k j) = A.wu (ix2 k j))
    (wd : ∀ (k : Fin 2816) (j : Fin 1024), v117 (ix2 k j) = A.wd (ix2 k j))
    (m5 : ∀ j : Fin 1024, v120 (ix4 0 0 0 j) = Cert.Ffn.md A 5120 (by decide) b j)
    (go : ∀ j : Fin 1024, v122 (ix2 0 j) = A.go (ix1 j)) (r : Fin 512) (j : Fin 1024) :
    k0_pay1 (k0_pay14 (k0_pay7 (k0_pay5 v3 v5 v7 v9 v12) (k0_pay6 v27) v29 v32 v36 v38 v40)
      (k0_pay10 (k0_pay7 (k0_pay5 v3 v5 v7 v9 v12) (k0_pay6 v27) v29 v32 v36 v38 v40) (k0_pay8 v57)
        (k0_pay9 (k0_pay5 v3 v5 v7 v9 v12) (k0_pay6 v27) v29 v32 v36 v38 v40) v71 v77)
      (k0_pay12 v88 v89 v92 v93) v98 (k0_pay13 v99) v112 v117 v120 v122) (ix3 0 r j) = Cert.Ffn.yy A b (T r) j := by
  have h := hh_at L
  have hx := x1_at L
  generalize k0_pay10 (k0_pay7 (k0_pay5 v3 v5 v7 v9 v12) (k0_pay6 v27) v29 v32 v36 v38 v40) (k0_pay8 v57)
      (k0_pay9 (k0_pay5 v3 v5 v7 v9 v12) (k0_pay6 v27) v29 v32 v36 v38 v40) v71 v77 = v81 at h ⊢
  generalize k0_pay7 (k0_pay5 v3 v5 v7 v9 v12) (k0_pay6 v27) v29 v32 v36 v38 v40 = v56 at hx ⊢
  pointwise [k0_pay1, k0_pay14, k0_pay12, k0_pay13, h, hx, h88, h92, h98, c0, c1, c2, wu, wd, m5, go]
  have e : ∀ (t : Fin 4096) (q : Fin 2816), Cert.Ffn.xp A b (2 + t.val) q * A.cw (ix2 2 q) + Cert.Ffn.xp A b t.val q * A.cw (ix2 0 q)
      + Cert.Ffn.xp A b (1 + t.val) q * A.cw (ix2 1 q) = Cert.Ffn.cv A b t.val q := fun t q => by
    unfold Cert.Ffn.cv
    rw [add_assoc, add_comm]
  simp only [e, zero_sub]
  rfl

end

end Cert.Kernel2Ideal.Hand

end
-- ==== Proof.FfnBlocks.lean ====
module

public import proofs.«01_k».proof.Proof.FfnRows

/-! The blocks of the kernel's windows at a grid point, as rows of the argument arrays. -/

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Hand

open Cert.Kernel2Ideal Cert.Kernel2Ideal.Gen
open Cert.Ffn (Args)

variable (m : (ℓ : Loc nD τ sig) → Buf (Elt Ideal) ℓ)

/-- The argument arrays in memory. -/
def argsOf (c : Dev nD) : Args where
  mix := m ((c : Thread nD τ).loc main_arg0)
  att := m ((c : Thread nD τ).loc main_arg1)
  x := m ((c : Thread nD τ).loc main_arg2)
  mod := m ((c : Thread nD τ).loc main_arg3)
  gc := m ((c : Thread nD τ).loc main_arg4)
  wo := m ((c : Thread nD τ).loc main_arg5)
  gm := m ((c : Thread nD τ).loc main_arg6)
  gf := m ((c : Thread nD τ).loc main_arg7)
  wg := m ((c : Thread nD τ).loc main_arg8)
  wu := m ((c : Thread nD τ).loc main_arg9)
  cw := m ((c : Thread nD τ).loc main_arg10)
  wd := m ((c : Thread nD τ).loc main_arg11)
  go := m ((c : Thread nD τ).loc main_arg12)

/-- Every window's block index at every grid point. -/
theorem idx : ∀ t : Fin cfg0.N, win0_0.index t = ![t.val / 8, t.val % 8, 0]
    ∧ win0_1.index t = ![t.val / 8, 0, t.val % 8, 0]
    ∧ win0_2.index t = ![t.val / 8, t.val % 8, 0]
    ∧ win0_3.index t = ![t.val / 8, 0, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![t.val / 8, 0, 0]
    ∧ win0_14.index t = ![t.val / 8, t.val % 8, 0]
    ∧ win0_15.index t = ![t.val / 8, 0, 0] :=
  (by decide +kernel : ∀ t : Fin grid0.N, _)

theorem N_eq : cfg0.N = 64 := by decide +kernel

/-- The group of a grid point. -/
def grp (t : Fin cfg0.N) : Fin 8 := ⟨t.val / 8, by have := lt_of_lt_of_eq t.isLt N_eq; omega⟩
/-- A tile's row in its group. -/
def row (t : Fin cfg0.N) (r : Fin 512) : Fin 4096 :=
  ⟨t.val % 8 * 512 + r.val, by have := r.isLt; have : t.val % 8 < 8 := Nat.mod_lt _ (by decide); omega⟩

theorem v1_at (c : Dev nD) (b : Fin 8) (g : Fin 4) (q : Fin 4096) (k : Fin 128) :
    (V m c main_v1 : FVec Ideal S8x4x4096x128 .f32) (ix4 b g q k)
      = (argsOf m c).att (ix3 b q ⟨g.val * 128 + k.val, by have := k.isLt; have := g.isLt; omega⟩) := by
  entry_read
  pointwise []
  rfl

theorem v10_at (c : Dev nD) (b : Fin 8) (g : Fin 6) (k : Fin 1024) :
    (V m c main_v10 : FVec Ideal S8x6x1x1024 .f32) (ix4 b g 0 k)
      = (argsOf m c).mod (ix2 b ⟨g.val * 1024 + k.val, by have := k.isLt; have := g.isLt; omega⟩) := by
  entry_read
  pointwise []
  rfl

theorem v11_at (c : Dev nD) (b k : Fin 8) (j : Fin 2816) :
    (V m c main_v11 : FVec Ideal S8x8x2816 .f32) (ix3 b k j) = (0 : EReal) := by
  entry_read
  pointwise []

theorem v2_at (c : Dev nD) (k : Fin 512) :
    (V m c main_v2 : FVec Ideal S1x512 .f32) (ix2 0 k) = (argsOf m c).gc (ix1 k) := by
  entry_read
  pointwise []
  rfl

theorem v4_at (c : Dev nD) (k : Fin 1024) :
    (V m c main_v4 : FVec Ideal S1x1024 .f32) (ix2 0 k) = (argsOf m c).gm (ix1 k) := by
  entry_read
  pointwise []
  rfl

theorem v5_at (c : Dev nD) (k : Fin 1024) :
    (V m c main_v5 : FVec Ideal S1x1024 .f32) (ix2 0 k) = (argsOf m c).gf (ix1 k) := by
  entry_read
  pointwise []
  rfl

theorem v9_at (c : Dev nD) (k : Fin 1024) :
    (V m c main_v9 : FVec Ideal S1x1024 .f32) (ix2 0 k) = (argsOf m c).go (ix1 k) := by
  entry_read
  pointwise []
  rfl

theorem v3_at (c : Dev nD) (k : Fin 1024) (j : Fin 1024) :
    (V m c main_v3 : FVec Ideal S1024x1024 .bf16) (ix2 k j) = (argsOf m c).wo (ix2 k j) := by
  entry_read
  pointwise []
  rfl

theorem v6_at (c : Dev nD) (k : Fin 1024) (j : Fin 2816) :
    (V m c main_v6 : FVec Ideal S1024x2816 .bf16) (ix2 k j) = (argsOf m c).wg (ix2 k j) := by
  entry_read
  pointwise []
  rfl

theorem v7_at (c : Dev nD) (k : Fin 1024) (j : Fin 2816) :
    (V m c main_v7 : FVec Ideal S1024x2816 .bf16) (ix2 k j) = (argsOf m c).wu (ix2 k j) := by
  entry_read
  pointwise []
  rfl

theorem v8_at (c : Dev nD) (k : Fin 2816) (j : Fin 1024) :
    (V m c main_v8 : FVec Ideal S2816x1024 .bf16) (ix2 k j) = (argsOf m c).wd (ix2 k j) := by
  entry_read
  pointwise []
  rfl

theorem blk1 (c : Dev nD) (t : Fin cfg0.N) (g : Fin 4) (r : Fin 512) (k : Fin 128) :
    (iblk m c 1 t : FVec Ideal S1x4x512x128 .f32) (ix4 0 g r k)
      = (argsOf m c).att (ix3 (grp t) (row t r) ⟨g.val * 128 + k.val, by have := k.isLt; have := g.isLt; omega⟩) := by
  refine Eq.trans ?_ (v1_at m c (grp t) g (row t r) k)
  unfold iblk
  blk_ext [idx t] <;> rfl

theorem blk3 (c : Dev nD) (t : Fin cfg0.N) (g : Fin 6) (k : Fin 1024) :
    (iblk m c 3 t : FVec Ideal S1x6x1x1024 .f32) (ix4 0 g 0 k)
      = (argsOf m c).mod (ix2 (grp t) ⟨g.val * 1024 + k.val, by have := k.isLt; have := g.isLt; omega⟩) := by
  refine Eq.trans ?_ (v10_at m c (grp t) g k)
  unfold iblk
  blk_ext [idx t] <;> rfl

theorem blk13 (c : Dev nD) (t : Fin cfg0.N) (k : Fin 8) (j : Fin 2816) :
    (iblk m c 13 t : FVec Ideal S1x8x2816 .f32) (ix3 0 k j) = (0 : EReal) := by
  refine Eq.trans ?_ (v11_at m c (grp t) k j)
  unfold iblk
  blk_ext [idx t] <;> rfl

theorem blk0 (c : Dev nD) (t : Fin cfg0.N) (r k : Fin 512) :
    (iblk m c 0 t : FVec Ideal S1x512x512 .bf16) (ix3 0 r k) = (argsOf m c).mix (ix3 (grp t) (row t r) k) := by
  unfold argsOf
  blk_ext [iblk, V, idx t] <;> rfl

theorem blk2 (c : Dev nD) (t : Fin cfg0.N) (r : Fin 512) (k : Fin 1024) :
    (iblk m c 2 t : FVec Ideal S1x512x1024 .f32) (ix3 0 r k) = (argsOf m c).x (ix3 (grp t) (row t r) k) := by
  unfold argsOf
  blk_ext [iblk, V, idx t] <;> rfl

theorem blk10 (c : Dev nD) (t : Fin cfg0.N) (k : Fin 3) (j : Fin 2816) :
    (iblk m c 10 t : FVec Ideal S3x2816 .f32) (ix2 k j) = (argsOf m c).cw (ix2 k j) := by
  unfold argsOf
  blk_ext [iblk, V, idx t]

theorem blk4 (c : Dev nD) (t : Fin cfg0.N) (k : Fin 512) :
    (iblk m c 4 t : FVec Ideal S1x512 .f32) (ix2 0 k) = (argsOf m c).gc (ix1 k) := by
  refine Eq.trans ?_ (v2_at m c k)
  unfold iblk
  blk_ext [idx t]

theorem blk6 (c : Dev nD) (t : Fin cfg0.N) (k : Fin 1024) :
    (iblk m c 6 t : FVec Ideal S1x1024 .f32) (ix2 0 k) = (argsOf m c).gm (ix1 k) := by
  refine Eq.trans ?_ (v4_at m c k)
  unfold iblk
  blk_ext [idx t]

theorem blk7 (c : Dev nD) (t : Fin cfg0.N) (k : Fin 1024) :
    (iblk m c 7 t : FVec Ideal S1x1024 .f32) (ix2 0 k) = (argsOf m c).gf (ix1 k) := by
  refine Eq.trans ?_ (v5_at m c k)
  unfold iblk
  blk_ext [idx t]

theorem blk12 (c : Dev nD) (t : Fin cfg0.N) (k : Fin 1024) :
    (iblk m c 12 t : FVec Ideal S1x1024 .f32) (ix2 0 k) = (argsOf m c).go (ix1 k) := by
  refine Eq.trans ?_ (v9_at m c k)
  unfold iblk
  blk_ext [idx t]

theorem blk5 (c : Dev nD) (t : Fin cfg0.N) (k : Fin 1024) (j : Fin 1024) :
    (iblk m c 5 t : FVec Ideal S1024x1024 .bf16) (ix2 k j) = (argsOf m c).wo (ix2 k j) := by
  refine Eq.trans ?_ (v3_at m c k j)
  unfold iblk
  blk_ext [idx t]

theorem blk8 (c : Dev nD) (t : Fin cfg0.N) (k : Fin 1024) (j : Fin 2816) :
    (iblk m c 8 t : FVec Ideal S1024x2816 .bf16) (ix2 k j) = (argsOf m c).wg (ix2 k j) := by
  refine Eq.trans ?_ (v6_at m c k j)
  unfold iblk
  blk_ext [idx t]

theorem blk9 (c : Dev nD) (t : Fin cfg0.N) (k : Fin 1024) (j : Fin 2816) :
    (iblk m c 9 t : FVec Ideal S1024x2816 .bf16) (ix2 k j) = (argsOf m c).wu (ix2 k j) := by
  refine Eq.trans ?_ (v7_at m c k j)
  unfold iblk
  blk_ext [idx t]

theorem blk11 (c : Dev nD) (t : Fin cfg0.N) (k : Fin 2816) (j : Fin 1024) :
    (iblk m c 11 t : FVec Ideal S2816x1024 .bf16) (ix2 k j) = (argsOf m c).wd (ix2 k j) := by
  refine Eq.trans ?_ (v8_at m c k j)
  unfold iblk
  blk_ext [idx t]

/-- What the body loads at a grid point are its group's and its tile's rows of the argument arrays. -/
theorem loads (c : Dev nD) (t : Fin cfg0.N) :
    Loads (argsOf m c) (grp t) (row t)
      (View.ld (Val := Elt Ideal) (iblk m c 1 t) (Rect.unit ![0, 0, 0, 0] ![1, 1, 512, 128] inb_S1x4x512x128_S1x1x512x128_0_0_0_0))
      (View.ld (Val := Elt Ideal) (iblk m c 1 t) (Rect.unit ![0, 1, 0, 0] ![1, 1, 512, 128] inb_S1x4x512x128_S1x1x512x128_0_1_0_0))
      (View.ld (Val := Elt Ideal) (iblk m c 1 t) (Rect.unit ![0, 2, 0, 0] ![1, 1, 512, 128] inb_S1x4x512x128_S1x1x512x128_0_2_0_0))
      (View.ld (Val := Elt Ideal) (iblk m c 1 t) (Rect.unit ![0, 3, 0, 0] ![1, 1, 512, 128] inb_S1x4x512x128_S1x1x512x128_0_3_0_0))
      (iblk m c 4 t) (iblk m c 0 t)
      (View.ld (Val := Elt Ideal) (iblk m c 5 t) (Rect.unit ![0, 0] ![512, 1024] inb_S1024x1024_S512x1024_0_0))
      (View.ld (Val := Elt Ideal) (iblk m c 5 t) (Rect.unit ![512, 0] ![512, 1024] inb_S1024x1024_S512x1024_512_0))
      (iblk m c 2 t)
      (View.ld (Val := Elt Ideal) (iblk m c 3 t) (Rect.unit ![0, 2, 0, 0] ![1, 1, 1, 1024] inb_S1x6x1x1024_S1x1x1x1024_0_2_0_0))
      (iblk m c 6 t) (iblk m c 7 t)
      (View.ld (Val := Elt Ideal) (iblk m c 3 t) (Rect.unit ![0, 4, 0, 0] ![1, 1, 1, 1024] inb_S1x6x1x1024_S1x1x1x1024_0_4_0_0))
      (View.ld (Val := Elt Ideal) (iblk m c 3 t) (Rect.unit ![0, 3, 0, 0] ![1, 1, 1, 1024] inb_S1x6x1x1024_S1x1x1x1024_0_3_0_0))
      (iblk m c 8 t) where
  a0 := fun r k => by
    pointwise []
    exact (blk1 m c t 0 r k).trans (congrArg (fun q => (argsOf m c).att (ix3 (grp t) (row t r) q)) (Fin.ext (by simp)))
  a1 := fun r k => by
    pointwise []
    exact (blk1 m c t 1 r k).trans (congrArg (fun q => (argsOf m c).att (ix3 (grp t) (row t r) q)) (Fin.ext (by simp)))
  a2 := fun r k => by
    pointwise []
    exact (blk1 m c t 2 r k).trans (congrArg (fun q => (argsOf m c).att (ix3 (grp t) (row t r) q)) (Fin.ext (by simp)))
  a3 := fun r k => by
    pointwise []
    exact (blk1 m c t 3 r k).trans (congrArg (fun q => (argsOf m c).att (ix3 (grp t) (row t r) q)) (Fin.ext (by simp)))
  gc := blk4 m c t
  mix := blk0 m c t
  wo0 := fun r k => by
    pointwise []
    exact blk5 m c t _ k
  wo1 := fun r k => by
    pointwise []
    exact blk5 m c t _ k
  x := blk2 m c t
  m2 := fun k => by
    pointwise []
    exact blk3 m c t 2 k
  gm := blk6 m c t
  gf := blk7 m c t
  m4 := fun k => by
    pointwise []
    exact blk3 m c t 4 k
  m3 := fun k => by
    pointwise []
    exact blk3 m c t 3 k
  wg := blk8 m c t

end Cert.Kernel2Ideal.Hand

end
-- ==== Proof.FfnValue.lean ====
module

public import proofs.«01_k».proof.Proof.FfnBlocks
public import Idealize.ShloMosaic.Lib.WritesUnit
public import Idealize.ShloMosaic.Lib.Pipeline.ReadBack

/-! The value of the output projection and feed-forward kernel: what each grid point leaves in its blocks and in the
    carried rows, and the two result arrays. -/

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Hand

open Cert.Kernel2Ideal Cert.Kernel2Ideal.Gen
open Cert.Ffn (Args)

variable (m : (ℓ : Loc nD τ sig) → Buf (Elt Ideal) ℓ)

/-! ## The row buffer: eight carried rows, then the tile's 512 rows -/

/-- The tile's rows in the row buffer. -/
abbrev RHi : Rect S520x2816 := Rect.unit ![8, 0] ![512, 2816] inb_S520x2816_S512x2816_8_0
/-- The carried rows in the row buffer. -/
abbrev RLo : Rect S520x2816 := Rect.unit ![0, 0] ![8, 2816] inb_S520x2816_S8x2816_0_0

theorem emb_hi (r : Fin 512) (j : Fin 2816) :
    RHi.emb (ix2 r j) = (ix2 ⟨8 + r.val, by have := r.isLt; omega⟩ j : S520x2816.Idx) := by
  funext a
  apply Fin.ext
  fin_cases a
  · show 8 + 1 * r.val = 8 + r.val; omega
  · show 0 + 1 * j.val = j.val; omega

theorem emb_lo (s : Fin 8) (j : Fin 2816) :
    RLo.emb (ix2 s j) = (ix2 ⟨s.val, by have := s.isLt; omega⟩ j : S520x2816.Idx) := by
  funext a
  apply Fin.ext
  fin_cases a
  · show 0 + 1 * s.val = s.val; omega
  · show 0 + 1 * j.val = j.val; omega

theorem lo_not_hi (s : Fin 8) (j : Fin 2816) : (ix2 ⟨s.val, by have := s.isLt; omega⟩ j : S520x2816.Idx) ∉ RHi.set := by
  rw [Rect.mem_set_unit]
  intro h
  have h0 := (h 0).1
  have : 8 ≤ s.val := h0
  have := s.isLt
  omega

/-- A buffer's contents after a last write at a rectangle, at an index of the rectangle. -/
theorem canon_at {s : Shape} {e : EltTy} (r : Rect s) (w : r.shape.Idx → Elt Ideal e) (L : List (View.Piece (Elt Ideal) s e))
    {x : r.shape.Idx} {y : s.Idx} (h : r.emb x = y) : View.canon (Val := Elt Ideal) (⟨r, w⟩ :: L) y = w x := by
  subst h
  exact View.canon_cons_emb r w L x

theorem read_at {κ : Kind} {sp : Space} {s : Shape} {e : EltTy} (v : View sig κ sp s e) (f : v.ty.Contents (Elt Ideal))
    (r : Rect s) (w : r.shape.Idx → Elt Ideal e) (L : List (View.Piece (Elt Ideal) s e))
    {x : r.shape.Idx} {y : s.Idx} (h : r.emb x = y) : v.read (Elt Ideal) (v.writes (Elt Ideal) f (⟨r, w⟩ :: L)) y = w x := by
  subst h
  exact View.read_writes_cons_emb v f r w L x

theorem canon_hi (w : RHi.shape.Idx → Elt Ideal .f32) (L : List (View.Piece (Elt Ideal) S520x2816 .f32)) (r : Fin 512) (j : Fin 2816) :
    View.canon (Val := Elt Ideal) (s := S520x2816) (e := .f32) (⟨RHi, w⟩ :: L) (ix2 ⟨8 + r.val, by have := r.isLt; omega⟩ j) = w (ix2 r j) := by
  have h := canon_at RHi w L (emb_hi r j)
  exact h

theorem canon_lo (w : FVec Ideal S512x2816 .f32) (L : List (View.Piece (Elt Ideal) S520x2816 .f32)) (s : Fin 8) (j : Fin 2816) :
    View.canon (Val := Elt Ideal) (s := S520x2816) (e := .f32) (⟨RHi, w⟩ :: L) (ix2 ⟨s.val, by have := s.isLt; omega⟩ j)
      = View.canon (Val := Elt Ideal) (s := S520x2816) (e := .f32) L (ix2 ⟨s.val, by have := s.isLt; omega⟩ j) :=
  View.canon_cons_of_not_mem _ L (lo_not_hi s j)

theorem canon_first (w : RLo.shape.Idx → Elt Ideal .f32) (L : List (View.Piece (Elt Ideal) S520x2816 .f32)) (s : Fin 8) (j : Fin 2816) :
    View.canon (Val := Elt Ideal) (s := S520x2816) (e := .f32) (⟨RLo, w⟩ :: L) (ix2 ⟨s.val, by have := s.isLt; omega⟩ j) = w (ix2 s j) := by
  have h := canon_at RLo w L (emb_lo s j)
  exact h

theorem read_hi {κ : Kind} {sp : Space} (v : View sig κ sp S520x2816 .f32) (f : v.ty.Contents (Elt Ideal)) (w : FVec Ideal S512x2816 .f32)
    (r : Fin 512) (j : Fin 2816) :
    v.read (Elt Ideal) (v.writes (Elt Ideal) f [⟨RHi, w⟩]) (ix2 ⟨8 + r.val, by have := r.isLt; omega⟩ j) = w (ix2 r j) :=
  read_at v f RHi w [] (emb_hi r j)

theorem read_lo {κ : Kind} {sp : Space} (v : View sig κ sp S520x2816 .f32) (f : v.ty.Contents (Elt Ideal)) (w : FVec Ideal S512x2816 .f32)
    (s : Fin 8) (j : Fin 2816) :
    v.read (Elt Ideal) (v.writes (Elt Ideal) f [⟨RHi, w⟩]) (ix2 ⟨s.val, by have := s.isLt; omega⟩ j)
      = v.read (Elt Ideal) f (ix2 ⟨s.val, by have := s.isLt; omega⟩ j) :=
  View.read_writes_cons_unit_of_not_mem v f _ w [] _ rfl 0 (Or.inl s.isLt)

/-- A row buffer with the tile's gate projection below two rows of the padded one holds the padded projection. -/
theorem taps {A : Args} {b : Fin 8} {t : Fin cfg0.N} {B : S520x2816.Idx → EReal}
    (hi : ∀ (r : Fin 512) (j : Fin 2816), B (ix2 ⟨8 + r.val, by have := r.isLt; omega⟩ j) = Cert.Ffn.hg A b (row t r) j)
    (lo : ∀ (s : Fin 8) (j : Fin 2816), 6 ≤ s.val →
      B (ix2 ⟨s.val, by have := s.isLt; omega⟩ j) = Cert.Ffn.xp A b (t.val % 8 * 512 + (s.val - 6)) j)
    (s : Fin 520) (j : Fin 2816) (hs : 6 ≤ s.val) : B (ix2 s j) = Cert.Ffn.xp A b (t.val % 8 * 512 + (s.val - 6)) j := by
  have h8 : t.val % 8 < 8 := Nat.mod_lt _ (by decide)
  by_cases h : s.val < 8
  · exact lo ⟨s.val, h⟩ j hs
  · have hl := s.isLt
    refine Eq.trans (congrArg (fun q => B (ix2 q j)) (Fin.ext (by show s.val = 8 + (s.val - 8); omega))) ((hi ⟨s.val - 8, by omega⟩ j).trans ?_)
    unfold Cert.Ffn.xp
    rw [dif_pos ⟨by omega, by omega⟩]
    exact congrArg (fun q => Cert.Ffn.hg A b q j) (Fin.ext (by show t.val % 8 * 512 + (s.val - 8) = t.val % 8 * 512 + (s.val - 6) - 2; omega))

/-! ## What a grid point leaves -/

/-- The carried rows a point leaves are the last eight rows of its gate projection. -/
theorem carry (c : Dev nD) (t : Fin cfg0.N) (s : Fin 8) (j : Fin 2816) :
    ((outsAt0 m c t.val t.isLt).2.2 : FVec Ideal S520x2816 .f32) (ix2 ⟨s.val, by have := s.isLt; omega⟩ j)
      = Cert.Ffn.hg (argsOf m c) (grp t) (row t ⟨504 + s.val, by have := s.isLt; omega⟩) j := by
  have e : (⟨512 + s.val, by have := s.isLt; omega⟩ : Fin 520)
      = ⟨8 + (⟨504 + s.val, by have := s.isLt; omega⟩ : Fin 512).val, by have := s.isLt; show 8 + (504 + s.val) < 520; omega⟩ :=
    Fin.ext (by show 512 + s.val = 8 + (504 + s.val); omega)
  by_cases h0 : t.val % 8 = 0
  · rw [outsAt0_A m c t h0]
    frame_out
    refine (canon_first _ _ s j).trans ?_
    rw [View.readCov_eq_canon']
    unfold k0_pay3
    pointwise []
    refine Eq.trans (congrArg (fun q => View.canon _ (ix2 q j)) e) ((canon_hi _ _ ⟨504 + s.val, by have := s.isLt; omega⟩ j).trans ?_)
    exact hg_at (loads m c t) ⟨504 + s.val, by have := s.isLt; omega⟩ j
  · rw [outsAt0_B m c t h0]
    frame_out
    refine (canon_first _ _ s j).trans ?_
    rw [View.readCov_eq_canon']
    unfold k0_pay3
    pointwise []
    refine Eq.trans (congrArg (fun q => View.canon _ (ix2 q j)) e) ((canon_hi _ _ ⟨504 + s.val, by have := s.isLt; omega⟩ j).trans ?_)
    exact hg_at (loads m c t) ⟨504 + s.val, by have := s.isLt; omega⟩ j

/-- The second result's block after a point: the last eight rows of the tile's gate projection. -/
theorem nf_at (c : Dev nD) (t : Fin cfg0.N) (s : Fin 8) (j : Fin 2816) :
    ((outsAt0 m c t.val t.isLt).2.1 : FVec Ideal S1x8x2816 .f32) (ix3 0 s j)
      = Cert.Ffn.hg (argsOf m c) (grp t) (row t ⟨504 + s.val, by have := s.isLt; omega⟩) j := by
  have e : (⟨512 + s.val, by have := s.isLt; omega⟩ : Fin 520)
      = ⟨8 + (⟨504 + s.val, by have := s.isLt; omega⟩ : Fin 512).val, by have := s.isLt; show 8 + (504 + s.val) < 520; omega⟩ :=
    Fin.ext (by show 512 + s.val = 8 + (504 + s.val); omega)
  by_cases h0 : t.val % 8 = 0
  · rw [outsAt0_A m c t h0]
    frame_out
    rw [View.readCov_eq_canon']
    unfold k0_pay2
    pointwise []
    refine Eq.trans (congrArg (fun q => View.canon _ (ix2 q j)) e) ((canon_hi _ _ ⟨504 + s.val, by have := s.isLt; omega⟩ j).trans ?_)
    exact hg_at (loads m c t) ⟨504 + s.val, by have := s.isLt; omega⟩ j
  · rw [outsAt0_B m c t h0]
    frame_out
    rw [View.readCov_eq_canon']
    unfold k0_pay2
    pointwise []
    refine Eq.trans (congrArg (fun q => View.canon _ (ix2 q j)) e) ((canon_hi _ _ ⟨504 + s.val, by have := s.isLt; omega⟩ j).trans ?_)
    exact hg_at (loads m c t) ⟨504 + s.val, by have := s.isLt; omega⟩ j

/-- The row `8 + r` of the row buffer is row `2 + T r` of the padded gate projection. -/
theorem xp_hi (A : Args) (b : Fin 8) (t : Fin cfg0.N) (r : Fin 512) (j : Fin 2816) :
    Cert.Ffn.xp A b (2 + (row t r).val) j = Cert.Ffn.hg A b (row t r) j := by
  have h8 : t.val % 8 < 8 := Nat.mod_lt _ (by decide)
  have hr := r.isLt
  unfold Cert.Ffn.xp
  rw [dif_pos ⟨by omega, by show 2 + (t.val % 8 * 512 + r.val) < 4098; omega⟩]
  exact congrArg (fun q => Cert.Ffn.hg A b q j) (Fin.ext (by show 2 + (t.val % 8 * 512 + r.val) - 2 = t.val % 8 * 512 + r.val; omega))

theorem yA (c : Dev nD) (t : Fin cfg0.N) (h0 : t.val % 8 = 0) (r : Fin 512) (j : Fin 1024) :
    ((outsAt0 m c t.val t.isLt).1 : FVec Ideal S1x512x1024 .f32) (ix3 0 r j) = Cert.Ffn.yy (argsOf m c) (grp t) (row t r) j := by
  have lo : ∀ (w : FVec Ideal S512x2816 .f32) (s : Fin 8) (j : Fin 2816), 6 ≤ s.val →
      View.canon (Val := Elt Ideal) (s := S520x2816) (e := .f32) [⟨RHi, w⟩, ⟨RLo, k0_pay4 (iblk m c 13 t)⟩]
        (ix2 ⟨s.val, by have := s.isLt; omega⟩ j)
        = Cert.Ffn.xp (argsOf m c) (grp t) (t.val % 8 * 512 + (s.val - 6)) j := by
    intro w s j hs
    refine (canon_lo _ _ s j).trans ((canon_first _ _ s j).trans ?_)
    unfold k0_pay4 Cert.Ffn.xp
    have := s.isLt
    rw [dif_neg (by omega)]
    pointwise []
    exact blk13 m c t s j
  rw [outsAt0_A m c t h0]
  frame_out
  simp only [View.readCov_eq_canon']
  refine y_at (loads m c t) ?_ ?_ ?_ ?_ ?_ ?_ ?_ ?_ ?_ ?_ r j
  · intro r j
    rw [xp_hi]
    pointwise []
    exact (canon_hi _ _ r j).trans (hg_at (loads m c t) r j)
  · intro r j
    pointwise []
    exact (taps (fun r j => (canon_hi _ _ r j).trans (hg_at (loads m c t) r j)) (lo _) ⟨6 + r.val, by have := r.isLt; omega⟩ j
      (Nat.le_add_right 6 _)).trans (congrArg (fun q => Cert.Ffn.xp _ _ q j) (by show t.val % 8 * 512 + (6 + r.val - 6) = t.val % 8 * 512 + r.val; omega))
  · intro r j
    pointwise []
    exact (taps (fun r j => (canon_hi _ _ r j).trans (hg_at (loads m c t) r j)) (lo _) ⟨7 + r.val, by have := r.isLt; omega⟩ j
      (by show 6 ≤ 7 + r.val; omega)).trans (congrArg (fun q => Cert.Ffn.xp _ _ q j) (by show t.val % 8 * 512 + (7 + r.val - 6) = 1 + (t.val % 8 * 512 + r.val); omega))
  · intro j
    pointwise []
    exact blk10 m c t 2 j
  · intro j
    pointwise []
    exact blk10 m c t 0 j
  · intro j
    pointwise []
    exact blk10 m c t 1 j
  · exact blk9 m c t
  · exact blk11 m c t
  · intro j
    pointwise []
    exact blk3 m c t 5 j
  · exact blk12 m c t

theorem yB (c : Dev nD) (t : Fin cfg0.N) (h0 : ¬ t.val % 8 = 0) (r : Fin 512) (j : Fin 1024) :
    ((outsAt0 m c t.val t.isLt).1 : FVec Ideal S1x512x1024 .f32) (ix3 0 r j) = Cert.Ffn.yy (argsOf m c) (grp t) (row t r) j := by
  have lo : ∀ (w : FVec Ideal S512x2816 .f32) (h : (Memref.whole cc0_scratch0).IsWhole) (ht : t.val - 1 < cfg0.N) (s : Fin 8) (j : Fin 2816), 6 ≤ s.val →
      View.read (Elt Ideal) (View.whole cc0_scratch0) ((View.whole cc0_scratch0).writes (Elt Ideal)
          (h.unread (outsAt0 m c (t.val - 1) ht).2.2) [⟨RHi, w⟩])
        (ix2 ⟨s.val, by have := s.isLt; omega⟩ j)
        = Cert.Ffn.xp (argsOf m c) (grp t) (t.val % 8 * 512 + (s.val - 6)) j := by
    intro w h ht s j hs
    refine (read_lo _ _ _ s j).trans ?_
    rw [read_unread_whole]
    have hs8 := s.isLt
    have hN : t.val < 64 := lt_of_lt_of_eq t.isLt N_eq
    refine (carry m c ⟨t.val - 1, ht⟩ s j).trans ?_
    unfold Cert.Ffn.xp
    rw [dif_pos ⟨by omega, by omega⟩]
    have e1 : grp ⟨t.val - 1, ht⟩ = grp t := Fin.ext (by show (t.val - 1) / 8 = t.val / 8; omega)
    rw [e1]
    exact congrArg (fun q => Cert.Ffn.hg _ _ q j) (Fin.ext (by
      show (t.val - 1) % 8 * 512 + (504 + s.val) = t.val % 8 * 512 + (s.val - 6) - 2; omega))
  rw [outsAt0_B m c t h0]
  frame_out
  simp only [View.readCov_eq_canon']
  refine y_at (loads m c t) ?_ ?_ ?_ ?_ ?_ ?_ ?_ ?_ ?_ ?_ r j
  · intro r j
    rw [xp_hi]
    pointwise []
    exact (canon_hi _ _ r j).trans (hg_at (loads m c t) r j)
  · intro r j
    pointwise []
    exact (taps (fun r j => (read_hi _ _ _ r j).trans (hg_at (loads m c t) r j)) (lo _ _ _) ⟨6 + r.val, by have := r.isLt; omega⟩ j
      (Nat.le_add_right 6 _)).trans (congrArg (fun q => Cert.Ffn.xp _ _ q j) (by show t.val % 8 * 512 + (6 + r.val - 6) = t.val % 8 * 512 + r.val; omega))
  · intro r j
    pointwise []
    exact (taps (fun r j => (read_hi _ _ _ r j).trans (hg_at (loads m c t) r j)) (lo _ _ _) ⟨7 + r.val, by have := r.isLt; omega⟩ j
      (by show 6 ≤ 7 + r.val; omega)).trans (congrArg (fun q => Cert.Ffn.xp _ _ q j) (by show t.val % 8 * 512 + (7 + r.val - 6) = 1 + (t.val % 8 * 512 + r.val); omega))
  · intro j
    pointwise []
    exact blk10 m c t 2 j
  · intro j
    pointwise []
    exact blk10 m c t 0 j
  · intro j
    pointwise []
    exact blk10 m c t 1 j
  · exact blk9 m c t
  · exact blk11 m c t
  · intro j
    pointwise []
    exact blk3 m c t 5 j
  · exact blk12 m c t

/-- What a point leaves in the first result's block: its tile of the call's value. -/
theorem y_pt (c : Dev nD) (t : Fin cfg0.N) (r : Fin 512) (j : Fin 1024) :
    ((outsAt0 m c t.val t.isLt).1 : FVec Ideal S1x512x1024 .f32) (ix3 0 r j) = Cert.Ffn.yy (argsOf m c) (grp t) (row t r) j := by
  by_cases h0 : t.val % 8 = 0
  · exact yA m c t h0 r j
  · exact yB m c t h0 r j

end Cert.Kernel2Ideal.Hand

end
-- ==== Proof.FfnFinal.lean ====
module

public import proofs.«01_k».proof.Proof.FfnValue

/-! The two result arrays of the output projection and feed-forward kernel, entry by entry. -/

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Hand

open Cert.Kernel2Ideal Cert.Kernel2Ideal.Gen
open Cert.Ffn (Args)

variable (m : (ℓ : Loc nD τ sig) → Buf (Elt Ideal) ℓ)

theorem final_14 (c : Dev nD) : (dats m 0 c).arrAt 14 (cfgs 0).N
    = ((fun i => Cert.Ffn.yy (argsOf m c) (i 0) (i 1) (i 2)) : FVec Ideal S8x4096x1024 .f32) := by
  refine (dats m 0 c).arrAt_eq_of_covers 14 _ (by decide +kernel) fun t hf y => ?_
  blk_simp; rw [after0_14]
  obtain ⟨r, j, rfl⟩ : ∃ (r : Fin 512) (j : Fin 1024), y = (ix3 0 r j : S1x512x1024.Idx) :=
    ⟨y 1, y 2, by
      funext a
      fin_cases a
      · exact Subsingleton.elim (α := Fin 1) _ _
      · rfl
      · rfl⟩
  refine (y_pt m c t r j).trans ?_
  have hi : win0_14.index t = ![t.val / 8, t.val % 8, 0] := by
    simp only [idx t]
  have e0 : (win0_14.blk t).view.emb (ix3 0 r j : S1x512x1024.Idx) 0 = grp t := Fin.ext (by
    show win0_14.index t 0 * 1 + 1 * 0 = t.val / 8
    rw [hi]; show t.val / 8 * 1 + 1 * 0 = t.val / 8; omega)
  have e1 : (win0_14.blk t).view.emb (ix3 0 r j : S1x512x1024.Idx) 1 = row t r := Fin.ext (by
    show win0_14.index t 1 * 512 + 1 * r.val = t.val % 8 * 512 + r.val
    rw [hi]; show t.val % 8 * 512 + 1 * r.val = t.val % 8 * 512 + r.val; omega)
  have e2 : (win0_14.blk t).view.emb (ix3 0 r j : S1x512x1024.Idx) 2 = j := Fin.ext (by
    show win0_14.index t 2 * 1024 + 1 * j.val = j.val
    rw [hi]; show 0 * 1024 + 1 * j.val = j.val; omega)
  rw [e0, e1, e2]

theorem final_15 (c : Dev nD) : (dats m 0 c).arrAt 15 (cfgs 0).N
    = ((fun i => Cert.Ffn.nf (argsOf m c) (i 0) (i 1) (i 2)) : FVec Ideal S8x8x2816 .f32) := by
  refine (dats m 0 c).arrAt_eq_of_covers 15 _ (by decide +kernel) fun t hf y => ?_
  blk_simp; rw [after0_15]
  have h7 : t.val % 8 = 7 := (by decide +kernel : ∀ t : Fin cfg0.N, (cfg0.win 15).flush t = true → t.val % 8 = 7) t hf
  obtain ⟨s, j, rfl⟩ : ∃ (s : Fin 8) (j : Fin 2816), y = (ix3 0 s j : S1x8x2816.Idx) :=
    ⟨y 1, y 2, by
      funext a
      fin_cases a
      · exact Subsingleton.elim (α := Fin 1) _ _
      · rfl
      · rfl⟩
  refine (nf_at m c t s j).trans ?_
  have hi : win0_15.index t = ![t.val / 8, 0, 0] := by
    simp only [idx t]
  have e0 : (win0_15.blk t).view.emb (ix3 0 s j : S1x8x2816.Idx) 0 = grp t := Fin.ext (by
    show win0_15.index t 0 * 1 + 1 * 0 = t.val / 8
    rw [hi]; show t.val / 8 * 1 + 1 * 0 = t.val / 8; omega)
  have e1 : (win0_15.blk t).view.emb (ix3 0 s j : S1x8x2816.Idx) 1 = s := Fin.ext (by
    show win0_15.index t 1 * 8 + 1 * s.val = s.val
    rw [hi]; show 0 * 8 + 1 * s.val = s.val; omega)
  have e2 : (win0_15.blk t).view.emb (ix3 0 s j : S1x8x2816.Idx) 2 = j := Fin.ext (by
    show win0_15.index t 2 * 2816 + 1 * j.val = j.val
    rw [hi]; show 0 * 2816 + 1 * j.val = j.val; omega)
  rw [e0, e1, e2]
  unfold Cert.Ffn.nf Cert.Ffn.xp
  have hs := s.isLt
  rw [dif_pos ⟨by omega, by omega⟩]
  exact congrArg (fun q => Cert.Ffn.hg _ _ q j) (Fin.ext (by
    show t.val % 8 * 512 + (504 + s.val) = 4090 + s.val - 2; omega))

end Cert.Kernel2Ideal.Hand

end
-- ==== Proof.MixSpec.lean ====
module

public import proofs.«01_k».proof.Proof.Gen.Reference3Ideal.Run
public import Idealize.ShloMosaic.Lib.Pointwise

/-! The input projection and the two convolutions, row by row: every intermediate array of the reference as a function
    of a group `b`, a row `t` and a column, over the argument arrays, and the reference's composed terms read as these
    functions. -/

@[expose] public section

set_option maxRecDepth 16384

noncomputable section

open Idealize.ShloMosaic Idealize.ShloMosaic.TcCoe Idealize.SL.Sem
open scoped BigOperators

namespace Cert.Mix

open Cert.Reference3Ideal

/-- The argument arrays of the call. -/
structure Args where
  x : FVec Ideal S8x4096x1024 .f32
  mod : FVec Ideal S8x6144 .f32
  gp : FVec Ideal S1024 .f32
  wi : FVec Ideal S1024x2816 .f32
  aw : FVec Ideal S31x256 .f32
  ab : FVec Ideal S256 .f32
  lg : FVec Ideal S256 .f32
  lb : FVec Ideal S256 .f32
  bw : FVec Ideal S3x256 .f32
  ga : FVec Ideal S256 .f32
  gb : FVec Ideal S256 .f32

/-- The constant added to a mean square. -/
def eps : EReal := Ideal.ofBits .f32 0x358637BD#32
/-- The mean of a row of 256 entries. -/
def m256 (f : Fin 256 → EReal) : EReal := Ideal.div (∑ k : Fin 256, f k) (Ideal.ofBits .f32 0x43800000#32)
/-- The reciprocal root mean square of a row of 256 entries. -/
def r256 (f : Fin 256 → EReal) : EReal := Ideal.rsqrt (m256 (fun k => f k * f k) + eps)
/-- The reciprocal root mean square of a row of 1024 entries. -/
def r1024 (f : Fin 1024 → EReal) : EReal :=
  Ideal.rsqrt (Ideal.div (∑ k : Fin 1024, f k * f k) (Ideal.ofBits .f32 0x44800000#32) + eps)
/-- The logistic function. -/
def sgm (x : EReal) : EReal := Ideal.div 1 (1 + Ideal.exp (-x))

/-- A sum over 31 taps, written out. -/
theorem sum31 (f : ℕ → EReal) : ∑ k : Fin 31, f k.val = f 0 + f 1 + f 2 + f 3 + f 4 + f 5 + f 6 + f 7 + f 8 + f 9 + f 10
    + f 11 + f 12 + f 13 + f 14 + f 15 + f 16 + f 17 + f 18 + f 19 + f 20 + f 21 + f 22 + f 23 + f 24 + f 25 + f 26 + f 27
    + f 28 + f 29 + f 30 := by
  rw [← Finset.sum_range]
  simp only [Finset.sum_range_succ, Finset.sum_range_zero, zero_add]

variable (A : Args)

/-- A block of the modulation row: the columns from `o` on. -/
def md (o : ℕ) (h : o + 1024 ≤ 6144) (b : Fin 8) (j : Fin 1024) : EReal :=
  A.mod (ix2 b ⟨o + j.val, by have := j.isLt; omega⟩)

/-- The modulated, normalised input. -/
def hh (b : Fin 8) (t : Fin 4096) (k : Fin 1024) : EReal :=
  A.x (ix3 b t k) * r1024 (fun l => A.x (ix3 b t l)) * A.gp (ix1 k) * (1 + md A 1024 (by decide) b k) + md A 0 (by decide) b k
/-- The combined projection. -/
def zz (b : Fin 8) (t : Fin 4096) (n : Fin 2816) : EReal := ∑ k : Fin 1024, hh A b t k * A.wi (ix2 k n)
/-- A block of the combined projection: the columns from `o` on. -/
def zc (o : ℕ) (h : o + 256 ≤ 2816) (b : Fin 8) (t : Fin 4096) (j : Fin 256) : EReal :=
  zz A b t ⟨o + j.val, by have := j.isLt; omega⟩
/-- The gated rows of the first group. -/
def aa (b : Fin 8) (t : Fin 4096) (j : Fin 256) : EReal := zc A 0 (by decide) b t j * sgm (zc A 256 (by decide) b t j)
/-- They, behind thirty rows of zeros. -/
def xa (b : Fin 8) (s : ℕ) (j : Fin 256) : EReal := if h : 30 ≤ s ∧ s < 4126 then aa A b ⟨s - 30, by omega⟩ j else 0
/-- The taps, by their number. -/
def wa (k : ℕ) (j : Fin 256) : EReal := if h : k < 31 then A.aw (ix2 ⟨k, h⟩ j) else 0
/-- The convolution of 31 taps along the rows. -/
def ca (b : Fin 8) (t : ℕ) (j : Fin 256) : EReal := ∑ k : Fin 31, xa A b (k.val + t) j * wa A k.val j
/-- With its bias. -/
def la (b : Fin 8) (t : ℕ) (j : Fin 256) : EReal := ca A b t j + A.ab (ix1 j)
/-- Centred. -/
def lc (b : Fin 8) (t : ℕ) (j : Fin 256) : EReal := la A b t j - m256 (la A b t)
/-- The layer normalisation. -/
def ln (b : Fin 8) (t : ℕ) (j : Fin 256) : EReal := lc A b t j * r256 (lc A b t) * A.lg (ix1 j) + A.lb (ix1 j)
/-- The swish of it. -/
def sw (b : Fin 8) (t : ℕ) (j : Fin 256) : EReal := ln A b t j * sgm (ln A b t j)
/-- The first group, normalised. -/
def na (b : Fin 8) (t : ℕ) (j : Fin 256) : EReal := sw A b t j * r256 (sw A b t) * A.ga (ix1 j)
/-- The rows that the short convolution reads. -/
def ub (b : Fin 8) (t : Fin 4096) (j : Fin 256) : EReal := zc A 1024 (by decide) b t j * zc A 512 (by decide) b t j
/-- They, behind two rows of zeros. -/
def xb (b : Fin 8) (s : ℕ) (j : Fin 256) : EReal := if h : 2 ≤ s ∧ s < 4098 then ub A b ⟨s - 2, by omega⟩ j else 0
/-- The convolution of three taps along the rows. -/
def cb (b : Fin 8) (t : ℕ) (j : Fin 256) : EReal :=
  xb A b t j * A.bw (ix2 0 j) + xb A b (1 + t) j * A.bw (ix2 1 j) + xb A b (2 + t) j * A.bw (ix2 2 j)
/-- The gated convolution. -/
def bo (b : Fin 8) (t : Fin 4096) (j : Fin 256) : EReal := zc A 768 (by decide) b t j * cb A b t.val j
/-- The second group, normalised. -/
def nb (b : Fin 8) (t : Fin 4096) (j : Fin 256) : EReal := bo A b t j * r256 (bo A b t) * A.gb (ix1 j)
/-- The two groups side by side. -/
def mixab (b : Fin 8) (t : Fin 4096) (j : Fin 512) : EReal :=
  if h : j.val < 256 then na A b t.val ⟨j.val, h⟩ else nb A b t ⟨j.val - 256, by have := j.isLt; omega⟩
/-- The queries, keys or values: the columns from `o` on, by pairs of heads. -/
def pairs (o : ℕ) (h : o + 512 ≤ 2816) (b : Fin 8) (g : Fin 4) (t : Fin 4096) (l : Fin 128) : EReal :=
  zz A b t ⟨o + (g.val * 128 + l.val), by have := g.isLt; have := l.isLt; omega⟩
/-- The kept keys or values, transposed. -/
def kept (o : ℕ) (h : o + 512 ≤ 2816) (b : Fin 8) (c : Fin 512) (t : Fin 2048) : EReal :=
  zz A b ⟨2048 + t.val, by have := t.isLt; omega⟩ ⟨o + c.val, by have := c.isLt; omega⟩
/-- The last rows before the long convolution. -/
def newa (b : Fin 8) (s : Fin 32) (j : Fin 256) : EReal := xa A b (4094 + s.val) j
/-- The last rows before the short convolution. -/
def newb (b : Fin 8) (s : Fin 8) (j : Fin 256) : EReal := xb A b (4090 + s.val) j

open Cert.Reference3Ideal.Gen Cert.Reference3Ideal.Value

/-- The argument arrays a valuation holds. -/
def argsOf (V0 : Valuation τ sig (Elt Ideal)) : Args where
  x := V0 (Proc.devRef .tc main_arg0)
  mod := V0 (Proc.devRef .tc main_arg1)
  gp := V0 (Proc.devRef .tc main_arg2)
  wi := V0 (Proc.devRef .tc main_arg3)
  aw := V0 (Proc.devRef .tc main_arg4)
  ab := V0 (Proc.devRef .tc main_arg5)
  lg := V0 (Proc.devRef .tc main_arg6)
  lb := V0 (Proc.devRef .tc main_arg7)
  bw := V0 (Proc.devRef .tc main_arg8)
  ga := V0 (Proc.devRef .tc main_arg9)
  gb := V0 (Proc.devRef .tc main_arg10)

variable (V0 : Valuation τ sig (Elt Ideal))

theorem ref_zz (b : Fin 8) (t : Fin 4096) (n : Fin 2816) :
    (res_main_v31 V0 : FVec Ideal S8x4096x2816 .f32) (ix3 b t n) = zz (argsOf V0) b t n := by
  pointwise [res_main_v31]
  rfl

theorem ref_xa (b : Fin 8) (s : Fin 4126) (j : Fin 256) :
    (res_main_v48 V0 : FVec Ideal S8x4126x256 .f32) (ix3 b s j) = xa (argsOf V0) b s.val j := by
  pointwise [res_main_v48, ref_zz]
  unfold xa
  have hs := s.isLt
  by_cases h : s.val < 30
  · rw [dif_pos h, dif_neg (by omega)]
  · rw [dif_neg h, dif_pos (by omega)]
    unfold aa zc sgm
    congr 5
    simp

theorem ref_la (b : Fin 8) (t : Fin 4096) (j : Fin 256) :
    (res_main_v267 V0 : FVec Ideal S8x4096x256 .f32) (ix3 b t j) = la (argsOf V0) b t.val j := by
  pointwise [res_main_v267, res_main_v201, res_main_v124, ref_xa]
  unfold la ca
  rw [sum31 (fun k => xa (argsOf V0) b (k + t.val) j * wa (argsOf V0) k j)]
  simp only [Nat.zero_add]
  rfl

theorem ref_lc (b : Fin 8) (t : Fin 4096) (j : Fin 256) :
    (res_main_v273 V0 : FVec Ideal S8x4096x256 .f32) (ix3 b t j) = lc (argsOf V0) b t.val j := by
  pointwise [res_main_v273, ref_la]
  rfl

theorem ref_ln (b : Fin 8) (t : Fin 4096) (j : Fin 256) :
    (res_main_v289 V0 : FVec Ideal S8x4096x256 .f32) (ix3 b t j) = ln (argsOf V0) b t.val j := by
  pointwise [res_main_v289, ref_lc]
  rfl

theorem ref_sw (b : Fin 8) (t : Fin 4096) (j : Fin 256) :
    (res_main_v290 V0 : FVec Ideal S8x4096x256 .f32) (ix3 b t j) = sw (argsOf V0) b t.val j := by
  pointwise [res_main_v290, ref_ln]
  rfl

theorem ref_xb (b : Fin 8) (s : Fin 4098) (j : Fin 256) :
    (res_main_v293 V0 : FVec Ideal S8x4098x256 .f32) (ix3 b s j) = xb (argsOf V0) b s.val j := by
  pointwise [res_main_v293, ref_zz]
  unfold xb
  have hs := s.isLt
  by_cases h : s.val < 2
  · rw [dif_pos h, dif_neg (by omega)]
  · rw [dif_neg h, dif_pos (by omega)]
    rfl

theorem ref_bo (b : Fin 8) (t : Fin 4096) (j : Fin 256) :
    (res_main_v314 V0 : FVec Ideal S8x4096x256 .f32) (ix3 b t j) = bo (argsOf V0) b t j := by
  pointwise [res_main_v314, ref_zz, ref_xb]
  rfl

/-- The reference's first result, from the run's composed term. -/
theorem ref_mixab (b : Fin 8) (t : Fin 4096) (j : Fin 512) :
    ((truncf .bf16 (concatenate S8x4096x512 2 [⟨S8x4096x256, (mulf (mulf (res_main_v290 V0) (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf (res_main_v290 V0) (res_main_v290 V0)) (constant S_ .f32 0x00000000#32) reducesTo_S8x4096x256_S8x4096_d2 h_S_)) (broadcastInDim S8x4096x1 ![] bcast_S_S8x4096x1 (constant S_ .f32 0x43800000#32))) (broadcastInDim S8x4096x1 ![] bcast_S_S8x4096x1 (constant S_ .f32 0x358637BD#32)))))) (broadcastInDim S8x4096x256 ![0, 1, 2] bcast_S1x1x256_S8x4096x256_0_1_2 (broadcastInDim S1x1x256 ![2] bcast_S256_S1x1x256_2 (V0 (Proc.devRef .tc main_arg9)))))⟩, ⟨S8x4096x256, (mulf (mulf (res_main_v314 V0) (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf (res_main_v314 V0) (res_main_v314 V0)) (constant S_ .f32 0x00000000#32) reducesTo_S8x4096x256_S8x4096_d2 h_S_)) (broadcastInDim S8x4096x1 ![] bcast_S_S8x4096x1 (constant S_ .f32 0x43800000#32))) (broadcastInDim S8x4096x1 ![] bcast_S_S8x4096x1 (constant S_ .f32 0x358637BD#32)))))) (broadcastInDim S8x4096x256 ![0, 1, 2] bcast_S1x1x256_S8x4096x256_0_1_2 (broadcastInDim S1x1x256 ![2] bcast_S256_S1x1x256_2 (V0 (Proc.devRef .tc main_arg10)))))⟩] concatenates_S8x4096x256_S8x4096x256_S8x4096x512_d2) bitsLt_bf16_f32 : FVec Ideal S8x4096x512 .bf16)) (ix3 b t j)
      = mixab (argsOf V0) b t j := by
  pointwise [ref_sw, ref_bo]
  rfl

/-- The queries. -/
theorem ref_q (b : Fin 8) (g : Fin 4) (t : Fin 4096) (l : Fin 128) :
    ((transpose S8x4x4096x128 [0, 2, 1, 3] (shapeCast _ (extractStridedSlice S8x4096x512 ![0, 0, 1280] (res_main_v31 V0) slices_S8x4096x2816_S8x4096x512_0_0_1280) shapeCasts_S8x4096x512_S8x4096x4x128) transposes_S8x4096x4x128_S8x4x4096x128_0_2_1_3 : FVec Ideal S8x4x4096x128 .f32)) (ix4 b g t l)
      = pairs (argsOf V0) 1280 (by decide) b g t l := by
  pointwise [ref_zz]
  rfl

/-- The keys. -/
theorem ref_k (b : Fin 8) (g : Fin 4) (t : Fin 4096) (l : Fin 128) :
    ((transpose S8x4x4096x128 [0, 2, 1, 3] (shapeCast _ (res_main_v38 V0) shapeCasts_S8x4096x512_S8x4096x4x128) transposes_S8x4096x4x128_S8x4x4096x128_0_2_1_3 : FVec Ideal S8x4x4096x128 .f32)) (ix4 b g t l)
      = pairs (argsOf V0) 1792 (by decide) b g t l := by
  pointwise [res_main_v38, ref_zz]
  rfl

/-- The values. -/
theorem ref_v (b : Fin 8) (g : Fin 4) (t : Fin 4096) (l : Fin 128) :
    ((transpose S8x4x4096x128 [0, 2, 1, 3] (shapeCast _ (res_main_v39 V0) shapeCasts_S8x4096x512_S8x4096x4x128) transposes_S8x4096x4x128_S8x4x4096x128_0_2_1_3 : FVec Ideal S8x4x4096x128 .f32)) (ix4 b g t l)
      = pairs (argsOf V0) 2304 (by decide) b g t l := by
  pointwise [res_main_v39, ref_zz]
  rfl

/-- The last rows before the long convolution. -/
theorem ref_newa (b : Fin 8) (s : Fin 32) (j : Fin 256) :
    ((extractStridedSlice S8x32x256 ![0, 4094, 0] (res_main_v48 V0) slices_S8x4126x256_S8x32x256_0_4094_0 : FVec Ideal S8x32x256 .f32)) (ix3 b s j)
      = newa (argsOf V0) b s j := by
  pointwise [ref_xa]
  rfl

/-- The last rows before the short convolution. -/
theorem ref_newb (b : Fin 8) (s : Fin 8) (j : Fin 256) :
    ((extractStridedSlice S8x8x256 ![0, 4090, 0] (res_main_v293 V0) slices_S8x4098x256_S8x8x256_0_4090_0 : FVec Ideal S8x8x256 .f32)) (ix3 b s j)
      = newb (argsOf V0) b s j := by
  pointwise [ref_xb]
  rfl

/-- The kept keys. -/
theorem ref_keptk (b : Fin 8) (c : Fin 512) (t : Fin 2048) :
    ((broadcastInDim S1x8x512x2048 ![1, 2, 3] bcast_S8x512x2048_S1x8x512x2048_1_2_3 (transpose S8x512x2048 [0, 2, 1] (extractStridedSlice S8x2048x512 ![0, 2048, 0] (res_main_v38 V0) slices_S8x4096x512_S8x2048x512_0_2048_0) transposes_S8x2048x512_S8x512x2048_0_2_1) : FVec Ideal S1x8x512x2048 .f32)) (ix4 0 b c t)
      = kept (argsOf V0) 1792 (by decide) b c t := by
  pointwise [res_main_v38, ref_zz]
  rfl

/-- The kept values. -/
theorem ref_keptv (b : Fin 8) (c : Fin 512) (t : Fin 2048) :
    ((broadcastInDim S1x8x512x2048 ![1, 2, 3] bcast_S8x512x2048_S1x8x512x2048_1_2_3 (transpose S8x512x2048 [0, 2, 1] (extractStridedSlice S8x2048x512 ![0, 2048, 0] (res_main_v39 V0) slices_S8x4096x512_S8x2048x512_0_2048_0) transposes_S8x2048x512_S8x512x2048_0_2_1) : FVec Ideal S1x8x512x2048 .f32)) (ix4 0 b c t)
      = kept (argsOf V0) 2304 (by decide) b c t := by
  pointwise [res_main_v39, ref_zz]
  rfl

end Cert.Mix

end
-- ==== Proof.MixChunks.lean ====
module

public import proofs.«01_k».proof.Proof.Gen.Kernel3Ideal.Value
public import proofs.«01_k».proof.Proof.MixSpec
public import Idealize.ShloMosaic.Lib.Pipeline.ValueKit

/-! The long convolution of a tile, in eight chunks of 64 rows: each chunk's sum of 31 shifted products, which the body
    adds in groups, is the convolution's sum in the order of the taps. Stated over any row buffer `B` and any taps `W`. -/

@[expose] public section

set_option maxRecDepth 16384

noncomputable section

open Idealize.ShloMosaic Idealize.ShloMosaic.TcCoe Idealize.SL.Sem
open scoped BigOperators

namespace Cert.Kernel3Ideal.Hand

open Cert.Kernel3Ideal Cert.Kernel3Ideal.Gen
open Cert.Mix (sum31)

variable (B : Vec Ideal S544x256 .f32) (W : Vec Ideal S31x256 .f32)

/-- Rows 0 to 63 of the convolution, as the body adds them. -/
def chunk0 : FVec Ideal S64x256 .f32 :=
    (k0_pay39 (k0_pay37 (k0_pay35 (k0_pay34 (k0_pay32 (k0_pay31 (View.ld (Val := Elt Ideal) B (Rect.unit ![8, 0] ![64, 256] inb_S544x256_S64x256_8_0))
    (View.ld (Val := Elt Ideal) W (Rect.unit ![6, 0] ![1, 256] inb_S31x256_S1x256_6_0)) (View.ld (Val := Elt Ideal) B (Rect.unit ![16, 0] ![64, 256]
    inb_S544x256_S64x256_16_0)) (View.ld (Val := Elt Ideal) W (Rect.unit ![14, 0] ![1, 256] inb_S31x256_S1x256_14_0))) (View.ld (Val := Elt Ideal) B
    (Rect.unit ![24, 0] ![64, 256] inb_S544x256_S64x256_24_0)) (View.ld (Val := Elt Ideal) W (Rect.unit ![22, 0] ![1, 256] inb_S31x256_S1x256_22_0))
    (View.ld (Val := Elt Ideal) B (Rect.unit ![32, 0] ![64, 256] inb_S544x256_S64x256_32_0)) (View.ld (Val := Elt Ideal) W (Rect.unit ![30, 0] ![1,
    256] inb_S31x256_S1x256_30_0)) (View.ld (Val := Elt Ideal) B (Rect.unit ![8, 0] ![72, 256] inb_S544x256_S72x256_8_0)) (View.ld (Val := Elt Ideal)
    W (Rect.unit ![7, 0] ![1, 256] inb_S31x256_S1x256_7_0)) (View.ld (Val := Elt Ideal) B (Rect.unit ![16, 0] ![72, 256] inb_S544x256_S72x256_16_0))
    (View.ld (Val := Elt Ideal) W (Rect.unit ![15, 0] ![1, 256] inb_S31x256_S1x256_15_0)) (View.ld (Val := Elt Ideal) B (Rect.unit ![24, 0] ![72, 256]
    inb_S544x256_S72x256_24_0)) (View.ld (Val := Elt Ideal) W (Rect.unit ![23, 0] ![1, 256] inb_S31x256_S1x256_23_0))) (k0_pay33 (View.ld (Val := Elt
    Ideal) B (Rect.unit ![0, 0] ![72, 256] inb_S544x256_S72x256_0_0)) (View.ld (Val := Elt Ideal) W (Rect.unit ![0, 0] ![1, 256]
    inb_S31x256_S1x256_0_0)) (View.ld (Val := Elt Ideal) B (Rect.unit ![8, 0] ![72, 256] inb_S544x256_S72x256_8_0)) (View.ld (Val := Elt Ideal) W
    (Rect.unit ![8, 0] ![1, 256] inb_S31x256_S1x256_8_0))) (View.ld (Val := Elt Ideal) B (Rect.unit ![16, 0] ![72, 256] inb_S544x256_S72x256_16_0))
    (View.ld (Val := Elt Ideal) W (Rect.unit ![16, 0] ![1, 256] inb_S31x256_S1x256_16_0)) (View.ld (Val := Elt Ideal) B (Rect.unit ![24, 0] ![72, 256]
    inb_S544x256_S72x256_24_0)) (View.ld (Val := Elt Ideal) W (Rect.unit ![24, 0] ![1, 256] inb_S31x256_S1x256_24_0)) (View.ld (Val := Elt Ideal) B
    (Rect.unit ![0, 0] ![72, 256] inb_S544x256_S72x256_0_0)) (View.ld (Val := Elt Ideal) W (Rect.unit ![1, 0] ![1, 256] inb_S31x256_S1x256_1_0))
    (View.ld (Val := Elt Ideal) B (Rect.unit ![8, 0] ![72, 256] inb_S544x256_S72x256_8_0)) (View.ld (Val := Elt Ideal) W (Rect.unit ![9, 0] ![1, 256]
    inb_S31x256_S1x256_9_0)) (View.ld (Val := Elt Ideal) B (Rect.unit ![16, 0] ![72, 256] inb_S544x256_S72x256_16_0)) (View.ld (Val := Elt Ideal) W
    (Rect.unit ![17, 0] ![1, 256] inb_S31x256_S1x256_17_0)) (View.ld (Val := Elt Ideal) B (Rect.unit ![24, 0] ![72, 256] inb_S544x256_S72x256_24_0))
    (View.ld (Val := Elt Ideal) W (Rect.unit ![25, 0] ![1, 256] inb_S31x256_S1x256_25_0))) (View.ld (Val := Elt Ideal) B (Rect.unit ![0, 0] ![72, 256]
    inb_S544x256_S72x256_0_0)) (View.ld (Val := Elt Ideal) W (Rect.unit ![2, 0] ![1, 256] inb_S31x256_S1x256_2_0)) (View.ld (Val := Elt Ideal) B
    (Rect.unit ![8, 0] ![72, 256] inb_S544x256_S72x256_8_0)) (View.ld (Val := Elt Ideal) W (Rect.unit ![10, 0] ![1, 256] inb_S31x256_S1x256_10_0))
    (View.ld (Val := Elt Ideal) B (Rect.unit ![16, 0] ![72, 256] inb_S544x256_S72x256_16_0)) (View.ld (Val := Elt Ideal) W (Rect.unit ![18, 0] ![1,
    256] inb_S31x256_S1x256_18_0)) (View.ld (Val := Elt Ideal) B (Rect.unit ![24, 0] ![72, 256] inb_S544x256_S72x256_24_0)) (View.ld (Val := Elt
    Ideal) W (Rect.unit ![26, 0] ![1, 256] inb_S31x256_S1x256_26_0))) (k0_pay36 (View.ld (Val := Elt Ideal) B (Rect.unit ![0, 0] ![72, 256]
    inb_S544x256_S72x256_0_0)) (View.ld (Val := Elt Ideal) W (Rect.unit ![3, 0] ![1, 256] inb_S31x256_S1x256_3_0)) (View.ld (Val := Elt Ideal) B
    (Rect.unit ![8, 0] ![72, 256] inb_S544x256_S72x256_8_0)) (View.ld (Val := Elt Ideal) W (Rect.unit ![11, 0] ![1, 256] inb_S31x256_S1x256_11_0))
    (View.ld (Val := Elt Ideal) B (Rect.unit ![16, 0] ![72, 256] inb_S544x256_S72x256_16_0)) (View.ld (Val := Elt Ideal) W (Rect.unit ![19, 0] ![1,
    256] inb_S31x256_S1x256_19_0))) (View.ld (Val := Elt Ideal) B (Rect.unit ![24, 0] ![72, 256] inb_S544x256_S72x256_24_0)) (View.ld (Val := Elt
    Ideal) W (Rect.unit ![27, 0] ![1, 256] inb_S31x256_S1x256_27_0)) (View.ld (Val := Elt Ideal) B (Rect.unit ![0, 0] ![72, 256]
    inb_S544x256_S72x256_0_0)) (View.ld (Val := Elt Ideal) W (Rect.unit ![4, 0] ![1, 256] inb_S31x256_S1x256_4_0)) (View.ld (Val := Elt Ideal) B
    (Rect.unit ![8, 0] ![72, 256] inb_S544x256_S72x256_8_0)) (View.ld (Val := Elt Ideal) W (Rect.unit ![12, 0] ![1, 256] inb_S31x256_S1x256_12_0))
    (View.ld (Val := Elt Ideal) B (Rect.unit ![16, 0] ![72, 256] inb_S544x256_S72x256_16_0)) (View.ld (Val := Elt Ideal) W (Rect.unit ![20, 0] ![1,
    256] inb_S31x256_S1x256_20_0)) (View.ld (Val := Elt Ideal) B (Rect.unit ![24, 0] ![72, 256] inb_S544x256_S72x256_24_0)) (View.ld (Val := Elt
    Ideal) W (Rect.unit ![28, 0] ![1, 256] inb_S31x256_S1x256_28_0))) (k0_pay38 (View.ld (Val := Elt Ideal) B (Rect.unit ![0, 0] ![72, 256]
    inb_S544x256_S72x256_0_0)) (View.ld (Val := Elt Ideal) W (Rect.unit ![5, 0] ![1, 256] inb_S31x256_S1x256_5_0))) (View.ld (Val := Elt Ideal) B
    (Rect.unit ![8, 0] ![72, 256] inb_S544x256_S72x256_8_0)) (View.ld (Val := Elt Ideal) W (Rect.unit ![13, 0] ![1, 256] inb_S31x256_S1x256_13_0))
    (View.ld (Val := Elt Ideal) B (Rect.unit ![16, 0] ![72, 256] inb_S544x256_S72x256_16_0)) (View.ld (Val := Elt Ideal) W (Rect.unit ![21, 0] ![1,
    256] inb_S31x256_S1x256_21_0)) (View.ld (Val := Elt Ideal) B (Rect.unit ![24, 0] ![72, 256] inb_S544x256_S72x256_24_0)) (View.ld (Val := Elt
    Ideal) W (Rect.unit ![29, 0] ![1, 256] inb_S31x256_S1x256_29_0)))

theorem chunk0_at {β ω : ℕ → Fin 256 → EReal} (hB : ∀ (s : Fin 544) (j : Fin 256), B (ix2 s j) = β s.val j)
    (hW : ∀ (k : Fin 31) (j : Fin 256), W (ix2 k j) = ω k.val j) (r : Fin 64) (j : Fin 256) :
    chunk0 B W (ix2 r j) = ∑ k : Fin 31, β (2 + k.val + r.val) j * ω k.val j := by
  unfold chunk0
  pointwise [k0_pay31, k0_pay32, k0_pay33, k0_pay34, k0_pay35, k0_pay36, k0_pay37, k0_pay38, k0_pay39, hB, hW]
  rw [sum31 (fun k => β (2 + k + r.val) j * ω k j)]
  simp only [← Nat.add_assoc, Nat.reduceAdd, Nat.add_zero, Nat.zero_add]
  ac_rfl

/-- Rows 64 to 127 of the convolution, as the body adds them. -/
def chunk1 : FVec Ideal S64x256 .f32 :=
    (k0_pay49 (k0_pay47 (k0_pay46 (k0_pay44 (k0_pay41 (k0_pay40 (View.ld (Val := Elt Ideal) B (Rect.unit ![72, 0] ![64, 256]
    inb_S544x256_S64x256_72_0)) (View.ld (Val := Elt Ideal) W (Rect.unit ![6, 0] ![1, 256] inb_S31x256_S1x256_6_0)) (View.ld (Val := Elt Ideal) B
    (Rect.unit ![80, 0] ![64, 256] inb_S544x256_S64x256_80_0)) (View.ld (Val := Elt Ideal) W (Rect.unit ![14, 0] ![1, 256] inb_S31x256_S1x256_14_0))
    (View.ld (Val := Elt Ideal) B (Rect.unit ![88, 0] ![64, 256] inb_S544x256_S64x256_88_0)) (View.ld (Val := Elt Ideal) W (Rect.unit ![22, 0] ![1,
    256] inb_S31x256_S1x256_22_0)) (View.ld (Val := Elt Ideal) B (Rect.unit ![96, 0] ![64, 256] inb_S544x256_S64x256_96_0)) (View.ld (Val := Elt
    Ideal) W (Rect.unit ![30, 0] ![1, 256] inb_S31x256_S1x256_30_0))) (View.ld (Val := Elt Ideal) B (Rect.unit ![72, 0] ![72, 256]
    inb_S544x256_S72x256_72_0)) (View.ld (Val := Elt Ideal) W (Rect.unit ![7, 0] ![1, 256] inb_S31x256_S1x256_7_0)) (View.ld (Val := Elt Ideal) B
    (Rect.unit ![80, 0] ![72, 256] inb_S544x256_S72x256_80_0)) (View.ld (Val := Elt Ideal) W (Rect.unit ![15, 0] ![1, 256] inb_S31x256_S1x256_15_0))
    (View.ld (Val := Elt Ideal) B (Rect.unit ![88, 0] ![72, 256] inb_S544x256_S72x256_88_0)) (View.ld (Val := Elt Ideal) W (Rect.unit ![23, 0] ![1,
    256] inb_S31x256_S1x256_23_0))) (k0_pay42 (View.ld (Val := Elt Ideal) B (Rect.unit ![64, 0] ![72, 256] inb_S544x256_S72x256_64_0)) (View.ld (Val
    := Elt Ideal) W (Rect.unit ![0, 0] ![1, 256] inb_S31x256_S1x256_0_0)) (View.ld (Val := Elt Ideal) B (Rect.unit ![72, 0] ![72, 256]
    inb_S544x256_S72x256_72_0)) (View.ld (Val := Elt Ideal) W (Rect.unit ![8, 0] ![1, 256] inb_S31x256_S1x256_8_0)) (View.ld (Val := Elt Ideal) B
    (Rect.unit ![80, 0] ![72, 256] inb_S544x256_S72x256_80_0)) (View.ld (Val := Elt Ideal) W (Rect.unit ![16, 0] ![1, 256] inb_S31x256_S1x256_16_0)))
    (View.ld (Val := Elt Ideal) B (Rect.unit ![88, 0] ![72, 256] inb_S544x256_S72x256_88_0)) (k0_pay43 (View.ld (Val := Elt Ideal) W (Rect.unit ![24,
    0] ![1, 256] inb_S31x256_S1x256_24_0))) (View.ld (Val := Elt Ideal) B (Rect.unit ![64, 0] ![72, 256] inb_S544x256_S72x256_64_0)) (View.ld (Val :=
    Elt Ideal) W (Rect.unit ![1, 0] ![1, 256] inb_S31x256_S1x256_1_0)) (View.ld (Val := Elt Ideal) B (Rect.unit ![72, 0] ![72, 256]
    inb_S544x256_S72x256_72_0)) (View.ld (Val := Elt Ideal) W (Rect.unit ![9, 0] ![1, 256] inb_S31x256_S1x256_9_0)) (View.ld (Val := Elt Ideal) B
    (Rect.unit ![80, 0] ![72, 256] inb_S544x256_S72x256_80_0)) (View.ld (Val := Elt Ideal) W (Rect.unit ![17, 0] ![1, 256] inb_S31x256_S1x256_17_0))
    (View.ld (Val := Elt Ideal) B (Rect.unit ![88, 0] ![72, 256] inb_S544x256_S72x256_88_0)) (View.ld (Val := Elt Ideal) W (Rect.unit ![25, 0] ![1,
    256] inb_S31x256_S1x256_25_0))) (k0_pay45 (View.ld (Val := Elt Ideal) B (Rect.unit ![64, 0] ![72, 256] inb_S544x256_S72x256_64_0)) (View.ld (Val
    := Elt Ideal) W (Rect.unit ![2, 0] ![1, 256] inb_S31x256_S1x256_2_0)) (View.ld (Val := Elt Ideal) B (Rect.unit ![72, 0] ![72, 256]
    inb_S544x256_S72x256_72_0)) (View.ld (Val := Elt Ideal) W (Rect.unit ![10, 0] ![1, 256] inb_S31x256_S1x256_10_0))) (View.ld (Val := Elt Ideal) B
    (Rect.unit ![80, 0] ![72, 256] inb_S544x256_S72x256_80_0)) (View.ld (Val := Elt Ideal) W (Rect.unit ![18, 0] ![1, 256] inb_S31x256_S1x256_18_0))
    (View.ld (Val := Elt Ideal) B (Rect.unit ![88, 0] ![72, 256] inb_S544x256_S72x256_88_0)) (View.ld (Val := Elt Ideal) W (Rect.unit ![26, 0] ![1,
    256] inb_S31x256_S1x256_26_0)) (View.ld (Val := Elt Ideal) B (Rect.unit ![64, 0] ![72, 256] inb_S544x256_S72x256_64_0)) (View.ld (Val := Elt
    Ideal) W (Rect.unit ![3, 0] ![1, 256] inb_S31x256_S1x256_3_0)) (View.ld (Val := Elt Ideal) B (Rect.unit ![72, 0] ![72, 256]
    inb_S544x256_S72x256_72_0)) (View.ld (Val := Elt Ideal) W (Rect.unit ![11, 0] ![1, 256] inb_S31x256_S1x256_11_0)) (View.ld (Val := Elt Ideal) B
    (Rect.unit ![80, 0] ![72, 256] inb_S544x256_S72x256_80_0)) (View.ld (Val := Elt Ideal) W (Rect.unit ![19, 0] ![1, 256] inb_S31x256_S1x256_19_0))
    (View.ld (Val := Elt Ideal) B (Rect.unit ![88, 0] ![72, 256] inb_S544x256_S72x256_88_0)) (View.ld (Val := Elt Ideal) W (Rect.unit ![27, 0] ![1,
    256] inb_S31x256_S1x256_27_0))) (View.ld (Val := Elt Ideal) B (Rect.unit ![64, 0] ![72, 256] inb_S544x256_S72x256_64_0)) (View.ld (Val := Elt
    Ideal) W (Rect.unit ![4, 0] ![1, 256] inb_S31x256_S1x256_4_0)) (View.ld (Val := Elt Ideal) B (Rect.unit ![72, 0] ![72, 256]
    inb_S544x256_S72x256_72_0)) (View.ld (Val := Elt Ideal) W (Rect.unit ![12, 0] ![1, 256] inb_S31x256_S1x256_12_0)) (View.ld (Val := Elt Ideal) B
    (Rect.unit ![80, 0] ![72, 256] inb_S544x256_S72x256_80_0)) (View.ld (Val := Elt Ideal) W (Rect.unit ![20, 0] ![1, 256] inb_S31x256_S1x256_20_0))
    (View.ld (Val := Elt Ideal) B (Rect.unit ![88, 0] ![72, 256] inb_S544x256_S72x256_88_0)) (View.ld (Val := Elt Ideal) W (Rect.unit ![28, 0] ![1,
    256] inb_S31x256_S1x256_28_0))) (k0_pay48 (View.ld (Val := Elt Ideal) B (Rect.unit ![64, 0] ![72, 256] inb_S544x256_S72x256_64_0)) (View.ld (Val
    := Elt Ideal) W (Rect.unit ![5, 0] ![1, 256] inb_S31x256_S1x256_5_0)) (View.ld (Val := Elt Ideal) B (Rect.unit ![72, 0] ![72, 256]
    inb_S544x256_S72x256_72_0)) (View.ld (Val := Elt Ideal) W (Rect.unit ![13, 0] ![1, 256] inb_S31x256_S1x256_13_0)) (View.ld (Val := Elt Ideal) B
    (Rect.unit ![80, 0] ![72, 256] inb_S544x256_S72x256_80_0)) (View.ld (Val := Elt Ideal) W (Rect.unit ![21, 0] ![1, 256] inb_S31x256_S1x256_21_0)))
    (View.ld (Val := Elt Ideal) B (Rect.unit ![88, 0] ![72, 256] inb_S544x256_S72x256_88_0)) (View.ld (Val := Elt Ideal) W (Rect.unit ![29, 0] ![1,
    256] inb_S31x256_S1x256_29_0)))

theorem chunk1_at {β ω : ℕ → Fin 256 → EReal} (hB : ∀ (s : Fin 544) (j : Fin 256), B (ix2 s j) = β s.val j)
    (hW : ∀ (k : Fin 31) (j : Fin 256), W (ix2 k j) = ω k.val j) (r : Fin 64) (j : Fin 256) :
    chunk1 B W (ix2 r j) = ∑ k : Fin 31, β (66 + k.val + r.val) j * ω k.val j := by
  unfold chunk1
  pointwise [k0_pay40, k0_pay41, k0_pay42, k0_pay43, k0_pay44, k0_pay45, k0_pay46, k0_pay47, k0_pay48, k0_pay49, hB, hW]
  rw [sum31 (fun k => β (66 + k + r.val) j * ω k j)]
  simp only [← Nat.add_assoc, Nat.reduceAdd, Nat.add_zero, Nat.zero_add]
  ac_rfl

/-- Rows 128 to 191 of the convolution, as the body adds them. -/
def chunk2 : FVec Ideal S64x256 .f32 :=
    (k0_pay60 (k0_pay58 (k0_pay55 (k0_pay53 (k0_pay50 (View.ld (Val := Elt Ideal) B (Rect.unit ![136, 0] ![64, 256] inb_S544x256_S64x256_136_0))
    (View.ld (Val := Elt Ideal) W (Rect.unit ![6, 0] ![1, 256] inb_S31x256_S1x256_6_0)) (View.ld (Val := Elt Ideal) B (Rect.unit ![144, 0] ![64, 256]
    inb_S544x256_S64x256_144_0)) (View.ld (Val := Elt Ideal) W (Rect.unit ![14, 0] ![1, 256] inb_S31x256_S1x256_14_0)) (View.ld (Val := Elt Ideal) B
    (Rect.unit ![152, 0] ![64, 256] inb_S544x256_S64x256_152_0)) (View.ld (Val := Elt Ideal) W (Rect.unit ![22, 0] ![1, 256] inb_S31x256_S1x256_22_0))
    (View.ld (Val := Elt Ideal) B (Rect.unit ![160, 0] ![64, 256] inb_S544x256_S64x256_160_0)) (View.ld (Val := Elt Ideal) W (Rect.unit ![30, 0] ![1,
    256] inb_S31x256_S1x256_30_0))) (k0_pay51 (View.ld (Val := Elt Ideal) B (Rect.unit ![136, 0] ![72, 256] inb_S544x256_S72x256_136_0)) (View.ld (Val
    := Elt Ideal) W (Rect.unit ![7, 0] ![1, 256] inb_S31x256_S1x256_7_0))) (k0_pay52 (View.ld (Val := Elt Ideal) B (Rect.unit ![144, 0] ![72, 256]
    inb_S544x256_S72x256_144_0)) (View.ld (Val := Elt Ideal) W (Rect.unit ![15, 0] ![1, 256] inb_S31x256_S1x256_15_0))) (View.ld (Val := Elt Ideal) B
    (Rect.unit ![152, 0] ![72, 256] inb_S544x256_S72x256_152_0)) (View.ld (Val := Elt Ideal) W (Rect.unit ![23, 0] ![1, 256] inb_S31x256_S1x256_23_0))
    (View.ld (Val := Elt Ideal) B (Rect.unit ![128, 0] ![72, 256] inb_S544x256_S72x256_128_0)) (View.ld (Val := Elt Ideal) W (Rect.unit ![0, 0] ![1,
    256] inb_S31x256_S1x256_0_0)) (View.ld (Val := Elt Ideal) B (Rect.unit ![136, 0] ![72, 256] inb_S544x256_S72x256_136_0)) (View.ld (Val := Elt
    Ideal) W (Rect.unit ![8, 0] ![1, 256] inb_S31x256_S1x256_8_0)) (View.ld (Val := Elt Ideal) B (Rect.unit ![144, 0] ![72, 256]
    inb_S544x256_S72x256_144_0)) (View.ld (Val := Elt Ideal) W (Rect.unit ![16, 0] ![1, 256] inb_S31x256_S1x256_16_0)) (View.ld (Val := Elt Ideal) B
    (Rect.unit ![152, 0] ![72, 256] inb_S544x256_S72x256_152_0)) (View.ld (Val := Elt Ideal) W (Rect.unit ![24, 0] ![1, 256]
    inb_S31x256_S1x256_24_0))) (k0_pay54 (View.ld (Val := Elt Ideal) B (Rect.unit ![128, 0] ![72, 256] inb_S544x256_S72x256_128_0)) (View.ld (Val :=
    Elt Ideal) W (Rect.unit ![1, 0] ![1, 256] inb_S31x256_S1x256_1_0))) (View.ld (Val := Elt Ideal) B (Rect.unit ![136, 0] ![72, 256]
    inb_S544x256_S72x256_136_0)) (View.ld (Val := Elt Ideal) W (Rect.unit ![9, 0] ![1, 256] inb_S31x256_S1x256_9_0)) (View.ld (Val := Elt Ideal) B
    (Rect.unit ![144, 0] ![72, 256] inb_S544x256_S72x256_144_0)) (View.ld (Val := Elt Ideal) W (Rect.unit ![17, 0] ![1, 256] inb_S31x256_S1x256_17_0))
    (View.ld (Val := Elt Ideal) B (Rect.unit ![152, 0] ![72, 256] inb_S544x256_S72x256_152_0)) (View.ld (Val := Elt Ideal) W (Rect.unit ![25, 0] ![1,
    256] inb_S31x256_S1x256_25_0))) (k0_pay56 (View.ld (Val := Elt Ideal) B (Rect.unit ![128, 0] ![72, 256] inb_S544x256_S72x256_128_0)) (View.ld (Val
    := Elt Ideal) W (Rect.unit ![2, 0] ![1, 256] inb_S31x256_S1x256_2_0)) (View.ld (Val := Elt Ideal) B (Rect.unit ![136, 0] ![72, 256]
    inb_S544x256_S72x256_136_0)) (View.ld (Val := Elt Ideal) W (Rect.unit ![10, 0] ![1, 256] inb_S31x256_S1x256_10_0)) (View.ld (Val := Elt Ideal) B
    (Rect.unit ![144, 0] ![72, 256] inb_S544x256_S72x256_144_0)) (View.ld (Val := Elt Ideal) W (Rect.unit ![18, 0] ![1, 256]
    inb_S31x256_S1x256_18_0))) (k0_pay57 (View.ld (Val := Elt Ideal) B (Rect.unit ![152, 0] ![72, 256] inb_S544x256_S72x256_152_0)) (View.ld (Val :=
    Elt Ideal) W (Rect.unit ![26, 0] ![1, 256] inb_S31x256_S1x256_26_0))) (View.ld (Val := Elt Ideal) B (Rect.unit ![128, 0] ![72, 256]
    inb_S544x256_S72x256_128_0)) (View.ld (Val := Elt Ideal) W (Rect.unit ![3, 0] ![1, 256] inb_S31x256_S1x256_3_0)) (View.ld (Val := Elt Ideal) B
    (Rect.unit ![136, 0] ![72, 256] inb_S544x256_S72x256_136_0)) (View.ld (Val := Elt Ideal) W (Rect.unit ![11, 0] ![1, 256] inb_S31x256_S1x256_11_0))
    (View.ld (Val := Elt Ideal) B (Rect.unit ![144, 0] ![72, 256] inb_S544x256_S72x256_144_0)) (View.ld (Val := Elt Ideal) W (Rect.unit ![19, 0] ![1,
    256] inb_S31x256_S1x256_19_0)) (View.ld (Val := Elt Ideal) B (Rect.unit ![152, 0] ![72, 256] inb_S544x256_S72x256_152_0)) (View.ld (Val := Elt
    Ideal) W (Rect.unit ![27, 0] ![1, 256] inb_S31x256_S1x256_27_0))) (k0_pay59 (View.ld (Val := Elt Ideal) B (Rect.unit ![128, 0] ![72, 256]
    inb_S544x256_S72x256_128_0)) (View.ld (Val := Elt Ideal) W (Rect.unit ![4, 0] ![1, 256] inb_S31x256_S1x256_4_0)) (View.ld (Val := Elt Ideal) B
    (Rect.unit ![136, 0] ![72, 256] inb_S544x256_S72x256_136_0)) (View.ld (Val := Elt Ideal) W (Rect.unit ![12, 0] ![1, 256]
    inb_S31x256_S1x256_12_0))) (View.ld (Val := Elt Ideal) B (Rect.unit ![144, 0] ![72, 256] inb_S544x256_S72x256_144_0)) (View.ld (Val := Elt Ideal)
    W (Rect.unit ![20, 0] ![1, 256] inb_S31x256_S1x256_20_0)) (View.ld (Val := Elt Ideal) B (Rect.unit ![152, 0] ![72, 256]
    inb_S544x256_S72x256_152_0)) (View.ld (Val := Elt Ideal) W (Rect.unit ![28, 0] ![1, 256] inb_S31x256_S1x256_28_0)) (View.ld (Val := Elt Ideal) B
    (Rect.unit ![128, 0] ![72, 256] inb_S544x256_S72x256_128_0)) (View.ld (Val := Elt Ideal) W (Rect.unit ![5, 0] ![1, 256] inb_S31x256_S1x256_5_0))
    (View.ld (Val := Elt Ideal) B (Rect.unit ![136, 0] ![72, 256] inb_S544x256_S72x256_136_0)) (View.ld (Val := Elt Ideal) W (Rect.unit ![13, 0] ![1,
    256] inb_S31x256_S1x256_13_0)) (View.ld (Val := Elt Ideal) B (Rect.unit ![144, 0] ![72, 256] inb_S544x256_S72x256_144_0)) (View.ld (Val := Elt
    Ideal) W (Rect.unit ![21, 0] ![1, 256] inb_S31x256_S1x256_21_0)) (View.ld (Val := Elt Ideal) B (Rect.unit ![152, 0] ![72, 256]
    inb_S544x256_S72x256_152_0)) (View.ld (Val := Elt Ideal) W (Rect.unit ![29, 0] ![1, 256] inb_S31x256_S1x256_29_0)))

theorem chunk2_at {β ω : ℕ → Fin 256 → EReal} (hB : ∀ (s : Fin 544) (j : Fin 256), B (ix2 s j) = β s.val j)
    (hW : ∀ (k : Fin 31) (j : Fin 256), W (ix2 k j) = ω k.val j) (r : Fin 64) (j : Fin 256) :
    chunk2 B W (ix2 r j) = ∑ k : Fin 31, β (130 + k.val + r.val) j * ω k.val j := by
  unfold chunk2
  pointwise [k0_pay50, k0_pay51, k0_pay52, k0_pay53, k0_pay54, k0_pay55, k0_pay56, k0_pay57, k0_pay58, k0_pay59, k0_pay60, hB, hW]
  rw [sum31 (fun k => β (130 + k + r.val) j * ω k j)]
  simp only [← Nat.add_assoc, Nat.reduceAdd, Nat.add_zero, Nat.zero_add]
  ac_rfl

/-- Rows 192 to 255 of the convolution, as the body adds them. -/
def chunk3 : FVec Ideal S64x256 .f32 :=
    (k0_pay68 (k0_pay66 (k0_pay64 (k0_pay62 (k0_pay61 (View.ld (Val := Elt Ideal) B (Rect.unit ![200, 0] ![64, 256] inb_S544x256_S64x256_200_0))
    (View.ld (Val := Elt Ideal) W (Rect.unit ![6, 0] ![1, 256] inb_S31x256_S1x256_6_0)) (View.ld (Val := Elt Ideal) B (Rect.unit ![208, 0] ![64, 256]
    inb_S544x256_S64x256_208_0)) (View.ld (Val := Elt Ideal) W (Rect.unit ![14, 0] ![1, 256] inb_S31x256_S1x256_14_0)) (View.ld (Val := Elt Ideal) B
    (Rect.unit ![216, 0] ![64, 256] inb_S544x256_S64x256_216_0)) (View.ld (Val := Elt Ideal) W (Rect.unit ![22, 0] ![1, 256] inb_S31x256_S1x256_22_0))
    (View.ld (Val := Elt Ideal) B (Rect.unit ![224, 0] ![64, 256] inb_S544x256_S64x256_224_0)) (View.ld (Val := Elt Ideal) W (Rect.unit ![30, 0] ![1,
    256] inb_S31x256_S1x256_30_0)) (View.ld (Val := Elt Ideal) B (Rect.unit ![200, 0] ![72, 256] inb_S544x256_S72x256_200_0)) (View.ld (Val := Elt
    Ideal) W (Rect.unit ![7, 0] ![1, 256] inb_S31x256_S1x256_7_0)) (View.ld (Val := Elt Ideal) B (Rect.unit ![208, 0] ![72, 256]
    inb_S544x256_S72x256_208_0)) (View.ld (Val := Elt Ideal) W (Rect.unit ![15, 0] ![1, 256] inb_S31x256_S1x256_15_0)) (View.ld (Val := Elt Ideal) B
    (Rect.unit ![216, 0] ![72, 256] inb_S544x256_S72x256_216_0)) (View.ld (Val := Elt Ideal) W (Rect.unit ![23, 0] ![1, 256]
    inb_S31x256_S1x256_23_0))) (View.ld (Val := Elt Ideal) B (Rect.unit ![192, 0] ![72, 256] inb_S544x256_S72x256_192_0)) (View.ld (Val := Elt Ideal)
    W (Rect.unit ![0, 0] ![1, 256] inb_S31x256_S1x256_0_0)) (View.ld (Val := Elt Ideal) B (Rect.unit ![200, 0] ![72, 256] inb_S544x256_S72x256_200_0))
    (View.ld (Val := Elt Ideal) W (Rect.unit ![8, 0] ![1, 256] inb_S31x256_S1x256_8_0)) (View.ld (Val := Elt Ideal) B (Rect.unit ![208, 0] ![72, 256]
    inb_S544x256_S72x256_208_0)) (View.ld (Val := Elt Ideal) W (Rect.unit ![16, 0] ![1, 256] inb_S31x256_S1x256_16_0)) (View.ld (Val := Elt Ideal) B
    (Rect.unit ![216, 0] ![72, 256] inb_S544x256_S72x256_216_0)) (View.ld (Val := Elt Ideal) W (Rect.unit ![24, 0] ![1, 256]
    inb_S31x256_S1x256_24_0))) (k0_pay63 (View.ld (Val := Elt Ideal) B (Rect.unit ![192, 0] ![72, 256] inb_S544x256_S72x256_192_0)) (View.ld (Val :=
    Elt Ideal) W (Rect.unit ![1, 0] ![1, 256] inb_S31x256_S1x256_1_0)) (View.ld (Val := Elt Ideal) B (Rect.unit ![200, 0] ![72, 256]
    inb_S544x256_S72x256_200_0)) (View.ld (Val := Elt Ideal) W (Rect.unit ![9, 0] ![1, 256] inb_S31x256_S1x256_9_0)) (View.ld (Val := Elt Ideal) B
    (Rect.unit ![208, 0] ![72, 256] inb_S544x256_S72x256_208_0)) (View.ld (Val := Elt Ideal) W (Rect.unit ![17, 0] ![1, 256]
    inb_S31x256_S1x256_17_0))) (View.ld (Val := Elt Ideal) B (Rect.unit ![216, 0] ![72, 256] inb_S544x256_S72x256_216_0)) (View.ld (Val := Elt Ideal)
    W (Rect.unit ![25, 0] ![1, 256] inb_S31x256_S1x256_25_0)) (View.ld (Val := Elt Ideal) B (Rect.unit ![192, 0] ![72, 256]
    inb_S544x256_S72x256_192_0)) (View.ld (Val := Elt Ideal) W (Rect.unit ![2, 0] ![1, 256] inb_S31x256_S1x256_2_0)) (View.ld (Val := Elt Ideal) B
    (Rect.unit ![200, 0] ![72, 256] inb_S544x256_S72x256_200_0)) (View.ld (Val := Elt Ideal) W (Rect.unit ![10, 0] ![1, 256] inb_S31x256_S1x256_10_0))
    (View.ld (Val := Elt Ideal) B (Rect.unit ![208, 0] ![72, 256] inb_S544x256_S72x256_208_0)) (View.ld (Val := Elt Ideal) W (Rect.unit ![18, 0] ![1,
    256] inb_S31x256_S1x256_18_0)) (View.ld (Val := Elt Ideal) B (Rect.unit ![216, 0] ![72, 256] inb_S544x256_S72x256_216_0)) (View.ld (Val := Elt
    Ideal) W (Rect.unit ![26, 0] ![1, 256] inb_S31x256_S1x256_26_0))) (k0_pay65 (View.ld (Val := Elt Ideal) B (Rect.unit ![192, 0] ![72, 256]
    inb_S544x256_S72x256_192_0)) (View.ld (Val := Elt Ideal) W (Rect.unit ![3, 0] ![1, 256] inb_S31x256_S1x256_3_0))) (View.ld (Val := Elt Ideal) B
    (Rect.unit ![200, 0] ![72, 256] inb_S544x256_S72x256_200_0)) (View.ld (Val := Elt Ideal) W (Rect.unit ![11, 0] ![1, 256] inb_S31x256_S1x256_11_0))
    (View.ld (Val := Elt Ideal) B (Rect.unit ![208, 0] ![72, 256] inb_S544x256_S72x256_208_0)) (View.ld (Val := Elt Ideal) W (Rect.unit ![19, 0] ![1,
    256] inb_S31x256_S1x256_19_0)) (View.ld (Val := Elt Ideal) B (Rect.unit ![216, 0] ![72, 256] inb_S544x256_S72x256_216_0)) (View.ld (Val := Elt
    Ideal) W (Rect.unit ![27, 0] ![1, 256] inb_S31x256_S1x256_27_0))) (k0_pay67 (View.ld (Val := Elt Ideal) B (Rect.unit ![192, 0] ![72, 256]
    inb_S544x256_S72x256_192_0)) (View.ld (Val := Elt Ideal) W (Rect.unit ![4, 0] ![1, 256] inb_S31x256_S1x256_4_0)) (View.ld (Val := Elt Ideal) B
    (Rect.unit ![200, 0] ![72, 256] inb_S544x256_S72x256_200_0)) (View.ld (Val := Elt Ideal) W (Rect.unit ![12, 0] ![1, 256] inb_S31x256_S1x256_12_0))
    (View.ld (Val := Elt Ideal) B (Rect.unit ![208, 0] ![72, 256] inb_S544x256_S72x256_208_0)) (View.ld (Val := Elt Ideal) W (Rect.unit ![20, 0] ![1,
    256] inb_S31x256_S1x256_20_0)) (View.ld (Val := Elt Ideal) B (Rect.unit ![216, 0] ![72, 256] inb_S544x256_S72x256_216_0)) (View.ld (Val := Elt
    Ideal) W (Rect.unit ![28, 0] ![1, 256] inb_S31x256_S1x256_28_0))) (View.ld (Val := Elt Ideal) B (Rect.unit ![192, 0] ![72, 256]
    inb_S544x256_S72x256_192_0)) (View.ld (Val := Elt Ideal) W (Rect.unit ![5, 0] ![1, 256] inb_S31x256_S1x256_5_0)) (View.ld (Val := Elt Ideal) B
    (Rect.unit ![200, 0] ![72, 256] inb_S544x256_S72x256_200_0)) (View.ld (Val := Elt Ideal) W (Rect.unit ![13, 0] ![1, 256] inb_S31x256_S1x256_13_0))
    (View.ld (Val := Elt Ideal) B (Rect.unit ![208, 0] ![72, 256] inb_S544x256_S72x256_208_0)) (View.ld (Val := Elt Ideal) W (Rect.unit ![21, 0] ![1,
    256] inb_S31x256_S1x256_21_0)) (View.ld (Val := Elt Ideal) B (Rect.unit ![216, 0] ![72, 256] inb_S544x256_S72x256_216_0)) (View.ld (Val := Elt
    Ideal) W (Rect.unit ![29, 0] ![1, 256] inb_S31x256_S1x256_29_0)))

theorem chunk3_at {β ω : ℕ → Fin 256 → EReal} (hB : ∀ (s : Fin 544) (j : Fin 256), B (ix2 s j) = β s.val j)
    (hW : ∀ (k : Fin 31) (j : Fin 256), W (ix2 k j) = ω k.val j) (r : Fin 64) (j : Fin 256) :
    chunk3 B W (ix2 r j) = ∑ k : Fin 31, β (194 + k.val + r.val) j * ω k.val j := by
  unfold chunk3
  pointwise [k0_pay61, k0_pay62, k0_pay63, k0_pay64, k0_pay65, k0_pay66, k0_pay67, k0_pay68, hB, hW]
  rw [sum31 (fun k => β (194 + k + r.val) j * ω k j)]
  simp only [← Nat.add_assoc, Nat.reduceAdd, Nat.add_zero, Nat.zero_add]
  ac_rfl

/-- Rows 256 to 319 of the convolution, as the body adds them. -/
def chunk4 : FVec Ideal S64x256 .f32 :=
    (k0_pay77 (k0_pay75 (k0_pay73 (k0_pay72 (k0_pay70 (k0_pay69 (View.ld (Val := Elt Ideal) B (Rect.unit ![264, 0] ![64, 256]
    inb_S544x256_S64x256_264_0)) (View.ld (Val := Elt Ideal) W (Rect.unit ![6, 0] ![1, 256] inb_S31x256_S1x256_6_0)) (View.ld (Val := Elt Ideal) B
    (Rect.unit ![272, 0] ![64, 256] inb_S544x256_S64x256_272_0)) (View.ld (Val := Elt Ideal) W (Rect.unit ![14, 0] ![1, 256]
    inb_S31x256_S1x256_14_0))) (View.ld (Val := Elt Ideal) B (Rect.unit ![280, 0] ![64, 256] inb_S544x256_S64x256_280_0)) (View.ld (Val := Elt Ideal)
    W (Rect.unit ![22, 0] ![1, 256] inb_S31x256_S1x256_22_0)) (View.ld (Val := Elt Ideal) B (Rect.unit ![288, 0] ![64, 256]
    inb_S544x256_S64x256_288_0)) (View.ld (Val := Elt Ideal) W (Rect.unit ![30, 0] ![1, 256] inb_S31x256_S1x256_30_0)) (View.ld (Val := Elt Ideal) B
    (Rect.unit ![264, 0] ![72, 256] inb_S544x256_S72x256_264_0)) (View.ld (Val := Elt Ideal) W (Rect.unit ![7, 0] ![1, 256] inb_S31x256_S1x256_7_0))
    (View.ld (Val := Elt Ideal) B (Rect.unit ![272, 0] ![72, 256] inb_S544x256_S72x256_272_0)) (View.ld (Val := Elt Ideal) W (Rect.unit ![15, 0] ![1,
    256] inb_S31x256_S1x256_15_0)) (View.ld (Val := Elt Ideal) B (Rect.unit ![280, 0] ![72, 256] inb_S544x256_S72x256_280_0)) (View.ld (Val := Elt
    Ideal) W (Rect.unit ![23, 0] ![1, 256] inb_S31x256_S1x256_23_0))) (k0_pay71 (View.ld (Val := Elt Ideal) B (Rect.unit ![256, 0] ![72, 256]
    inb_S544x256_S72x256_256_0)) (View.ld (Val := Elt Ideal) W (Rect.unit ![0, 0] ![1, 256] inb_S31x256_S1x256_0_0)) (View.ld (Val := Elt Ideal) B
    (Rect.unit ![264, 0] ![72, 256] inb_S544x256_S72x256_264_0)) (View.ld (Val := Elt Ideal) W (Rect.unit ![8, 0] ![1, 256] inb_S31x256_S1x256_8_0)))
    (View.ld (Val := Elt Ideal) B (Rect.unit ![272, 0] ![72, 256] inb_S544x256_S72x256_272_0)) (View.ld (Val := Elt Ideal) W (Rect.unit ![16, 0] ![1,
    256] inb_S31x256_S1x256_16_0)) (View.ld (Val := Elt Ideal) B (Rect.unit ![280, 0] ![72, 256] inb_S544x256_S72x256_280_0)) (View.ld (Val := Elt
    Ideal) W (Rect.unit ![24, 0] ![1, 256] inb_S31x256_S1x256_24_0)) (View.ld (Val := Elt Ideal) B (Rect.unit ![256, 0] ![72, 256]
    inb_S544x256_S72x256_256_0)) (View.ld (Val := Elt Ideal) W (Rect.unit ![1, 0] ![1, 256] inb_S31x256_S1x256_1_0)) (View.ld (Val := Elt Ideal) B
    (Rect.unit ![264, 0] ![72, 256] inb_S544x256_S72x256_264_0)) (View.ld (Val := Elt Ideal) W (Rect.unit ![9, 0] ![1, 256] inb_S31x256_S1x256_9_0))
    (View.ld (Val := Elt Ideal) B (Rect.unit ![272, 0] ![72, 256] inb_S544x256_S72x256_272_0)) (View.ld (Val := Elt Ideal) W (Rect.unit ![17, 0] ![1,
    256] inb_S31x256_S1x256_17_0)) (View.ld (Val := Elt Ideal) B (Rect.unit ![280, 0] ![72, 256] inb_S544x256_S72x256_280_0)) (View.ld (Val := Elt
    Ideal) W (Rect.unit ![25, 0] ![1, 256] inb_S31x256_S1x256_25_0))) (View.ld (Val := Elt Ideal) B (Rect.unit ![256, 0] ![72, 256]
    inb_S544x256_S72x256_256_0)) (View.ld (Val := Elt Ideal) W (Rect.unit ![2, 0] ![1, 256] inb_S31x256_S1x256_2_0)) (View.ld (Val := Elt Ideal) B
    (Rect.unit ![264, 0] ![72, 256] inb_S544x256_S72x256_264_0)) (View.ld (Val := Elt Ideal) W (Rect.unit ![10, 0] ![1, 256] inb_S31x256_S1x256_10_0))
    (View.ld (Val := Elt Ideal) B (Rect.unit ![272, 0] ![72, 256] inb_S544x256_S72x256_272_0)) (View.ld (Val := Elt Ideal) W (Rect.unit ![18, 0] ![1,
    256] inb_S31x256_S1x256_18_0)) (View.ld (Val := Elt Ideal) B (Rect.unit ![280, 0] ![72, 256] inb_S544x256_S72x256_280_0)) (View.ld (Val := Elt
    Ideal) W (Rect.unit ![26, 0] ![1, 256] inb_S31x256_S1x256_26_0))) (k0_pay74 (View.ld (Val := Elt Ideal) B (Rect.unit ![256, 0] ![72, 256]
    inb_S544x256_S72x256_256_0)) (View.ld (Val := Elt Ideal) W (Rect.unit ![3, 0] ![1, 256] inb_S31x256_S1x256_3_0)) (View.ld (Val := Elt Ideal) B
    (Rect.unit ![264, 0] ![72, 256] inb_S544x256_S72x256_264_0)) (View.ld (Val := Elt Ideal) W (Rect.unit ![11, 0] ![1, 256] inb_S31x256_S1x256_11_0))
    (View.ld (Val := Elt Ideal) B (Rect.unit ![272, 0] ![72, 256] inb_S544x256_S72x256_272_0)) (View.ld (Val := Elt Ideal) W (Rect.unit ![19, 0] ![1,
    256] inb_S31x256_S1x256_19_0))) (View.ld (Val := Elt Ideal) B (Rect.unit ![280, 0] ![72, 256] inb_S544x256_S72x256_280_0)) (View.ld (Val := Elt
    Ideal) W (Rect.unit ![27, 0] ![1, 256] inb_S31x256_S1x256_27_0)) (View.ld (Val := Elt Ideal) B (Rect.unit ![256, 0] ![72, 256]
    inb_S544x256_S72x256_256_0)) (View.ld (Val := Elt Ideal) W (Rect.unit ![4, 0] ![1, 256] inb_S31x256_S1x256_4_0)) (View.ld (Val := Elt Ideal) B
    (Rect.unit ![264, 0] ![72, 256] inb_S544x256_S72x256_264_0)) (View.ld (Val := Elt Ideal) W (Rect.unit ![12, 0] ![1, 256] inb_S31x256_S1x256_12_0))
    (View.ld (Val := Elt Ideal) B (Rect.unit ![272, 0] ![72, 256] inb_S544x256_S72x256_272_0)) (View.ld (Val := Elt Ideal) W (Rect.unit ![20, 0] ![1,
    256] inb_S31x256_S1x256_20_0)) (View.ld (Val := Elt Ideal) B (Rect.unit ![280, 0] ![72, 256] inb_S544x256_S72x256_280_0)) (View.ld (Val := Elt
    Ideal) W (Rect.unit ![28, 0] ![1, 256] inb_S31x256_S1x256_28_0))) (k0_pay76 (View.ld (Val := Elt Ideal) B (Rect.unit ![256, 0] ![72, 256]
    inb_S544x256_S72x256_256_0)) (View.ld (Val := Elt Ideal) W (Rect.unit ![5, 0] ![1, 256] inb_S31x256_S1x256_5_0))) (View.ld (Val := Elt Ideal) B
    (Rect.unit ![264, 0] ![72, 256] inb_S544x256_S72x256_264_0)) (View.ld (Val := Elt Ideal) W (Rect.unit ![13, 0] ![1, 256] inb_S31x256_S1x256_13_0))
    (View.ld (Val := Elt Ideal) B (Rect.unit ![272, 0] ![72, 256] inb_S544x256_S72x256_272_0)) (View.ld (Val := Elt Ideal) W (Rect.unit ![21, 0] ![1,
    256] inb_S31x256_S1x256_21_0)) (View.ld (Val := Elt Ideal) B (Rect.unit ![280, 0] ![72, 256] inb_S544x256_S72x256_280_0)) (View.ld (Val := Elt
    Ideal) W (Rect.unit ![29, 0] ![1, 256] inb_S31x256_S1x256_29_0)))

theorem chunk4_at {β ω : ℕ → Fin 256 → EReal} (hB : ∀ (s : Fin 544) (j : Fin 256), B (ix2 s j) = β s.val j)
    (hW : ∀ (k : Fin 31) (j : Fin 256), W (ix2 k j) = ω k.val j) (r : Fin 64) (j : Fin 256) :
    chunk4 B W (ix2 r j) = ∑ k : Fin 31, β (258 + k.val + r.val) j * ω k.val j := by
  unfold chunk4
  pointwise [k0_pay69, k0_pay70, k0_pay71, k0_pay72, k0_pay73, k0_pay74, k0_pay75, k0_pay76, k0_pay77, hB, hW]
  rw [sum31 (fun k => β (258 + k + r.val) j * ω k j)]
  simp only [← Nat.add_assoc, Nat.reduceAdd, Nat.add_zero, Nat.zero_add]
  ac_rfl

/-- Rows 320 to 383 of the convolution, as the body adds them. -/
def chunk5 : FVec Ideal S64x256 .f32 :=
    (k0_pay87 (k0_pay85 (k0_pay84 (k0_pay82 (k0_pay79 (k0_pay78 (View.ld (Val := Elt Ideal) B (Rect.unit ![328, 0] ![64, 256]
    inb_S544x256_S64x256_328_0)) (View.ld (Val := Elt Ideal) W (Rect.unit ![6, 0] ![1, 256] inb_S31x256_S1x256_6_0)) (View.ld (Val := Elt Ideal) B
    (Rect.unit ![336, 0] ![64, 256] inb_S544x256_S64x256_336_0)) (View.ld (Val := Elt Ideal) W (Rect.unit ![14, 0] ![1, 256] inb_S31x256_S1x256_14_0))
    (View.ld (Val := Elt Ideal) B (Rect.unit ![344, 0] ![64, 256] inb_S544x256_S64x256_344_0)) (View.ld (Val := Elt Ideal) W (Rect.unit ![22, 0] ![1,
    256] inb_S31x256_S1x256_22_0)) (View.ld (Val := Elt Ideal) B (Rect.unit ![352, 0] ![64, 256] inb_S544x256_S64x256_352_0)) (View.ld (Val := Elt
    Ideal) W (Rect.unit ![30, 0] ![1, 256] inb_S31x256_S1x256_30_0))) (View.ld (Val := Elt Ideal) B (Rect.unit ![328, 0] ![72, 256]
    inb_S544x256_S72x256_328_0)) (View.ld (Val := Elt Ideal) W (Rect.unit ![7, 0] ![1, 256] inb_S31x256_S1x256_7_0)) (View.ld (Val := Elt Ideal) B
    (Rect.unit ![336, 0] ![72, 256] inb_S544x256_S72x256_336_0)) (View.ld (Val := Elt Ideal) W (Rect.unit ![15, 0] ![1, 256] inb_S31x256_S1x256_15_0))
    (View.ld (Val := Elt Ideal) B (Rect.unit ![344, 0] ![72, 256] inb_S544x256_S72x256_344_0)) (View.ld (Val := Elt Ideal) W (Rect.unit ![23, 0] ![1,
    256] inb_S31x256_S1x256_23_0))) (k0_pay80 (View.ld (Val := Elt Ideal) B (Rect.unit ![320, 0] ![72, 256] inb_S544x256_S72x256_320_0)) (View.ld (Val
    := Elt Ideal) W (Rect.unit ![0, 0] ![1, 256] inb_S31x256_S1x256_0_0)) (View.ld (Val := Elt Ideal) B (Rect.unit ![328, 0] ![72, 256]
    inb_S544x256_S72x256_328_0)) (View.ld (Val := Elt Ideal) W (Rect.unit ![8, 0] ![1, 256] inb_S31x256_S1x256_8_0)) (View.ld (Val := Elt Ideal) B
    (Rect.unit ![336, 0] ![72, 256] inb_S544x256_S72x256_336_0)) (View.ld (Val := Elt Ideal) W (Rect.unit ![16, 0] ![1, 256]
    inb_S31x256_S1x256_16_0))) (View.ld (Val := Elt Ideal) B (Rect.unit ![344, 0] ![72, 256] inb_S544x256_S72x256_344_0)) (k0_pay81 (View.ld (Val :=
    Elt Ideal) W (Rect.unit ![24, 0] ![1, 256] inb_S31x256_S1x256_24_0))) (View.ld (Val := Elt Ideal) B (Rect.unit ![320, 0] ![72, 256]
    inb_S544x256_S72x256_320_0)) (View.ld (Val := Elt Ideal) W (Rect.unit ![1, 0] ![1, 256] inb_S31x256_S1x256_1_0)) (View.ld (Val := Elt Ideal) B
    (Rect.unit ![328, 0] ![72, 256] inb_S544x256_S72x256_328_0)) (View.ld (Val := Elt Ideal) W (Rect.unit ![9, 0] ![1, 256] inb_S31x256_S1x256_9_0))
    (View.ld (Val := Elt Ideal) B (Rect.unit ![336, 0] ![72, 256] inb_S544x256_S72x256_336_0)) (View.ld (Val := Elt Ideal) W (Rect.unit ![17, 0] ![1,
    256] inb_S31x256_S1x256_17_0)) (View.ld (Val := Elt Ideal) B (Rect.unit ![344, 0] ![72, 256] inb_S544x256_S72x256_344_0)) (View.ld (Val := Elt
    Ideal) W (Rect.unit ![25, 0] ![1, 256] inb_S31x256_S1x256_25_0))) (k0_pay83 (View.ld (Val := Elt Ideal) B (Rect.unit ![320, 0] ![72, 256]
    inb_S544x256_S72x256_320_0)) (View.ld (Val := Elt Ideal) W (Rect.unit ![2, 0] ![1, 256] inb_S31x256_S1x256_2_0)) (View.ld (Val := Elt Ideal) B
    (Rect.unit ![328, 0] ![72, 256] inb_S544x256_S72x256_328_0)) (View.ld (Val := Elt Ideal) W (Rect.unit ![10, 0] ![1, 256]
    inb_S31x256_S1x256_10_0))) (View.ld (Val := Elt Ideal) B (Rect.unit ![336, 0] ![72, 256] inb_S544x256_S72x256_336_0)) (View.ld (Val := Elt Ideal)
    W (Rect.unit ![18, 0] ![1, 256] inb_S31x256_S1x256_18_0)) (View.ld (Val := Elt Ideal) B (Rect.unit ![344, 0] ![72, 256]
    inb_S544x256_S72x256_344_0)) (View.ld (Val := Elt Ideal) W (Rect.unit ![26, 0] ![1, 256] inb_S31x256_S1x256_26_0)) (View.ld (Val := Elt Ideal) B
    (Rect.unit ![320, 0] ![72, 256] inb_S544x256_S72x256_320_0)) (View.ld (Val := Elt Ideal) W (Rect.unit ![3, 0] ![1, 256] inb_S31x256_S1x256_3_0))
    (View.ld (Val := Elt Ideal) B (Rect.unit ![328, 0] ![72, 256] inb_S544x256_S72x256_328_0)) (View.ld (Val := Elt Ideal) W (Rect.unit ![11, 0] ![1,
    256] inb_S31x256_S1x256_11_0)) (View.ld (Val := Elt Ideal) B (Rect.unit ![336, 0] ![72, 256] inb_S544x256_S72x256_336_0)) (View.ld (Val := Elt
    Ideal) W (Rect.unit ![19, 0] ![1, 256] inb_S31x256_S1x256_19_0)) (View.ld (Val := Elt Ideal) B (Rect.unit ![344, 0] ![72, 256]
    inb_S544x256_S72x256_344_0)) (View.ld (Val := Elt Ideal) W (Rect.unit ![27, 0] ![1, 256] inb_S31x256_S1x256_27_0))) (View.ld (Val := Elt Ideal) B
    (Rect.unit ![320, 0] ![72, 256] inb_S544x256_S72x256_320_0)) (View.ld (Val := Elt Ideal) W (Rect.unit ![4, 0] ![1, 256] inb_S31x256_S1x256_4_0))
    (View.ld (Val := Elt Ideal) B (Rect.unit ![328, 0] ![72, 256] inb_S544x256_S72x256_328_0)) (View.ld (Val := Elt Ideal) W (Rect.unit ![12, 0] ![1,
    256] inb_S31x256_S1x256_12_0)) (View.ld (Val := Elt Ideal) B (Rect.unit ![336, 0] ![72, 256] inb_S544x256_S72x256_336_0)) (View.ld (Val := Elt
    Ideal) W (Rect.unit ![20, 0] ![1, 256] inb_S31x256_S1x256_20_0)) (View.ld (Val := Elt Ideal) B (Rect.unit ![344, 0] ![72, 256]
    inb_S544x256_S72x256_344_0)) (View.ld (Val := Elt Ideal) W (Rect.unit ![28, 0] ![1, 256] inb_S31x256_S1x256_28_0))) (k0_pay86 (View.ld (Val := Elt
    Ideal) B (Rect.unit ![320, 0] ![72, 256] inb_S544x256_S72x256_320_0)) (View.ld (Val := Elt Ideal) W (Rect.unit ![5, 0] ![1, 256]
    inb_S31x256_S1x256_5_0)) (View.ld (Val := Elt Ideal) B (Rect.unit ![328, 0] ![72, 256] inb_S544x256_S72x256_328_0)) (View.ld (Val := Elt Ideal) W
    (Rect.unit ![13, 0] ![1, 256] inb_S31x256_S1x256_13_0)) (View.ld (Val := Elt Ideal) B (Rect.unit ![336, 0] ![72, 256] inb_S544x256_S72x256_336_0))
    (View.ld (Val := Elt Ideal) W (Rect.unit ![21, 0] ![1, 256] inb_S31x256_S1x256_21_0))) (View.ld (Val := Elt Ideal) B (Rect.unit ![344, 0] ![72,
    256] inb_S544x256_S72x256_344_0)) (View.ld (Val := Elt Ideal) W (Rect.unit ![29, 0] ![1, 256] inb_S31x256_S1x256_29_0)))

theorem chunk5_at {β ω : ℕ → Fin 256 → EReal} (hB : ∀ (s : Fin 544) (j : Fin 256), B (ix2 s j) = β s.val j)
    (hW : ∀ (k : Fin 31) (j : Fin 256), W (ix2 k j) = ω k.val j) (r : Fin 64) (j : Fin 256) :
    chunk5 B W (ix2 r j) = ∑ k : Fin 31, β (322 + k.val + r.val) j * ω k.val j := by
  unfold chunk5
  pointwise [k0_pay78, k0_pay79, k0_pay80, k0_pay81, k0_pay82, k0_pay83, k0_pay84, k0_pay85, k0_pay86, k0_pay87, hB, hW]
  rw [sum31 (fun k => β (322 + k + r.val) j * ω k j)]
  simp only [← Nat.add_assoc, Nat.reduceAdd, Nat.add_zero, Nat.zero_add]
  ac_rfl

/-- Rows 384 to 447 of the convolution, as the body adds them. -/
def chunk6 : FVec Ideal S64x256 .f32 :=
    (k0_pay98 (k0_pay96 (k0_pay93 (k0_pay91 (k0_pay88 (View.ld (Val := Elt Ideal) B (Rect.unit ![392, 0] ![64, 256] inb_S544x256_S64x256_392_0))
    (View.ld (Val := Elt Ideal) W (Rect.unit ![6, 0] ![1, 256] inb_S31x256_S1x256_6_0)) (View.ld (Val := Elt Ideal) B (Rect.unit ![400, 0] ![64, 256]
    inb_S544x256_S64x256_400_0)) (View.ld (Val := Elt Ideal) W (Rect.unit ![14, 0] ![1, 256] inb_S31x256_S1x256_14_0)) (View.ld (Val := Elt Ideal) B
    (Rect.unit ![408, 0] ![64, 256] inb_S544x256_S64x256_408_0)) (View.ld (Val := Elt Ideal) W (Rect.unit ![22, 0] ![1, 256] inb_S31x256_S1x256_22_0))
    (View.ld (Val := Elt Ideal) B (Rect.unit ![416, 0] ![64, 256] inb_S544x256_S64x256_416_0)) (View.ld (Val := Elt Ideal) W (Rect.unit ![30, 0] ![1,
    256] inb_S31x256_S1x256_30_0))) (k0_pay89 (View.ld (Val := Elt Ideal) B (Rect.unit ![392, 0] ![72, 256] inb_S544x256_S72x256_392_0)) (View.ld (Val
    := Elt Ideal) W (Rect.unit ![7, 0] ![1, 256] inb_S31x256_S1x256_7_0))) (k0_pay90 (View.ld (Val := Elt Ideal) B (Rect.unit ![400, 0] ![72, 256]
    inb_S544x256_S72x256_400_0)) (View.ld (Val := Elt Ideal) W (Rect.unit ![15, 0] ![1, 256] inb_S31x256_S1x256_15_0))) (View.ld (Val := Elt Ideal) B
    (Rect.unit ![408, 0] ![72, 256] inb_S544x256_S72x256_408_0)) (View.ld (Val := Elt Ideal) W (Rect.unit ![23, 0] ![1, 256] inb_S31x256_S1x256_23_0))
    (View.ld (Val := Elt Ideal) B (Rect.unit ![384, 0] ![72, 256] inb_S544x256_S72x256_384_0)) (View.ld (Val := Elt Ideal) W (Rect.unit ![0, 0] ![1,
    256] inb_S31x256_S1x256_0_0)) (View.ld (Val := Elt Ideal) B (Rect.unit ![392, 0] ![72, 256] inb_S544x256_S72x256_392_0)) (View.ld (Val := Elt
    Ideal) W (Rect.unit ![8, 0] ![1, 256] inb_S31x256_S1x256_8_0)) (View.ld (Val := Elt Ideal) B (Rect.unit ![400, 0] ![72, 256]
    inb_S544x256_S72x256_400_0)) (View.ld (Val := Elt Ideal) W (Rect.unit ![16, 0] ![1, 256] inb_S31x256_S1x256_16_0)) (View.ld (Val := Elt Ideal) B
    (Rect.unit ![408, 0] ![72, 256] inb_S544x256_S72x256_408_0)) (View.ld (Val := Elt Ideal) W (Rect.unit ![24, 0] ![1, 256]
    inb_S31x256_S1x256_24_0))) (k0_pay92 (View.ld (Val := Elt Ideal) B (Rect.unit ![384, 0] ![72, 256] inb_S544x256_S72x256_384_0)) (View.ld (Val :=
    Elt Ideal) W (Rect.unit ![1, 0] ![1, 256] inb_S31x256_S1x256_1_0))) (View.ld (Val := Elt Ideal) B (Rect.unit ![392, 0] ![72, 256]
    inb_S544x256_S72x256_392_0)) (View.ld (Val := Elt Ideal) W (Rect.unit ![9, 0] ![1, 256] inb_S31x256_S1x256_9_0)) (View.ld (Val := Elt Ideal) B
    (Rect.unit ![400, 0] ![72, 256] inb_S544x256_S72x256_400_0)) (View.ld (Val := Elt Ideal) W (Rect.unit ![17, 0] ![1, 256] inb_S31x256_S1x256_17_0))
    (View.ld (Val := Elt Ideal) B (Rect.unit ![408, 0] ![72, 256] inb_S544x256_S72x256_408_0)) (View.ld (Val := Elt Ideal) W (Rect.unit ![25, 0] ![1,
    256] inb_S31x256_S1x256_25_0))) (k0_pay94 (View.ld (Val := Elt Ideal) B (Rect.unit ![384, 0] ![72, 256] inb_S544x256_S72x256_384_0)) (View.ld (Val
    := Elt Ideal) W (Rect.unit ![2, 0] ![1, 256] inb_S31x256_S1x256_2_0)) (View.ld (Val := Elt Ideal) B (Rect.unit ![392, 0] ![72, 256]
    inb_S544x256_S72x256_392_0)) (View.ld (Val := Elt Ideal) W (Rect.unit ![10, 0] ![1, 256] inb_S31x256_S1x256_10_0)) (View.ld (Val := Elt Ideal) B
    (Rect.unit ![400, 0] ![72, 256] inb_S544x256_S72x256_400_0)) (View.ld (Val := Elt Ideal) W (Rect.unit ![18, 0] ![1, 256]
    inb_S31x256_S1x256_18_0))) (k0_pay95 (View.ld (Val := Elt Ideal) B (Rect.unit ![408, 0] ![72, 256] inb_S544x256_S72x256_408_0)) (View.ld (Val :=
    Elt Ideal) W (Rect.unit ![26, 0] ![1, 256] inb_S31x256_S1x256_26_0))) (View.ld (Val := Elt Ideal) B (Rect.unit ![384, 0] ![72, 256]
    inb_S544x256_S72x256_384_0)) (View.ld (Val := Elt Ideal) W (Rect.unit ![3, 0] ![1, 256] inb_S31x256_S1x256_3_0)) (View.ld (Val := Elt Ideal) B
    (Rect.unit ![392, 0] ![72, 256] inb_S544x256_S72x256_392_0)) (View.ld (Val := Elt Ideal) W (Rect.unit ![11, 0] ![1, 256] inb_S31x256_S1x256_11_0))
    (View.ld (Val := Elt Ideal) B (Rect.unit ![400, 0] ![72, 256] inb_S544x256_S72x256_400_0)) (View.ld (Val := Elt Ideal) W (Rect.unit ![19, 0] ![1,
    256] inb_S31x256_S1x256_19_0)) (View.ld (Val := Elt Ideal) B (Rect.unit ![408, 0] ![72, 256] inb_S544x256_S72x256_408_0)) (View.ld (Val := Elt
    Ideal) W (Rect.unit ![27, 0] ![1, 256] inb_S31x256_S1x256_27_0))) (k0_pay97 (View.ld (Val := Elt Ideal) B (Rect.unit ![384, 0] ![72, 256]
    inb_S544x256_S72x256_384_0)) (View.ld (Val := Elt Ideal) W (Rect.unit ![4, 0] ![1, 256] inb_S31x256_S1x256_4_0)) (View.ld (Val := Elt Ideal) B
    (Rect.unit ![392, 0] ![72, 256] inb_S544x256_S72x256_392_0)) (View.ld (Val := Elt Ideal) W (Rect.unit ![12, 0] ![1, 256]
    inb_S31x256_S1x256_12_0))) (View.ld (Val := Elt Ideal) B (Rect.unit ![400, 0] ![72, 256] inb_S544x256_S72x256_400_0)) (View.ld (Val := Elt Ideal)
    W (Rect.unit ![20, 0] ![1, 256] inb_S31x256_S1x256_20_0)) (View.ld (Val := Elt Ideal) B (Rect.unit ![408, 0] ![72, 256]
    inb_S544x256_S72x256_408_0)) (View.ld (Val := Elt Ideal) W (Rect.unit ![28, 0] ![1, 256] inb_S31x256_S1x256_28_0)) (View.ld (Val := Elt Ideal) B
    (Rect.unit ![384, 0] ![72, 256] inb_S544x256_S72x256_384_0)) (View.ld (Val := Elt Ideal) W (Rect.unit ![5, 0] ![1, 256] inb_S31x256_S1x256_5_0))
    (View.ld (Val := Elt Ideal) B (Rect.unit ![392, 0] ![72, 256] inb_S544x256_S72x256_392_0)) (View.ld (Val := Elt Ideal) W (Rect.unit ![13, 0] ![1,
    256] inb_S31x256_S1x256_13_0)) (View.ld (Val := Elt Ideal) B (Rect.unit ![400, 0] ![72, 256] inb_S544x256_S72x256_400_0)) (View.ld (Val := Elt
    Ideal) W (Rect.unit ![21, 0] ![1, 256] inb_S31x256_S1x256_21_0)) (View.ld (Val := Elt Ideal) B (Rect.unit ![408, 0] ![72, 256]
    inb_S544x256_S72x256_408_0)) (View.ld (Val := Elt Ideal) W (Rect.unit ![29, 0] ![1, 256] inb_S31x256_S1x256_29_0)))

theorem chunk6_at {β ω : ℕ → Fin 256 → EReal} (hB : ∀ (s : Fin 544) (j : Fin 256), B (ix2 s j) = β s.val j)
    (hW : ∀ (k : Fin 31) (j : Fin 256), W (ix2 k j) = ω k.val j) (r : Fin 64) (j : Fin 256) :
    chunk6 B W (ix2 r j) = ∑ k : Fin 31, β (386 + k.val + r.val) j * ω k.val j := by
  unfold chunk6
  pointwise [k0_pay88, k0_pay89, k0_pay90, k0_pay91, k0_pay92, k0_pay93, k0_pay94, k0_pay95, k0_pay96, k0_pay97, k0_pay98, hB, hW]
  rw [sum31 (fun k => β (386 + k + r.val) j * ω k j)]
  simp only [← Nat.add_assoc, Nat.reduceAdd, Nat.add_zero, Nat.zero_add]
  ac_rfl

/-- Rows 448 to 511 of the convolution, as the body adds them. -/
def chunk7 : FVec Ideal S64x256 .f32 :=
    (addf (s := S64x256) (φ := .f32) (addf (s := S64x256) (φ := .f32) (k0_pay104 (k0_pay102 (k0_pay100 (k0_pay99 (View.ld (Val := Elt Ideal) B
    (Rect.unit ![456, 0] ![64, 256] inb_S544x256_S64x256_456_0)) (View.ld (Val := Elt Ideal) W (Rect.unit ![6, 0] ![1, 256] inb_S31x256_S1x256_6_0))
    (View.ld (Val := Elt Ideal) B (Rect.unit ![464, 0] ![64, 256] inb_S544x256_S64x256_464_0)) (View.ld (Val := Elt Ideal) W (Rect.unit ![14, 0] ![1,
    256] inb_S31x256_S1x256_14_0)) (View.ld (Val := Elt Ideal) B (Rect.unit ![472, 0] ![64, 256] inb_S544x256_S64x256_472_0)) (View.ld (Val := Elt
    Ideal) W (Rect.unit ![22, 0] ![1, 256] inb_S31x256_S1x256_22_0)) (View.ld (Val := Elt Ideal) B (Rect.unit ![480, 0] ![64, 256]
    inb_S544x256_S64x256_480_0)) (View.ld (Val := Elt Ideal) W (Rect.unit ![30, 0] ![1, 256] inb_S31x256_S1x256_30_0)) (View.ld (Val := Elt Ideal) B
    (Rect.unit ![456, 0] ![72, 256] inb_S544x256_S72x256_456_0)) (View.ld (Val := Elt Ideal) W (Rect.unit ![7, 0] ![1, 256] inb_S31x256_S1x256_7_0))
    (View.ld (Val := Elt Ideal) B (Rect.unit ![464, 0] ![72, 256] inb_S544x256_S72x256_464_0)) (View.ld (Val := Elt Ideal) W (Rect.unit ![15, 0] ![1,
    256] inb_S31x256_S1x256_15_0)) (View.ld (Val := Elt Ideal) B (Rect.unit ![472, 0] ![72, 256] inb_S544x256_S72x256_472_0)) (View.ld (Val := Elt
    Ideal) W (Rect.unit ![23, 0] ![1, 256] inb_S31x256_S1x256_23_0))) (View.ld (Val := Elt Ideal) B (Rect.unit ![448, 0] ![72, 256]
    inb_S544x256_S72x256_448_0)) (View.ld (Val := Elt Ideal) W (Rect.unit ![0, 0] ![1, 256] inb_S31x256_S1x256_0_0)) (View.ld (Val := Elt Ideal) B
    (Rect.unit ![456, 0] ![72, 256] inb_S544x256_S72x256_456_0)) (View.ld (Val := Elt Ideal) W (Rect.unit ![8, 0] ![1, 256] inb_S31x256_S1x256_8_0))
    (View.ld (Val := Elt Ideal) B (Rect.unit ![464, 0] ![72, 256] inb_S544x256_S72x256_464_0)) (View.ld (Val := Elt Ideal) W (Rect.unit ![16, 0] ![1,
    256] inb_S31x256_S1x256_16_0)) (View.ld (Val := Elt Ideal) B (Rect.unit ![472, 0] ![72, 256] inb_S544x256_S72x256_472_0)) (View.ld (Val := Elt
    Ideal) W (Rect.unit ![24, 0] ![1, 256] inb_S31x256_S1x256_24_0))) (k0_pay101 (View.ld (Val := Elt Ideal) B (Rect.unit ![448, 0] ![72, 256]
    inb_S544x256_S72x256_448_0)) (View.ld (Val := Elt Ideal) W (Rect.unit ![1, 0] ![1, 256] inb_S31x256_S1x256_1_0)) (View.ld (Val := Elt Ideal) B
    (Rect.unit ![456, 0] ![72, 256] inb_S544x256_S72x256_456_0)) (View.ld (Val := Elt Ideal) W (Rect.unit ![9, 0] ![1, 256] inb_S31x256_S1x256_9_0))
    (View.ld (Val := Elt Ideal) B (Rect.unit ![464, 0] ![72, 256] inb_S544x256_S72x256_464_0)) (View.ld (Val := Elt Ideal) W (Rect.unit ![17, 0] ![1,
    256] inb_S31x256_S1x256_17_0))) (View.ld (Val := Elt Ideal) B (Rect.unit ![472, 0] ![72, 256] inb_S544x256_S72x256_472_0)) (View.ld (Val := Elt
    Ideal) W (Rect.unit ![25, 0] ![1, 256] inb_S31x256_S1x256_25_0)) (View.ld (Val := Elt Ideal) B (Rect.unit ![448, 0] ![72, 256]
    inb_S544x256_S72x256_448_0)) (View.ld (Val := Elt Ideal) W (Rect.unit ![2, 0] ![1, 256] inb_S31x256_S1x256_2_0)) (View.ld (Val := Elt Ideal) B
    (Rect.unit ![456, 0] ![72, 256] inb_S544x256_S72x256_456_0)) (View.ld (Val := Elt Ideal) W (Rect.unit ![10, 0] ![1, 256] inb_S31x256_S1x256_10_0))
    (View.ld (Val := Elt Ideal) B (Rect.unit ![464, 0] ![72, 256] inb_S544x256_S72x256_464_0)) (View.ld (Val := Elt Ideal) W (Rect.unit ![18, 0] ![1,
    256] inb_S31x256_S1x256_18_0)) (View.ld (Val := Elt Ideal) B (Rect.unit ![472, 0] ![72, 256] inb_S544x256_S72x256_472_0)) (View.ld (Val := Elt
    Ideal) W (Rect.unit ![26, 0] ![1, 256] inb_S31x256_S1x256_26_0))) (k0_pay103 (View.ld (Val := Elt Ideal) B (Rect.unit ![448, 0] ![72, 256]
    inb_S544x256_S72x256_448_0)) (View.ld (Val := Elt Ideal) W (Rect.unit ![3, 0] ![1, 256] inb_S31x256_S1x256_3_0))) (View.ld (Val := Elt Ideal) B
    (Rect.unit ![456, 0] ![72, 256] inb_S544x256_S72x256_456_0)) (View.ld (Val := Elt Ideal) W (Rect.unit ![11, 0] ![1, 256] inb_S31x256_S1x256_11_0))
    (View.ld (Val := Elt Ideal) B (Rect.unit ![464, 0] ![72, 256] inb_S544x256_S72x256_464_0)) (View.ld (Val := Elt Ideal) W (Rect.unit ![19, 0] ![1,
    256] inb_S31x256_S1x256_19_0)) (View.ld (Val := Elt Ideal) B (Rect.unit ![472, 0] ![72, 256] inb_S544x256_S72x256_472_0)) (View.ld (Val := Elt
    Ideal) W (Rect.unit ![27, 0] ![1, 256] inb_S31x256_S1x256_27_0))) (extractStridedSlice S64x256 ![6, 0] (k0_pay105 (View.ld (Val := Elt Ideal) B
    (Rect.unit ![448, 0] ![72, 256] inb_S544x256_S72x256_448_0)) (View.ld (Val := Elt Ideal) W (Rect.unit ![4, 0] ![1, 256] inb_S31x256_S1x256_4_0))
    (View.ld (Val := Elt Ideal) B (Rect.unit ![456, 0] ![72, 256] inb_S544x256_S72x256_456_0)) (View.ld (Val := Elt Ideal) W (Rect.unit ![12, 0] ![1,
    256] inb_S31x256_S1x256_12_0)) (View.ld (Val := Elt Ideal) B (Rect.unit ![464, 0] ![72, 256] inb_S544x256_S72x256_464_0)) (View.ld (Val := Elt
    Ideal) W (Rect.unit ![20, 0] ![1, 256] inb_S31x256_S1x256_20_0)) (View.ld (Val := Elt Ideal) B (Rect.unit ![472, 0] ![72, 256]
    inb_S544x256_S72x256_472_0)) (View.ld (Val := Elt Ideal) W (Rect.unit ![28, 0] ![1, 256] inb_S31x256_S1x256_28_0))) slices_S72x256_o6_0_S64x256))
    (extractStridedSlice S64x256 ![7, 0] (addf (s := S72x256) (φ := .f32) (addf (s := S72x256) (φ := .f32) (addf (s := S72x256) (φ := .f32) (mulf (s
    := S72x256) (φ := .f32) ((View.ld (Val := Elt Ideal) B (Rect.unit ![448, 0] ![72, 256] inb_S544x256_S72x256_448_0)) : FVec Ideal S72x256 .f32)
    (broadcastTo S72x256 ((View.ld (Val := Elt Ideal) W (Rect.unit ![5, 0] ![1, 256] inb_S31x256_S1x256_5_0)) : FVec Ideal S1x256 .f32)
    broadcasts_S1x256_S72x256)) (mulf (s := S72x256) (φ := .f32) ((View.ld (Val := Elt Ideal) B (Rect.unit ![456, 0] ![72, 256]
    inb_S544x256_S72x256_456_0)) : FVec Ideal S72x256 .f32) (broadcastTo S72x256 ((View.ld (Val := Elt Ideal) W (Rect.unit ![13, 0] ![1, 256]
    inb_S31x256_S1x256_13_0)) : FVec Ideal S1x256 .f32) broadcasts_S1x256_S72x256))) (mulf (s := S72x256) (φ := .f32) ((View.ld (Val := Elt Ideal) B
    (Rect.unit ![464, 0] ![72, 256] inb_S544x256_S72x256_464_0)) : FVec Ideal S72x256 .f32) (broadcastTo S72x256 ((View.ld (Val := Elt Ideal) W
    (Rect.unit ![21, 0] ![1, 256] inb_S31x256_S1x256_21_0)) : FVec Ideal S1x256 .f32) broadcasts_S1x256_S72x256))) (mulf (s := S72x256) (φ := .f32)
    ((View.ld (Val := Elt Ideal) B (Rect.unit ![472, 0] ![72, 256] inb_S544x256_S72x256_472_0)) : FVec Ideal S72x256 .f32) (broadcastTo S72x256
    ((View.ld (Val := Elt Ideal) W (Rect.unit ![29, 0] ![1, 256] inb_S31x256_S1x256_29_0)) : FVec Ideal S1x256 .f32) broadcasts_S1x256_S72x256)))
    slices_S72x256_o7_0_S64x256))

theorem chunk7_at {β ω : ℕ → Fin 256 → EReal} (hB : ∀ (s : Fin 544) (j : Fin 256), B (ix2 s j) = β s.val j)
    (hW : ∀ (k : Fin 31) (j : Fin 256), W (ix2 k j) = ω k.val j) (r : Fin 64) (j : Fin 256) :
    chunk7 B W (ix2 r j) = ∑ k : Fin 31, β (450 + k.val + r.val) j * ω k.val j := by
  unfold chunk7
  pointwise [k0_pay99, k0_pay100, k0_pay101, k0_pay102, k0_pay103, k0_pay104, k0_pay105, hB, hW]
  rw [sum31 (fun k => β (450 + k + r.val) j * ω k j)]
  simp only [← Nat.add_assoc, Nat.reduceAdd, Nat.add_zero, Nat.zero_add]
  ac_rfl

end Cert.Kernel3Ideal.Hand

end
-- ==== Proof.MixRows.lean ====
module

public import proofs.«01_k».proof.Proof.MixChunks

/-! One tile of the kernel: each of the values its body computes is the specification's intermediate array at the
    tile's rows. Stated over any vectors that hold the rows of the argument arrays. -/

@[expose] public section

set_option maxRecDepth 16384

noncomputable section

open Idealize.ShloMosaic Idealize.ShloMosaic.TcCoe Idealize.SL.Sem
open scoped BigOperators

namespace Cert.Kernel3Ideal.Hand

open Cert.Kernel3Ideal Cert.Kernel3Ideal.Gen
open Cert.Mix (Args)

theorem zsub (x : EReal) : 0 - x = -x := by rw [sub_eq_add_neg, zero_add]

/-- The loaded vectors hold group `b`'s rows `T r` of the argument arrays. -/
structure Loads (A : Args) (b : Fin 8) (T : Fin 512 → Fin 4096)
    (v3 : Vec Ideal S1x512x1024 .f32) (v5 : Vec Ideal S1x1024 .f32) (v19 v25 : Vec Ideal S1x1x1x1024 .f32)
    (v30 : Vec Ideal S1024x512 .bf16) (v46 : Vec Ideal S1024x768 .bf16) (v56 v59 v62 : Vec Ideal S1024x512 .bf16) : Prop where
  x : ∀ (r : Fin 512) (k : Fin 1024), v3 (ix3 0 r k) = A.x (ix3 b (T r) k)
  gp : ∀ k : Fin 1024, v5 (ix2 0 k) = A.gp (ix1 k)
  m1 : ∀ k : Fin 1024, v19 (ix4 0 0 0 k) = Cert.Mix.md A 1024 (by decide) b k
  m0 : ∀ k : Fin 1024, v25 (ix4 0 0 0 k) = Cert.Mix.md A 0 (by decide) b k
  wa : ∀ (k : Fin 1024) (j : Fin 512), v30 (ix2 k j) = A.wi (ix2 k ⟨j.val, by have := j.isLt; omega⟩)
  wb : ∀ (k : Fin 1024) (j : Fin 768), v46 (ix2 k j) = A.wi (ix2 k ⟨512 + j.val, by have := j.isLt; omega⟩)
  wq : ∀ (k : Fin 1024) (j : Fin 512), v56 (ix2 k j) = A.wi (ix2 k ⟨1280 + j.val, by have := j.isLt; omega⟩)
  wk : ∀ (k : Fin 1024) (j : Fin 512), v59 (ix2 k j) = A.wi (ix2 k ⟨1792 + j.val, by have := j.isLt; omega⟩)
  wv : ∀ (k : Fin 1024) (j : Fin 512), v62 (ix2 k j) = A.wi (ix2 k ⟨2304 + j.val, by have := j.isLt; omega⟩)

section

variable {A : Args} {b : Fin 8} {T : Fin 512 → Fin 4096}
    {v3 : Vec Ideal S1x512x1024 .f32} {v5 : Vec Ideal S1x1024 .f32} {v19 v25 : Vec Ideal S1x1x1x1024 .f32}
    {v30 : Vec Ideal S1024x512 .bf16} {v46 : Vec Ideal S1024x768 .bf16} {v56 v59 v62 : Vec Ideal S1024x512 .bf16}
    (L : Loads A b T v3 v5 v19 v25 v30 v46 v56 v59 v62)

include L

theorem hh_at (r : Fin 512) (k : Fin 1024) : k0_pay7 v3 v5 v19 v25 (ix2 r k) = Cert.Mix.hh A b (T r) k := by
  pointwise [k0_pay7, L.x, L.gp, L.m1, L.m0]
  rfl

theorem za_at (r : Fin 512) (j : Fin 512) :
    k0_pay8 v3 v5 v19 v25 v30 (ix2 r j) = Cert.Mix.zz A b (T r) ⟨j.val, by have := j.isLt; omega⟩ := by
  have h := hh_at L
  unfold k0_pay8
  generalize k0_pay7 v3 v5 v19 v25 = v29 at h ⊢
  pointwise [h, L.wa]
  rfl

theorem aa_at (r : Fin 512) (j : Fin 256) :
    k0_pay11 (k0_pay9 v3 v5 v19 v25 v30) (k0_pay10 v3 v5 v19 v25 v30) (ix2 r j) = Cert.Mix.aa A b (T r) j := by
  have h := za_at L
  unfold k0_pay9 k0_pay10
  generalize k0_pay8 v3 v5 v19 v25 v30 = v32 at h ⊢
  pointwise [k0_pay11, h, zsub]
  unfold Cert.Mix.aa Cert.Mix.zc Cert.Mix.sgm
  congr 5
  simp

theorem zb_at (r : Fin 512) (j : Fin 768) :
    k0_pay12 (k0_pay7 v3 v5 v19 v25) v46 (ix2 r j) = Cert.Mix.zz A b (T r) ⟨512 + j.val, by have := j.isLt; omega⟩ := by
  have h := hh_at L
  generalize k0_pay7 v3 v5 v19 v25 = v29 at h ⊢
  pointwise [k0_pay12, h, L.wb]
  rfl

theorem ub_at (r : Fin 512) (j : Fin 256) :
    k0_pay13 (k0_pay7 v3 v5 v19 v25) v46 (ix2 r j) = Cert.Mix.ub A b (T r) j := by
  have h := zb_at L
  unfold k0_pay13
  generalize k0_pay12 (k0_pay7 v3 v5 v19 v25) v46 = v48 at h ⊢
  pointwise [h]
  unfold Cert.Mix.ub Cert.Mix.zc
  refine congrArg (· * _) (congrArg (Cert.Mix.zz A b (T r)) (Fin.ext ?_))
  show 512 + (512 + j.val) = 1024 + j.val
  omega

theorem bg_at (r : Fin 512) (j : Fin 256) :
    k0_pay14 (k0_pay7 v3 v5 v19 v25) v46 (ix2 r j) = Cert.Mix.zc A 768 (by decide) b (T r) j := by
  have h := zb_at L
  unfold k0_pay14
  generalize k0_pay12 (k0_pay7 v3 v5 v19 v25) v46 = v48 at h ⊢
  pointwise [h]
  unfold Cert.Mix.zc
  exact congrArg (Cert.Mix.zz A b (T r)) (Fin.ext (by show 512 + (256 + j.val) = 768 + j.val; omega))

theorem q_at (r j : Fin 512) :
    k0_pay15 (k0_pay7 v3 v5 v19 v25) v56 (ix2 r j) = Cert.Mix.zz A b (T r) ⟨1280 + j.val, by have := j.isLt; omega⟩ := by
  have h := hh_at L
  generalize k0_pay7 v3 v5 v19 v25 = v29 at h ⊢
  pointwise [k0_pay15, h, L.wq]
  rfl

theorem k_at (r j : Fin 512) :
    k0_pay16 (k0_pay7 v3 v5 v19 v25) v59 (ix2 r j) = Cert.Mix.zz A b (T r) ⟨1792 + j.val, by have := j.isLt; omega⟩ := by
  have h := hh_at L
  generalize k0_pay7 v3 v5 v19 v25 = v29 at h ⊢
  pointwise [k0_pay16, h, L.wk]
  rfl

theorem v_at (r j : Fin 512) :
    k0_pay17 (k0_pay7 v3 v5 v19 v25) v62 (ix2 r j) = Cert.Mix.zz A b (T r) ⟨2304 + j.val, by have := j.isLt; omega⟩ := by
  have h := hh_at L
  generalize k0_pay7 v3 v5 v19 v25 = v29 at h ⊢
  pointwise [k0_pay17, h, L.wv]
  rfl

end

/-! ## The two groups' rows, from the row buffers -/

section

variable {A : Args} {b : Fin 8} {T0 : ℕ} (B : Vec Ideal S544x256 .f32) (W : Vec Ideal S31x256 .f32)
    (hB : ∀ (s : Fin 544) (j : Fin 256), 2 ≤ s.val → B (ix2 s j) = Cert.Mix.xa A b (T0 + (s.val - 2)) j)
    (hW : ∀ (k : Fin 31) (j : Fin 256), W (ix2 k j) = A.aw (ix2 k j))

/-- The buffer's rows, by their number. -/
def rowOf (n : ℕ) (j : Fin 256) : EReal := if h : n < 544 then B (ix2 ⟨n, h⟩ j) else 0

/-- The body's centred rows: the eight chunks side by side with their bias, less each row's mean. -/
def centred (v1402 : Vec Ideal S1x256 .f32) : FVec Ideal S512x256 .f32 :=
    k0_pay106 (chunk0 B W) (chunk1 B W) (chunk2 B W) (chunk3 B W) (chunk4 B W) (chunk5 B W) (chunk6 B W) (k0_pay104 (k0_pay102 (k0_pay100 (k0_pay99
    (View.ld (Val := Elt Ideal) B (Rect.unit ![456, 0] ![64, 256] inb_S544x256_S64x256_456_0)) (View.ld (Val := Elt Ideal) W (Rect.unit ![6, 0] ![1,
    256] inb_S31x256_S1x256_6_0)) (View.ld (Val := Elt Ideal) B (Rect.unit ![464, 0] ![64, 256] inb_S544x256_S64x256_464_0)) (View.ld (Val := Elt
    Ideal) W (Rect.unit ![14, 0] ![1, 256] inb_S31x256_S1x256_14_0)) (View.ld (Val := Elt Ideal) B (Rect.unit ![472, 0] ![64, 256]
    inb_S544x256_S64x256_472_0)) (View.ld (Val := Elt Ideal) W (Rect.unit ![22, 0] ![1, 256] inb_S31x256_S1x256_22_0)) (View.ld (Val := Elt Ideal) B
    (Rect.unit ![480, 0] ![64, 256] inb_S544x256_S64x256_480_0)) (View.ld (Val := Elt Ideal) W (Rect.unit ![30, 0] ![1, 256] inb_S31x256_S1x256_30_0))
    (View.ld (Val := Elt Ideal) B (Rect.unit ![456, 0] ![72, 256] inb_S544x256_S72x256_456_0)) (View.ld (Val := Elt Ideal) W (Rect.unit ![7, 0] ![1,
    256] inb_S31x256_S1x256_7_0)) (View.ld (Val := Elt Ideal) B (Rect.unit ![464, 0] ![72, 256] inb_S544x256_S72x256_464_0)) (View.ld (Val := Elt
    Ideal) W (Rect.unit ![15, 0] ![1, 256] inb_S31x256_S1x256_15_0)) (View.ld (Val := Elt Ideal) B (Rect.unit ![472, 0] ![72, 256]
    inb_S544x256_S72x256_472_0)) (View.ld (Val := Elt Ideal) W (Rect.unit ![23, 0] ![1, 256] inb_S31x256_S1x256_23_0))) (View.ld (Val := Elt Ideal) B
    (Rect.unit ![448, 0] ![72, 256] inb_S544x256_S72x256_448_0)) (View.ld (Val := Elt Ideal) W (Rect.unit ![0, 0] ![1, 256] inb_S31x256_S1x256_0_0))
    (View.ld (Val := Elt Ideal) B (Rect.unit ![456, 0] ![72, 256] inb_S544x256_S72x256_456_0)) (View.ld (Val := Elt Ideal) W (Rect.unit ![8, 0] ![1,
    256] inb_S31x256_S1x256_8_0)) (View.ld (Val := Elt Ideal) B (Rect.unit ![464, 0] ![72, 256] inb_S544x256_S72x256_464_0)) (View.ld (Val := Elt
    Ideal) W (Rect.unit ![16, 0] ![1, 256] inb_S31x256_S1x256_16_0)) (View.ld (Val := Elt Ideal) B (Rect.unit ![472, 0] ![72, 256]
    inb_S544x256_S72x256_472_0)) (View.ld (Val := Elt Ideal) W (Rect.unit ![24, 0] ![1, 256] inb_S31x256_S1x256_24_0))) (k0_pay101 (View.ld (Val :=
    Elt Ideal) B (Rect.unit ![448, 0] ![72, 256] inb_S544x256_S72x256_448_0)) (View.ld (Val := Elt Ideal) W (Rect.unit ![1, 0] ![1, 256]
    inb_S31x256_S1x256_1_0)) (View.ld (Val := Elt Ideal) B (Rect.unit ![456, 0] ![72, 256] inb_S544x256_S72x256_456_0)) (View.ld (Val := Elt Ideal) W
    (Rect.unit ![9, 0] ![1, 256] inb_S31x256_S1x256_9_0)) (View.ld (Val := Elt Ideal) B (Rect.unit ![464, 0] ![72, 256] inb_S544x256_S72x256_464_0))
    (View.ld (Val := Elt Ideal) W (Rect.unit ![17, 0] ![1, 256] inb_S31x256_S1x256_17_0))) (View.ld (Val := Elt Ideal) B (Rect.unit ![472, 0] ![72,
    256] inb_S544x256_S72x256_472_0)) (View.ld (Val := Elt Ideal) W (Rect.unit ![25, 0] ![1, 256] inb_S31x256_S1x256_25_0)) (View.ld (Val := Elt
    Ideal) B (Rect.unit ![448, 0] ![72, 256] inb_S544x256_S72x256_448_0)) (View.ld (Val := Elt Ideal) W (Rect.unit ![2, 0] ![1, 256]
    inb_S31x256_S1x256_2_0)) (View.ld (Val := Elt Ideal) B (Rect.unit ![456, 0] ![72, 256] inb_S544x256_S72x256_456_0)) (View.ld (Val := Elt Ideal) W
    (Rect.unit ![10, 0] ![1, 256] inb_S31x256_S1x256_10_0)) (View.ld (Val := Elt Ideal) B (Rect.unit ![464, 0] ![72, 256] inb_S544x256_S72x256_464_0))
    (View.ld (Val := Elt Ideal) W (Rect.unit ![18, 0] ![1, 256] inb_S31x256_S1x256_18_0)) (View.ld (Val := Elt Ideal) B (Rect.unit ![472, 0] ![72,
    256] inb_S544x256_S72x256_472_0)) (View.ld (Val := Elt Ideal) W (Rect.unit ![26, 0] ![1, 256] inb_S31x256_S1x256_26_0))) (k0_pay103 (View.ld (Val
    := Elt Ideal) B (Rect.unit ![448, 0] ![72, 256] inb_S544x256_S72x256_448_0)) (View.ld (Val := Elt Ideal) W (Rect.unit ![3, 0] ![1, 256]
    inb_S31x256_S1x256_3_0))) (View.ld (Val := Elt Ideal) B (Rect.unit ![456, 0] ![72, 256] inb_S544x256_S72x256_456_0)) (View.ld (Val := Elt Ideal) W
    (Rect.unit ![11, 0] ![1, 256] inb_S31x256_S1x256_11_0)) (View.ld (Val := Elt Ideal) B (Rect.unit ![464, 0] ![72, 256] inb_S544x256_S72x256_464_0))
    (View.ld (Val := Elt Ideal) W (Rect.unit ![19, 0] ![1, 256] inb_S31x256_S1x256_19_0)) (View.ld (Val := Elt Ideal) B (Rect.unit ![472, 0] ![72,
    256] inb_S544x256_S72x256_472_0)) (View.ld (Val := Elt Ideal) W (Rect.unit ![27, 0] ![1, 256] inb_S31x256_S1x256_27_0))) (k0_pay105 (View.ld (Val
    := Elt Ideal) B (Rect.unit ![448, 0] ![72, 256] inb_S544x256_S72x256_448_0)) (View.ld (Val := Elt Ideal) W (Rect.unit ![4, 0] ![1, 256]
    inb_S31x256_S1x256_4_0)) (View.ld (Val := Elt Ideal) B (Rect.unit ![456, 0] ![72, 256] inb_S544x256_S72x256_456_0)) (View.ld (Val := Elt Ideal) W
    (Rect.unit ![12, 0] ![1, 256] inb_S31x256_S1x256_12_0)) (View.ld (Val := Elt Ideal) B (Rect.unit ![464, 0] ![72, 256] inb_S544x256_S72x256_464_0))
    (View.ld (Val := Elt Ideal) W (Rect.unit ![20, 0] ![1, 256] inb_S31x256_S1x256_20_0)) (View.ld (Val := Elt Ideal) B (Rect.unit ![472, 0] ![72,
    256] inb_S544x256_S72x256_472_0)) (View.ld (Val := Elt Ideal) W (Rect.unit ![28, 0] ![1, 256] inb_S31x256_S1x256_28_0))) (View.ld (Val := Elt
    Ideal) B (Rect.unit ![448, 0] ![72, 256] inb_S544x256_S72x256_448_0)) (View.ld (Val := Elt Ideal) W (Rect.unit ![5, 0] ![1, 256]
    inb_S31x256_S1x256_5_0)) (View.ld (Val := Elt Ideal) B (Rect.unit ![456, 0] ![72, 256] inb_S544x256_S72x256_456_0)) (View.ld (Val := Elt Ideal) W
    (Rect.unit ![13, 0] ![1, 256] inb_S31x256_S1x256_13_0)) (View.ld (Val := Elt Ideal) B (Rect.unit ![464, 0] ![72, 256] inb_S544x256_S72x256_464_0))
    (View.ld (Val := Elt Ideal) W (Rect.unit ![21, 0] ![1, 256] inb_S31x256_S1x256_21_0)) (View.ld (Val := Elt Ideal) B (Rect.unit ![472, 0] ![72,
    256] inb_S544x256_S72x256_472_0)) (View.ld (Val := Elt Ideal) W (Rect.unit ![29, 0] ![1, 256] inb_S31x256_S1x256_29_0)) v1402

/-- The row sums of their squares. -/
def squares (v1402 : Vec Ideal S1x256 .f32) : FVec Ideal S512x1 .f32 :=
    k0_pay107 (chunk0 B W) (chunk1 B W) (chunk2 B W) (chunk3 B W) (chunk4 B W) (chunk5 B W) (chunk6 B W) (k0_pay104 (k0_pay102 (k0_pay100 (k0_pay99
    (View.ld (Val := Elt Ideal) B (Rect.unit ![456, 0] ![64, 256] inb_S544x256_S64x256_456_0)) (View.ld (Val := Elt Ideal) W (Rect.unit ![6, 0] ![1,
    256] inb_S31x256_S1x256_6_0)) (View.ld (Val := Elt Ideal) B (Rect.unit ![464, 0] ![64, 256] inb_S544x256_S64x256_464_0)) (View.ld (Val := Elt
    Ideal) W (Rect.unit ![14, 0] ![1, 256] inb_S31x256_S1x256_14_0)) (View.ld (Val := Elt Ideal) B (Rect.unit ![472, 0] ![64, 256]
    inb_S544x256_S64x256_472_0)) (View.ld (Val := Elt Ideal) W (Rect.unit ![22, 0] ![1, 256] inb_S31x256_S1x256_22_0)) (View.ld (Val := Elt Ideal) B
    (Rect.unit ![480, 0] ![64, 256] inb_S544x256_S64x256_480_0)) (View.ld (Val := Elt Ideal) W (Rect.unit ![30, 0] ![1, 256] inb_S31x256_S1x256_30_0))
    (View.ld (Val := Elt Ideal) B (Rect.unit ![456, 0] ![72, 256] inb_S544x256_S72x256_456_0)) (View.ld (Val := Elt Ideal) W (Rect.unit ![7, 0] ![1,
    256] inb_S31x256_S1x256_7_0)) (View.ld (Val := Elt Ideal) B (Rect.unit ![464, 0] ![72, 256] inb_S544x256_S72x256_464_0)) (View.ld (Val := Elt
    Ideal) W (Rect.unit ![15, 0] ![1, 256] inb_S31x256_S1x256_15_0)) (View.ld (Val := Elt Ideal) B (Rect.unit ![472, 0] ![72, 256]
    inb_S544x256_S72x256_472_0)) (View.ld (Val := Elt Ideal) W (Rect.unit ![23, 0] ![1, 256] inb_S31x256_S1x256_23_0))) (View.ld (Val := Elt Ideal) B
    (Rect.unit ![448, 0] ![72, 256] inb_S544x256_S72x256_448_0)) (View.ld (Val := Elt Ideal) W (Rect.unit ![0, 0] ![1, 256] inb_S31x256_S1x256_0_0))
    (View.ld (Val := Elt Ideal) B (Rect.unit ![456, 0] ![72, 256] inb_S544x256_S72x256_456_0)) (View.ld (Val := Elt Ideal) W (Rect.unit ![8, 0] ![1,
    256] inb_S31x256_S1x256_8_0)) (View.ld (Val := Elt Ideal) B (Rect.unit ![464, 0] ![72, 256] inb_S544x256_S72x256_464_0)) (View.ld (Val := Elt
    Ideal) W (Rect.unit ![16, 0] ![1, 256] inb_S31x256_S1x256_16_0)) (View.ld (Val := Elt Ideal) B (Rect.unit ![472, 0] ![72, 256]
    inb_S544x256_S72x256_472_0)) (View.ld (Val := Elt Ideal) W (Rect.unit ![24, 0] ![1, 256] inb_S31x256_S1x256_24_0))) (k0_pay101 (View.ld (Val :=
    Elt Ideal) B (Rect.unit ![448, 0] ![72, 256] inb_S544x256_S72x256_448_0)) (View.ld (Val := Elt Ideal) W (Rect.unit ![1, 0] ![1, 256]
    inb_S31x256_S1x256_1_0)) (View.ld (Val := Elt Ideal) B (Rect.unit ![456, 0] ![72, 256] inb_S544x256_S72x256_456_0)) (View.ld (Val := Elt Ideal) W
    (Rect.unit ![9, 0] ![1, 256] inb_S31x256_S1x256_9_0)) (View.ld (Val := Elt Ideal) B (Rect.unit ![464, 0] ![72, 256] inb_S544x256_S72x256_464_0))
    (View.ld (Val := Elt Ideal) W (Rect.unit ![17, 0] ![1, 256] inb_S31x256_S1x256_17_0))) (View.ld (Val := Elt Ideal) B (Rect.unit ![472, 0] ![72,
    256] inb_S544x256_S72x256_472_0)) (View.ld (Val := Elt Ideal) W (Rect.unit ![25, 0] ![1, 256] inb_S31x256_S1x256_25_0)) (View.ld (Val := Elt
    Ideal) B (Rect.unit ![448, 0] ![72, 256] inb_S544x256_S72x256_448_0)) (View.ld (Val := Elt Ideal) W (Rect.unit ![2, 0] ![1, 256]
    inb_S31x256_S1x256_2_0)) (View.ld (Val := Elt Ideal) B (Rect.unit ![456, 0] ![72, 256] inb_S544x256_S72x256_456_0)) (View.ld (Val := Elt Ideal) W
    (Rect.unit ![10, 0] ![1, 256] inb_S31x256_S1x256_10_0)) (View.ld (Val := Elt Ideal) B (Rect.unit ![464, 0] ![72, 256] inb_S544x256_S72x256_464_0))
    (View.ld (Val := Elt Ideal) W (Rect.unit ![18, 0] ![1, 256] inb_S31x256_S1x256_18_0)) (View.ld (Val := Elt Ideal) B (Rect.unit ![472, 0] ![72,
    256] inb_S544x256_S72x256_472_0)) (View.ld (Val := Elt Ideal) W (Rect.unit ![26, 0] ![1, 256] inb_S31x256_S1x256_26_0))) (k0_pay103 (View.ld (Val
    := Elt Ideal) B (Rect.unit ![448, 0] ![72, 256] inb_S544x256_S72x256_448_0)) (View.ld (Val := Elt Ideal) W (Rect.unit ![3, 0] ![1, 256]
    inb_S31x256_S1x256_3_0))) (View.ld (Val := Elt Ideal) B (Rect.unit ![456, 0] ![72, 256] inb_S544x256_S72x256_456_0)) (View.ld (Val := Elt Ideal) W
    (Rect.unit ![11, 0] ![1, 256] inb_S31x256_S1x256_11_0)) (View.ld (Val := Elt Ideal) B (Rect.unit ![464, 0] ![72, 256] inb_S544x256_S72x256_464_0))
    (View.ld (Val := Elt Ideal) W (Rect.unit ![19, 0] ![1, 256] inb_S31x256_S1x256_19_0)) (View.ld (Val := Elt Ideal) B (Rect.unit ![472, 0] ![72,
    256] inb_S544x256_S72x256_472_0)) (View.ld (Val := Elt Ideal) W (Rect.unit ![27, 0] ![1, 256] inb_S31x256_S1x256_27_0))) (k0_pay105 (View.ld (Val
    := Elt Ideal) B (Rect.unit ![448, 0] ![72, 256] inb_S544x256_S72x256_448_0)) (View.ld (Val := Elt Ideal) W (Rect.unit ![4, 0] ![1, 256]
    inb_S31x256_S1x256_4_0)) (View.ld (Val := Elt Ideal) B (Rect.unit ![456, 0] ![72, 256] inb_S544x256_S72x256_456_0)) (View.ld (Val := Elt Ideal) W
    (Rect.unit ![12, 0] ![1, 256] inb_S31x256_S1x256_12_0)) (View.ld (Val := Elt Ideal) B (Rect.unit ![464, 0] ![72, 256] inb_S544x256_S72x256_464_0))
    (View.ld (Val := Elt Ideal) W (Rect.unit ![20, 0] ![1, 256] inb_S31x256_S1x256_20_0)) (View.ld (Val := Elt Ideal) B (Rect.unit ![472, 0] ![72,
    256] inb_S544x256_S72x256_472_0)) (View.ld (Val := Elt Ideal) W (Rect.unit ![28, 0] ![1, 256] inb_S31x256_S1x256_28_0))) (View.ld (Val := Elt
    Ideal) B (Rect.unit ![448, 0] ![72, 256] inb_S544x256_S72x256_448_0)) (View.ld (Val := Elt Ideal) W (Rect.unit ![5, 0] ![1, 256]
    inb_S31x256_S1x256_5_0)) (View.ld (Val := Elt Ideal) B (Rect.unit ![456, 0] ![72, 256] inb_S544x256_S72x256_456_0)) (View.ld (Val := Elt Ideal) W
    (Rect.unit ![13, 0] ![1, 256] inb_S31x256_S1x256_13_0)) (View.ld (Val := Elt Ideal) B (Rect.unit ![464, 0] ![72, 256] inb_S544x256_S72x256_464_0))
    (View.ld (Val := Elt Ideal) W (Rect.unit ![21, 0] ![1, 256] inb_S31x256_S1x256_21_0)) (View.ld (Val := Elt Ideal) B (Rect.unit ![472, 0] ![72,
    256] inb_S544x256_S72x256_472_0)) (View.ld (Val := Elt Ideal) W (Rect.unit ![29, 0] ![1, 256] inb_S31x256_S1x256_29_0)) v1402

include hB hW

/-- The eight chunks side by side are the convolution. -/
theorem cat_at (r : Fin 512) (j : Fin 256) :
    (concatenate S512x256 0 [⟨S64x256, (chunk0 B W : FVec Ideal S64x256 .f32)⟩, ⟨S64x256, (chunk1 B W : FVec Ideal S64x256 .f32)⟩, ⟨S64x256, (chunk2 B W : FVec Ideal S64x256 .f32)⟩, ⟨S64x256, (chunk3 B W : FVec Ideal S64x256 .f32)⟩, ⟨S64x256, (chunk4 B W : FVec Ideal S64x256 .f32)⟩, ⟨S64x256, (chunk5 B W : FVec Ideal S64x256 .f32)⟩, ⟨S64x256, (chunk6 B W : FVec Ideal S64x256 .f32)⟩, ⟨S64x256, chunk7 B W⟩] concatenates_S64x256_S64x256_S64x256_S64x256_S64x256_S64x256_S64x256_S64x256_S512x256_d0 : FVec Ideal S512x256 .f32) (ix2 r j)
      = Cert.Mix.ca A b (T0 + r.val) j := by
  have hβ : ∀ (s : Fin 544) (j : Fin 256),
      B (ix2 s j) = rowOf B s.val j := fun s j => by
    unfold rowOf
    rw [dif_pos s.isLt]
  have hω : ∀ (k : Fin 31) (j : Fin 256), W (ix2 k j) = Cert.Mix.wa A k.val j := fun k j => by
    unfold Cert.Mix.wa
    rw [dif_pos k.isLt]
    exact hW k j
  have key : ∀ n : ℕ, n = r.val → (∑ k : Fin 31, rowOf B (2 + k.val + n) j
      * Cert.Mix.wa A k.val j) = Cert.Mix.ca A b (T0 + r.val) j := by
    rintro n rfl
    unfold Cert.Mix.ca
    refine Finset.sum_congr rfl fun k _ => congrArg (· * Cert.Mix.wa A k.val j) ?_
    have hk := k.isLt
    have hr := r.isLt
    show (if h : 2 + k.val + r.val < 544 then B (ix2 ⟨2 + k.val + r.val, h⟩ j) else 0) = _
    rw [dif_pos (by omega)]
    refine (hB ⟨2 + k.val + r.val, by omega⟩ j (by show 2 ≤ 2 + k.val + r.val; omega)).trans ?_
    exact congrArg (fun q => Cert.Mix.xa A b q j) (by show T0 + (2 + k.val + r.val - 2) = k.val + (T0 + r.val); omega)
  have c0 := chunk0_at B W (β := rowOf B) (ω := Cert.Mix.wa A) hβ hω
  have c1 := chunk1_at B W (β := rowOf B) (ω := Cert.Mix.wa A) hβ hω
  have c2 := chunk2_at B W (β := rowOf B) (ω := Cert.Mix.wa A) hβ hω
  have c3 := chunk3_at B W (β := rowOf B) (ω := Cert.Mix.wa A) hβ hω
  have c4 := chunk4_at B W (β := rowOf B) (ω := Cert.Mix.wa A) hβ hω
  have c5 := chunk5_at B W (β := rowOf B) (ω := Cert.Mix.wa A) hβ hω
  have c6 := chunk6_at B W (β := rowOf B) (ω := Cert.Mix.wa A) hβ hω
  have c7 := chunk7_at B W (β := rowOf B) (ω := Cert.Mix.wa A) hβ hω
  generalize chunk0 B W = y0 at c0 ⊢
  generalize chunk1 B W = y1 at c1 ⊢
  generalize chunk2 B W = y2 at c2 ⊢
  generalize chunk3 B W = y3 at c3 ⊢
  generalize chunk4 B W = y4 at c4 ⊢
  generalize chunk5 B W = y5 at c5 ⊢
  generalize chunk6 B W = y6 at c6 ⊢
  generalize chunk7 B W = y7 at c7 ⊢
  have hr := r.isLt
  have shift : ∀ c n : ℕ, c + n = r.val → (∑ k : Fin 31, rowOf B (c + 2 + k.val + n) j
      * Cert.Mix.wa A k.val j) = Cert.Mix.ca A b (T0 + r.val) j := by
    intro c n h
    rw [← key r.val rfl]
    refine Finset.sum_congr rfl fun k _ => ?_
    rw [show c + 2 + k.val + n = 2 + k.val + r.val by omega]
  pointwise []
  by_cases h0 : r.val < 64
  · rw [dif_pos h0, c0]; exact shift 0 r.val (by omega)
  rw [dif_neg h0]
  by_cases h1 : r.val - 64 < 64
  · rw [dif_pos h1, c1]; exact shift 64 _ (by show 64 + (r.val - 64) = r.val; omega)
  rw [dif_neg h1]
  by_cases h2 : r.val - 64 - 64 < 64
  · rw [dif_pos h2, c2]; exact shift 128 _ (by show 128 + (r.val - 64 - 64) = r.val; omega)
  rw [dif_neg h2]
  by_cases h3 : r.val - 64 - 64 - 64 < 64
  · rw [dif_pos h3, c3]; exact shift 192 _ (by show 192 + (r.val - 64 - 64 - 64) = r.val; omega)
  rw [dif_neg h3]
  by_cases h4 : r.val - 64 - 64 - 64 - 64 < 64
  · rw [dif_pos h4, c4]; exact shift 256 _ (by show 256 + (r.val - 64 - 64 - 64 - 64) = r.val; omega)
  rw [dif_neg h4]
  by_cases h5 : r.val - 64 - 64 - 64 - 64 - 64 < 64
  · rw [dif_pos h5, c5]; exact shift 320 _ (by show 320 + (r.val - 64 - 64 - 64 - 64 - 64) = r.val; omega)
  rw [dif_neg h5]
  by_cases h6 : r.val - 64 - 64 - 64 - 64 - 64 - 64 < 64
  · rw [dif_pos h6, c6]; exact shift 384 _ (by show 384 + (r.val - 64 - 64 - 64 - 64 - 64 - 64) = r.val; omega)
  rw [dif_neg h6, c7]
  exact shift 448 _ (by show 448 + (r.val - 64 - 64 - 64 - 64 - 64 - 64 - 64) = r.val; omega)

theorem lc_at {v1402 : Vec Ideal S1x256 .f32} (hab : ∀ j : Fin 256, v1402 (ix2 0 j) = A.ab (ix1 j)) (r : Fin 512) (j : Fin 256) :
    centred B W v1402 (ix2 r j) = Cert.Mix.lc A b (T0 + r.val) j := by
  unfold centred k0_pay106
  generalize hv : (concatenate S512x256 0 _ _ : FVec Ideal S512x256 .f32) = v1401
  have h : ∀ (r : Fin 512) (j : Fin 256), v1401 (ix2 r j) = Cert.Mix.ca A b (T0 + r.val) j := fun r j => by
    rw [← hv]
    exact cat_at B W hB hW r j
  pointwise [h, hab]
  rfl

/-- What the body stores to the left half of the first result's block. -/
theorem na_at {v1402 v1422 v1426 v1438 : Vec Ideal S1x256 .f32} (hab : ∀ j : Fin 256, v1402 (ix2 0 j) = A.ab (ix1 j))
    (hlg : ∀ j : Fin 256, v1422 (ix2 0 j) = A.lg (ix1 j)) (hlb : ∀ j : Fin 256, v1426 (ix2 0 j) = A.lb (ix1 j))
    (hga : ∀ j : Fin 256, v1438 (ix2 0 j) = A.ga (ix1 j)) (r : Fin 512) (j : Fin 256) :
    k0_pay109 (centred B W v1402) (squares B W v1402) (k0_pay108 (F := Ideal)) v1422 v1426 v1438 (ix3 0 r j)
      = Cert.Mix.na A b (T0 + r.val) j := by
  have h := lc_at B W hB hW hab
  have e : squares B W v1402 = shapeCast S512x1 (multiReduction .add [1] S512 (mulf (centred B W v1402) (centred B W v1402)) 0x00000000#32 reduces_S512x256_S512 (.inl rfl) rfl) shapeCasts_S512_S512x1 := rfl
  rw [e]
  generalize centred B W v1402 = v1411 at h ⊢
  pointwise [k0_pay109, k0_pay108, h, hlg, hlb, hga, zsub]
  rfl

end

/-- What the body stores to the right half of the first result's block. -/
theorem nb_at {A : Args} {b : Fin 8} {T : Fin 512 → Fin 4096}
    {v55 v1460 : Vec Ideal S512x256 .f32} {v1461 : Vec Ideal S1x256 .f32} {v1464 : Vec Ideal S520x256 .f32}
    {v1465 : Vec Ideal S1x256 .f32} {v1470 : Vec Ideal S520x256 .f32} {v1471 v1477 : Vec Ideal S1x256 .f32}
    (hbg : ∀ (r : Fin 512) (j : Fin 256), v55 (ix2 r j) = Cert.Mix.zc A 768 (by decide) b (T r) j)
    (h2 : ∀ (r : Fin 512) (j : Fin 256), v1460 (ix2 r j) = Cert.Mix.xb A b (2 + (T r).val) j)
    (h0 : ∀ (r : Fin 512) (j : Fin 256), v1464 (ix2 ⟨6 + r.val, by have := r.isLt; omega⟩ j) = Cert.Mix.xb A b (T r).val j)
    (h1 : ∀ (r : Fin 512) (j : Fin 256), v1470 (ix2 ⟨7 + r.val, by have := r.isLt; omega⟩ j) = Cert.Mix.xb A b (1 + (T r).val) j)
    (c2 : ∀ j : Fin 256, v1461 (ix2 0 j) = A.bw (ix2 2 j)) (c0 : ∀ j : Fin 256, v1465 (ix2 0 j) = A.bw (ix2 0 j))
    (c1 : ∀ j : Fin 256, v1471 (ix2 0 j) = A.bw (ix2 1 j)) (hgb : ∀ j : Fin 256, v1477 (ix2 0 j) = A.gb (ix1 j))
    (r : Fin 512) (j : Fin 256) :
    k0_pay112 (k0_pay111 v55 v1460 v1461 v1464 v1465 v1470 v1471 v1477) (ix3 0 r j) = Cert.Mix.nb A b (T r) j := by
  have h : ∀ (r : Fin 512) (j : Fin 256),
      v1460 (ix2 r j) * v1461 (ix2 0 j) + v1464 (ix2 ⟨6 + r.val, by have := r.isLt; omega⟩ j) * v1465 (ix2 0 j)
        + v1470 (ix2 ⟨7 + r.val, by have := r.isLt; omega⟩ j) * v1471 (ix2 0 j) = Cert.Mix.cb A b (T r).val j := fun r j => by
    rw [h2, h0, h1, c2, c0, c1]
    unfold Cert.Mix.cb
    ac_rfl
  pointwise [k0_pay112, k0_pay111, h, hbg, hgb]
  rfl

end Cert.Kernel3Ideal.Hand

end
-- ==== Proof.MixBlocks.lean ====
module

public import proofs.«01_k».proof.Proof.MixRows

/-! The blocks of the kernel's windows at a grid point, as rows of the argument arrays. -/

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Hand

open Cert.Kernel3Ideal Cert.Kernel3Ideal.Gen
open Cert.Mix (Args)

variable (m : (ℓ : Loc nD τ sig) → Buf (Elt Ideal) ℓ)

/-- The argument arrays in memory. -/
def argsOf (c : Dev nD) : Args where
  x := m ((c : Thread nD τ).loc main_arg0)
  mod := m ((c : Thread nD τ).loc main_arg1)
  gp := m ((c : Thread nD τ).loc main_arg2)
  wi := m ((c : Thread nD τ).loc main_arg3)
  aw := m ((c : Thread nD τ).loc main_arg4)
  ab := m ((c : Thread nD τ).loc main_arg5)
  lg := m ((c : Thread nD τ).loc main_arg6)
  lb := m ((c : Thread nD τ).loc main_arg7)
  bw := m ((c : Thread nD τ).loc main_arg8)
  ga := m ((c : Thread nD τ).loc main_arg9)
  gb := m ((c : Thread nD τ).loc main_arg10)

/-- Every window's block index at every grid point, but for the last two. -/
theorem idx : ∀ t : Fin cfg0.N, win0_0.index t = ![t.val / 8, t.val % 8, 0]
    ∧ win0_1.index t = ![t.val / 8, 0, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val / 8, 0, 0]
    ∧ win0_12.index t = ![t.val / 8, 0, 0]
    ∧ win0_13.index t = ![t.val / 8, t.val % 8, 0]
    ∧ win0_14.index t = ![t.val / 8, 0, t.val % 8, 0]
    ∧ win0_15.index t = ![t.val / 8, 0, t.val % 8, 0]
    ∧ win0_16.index t = ![t.val / 8, 0, t.val % 8, 0]
    ∧ win0_17.index t = ![t.val / 8, 0, 0]
    ∧ win0_18.index t = ![t.val / 8, 0, 0] :=
  (by decide +kernel : ∀ t : Fin grid0.N, _)

/-- The last two windows' block index from a group's fifth tile on. -/
theorem idxKept : ∀ t : Fin cfg0.N, 4 ≤ t.val % 8 → win0_19.index t = ![0, t.val / 8, 0, t.val % 8 - 4]
    ∧ win0_20.index t = ![0, t.val / 8, 0, t.val % 8 - 4] :=
  (by decide +kernel : ∀ t : Fin grid0.N, _)

theorem N_eq : cfg0.N = 64 := by decide +kernel

/-- The group of a grid point. -/
def grp (t : Fin cfg0.N) : Fin 8 := ⟨t.val / 8, by have := lt_of_lt_of_eq t.isLt N_eq; omega⟩
/-- A tile's row in its group. -/
def row (t : Fin cfg0.N) (r : Fin 512) : Fin 4096 :=
  ⟨t.val % 8 * 512 + r.val, by have := r.isLt; have : t.val % 8 < 8 := Nat.mod_lt _ (by decide); omega⟩

theorem v0_at (c : Dev nD) (k : Fin 1024) :
    (V m c main_v0 : FVec Ideal S1x1024 .f32) (ix2 0 k) = (argsOf m c).gp (ix1 k) := by
  entry_read
  pointwise []
  rfl

theorem v2_at (c : Dev nD) (k : Fin 256) :
    (V m c main_v2 : FVec Ideal S1x256 .f32) (ix2 0 k) = (argsOf m c).ab (ix1 k) := by
  entry_read
  pointwise []
  rfl

theorem v3_at (c : Dev nD) (k : Fin 256) :
    (V m c main_v3 : FVec Ideal S1x256 .f32) (ix2 0 k) = (argsOf m c).lg (ix1 k) := by
  entry_read
  pointwise []
  rfl

theorem v4_at (c : Dev nD) (k : Fin 256) :
    (V m c main_v4 : FVec Ideal S1x256 .f32) (ix2 0 k) = (argsOf m c).lb (ix1 k) := by
  entry_read
  pointwise []
  rfl

theorem v5_at (c : Dev nD) (k : Fin 256) :
    (V m c main_v5 : FVec Ideal S1x256 .f32) (ix2 0 k) = (argsOf m c).ga (ix1 k) := by
  entry_read
  pointwise []
  rfl

theorem v6_at (c : Dev nD) (k : Fin 256) :
    (V m c main_v6 : FVec Ideal S1x256 .f32) (ix2 0 k) = (argsOf m c).gb (ix1 k) := by
  entry_read
  pointwise []
  rfl

theorem v1_at (c : Dev nD) (k : Fin 1024) (j : Fin 2816) :
    (V m c main_v1 : FVec Ideal S1024x2816 .bf16) (ix2 k j) = (argsOf m c).wi (ix2 k j) := by
  entry_read
  pointwise []
  rfl

theorem v8_at (c : Dev nD) (b : Fin 8) (g : Fin 6) (k : Fin 1024) :
    (V m c main_v8 : FVec Ideal S8x6x1x1024 .f32) (ix4 b g 0 k)
      = (argsOf m c).mod (ix2 b ⟨g.val * 1024 + k.val, by have := k.isLt; have := g.isLt; omega⟩) := by
  entry_read
  pointwise []
  rfl

theorem v9_at (c : Dev nD) (b : Fin 8) (k : Fin 32) (j : Fin 256) :
    (V m c main_v9 : FVec Ideal S8x32x256 .f32) (ix3 b k j) = (0 : EReal) := by
  entry_read
  pointwise []

theorem v10_at (c : Dev nD) (b k : Fin 8) (j : Fin 256) :
    (V m c main_v10 : FVec Ideal S8x8x256 .f32) (ix3 b k j) = (0 : EReal) := by
  entry_read
  pointwise []

theorem blk1 (c : Dev nD) (t : Fin cfg0.N) (g : Fin 6) (k : Fin 1024) :
    (iblk m c 1 t : FVec Ideal S1x6x1x1024 .f32) (ix4 0 g 0 k)
      = (argsOf m c).mod (ix2 (grp t) ⟨g.val * 1024 + k.val, by have := k.isLt; have := g.isLt; omega⟩) := by
  refine Eq.trans ?_ (v8_at m c (grp t) g k)
  unfold iblk
  blk_ext [idx t] <;> rfl

theorem blk11 (c : Dev nD) (t : Fin cfg0.N) (k : Fin 32) (j : Fin 256) :
    (iblk m c 11 t : FVec Ideal S1x32x256 .f32) (ix3 0 k j) = (0 : EReal) := by
  refine Eq.trans ?_ (v9_at m c (grp t) k j)
  unfold iblk
  blk_ext [idx t] <;> rfl

theorem blk12 (c : Dev nD) (t : Fin cfg0.N) (k : Fin 8) (j : Fin 256) :
    (iblk m c 12 t : FVec Ideal S1x8x256 .f32) (ix3 0 k j) = (0 : EReal) := by
  refine Eq.trans ?_ (v10_at m c (grp t) k j)
  unfold iblk
  blk_ext [idx t] <;> rfl

theorem blk0 (c : Dev nD) (t : Fin cfg0.N) (r : Fin 512) (k : Fin 1024) :
    (iblk m c 0 t : FVec Ideal S1x512x1024 .f32) (ix3 0 r k) = (argsOf m c).x (ix3 (grp t) (row t r) k) := by
  unfold argsOf
  blk_ext [iblk, V, idx t] <;> rfl

theorem blk4 (c : Dev nD) (t : Fin cfg0.N) (k : Fin 31) (j : Fin 256) :
    (iblk m c 4 t : FVec Ideal S31x256 .f32) (ix2 k j) = (argsOf m c).aw (ix2 k j) := by
  unfold argsOf
  blk_ext [iblk, V, idx t]

theorem blk8 (c : Dev nD) (t : Fin cfg0.N) (k : Fin 3) (j : Fin 256) :
    (iblk m c 8 t : FVec Ideal S3x256 .f32) (ix2 k j) = (argsOf m c).bw (ix2 k j) := by
  unfold argsOf
  blk_ext [iblk, V, idx t]

theorem blk3 (c : Dev nD) (t : Fin cfg0.N) (k : Fin 1024) (j : Fin 2816) :
    (iblk m c 3 t : FVec Ideal S1024x2816 .bf16) (ix2 k j) = (argsOf m c).wi (ix2 k j) := by
  refine Eq.trans ?_ (v1_at m c k j)
  unfold iblk
  blk_ext [idx t]

theorem blk2 (c : Dev nD) (t : Fin cfg0.N) (k : Fin 1024) :
    (iblk m c 2 t : FVec Ideal S1x1024 .f32) (ix2 0 k) = (argsOf m c).gp (ix1 k) := by
  refine Eq.trans ?_ (v0_at m c k)
  unfold iblk
  blk_ext [idx t]

theorem blk5 (c : Dev nD) (t : Fin cfg0.N) (k : Fin 256) :
    (iblk m c 5 t : FVec Ideal S1x256 .f32) (ix2 0 k) = (argsOf m c).ab (ix1 k) := by
  refine Eq.trans ?_ (v2_at m c k)
  unfold iblk
  blk_ext [idx t]

theorem blk6 (c : Dev nD) (t : Fin cfg0.N) (k : Fin 256) :
    (iblk m c 6 t : FVec Ideal S1x256 .f32) (ix2 0 k) = (argsOf m c).lg (ix1 k) := by
  refine Eq.trans ?_ (v3_at m c k)
  unfold iblk
  blk_ext [idx t]

theorem blk7 (c : Dev nD) (t : Fin cfg0.N) (k : Fin 256) :
    (iblk m c 7 t : FVec Ideal S1x256 .f32) (ix2 0 k) = (argsOf m c).lb (ix1 k) := by
  refine Eq.trans ?_ (v4_at m c k)
  unfold iblk
  blk_ext [idx t]

theorem blk9 (c : Dev nD) (t : Fin cfg0.N) (k : Fin 256) :
    (iblk m c 9 t : FVec Ideal S1x256 .f32) (ix2 0 k) = (argsOf m c).ga (ix1 k) := by
  refine Eq.trans ?_ (v5_at m c k)
  unfold iblk
  blk_ext [idx t]

theorem blk10 (c : Dev nD) (t : Fin cfg0.N) (k : Fin 256) :
    (iblk m c 10 t : FVec Ideal S1x256 .f32) (ix2 0 k) = (argsOf m c).gb (ix1 k) := by
  refine Eq.trans ?_ (v6_at m c k)
  unfold iblk
  blk_ext [idx t]

/-- What the body loads at a grid point are its group's and its tile's rows of the argument arrays. -/
theorem loads (c : Dev nD) (t : Fin cfg0.N) :
    Loads (argsOf m c) (grp t) (row t) (iblk m c 0 t) (iblk m c 2 t)
      (View.ld (Val := Elt Ideal) (iblk m c 1 t) (Rect.unit ![0, 1, 0, 0] ![1, 1, 1, 1024] inb_S1x6x1x1024_S1x1x1x1024_0_1_0_0))
      (View.ld (Val := Elt Ideal) (iblk m c 1 t) (Rect.unit ![0, 0, 0, 0] ![1, 1, 1, 1024] inb_S1x6x1x1024_S1x1x1x1024_0_0_0_0))
      (View.ld (Val := Elt Ideal) (iblk m c 3 t) (Rect.unit ![0, 0] ![1024, 512] inb_S1024x2816_S1024x512_0_0))
      (View.ld (Val := Elt Ideal) (iblk m c 3 t) (Rect.unit ![0, 512] ![1024, 768] inb_S1024x2816_S1024x768_0_512))
      (View.ld (Val := Elt Ideal) (iblk m c 3 t) (Rect.unit ![0, 1280] ![1024, 512] inb_S1024x2816_S1024x512_0_1280))
      (View.ld (Val := Elt Ideal) (iblk m c 3 t) (Rect.unit ![0, 1792] ![1024, 512] inb_S1024x2816_S1024x512_0_1792))
      (View.ld (Val := Elt Ideal) (iblk m c 3 t) (Rect.unit ![0, 2304] ![1024, 512] inb_S1024x2816_S1024x512_0_2304)) where
  x := blk0 m c t
  gp := blk2 m c t
  m1 := fun k => by
    pointwise []
    exact blk1 m c t 1 k
  m0 := fun k => by
    pointwise []
    exact (blk1 m c t 0 k).trans (congrArg (fun q => (argsOf m c).mod (ix2 (grp t) q)) (Fin.ext (by simp)))
  wa := fun k j => by
    pointwise []
    exact blk3 m c t k _
  wb := fun k j => by
    pointwise []
    exact blk3 m c t k _
  wq := fun k j => by
    pointwise []
    exact blk3 m c t k _
  wk := fun k j => by
    pointwise []
    exact blk3 m c t k _
  wv := fun k j => by
    pointwise []
    exact blk3 m c t k _

end Cert.Kernel3Ideal.Hand

end
-- ==== Proof.MixValue.lean ====
module

public import proofs.«01_k».proof.Proof.MixBlocks
public import Idealize.ShloMosaic.Lib.WritesUnit
public import Idealize.ShloMosaic.Lib.Pipeline.ReadBack

/-! The value of the input projection and convolutions kernel: what each grid point leaves in its blocks and in the two
    carried row buffers. -/

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Hand

open Cert.Kernel3Ideal Cert.Kernel3Ideal.Gen
open Cert.Mix (Args)

variable (m : (ℓ : Loc nD τ sig) → Buf (Elt Ideal) ℓ)

/-! ## Buffers after writes -/

/-- A buffer's contents after a last write at a rectangle, at an index of the rectangle. -/
theorem canon_at {s : Shape} {e : EltTy} (r : Rect s) (w : r.shape.Idx → Elt Ideal e) (L : List (View.Piece (Elt Ideal) s e))
    {x : r.shape.Idx} {y : s.Idx} (h : r.emb x = y) : View.canon (Val := Elt Ideal) (⟨r, w⟩ :: L) y = w x := by
  subst h
  exact View.canon_cons_emb r w L x

theorem read_at {κ : Kind} {sp : Space} {s : Shape} {e : EltTy} (v : View sig κ sp s e) (f : v.ty.Contents (Elt Ideal))
    (r : Rect s) (w : r.shape.Idx → Elt Ideal e) (L : List (View.Piece (Elt Ideal) s e))
    {x : r.shape.Idx} {y : s.Idx} (h : r.emb x = y) : v.read (Elt Ideal) (v.writes (Elt Ideal) f (⟨r, w⟩ :: L)) y = w x := by
  subst h
  exact View.read_writes_cons_emb v f r w L x

/-- A load of what the writes left is a load of the contents they leave. -/
theorem readCov_ld {κ : Kind} {sp : Space} {s : Shape} {e : EltTy} (v : View sig κ sp s e) (L : List (View.Piece (Elt Ideal) s e)) (R : Rect s) :
    v.readCov L R.toLoadRect = View.ld (Val := Elt Ideal) (View.canon (Val := Elt Ideal) L) R :=
  View.readCov_eq_canon' v L R.toLoadRect

/-! ## The row buffer of 544 rows: 32 carried rows, then the tile's 512 rows -/

/-- The tile's rows in the buffer. -/
abbrev AHi : Rect S544x256 := Rect.unit ![32, 0] ![512, 256] inb_S544x256_S512x256_32_0
/-- The carried rows in the buffer. -/
abbrev ALo : Rect S544x256 := Rect.unit ![0, 0] ![32, 256] inb_S544x256_S32x256_0_0

theorem emb_hiA (r : Fin 512) (j : Fin 256) :
    AHi.emb (ix2 r j) = (ix2 ⟨32 + r.val, by have := r.isLt; omega⟩ j : S544x256.Idx) := by
  funext a
  apply Fin.ext
  fin_cases a
  · show 32 + 1 * r.val = 32 + r.val; omega
  · show 0 + 1 * j.val = j.val; omega

theorem emb_loA (s : Fin 32) (j : Fin 256) :
    ALo.emb (ix2 s j) = (ix2 ⟨s.val, by have := s.isLt; omega⟩ j : S544x256.Idx) := by
  funext a
  apply Fin.ext
  fin_cases a
  · show 0 + 1 * s.val = s.val; omega
  · show 0 + 1 * j.val = j.val; omega

theorem lo_not_hiA (s : Fin 32) (j : Fin 256) : (ix2 ⟨s.val, by have := s.isLt; omega⟩ j : S544x256.Idx) ∉ AHi.set := by
  rw [Rect.mem_set_unit]
  intro h
  have h0 := (h 0).1
  have : 32 ≤ s.val := h0
  have := s.isLt
  omega

theorem canon_hiA (w : AHi.shape.Idx → Elt Ideal .f32) (L : List (View.Piece (Elt Ideal) S544x256 .f32)) (r : Fin 512) (j : Fin 256) :
    View.canon (Val := Elt Ideal) (s := S544x256) (e := .f32) (⟨AHi, w⟩ :: L) (ix2 ⟨32 + r.val, by have := r.isLt; omega⟩ j) = w (ix2 r j) := by
  have h := canon_at AHi w L (emb_hiA r j)
  exact h

theorem canon_loA (w : FVec Ideal S512x256 .f32) (L : List (View.Piece (Elt Ideal) S544x256 .f32)) (s : Fin 32) (j : Fin 256) :
    View.canon (Val := Elt Ideal) (s := S544x256) (e := .f32) (⟨AHi, w⟩ :: L) (ix2 ⟨s.val, by have := s.isLt; omega⟩ j)
      = View.canon (Val := Elt Ideal) (s := S544x256) (e := .f32) L (ix2 ⟨s.val, by have := s.isLt; omega⟩ j) :=
  View.canon_cons_of_not_mem _ L (lo_not_hiA s j)

theorem canon_firstA (w : ALo.shape.Idx → Elt Ideal .f32) (L : List (View.Piece (Elt Ideal) S544x256 .f32)) (s : Fin 32) (j : Fin 256) :
    View.canon (Val := Elt Ideal) (s := S544x256) (e := .f32) (⟨ALo, w⟩ :: L) (ix2 ⟨s.val, by have := s.isLt; omega⟩ j) = w (ix2 s j) := by
  have h := canon_at ALo w L (emb_loA s j)
  exact h

theorem read_hiA {κ : Kind} {sp : Space} (v : View sig κ sp S544x256 .f32) (f : v.ty.Contents (Elt Ideal)) (w : FVec Ideal S512x256 .f32)
    (r : Fin 512) (j : Fin 256) :
    v.read (Elt Ideal) (v.writes (Elt Ideal) f [⟨AHi, w⟩]) (ix2 ⟨32 + r.val, by have := r.isLt; omega⟩ j) = w (ix2 r j) :=
  read_at v f AHi w [] (emb_hiA r j)

theorem read_loA {κ : Kind} {sp : Space} (v : View sig κ sp S544x256 .f32) (f : v.ty.Contents (Elt Ideal)) (w : FVec Ideal S512x256 .f32)
    (s : Fin 32) (j : Fin 256) :
    v.read (Elt Ideal) (v.writes (Elt Ideal) f [⟨AHi, w⟩]) (ix2 ⟨s.val, by have := s.isLt; omega⟩ j)
      = v.read (Elt Ideal) f (ix2 ⟨s.val, by have := s.isLt; omega⟩ j) :=
  View.read_writes_cons_unit_of_not_mem v f _ w [] _ rfl 0 (Or.inl s.isLt)

/-- A load of the tile's rows does not depend on what the buffer held before. -/
theorem readCov_upA {κ : Kind} {sp : Space} (v : View sig κ sp S544x256 .f32) (f : v.ty.Contents (Elt Ideal)) (w : FVec Ideal S512x256 .f32)
    (o n : ℕ) (inb : ∀ a, (![o, 0] : Fin 2 → ℕ) a + (![n, 256] : Fin 2 → ℕ) a ≤ S544x256.size a) (h : 32 ≤ o) :
    v.readCov (Val := Elt Ideal) [⟨AHi, w⟩] (Rect.unit ![o, 0] ![n, 256] inb).toLoadRect
      = View.ld (Val := Elt Ideal) (v.read (Elt Ideal) (v.writes (Elt Ideal) f [⟨AHi, w⟩])) (Rect.unit ![o, 0] ![n, 256] inb) := by
  rw [readCov_ld]
  funext x
  have h0 : o + n ≤ 544 := inb 0
  have hx : (x 0).val < n := (x 0).isLt
  have e : (Rect.unit ![o, 0] ![n, 256] inb : Rect S544x256).emb x
      = AHi.emb (ix2 (⟨o - 32 + (x 0).val, by omega⟩ : Fin 512) ⟨(x 1).val, (x 1).isLt⟩) := by
    rw [emb_hiA]
    funext a
    apply Fin.ext
    fin_cases a
    · show o + 1 * (x 0).val = 32 + (o - 32 + (x 0).val); omega
    · show 0 + 1 * (x 1).val = (x 1).val; omega
  have a : View.canon (Val := Elt Ideal) (s := S544x256) (e := .f32) [⟨AHi, w⟩] ((Rect.unit ![o, 0] ![n, 256] inb : Rect S544x256).emb x) = w _ := canon_at (e := .f32) AHi w [] e.symm
  have b := read_at v f AHi w [] e.symm
  exact a.trans b.symm

/-! ## The row buffer of 520 rows: 8 carried rows, then the tile's 512 rows -/

/-- The tile's rows in the buffer. -/
abbrev BHi : Rect S520x256 := Rect.unit ![8, 0] ![512, 256] inb_S520x256_S512x256_8_0
/-- The carried rows in the buffer. -/
abbrev BLo : Rect S520x256 := Rect.unit ![0, 0] ![8, 256] inb_S520x256_S8x256_0_0

theorem emb_hiB (r : Fin 512) (j : Fin 256) :
    BHi.emb (ix2 r j) = (ix2 ⟨8 + r.val, by have := r.isLt; omega⟩ j : S520x256.Idx) := by
  funext a
  apply Fin.ext
  fin_cases a
  · show 8 + 1 * r.val = 8 + r.val; omega
  · show 0 + 1 * j.val = j.val; omega

theorem emb_loB (s : Fin 8) (j : Fin 256) :
    BLo.emb (ix2 s j) = (ix2 ⟨s.val, by have := s.isLt; omega⟩ j : S520x256.Idx) := by
  funext a
  apply Fin.ext
  fin_cases a
  · show 0 + 1 * s.val = s.val; omega
  · show 0 + 1 * j.val = j.val; omega

theorem lo_not_hiB (s : Fin 8) (j : Fin 256) : (ix2 ⟨s.val, by have := s.isLt; omega⟩ j : S520x256.Idx) ∉ BHi.set := by
  rw [Rect.mem_set_unit]
  intro h
  have h0 := (h 0).1
  have : 8 ≤ s.val := h0
  have := s.isLt
  omega

theorem canon_hiB (w : BHi.shape.Idx → Elt Ideal .f32) (L : List (View.Piece (Elt Ideal) S520x256 .f32)) (r : Fin 512) (j : Fin 256) :
    View.canon (Val := Elt Ideal) (s := S520x256) (e := .f32) (⟨BHi, w⟩ :: L) (ix2 ⟨8 + r.val, by have := r.isLt; omega⟩ j) = w (ix2 r j) := by
  have h := canon_at BHi w L (emb_hiB r j)
  exact h

theorem canon_loB (w : FVec Ideal S512x256 .f32) (L : List (View.Piece (Elt Ideal) S520x256 .f32)) (s : Fin 8) (j : Fin 256) :
    View.canon (Val := Elt Ideal) (s := S520x256) (e := .f32) (⟨BHi, w⟩ :: L) (ix2 ⟨s.val, by have := s.isLt; omega⟩ j)
      = View.canon (Val := Elt Ideal) (s := S520x256) (e := .f32) L (ix2 ⟨s.val, by have := s.isLt; omega⟩ j) :=
  View.canon_cons_of_not_mem _ L (lo_not_hiB s j)

theorem canon_firstB (w : BLo.shape.Idx → Elt Ideal .f32) (L : List (View.Piece (Elt Ideal) S520x256 .f32)) (s : Fin 8) (j : Fin 256) :
    View.canon (Val := Elt Ideal) (s := S520x256) (e := .f32) (⟨BLo, w⟩ :: L) (ix2 ⟨s.val, by have := s.isLt; omega⟩ j) = w (ix2 s j) := by
  have h := canon_at BLo w L (emb_loB s j)
  exact h

theorem read_hiB {κ : Kind} {sp : Space} (v : View sig κ sp S520x256 .f32) (f : v.ty.Contents (Elt Ideal)) (w : FVec Ideal S512x256 .f32)
    (r : Fin 512) (j : Fin 256) :
    v.read (Elt Ideal) (v.writes (Elt Ideal) f [⟨BHi, w⟩]) (ix2 ⟨8 + r.val, by have := r.isLt; omega⟩ j) = w (ix2 r j) :=
  read_at v f BHi w [] (emb_hiB r j)

theorem read_loB {κ : Kind} {sp : Space} (v : View sig κ sp S520x256 .f32) (f : v.ty.Contents (Elt Ideal)) (w : FVec Ideal S512x256 .f32)
    (s : Fin 8) (j : Fin 256) :
    v.read (Elt Ideal) (v.writes (Elt Ideal) f [⟨BHi, w⟩]) (ix2 ⟨s.val, by have := s.isLt; omega⟩ j)
      = v.read (Elt Ideal) f (ix2 ⟨s.val, by have := s.isLt; omega⟩ j) :=
  View.read_writes_cons_unit_of_not_mem v f _ w [] _ rfl 0 (Or.inl s.isLt)

/-- A load of the tile's rows does not depend on what the buffer held before. -/
theorem readCov_upB {κ : Kind} {sp : Space} (v : View sig κ sp S520x256 .f32) (f : v.ty.Contents (Elt Ideal)) (w : FVec Ideal S512x256 .f32)
    (o n : ℕ) (inb : ∀ a, (![o, 0] : Fin 2 → ℕ) a + (![n, 256] : Fin 2 → ℕ) a ≤ S520x256.size a) (h : 8 ≤ o) :
    v.readCov (Val := Elt Ideal) [⟨BHi, w⟩] (Rect.unit ![o, 0] ![n, 256] inb).toLoadRect
      = View.ld (Val := Elt Ideal) (v.read (Elt Ideal) (v.writes (Elt Ideal) f [⟨BHi, w⟩])) (Rect.unit ![o, 0] ![n, 256] inb) := by
  rw [readCov_ld]
  funext x
  have h0 : o + n ≤ 520 := inb 0
  have hx : (x 0).val < n := (x 0).isLt
  have e : (Rect.unit ![o, 0] ![n, 256] inb : Rect S520x256).emb x
      = BHi.emb (ix2 (⟨o - 8 + (x 0).val, by omega⟩ : Fin 512) ⟨(x 1).val, (x 1).isLt⟩) := by
    rw [emb_hiB]
    funext a
    apply Fin.ext
    fin_cases a
    · show o + 1 * (x 0).val = 8 + (o - 8 + (x 0).val); omega
    · show 0 + 1 * (x 1).val = (x 1).val; omega
  have a : View.canon (Val := Elt Ideal) (s := S520x256) (e := .f32) [⟨BHi, w⟩] ((Rect.unit ![o, 0] ![n, 256] inb : Rect S520x256).emb x) = w _ := canon_at (e := .f32) BHi w [] e.symm
  have b := read_at v f BHi w [] e.symm
  exact a.trans b.symm

/-- A buffer with the tile's gated rows below two rows of the padded ones holds the padded rows. -/
theorem rowsA {A : Args} {b : Fin 8} {t : Fin cfg0.N} {B : S544x256.Idx → EReal}
    (hi : ∀ (r : Fin 512) (j : Fin 256), B (ix2 ⟨32 + r.val, by have := r.isLt; omega⟩ j) = Cert.Mix.aa A b (row t r) j)
    (lo : ∀ (s : Fin 32) (j : Fin 256), 2 ≤ s.val →
      B (ix2 ⟨s.val, by have := s.isLt; omega⟩ j) = Cert.Mix.xa A b (t.val % 8 * 512 + (s.val - 2)) j)
    (s : Fin 544) (j : Fin 256) (hs : 2 ≤ s.val) : B (ix2 s j) = Cert.Mix.xa A b (t.val % 8 * 512 + (s.val - 2)) j := by
  have h8 : t.val % 8 < 8 := Nat.mod_lt _ (by decide)
  by_cases h : s.val < 32
  · exact lo ⟨s.val, h⟩ j hs
  · have hl := s.isLt
    refine Eq.trans (congrArg (fun q => B (ix2 q j)) (Fin.ext (by show s.val = 32 + (s.val - 32); omega))) ((hi ⟨s.val - 32, by omega⟩ j).trans ?_)
    unfold Cert.Mix.xa
    rw [dif_pos ⟨by omega, by omega⟩]
    exact congrArg (fun q => Cert.Mix.aa A b q j) (Fin.ext (by show t.val % 8 * 512 + (s.val - 32) = t.val % 8 * 512 + (s.val - 2) - 30; omega))

/-- A buffer with the tile's products below two rows of the padded ones holds the padded rows. -/
theorem rowsB {A : Args} {b : Fin 8} {t : Fin cfg0.N} {B : S520x256.Idx → EReal}
    (hi : ∀ (r : Fin 512) (j : Fin 256), B (ix2 ⟨8 + r.val, by have := r.isLt; omega⟩ j) = Cert.Mix.ub A b (row t r) j)
    (lo : ∀ (s : Fin 8) (j : Fin 256), 6 ≤ s.val →
      B (ix2 ⟨s.val, by have := s.isLt; omega⟩ j) = Cert.Mix.xb A b (t.val % 8 * 512 + (s.val - 6)) j)
    (s : Fin 520) (j : Fin 256) (hs : 6 ≤ s.val) : B (ix2 s j) = Cert.Mix.xb A b (t.val % 8 * 512 + (s.val - 6)) j := by
  have h8 : t.val % 8 < 8 := Nat.mod_lt _ (by decide)
  by_cases h : s.val < 8
  · exact lo ⟨s.val, h⟩ j hs
  · have hl := s.isLt
    refine Eq.trans (congrArg (fun q => B (ix2 q j)) (Fin.ext (by show s.val = 8 + (s.val - 8); omega))) ((hi ⟨s.val - 8, by omega⟩ j).trans ?_)
    unfold Cert.Mix.xb
    rw [dif_pos ⟨by omega, by omega⟩]
    exact congrArg (fun q => Cert.Mix.ub A b q j) (Fin.ext (by show t.val % 8 * 512 + (s.val - 8) = t.val % 8 * 512 + (s.val - 6) - 2; omega))

/-- The cases of a grid point. -/
theorem cases3 (t : Fin cfg0.N) : (t.val % 8 = 0 ∧ ¬ 4 ≤ t.val % 8) ∨ (¬ t.val % 8 = 0 ∧ ¬ 4 ≤ t.val % 8)
    ∨ (¬ t.val % 8 = 0 ∧ 4 ≤ t.val % 8) := by omega

/-! ## What a grid point leaves -/

/-- The rows carried in the first buffer are the last 32 gated rows of the tile. -/
theorem carryA (c : Dev nD) (t : Fin cfg0.N) (s : Fin 32) (j : Fin 256) :
    ((outsAt0 m c t.val t.isLt).2.2.2.2.2.2.2.2.1 : FVec Ideal S544x256 .f32) (ix2 ⟨s.val, by have := s.isLt; omega⟩ j)
      = Cert.Mix.aa (argsOf m c) (grp t) (row t ⟨480 + s.val, by have := s.isLt; omega⟩) j := by
  have e : (⟨512 + s.val, by have := s.isLt; omega⟩ : Fin 544)
      = ⟨32 + (⟨480 + s.val, by have := s.isLt; omega⟩ : Fin 512).val, by have := s.isLt; show 32 + (480 + s.val) < 544; omega⟩ :=
    Fin.ext (by show 512 + s.val = 32 + (480 + s.val); omega)
  rcases cases3 t with ⟨h0, h1⟩ | ⟨h0, h1⟩ | ⟨h0, h1⟩
  · rw [outsAt0_A m c t h0 h1]
    frame_out
    refine (canon_firstA _ _ s j).trans ?_
    rw [readCov_ld]
    unfold k0_pay3
    pointwise []
    refine Eq.trans (congrArg (fun q => View.canon _ (ix2 q j)) e) ((canon_hiA _ _ ⟨480 + s.val, by have := s.isLt; omega⟩ j).trans ?_)
    exact aa_at (loads m c t) ⟨480 + s.val, by have := s.isLt; omega⟩ j
  · rw [outsAt0_B m c t h0 h1]
    frame_out
    refine (canon_firstA _ _ s j).trans ?_
    rw [readCov_ld]
    unfold k0_pay3
    pointwise []
    refine Eq.trans (congrArg (fun q => View.canon _ (ix2 q j)) e) ((canon_hiA _ _ ⟨480 + s.val, by have := s.isLt; omega⟩ j).trans ?_)
    exact aa_at (loads m c t) ⟨480 + s.val, by have := s.isLt; omega⟩ j
  · rw [outsAt0_C m c t h0 h1]
    frame_out
    refine (canon_firstA _ _ s j).trans ?_
    rw [readCov_ld]
    unfold k0_pay3
    pointwise []
    refine Eq.trans (congrArg (fun q => View.canon _ (ix2 q j)) e) ((canon_hiA _ _ ⟨480 + s.val, by have := s.isLt; omega⟩ j).trans ?_)
    exact aa_at (loads m c t) ⟨480 + s.val, by have := s.isLt; omega⟩ j

/-- The rows carried in the second buffer are the last 8 products of the tile. -/
theorem carryB (c : Dev nD) (t : Fin cfg0.N) (s : Fin 8) (j : Fin 256) :
    ((outsAt0 m c t.val t.isLt).2.2.2.2.2.2.2.2.2 : FVec Ideal S520x256 .f32) (ix2 ⟨s.val, by have := s.isLt; omega⟩ j)
      = Cert.Mix.ub (argsOf m c) (grp t) (row t ⟨504 + s.val, by have := s.isLt; omega⟩) j := by
  have e : (⟨512 + s.val, by have := s.isLt; omega⟩ : Fin 520)
      = ⟨8 + (⟨504 + s.val, by have := s.isLt; omega⟩ : Fin 512).val, by have := s.isLt; show 8 + (504 + s.val) < 520; omega⟩ :=
    Fin.ext (by show 512 + s.val = 8 + (504 + s.val); omega)
  rcases cases3 t with ⟨h0, h1⟩ | ⟨h0, h1⟩ | ⟨h0, h1⟩
  · rw [outsAt0_A m c t h0 h1]
    frame_out
    refine (canon_firstB _ _ s j).trans ?_
    rw [readCov_ld]
    unfold k0_pay4
    pointwise []
    refine Eq.trans (congrArg (fun q => View.canon _ (ix2 q j)) e) ((canon_hiB _ _ ⟨504 + s.val, by have := s.isLt; omega⟩ j).trans ?_)
    exact ub_at (loads m c t) ⟨504 + s.val, by have := s.isLt; omega⟩ j
  · rw [outsAt0_B m c t h0 h1]
    frame_out
    refine (canon_firstB _ _ s j).trans ?_
    rw [readCov_ld]
    unfold k0_pay4
    pointwise []
    refine Eq.trans (congrArg (fun q => View.canon _ (ix2 q j)) e) ((canon_hiB _ _ ⟨504 + s.val, by have := s.isLt; omega⟩ j).trans ?_)
    exact ub_at (loads m c t) ⟨504 + s.val, by have := s.isLt; omega⟩ j
  · rw [outsAt0_C m c t h0 h1]
    frame_out
    refine (canon_firstB _ _ s j).trans ?_
    rw [readCov_ld]
    unfold k0_pay4
    pointwise []
    refine Eq.trans (congrArg (fun q => View.canon _ (ix2 q j)) e) ((canon_hiB _ _ ⟨504 + s.val, by have := s.isLt; omega⟩ j).trans ?_)
    exact ub_at (loads m c t) ⟨504 + s.val, by have := s.isLt; omega⟩ j

/-- The block of the last rows before the long convolution, after a point. -/
theorem newa_at (c : Dev nD) (t : Fin cfg0.N) (s : Fin 32) (j : Fin 256) :
    ((outsAt0 m c t.val t.isLt).2.2.2.2.1 : FVec Ideal S1x32x256 .f32) (ix3 0 s j)
      = Cert.Mix.aa (argsOf m c) (grp t) (row t ⟨480 + s.val, by have := s.isLt; omega⟩) j := by
  have e : (⟨512 + s.val, by have := s.isLt; omega⟩ : Fin 544)
      = ⟨32 + (⟨480 + s.val, by have := s.isLt; omega⟩ : Fin 512).val, by have := s.isLt; show 32 + (480 + s.val) < 544; omega⟩ :=
    Fin.ext (by show 512 + s.val = 32 + (480 + s.val); omega)
  rcases cases3 t with ⟨h0, h1⟩ | ⟨h0, h1⟩ | ⟨h0, h1⟩
  · rw [outsAt0_A m c t h0 h1]
    frame_out
    rw [readCov_ld]
    unfold k0_pay110
    pointwise []
    refine Eq.trans (congrArg (fun q => View.canon _ (ix2 q j)) e) ((canon_hiA _ _ ⟨480 + s.val, by have := s.isLt; omega⟩ j).trans ?_)
    exact aa_at (loads m c t) ⟨480 + s.val, by have := s.isLt; omega⟩ j
  · rw [outsAt0_B m c t h0 h1]
    frame_out
    rw [readCov_ld]
    unfold k0_pay110
    pointwise []
    refine Eq.trans (congrArg (fun q => View.canon _ (ix2 q j)) e) ((canon_hiA _ _ ⟨480 + s.val, by have := s.isLt; omega⟩ j).trans ?_)
    exact aa_at (loads m c t) ⟨480 + s.val, by have := s.isLt; omega⟩ j
  · rw [outsAt0_C m c t h0 h1]
    frame_out
    rw [readCov_ld]
    unfold k0_pay110
    pointwise []
    refine Eq.trans (congrArg (fun q => View.canon _ (ix2 q j)) e) ((canon_hiA _ _ ⟨480 + s.val, by have := s.isLt; omega⟩ j).trans ?_)
    exact aa_at (loads m c t) ⟨480 + s.val, by have := s.isLt; omega⟩ j

/-- The block of the last rows before the short convolution, after a point. -/
theorem newb_at (c : Dev nD) (t : Fin cfg0.N) (s : Fin 8) (j : Fin 256) :
    ((outsAt0 m c t.val t.isLt).2.2.2.2.2.1 : FVec Ideal S1x8x256 .f32) (ix3 0 s j)
      = Cert.Mix.ub (argsOf m c) (grp t) (row t ⟨504 + s.val, by have := s.isLt; omega⟩) j := by
  have e : (⟨512 + s.val, by have := s.isLt; omega⟩ : Fin 520)
      = ⟨8 + (⟨504 + s.val, by have := s.isLt; omega⟩ : Fin 512).val, by have := s.isLt; show 8 + (504 + s.val) < 520; omega⟩ :=
    Fin.ext (by show 512 + s.val = 8 + (504 + s.val); omega)
  rcases cases3 t with ⟨h0, h1⟩ | ⟨h0, h1⟩ | ⟨h0, h1⟩
  · rw [outsAt0_A m c t h0 h1]
    frame_out
    rw [readCov_ld]
    unfold k0_pay113
    pointwise []
    refine Eq.trans (congrArg (fun q => View.canon _ (ix2 q j)) e) ((canon_hiB _ _ ⟨504 + s.val, by have := s.isLt; omega⟩ j).trans ?_)
    exact ub_at (loads m c t) ⟨504 + s.val, by have := s.isLt; omega⟩ j
  · rw [outsAt0_B m c t h0 h1]
    frame_out
    rw [readCov_ld]
    unfold k0_pay113
    pointwise []
    refine Eq.trans (congrArg (fun q => View.canon _ (ix2 q j)) e) ((canon_hiB _ _ ⟨504 + s.val, by have := s.isLt; omega⟩ j).trans ?_)
    exact ub_at (loads m c t) ⟨504 + s.val, by have := s.isLt; omega⟩ j
  · rw [outsAt0_C m c t h0 h1]
    frame_out
    rw [readCov_ld]
    unfold k0_pay113
    pointwise []
    refine Eq.trans (congrArg (fun q => View.canon _ (ix2 q j)) e) ((canon_hiB _ _ ⟨504 + s.val, by have := s.isLt; omega⟩ j).trans ?_)
    exact ub_at (loads m c t) ⟨504 + s.val, by have := s.isLt; omega⟩ j

/-! ## Queries, keys and values -/

theorem emb_pair0 (r : Fin 512) (l : Fin 128) : (Rect.unit ![0, 0, 0, 0] ![1, 1, 512, 128] inb_S1x4x512x128_S1x1x512x128_0_0_0_0 : Rect S1x4x512x128).emb (ix4 0 0 r l) = (ix4 0 0 r l : S1x4x512x128.Idx) := by
  funext a
  apply Fin.ext
  fin_cases a
  · rfl
  · rfl
  · show 0 + 1 * r.val = r.val; omega
  · show 0 + 1 * l.val = l.val; omega

theorem not_pair0 (g : Fin 4) (hg : g.val < 0) (r : Fin 512) (l : Fin 128) : (ix4 0 g r l : S1x4x512x128.Idx) ∉ (Rect.unit ![0, 0, 0, 0] ![1, 1, 512, 128] inb_S1x4x512x128_S1x1x512x128_0_0_0_0 : Rect S1x4x512x128).set := by
  rw [Rect.mem_set_unit]
  intro h
  have h0 : 0 ≤ g.val := (h 1).1
  omega

theorem emb_pair1 (r : Fin 512) (l : Fin 128) : (Rect.unit ![0, 1, 0, 0] ![1, 1, 512, 128] inb_S1x4x512x128_S1x1x512x128_0_1_0_0 : Rect S1x4x512x128).emb (ix4 0 0 r l) = (ix4 0 1 r l : S1x4x512x128.Idx) := by
  funext a
  apply Fin.ext
  fin_cases a
  · rfl
  · rfl
  · show 0 + 1 * r.val = r.val; omega
  · show 0 + 1 * l.val = l.val; omega

theorem not_pair1 (g : Fin 4) (hg : g.val < 1) (r : Fin 512) (l : Fin 128) : (ix4 0 g r l : S1x4x512x128.Idx) ∉ (Rect.unit ![0, 1, 0, 0] ![1, 1, 512, 128] inb_S1x4x512x128_S1x1x512x128_0_1_0_0 : Rect S1x4x512x128).set := by
  rw [Rect.mem_set_unit]
  intro h
  have h0 : 1 ≤ g.val := (h 1).1
  omega

theorem emb_pair2 (r : Fin 512) (l : Fin 128) : (Rect.unit ![0, 2, 0, 0] ![1, 1, 512, 128] inb_S1x4x512x128_S1x1x512x128_0_2_0_0 : Rect S1x4x512x128).emb (ix4 0 0 r l) = (ix4 0 2 r l : S1x4x512x128.Idx) := by
  funext a
  apply Fin.ext
  fin_cases a
  · rfl
  · rfl
  · show 0 + 1 * r.val = r.val; omega
  · show 0 + 1 * l.val = l.val; omega

theorem not_pair2 (g : Fin 4) (hg : g.val < 2) (r : Fin 512) (l : Fin 128) : (ix4 0 g r l : S1x4x512x128.Idx) ∉ (Rect.unit ![0, 2, 0, 0] ![1, 1, 512, 128] inb_S1x4x512x128_S1x1x512x128_0_2_0_0 : Rect S1x4x512x128).set := by
  rw [Rect.mem_set_unit]
  intro h
  have h0 : 2 ≤ g.val := (h 1).1
  omega

theorem emb_pair3 (r : Fin 512) (l : Fin 128) : (Rect.unit ![0, 3, 0, 0] ![1, 1, 512, 128] inb_S1x4x512x128_S1x1x512x128_0_3_0_0 : Rect S1x4x512x128).emb (ix4 0 0 r l) = (ix4 0 3 r l : S1x4x512x128.Idx) := by
  funext a
  apply Fin.ext
  fin_cases a
  · rfl
  · rfl
  · show 0 + 1 * r.val = r.val; omega
  · show 0 + 1 * l.val = l.val; omega

theorem not_pair3 (g : Fin 4) (hg : g.val < 3) (r : Fin 512) (l : Fin 128) : (ix4 0 g r l : S1x4x512x128.Idx) ∉ (Rect.unit ![0, 3, 0, 0] ![1, 1, 512, 128] inb_S1x4x512x128_S1x1x512x128_0_3_0_0 : Rect S1x4x512x128).set := by
  rw [Rect.mem_set_unit]
  intro h
  have h0 : 3 ≤ g.val := (h 1).1
  omega

theorem canon_pair0 (w : (Rect.unit ![0, 0, 0, 0] ![1, 1, 512, 128] inb_S1x4x512x128_S1x1x512x128_0_0_0_0 : Rect S1x4x512x128).shape.Idx → Elt Ideal .f32) (L : List (View.Piece (Elt Ideal) S1x4x512x128 .f32)) (r : Fin 512) (l : Fin 128) :
    View.canon (Val := Elt Ideal) (s := S1x4x512x128) (e := .f32) (⟨(Rect.unit ![0, 0, 0, 0] ![1, 1, 512, 128] inb_S1x4x512x128_S1x1x512x128_0_0_0_0 : Rect S1x4x512x128), w⟩ :: L) (ix4 0 0 r l) = w (ix4 0 0 r l) := by
  have h := canon_at (Rect.unit ![0, 0, 0, 0] ![1, 1, 512, 128] inb_S1x4x512x128_S1x1x512x128_0_0_0_0 : Rect S1x4x512x128) w L (emb_pair0 r l)
  exact h

theorem canon_skip0 (w : (Rect.unit ![0, 0, 0, 0] ![1, 1, 512, 128] inb_S1x4x512x128_S1x1x512x128_0_0_0_0 : Rect S1x4x512x128).shape.Idx → Elt Ideal .f32) (L : List (View.Piece (Elt Ideal) S1x4x512x128 .f32)) (g : Fin 4) (hg : g.val < 0) (r : Fin 512) (l : Fin 128) :
    View.canon (Val := Elt Ideal) (s := S1x4x512x128) (e := .f32) (⟨(Rect.unit ![0, 0, 0, 0] ![1, 1, 512, 128] inb_S1x4x512x128_S1x1x512x128_0_0_0_0 : Rect S1x4x512x128), w⟩ :: L) (ix4 0 g r l)
      = View.canon (Val := Elt Ideal) (s := S1x4x512x128) (e := .f32) L (ix4 0 g r l) :=
  View.canon_cons_of_not_mem _ L (not_pair0 g hg r l)

theorem canon_pair1 (w : (Rect.unit ![0, 1, 0, 0] ![1, 1, 512, 128] inb_S1x4x512x128_S1x1x512x128_0_1_0_0 : Rect S1x4x512x128).shape.Idx → Elt Ideal .f32) (L : List (View.Piece (Elt Ideal) S1x4x512x128 .f32)) (r : Fin 512) (l : Fin 128) :
    View.canon (Val := Elt Ideal) (s := S1x4x512x128) (e := .f32) (⟨(Rect.unit ![0, 1, 0, 0] ![1, 1, 512, 128] inb_S1x4x512x128_S1x1x512x128_0_1_0_0 : Rect S1x4x512x128), w⟩ :: L) (ix4 0 1 r l) = w (ix4 0 0 r l) := by
  have h := canon_at (Rect.unit ![0, 1, 0, 0] ![1, 1, 512, 128] inb_S1x4x512x128_S1x1x512x128_0_1_0_0 : Rect S1x4x512x128) w L (emb_pair1 r l)
  exact h

theorem canon_skip1 (w : (Rect.unit ![0, 1, 0, 0] ![1, 1, 512, 128] inb_S1x4x512x128_S1x1x512x128_0_1_0_0 : Rect S1x4x512x128).shape.Idx → Elt Ideal .f32) (L : List (View.Piece (Elt Ideal) S1x4x512x128 .f32)) (g : Fin 4) (hg : g.val < 1) (r : Fin 512) (l : Fin 128) :
    View.canon (Val := Elt Ideal) (s := S1x4x512x128) (e := .f32) (⟨(Rect.unit ![0, 1, 0, 0] ![1, 1, 512, 128] inb_S1x4x512x128_S1x1x512x128_0_1_0_0 : Rect S1x4x512x128), w⟩ :: L) (ix4 0 g r l)
      = View.canon (Val := Elt Ideal) (s := S1x4x512x128) (e := .f32) L (ix4 0 g r l) :=
  View.canon_cons_of_not_mem _ L (not_pair1 g hg r l)

theorem canon_pair2 (w : (Rect.unit ![0, 2, 0, 0] ![1, 1, 512, 128] inb_S1x4x512x128_S1x1x512x128_0_2_0_0 : Rect S1x4x512x128).shape.Idx → Elt Ideal .f32) (L : List (View.Piece (Elt Ideal) S1x4x512x128 .f32)) (r : Fin 512) (l : Fin 128) :
    View.canon (Val := Elt Ideal) (s := S1x4x512x128) (e := .f32) (⟨(Rect.unit ![0, 2, 0, 0] ![1, 1, 512, 128] inb_S1x4x512x128_S1x1x512x128_0_2_0_0 : Rect S1x4x512x128), w⟩ :: L) (ix4 0 2 r l) = w (ix4 0 0 r l) := by
  have h := canon_at (Rect.unit ![0, 2, 0, 0] ![1, 1, 512, 128] inb_S1x4x512x128_S1x1x512x128_0_2_0_0 : Rect S1x4x512x128) w L (emb_pair2 r l)
  exact h

theorem canon_skip2 (w : (Rect.unit ![0, 2, 0, 0] ![1, 1, 512, 128] inb_S1x4x512x128_S1x1x512x128_0_2_0_0 : Rect S1x4x512x128).shape.Idx → Elt Ideal .f32) (L : List (View.Piece (Elt Ideal) S1x4x512x128 .f32)) (g : Fin 4) (hg : g.val < 2) (r : Fin 512) (l : Fin 128) :
    View.canon (Val := Elt Ideal) (s := S1x4x512x128) (e := .f32) (⟨(Rect.unit ![0, 2, 0, 0] ![1, 1, 512, 128] inb_S1x4x512x128_S1x1x512x128_0_2_0_0 : Rect S1x4x512x128), w⟩ :: L) (ix4 0 g r l)
      = View.canon (Val := Elt Ideal) (s := S1x4x512x128) (e := .f32) L (ix4 0 g r l) :=
  View.canon_cons_of_not_mem _ L (not_pair2 g hg r l)

theorem canon_pair3 (w : (Rect.unit ![0, 3, 0, 0] ![1, 1, 512, 128] inb_S1x4x512x128_S1x1x512x128_0_3_0_0 : Rect S1x4x512x128).shape.Idx → Elt Ideal .f32) (L : List (View.Piece (Elt Ideal) S1x4x512x128 .f32)) (r : Fin 512) (l : Fin 128) :
    View.canon (Val := Elt Ideal) (s := S1x4x512x128) (e := .f32) (⟨(Rect.unit ![0, 3, 0, 0] ![1, 1, 512, 128] inb_S1x4x512x128_S1x1x512x128_0_3_0_0 : Rect S1x4x512x128), w⟩ :: L) (ix4 0 3 r l) = w (ix4 0 0 r l) := by
  have h := canon_at (Rect.unit ![0, 3, 0, 0] ![1, 1, 512, 128] inb_S1x4x512x128_S1x1x512x128_0_3_0_0 : Rect S1x4x512x128) w L (emb_pair3 r l)
  exact h

theorem canon_skip3 (w : (Rect.unit ![0, 3, 0, 0] ![1, 1, 512, 128] inb_S1x4x512x128_S1x1x512x128_0_3_0_0 : Rect S1x4x512x128).shape.Idx → Elt Ideal .f32) (L : List (View.Piece (Elt Ideal) S1x4x512x128 .f32)) (g : Fin 4) (hg : g.val < 3) (r : Fin 512) (l : Fin 128) :
    View.canon (Val := Elt Ideal) (s := S1x4x512x128) (e := .f32) (⟨(Rect.unit ![0, 3, 0, 0] ![1, 1, 512, 128] inb_S1x4x512x128_S1x1x512x128_0_3_0_0 : Rect S1x4x512x128), w⟩ :: L) (ix4 0 g r l)
      = View.canon (Val := Elt Ideal) (s := S1x4x512x128) (e := .f32) L (ix4 0 g r l) :=
  View.canon_cons_of_not_mem _ L (not_pair3 g hg r l)

/-- A block written pair of heads by pair of heads. -/
theorem quad_at (w3 : (Rect.unit ![0, 3, 0, 0] ![1, 1, 512, 128] inb_S1x4x512x128_S1x1x512x128_0_3_0_0 : Rect S1x4x512x128).shape.Idx → Elt Ideal .f32) (w2 : (Rect.unit ![0, 2, 0, 0] ![1, 1, 512, 128] inb_S1x4x512x128_S1x1x512x128_0_2_0_0 : Rect S1x4x512x128).shape.Idx → Elt Ideal .f32) (w1 : (Rect.unit ![0, 1, 0, 0] ![1, 1, 512, 128] inb_S1x4x512x128_S1x1x512x128_0_1_0_0 : Rect S1x4x512x128).shape.Idx → Elt Ideal .f32) (w0 : (Rect.unit ![0, 0, 0, 0] ![1, 1, 512, 128] inb_S1x4x512x128_S1x1x512x128_0_0_0_0 : Rect S1x4x512x128).shape.Idx → Elt Ideal .f32) {f : Fin 4 → Fin 512 → Fin 128 → EReal}
    (h3 : ∀ r l, w3 (ix4 0 0 r l) = f 3 r l) (h2 : ∀ r l, w2 (ix4 0 0 r l) = f 2 r l)
    (h1 : ∀ r l, w1 (ix4 0 0 r l) = f 1 r l) (h0 : ∀ r l, w0 (ix4 0 0 r l) = f 0 r l)
    (g : Fin 4) (r : Fin 512) (l : Fin 128) :
    View.canon (Val := Elt Ideal) (s := S1x4x512x128) (e := .f32) [⟨(Rect.unit ![0, 3, 0, 0] ![1, 1, 512, 128] inb_S1x4x512x128_S1x1x512x128_0_3_0_0), w3⟩, ⟨(Rect.unit ![0, 2, 0, 0] ![1, 1, 512, 128] inb_S1x4x512x128_S1x1x512x128_0_2_0_0), w2⟩, ⟨(Rect.unit ![0, 1, 0, 0] ![1, 1, 512, 128] inb_S1x4x512x128_S1x1x512x128_0_1_0_0), w1⟩, ⟨(Rect.unit ![0, 0, 0, 0] ![1, 1, 512, 128] inb_S1x4x512x128_S1x1x512x128_0_0_0_0), w0⟩] (ix4 0 g r l) = f g r l := by
  have hg : g = 3 ∨ g = 2 ∨ g = 1 ∨ g = 0 := by omega
  rcases hg with rfl | rfl | rfl | rfl
  · rw [canon_pair3]; exact h3 r l
  · rw [canon_skip3 _ _ _ (by decide), canon_pair2]; exact h2 r l
  · rw [canon_skip3 _ _ _ (by decide), canon_skip2 _ _ _ (by decide), canon_pair1]; exact h1 r l
  · rw [canon_skip3 _ _ _ (by decide), canon_skip2 _ _ _ (by decide), canon_skip1 _ _ _ (by decide), canon_pair0]; exact h0 r l

theorem q_pt (c : Dev nD) (t : Fin cfg0.N) (g : Fin 4) (r : Fin 512) (l : Fin 128) :
    ((outsAt0 m c t.val t.isLt).2.1 : FVec Ideal S1x4x512x128 .f32) (ix4 0 g r l)
      = Cert.Mix.pairs (argsOf m c) 1280 (by decide) (grp t) g (row t r) l := by
  have h := q_at (loads m c t)
  rcases cases3 t with ⟨h0, h1⟩ | ⟨h0, h1⟩ | ⟨h0, h1⟩
  · rw [outsAt0_A m c t h0 h1]
    frame_out
    refine quad_at _ _ _ _ (f := fun g r l => Cert.Mix.pairs (argsOf m c) 1280 (by decide) (grp t) g (row t r) l) ?_ ?_ ?_ ?_ g r l <;>
      (intro r l; pointwise [k0_pay18, k0_pay19, k0_pay20, k0_pay21]; refine (h r _).trans (congrArg (Cert.Mix.zz _ _ _) (Fin.ext ?_)); first | rfl | (simp; done) | (simp; omega))
  · rw [outsAt0_B m c t h0 h1]
    frame_out
    refine quad_at _ _ _ _ (f := fun g r l => Cert.Mix.pairs (argsOf m c) 1280 (by decide) (grp t) g (row t r) l) ?_ ?_ ?_ ?_ g r l <;>
      (intro r l; pointwise [k0_pay18, k0_pay19, k0_pay20, k0_pay21]; refine (h r _).trans (congrArg (Cert.Mix.zz _ _ _) (Fin.ext ?_)); first | rfl | (simp; done) | (simp; omega))
  · rw [outsAt0_C m c t h0 h1]
    frame_out
    refine quad_at _ _ _ _ (f := fun g r l => Cert.Mix.pairs (argsOf m c) 1280 (by decide) (grp t) g (row t r) l) ?_ ?_ ?_ ?_ g r l <;>
      (intro r l; pointwise [k0_pay18, k0_pay19, k0_pay20, k0_pay21]; refine (h r _).trans (congrArg (Cert.Mix.zz _ _ _) (Fin.ext ?_)); first | rfl | (simp; done) | (simp; omega))

theorem k_pt (c : Dev nD) (t : Fin cfg0.N) (g : Fin 4) (r : Fin 512) (l : Fin 128) :
    ((outsAt0 m c t.val t.isLt).2.2.1 : FVec Ideal S1x4x512x128 .f32) (ix4 0 g r l)
      = Cert.Mix.pairs (argsOf m c) 1792 (by decide) (grp t) g (row t r) l := by
  have h := k_at (loads m c t)
  rcases cases3 t with ⟨h0, h1⟩ | ⟨h0, h1⟩ | ⟨h0, h1⟩
  · rw [outsAt0_A m c t h0 h1]
    frame_out
    refine quad_at _ _ _ _ (f := fun g r l => Cert.Mix.pairs (argsOf m c) 1792 (by decide) (grp t) g (row t r) l) ?_ ?_ ?_ ?_ g r l <;>
      (intro r l; pointwise [k0_pay22, k0_pay23, k0_pay24, k0_pay25, k0_pay26]; refine (h r _).trans (congrArg (Cert.Mix.zz _ _ _) (Fin.ext ?_)); first | rfl | (simp; done) | (simp; omega))
  · rw [outsAt0_B m c t h0 h1]
    frame_out
    refine quad_at _ _ _ _ (f := fun g r l => Cert.Mix.pairs (argsOf m c) 1792 (by decide) (grp t) g (row t r) l) ?_ ?_ ?_ ?_ g r l <;>
      (intro r l; pointwise [k0_pay22, k0_pay23, k0_pay24, k0_pay25, k0_pay26]; refine (h r _).trans (congrArg (Cert.Mix.zz _ _ _) (Fin.ext ?_)); first | rfl | (simp; done) | (simp; omega))
  · rw [outsAt0_C m c t h0 h1]
    frame_out
    refine quad_at _ _ _ _ (f := fun g r l => Cert.Mix.pairs (argsOf m c) 1792 (by decide) (grp t) g (row t r) l) ?_ ?_ ?_ ?_ g r l <;>
      (intro r l; pointwise [k0_pay22, k0_pay23, k0_pay24, k0_pay25, k0_pay26]; refine (h r _).trans (congrArg (Cert.Mix.zz _ _ _) (Fin.ext ?_)); first | rfl | (simp; done) | (simp; omega))

theorem v_pt (c : Dev nD) (t : Fin cfg0.N) (g : Fin 4) (r : Fin 512) (l : Fin 128) :
    ((outsAt0 m c t.val t.isLt).2.2.2.1 : FVec Ideal S1x4x512x128 .f32) (ix4 0 g r l)
      = Cert.Mix.pairs (argsOf m c) 2304 (by decide) (grp t) g (row t r) l := by
  have h := v_at (loads m c t)
  rcases cases3 t with ⟨h0, h1⟩ | ⟨h0, h1⟩ | ⟨h0, h1⟩
  · rw [outsAt0_A m c t h0 h1]
    frame_out
    refine quad_at _ _ _ _ (f := fun g r l => Cert.Mix.pairs (argsOf m c) 2304 (by decide) (grp t) g (row t r) l) ?_ ?_ ?_ ?_ g r l <;>
      (intro r l; pointwise [k0_pay27, k0_pay28, k0_pay29, k0_pay30]; refine (h r _).trans (congrArg (Cert.Mix.zz _ _ _) (Fin.ext ?_)); first | rfl | (simp; done) | (simp; omega))
  · rw [outsAt0_B m c t h0 h1]
    frame_out
    refine quad_at _ _ _ _ (f := fun g r l => Cert.Mix.pairs (argsOf m c) 2304 (by decide) (grp t) g (row t r) l) ?_ ?_ ?_ ?_ g r l <;>
      (intro r l; pointwise [k0_pay27, k0_pay28, k0_pay29, k0_pay30]; refine (h r _).trans (congrArg (Cert.Mix.zz _ _ _) (Fin.ext ?_)); first | rfl | (simp; done) | (simp; omega))
  · rw [outsAt0_C m c t h0 h1]
    frame_out
    refine quad_at _ _ _ _ (f := fun g r l => Cert.Mix.pairs (argsOf m c) 2304 (by decide) (grp t) g (row t r) l) ?_ ?_ ?_ ?_ g r l <;>
      (intro r l; pointwise [k0_pay27, k0_pay28, k0_pay29, k0_pay30]; refine (h r _).trans (congrArg (Cert.Mix.zz _ _ _) (Fin.ext ?_)); first | rfl | (simp; done) | (simp; omega))

theorem keptk_pt (c : Dev nD) (t : Fin cfg0.N) (h1 : 4 ≤ t.val % 8) (k r : Fin 512) :
    ((outsAt0 m c t.val t.isLt).2.2.2.2.2.2.1 : FVec Ideal S1x1x512x512 .f32) (ix4 0 0 k r)
      = Cert.Mix.zz (argsOf m c) (grp t) (row t r) ⟨1792 + k.val, by have := k.isLt; omega⟩ := by
  have h := k_at (loads m c t)
  rw [outsAt0_C m c t (by omega) h1]
  frame_out
  pointwise [k0_pay1]
  exact h r k

theorem keptv_pt (c : Dev nD) (t : Fin cfg0.N) (h1 : 4 ≤ t.val % 8) (k r : Fin 512) :
    ((outsAt0 m c t.val t.isLt).2.2.2.2.2.2.2.1 : FVec Ideal S1x1x512x512 .f32) (ix4 0 0 k r)
      = Cert.Mix.zz (argsOf m c) (grp t) (row t r) ⟨2304 + k.val, by have := k.isLt; omega⟩ := by
  have h := v_at (loads m c t)
  rw [outsAt0_C m c t (by omega) h1]
  frame_out
  pointwise [k0_pay2]
  exact h r k

end Cert.Kernel3Ideal.Hand

end
-- ==== Proof.MixTile.lean ====
module

public import proofs.«01_k».proof.Proof.MixValue
public import Idealize.ShloMosaic.Lib.WritesUnit
public import Idealize.ShloMosaic.Lib.Pipeline.ReadBack

/-! The block of the two normalised groups after a grid point: its tile of the call's value. -/

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Hand

open Cert.Kernel3Ideal Cert.Kernel3Ideal.Gen
open Cert.Mix (Args)

variable (m : (ℓ : Loc nD τ sig) → Buf (Elt Ideal) ℓ)

theorem canon_right (w : (Rect.unit ![0, 0, 256] ![1, 512, 256] inb_S1x512x512_S1x512x256_0_0_256 : Rect S1x512x512).shape.Idx → Elt Ideal .bf16) (L : List (View.Piece (Elt Ideal) S1x512x512 .bf16)) (r : Fin 512) (j : Fin 512) (hj : ¬ j.val < 256) :
    View.canon (Val := Elt Ideal) (s := S1x512x512) (e := .bf16) (⟨(Rect.unit ![0, 0, 256] ![1, 512, 256] inb_S1x512x512_S1x512x256_0_0_256 : Rect S1x512x512), w⟩ :: L) (ix3 0 r j)
      = w (ix3 0 r ⟨j.val - 256, by have := j.isLt; show j.val - 256 < 256; omega⟩) := by
  refine canon_at (Rect.unit ![0, 0, 256] ![1, 512, 256] inb_S1x512x512_S1x512x256_0_0_256 : Rect S1x512x512) w L ?_
  funext a
  apply Fin.ext
  fin_cases a
  · rfl
  · show 0 + 1 * r.val = r.val; omega
  · show 256 + 1 * (j.val - 256) = j.val; omega

theorem canon_left (w : (Rect.unit ![0, 0, 256] ![1, 512, 256] inb_S1x512x512_S1x512x256_0_0_256 : Rect S1x512x512).shape.Idx → Elt Ideal .bf16) (w' : (Rect.unit ![0, 0, 0] ![1, 512, 256] inb_S1x512x512_S1x512x256_0_0_0 : Rect S1x512x512).shape.Idx → Elt Ideal .bf16) (L : List (View.Piece (Elt Ideal) S1x512x512 .bf16)) (r : Fin 512) (j : Fin 512) (hj : j.val < 256) :
    View.canon (Val := Elt Ideal) (s := S1x512x512) (e := .bf16) (⟨(Rect.unit ![0, 0, 256] ![1, 512, 256] inb_S1x512x512_S1x512x256_0_0_256 : Rect S1x512x512), w⟩ :: ⟨(Rect.unit ![0, 0, 0] ![1, 512, 256] inb_S1x512x512_S1x512x256_0_0_0 : Rect S1x512x512), w'⟩ :: L) (ix3 0 r j)
      = w' (ix3 0 r ⟨j.val, hj⟩) := by
  refine (View.canon_cons_of_not_mem _ _ ?_).trans (canon_at (Rect.unit ![0, 0, 0] ![1, 512, 256] inb_S1x512x512_S1x512x256_0_0_0 : Rect S1x512x512) w' L ?_)
  · show (ix3 0 r j : S1x512x512.Idx) ∉ (Rect.unit ![0, 0, 256] ![1, 512, 256] inb_S1x512x512_S1x512x256_0_0_256 : Rect S1x512x512).set
    rw [Rect.mem_set_unit]
    intro h
    have h0 : 256 ≤ j.val := (h 2).1
    omega
  · funext a
    apply Fin.ext
    fin_cases a
    · rfl
    · show 0 + 1 * r.val = r.val; omega
    · show 0 + 1 * j.val = j.val; omega

/-- The right half of the block, from a second buffer that holds the padded rows. -/
theorem right_at (c : Dev nD) (t : Fin cfg0.N) (B D : Vec Ideal S520x256 .f32)
    (hB : ∀ (s : Fin 520) (j : Fin 256), 6 ≤ s.val → B (ix2 s j) = Cert.Mix.xb (argsOf m c) (grp t) (t.val % 8 * 512 + (s.val - 6)) j)
    (hD : ∀ (s : Fin 520) (j : Fin 256), 6 ≤ s.val → D (ix2 s j) = Cert.Mix.xb (argsOf m c) (grp t) (t.val % 8 * 512 + (s.val - 6)) j)
    (r : Fin 512) (j : Fin 256) :
    k0_pay112 (k0_pay111
        (k0_pay14
          (k0_pay7 (iblk m c 0 t) (iblk m c 2 t)
            (View.ld (Val := Elt Ideal) (iblk m c 1 t) (Rect.unit ![0, 1, 0, 0] ![1, 1, 1, 1024] inb_S1x6x1x1024_S1x1x1x1024_0_1_0_0))
            (View.ld (Val := Elt Ideal) (iblk m c 1 t) (Rect.unit ![0, 0, 0, 0] ![1, 1, 1, 1024] inb_S1x6x1x1024_S1x1x1x1024_0_0_0_0)))
          (View.ld (Val := Elt Ideal) (iblk m c 3 t) (Rect.unit ![0, 512] ![1024, 768] inb_S1024x2816_S1024x768_0_512)))
        (View.ld (Val := Elt Ideal) B (Rect.unit ![8, 0] ![512, 256] inb_S520x256_S512x256_8_0))
        (View.ld (Val := Elt Ideal) (iblk m c 8 t) (Rect.unit ![2, 0] ![1, 256] inb_S3x256_S1x256_2_0))
        D
        (View.ld (Val := Elt Ideal) (iblk m c 8 t) (Rect.unit ![0, 0] ![1, 256] inb_S3x256_S1x256_0_0))
        D
        (View.ld (Val := Elt Ideal) (iblk m c 8 t) (Rect.unit ![1, 0] ![1, 256] inb_S3x256_S1x256_1_0)) (iblk m c 10 t)) (ix3 0 r j)
      = Cert.Mix.nb (argsOf m c) (grp t) (row t r) j := by
  refine nb_at (fun r j => bg_at (loads m c t) r j) ?_ ?_ ?_ ?_ ?_ ?_ (blk10 m c t) r j
  · intro r j
    pointwise []
    exact (hB ⟨8 + r.val, by have := r.isLt; omega⟩ j (by show 6 ≤ 8 + r.val; omega)).trans
      (congrArg (fun q => Cert.Mix.xb _ _ q j) (by show t.val % 8 * 512 + (8 + r.val - 6) = 2 + (t.val % 8 * 512 + r.val); omega))
  · intro r j
    exact (hD ⟨6 + r.val, by have := r.isLt; omega⟩ j (Nat.le_add_right 6 _)).trans
      (congrArg (fun q => Cert.Mix.xb _ _ q j) (by show t.val % 8 * 512 + (6 + r.val - 6) = t.val % 8 * 512 + r.val; omega))
  · intro r j
    exact (hD ⟨7 + r.val, by have := r.isLt; omega⟩ j (by show 6 ≤ 7 + r.val; omega)).trans
      (congrArg (fun q => Cert.Mix.xb _ _ q j) (by show t.val % 8 * 512 + (7 + r.val - 6) = 1 + (t.val % 8 * 512 + r.val); omega))
  · intro j
    pointwise []
    exact blk8 m c t 2 j
  · intro j
    pointwise []
    exact blk8 m c t 0 j
  · intro j
    pointwise []
    exact blk8 m c t 1 j

theorem mixA (c : Dev nD) (t : Fin cfg0.N) (h0 : t.val % 8 = 0) (h1 : ¬ 4 ≤ t.val % 8) (r j : Fin 512) :
    ((outsAt0 m c t.val t.isLt).1 : FVec Ideal S1x512x512 .bf16) (ix3 0 r j) = Cert.Mix.mixab (argsOf m c) (grp t) (row t r) j := by
  rw [outsAt0_A m c t h0 h1]
  frame_out
  unfold Cert.Mix.mixab
  by_cases hj : j.val < 256
  · rw [dif_pos hj]
    refine (canon_left _ _ _ r j hj).trans ?_
    simp only [readCov_ld]
    generalize e : (View.canon (Val := Elt Ideal) (s := S544x256) (e := .f32) [⟨AHi, _⟩, ⟨ALo, _⟩]) = B
    refine na_at (T0 := t.val % 8 * 512) B (iblk m c 4 t) ?_ (blk4 m c t) (blk5 m c t) (blk6 m c t) (blk7 m c t) (blk9 m c t) r ⟨j.val, hj⟩
    refine rowsA (fun r j => ?_) (fun s j hs => ?_)
    · rw [← e]
      exact (canon_hiA _ _ r j).trans (aa_at (loads m c t) r j)
    · rw [← e]
      refine (canon_loA _ _ s j).trans ((canon_firstA _ _ s j).trans ?_)
      unfold k0_pay5 Cert.Mix.xa
      have := s.isLt
      rw [dif_neg (by omega)]
      pointwise []
      exact blk11 m c t s j
  · rw [dif_neg hj]
    refine (canon_right _ _ r j hj).trans ?_
    simp only [readCov_ld]
    generalize e : (View.canon (Val := Elt Ideal) (s := S520x256) (e := .f32) [⟨BHi, _⟩, ⟨BLo, _⟩]) = B
    have hB : ∀ (s : Fin 520) (j : Fin 256), 6 ≤ s.val → B (ix2 s j) = Cert.Mix.xb (argsOf m c) (grp t) (t.val % 8 * 512 + (s.val - 6)) j := by
      refine rowsB (fun r j => ?_) (fun s j hs => ?_)
      · rw [← e]
        exact (canon_hiB _ _ r j).trans (ub_at (loads m c t) r j)
      · rw [← e]
        refine (canon_loB _ _ s j).trans ((canon_firstB _ _ s j).trans ?_)
        unfold k0_pay6 Cert.Mix.xb
        have := s.isLt
        rw [dif_neg (by omega)]
        pointwise []
        exact blk12 m c t s j
    exact right_at m c t B _ hB (fun s j hs => by pointwise []; exact hB s j hs) r _

/-- The rows carried into a tile are the padded rows before its own. -/
theorem loA (c : Dev nD) (t : Fin cfg0.N) (h0 : ¬ t.val % 8 = 0) (ht : t.val - 1 < cfg0.N) (s : Fin 32) (j : Fin 256) (hs : 2 ≤ s.val) :
    ((outsAt0 m c (t.val - 1) ht).2.2.2.2.2.2.2.2.1 : FVec Ideal S544x256 .f32) (ix2 ⟨s.val, by have := s.isLt; omega⟩ j)
      = Cert.Mix.xa (argsOf m c) (grp t) (t.val % 8 * 512 + (s.val - 2)) j := by
  have hs8 := s.isLt
  have hN : t.val < 64 := lt_of_lt_of_eq t.isLt N_eq
  refine (carryA m c ⟨t.val - 1, ht⟩ s j).trans ?_
  unfold Cert.Mix.xa
  rw [dif_pos ⟨by omega, by omega⟩]
  have e1 : grp ⟨t.val - 1, ht⟩ = grp t := Fin.ext (by show (t.val - 1) / 8 = t.val / 8; omega)
  rw [e1]
  exact congrArg (fun q => Cert.Mix.aa _ _ q j) (Fin.ext (by
    show (t.val - 1) % 8 * 512 + (480 + s.val) = t.val % 8 * 512 + (s.val - 2) - 30; omega))

theorem loB (c : Dev nD) (t : Fin cfg0.N) (h0 : ¬ t.val % 8 = 0) (ht : t.val - 1 < cfg0.N) (s : Fin 8) (j : Fin 256) (hs : 6 ≤ s.val) :
    ((outsAt0 m c (t.val - 1) ht).2.2.2.2.2.2.2.2.2 : FVec Ideal S520x256 .f32) (ix2 ⟨s.val, by have := s.isLt; omega⟩ j)
      = Cert.Mix.xb (argsOf m c) (grp t) (t.val % 8 * 512 + (s.val - 6)) j := by
  have hs8 := s.isLt
  have hN : t.val < 64 := lt_of_lt_of_eq t.isLt N_eq
  refine (carryB m c ⟨t.val - 1, ht⟩ s j).trans ?_
  unfold Cert.Mix.xb
  rw [dif_pos ⟨by omega, by omega⟩]
  have e1 : grp ⟨t.val - 1, ht⟩ = grp t := Fin.ext (by show (t.val - 1) / 8 = t.val / 8; omega)
  rw [e1]
  exact congrArg (fun q => Cert.Mix.ub _ _ q j) (Fin.ext (by
    show (t.val - 1) % 8 * 512 + (504 + s.val) = t.val % 8 * 512 + (s.val - 6) - 2; omega))

theorem mixB (c : Dev nD) (t : Fin cfg0.N) (h0 : ¬ t.val % 8 = 0) (h1 : ¬ 4 ≤ t.val % 8) (r j : Fin 512) :
    ((outsAt0 m c t.val t.isLt).1 : FVec Ideal S1x512x512 .bf16) (ix3 0 r j) = Cert.Mix.mixab (argsOf m c) (grp t) (row t r) j := by
  have ht : t.val - 1 < cfg0.N := Nat.lt_of_le_of_lt (Nat.sub_le _ _) t.isLt
  rw [outsAt0_B m c t h0 h1]
  frame_out
  unfold Cert.Mix.mixab
  by_cases hj : j.val < 256
  · rw [dif_pos hj]
    refine (canon_left _ _ _ r j hj).trans ?_
    simp (disch := decide) only [readCov_upA (View.whole cc0_scratch0)
      ((Memref.isWhole_whole cc0_scratch0).unread (outsAt0 m c (t.val - 1) ht).2.2.2.2.2.2.2.2.1)]
    generalize e : (View.read (Elt Ideal) (View.whole cc0_scratch0) ((View.whole cc0_scratch0).writes (Elt Ideal) _ [⟨AHi, _⟩])) = B
    refine na_at (T0 := t.val % 8 * 512) B (iblk m c 4 t) ?_ (blk4 m c t) (blk5 m c t) (blk6 m c t) (blk7 m c t) (blk9 m c t) r ⟨j.val, hj⟩
    refine rowsA (fun r j => ?_) (fun s j hs => ?_)
    · rw [← e]
      exact (read_hiA _ _ _ r j).trans (aa_at (loads m c t) r j)
    · rw [← e]
      refine (read_loA _ _ _ s j).trans ?_
      rw [read_unread_whole]
      exact loA m c t h0 ht s j hs
  · rw [dif_neg hj]
    refine (canon_right _ _ r j hj).trans ?_
    simp (disch := decide) only [readCov_upB (View.whole cc0_scratch1)
      ((Memref.isWhole_whole cc0_scratch1).unread (outsAt0 m c (t.val - 1) ht).2.2.2.2.2.2.2.2.2)]
    generalize e : (View.read (Elt Ideal) (View.whole cc0_scratch1) ((View.whole cc0_scratch1).writes (Elt Ideal) _ [⟨BHi, _⟩])) = B
    have hB : ∀ (s : Fin 520) (j : Fin 256), 6 ≤ s.val → B (ix2 s j) = Cert.Mix.xb (argsOf m c) (grp t) (t.val % 8 * 512 + (s.val - 6)) j := by
      refine rowsB (fun r j => ?_) (fun s j hs => ?_)
      · rw [← e]
        exact (read_hiB _ _ _ r j).trans (ub_at (loads m c t) r j)
      · rw [← e]
        refine (read_loB _ _ _ s j).trans ?_
        rw [read_unread_whole]
        exact loB m c t h0 ht s j hs
    exact right_at m c t B B hB hB r _

theorem mixC (c : Dev nD) (t : Fin cfg0.N) (h0 : ¬ t.val % 8 = 0) (h1 : 4 ≤ t.val % 8) (r j : Fin 512) :
    ((outsAt0 m c t.val t.isLt).1 : FVec Ideal S1x512x512 .bf16) (ix3 0 r j) = Cert.Mix.mixab (argsOf m c) (grp t) (row t r) j := by
  have ht : t.val - 1 < cfg0.N := Nat.lt_of_le_of_lt (Nat.sub_le _ _) t.isLt
  rw [outsAt0_C m c t h0 h1]
  frame_out
  unfold Cert.Mix.mixab
  by_cases hj : j.val < 256
  · rw [dif_pos hj]
    refine (canon_left _ _ _ r j hj).trans ?_
    simp (disch := decide) only [readCov_upA (View.whole cc0_scratch0)
      ((Memref.isWhole_whole cc0_scratch0).unread (outsAt0 m c (t.val - 1) ht).2.2.2.2.2.2.2.2.1)]
    generalize e : (View.read (Elt Ideal) (View.whole cc0_scratch0) ((View.whole cc0_scratch0).writes (Elt Ideal) _ [⟨AHi, _⟩])) = B
    refine na_at (T0 := t.val % 8 * 512) B (iblk m c 4 t) ?_ (blk4 m c t) (blk5 m c t) (blk6 m c t) (blk7 m c t) (blk9 m c t) r ⟨j.val, hj⟩
    refine rowsA (fun r j => ?_) (fun s j hs => ?_)
    · rw [← e]
      exact (read_hiA _ _ _ r j).trans (aa_at (loads m c t) r j)
    · rw [← e]
      refine (read_loA _ _ _ s j).trans ?_
      rw [read_unread_whole]
      exact loA m c t h0 ht s j hs
  · rw [dif_neg hj]
    refine (canon_right _ _ r j hj).trans ?_
    simp (disch := decide) only [readCov_upB (View.whole cc0_scratch1)
      ((Memref.isWhole_whole cc0_scratch1).unread (outsAt0 m c (t.val - 1) ht).2.2.2.2.2.2.2.2.2)]
    generalize e : (View.read (Elt Ideal) (View.whole cc0_scratch1) ((View.whole cc0_scratch1).writes (Elt Ideal) _ [⟨BHi, _⟩])) = B
    have hB : ∀ (s : Fin 520) (j : Fin 256), 6 ≤ s.val → B (ix2 s j) = Cert.Mix.xb (argsOf m c) (grp t) (t.val % 8 * 512 + (s.val - 6)) j := by
      refine rowsB (fun r j => ?_) (fun s j hs => ?_)
      · rw [← e]
        exact (read_hiB _ _ _ r j).trans (ub_at (loads m c t) r j)
      · rw [← e]
        refine (read_loB _ _ _ s j).trans ?_
        rw [read_unread_whole]
        exact loB m c t h0 ht s j hs
    exact right_at m c t B B hB hB r _

/-- What a point leaves in the first result's block: its tile of the two groups side by side. -/
theorem mix_pt (c : Dev nD) (t : Fin cfg0.N) (r j : Fin 512) :
    ((outsAt0 m c t.val t.isLt).1 : FVec Ideal S1x512x512 .bf16) (ix3 0 r j) = Cert.Mix.mixab (argsOf m c) (grp t) (row t r) j := by
  rcases cases3 t with ⟨h0, h1⟩ | ⟨h0, h1⟩ | ⟨h0, h1⟩
  · exact mixA m c t h0 h1 r j
  · exact mixB m c t h0 h1 r j
  · exact mixC m c t h0 h1 r j

end Cert.Kernel3Ideal.Hand

end
-- ==== Proof.MixFinal.lean ====
module

public import proofs.«01_k».proof.Proof.MixTile
public import Idealize.ShloMosaic.Lib.WritesUnit
public import Idealize.ShloMosaic.Lib.Pipeline.ReadBack

/-! The eight result arrays of the input projection and convolutions kernel, entry by entry. -/

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Hand

open Cert.Kernel3Ideal Cert.Kernel3Ideal.Gen
open Cert.Mix (Args)

variable (m : (ℓ : Loc nD τ sig) → Buf (Elt Ideal) ℓ)

theorem final_13 (c : Dev nD) : (dats m 0 c).arrAt 13 (cfgs 0).N
    = ((fun i => Cert.Mix.mixab (argsOf m c) (i 0) (i 1) (i 2)) : FVec Ideal S8x4096x512 .bf16) := by
  refine (dats m 0 c).arrAt_eq_of_covers 13 _ (by decide +kernel) fun t hf y => ?_
  blk_simp; rw [after0_13]
  obtain ⟨r, j, rfl⟩ : ∃ (r : Fin 512) (j : Fin 512), y = (ix3 0 r j : S1x512x512.Idx) :=
    ⟨y 1, y 2, by
      funext a
      fin_cases a
      · exact Subsingleton.elim (α := Fin 1) _ _
      · rfl
      · rfl
    ⟩
  refine (mix_pt m c t r j).trans ?_
  have hi : win0_13.index t = ![t.val / 8, t.val % 8, 0] := by
    simp only [idx t]
  have e0 : (win0_13.blk t).view.emb (ix3 0 r j : S1x512x512.Idx) 0 = grp t := Fin.ext (by
    show win0_13.index t 0 * 1 + 1 * 0 = t.val / 8
    rw [hi]; show t.val / 8 * 1 + 1 * 0 = t.val / 8; omega)
  have e1 : (win0_13.blk t).view.emb (ix3 0 r j : S1x512x512.Idx) 1 = row t r := Fin.ext (by
    show win0_13.index t 1 * 512 + 1 * r.val = t.val % 8 * 512 + r.val
    rw [hi]; show t.val % 8 * 512 + 1 * r.val = t.val % 8 * 512 + r.val; omega)
  have e2 : (win0_13.blk t).view.emb (ix3 0 r j : S1x512x512.Idx) 2 = j := Fin.ext (by
    show win0_13.index t 2 * 512 + 1 * j.val = j.val
    rw [hi]; show 0 * 512 + 1 * j.val = j.val; omega)
  rw [e0, e1, e2]

theorem final_14 (c : Dev nD) : (dats m 0 c).arrAt 14 (cfgs 0).N
    = ((fun i => Cert.Mix.pairs (argsOf m c) 1280 (by decide) (i 0) (i 1) (i 2) (i 3)) : FVec Ideal S8x4x4096x128 .f32) := by
  refine (dats m 0 c).arrAt_eq_of_covers 14 _ (by decide +kernel) fun t hf y => ?_
  blk_simp; rw [after0_14]
  obtain ⟨g, r, l, rfl⟩ : ∃ (g : Fin 4) (r : Fin 512) (l : Fin 128), y = (ix4 0 g r l : S1x4x512x128.Idx) :=
    ⟨y 1, y 2, y 3, by
      funext a
      fin_cases a
      · exact Subsingleton.elim (α := Fin 1) _ _
      · rfl
      · rfl
      · rfl
    ⟩
  refine (q_pt m c t g r l).trans ?_
  have hi : win0_14.index t = ![t.val / 8, 0, t.val % 8, 0] := by
    simp only [idx t]
  have e0 : (win0_14.blk t).view.emb (ix4 0 g r l : S1x4x512x128.Idx) 0 = grp t := Fin.ext (by
    show win0_14.index t 0 * 1 + 1 * 0 = t.val / 8
    rw [hi]; show t.val / 8 * 1 + 1 * 0 = t.val / 8; omega)
  have e1 : (win0_14.blk t).view.emb (ix4 0 g r l : S1x4x512x128.Idx) 1 = g := Fin.ext (by
    show win0_14.index t 1 * 4 + 1 * g.val = g.val
    rw [hi]; show 0 * 4 + 1 * g.val = g.val; omega)
  have e2 : (win0_14.blk t).view.emb (ix4 0 g r l : S1x4x512x128.Idx) 2 = row t r := Fin.ext (by
    show win0_14.index t 2 * 512 + 1 * r.val = t.val % 8 * 512 + r.val
    rw [hi]; show t.val % 8 * 512 + 1 * r.val = t.val % 8 * 512 + r.val; omega)
  have e3 : (win0_14.blk t).view.emb (ix4 0 g r l : S1x4x512x128.Idx) 3 = l := Fin.ext (by
    show win0_14.index t 3 * 128 + 1 * l.val = l.val
    rw [hi]; show 0 * 128 + 1 * l.val = l.val; omega)
  rw [e0, e1, e2, e3]

theorem final_15 (c : Dev nD) : (dats m 0 c).arrAt 15 (cfgs 0).N
    = ((fun i => Cert.Mix.pairs (argsOf m c) 1792 (by decide) (i 0) (i 1) (i 2) (i 3)) : FVec Ideal S8x4x4096x128 .f32) := by
  refine (dats m 0 c).arrAt_eq_of_covers 15 _ (by decide +kernel) fun t hf y => ?_
  blk_simp; rw [after0_15]
  obtain ⟨g, r, l, rfl⟩ : ∃ (g : Fin 4) (r : Fin 512) (l : Fin 128), y = (ix4 0 g r l : S1x4x512x128.Idx) :=
    ⟨y 1, y 2, y 3, by
      funext a
      fin_cases a
      · exact Subsingleton.elim (α := Fin 1) _ _
      · rfl
      · rfl
      · rfl
    ⟩
  refine (k_pt m c t g r l).trans ?_
  have hi : win0_15.index t = ![t.val / 8, 0, t.val % 8, 0] := by
    simp only [idx t]
  have e0 : (win0_15.blk t).view.emb (ix4 0 g r l : S1x4x512x128.Idx) 0 = grp t := Fin.ext (by
    show win0_15.index t 0 * 1 + 1 * 0 = t.val / 8
    rw [hi]; show t.val / 8 * 1 + 1 * 0 = t.val / 8; omega)
  have e1 : (win0_15.blk t).view.emb (ix4 0 g r l : S1x4x512x128.Idx) 1 = g := Fin.ext (by
    show win0_15.index t 1 * 4 + 1 * g.val = g.val
    rw [hi]; show 0 * 4 + 1 * g.val = g.val; omega)
  have e2 : (win0_15.blk t).view.emb (ix4 0 g r l : S1x4x512x128.Idx) 2 = row t r := Fin.ext (by
    show win0_15.index t 2 * 512 + 1 * r.val = t.val % 8 * 512 + r.val
    rw [hi]; show t.val % 8 * 512 + 1 * r.val = t.val % 8 * 512 + r.val; omega)
  have e3 : (win0_15.blk t).view.emb (ix4 0 g r l : S1x4x512x128.Idx) 3 = l := Fin.ext (by
    show win0_15.index t 3 * 128 + 1 * l.val = l.val
    rw [hi]; show 0 * 128 + 1 * l.val = l.val; omega)
  rw [e0, e1, e2, e3]

theorem final_16 (c : Dev nD) : (dats m 0 c).arrAt 16 (cfgs 0).N
    = ((fun i => Cert.Mix.pairs (argsOf m c) 2304 (by decide) (i 0) (i 1) (i 2) (i 3)) : FVec Ideal S8x4x4096x128 .f32) := by
  refine (dats m 0 c).arrAt_eq_of_covers 16 _ (by decide +kernel) fun t hf y => ?_
  blk_simp; rw [after0_16]
  obtain ⟨g, r, l, rfl⟩ : ∃ (g : Fin 4) (r : Fin 512) (l : Fin 128), y = (ix4 0 g r l : S1x4x512x128.Idx) :=
    ⟨y 1, y 2, y 3, by
      funext a
      fin_cases a
      · exact Subsingleton.elim (α := Fin 1) _ _
      · rfl
      · rfl
      · rfl
    ⟩
  refine (v_pt m c t g r l).trans ?_
  have hi : win0_16.index t = ![t.val / 8, 0, t.val % 8, 0] := by
    simp only [idx t]
  have e0 : (win0_16.blk t).view.emb (ix4 0 g r l : S1x4x512x128.Idx) 0 = grp t := Fin.ext (by
    show win0_16.index t 0 * 1 + 1 * 0 = t.val / 8
    rw [hi]; show t.val / 8 * 1 + 1 * 0 = t.val / 8; omega)
  have e1 : (win0_16.blk t).view.emb (ix4 0 g r l : S1x4x512x128.Idx) 1 = g := Fin.ext (by
    show win0_16.index t 1 * 4 + 1 * g.val = g.val
    rw [hi]; show 0 * 4 + 1 * g.val = g.val; omega)
  have e2 : (win0_16.blk t).view.emb (ix4 0 g r l : S1x4x512x128.Idx) 2 = row t r := Fin.ext (by
    show win0_16.index t 2 * 512 + 1 * r.val = t.val % 8 * 512 + r.val
    rw [hi]; show t.val % 8 * 512 + 1 * r.val = t.val % 8 * 512 + r.val; omega)
  have e3 : (win0_16.blk t).view.emb (ix4 0 g r l : S1x4x512x128.Idx) 3 = l := Fin.ext (by
    show win0_16.index t 3 * 128 + 1 * l.val = l.val
    rw [hi]; show 0 * 128 + 1 * l.val = l.val; omega)
  rw [e0, e1, e2, e3]

theorem final_17 (c : Dev nD) : (dats m 0 c).arrAt 17 (cfgs 0).N
    = ((fun i => Cert.Mix.newa (argsOf m c) (i 0) (i 1) (i 2)) : FVec Ideal S8x32x256 .f32) := by
  refine (dats m 0 c).arrAt_eq_of_covers 17 _ (by decide +kernel) fun t hf y => ?_
  blk_simp; rw [after0_17]
  have h7 : t.val % 8 = 7 := (by decide +kernel : ∀ t : Fin cfg0.N, (cfg0.win 17).flush t = true → t.val % 8 = 7) t hf
  obtain ⟨s, j, rfl⟩ : ∃ (s : Fin 32) (j : Fin 256), y = (ix3 0 s j : S1x32x256.Idx) :=
    ⟨y 1, y 2, by
      funext a
      fin_cases a
      · exact Subsingleton.elim (α := Fin 1) _ _
      · rfl
      · rfl
    ⟩
  refine (newa_at m c t s j).trans ?_
  have hi : win0_17.index t = ![t.val / 8, 0, 0] := by
    simp only [idx t]
  have e0 : (win0_17.blk t).view.emb (ix3 0 s j : S1x32x256.Idx) 0 = grp t := Fin.ext (by
    show win0_17.index t 0 * 1 + 1 * 0 = t.val / 8
    rw [hi]; show t.val / 8 * 1 + 1 * 0 = t.val / 8; omega)
  have e1 : (win0_17.blk t).view.emb (ix3 0 s j : S1x32x256.Idx) 1 = s := Fin.ext (by
    show win0_17.index t 1 * 32 + 1 * s.val = s.val
    rw [hi]; show 0 * 32 + 1 * s.val = s.val; omega)
  have e2 : (win0_17.blk t).view.emb (ix3 0 s j : S1x32x256.Idx) 2 = j := Fin.ext (by
    show win0_17.index t 2 * 256 + 1 * j.val = j.val
    rw [hi]; show 0 * 256 + 1 * j.val = j.val; omega)
  rw [e0, e1, e2]
  unfold Cert.Mix.newa Cert.Mix.xa
  have hs := s.isLt
  rw [dif_pos ⟨by omega, by omega⟩]
  exact congrArg (fun q => Cert.Mix.aa _ _ q j) (Fin.ext (by
    show t.val % 8 * 512 + (480 + s.val) = 4094 + s.val - 30; omega))

theorem final_18 (c : Dev nD) : (dats m 0 c).arrAt 18 (cfgs 0).N
    = ((fun i => Cert.Mix.newb (argsOf m c) (i 0) (i 1) (i 2)) : FVec Ideal S8x8x256 .f32) := by
  refine (dats m 0 c).arrAt_eq_of_covers 18 _ (by decide +kernel) fun t hf y => ?_
  blk_simp; rw [after0_18]
  have h7 : t.val % 8 = 7 := (by decide +kernel : ∀ t : Fin cfg0.N, (cfg0.win 18).flush t = true → t.val % 8 = 7) t hf
  obtain ⟨s, j, rfl⟩ : ∃ (s : Fin 8) (j : Fin 256), y = (ix3 0 s j : S1x8x256.Idx) :=
    ⟨y 1, y 2, by
      funext a
      fin_cases a
      · exact Subsingleton.elim (α := Fin 1) _ _
      · rfl
      · rfl
    ⟩
  refine (newb_at m c t s j).trans ?_
  have hi : win0_18.index t = ![t.val / 8, 0, 0] := by
    simp only [idx t]
  have e0 : (win0_18.blk t).view.emb (ix3 0 s j : S1x8x256.Idx) 0 = grp t := Fin.ext (by
    show win0_18.index t 0 * 1 + 1 * 0 = t.val / 8
    rw [hi]; show t.val / 8 * 1 + 1 * 0 = t.val / 8; omega)
  have e1 : (win0_18.blk t).view.emb (ix3 0 s j : S1x8x256.Idx) 1 = s := Fin.ext (by
    show win0_18.index t 1 * 8 + 1 * s.val = s.val
    rw [hi]; show 0 * 8 + 1 * s.val = s.val; omega)
  have e2 : (win0_18.blk t).view.emb (ix3 0 s j : S1x8x256.Idx) 2 = j := Fin.ext (by
    show win0_18.index t 2 * 256 + 1 * j.val = j.val
    rw [hi]; show 0 * 256 + 1 * j.val = j.val; omega)
  rw [e0, e1, e2]
  unfold Cert.Mix.newb Cert.Mix.xb
  have hs := s.isLt
  rw [dif_pos ⟨by omega, by omega⟩]
  exact congrArg (fun q => Cert.Mix.ub _ _ q j) (Fin.ext (by
    show t.val % 8 * 512 + (504 + s.val) = 4090 + s.val - 2; omega))

theorem final_19 (c : Dev nD) : (dats m 0 c).arrAt 19 (cfgs 0).N
    = ((fun i => Cert.Mix.kept (argsOf m c) 1792 (by decide) (i 1) (i 2) (i 3)) : FVec Ideal S1x8x512x2048 .f32) := by
  refine (dats m 0 c).arrAt_eq_of_covers 19 _ (by decide +kernel) fun t hf y => ?_
  blk_simp; rw [after0_19]
  have h4 : 4 ≤ t.val % 8 := (by decide +kernel : ∀ t : Fin cfg0.N, (cfg0.win 19).flush t = true → 4 ≤ t.val % 8) t hf
  obtain ⟨k, r, rfl⟩ : ∃ (k : Fin 512) (r : Fin 512), y = (ix4 0 0 k r : S1x1x512x512.Idx) :=
    ⟨y 2, y 3, by
      funext a
      fin_cases a
      · exact Subsingleton.elim (α := Fin 1) _ _
      · exact Subsingleton.elim (α := Fin 1) _ _
      · rfl
      · rfl
    ⟩
  refine (keptk_pt m c t h4 k r).trans ?_
  have hi : win0_19.index t = ![0, t.val / 8, 0, t.val % 8 - 4] := by
    simp only [idxKept t h4]
  have e1 : (win0_19.blk t).view.emb (ix4 0 0 k r : S1x1x512x512.Idx) 1 = grp t := Fin.ext (by
    show win0_19.index t 1 * 1 + 1 * 0 = t.val / 8
    rw [hi]; show t.val / 8 * 1 + 1 * 0 = t.val / 8; omega)
  have e2 : (win0_19.blk t).view.emb (ix4 0 0 k r : S1x1x512x512.Idx) 2 = k := Fin.ext (by
    show win0_19.index t 2 * 512 + 1 * k.val = k.val
    rw [hi]; show 0 * 512 + 1 * k.val = k.val; omega)
  have e3 : (win0_19.blk t).view.emb (ix4 0 0 k r : S1x1x512x512.Idx) 3 = (⟨(t.val % 8 - 4) * 512 + r.val, by have := r.isLt; have : t.val % 8 < 8 := Nat.mod_lt _ (by decide); omega⟩ : Fin 2048) := Fin.ext (by
    show win0_19.index t 3 * 512 + 1 * r.val = (t.val % 8 - 4) * 512 + r.val
    rw [hi]; show (t.val % 8 - 4) * 512 + 1 * r.val = (t.val % 8 - 4) * 512 + r.val; omega)
  rw [e1, e2, e3]
  unfold Cert.Mix.kept
  refine congrArg (fun q => Cert.Mix.zz _ _ q _) (Fin.ext ?_)
  show t.val % 8 * 512 + r.val = 2048 + ((t.val % 8 - 4) * 512 + r.val)
  omega

theorem final_20 (c : Dev nD) : (dats m 0 c).arrAt 20 (cfgs 0).N
    = ((fun i => Cert.Mix.kept (argsOf m c) 2304 (by decide) (i 1) (i 2) (i 3)) : FVec Ideal S1x8x512x2048 .f32) := by
  refine (dats m 0 c).arrAt_eq_of_covers 20 _ (by decide +kernel) fun t hf y => ?_
  blk_simp; rw [after0_20]
  have h4 : 4 ≤ t.val % 8 := (by decide +kernel : ∀ t : Fin cfg0.N, (cfg0.win 20).flush t = true → 4 ≤ t.val % 8) t hf
  obtain ⟨k, r, rfl⟩ : ∃ (k : Fin 512) (r : Fin 512), y = (ix4 0 0 k r : S1x1x512x512.Idx) :=
    ⟨y 2, y 3, by
      funext a
      fin_cases a
      · exact Subsingleton.elim (α := Fin 1) _ _
      · exact Subsingleton.elim (α := Fin 1) _ _
      · rfl
      · rfl
    ⟩
  refine (keptv_pt m c t h4 k r).trans ?_
  have hi : win0_20.index t = ![0, t.val / 8, 0, t.val % 8 - 4] := by
    simp only [idxKept t h4]
  have e1 : (win0_20.blk t).view.emb (ix4 0 0 k r : S1x1x512x512.Idx) 1 = grp t := Fin.ext (by
    show win0_20.index t 1 * 1 + 1 * 0 = t.val / 8
    rw [hi]; show t.val / 8 * 1 + 1 * 0 = t.val / 8; omega)
  have e2 : (win0_20.blk t).view.emb (ix4 0 0 k r : S1x1x512x512.Idx) 2 = k := Fin.ext (by
    show win0_20.index t 2 * 512 + 1 * k.val = k.val
    rw [hi]; show 0 * 512 + 1 * k.val = k.val; omega)
  have e3 : (win0_20.blk t).view.emb (ix4 0 0 k r : S1x1x512x512.Idx) 3 = (⟨(t.val % 8 - 4) * 512 + r.val, by have := r.isLt; have : t.val % 8 < 8 := Nat.mod_lt _ (by decide); omega⟩ : Fin 2048) := Fin.ext (by
    show win0_20.index t 3 * 512 + 1 * r.val = (t.val % 8 - 4) * 512 + r.val
    rw [hi]; show (t.val % 8 - 4) * 512 + 1 * r.val = (t.val % 8 - 4) * 512 + r.val; omega)
  rw [e1, e2, e3]
  unfold Cert.Mix.kept
  refine congrArg (fun q => Cert.Mix.zz _ _ q _) (Fin.ext ?_)
  show t.val % 8 * 512 + r.val = 2048 + ((t.val % 8 - 4) * 512 + r.val)
  omega

end Cert.Kernel3Ideal.Hand

end
-- ==== Proof.StepSpec.lean ====
module

public import proofs.«01_k».proof.Proof.Gen.Reference4Ideal.Run
public import proofs.«01_k».proof.Proof.FfnSpec

/-! The decoding step's output projection and gated feed-forward block, row by row: every intermediate array of the
    reference as a function of a sequence `b`, a position `t` and a column, over the argument arrays, and the
    reference's composed terms read as these functions. A time-major array has sequence `b`'s position `t` in row
    `32 t + b`. -/

@[expose] public section

set_option maxRecDepth 16384

noncomputable section

open Idealize.ShloMosaic Idealize.ShloMosaic.TcCoe Idealize.SL.Sem
open scoped BigOperators

namespace Cert.Step

open Cert.Reference4Ideal
open Cert.Ffn (eps r512 r1024)

/-- The argument arrays of the call. -/
structure Args where
  mix : FVec Ideal S1x128x512 .bf16
  att : FVec Ideal S32x8x4x64 .f32
  x : FVec Ideal S32x4x1024 .f32
  mod : FVec Ideal S32x6144 .f32
  st : FVec Ideal S32x2x2816 .f32
  gc : FVec Ideal S512 .f32
  wo : FVec Ideal S1024x1024 .f32
  gm : FVec Ideal S1024 .f32
  gf : FVec Ideal S1024 .f32
  wg : FVec Ideal S1024x2816 .f32
  wu : FVec Ideal S1024x2816 .f32
  cw : FVec Ideal S3x2816 .f32
  wd : FVec Ideal S2816x1024 .f32
  go : FVec Ideal S1024 .f32

/-- The sequence of a time-major row. -/
def sq {n : ℕ} (r : Fin n) : Fin 32 := ⟨r.val % 32, Nat.mod_lt _ (by decide)⟩
/-- The position of a time-major row. -/
def ps (r : Fin 128) : Fin 4 := ⟨r.val / 32, by have := r.isLt; omega⟩
/-- The row of a sequence's position. -/
def tm (b : Fin 32) (t : Fin 4) : Fin 128 := ⟨t.val * 32 + b.val, by have := t.isLt; have := b.isLt; omega⟩

theorem sq_tm (b : Fin 32) (t : Fin 4) : sq (tm b t) = b := Fin.ext (by
  have := b.isLt; show (t.val * 32 + b.val) % 32 = b.val; omega)
theorem ps_tm (b : Fin 32) (t : Fin 4) : ps (tm b t) = t := Fin.ext (by
  have := b.isLt; show (t.val * 32 + b.val) / 32 = t.val; omega)
theorem tm_row (r : Fin 128) : tm (sq r) (ps r) = r := Fin.ext (by
  show r.val / 32 * 32 + r.val % 32 = r.val; omega)

variable (A : Args)

/-- A block of the modulation row: the columns from `o` on. -/
def md (o : ℕ) (h : o + 1024 ≤ 6144) (b : Fin 32) (j : Fin 1024) : EReal :=
  A.mod (ix2 b ⟨o + j.val, by have := j.isLt; omega⟩)

/-- The attention's row: its eight heads side by side. -/
def at_ (b : Fin 32) (t : Fin 4) (k : Fin 512) : EReal :=
  A.att (ix4 b ⟨k.val / 64, by have := k.isLt; omega⟩ t ⟨k.val % 64, Nat.mod_lt _ (by decide)⟩)
/-- The normalised attention row. -/
def oc (b : Fin 32) (t : Fin 4) (k : Fin 512) : EReal :=
  at_ A b t k * r512 (at_ A b t) * A.gc (ix1 k)
/-- The output projection. -/
def pr (b : Fin 32) (t : Fin 4) (j : Fin 1024) : EReal :=
  (∑ k : Fin 512, A.mix (ix3 0 (tm b t) k) * A.wo (ix2 ⟨k.val, by have := k.isLt; omega⟩ j))
    + ∑ k : Fin 512, oc A b t k * A.wo (ix2 ⟨512 + k.val, by have := k.isLt; omega⟩ j)
/-- The residual stream after the mixing block. -/
def x1 (b : Fin 32) (t : Fin 4) (j : Fin 1024) : EReal :=
  A.x (ix3 b t j) + md A 2048 (by decide) b j * (pr A b t j * r1024 (pr A b t) * A.gm (ix1 j))
/-- The modulated, normalised input of the feed-forward block. -/
def hh (b : Fin 32) (t : Fin 4) (k : Fin 1024) : EReal :=
  x1 A b t k * r1024 (x1 A b t) * A.gf (ix1 k) * (1 + md A 4096 (by decide) b k) + md A 3072 (by decide) b k
/-- The gate projection. -/
def hg (b : Fin 32) (t : Fin 4) (j : Fin 2816) : EReal := ∑ k : Fin 1024, hh A b t k * A.wg (ix2 k j)
/-- The up projection. -/
def hu (b : Fin 32) (t : Fin 4) (j : Fin 2816) : EReal := ∑ k : Fin 1024, hh A b t k * A.wu (ix2 k j)
/-- The gate projection behind the two stored rows. -/
def xp (b : Fin 32) (s : Fin 6) (j : Fin 2816) : EReal :=
  if h : s.val < 2 then A.st (ix3 b ⟨s.val, h⟩ j) else hg A b ⟨s.val - 2, by have := s.isLt; omega⟩ j
/-- Row `o + t` of the padded gate projection. -/
def tap (o : ℕ) (h : o ≤ 2) (b : Fin 32) (t : Fin 4) (j : Fin 2816) : EReal :=
  xp A b ⟨o + t.val, by have := t.isLt; omega⟩ j
/-- The three-tap convolution along the rows. -/
def cv (b : Fin 32) (t : Fin 4) (j : Fin 2816) : EReal :=
  tap A 0 (by decide) b t j * A.cw (ix2 0 j) + tap A 1 (by decide) b t j * A.cw (ix2 1 j)
    + tap A 2 (by decide) b t j * A.cw (ix2 2 j)
/-- The gated row. -/
def ff (b : Fin 32) (t : Fin 4) (j : Fin 2816) : EReal :=
  cv A b t j * Ideal.div 1 (1 + Ideal.exp (- cv A b t j)) * hu A b t j
/-- The down projection. -/
def dn (b : Fin 32) (t : Fin 4) (j : Fin 1024) : EReal := ∑ k : Fin 2816, ff A b t k * A.wd (ix2 k j)
/-- The first result. -/
def yy (b : Fin 32) (t : Fin 4) (j : Fin 1024) : EReal :=
  x1 A b t j + md A 5120 (by decide) b j * (dn A b t j * r1024 (dn A b t) * A.go (ix1 j))
/-- The second result: the padded projection's last two rows of every sequence, time-major. -/
def nf (s : Fin 64) (j : Fin 2816) : EReal :=
  xp A (sq s) ⟨4 + s.val / 32, by have := s.isLt; omega⟩ j

open Cert.Reference4Ideal.Gen Cert.Reference4Ideal.Value

/-- The argument arrays a valuation holds. -/
def argsOf (V0 : Valuation τ sig (Elt Ideal)) : Args where
  mix := V0 (Proc.devRef .tc main_arg0)
  att := V0 (Proc.devRef .tc main_arg1)
  x := V0 (Proc.devRef .tc main_arg2)
  mod := V0 (Proc.devRef .tc main_arg3)
  st := V0 (Proc.devRef .tc main_arg4)
  gc := V0 (Proc.devRef .tc main_arg5)
  wo := V0 (Proc.devRef .tc main_arg6)
  gm := V0 (Proc.devRef .tc main_arg7)
  gf := V0 (Proc.devRef .tc main_arg8)
  wg := V0 (Proc.devRef .tc main_arg9)
  wu := V0 (Proc.devRef .tc main_arg10)
  cw := V0 (Proc.devRef .tc main_arg11)
  wd := V0 (Proc.devRef .tc main_arg12)
  go := V0 (Proc.devRef .tc main_arg13)

variable (V0 : Valuation τ sig (Elt Ideal))

theorem ref_at (b : Fin 32) (t : Fin 4) (k : Fin 512) :
    (res_main_v3 V0 : FVec Ideal S32x4x512 .f32) (ix3 b t k) = at_ (argsOf V0) b t k := by
  pointwise [res_main_v3]
  rfl

theorem ref_pr (b : Fin 32) (t : Fin 4) (j : Fin 1024) :
    (res_main_v31 V0 : FVec Ideal S32x4x1024 .f32) (ix3 b t j) = pr (argsOf V0) b t j := by
  pointwise [res_main_v31, ref_at]
  rfl

theorem ref_x1 (b : Fin 32) (t : Fin 4) (j : Fin 1024) :
    (res_main_v47 V0 : FVec Ideal S32x4x1024 .f32) (ix3 b t j) = x1 (argsOf V0) b t j := by
  pointwise [res_main_v47, ref_pr]
  rfl

theorem ref_hh (b : Fin 32) (t : Fin 4) (j : Fin 1024) :
    (res_main_v66 V0 : FVec Ideal S32x4x1024 .f32) (ix3 b t j) = hh (argsOf V0) b t j := by
  pointwise [res_main_v66, ref_x1]
  rfl

theorem ref_xp (b : Fin 32) (s : Fin 6) (j : Fin 2816) :
    (res_main_v68 V0 : FVec Ideal S32x6x2816 .f32) (ix3 b s j) = xp (argsOf V0) b s j := by
  pointwise [res_main_v68, ref_hh]
  unfold xp
  have ht := s.isLt
  by_cases h : s.val < 2
  · rw [dif_pos h, dif_pos h]
    rfl
  · rw [dif_neg h, dif_neg h]
    rfl

theorem ref_cv (b : Fin 32) (t : Fin 4) (j : Fin 2816) :
    (res_main_v88 V0 : FVec Ideal S32x4x2816 .f32) (ix3 b t j) = cv (argsOf V0) b t j := by
  pointwise [res_main_v88, ref_xp]
  unfold cv tap
  simp only [Nat.zero_add]
  rfl

theorem ref_dn (b : Fin 32) (t : Fin 4) (j : Fin 1024) :
    (res_main_v92 V0 : FVec Ideal S32x4x1024 .f32) (ix3 b t j) = dn (argsOf V0) b t j := by
  pointwise [res_main_v92, ref_cv, ref_hh]
  rfl

/-- The reference's first result, from the run's composed term. -/
theorem ref_yy (r : Fin 128) (j : Fin 1024) :
    (shapeCast S1x128x1024 (transpose S4x32x1024 [1, 0, 2] (addf (res_main_v47 V0 : FVec Ideal S32x4x1024 .f32) (mulf (broadcastInDim S32x4x1024 ![0, 1, 2] bcast_S32x1x1024_S32x4x1024_0_1_2 (broadcastInDim S32x1x1024 ![0, 2] bcast_S32x1024_S32x1x1024_0_2 (extractStridedSlice S32x1024 ![0, 5120] (V0 (Proc.devRef .tc main_arg3)) slices_S32x6144_S32x1024_0_5120))) (mulf (mulf (res_main_v92 V0) (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf (res_main_v92 V0) (res_main_v92 V0)) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 (V0 (Proc.devRef .tc main_arg13))))))) transposes_S32x4x1024_S4x32x1024_1_0_2) shapeCasts_S4x32x1024_S1x128x1024 : FVec Ideal S1x128x1024 .f32) (ix3 0 r j)
      = yy (argsOf V0) (sq r) (ps r) j := by
  pointwise [ref_dn, ref_x1]
  rfl

/-- The reference's second result, from the run's composed term. -/
theorem ref_nf (s : Fin 64) (j : Fin 2816) :
    (shapeCast S1x64x2816 (transpose S2x32x2816 [1, 0, 2] (extractStridedSlice S32x2x2816 ![0, 4, 0] (res_main_v68 V0 : FVec Ideal S32x6x2816 .f32) slices_S32x6x2816_S32x2x2816_0_4_0) transposes_S32x2x2816_S2x32x2816_1_0_2) shapeCasts_S2x32x2816_S1x64x2816 : FVec Ideal S1x64x2816 .f32) (ix3 0 s j)
      = nf (argsOf V0) s j := by
  pointwise [ref_xp]
  rfl

end Cert.Step

end
-- ==== Proof.StepRows.lean ====
module

public import proofs.«01_k».proof.Proof.Gen.Kernel4Ideal.Value
public import proofs.«01_k».proof.Proof.StepSpec
public import Idealize.ShloMosaic.Lib.Pipeline.ValueKit

/-! The decoding step's output projection and feed-forward block: each of the values the body computes is the
    specification's intermediate array at the row's sequence and position. Stated over any vectors that hold the rows
    of the argument arrays. -/

@[expose] public section

set_option maxRecDepth 16384

noncomputable section

open Idealize.ShloMosaic Idealize.ShloMosaic.TcCoe Idealize.SL.Sem
open scoped BigOperators

namespace Cert.Kernel4Ideal.Hand

open Cert.Kernel4Ideal Cert.Kernel4Ideal.Gen
open Cert.Step (Args sq ps tm)

/-- The loaded vectors hold the time-major rows of the argument arrays. -/
structure Loads (A : Args)
    (v3 v5 v7 v9 : Vec Ideal S1x1x128x128 .f32) (v12 : Vec Ideal S1x512 .f32) (v27 : Vec Ideal S1x128x512 .bf16)
    (v29 v32 : Vec Ideal S512x1024 .bf16) (v36 : Vec Ideal S1x128x1024 .f32) (v38 : Vec Ideal S1x1x128x1024 .f32)
    (v40 v56 : Vec Ideal S1x1024 .f32) (v70 v75 : Vec Ideal S1x1x128x1024 .f32) (v79 : Vec Ideal S1024x2816 .bf16) : Prop where
  a0 : ∀ (r k : Fin 128), v3 (ix4 0 0 r k) = Cert.Step.at_ A (sq r) (ps r) ⟨k.val, by have := k.isLt; omega⟩
  a1 : ∀ (r k : Fin 128), v5 (ix4 0 0 r k) = Cert.Step.at_ A (sq r) (ps r) ⟨128 + k.val, by have := k.isLt; omega⟩
  a2 : ∀ (r k : Fin 128), v7 (ix4 0 0 r k) = Cert.Step.at_ A (sq r) (ps r) ⟨256 + k.val, by have := k.isLt; omega⟩
  a3 : ∀ (r k : Fin 128), v9 (ix4 0 0 r k) = Cert.Step.at_ A (sq r) (ps r) ⟨384 + k.val, by have := k.isLt; omega⟩
  gc : ∀ k : Fin 512, v12 (ix2 0 k) = A.gc (ix1 k)
  mix : ∀ (r : Fin 128) (k : Fin 512), v27 (ix3 0 r k) = A.mix (ix3 0 (tm (sq r) (ps r)) k)
  wo0 : ∀ (k : Fin 512) (j : Fin 1024), v29 (ix2 k j) = A.wo (ix2 ⟨k.val, by have := k.isLt; omega⟩ j)
  wo1 : ∀ (k : Fin 512) (j : Fin 1024), v32 (ix2 k j) = A.wo (ix2 ⟨512 + k.val, by have := k.isLt; omega⟩ j)
  x : ∀ (r : Fin 128) (j : Fin 1024), v36 (ix3 0 r j) = A.x (ix3 (sq r) (ps r) j)
  m2 : ∀ (r : Fin 128) (j : Fin 1024), v38 (ix4 0 0 r j) = Cert.Step.md A 2048 (by decide) (sq r) j
  gm : ∀ j : Fin 1024, v40 (ix2 0 j) = A.gm (ix1 j)
  gf : ∀ j : Fin 1024, v56 (ix2 0 j) = A.gf (ix1 j)
  m4 : ∀ (r : Fin 128) (j : Fin 1024), v70 (ix4 0 0 r j) = Cert.Step.md A 4096 (by decide) (sq r) j
  m3 : ∀ (r : Fin 128) (j : Fin 1024), v75 (ix4 0 0 r j) = Cert.Step.md A 3072 (by decide) (sq r) j
  wg : ∀ (k : Fin 1024) (j : Fin 2816), v79 (ix2 k j) = A.wg (ix2 k j)

section

variable {A : Args}
    {v3 v5 v7 v9 : Vec Ideal S1x1x128x128 .f32} {v12 : Vec Ideal S1x512 .f32} {v27 : Vec Ideal S1x128x512 .bf16}
    {v29 v32 : Vec Ideal S512x1024 .bf16} {v36 : Vec Ideal S1x128x1024 .f32} {v38 : Vec Ideal S1x1x128x1024 .f32}
    {v40 v56 : Vec Ideal S1x1024 .f32} {v70 v75 : Vec Ideal S1x1x128x1024 .f32} {v79 : Vec Ideal S1024x2816 .bf16}
    (L : Loads A v3 v5 v7 v9 v12 v27 v29 v32 v36 v38 v40 v56 v70 v75 v79)

include L

/-- The four heads' blocks side by side are the attention row. -/
theorem cat_at (r : Fin 128) (k : Fin 512) :
    (concatenate S128x512 1 [⟨S128x128, (shapeCast S128x128 v3 shapeCasts_S1x1x128x128_S128x128 : FVec Ideal S128x128 .f32)⟩,
        ⟨S128x128, shapeCast S128x128 v5 shapeCasts_S1x1x128x128_S128x128⟩, ⟨S128x128, shapeCast S128x128 v7 shapeCasts_S1x1x128x128_S128x128⟩,
        ⟨S128x128, shapeCast S128x128 v9 shapeCasts_S1x1x128x128_S128x128⟩]
        concatenates_S128x128_S128x128_S128x128_S128x128_S128x512_d1 : FVec Ideal S128x512 .f32) (ix2 r k)
      = Cert.Step.at_ A (sq r) (ps r) k := by
  pointwise [L.a0, L.a1, L.a2, L.a3]
  have hk := k.isLt
  split
  · rfl
  · split
    · exact congrArg (Cert.Step.at_ A (sq r) (ps r)) (Fin.ext (by show 128 + (k.val - 128) = k.val; omega))
    · split
      · exact congrArg (Cert.Step.at_ A (sq r) (ps r)) (Fin.ext (by show 256 + (k.val - 128 - 128) = k.val; omega))
      · exact congrArg (Cert.Step.at_ A (sq r) (ps r)) (Fin.ext (by show 384 + (k.val - 128 - 128 - 128) = k.val; omega))

theorem oc_at (r : Fin 128) (k : Fin 512) : k0_pay3 v3 v5 v7 v9 v12 (ix2 r k) = Cert.Step.oc A (sq r) (ps r) k := by
  unfold k0_pay3
  generalize hv : (concatenate S128x512 1 _ _ : FVec Ideal S128x512 .f32) = v11
  have h : ∀ (r : Fin 128) (k : Fin 512), v11 (ix2 r k) = Cert.Step.at_ A (sq r) (ps r) k := fun r k => by
    rw [← hv]; exact cat_at L r k
  pointwise [h, L.gc]
  rfl

theorem x1_at (r : Fin 128) (j : Fin 1024) :
    (k0_pay5 (k0_pay3 v3 v5 v7 v9 v12) (k0_pay4 v27) v29 v32 v36 v38 v40) (ix2 r j) = Cert.Step.x1 A (sq r) (ps r) j := by
  have h := oc_at L
  generalize k0_pay3 v3 v5 v7 v9 v12 = v26 at h ⊢
  pointwise [k0_pay5, k0_pay4, h, L.mix, L.wo0, L.wo1, L.x, L.m2, L.gm]
  rfl

theorem hh_at (r : Fin 128) (j : Fin 1024) :
    (k0_pay8 (k0_pay6 v56) (k0_pay7 (k0_pay3 v3 v5 v7 v9 v12) (k0_pay4 v27) v29 v32 v36 v38 v40) v70 v75) (ix2 r j) = Cert.Step.hh A (sq r) (ps r) j := by
  have h := x1_at L
  unfold k0_pay7
  generalize (k0_pay5 (k0_pay3 v3 v5 v7 v9 v12) (k0_pay4 v27) v29 v32 v36 v38 v40) = v55 at h ⊢
  pointwise [k0_pay8, k0_pay6, h, L.gf, L.m4, L.m3]
  rfl

theorem hg_at (r : Fin 128) (j : Fin 2816) :
    k0_pay9 (k0_pay6 v56) (k0_pay7 (k0_pay3 v3 v5 v7 v9 v12) (k0_pay4 v27) v29 v32 v36 v38 v40) v70 v75 v79 (ix2 r j) = Cert.Step.hg A (sq r) (ps r) j := by
  have h := hh_at L
  unfold k0_pay9
  generalize (k0_pay8 (k0_pay6 v56) (k0_pay7 (k0_pay3 v3 v5 v7 v9 v12) (k0_pay4 v27) v29 v32 v36 v38 v40) v70 v75) = v78 at h ⊢
  pointwise [h, L.wg]
  rfl

/-- What the body stores to the first result's block. -/
theorem y_at {v85 v89 v94 : Vec Ideal S128x2816 .f32} {v86 v90 v95 : Vec Ideal S1x2816 .f32} {v107 : Vec Ideal S1024x2816 .bf16}
    {v112 : Vec Ideal S2816x1024 .bf16} {v115 : Vec Ideal S1x1x128x1024 .f32} {v117 : Vec Ideal S1x1024 .f32}
    (h0 : ∀ (r : Fin 128) (j : Fin 2816), v85 (ix2 r j) = Cert.Step.tap A 0 (by decide) (sq r) (ps r) j)
    (h1 : ∀ (r : Fin 128) (j : Fin 2816), v89 (ix2 r j) = Cert.Step.tap A 1 (by decide) (sq r) (ps r) j)
    (h2 : ∀ (r : Fin 128) (j : Fin 2816), v94 (ix2 r j) = Cert.Step.tap A 2 (by decide) (sq r) (ps r) j)
    (c0 : ∀ j : Fin 2816, v86 (ix2 0 j) = A.cw (ix2 0 j)) (c1 : ∀ j : Fin 2816, v90 (ix2 0 j) = A.cw (ix2 1 j))
    (c2 : ∀ j : Fin 2816, v95 (ix2 0 j) = A.cw (ix2 2 j))
    (wu : ∀ (k : Fin 1024) (j : Fin 2816), v107 (ix2 k j) = A.wu (ix2 k j))
    (wd : ∀ (k : Fin 2816) (j : Fin 1024), v112 (ix2 k j) = A.wd (ix2 k j))
    (m5 : ∀ (r : Fin 128) (j : Fin 1024), v115 (ix4 0 0 r j) = Cert.Step.md A 5120 (by decide) (sq r) j)
    (go : ∀ j : Fin 1024, v117 (ix2 0 j) = A.go (ix1 j)) (r : Fin 128) (j : Fin 1024) :
    k0_pay12 (k0_pay5 (k0_pay3 v3 v5 v7 v9 v12) (k0_pay4 v27) v29 v32 v36 v38 v40)
      (k0_pay8 (k0_pay6 v56) (k0_pay7 (k0_pay3 v3 v5 v7 v9 v12) (k0_pay4 v27) v29 v32 v36 v38 v40) v70 v75)
      (k0_pay10 v85 v86 v89 v90 v94 v95) k0_pay11 v107 v112 v115 v117 (ix3 0 r j) = Cert.Step.yy A (sq r) (ps r) j := by
  have h := hh_at L
  have hx := x1_at L
  generalize (k0_pay8 (k0_pay6 v56) (k0_pay7 (k0_pay3 v3 v5 v7 v9 v12) (k0_pay4 v27) v29 v32 v36 v38 v40) v70 v75) = v78 at h ⊢
  generalize (k0_pay5 (k0_pay3 v3 v5 v7 v9 v12) (k0_pay4 v27) v29 v32 v36 v38 v40) = v55 at hx ⊢
  pointwise [k0_pay12, k0_pay10, k0_pay11, h, hx, h0, h1, h2, c0, c1, c2, wu, wd, m5, go]
  simp only [zero_sub]
  rfl

end

end Cert.Kernel4Ideal.Hand

end
-- ==== Proof.StepBlocks.lean ====
module

public import proofs.«01_k».proof.Proof.StepRows

/-! The blocks of the kernel's windows at the grid's one point, as rows of the argument arrays. -/

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Hand

open Cert.Kernel4Ideal Cert.Kernel4Ideal.Gen
open Cert.Step (Args sq ps tm)

variable (m : (ℓ : Loc nD τ sig) → Buf (Elt Ideal) ℓ)

/-- The argument arrays in memory. -/
def argsOf (c : Dev nD) : Args where
  mix := m ((c : Thread nD τ).loc main_arg0)
  att := m ((c : Thread nD τ).loc main_arg1)
  x := m ((c : Thread nD τ).loc main_arg2)
  mod := m ((c : Thread nD τ).loc main_arg3)
  st := m ((c : Thread nD τ).loc main_arg4)
  gc := m ((c : Thread nD τ).loc main_arg5)
  wo := m ((c : Thread nD τ).loc main_arg6)
  gm := m ((c : Thread nD τ).loc main_arg7)
  gf := m ((c : Thread nD τ).loc main_arg8)
  wg := m ((c : Thread nD τ).loc main_arg9)
  wu := m ((c : Thread nD τ).loc main_arg10)
  cw := m ((c : Thread nD τ).loc main_arg11)
  wd := m ((c : Thread nD τ).loc main_arg12)
  go := m ((c : Thread nD τ).loc main_arg13)

/-- Every window's block index at the grid's one point. -/
theorem idx : ∀ t : Fin cfg0.N, win0_0.index t = ![0, 0, 0]
    ∧ win0_1.index t = ![0, 0, 0, 0]
    ∧ win0_2.index t = ![0, 0, 0]
    ∧ win0_3.index t = ![0, 0, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0, 0]
    ∧ win0_14.index t = ![0, 0, 0]
    ∧ win0_15.index t = ![0, 0, 0] :=
  (by decide +kernel : ∀ t : Fin grid0.N, _)

theorem v2_at (c : Dev nD) (g : Fin 4) (r k : Fin 128) :
    (V m c main_v2 : FVec Ideal S1x4x128x128 .f32) (ix4 0 g r k)
      = Cert.Step.at_ (argsOf m c) (sq r) (ps r) ⟨g.val * 128 + k.val, by have := k.isLt; have := g.isLt; omega⟩ := by
  show StableHlo.after [hostOps0, hostOps0_1].flatten _ _ _ = _
  simp only [hostOps0, hostOps0_1, List.flatten_cons, List.flatten_nil, List.append_nil, List.cons_append, List.nil_append]
  entry_read
  pointwise []
  exact congrArg₂ (fun h d => (argsOf m c).att (ix4 (sq r) h (ps r) d))
    (Fin.ext (by show g.val * 2 + k.val / 64 = (g.val * 128 + k.val) / 64; omega))
    (Fin.ext (by show k.val % 64 = (g.val * 128 + k.val) % 64; omega))

theorem v4_at (c : Dev nD) (r : Fin 128) (k : Fin 1024) :
    (V m c main_v4 : FVec Ideal S1x128x1024 .f32) (ix3 0 r k) = (argsOf m c).x (ix3 (sq r) (ps r) k) := by
  show StableHlo.after [hostOps0, hostOps0_1].flatten _ _ _ = _
  simp only [hostOps0, hostOps0_1, List.flatten_cons, List.flatten_nil, List.append_nil, List.cons_append, List.nil_append]
  entry_read
  pointwise []
  rfl

theorem v11_at (c : Dev nD) (g : Fin 6) (r : Fin 128) (k : Fin 1024) :
    (V m c main_v11 : FVec Ideal S1x6x128x1024 .f32) (ix4 0 g r k)
      = (argsOf m c).mod (ix2 (sq r) ⟨g.val * 1024 + k.val, by have := k.isLt; have := g.isLt; omega⟩) := by
  show StableHlo.after [hostOps0, hostOps0_1].flatten _ _ _ = _
  simp only [hostOps0, hostOps0_1, List.flatten_cons, List.flatten_nil, List.append_nil, List.cons_append, List.nil_append]
  entry_read
  pointwise []
  rfl

/-- Padding by nothing on every side. -/
theorem pad_none (x : FVec Ideal S1x64x2816 .f32) (v : FVec Ideal S_ .f32) (s : Fin 64) (j : Fin 2816) :
    (pad S1x64x2816 ![0, 0, 0] ![0, 0, 0] ![0, 0, 0] x v pads_S1x64x2816_S1x64x2816_000_000_000 h_S_ : FVec Ideal S1x64x2816 .f32) (ix3 0 s j)
      = x (ix3 0 s j) := by
  pointwise []

theorem v22_at (c : Dev nD) (s : Fin 64) (j : Fin 2816) :
    (V m c main_v22 : FVec Ideal S1x64x2816 .f32) (ix3 0 s j)
      = (argsOf m c).st (ix3 (sq s) ⟨s.val / 32, by have := s.isLt; omega⟩ j) := by
  show StableHlo.after [hostOps0, hostOps0_1].flatten _ _ _ = _
  simp only [hostOps0, hostOps0_1, List.flatten_cons, List.flatten_nil, List.append_nil, List.cons_append, List.nil_append]
  entry_read
  refine (pad_none _ _ s j).trans ?_
  show (shapeCast S1x64x2816 (transpose S2x32x2816 [1, 0, 2] (m (c, Proc.tc.devRef main_arg4) : FVec Ideal S32x2x2816 .f32)
    transposes_S32x2x2816_S2x32x2816_1_0_2) shapeCasts_S2x32x2816_S1x64x2816 : FVec Ideal S1x64x2816 .f32) (ix3 0 s j) = _
  pointwise []
  rfl

theorem v12_at (c : Dev nD) (k : Fin 512) :
    (V m c main_v12 : FVec Ideal S1x512 .f32) (ix2 0 k) = (argsOf m c).gc (ix1 k) := by
  show StableHlo.after [hostOps0, hostOps0_1].flatten _ _ _ = _
  simp only [hostOps0, hostOps0_1, List.flatten_cons, List.flatten_nil, List.append_nil, List.cons_append, List.nil_append]
  entry_read
  pointwise []
  rfl

theorem v14_at (c : Dev nD) (k : Fin 1024) :
    (V m c main_v14 : FVec Ideal S1x1024 .f32) (ix2 0 k) = (argsOf m c).gm (ix1 k) := by
  show StableHlo.after [hostOps0, hostOps0_1].flatten _ _ _ = _
  simp only [hostOps0, hostOps0_1, List.flatten_cons, List.flatten_nil, List.append_nil, List.cons_append, List.nil_append]
  entry_read
  pointwise []
  rfl

theorem v15_at (c : Dev nD) (k : Fin 1024) :
    (V m c main_v15 : FVec Ideal S1x1024 .f32) (ix2 0 k) = (argsOf m c).gf (ix1 k) := by
  show StableHlo.after [hostOps0, hostOps0_1].flatten _ _ _ = _
  simp only [hostOps0, hostOps0_1, List.flatten_cons, List.flatten_nil, List.append_nil, List.cons_append, List.nil_append]
  entry_read
  pointwise []
  rfl

theorem v19_at (c : Dev nD) (k : Fin 1024) :
    (V m c main_v19 : FVec Ideal S1x1024 .f32) (ix2 0 k) = (argsOf m c).go (ix1 k) := by
  show StableHlo.after [hostOps0, hostOps0_1].flatten _ _ _ = _
  simp only [hostOps0, hostOps0_1, List.flatten_cons, List.flatten_nil, List.append_nil, List.cons_append, List.nil_append]
  entry_read
  pointwise []
  rfl

theorem v13_at (c : Dev nD) (k : Fin 1024) (j : Fin 1024) :
    (V m c main_v13 : FVec Ideal S1024x1024 .bf16) (ix2 k j) = (argsOf m c).wo (ix2 k j) := by
  show StableHlo.after [hostOps0, hostOps0_1].flatten _ _ _ = _
  simp only [hostOps0, hostOps0_1, List.flatten_cons, List.flatten_nil, List.append_nil, List.cons_append, List.nil_append]
  entry_read
  pointwise []
  rfl

theorem v16_at (c : Dev nD) (k : Fin 1024) (j : Fin 2816) :
    (V m c main_v16 : FVec Ideal S1024x2816 .bf16) (ix2 k j) = (argsOf m c).wg (ix2 k j) := by
  show StableHlo.after [hostOps0, hostOps0_1].flatten _ _ _ = _
  simp only [hostOps0, hostOps0_1, List.flatten_cons, List.flatten_nil, List.append_nil, List.cons_append, List.nil_append]
  entry_read
  pointwise []
  rfl

theorem v17_at (c : Dev nD) (k : Fin 1024) (j : Fin 2816) :
    (V m c main_v17 : FVec Ideal S1024x2816 .bf16) (ix2 k j) = (argsOf m c).wu (ix2 k j) := by
  show StableHlo.after [hostOps0, hostOps0_1].flatten _ _ _ = _
  simp only [hostOps0, hostOps0_1, List.flatten_cons, List.flatten_nil, List.append_nil, List.cons_append, List.nil_append]
  entry_read
  pointwise []
  rfl

theorem v18_at (c : Dev nD) (k : Fin 2816) (j : Fin 1024) :
    (V m c main_v18 : FVec Ideal S2816x1024 .bf16) (ix2 k j) = (argsOf m c).wd (ix2 k j) := by
  show StableHlo.after [hostOps0, hostOps0_1].flatten _ _ _ = _
  simp only [hostOps0, hostOps0_1, List.flatten_cons, List.flatten_nil, List.append_nil, List.cons_append, List.nil_append]
  entry_read
  pointwise []
  rfl

theorem blk1 (c : Dev nD) (t : Fin cfg0.N) (g : Fin 4) (r k : Fin 128) :
    (iblk m c 1 t : FVec Ideal S1x4x128x128 .f32) (ix4 0 g r k)
      = Cert.Step.at_ (argsOf m c) (sq r) (ps r) ⟨g.val * 128 + k.val, by have := k.isLt; have := g.isLt; omega⟩ := by
  refine Eq.trans ?_ (v2_at m c g r k)
  unfold iblk
  blk_ext [idx t] <;> rfl

theorem blk2 (c : Dev nD) (t : Fin cfg0.N) (r : Fin 128) (k : Fin 1024) :
    (iblk m c 2 t : FVec Ideal S1x128x1024 .f32) (ix3 0 r k) = (argsOf m c).x (ix3 (sq r) (ps r) k) := by
  refine Eq.trans ?_ (v4_at m c r k)
  unfold iblk
  blk_ext [idx t] <;> rfl

theorem blk3 (c : Dev nD) (t : Fin cfg0.N) (g : Fin 6) (r : Fin 128) (k : Fin 1024) :
    (iblk m c 3 t : FVec Ideal S1x6x128x1024 .f32) (ix4 0 g r k)
      = (argsOf m c).mod (ix2 (sq r) ⟨g.val * 1024 + k.val, by have := k.isLt; have := g.isLt; omega⟩) := by
  refine Eq.trans ?_ (v11_at m c g r k)
  unfold iblk
  blk_ext [idx t] <;> rfl

theorem blk13 (c : Dev nD) (t : Fin cfg0.N) (s : Fin 64) (j : Fin 2816) :
    (iblk m c 13 t : FVec Ideal S1x64x2816 .f32) (ix3 0 s j)
      = (argsOf m c).st (ix3 (sq s) ⟨s.val / 32, by have := s.isLt; omega⟩ j) := by
  refine Eq.trans ?_ (v22_at m c s j)
  unfold iblk
  blk_ext [idx t] <;> rfl

theorem blk0 (c : Dev nD) (t : Fin cfg0.N) (r : Fin 128) (k : Fin 512) :
    (iblk m c 0 t : FVec Ideal S1x128x512 .bf16) (ix3 0 r k) = (argsOf m c).mix (ix3 0 r k) := by
  unfold argsOf
  blk_ext [iblk, V, idx t] <;> rfl

theorem blk10 (c : Dev nD) (t : Fin cfg0.N) (k : Fin 3) (j : Fin 2816) :
    (iblk m c 10 t : FVec Ideal S3x2816 .f32) (ix2 k j) = (argsOf m c).cw (ix2 k j) := by
  unfold argsOf
  blk_ext [iblk, V, idx t]

theorem blk4 (c : Dev nD) (t : Fin cfg0.N) (k : Fin 512) :
    (iblk m c 4 t : FVec Ideal S1x512 .f32) (ix2 0 k) = (argsOf m c).gc (ix1 k) := by
  refine Eq.trans ?_ (v12_at m c k)
  unfold iblk
  blk_ext [idx t]

theorem blk6 (c : Dev nD) (t : Fin cfg0.N) (k : Fin 1024) :
    (iblk m c 6 t : FVec Ideal S1x1024 .f32) (ix2 0 k) = (argsOf m c).gm (ix1 k) := by
  refine Eq.trans ?_ (v14_at m c k)
  unfold iblk
  blk_ext [idx t]

theorem blk7 (c : Dev nD) (t : Fin cfg0.N) (k : Fin 1024) :
    (iblk m c 7 t : FVec Ideal S1x1024 .f32) (ix2 0 k) = (argsOf m c).gf (ix1 k) := by
  refine Eq.trans ?_ (v15_at m c k)
  unfold iblk
  blk_ext [idx t]

theorem blk12 (c : Dev nD) (t : Fin cfg0.N) (k : Fin 1024) :
    (iblk m c 12 t : FVec Ideal S1x1024 .f32) (ix2 0 k) = (argsOf m c).go (ix1 k) := by
  refine Eq.trans ?_ (v19_at m c k)
  unfold iblk
  blk_ext [idx t]

theorem blk5 (c : Dev nD) (t : Fin cfg0.N) (k : Fin 1024) (j : Fin 1024) :
    (iblk m c 5 t : FVec Ideal S1024x1024 .bf16) (ix2 k j) = (argsOf m c).wo (ix2 k j) := by
  refine Eq.trans ?_ (v13_at m c k j)
  unfold iblk
  blk_ext [idx t]

theorem blk8 (c : Dev nD) (t : Fin cfg0.N) (k : Fin 1024) (j : Fin 2816) :
    (iblk m c 8 t : FVec Ideal S1024x2816 .bf16) (ix2 k j) = (argsOf m c).wg (ix2 k j) := by
  refine Eq.trans ?_ (v16_at m c k j)
  unfold iblk
  blk_ext [idx t]

theorem blk9 (c : Dev nD) (t : Fin cfg0.N) (k : Fin 1024) (j : Fin 2816) :
    (iblk m c 9 t : FVec Ideal S1024x2816 .bf16) (ix2 k j) = (argsOf m c).wu (ix2 k j) := by
  refine Eq.trans ?_ (v17_at m c k j)
  unfold iblk
  blk_ext [idx t]

theorem blk11 (c : Dev nD) (t : Fin cfg0.N) (k : Fin 2816) (j : Fin 1024) :
    (iblk m c 11 t : FVec Ideal S2816x1024 .bf16) (ix2 k j) = (argsOf m c).wd (ix2 k j) := by
  refine Eq.trans ?_ (v18_at m c k j)
  unfold iblk
  blk_ext [idx t]

/-- What the body loads are the time-major rows of the argument arrays. -/
theorem loads (c : Dev nD) (t : Fin cfg0.N) :
    Loads (argsOf m c)
      (View.ld (Val := Elt Ideal) (iblk m c 1 t) (Rect.unit ![0, 0, 0, 0] ![1, 1, 128, 128] inb_S1x4x128x128_S1x1x128x128_0_0_0_0))
      (View.ld (Val := Elt Ideal) (iblk m c 1 t) (Rect.unit ![0, 1, 0, 0] ![1, 1, 128, 128] inb_S1x4x128x128_S1x1x128x128_0_1_0_0))
      (View.ld (Val := Elt Ideal) (iblk m c 1 t) (Rect.unit ![0, 2, 0, 0] ![1, 1, 128, 128] inb_S1x4x128x128_S1x1x128x128_0_2_0_0))
      (View.ld (Val := Elt Ideal) (iblk m c 1 t) (Rect.unit ![0, 3, 0, 0] ![1, 1, 128, 128] inb_S1x4x128x128_S1x1x128x128_0_3_0_0))
      (iblk m c 4 t) (iblk m c 0 t)
      (View.ld (Val := Elt Ideal) (iblk m c 5 t) (Rect.unit ![0, 0] ![512, 1024] inb_S1024x1024_S512x1024_0_0))
      (View.ld (Val := Elt Ideal) (iblk m c 5 t) (Rect.unit ![512, 0] ![512, 1024] inb_S1024x1024_S512x1024_512_0))
      (iblk m c 2 t)
      (View.ld (Val := Elt Ideal) (iblk m c 3 t) (Rect.unit ![0, 2, 0, 0] ![1, 1, 128, 1024] inb_S1x6x128x1024_S1x1x128x1024_0_2_0_0))
      (iblk m c 6 t) (iblk m c 7 t)
      (View.ld (Val := Elt Ideal) (iblk m c 3 t) (Rect.unit ![0, 4, 0, 0] ![1, 1, 128, 1024] inb_S1x6x128x1024_S1x1x128x1024_0_4_0_0))
      (View.ld (Val := Elt Ideal) (iblk m c 3 t) (Rect.unit ![0, 3, 0, 0] ![1, 1, 128, 1024] inb_S1x6x128x1024_S1x1x128x1024_0_3_0_0))
      (iblk m c 8 t) where
  a0 := fun r k => by
    pointwise []
    exact (blk1 m c t 0 r k).trans (congrArg (Cert.Step.at_ (argsOf m c) (sq r) (ps r)) (Fin.ext (by simp)))
  a1 := fun r k => by
    pointwise []
    exact (blk1 m c t 1 r k).trans (congrArg (Cert.Step.at_ (argsOf m c) (sq r) (ps r)) (Fin.ext (by simp)))
  a2 := fun r k => by
    pointwise []
    exact (blk1 m c t 2 r k).trans (congrArg (Cert.Step.at_ (argsOf m c) (sq r) (ps r)) (Fin.ext (by simp)))
  a3 := fun r k => by
    pointwise []
    exact (blk1 m c t 3 r k).trans (congrArg (Cert.Step.at_ (argsOf m c) (sq r) (ps r)) (Fin.ext (by simp)))
  gc := blk4 m c t
  mix := fun r k => (blk0 m c t r k).trans (by rw [Cert.Step.tm_row])
  wo0 := fun r k => by
    pointwise []
    exact blk5 m c t _ k
  wo1 := fun r k => by
    pointwise []
    exact blk5 m c t _ k
  x := blk2 m c t
  m2 := fun r k => by
    pointwise []
    exact blk3 m c t 2 r k
  gm := blk6 m c t
  gf := blk7 m c t
  m4 := fun r k => by
    pointwise []
    exact blk3 m c t 4 r k
  m3 := fun r k => by
    pointwise []
    exact blk3 m c t 3 r k
  wg := blk8 m c t

end Cert.Kernel4Ideal.Hand

end
-- ==== Proof.StepValue.lean ====
module

public import proofs.«01_k».proof.Proof.StepBlocks
public import Idealize.ShloMosaic.Lib.WritesUnit
public import Idealize.ShloMosaic.Lib.Pipeline.ReadBack

/-! The value of the decoding step's output projection and feed-forward block: what the grid's one point leaves in its
    blocks, and the two result arrays. -/

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Hand

open Cert.Kernel4Ideal Cert.Kernel4Ideal.Gen
open Cert.Step (Args sq ps tm)

variable (m : (ℓ : Loc nD τ sig) → Buf (Elt Ideal) ℓ)

/-! ## The row buffer: the 64 stored rows, then the 128 rows of the gate projection -/

/-- The gate projection's rows in the row buffer. -/
abbrev RHi : Rect S192x2816 := Rect.unit ![64, 0] ![128, 2816] inb_S192x2816_S128x2816_64_0
/-- The stored rows in the row buffer. -/
abbrev RLo : Rect S192x2816 := Rect.unit ![0, 0] ![64, 2816] inb_S192x2816_S64x2816_0_0

theorem emb_hi (r : Fin 128) (j : Fin 2816) :
    RHi.emb (ix2 r j) = (ix2 ⟨64 + r.val, by have := r.isLt; omega⟩ j : S192x2816.Idx) := by
  funext a
  apply Fin.ext
  fin_cases a
  · show 64 + 1 * r.val = 64 + r.val; omega
  · show 0 + 1 * j.val = j.val; omega

theorem emb_lo (s : Fin 64) (j : Fin 2816) :
    RLo.emb (ix2 s j) = (ix2 ⟨s.val, by have := s.isLt; omega⟩ j : S192x2816.Idx) := by
  funext a
  apply Fin.ext
  fin_cases a
  · show 0 + 1 * s.val = s.val; omega
  · show 0 + 1 * j.val = j.val; omega

theorem lo_not_hi (s : Fin 64) (j : Fin 2816) : (ix2 ⟨s.val, by have := s.isLt; omega⟩ j : S192x2816.Idx) ∉ RHi.set := by
  rw [Rect.mem_set_unit]
  intro h
  have h0 := (h 0).1
  have : 64 ≤ s.val := h0
  have := s.isLt
  omega

/-- A buffer's contents after a last write at a rectangle, at an index of the rectangle. -/
theorem canon_at {s : Shape} {e : EltTy} (r : Rect s) (w : r.shape.Idx → Elt Ideal e) (L : List (View.Piece (Elt Ideal) s e))
    {x : r.shape.Idx} {y : s.Idx} (h : r.emb x = y) : View.canon (Val := Elt Ideal) (⟨r, w⟩ :: L) y = w x := by
  subst h
  exact View.canon_cons_emb r w L x

theorem canon_hi (w : RHi.shape.Idx → Elt Ideal .f32) (L : List (View.Piece (Elt Ideal) S192x2816 .f32)) (r : Fin 128) (j : Fin 2816) :
    View.canon (Val := Elt Ideal) (s := S192x2816) (e := .f32) (⟨RHi, w⟩ :: L) (ix2 ⟨64 + r.val, by have := r.isLt; omega⟩ j) = w (ix2 r j) := by
  have h := canon_at RHi w L (emb_hi r j)
  exact h

theorem canon_first (w : RLo.shape.Idx → Elt Ideal .f32) (L : List (View.Piece (Elt Ideal) S192x2816 .f32)) (s : Fin 64) (j : Fin 2816) :
    View.canon (Val := Elt Ideal) (s := S192x2816) (e := .f32) (⟨RLo, w⟩ :: L) (ix2 ⟨s.val, by have := s.isLt; omega⟩ j) = w (ix2 s j) := by
  have h := canon_at RLo w L (emb_lo s j)
  exact h

theorem canon_skip (w : FVec Ideal S128x2816 .f32) (L : List (View.Piece (Elt Ideal) S192x2816 .f32)) (s : Fin 64) (j : Fin 2816) :
    View.canon (Val := Elt Ideal) (s := S192x2816) (e := .f32) (⟨RHi, w⟩ :: L) (ix2 ⟨s.val, by have := s.isLt; omega⟩ j)
      = View.canon (Val := Elt Ideal) (s := S192x2816) (e := .f32) L (ix2 ⟨s.val, by have := s.isLt; omega⟩ j) :=
  View.canon_cons_of_not_mem _ L (lo_not_hi s j)

theorem canon_lo (w : FVec Ideal S128x2816 .f32) (w' : RLo.shape.Idx → Elt Ideal .f32) (s : Fin 64) (j : Fin 2816) :
    View.canon (Val := Elt Ideal) (s := S192x2816) (e := .f32) [⟨RHi, w⟩, ⟨RLo, w'⟩] (ix2 ⟨s.val, by have := s.isLt; omega⟩ j) = w' (ix2 s j) :=
  (canon_skip w _ s j).trans (canon_first w' [] s j)

/-- A row buffer with the stored rows above the gate projection holds the padded projection, time-major. -/
theorem rows {A : Args} {w : RHi.shape.Idx → Elt Ideal .f32} {w' : RLo.shape.Idx → Elt Ideal .f32}
    (hi : ∀ (r : Fin 128) (j : Fin 2816), w (ix2 r j) = Cert.Step.hg A (sq r) (ps r) j)
    (lo : ∀ (s : Fin 64) (j : Fin 2816), w' (ix2 s j) = A.st (ix3 (sq s) ⟨s.val / 32, by have := s.isLt; omega⟩ j))
    (s : Fin 192) (j : Fin 2816) :
    View.canon (Val := Elt Ideal) (s := S192x2816) (e := .f32) [⟨RHi, w⟩, ⟨RLo, w'⟩] (ix2 s j)
      = Cert.Step.xp A (sq s) ⟨s.val / 32, by have := s.isLt; omega⟩ j := by
  have hs := s.isLt
  unfold Cert.Step.xp
  by_cases h : s.val < 64
  · refine (canon_lo w w' ⟨s.val, h⟩ j).trans ((lo ⟨s.val, h⟩ j).trans ?_)
    rw [dif_pos (by show s.val / 32 < 2; omega)]
    rfl
  · refine Eq.trans (congrArg (fun q => View.canon (Val := Elt Ideal) (s := S192x2816) (e := .f32) [⟨RHi, w⟩, ⟨RLo, w'⟩] (ix2 q j))
      (Fin.ext (by show s.val = 64 + (s.val - 64); omega))) ((canon_hi w [⟨RLo, w'⟩] ⟨s.val - 64, by omega⟩ j).trans ((hi ⟨s.val - 64, by omega⟩ j).trans ?_))
    rw [dif_neg (by show ¬ s.val / 32 < 2; omega)]
    exact congrArg₂ (fun b t => Cert.Step.hg A b t j) (Fin.ext (by show (s.val - 64) % 32 = s.val % 32; omega))
      (Fin.ext (by show (s.val - 64) / 32 = s.val / 32 - 2; omega))

/-- The rows from `32 o` on are the convolution's tap `o`. -/
theorem tap_rows (A : Args) (o : ℕ) (h : o ≤ 2) (r : Fin 128) (q : Fin 192) (hq : q.val = 32 * o + r.val) (j : Fin 2816) :
    Cert.Step.xp A (sq q) ⟨q.val / 32, by have := q.isLt; omega⟩ j = Cert.Step.tap A o h (sq r) (ps r) j := by
  unfold Cert.Step.tap
  exact congrArg₂ (fun b t => Cert.Step.xp A b t j) (Fin.ext (by show q.val % 32 = r.val % 32; omega))
    (Fin.ext (by show q.val / 32 = o + r.val / 32; omega))

/-! ## What the grid's point leaves -/

theorem st_at (c : Dev nD) (t : Fin cfg0.N) (s : Fin 64) (j : Fin 2816) :
    (k0_pay2 (iblk m c 13 t) : FVec Ideal S64x2816 .f32) (ix2 s j)
      = (argsOf m c).st (ix3 (sq s) ⟨s.val / 32, by have := s.isLt; omega⟩ j) := by
  unfold k0_pay2
  pointwise []
  exact blk13 m c t s j

/-- The second result's block: the last 64 rows of the padded gate projection. -/
theorem nf_at (c : Dev nD) (t : Fin cfg0.N) (s : Fin 64) (j : Fin 2816) :
    ((outsAt0 m c t).2 : FVec Ideal S1x64x2816 .f32) (ix3 0 s j) = Cert.Step.nf (argsOf m c) s j := by
  unfold outsAt0
  frame_out
  rw [View.readCov_eq_canon']
  unfold k0_pay1
  pointwise []
  refine (rows (hg_at (loads m c t)) (st_at m c t) ⟨128 + s.val, by have := s.isLt; omega⟩ j).trans ?_
  unfold Cert.Step.nf
  exact congrArg₂ (fun b q => Cert.Step.xp (argsOf m c) b q j) (Fin.ext (by show (128 + s.val) % 32 = s.val % 32; omega))
    (Fin.ext (by show (128 + s.val) / 32 = 4 + s.val / 32; omega))

/-- The first result's block. -/
theorem y_pt (c : Dev nD) (t : Fin cfg0.N) (r : Fin 128) (j : Fin 1024) :
    ((outsAt0 m c t).1 : FVec Ideal S1x128x1024 .f32) (ix3 0 r j) = Cert.Step.yy (argsOf m c) (sq r) (ps r) j := by
  unfold outsAt0
  frame_out
  simp only [View.readCov_eq_canon']
  refine y_at (loads m c t) ?_ ?_ ?_ ?_ ?_ ?_ ?_ ?_ ?_ ?_ r j
  · intro r j
    pointwise []
    exact (rows (hg_at (loads m c t)) (st_at m c t) ⟨r.val, by have := r.isLt; omega⟩ j).trans
      (tap_rows _ 0 (by decide) r _ (by show r.val = 32 * 0 + r.val; omega) j)
  · intro r j
    pointwise []
    exact (rows (hg_at (loads m c t)) (st_at m c t) ⟨32 + r.val, by have := r.isLt; omega⟩ j).trans
      (tap_rows _ 1 (by decide) r _ (by show 32 + r.val = 32 * 1 + r.val; omega) j)
  · intro r j
    pointwise []
    exact (rows (hg_at (loads m c t)) (st_at m c t) ⟨64 + r.val, by have := r.isLt; omega⟩ j).trans
      (tap_rows _ 2 (by decide) r _ (by show 64 + r.val = 32 * 2 + r.val; omega) j)
  · intro j
    pointwise []
    exact blk10 m c t 0 j
  · intro j
    pointwise []
    exact blk10 m c t 1 j
  · intro j
    pointwise []
    exact blk10 m c t 2 j
  · exact blk9 m c t
  · exact blk11 m c t
  · intro r j
    pointwise []
    exact blk3 m c t 5 r j
  · exact blk12 m c t

/-! ## The result arrays -/

theorem final_14 (c : Dev nD) : (dats m 0 c).arrAt 14 (cfgs 0).N
    = ((fun i => Cert.Step.yy (argsOf m c) (sq (i 1 : Fin 128)) (ps (i 1)) (i 2)) : FVec Ideal S1x128x1024 .f32) := by
  refine (dats m 0 c).arrAt_eq_of_covers 14 _ (by decide +kernel) fun t hf y => ?_
  blk_simp; rw [after0_14]
  obtain ⟨r, j, rfl⟩ : ∃ (r : Fin 128) (j : Fin 1024), y = (ix3 0 r j : S1x128x1024.Idx) :=
    ⟨y 1, y 2, by
      funext a
      fin_cases a
      · exact Subsingleton.elim (α := Fin 1) _ _
      · rfl
      · rfl⟩
  refine (y_pt m c t r j).trans ?_
  have hi : win0_14.index t = ![0, 0, 0] := by
    simp only [idx t]
  have e1 : (win0_14.blk t).view.emb (ix3 0 r j : S1x128x1024.Idx) 1 = r := Fin.ext (by
    show win0_14.index t 1 * 128 + 1 * r.val = r.val
    rw [hi]; show 0 * 128 + 1 * r.val = r.val; omega)
  have e2 : (win0_14.blk t).view.emb (ix3 0 r j : S1x128x1024.Idx) 2 = j := Fin.ext (by
    show win0_14.index t 2 * 1024 + 1 * j.val = j.val
    rw [hi]; show 0 * 1024 + 1 * j.val = j.val; omega)
  rw [e1, e2]
  rfl

theorem final_15 (c : Dev nD) : (dats m 0 c).arrAt 15 (cfgs 0).N
    = ((fun i => Cert.Step.nf (argsOf m c) (i 1) (i 2)) : FVec Ideal S1x64x2816 .f32) := by
  refine (dats m 0 c).arrAt_eq_of_covers 15 _ (by decide +kernel) fun t hf y => ?_
  blk_simp; rw [after0_15]
  obtain ⟨s, j, rfl⟩ : ∃ (s : Fin 64) (j : Fin 2816), y = (ix3 0 s j : S1x64x2816.Idx) :=
    ⟨y 1, y 2, by
      funext a
      fin_cases a
      · exact Subsingleton.elim (α := Fin 1) _ _
      · rfl
      · rfl⟩
  refine (nf_at m c t s j).trans ?_
  have hi : win0_15.index t = ![0, 0, 0] := by
    simp only [idx t]
  have e1 : (win0_15.blk t).view.emb (ix3 0 s j : S1x64x2816.Idx) 1 = s := Fin.ext (by
    show win0_15.index t 1 * 64 + 1 * s.val = s.val
    rw [hi]; show 0 * 64 + 1 * s.val = s.val; omega)
  have e2 : (win0_15.blk t).view.emb (ix3 0 s j : S1x64x2816.Idx) 2 = j := Fin.ext (by
    show win0_15.index t 2 * 2816 + 1 * j.val = j.val
    rw [hi]; show 0 * 2816 + 1 * j.val = j.val; omega)
  rw [e1, e2]

end Cert.Kernel4Ideal.Hand

end
-- ==== Proof.StepMixSpec.lean ====
module

public import proofs.«01_k».proof.Proof.Gen.Reference5Ideal.Run
public import proofs.«01_k».proof.Proof.MixSpec
public import proofs.«01_k».proof.Proof.StepSpec

/-! The decoding step's input projection and two convolutions, row by row: every intermediate array of the reference as
    a function of a sequence `b`, a position `t` and a column, over the argument arrays, and the reference's composed
    terms read as these functions. A time-major array has sequence `b`'s position `t` in row `32 t + b`. -/

@[expose] public section

set_option maxRecDepth 16384

noncomputable section

open Idealize.ShloMosaic Idealize.ShloMosaic.TcCoe Idealize.SL.Sem
open scoped BigOperators

namespace Cert.StepMix

open Cert.Reference5Ideal
open Cert.Mix (eps m256 r256 r1024 sgm sum31)
open Cert.Step (sq ps tm)

/-- The argument arrays of the call. -/
structure Args where
  x : FVec Ideal S32x4x1024 .f32
  mod : FVec Ideal S32x6144 .f32
  sa : FVec Ideal S32x30x256 .f32
  sb : FVec Ideal S32x2x256 .f32
  gp : FVec Ideal S1024 .f32
  wi : FVec Ideal S1024x2816 .f32
  aw : FVec Ideal S31x256 .f32
  ab : FVec Ideal S256 .f32
  lg : FVec Ideal S256 .f32
  lb : FVec Ideal S256 .f32
  bw : FVec Ideal S3x256 .f32
  ga : FVec Ideal S256 .f32
  gb : FVec Ideal S256 .f32

variable (A : Args)

/-- A block of the modulation row: the columns from `o` on. -/
def md (o : ℕ) (h : o + 1024 ≤ 6144) (b : Fin 32) (j : Fin 1024) : EReal :=
  A.mod (ix2 b ⟨o + j.val, by have := j.isLt; omega⟩)
/-- The modulated, normalised input. -/
def hh (b : Fin 32) (t : Fin 4) (k : Fin 1024) : EReal :=
  A.x (ix3 b t k) * r1024 (fun l => A.x (ix3 b t l)) * A.gp (ix1 k) * (1 + md A 1024 (by decide) b k) + md A 0 (by decide) b k
/-- The combined projection. -/
def zz (b : Fin 32) (t : Fin 4) (n : Fin 2816) : EReal := ∑ k : Fin 1024, hh A b t k * A.wi (ix2 k n)
/-- A block of the combined projection: the columns from `o` on. -/
def zc (o : ℕ) (h : o + 256 ≤ 2816) (b : Fin 32) (t : Fin 4) (j : Fin 256) : EReal :=
  zz A b t ⟨o + j.val, by have := j.isLt; omega⟩
/-- The gated rows of the first group. -/
def aa (b : Fin 32) (t : Fin 4) (j : Fin 256) : EReal := zc A 0 (by decide) b t j * sgm (zc A 256 (by decide) b t j)
/-- They, behind the thirty stored rows. -/
def xa (b : Fin 32) (s : ℕ) (j : Fin 256) : EReal :=
  if h : s < 30 then A.sa (ix3 b ⟨s, h⟩ j) else if h' : s < 34 then aa A b ⟨s - 30, by omega⟩ j else 0
/-- The taps, by their number. -/
def wa (k : ℕ) (j : Fin 256) : EReal := if h : k < 31 then A.aw (ix2 ⟨k, h⟩ j) else 0
/-- The convolution of 31 taps along the rows. -/
def ca (b : Fin 32) (t : Fin 4) (j : Fin 256) : EReal := ∑ k : Fin 31, xa A b (k.val + t.val) j * wa A k.val j
/-- With its bias. -/
def la (b : Fin 32) (t : Fin 4) (j : Fin 256) : EReal := ca A b t j + A.ab (ix1 j)
/-- Centred. -/
def lc (b : Fin 32) (t : Fin 4) (j : Fin 256) : EReal := la A b t j - m256 (la A b t)
/-- The layer normalisation. -/
def ln (b : Fin 32) (t : Fin 4) (j : Fin 256) : EReal := lc A b t j * r256 (lc A b t) * A.lg (ix1 j) + A.lb (ix1 j)
/-- The swish of it. -/
def sw (b : Fin 32) (t : Fin 4) (j : Fin 256) : EReal := ln A b t j * sgm (ln A b t j)
/-- The first group, normalised. -/
def na (b : Fin 32) (t : Fin 4) (j : Fin 256) : EReal := sw A b t j * r256 (sw A b t) * A.ga (ix1 j)
/-- The rows that the short convolution reads. -/
def ub (b : Fin 32) (t : Fin 4) (j : Fin 256) : EReal := zc A 1024 (by decide) b t j * zc A 512 (by decide) b t j
/-- They, behind the two stored rows. -/
def xb (b : Fin 32) (s : ℕ) (j : Fin 256) : EReal :=
  if h : s < 2 then A.sb (ix3 b ⟨s, h⟩ j) else if h' : s < 6 then ub A b ⟨s - 2, by omega⟩ j else 0
/-- The convolution of three taps along the rows. -/
def cb (b : Fin 32) (t : Fin 4) (j : Fin 256) : EReal :=
  xb A b t.val j * A.bw (ix2 0 j) + xb A b (1 + t.val) j * A.bw (ix2 1 j) + xb A b (2 + t.val) j * A.bw (ix2 2 j)
/-- The gated convolution. -/
def bo (b : Fin 32) (t : Fin 4) (j : Fin 256) : EReal := zc A 768 (by decide) b t j * cb A b t j
/-- The second group, normalised. -/
def nb (b : Fin 32) (t : Fin 4) (j : Fin 256) : EReal := bo A b t j * r256 (bo A b t) * A.gb (ix1 j)
/-- The two groups side by side. -/
def mixab (b : Fin 32) (t : Fin 4) (j : Fin 512) : EReal :=
  if h : j.val < 256 then na A b t ⟨j.val, h⟩ else nb A b t ⟨j.val - 256, by have := j.isLt; omega⟩
/-- The queries, keys or values: the columns from `o` on, by pairs of heads. -/
def pairs (o : ℕ) (h : o + 512 ≤ 2816) (g : Fin 4) (r l : Fin 128) : EReal :=
  zz A (sq r) (ps r) ⟨o + (g.val * 128 + l.val), by have := g.isLt; have := l.isLt; omega⟩
/-- The last thirty rows of every sequence before the long convolution, time-major. -/
def newa (s : Fin 960) (j : Fin 256) : EReal := xa A (sq s) (4 + s.val / 32) j
/-- The last two rows of every sequence before the short convolution, time-major. -/
def newb (s : Fin 64) (j : Fin 256) : EReal := xb A (sq s) (4 + s.val / 32) j

open Cert.Reference5Ideal.Gen Cert.Reference5Ideal.Value

/-- The argument arrays a valuation holds. -/
def argsOf (V0 : Valuation τ sig (Elt Ideal)) : Args where
  x := V0 (Proc.devRef .tc main_arg0)
  mod := V0 (Proc.devRef .tc main_arg1)
  sa := V0 (Proc.devRef .tc main_arg2)
  sb := V0 (Proc.devRef .tc main_arg3)
  gp := V0 (Proc.devRef .tc main_arg4)
  wi := V0 (Proc.devRef .tc main_arg5)
  aw := V0 (Proc.devRef .tc main_arg6)
  ab := V0 (Proc.devRef .tc main_arg7)
  lg := V0 (Proc.devRef .tc main_arg8)
  lb := V0 (Proc.devRef .tc main_arg9)
  bw := V0 (Proc.devRef .tc main_arg10)
  ga := V0 (Proc.devRef .tc main_arg11)
  gb := V0 (Proc.devRef .tc main_arg12)

variable (V0 : Valuation τ sig (Elt Ideal))

theorem ref_zz (b : Fin 32) (t : Fin 4) (n : Fin 2816) :
    (res_main_v31 V0 : FVec Ideal S32x4x2816 .f32) (ix3 b t n) = zz (argsOf V0) b t n := by
  pointwise [res_main_v31]
  rfl

theorem ref_xa (b : Fin 32) (s : Fin 34) (j : Fin 256) :
    (res_main_v47 V0 : FVec Ideal S32x34x256 .f32) (ix3 b s j) = xa (argsOf V0) b s.val j := by
  pointwise [res_main_v47, ref_zz]
  unfold xa
  have hs := s.isLt
  by_cases h : s.val < 30
  · rw [dif_pos h, dif_pos h]
    rfl
  · rw [dif_neg h, dif_neg h, dif_pos (by omega)]
    unfold aa zc sgm
    congr 5
    simp

theorem ref_la (b : Fin 32) (t : Fin 4) (j : Fin 256) :
    (res_main_v266 V0 : FVec Ideal S32x4x256 .f32) (ix3 b t j) = la (argsOf V0) b t j := by
  pointwise [res_main_v266, res_main_v207, res_main_v130, ref_xa]
  unfold la ca
  rw [sum31 (fun k => xa (argsOf V0) b (k + t.val) j * wa (argsOf V0) k j)]
  simp only [Nat.zero_add]
  rfl

theorem ref_lc (b : Fin 32) (t : Fin 4) (j : Fin 256) :
    (res_main_v272 V0 : FVec Ideal S32x4x256 .f32) (ix3 b t j) = lc (argsOf V0) b t j := by
  pointwise [res_main_v272, ref_la]
  rfl

theorem ref_ln (b : Fin 32) (t : Fin 4) (j : Fin 256) :
    (res_main_v288 V0 : FVec Ideal S32x4x256 .f32) (ix3 b t j) = ln (argsOf V0) b t j := by
  pointwise [res_main_v288, ref_lc]
  rfl

theorem ref_sw (b : Fin 32) (t : Fin 4) (j : Fin 256) :
    (res_main_v289 V0 : FVec Ideal S32x4x256 .f32) (ix3 b t j) = sw (argsOf V0) b t j := by
  pointwise [res_main_v289, ref_ln]
  rfl

theorem ref_xb (b : Fin 32) (s : Fin 6) (j : Fin 256) :
    (res_main_v291 V0 : FVec Ideal S32x6x256 .f32) (ix3 b s j) = xb (argsOf V0) b s.val j := by
  pointwise [res_main_v291, ref_zz]
  unfold xb
  have hs := s.isLt
  by_cases h : s.val < 2
  · rw [dif_pos h, dif_pos h]
    rfl
  · rw [dif_neg h, dif_neg h, dif_pos (by omega)]
    rfl

theorem ref_bo (b : Fin 32) (t : Fin 4) (j : Fin 256) :
    (res_main_v312 V0 : FVec Ideal S32x4x256 .f32) (ix3 b t j) = bo (argsOf V0) b t j := by
  pointwise [res_main_v312, ref_zz, ref_xb]
  rfl

/-- The reference's first result, from the run's composed term. -/
theorem ref_mixab (r : Fin 128) (j : Fin 512) :
    (shapeCast S1x128x512 (transpose S4x32x512 [1, 0, 2] (truncf .bf16 (concatenate S32x4x512 2 [⟨S32x4x256, (mulf (mulf (res_main_v289 V0) (broadcastInDim S32x4x256 ![0, 1, 2] bcast_S32x4x1_S32x4x256_0_1_2 (Host.rsqrt (addf (Host.divf (broadcastInDim S32x4x1 ![0, 1] bcast_S32x4_S32x4x1_0_1 (Host.reduceAdd (mulf (res_main_v289 V0) (res_main_v289 V0)) (constant S_ .f32 0x00000000#32) reducesTo_S32x4x256_S32x4_d2 h_S_)) (broadcastInDim S32x4x1 ![] bcast_S_S32x4x1 (constant S_ .f32 0x43800000#32))) (broadcastInDim S32x4x1 ![] bcast_S_S32x4x1 (constant S_ .f32 0x358637BD#32)))))) (broadcastInDim S32x4x256 ![0, 1, 2] bcast_S1x1x256_S32x4x256_0_1_2 (broadcastInDim S1x1x256 ![2] bcast_S256_S1x1x256_2 (V0 (Proc.devRef .tc main_arg11)))))⟩, ⟨S32x4x256, (mulf (mulf (res_main_v312 V0) (broadcastInDim S32x4x256 ![0, 1, 2] bcast_S32x4x1_S32x4x256_0_1_2 (Host.rsqrt (addf (Host.divf (broadcastInDim S32x4x1 ![0, 1] bcast_S32x4_S32x4x1_0_1 (Host.reduceAdd (mulf (res_main_v312 V0) (res_main_v312 V0)) (constant S_ .f32 0x00000000#32) reducesTo_S32x4x256_S32x4_d2 h_S_)) (broadcastInDim S32x4x1 ![] bcast_S_S32x4x1 (constant S_ .f32 0x43800000#32))) (broadcastInDim S32x4x1 ![] bcast_S_S32x4x1 (constant S_ .f32 0x358637BD#32)))))) (broadcastInDim S32x4x256 ![0, 1, 2] bcast_S1x1x256_S32x4x256_0_1_2 (broadcastInDim S1x1x256 ![2] bcast_S256_S1x1x256_2 (V0 (Proc.devRef .tc main_arg12)))))⟩] concatenates_S32x4x256_S32x4x256_S32x4x512_d2) bitsLt_bf16_f32) transposes_S32x4x512_S4x32x512_1_0_2) shapeCasts_S4x32x512_S1x128x512 : FVec Ideal S1x128x512 .bf16) (ix3 0 r j)
      = mixab (argsOf V0) (sq r) (ps r) j := by
  pointwise [ref_sw, ref_bo]
  rfl

/-- The queries. -/
theorem ref_q (g : Fin 4) (r l : Fin 128) :
    (shapeCast S1x4x128x128 (transpose S4x4x32x128 [2, 1, 0, 3] (shapeCast _ (extractStridedSlice S32x4x512 ![0, 0, 1280] (res_main_v31 V0) slices_S32x4x2816_S32x4x512_0_0_1280) shapeCasts_S32x4x512_S32x4x4x128) transposes_S32x4x4x128_S4x4x32x128_2_1_0_3) shapeCasts_S4x4x32x128_S1x4x128x128 : FVec Ideal S1x4x128x128 .f32) (ix4 0 g r l)
      = pairs (argsOf V0) 1280 (by decide) g r l := by
  pointwise [ref_zz]
  rfl

/-- The keys. -/
theorem ref_k (g : Fin 4) (r l : Fin 128) :
    (shapeCast S1x4x128x128 (transpose S4x4x32x128 [2, 1, 0, 3] (shapeCast _ (extractStridedSlice S32x4x512 ![0, 0, 1792] (res_main_v31 V0) slices_S32x4x2816_S32x4x512_0_0_1792) shapeCasts_S32x4x512_S32x4x4x128) transposes_S32x4x4x128_S4x4x32x128_2_1_0_3) shapeCasts_S4x4x32x128_S1x4x128x128 : FVec Ideal S1x4x128x128 .f32) (ix4 0 g r l)
      = pairs (argsOf V0) 1792 (by decide) g r l := by
  pointwise [ref_zz]
  rfl

/-- The values. -/
theorem ref_v (g : Fin 4) (r l : Fin 128) :
    (shapeCast S1x4x128x128 (transpose S4x4x32x128 [2, 1, 0, 3] (shapeCast _ (extractStridedSlice S32x4x512 ![0, 0, 2304] (res_main_v31 V0) slices_S32x4x2816_S32x4x512_0_0_2304) shapeCasts_S32x4x512_S32x4x4x128) transposes_S32x4x4x128_S4x4x32x128_2_1_0_3) shapeCasts_S4x4x32x128_S1x4x128x128 : FVec Ideal S1x4x128x128 .f32) (ix4 0 g r l)
      = pairs (argsOf V0) 2304 (by decide) g r l := by
  pointwise [ref_zz]
  rfl

/-- The last rows before the long convolution. -/
theorem ref_newa (s : Fin 960) (j : Fin 256) :
    (shapeCast S1x960x256 (transpose S30x32x256 [1, 0, 2] (extractStridedSlice S32x30x256 ![0, 4, 0] (res_main_v47 V0) slices_S32x34x256_S32x30x256_0_4_0) transposes_S32x30x256_S30x32x256_1_0_2) shapeCasts_S30x32x256_S1x960x256 : FVec Ideal S1x960x256 .f32) (ix3 0 s j)
      = newa (argsOf V0) s j := by
  pointwise [ref_xa]
  rfl

/-- The last rows before the short convolution. -/
theorem ref_newb (s : Fin 64) (j : Fin 256) :
    (shapeCast S1x64x256 (transpose S2x32x256 [1, 0, 2] (extractStridedSlice S32x2x256 ![0, 4, 0] (res_main_v291 V0) slices_S32x6x256_S32x2x256_0_4_0) transposes_S32x2x256_S2x32x256_1_0_2) shapeCasts_S2x32x256_S1x64x256 : FVec Ideal S1x64x256 .f32) (ix3 0 s j)
      = newb (argsOf V0) s j := by
  pointwise [ref_xb]
  rfl

end Cert.StepMix

end
-- ==== Proof.StepMixRows.lean ====
module

public import proofs.«01_k».proof.Proof.Gen.Kernel5Ideal.Value
public import proofs.«01_k».proof.Proof.StepMixSpec
public import Idealize.ShloMosaic.Lib.Pipeline.ValueKit

/-! The decoding step's input projection and convolutions, on the block of 128 time-major rows: each of the values the
    body computes is the specification's intermediate array at the block's rows. Stated over any vectors that hold the
    rows of the argument arrays. -/

@[expose] public section

set_option maxRecDepth 16384

noncomputable section

open Idealize.ShloMosaic Idealize.ShloMosaic.TcCoe Idealize.SL.Sem
open scoped BigOperators

namespace Cert.Kernel5Ideal.Hand

open Cert.Kernel5Ideal Cert.Kernel5Ideal.Gen
open Cert.StepMix (Args)
open Cert.Step (sq ps tm)
open Cert.Mix (sum31)

theorem zsub (x : EReal) : 0 - x = -x := by rw [sub_eq_add_neg, zero_add]

/-- The loaded vectors hold the time-major rows of the argument arrays. -/
structure Loads (A : Args)
    (v3 : Vec Ideal S1x128x1024 .f32) (v5 : Vec Ideal S1x1024 .f32) (v19 v24 : Vec Ideal S1x1x128x1024 .f32)
    (v28 : Vec Ideal S1024x512 .bf16) (v44 : Vec Ideal S1024x768 .bf16) (v54 v57 v60 : Vec Ideal S1024x512 .bf16) : Prop where
  x : ∀ (r : Fin 128) (k : Fin 1024), v3 (ix3 0 r k) = A.x (ix3 (sq r) (ps r) k)
  gp : ∀ k : Fin 1024, v5 (ix2 0 k) = A.gp (ix1 k)
  m1 : ∀ (r : Fin 128) (k : Fin 1024), v19 (ix4 0 0 r k) = Cert.StepMix.md A 1024 (by decide) (sq r) k
  m0 : ∀ (r : Fin 128) (k : Fin 1024), v24 (ix4 0 0 r k) = Cert.StepMix.md A 0 (by decide) (sq r) k
  wa : ∀ (k : Fin 1024) (j : Fin 512), v28 (ix2 k j) = A.wi (ix2 k ⟨j.val, by have := j.isLt; omega⟩)
  wb : ∀ (k : Fin 1024) (j : Fin 768), v44 (ix2 k j) = A.wi (ix2 k ⟨512 + j.val, by have := j.isLt; omega⟩)
  wq : ∀ (k : Fin 1024) (j : Fin 512), v54 (ix2 k j) = A.wi (ix2 k ⟨1280 + j.val, by have := j.isLt; omega⟩)
  wk : ∀ (k : Fin 1024) (j : Fin 512), v57 (ix2 k j) = A.wi (ix2 k ⟨1792 + j.val, by have := j.isLt; omega⟩)
  wv : ∀ (k : Fin 1024) (j : Fin 512), v60 (ix2 k j) = A.wi (ix2 k ⟨2304 + j.val, by have := j.isLt; omega⟩)

section

variable {A : Args}
    {v3 : Vec Ideal S1x128x1024 .f32} {v5 : Vec Ideal S1x1024 .f32} {v19 v24 : Vec Ideal S1x1x128x1024 .f32}
    {v28 : Vec Ideal S1024x512 .bf16} {v44 : Vec Ideal S1024x768 .bf16} {v54 v57 v60 : Vec Ideal S1024x512 .bf16}
    (L : Loads A v3 v5 v19 v24 v28 v44 v54 v57 v60)

include L

theorem hh_at (r : Fin 128) (k : Fin 1024) : k0_pay5 v3 v5 v19 v24 (ix2 r k) = Cert.StepMix.hh A (sq r) (ps r) k := by
  pointwise [k0_pay5, L.x, L.gp, L.m1, L.m0]
  rfl

theorem za_at (r : Fin 128) (j : Fin 512) :
    k0_pay6 v3 v5 v19 v24 v28 (ix2 r j) = Cert.StepMix.zz A (sq r) (ps r) ⟨j.val, by have := j.isLt; omega⟩ := by
  have h := hh_at L
  unfold k0_pay6
  generalize k0_pay5 v3 v5 v19 v24 = v27 at h ⊢
  pointwise [h, L.wa]
  rfl

theorem aa_at (r : Fin 128) (j : Fin 256) :
    k0_pay10 (k0_pay7 v3 v5 v19 v24 v28) (k0_pay8 v3 v5 v19 v24 v28) (k0_pay9 (F := Ideal)) (ix2 r j) = Cert.StepMix.aa A (sq r) (ps r) j := by
  have h := za_at L
  unfold k0_pay7 k0_pay8
  generalize k0_pay6 v3 v5 v19 v24 v28 = v30 at h ⊢
  pointwise [k0_pay10, k0_pay9, h, zsub]
  unfold Cert.StepMix.aa Cert.StepMix.zc Cert.Mix.sgm
  congr 5
  simp

theorem zb_at (r : Fin 128) (j : Fin 768) :
    k0_pay11 (k0_pay5 v3 v5 v19 v24) v44 (ix2 r j) = Cert.StepMix.zz A (sq r) (ps r) ⟨512 + j.val, by have := j.isLt; omega⟩ := by
  have h := hh_at L
  generalize k0_pay5 v3 v5 v19 v24 = v27 at h ⊢
  pointwise [k0_pay11, h, L.wb]
  rfl

theorem ub_at (r : Fin 128) (j : Fin 256) :
    k0_pay12 (k0_pay5 v3 v5 v19 v24) v44 (ix2 r j) = Cert.StepMix.ub A (sq r) (ps r) j := by
  have h := zb_at L
  unfold k0_pay12
  generalize k0_pay11 (k0_pay5 v3 v5 v19 v24) v44 = v46 at h ⊢
  pointwise [h]
  unfold Cert.StepMix.ub Cert.StepMix.zc
  refine congrArg (· * _) (congrArg (Cert.StepMix.zz A (sq r) (ps r)) (Fin.ext ?_))
  show 512 + (512 + j.val) = 1024 + j.val
  omega

theorem bg_at (r : Fin 128) (j : Fin 256) :
    k0_pay13 (k0_pay5 v3 v5 v19 v24) v44 (ix2 r j) = Cert.StepMix.zc A 768 (by decide) (sq r) (ps r) j := by
  have h := zb_at L
  unfold k0_pay13
  generalize k0_pay11 (k0_pay5 v3 v5 v19 v24) v44 = v46 at h ⊢
  pointwise [h]
  unfold Cert.StepMix.zc
  exact congrArg (Cert.StepMix.zz A (sq r) (ps r)) (Fin.ext (by show 512 + (256 + j.val) = 768 + j.val; omega))

theorem q_at (r : Fin 128) (j : Fin 512) :
    k0_pay14 (k0_pay5 v3 v5 v19 v24) v54 (ix2 r j) = Cert.StepMix.zz A (sq r) (ps r) ⟨1280 + j.val, by have := j.isLt; omega⟩ := by
  have h := hh_at L
  generalize k0_pay5 v3 v5 v19 v24 = v27 at h ⊢
  pointwise [k0_pay14, h, L.wq]
  rfl

theorem k_at (r : Fin 128) (j : Fin 512) :
    k0_pay15 (k0_pay5 v3 v5 v19 v24) v57 (ix2 r j) = Cert.StepMix.zz A (sq r) (ps r) ⟨1792 + j.val, by have := j.isLt; omega⟩ := by
  have h := hh_at L
  generalize k0_pay5 v3 v5 v19 v24 = v27 at h ⊢
  pointwise [k0_pay15, h, L.wk]
  rfl

theorem v_at (r : Fin 128) (j : Fin 512) :
    k0_pay16 (k0_pay5 v3 v5 v19 v24) v60 (ix2 r j) = Cert.StepMix.zz A (sq r) (ps r) ⟨2304 + j.val, by have := j.isLt; omega⟩ := by
  have h := hh_at L
  generalize k0_pay5 v3 v5 v19 v24 = v27 at h ⊢
  pointwise [k0_pay16, h, L.wv]
  rfl

end

/-! ## The two groups' rows, from the row buffers -/

section

variable (B : Vec Ideal S1088x256 .f32) (W : Vec Ideal S31x256 .f32)

/-- Rows 0 to 63 of the long convolution, as the body adds them. -/
def chunk0 : FVec Ideal S64x256 .f32 :=
    (k0_pay35 (k0_pay34 (k0_pay33 (k0_pay32 (k0_pay31 (k0_pay30 (View.ld (Val := Elt Ideal) B (Rect.unit ![0, 0] ![64, 256]
    inb_S1088x256_S64x256_0_0)) (View.ld (Val := Elt Ideal) W (Rect.unit ![0, 0] ![1, 256] inb_S31x256_S1x256_0_0)) (View.ld (Val := Elt Ideal) B
    (Rect.unit ![32, 0] ![64, 256] inb_S1088x256_S64x256_32_0)) (View.ld (Val := Elt Ideal) W (Rect.unit ![1, 0] ![1, 256] inb_S31x256_S1x256_1_0)))
    (View.ld (Val := Elt Ideal) B (Rect.unit ![64, 0] ![64, 256] inb_S1088x256_S64x256_64_0)) (View.ld (Val := Elt Ideal) W (Rect.unit ![2, 0] ![1,
    256] inb_S31x256_S1x256_2_0)) (View.ld (Val := Elt Ideal) B (Rect.unit ![96, 0] ![64, 256] inb_S1088x256_S64x256_96_0)) (View.ld (Val := Elt
    Ideal) W (Rect.unit ![3, 0] ![1, 256] inb_S31x256_S1x256_3_0)) (View.ld (Val := Elt Ideal) B (Rect.unit ![128, 0] ![64, 256]
    inb_S1088x256_S64x256_128_0)) (View.ld (Val := Elt Ideal) W (Rect.unit ![4, 0] ![1, 256] inb_S31x256_S1x256_4_0)) (View.ld (Val := Elt Ideal) B
    (Rect.unit ![160, 0] ![64, 256] inb_S1088x256_S64x256_160_0)) (View.ld (Val := Elt Ideal) W (Rect.unit ![5, 0] ![1, 256] inb_S31x256_S1x256_5_0))
    (View.ld (Val := Elt Ideal) B (Rect.unit ![192, 0] ![64, 256] inb_S1088x256_S64x256_192_0)) (View.ld (Val := Elt Ideal) W (Rect.unit ![6, 0] ![1,
    256] inb_S31x256_S1x256_6_0)) (View.ld (Val := Elt Ideal) B (Rect.unit ![224, 0] ![64, 256] inb_S1088x256_S64x256_224_0)) (View.ld (Val := Elt
    Ideal) W (Rect.unit ![7, 0] ![1, 256] inb_S31x256_S1x256_7_0)) (View.ld (Val := Elt Ideal) B (Rect.unit ![256, 0] ![64, 256]
    inb_S1088x256_S64x256_256_0)) (View.ld (Val := Elt Ideal) W (Rect.unit ![8, 0] ![1, 256] inb_S31x256_S1x256_8_0))) (View.ld (Val := Elt Ideal) B
    (Rect.unit ![288, 0] ![64, 256] inb_S1088x256_S64x256_288_0)) (View.ld (Val := Elt Ideal) W (Rect.unit ![9, 0] ![1, 256] inb_S31x256_S1x256_9_0))
    (View.ld (Val := Elt Ideal) B (Rect.unit ![320, 0] ![64, 256] inb_S1088x256_S64x256_320_0)) (View.ld (Val := Elt Ideal) W (Rect.unit ![10, 0] ![1,
    256] inb_S31x256_S1x256_10_0)) (View.ld (Val := Elt Ideal) B (Rect.unit ![352, 0] ![64, 256] inb_S1088x256_S64x256_352_0)) (View.ld (Val := Elt
    Ideal) W (Rect.unit ![11, 0] ![1, 256] inb_S31x256_S1x256_11_0)) (View.ld (Val := Elt Ideal) B (Rect.unit ![384, 0] ![64, 256]
    inb_S1088x256_S64x256_384_0)) (View.ld (Val := Elt Ideal) W (Rect.unit ![12, 0] ![1, 256] inb_S31x256_S1x256_12_0)) (View.ld (Val := Elt Ideal) B
    (Rect.unit ![416, 0] ![64, 256] inb_S1088x256_S64x256_416_0)) (View.ld (Val := Elt Ideal) W (Rect.unit ![13, 0] ![1, 256]
    inb_S31x256_S1x256_13_0)) (View.ld (Val := Elt Ideal) B (Rect.unit ![448, 0] ![64, 256] inb_S1088x256_S64x256_448_0)) (View.ld (Val := Elt Ideal)
    W (Rect.unit ![14, 0] ![1, 256] inb_S31x256_S1x256_14_0)) (View.ld (Val := Elt Ideal) B (Rect.unit ![480, 0] ![64, 256]
    inb_S1088x256_S64x256_480_0)) (View.ld (Val := Elt Ideal) W (Rect.unit ![15, 0] ![1, 256] inb_S31x256_S1x256_15_0))) (View.ld (Val := Elt Ideal) B
    (Rect.unit ![512, 0] ![64, 256] inb_S1088x256_S64x256_512_0)) (View.ld (Val := Elt Ideal) W (Rect.unit ![16, 0] ![1, 256]
    inb_S31x256_S1x256_16_0)) (View.ld (Val := Elt Ideal) B (Rect.unit ![544, 0] ![64, 256] inb_S1088x256_S64x256_544_0)) (View.ld (Val := Elt Ideal)
    W (Rect.unit ![17, 0] ![1, 256] inb_S31x256_S1x256_17_0)) (View.ld (Val := Elt Ideal) B (Rect.unit ![576, 0] ![64, 256]
    inb_S1088x256_S64x256_576_0)) (View.ld (Val := Elt Ideal) W (Rect.unit ![18, 0] ![1, 256] inb_S31x256_S1x256_18_0)) (View.ld (Val := Elt Ideal) B
    (Rect.unit ![608, 0] ![64, 256] inb_S1088x256_S64x256_608_0)) (View.ld (Val := Elt Ideal) W (Rect.unit ![19, 0] ![1, 256]
    inb_S31x256_S1x256_19_0)) (View.ld (Val := Elt Ideal) B (Rect.unit ![640, 0] ![64, 256] inb_S1088x256_S64x256_640_0)) (View.ld (Val := Elt Ideal)
    W (Rect.unit ![20, 0] ![1, 256] inb_S31x256_S1x256_20_0)) (View.ld (Val := Elt Ideal) B (Rect.unit ![672, 0] ![64, 256]
    inb_S1088x256_S64x256_672_0)) (View.ld (Val := Elt Ideal) W (Rect.unit ![21, 0] ![1, 256] inb_S31x256_S1x256_21_0))) (View.ld (Val := Elt Ideal) B
    (Rect.unit ![704, 0] ![64, 256] inb_S1088x256_S64x256_704_0)) (View.ld (Val := Elt Ideal) W (Rect.unit ![22, 0] ![1, 256]
    inb_S31x256_S1x256_22_0)) (View.ld (Val := Elt Ideal) B (Rect.unit ![736, 0] ![64, 256] inb_S1088x256_S64x256_736_0)) (View.ld (Val := Elt Ideal)
    W (Rect.unit ![23, 0] ![1, 256] inb_S31x256_S1x256_23_0)) (View.ld (Val := Elt Ideal) B (Rect.unit ![768, 0] ![64, 256]
    inb_S1088x256_S64x256_768_0)) (View.ld (Val := Elt Ideal) W (Rect.unit ![24, 0] ![1, 256] inb_S31x256_S1x256_24_0)) (View.ld (Val := Elt Ideal) B
    (Rect.unit ![800, 0] ![64, 256] inb_S1088x256_S64x256_800_0)) (View.ld (Val := Elt Ideal) W (Rect.unit ![25, 0] ![1, 256]
    inb_S31x256_S1x256_25_0)) (View.ld (Val := Elt Ideal) B (Rect.unit ![832, 0] ![64, 256] inb_S1088x256_S64x256_832_0)) (View.ld (Val := Elt Ideal)
    W (Rect.unit ![26, 0] ![1, 256] inb_S31x256_S1x256_26_0)) (View.ld (Val := Elt Ideal) B (Rect.unit ![864, 0] ![64, 256]
    inb_S1088x256_S64x256_864_0)) (View.ld (Val := Elt Ideal) W (Rect.unit ![27, 0] ![1, 256] inb_S31x256_S1x256_27_0)) (View.ld (Val := Elt Ideal) B
    (Rect.unit ![896, 0] ![64, 256] inb_S1088x256_S64x256_896_0)) (View.ld (Val := Elt Ideal) W (Rect.unit ![28, 0] ![1, 256]
    inb_S31x256_S1x256_28_0))) (View.ld (Val := Elt Ideal) B (Rect.unit ![928, 0] ![64, 256] inb_S1088x256_S64x256_928_0)) (View.ld (Val := Elt Ideal)
    W (Rect.unit ![29, 0] ![1, 256] inb_S31x256_S1x256_29_0)) (View.ld (Val := Elt Ideal) B (Rect.unit ![960, 0] ![64, 256]
    inb_S1088x256_S64x256_960_0)) (View.ld (Val := Elt Ideal) W (Rect.unit ![30, 0] ![1, 256] inb_S31x256_S1x256_30_0)))

/-- The first 25 taps of rows 64 to 127 of the long convolution, as the body adds them. -/
def head1 : FVec Ideal S64x256 .f32 :=
    (k0_pay40 (k0_pay39 (k0_pay37 (k0_pay36 (View.ld (Val := Elt Ideal) B (Rect.unit ![64, 0] ![64, 256] inb_S1088x256_S64x256_64_0)) (View.ld (Val :=
    Elt Ideal) W (Rect.unit ![0, 0] ![1, 256] inb_S31x256_S1x256_0_0)) (View.ld (Val := Elt Ideal) B (Rect.unit ![96, 0] ![64, 256]
    inb_S1088x256_S64x256_96_0)) (View.ld (Val := Elt Ideal) W (Rect.unit ![1, 0] ![1, 256] inb_S31x256_S1x256_1_0)) (View.ld (Val := Elt Ideal) B
    (Rect.unit ![128, 0] ![64, 256] inb_S1088x256_S64x256_128_0)) (View.ld (Val := Elt Ideal) W (Rect.unit ![2, 0] ![1, 256] inb_S31x256_S1x256_2_0))
    (View.ld (Val := Elt Ideal) B (Rect.unit ![160, 0] ![64, 256] inb_S1088x256_S64x256_160_0)) (View.ld (Val := Elt Ideal) W (Rect.unit ![3, 0] ![1,
    256] inb_S31x256_S1x256_3_0)) (View.ld (Val := Elt Ideal) B (Rect.unit ![192, 0] ![64, 256] inb_S1088x256_S64x256_192_0)) (View.ld (Val := Elt
    Ideal) W (Rect.unit ![4, 0] ![1, 256] inb_S31x256_S1x256_4_0))) (View.ld (Val := Elt Ideal) B (Rect.unit ![224, 0] ![64, 256]
    inb_S1088x256_S64x256_224_0)) (View.ld (Val := Elt Ideal) W (Rect.unit ![5, 0] ![1, 256] inb_S31x256_S1x256_5_0)) (View.ld (Val := Elt Ideal) B
    (Rect.unit ![256, 0] ![64, 256] inb_S1088x256_S64x256_256_0)) (View.ld (Val := Elt Ideal) W (Rect.unit ![6, 0] ![1, 256] inb_S31x256_S1x256_6_0))
    (View.ld (Val := Elt Ideal) B (Rect.unit ![288, 0] ![64, 256] inb_S1088x256_S64x256_288_0)) (View.ld (Val := Elt Ideal) W (Rect.unit ![7, 0] ![1,
    256] inb_S31x256_S1x256_7_0)) (View.ld (Val := Elt Ideal) B (Rect.unit ![320, 0] ![64, 256] inb_S1088x256_S64x256_320_0)) (View.ld (Val := Elt
    Ideal) W (Rect.unit ![8, 0] ![1, 256] inb_S31x256_S1x256_8_0)) (View.ld (Val := Elt Ideal) B (Rect.unit ![352, 0] ![64, 256]
    inb_S1088x256_S64x256_352_0)) (View.ld (Val := Elt Ideal) W (Rect.unit ![9, 0] ![1, 256] inb_S31x256_S1x256_9_0)) (View.ld (Val := Elt Ideal) B
    (Rect.unit ![384, 0] ![64, 256] inb_S1088x256_S64x256_384_0)) (View.ld (Val := Elt Ideal) W (Rect.unit ![10, 0] ![1, 256]
    inb_S31x256_S1x256_10_0))) (View.ld (Val := Elt Ideal) B (Rect.unit ![416, 0] ![64, 256] inb_S1088x256_S64x256_416_0)) (k0_pay38 (View.ld (Val :=
    Elt Ideal) W (Rect.unit ![11, 0] ![1, 256] inb_S31x256_S1x256_11_0))) (View.ld (Val := Elt Ideal) B (Rect.unit ![448, 0] ![64, 256]
    inb_S1088x256_S64x256_448_0)) (View.ld (Val := Elt Ideal) W (Rect.unit ![12, 0] ![1, 256] inb_S31x256_S1x256_12_0)) (View.ld (Val := Elt Ideal) B
    (Rect.unit ![480, 0] ![64, 256] inb_S1088x256_S64x256_480_0)) (View.ld (Val := Elt Ideal) W (Rect.unit ![13, 0] ![1, 256]
    inb_S31x256_S1x256_13_0)) (View.ld (Val := Elt Ideal) B (Rect.unit ![512, 0] ![64, 256] inb_S1088x256_S64x256_512_0)) (View.ld (Val := Elt Ideal)
    W (Rect.unit ![14, 0] ![1, 256] inb_S31x256_S1x256_14_0)) (View.ld (Val := Elt Ideal) B (Rect.unit ![544, 0] ![64, 256]
    inb_S1088x256_S64x256_544_0)) (View.ld (Val := Elt Ideal) W (Rect.unit ![15, 0] ![1, 256] inb_S31x256_S1x256_15_0)) (View.ld (Val := Elt Ideal) B
    (Rect.unit ![576, 0] ![64, 256] inb_S1088x256_S64x256_576_0)) (View.ld (Val := Elt Ideal) W (Rect.unit ![16, 0] ![1, 256]
    inb_S31x256_S1x256_16_0)) (View.ld (Val := Elt Ideal) B (Rect.unit ![608, 0] ![64, 256] inb_S1088x256_S64x256_608_0)) (View.ld (Val := Elt Ideal)
    W (Rect.unit ![17, 0] ![1, 256] inb_S31x256_S1x256_17_0))) (View.ld (Val := Elt Ideal) B (Rect.unit ![640, 0] ![64, 256]
    inb_S1088x256_S64x256_640_0)) (View.ld (Val := Elt Ideal) W (Rect.unit ![18, 0] ![1, 256] inb_S31x256_S1x256_18_0)) (View.ld (Val := Elt Ideal) B
    (Rect.unit ![672, 0] ![64, 256] inb_S1088x256_S64x256_672_0)) (View.ld (Val := Elt Ideal) W (Rect.unit ![19, 0] ![1, 256]
    inb_S31x256_S1x256_19_0)) (View.ld (Val := Elt Ideal) B (Rect.unit ![704, 0] ![64, 256] inb_S1088x256_S64x256_704_0)) (View.ld (Val := Elt Ideal)
    W (Rect.unit ![20, 0] ![1, 256] inb_S31x256_S1x256_20_0)) (View.ld (Val := Elt Ideal) B (Rect.unit ![736, 0] ![64, 256]
    inb_S1088x256_S64x256_736_0)) (View.ld (Val := Elt Ideal) W (Rect.unit ![21, 0] ![1, 256] inb_S31x256_S1x256_21_0)) (View.ld (Val := Elt Ideal) B
    (Rect.unit ![768, 0] ![64, 256] inb_S1088x256_S64x256_768_0)) (View.ld (Val := Elt Ideal) W (Rect.unit ![22, 0] ![1, 256]
    inb_S31x256_S1x256_22_0)) (View.ld (Val := Elt Ideal) B (Rect.unit ![800, 0] ![64, 256] inb_S1088x256_S64x256_800_0)) (View.ld (Val := Elt Ideal)
    W (Rect.unit ![23, 0] ![1, 256] inb_S31x256_S1x256_23_0)) (View.ld (Val := Elt Ideal) B (Rect.unit ![832, 0] ![64, 256]
    inb_S1088x256_S64x256_832_0)) (View.ld (Val := Elt Ideal) W (Rect.unit ![24, 0] ![1, 256] inb_S31x256_S1x256_24_0)))

/-- The convolution of the block's rows, with its bias. -/
def conv (ab : Vec Ideal S1x256 .f32) : FVec Ideal S128x256 .f32 :=
    k0_pay41 (chunk0 B W) (head1 B W) (View.ld (Val := Elt Ideal) B (Rect.unit ![864, 0] ![64, 256] inb_S1088x256_S64x256_864_0)) (View.ld (Val := Elt
    Ideal) W (Rect.unit ![25, 0] ![1, 256] inb_S31x256_S1x256_25_0)) (View.ld (Val := Elt Ideal) B (Rect.unit ![896, 0] ![64, 256]
    inb_S1088x256_S64x256_896_0)) (View.ld (Val := Elt Ideal) W (Rect.unit ![26, 0] ![1, 256] inb_S31x256_S1x256_26_0)) (View.ld (Val := Elt Ideal) B
    (Rect.unit ![928, 0] ![64, 256] inb_S1088x256_S64x256_928_0)) (View.ld (Val := Elt Ideal) W (Rect.unit ![27, 0] ![1, 256]
    inb_S31x256_S1x256_27_0)) (View.ld (Val := Elt Ideal) B (Rect.unit ![960, 0] ![64, 256] inb_S1088x256_S64x256_960_0)) (View.ld (Val := Elt Ideal)
    W (Rect.unit ![28, 0] ![1, 256] inb_S31x256_S1x256_28_0)) (View.ld (Val := Elt Ideal) B (Rect.unit ![992, 0] ![64, 256]
    inb_S1088x256_S64x256_992_0)) (View.ld (Val := Elt Ideal) W (Rect.unit ![29, 0] ![1, 256] inb_S31x256_S1x256_29_0)) (View.ld (Val := Elt Ideal) B
    (Rect.unit ![1024, 0] ![64, 256] inb_S1088x256_S64x256_1024_0)) (View.ld (Val := Elt Ideal) W (Rect.unit ![30, 0] ![1, 256]
    inb_S31x256_S1x256_30_0)) ab

theorem chunk0_at {β ω : ℕ → Fin 256 → EReal} (hB : ∀ (s : Fin 1088) (j : Fin 256), B (ix2 s j) = β s.val j)
    (hW : ∀ (k : Fin 31) (j : Fin 256), W (ix2 k j) = ω k.val j) (r : Fin 64) (j : Fin 256) :
    chunk0 B W (ix2 r j) = ∑ k : Fin 31, β (32 * k.val + r.val) j * ω k.val j := by
  unfold chunk0
  pointwise [k0_pay30, k0_pay31, k0_pay32, k0_pay33, k0_pay34, k0_pay35, hB, hW]
  rw [sum31 (fun k => β (32 * k + r.val) j * ω k j)]
  simp only [Nat.reduceMul, Nat.zero_add]

theorem conv_at {β ω : ℕ → Fin 256 → EReal} {ab : Vec Ideal S1x256 .f32} (hB : ∀ (s : Fin 1088) (j : Fin 256), B (ix2 s j) = β s.val j)
    (hW : ∀ (k : Fin 31) (j : Fin 256), W (ix2 k j) = ω k.val j) (r : Fin 128) (j : Fin 256) :
    conv B W ab (ix2 r j) = (∑ k : Fin 31, β (32 * k.val + r.val) j * ω k.val j) + ab (ix2 0 j) := by
  have h0 := chunk0_at B W hB hW
  unfold conv
  generalize chunk0 B W = y0 at h0 ⊢
  pointwise [head1, k0_pay36, k0_pay37, k0_pay38, k0_pay39, k0_pay40, k0_pay41, hB, hW, h0]
  refine congrArg (· + _) ?_
  by_cases h : r.val < 64
  · rw [dif_pos h]
  · rw [dif_neg h]
    rw [sum31 (fun k => β (32 * k + r.val) j * ω k j)]
    obtain ⟨q, hq⟩ : ∃ q, r.val = 64 + q := ⟨r.val - 64, by omega⟩
    simp only [hq, Nat.add_sub_cancel_left, Nat.reduceMul, ← Nat.add_assoc, Nat.reduceAdd]

end

section

variable {A : Args} {v423 : FVec Ideal S128x256 .f32}
    (hla : ∀ (r : Fin 128) (j : Fin 256), v423 (ix2 r j) = Cert.StepMix.la A (sq r) (ps r) j)

include hla

theorem sw_at {v440 v444 : Vec Ideal S1x256 .f32} (hlg : ∀ j : Fin 256, v440 (ix2 0 j) = A.lg (ix1 j))
    (hlb : ∀ j : Fin 256, v444 (ix2 0 j) = A.lb (ix1 j)) (r : Fin 128) (j : Fin 256) :
    k0_pay42 v423 v440 v444 (ix2 r j) = Cert.StepMix.sw A (sq r) (ps r) j := by
  pointwise [k0_pay42, hla, hlg, hlb, zsub]
  rfl

/-- What the body stores to the left half of the first result's block. -/
theorem na_at {v440 v444 v456 : Vec Ideal S1x256 .f32} (hlg : ∀ j : Fin 256, v440 (ix2 0 j) = A.lg (ix1 j))
    (hlb : ∀ j : Fin 256, v444 (ix2 0 j) = A.lb (ix1 j)) (hga : ∀ j : Fin 256, v456 (ix2 0 j) = A.ga (ix1 j))
    (r : Fin 128) (j : Fin 256) :
    k0_pay45 (k0_pay42 v423 v440 v444) (k0_pay43 v456) (k0_pay44 v423 v440 v444) (ix3 0 r j)
      = Cert.StepMix.na A (sq r) (ps r) j := by
  have h := sw_at hla hlg hlb
  unfold k0_pay44
  generalize k0_pay42 v423 v440 v444 = v455 at h ⊢
  pointwise [k0_pay45, k0_pay43, h, hga]
  rfl

end

/-- What the body stores to the right half of the first result's block. -/
theorem nb_at {A : Args} {v53 v478 v482 v487 : Vec Ideal S128x256 .f32} {v479 v483 v488 v493 : Vec Ideal S1x256 .f32}
    (hbg : ∀ (r : Fin 128) (j : Fin 256), v53 (ix2 r j) = Cert.StepMix.zc A 768 (by decide) (sq r) (ps r) j)
    (h0 : ∀ (r : Fin 128) (j : Fin 256), v478 (ix2 r j) = Cert.StepMix.xb A (sq r) (ps r).val j)
    (h1 : ∀ (r : Fin 128) (j : Fin 256), v482 (ix2 r j) = Cert.StepMix.xb A (sq r) (1 + (ps r).val) j)
    (h2 : ∀ (r : Fin 128) (j : Fin 256), v487 (ix2 r j) = Cert.StepMix.xb A (sq r) (2 + (ps r).val) j)
    (c0 : ∀ j : Fin 256, v479 (ix2 0 j) = A.bw (ix2 0 j)) (c1 : ∀ j : Fin 256, v483 (ix2 0 j) = A.bw (ix2 1 j))
    (c2 : ∀ j : Fin 256, v488 (ix2 0 j) = A.bw (ix2 2 j)) (hgb : ∀ j : Fin 256, v493 (ix2 0 j) = A.gb (ix1 j))
    (r : Fin 128) (j : Fin 256) :
    k0_pay1 (k0_pay47 v53 v478 v479 v482 v483 v487 v488) (k0_pay48 v493) (k0_pay49 v53 v478 v479 v482 v483 v487 v488)
      (Scalar.ofBits .f32 0x358637BD#32) (ix3 0 r j) = Cert.StepMix.nb A (sq r) (ps r) j := by
  have h : ∀ (r : Fin 128) (j : Fin 256),
      k0_pay47 v53 v478 v479 v482 v483 v487 v488 (ix2 r j) = Cert.StepMix.bo A (sq r) (ps r) j := fun r j => by
    pointwise [k0_pay47, hbg, h0, h1, h2, c0, c1, c2]
    rfl
  unfold k0_pay49
  generalize k0_pay47 v53 v478 v479 v482 v483 v487 v488 = v492 at h ⊢
  pointwise [k0_pay1, k0_pay48, h, hgb]
  rfl

end Cert.Kernel5Ideal.Hand

end
-- ==== Proof.StepMixBlocks.lean ====
module

public import proofs.«01_k».proof.Proof.StepMixRows

/-! The blocks of the kernel's windows at the grid's one point, as rows of the argument arrays. -/

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Hand

open Cert.Kernel5Ideal Cert.Kernel5Ideal.Gen
open Cert.StepMix (Args)
open Cert.Step (sq ps tm)

variable (m : (ℓ : Loc nD τ sig) → Buf (Elt Ideal) ℓ)

/-- The argument arrays in memory. -/
def argsOf (c : Dev nD) : Args where
  x := m ((c : Thread nD τ).loc main_arg0)
  mod := m ((c : Thread nD τ).loc main_arg1)
  sa := m ((c : Thread nD τ).loc main_arg2)
  sb := m ((c : Thread nD τ).loc main_arg3)
  gp := m ((c : Thread nD τ).loc main_arg4)
  wi := m ((c : Thread nD τ).loc main_arg5)
  aw := m ((c : Thread nD τ).loc main_arg6)
  ab := m ((c : Thread nD τ).loc main_arg7)
  lg := m ((c : Thread nD τ).loc main_arg8)
  lb := m ((c : Thread nD τ).loc main_arg9)
  bw := m ((c : Thread nD τ).loc main_arg10)
  ga := m ((c : Thread nD τ).loc main_arg11)
  gb := m ((c : Thread nD τ).loc main_arg12)

/-- Every window's block index at the grid's one point. -/
theorem idx : ∀ t : Fin cfg0.N, win0_0.index t = ![0, 0, 0]
    ∧ win0_1.index t = ![0, 0, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0, 0]
    ∧ win0_12.index t = ![0, 0, 0]
    ∧ win0_13.index t = ![0, 0, 0]
    ∧ win0_14.index t = ![0, 0, 0, 0]
    ∧ win0_15.index t = ![0, 0, 0, 0]
    ∧ win0_16.index t = ![0, 0, 0, 0]
    ∧ win0_17.index t = ![0, 0, 0]
    ∧ win0_18.index t = ![0, 0, 0] :=
  (by decide +kernel : ∀ t : Fin grid0.N, _)

theorem v1_at (c : Dev nD) (r : Fin 128) (k : Fin 1024) :
    (V m c main_v1 : FVec Ideal S1x128x1024 .f32) (ix3 0 r k) = (argsOf m c).x (ix3 (sq r) (ps r) k) := by
  show StableHlo.after [hostOps0, hostOps0_1, hostOps0_2, hostOps0_3].flatten _ _ _ = _
  simp only [hostOps0, hostOps0_1, hostOps0_2, hostOps0_3, List.flatten_cons, List.flatten_nil, List.append_nil, List.cons_append,
    List.nil_append]
  entry_read
  pointwise []
  rfl

theorem v8_at (c : Dev nD) (g : Fin 6) (r : Fin 128) (k : Fin 1024) :
    (V m c main_v8 : FVec Ideal S1x6x128x1024 .f32) (ix4 0 g r k)
      = (argsOf m c).mod (ix2 (sq r) ⟨g.val * 1024 + k.val, by have := k.isLt; have := g.isLt; omega⟩) := by
  show StableHlo.after [hostOps0, hostOps0_1, hostOps0_2, hostOps0_3].flatten _ _ _ = _
  simp only [hostOps0, hostOps0_1, hostOps0_2, hostOps0_3, List.flatten_cons, List.flatten_nil, List.append_nil, List.cons_append,
    List.nil_append]
  entry_read
  pointwise []
  rfl

/-- Padding by nothing on every side. -/
theorem pad_none_a (x : FVec Ideal S1x960x256 .f32) (v : FVec Ideal S_ .f32) (s : Fin 960) (j : Fin 256) :
    (pad S1x960x256 ![0, 0, 0] ![0, 0, 0] ![0, 0, 0] x v pads_S1x960x256_S1x960x256_000_000_000 h_S_ : FVec Ideal S1x960x256 .f32) (ix3 0 s j)
      = x (ix3 0 s j) := by
  pointwise []

theorem pad_none_b (x : FVec Ideal S1x64x256 .f32) (v : FVec Ideal S_ .f32) (s : Fin 64) (j : Fin 256) :
    (pad S1x64x256 ![0, 0, 0] ![0, 0, 0] ![0, 0, 0] x v pads_S1x64x256_S1x64x256_000_000_000 h_S_ : FVec Ideal S1x64x256 .f32) (ix3 0 s j)
      = x (ix3 0 s j) := by
  pointwise []

theorem v19_at (c : Dev nD) (s : Fin 960) (j : Fin 256) :
    (V m c main_v19 : FVec Ideal S1x960x256 .f32) (ix3 0 s j)
      = (argsOf m c).sa (ix3 (sq s) ⟨s.val / 32, by have := s.isLt; omega⟩ j) := by
  show StableHlo.after [hostOps0, hostOps0_1, hostOps0_2, hostOps0_3].flatten _ _ _ = _
  simp only [hostOps0, hostOps0_1, hostOps0_2, hostOps0_3, List.flatten_cons, List.flatten_nil, List.append_nil, List.cons_append,
    List.nil_append]
  entry_read
  refine (pad_none_a _ _ s j).trans ?_
  show (shapeCast S1x960x256 (transpose S30x32x256 [1, 0, 2] (m (c, Proc.tc.devRef main_arg2) : FVec Ideal S32x30x256 .f32)
    transposes_S32x30x256_S30x32x256_1_0_2) shapeCasts_S30x32x256_S1x960x256 : FVec Ideal S1x960x256 .f32) (ix3 0 s j) = _
  pointwise []
  rfl

theorem v22_at (c : Dev nD) (s : Fin 64) (j : Fin 256) :
    (V m c main_v22 : FVec Ideal S1x64x256 .f32) (ix3 0 s j)
      = (argsOf m c).sb (ix3 (sq s) ⟨s.val / 32, by have := s.isLt; omega⟩ j) := by
  show StableHlo.after [hostOps0, hostOps0_1, hostOps0_2, hostOps0_3].flatten _ _ _ = _
  simp only [hostOps0, hostOps0_1, hostOps0_2, hostOps0_3, List.flatten_cons, List.flatten_nil, List.append_nil, List.cons_append,
    List.nil_append]
  entry_read
  refine (pad_none_b _ _ s j).trans ?_
  show (shapeCast S1x64x256 (transpose S2x32x256 [1, 0, 2] (m (c, Proc.tc.devRef main_arg3) : FVec Ideal S32x2x256 .f32)
    transposes_S32x2x256_S2x32x256_1_0_2) shapeCasts_S2x32x256_S1x64x256 : FVec Ideal S1x64x256 .f32) (ix3 0 s j) = _
  pointwise []
  rfl

theorem v10_at (c : Dev nD) (k : Fin 1024) (j : Fin 2816) :
    (V m c main_v10 : FVec Ideal S1024x2816 .bf16) (ix2 k j) = (argsOf m c).wi (ix2 k j) := by
  show StableHlo.after [hostOps0, hostOps0_1, hostOps0_2, hostOps0_3].flatten _ _ _ = _
  simp only [hostOps0, hostOps0_1, hostOps0_2, hostOps0_3, List.flatten_cons, List.flatten_nil, List.append_nil, List.cons_append,
    List.nil_append]
  entry_read
  pointwise []
  rfl

theorem v9_at (c : Dev nD) (k : Fin 1024) :
    (V m c main_v9 : FVec Ideal S1x1024 .f32) (ix2 0 k) = (argsOf m c).gp (ix1 k) := by
  show StableHlo.after [hostOps0, hostOps0_1, hostOps0_2, hostOps0_3].flatten _ _ _ = _
  simp only [hostOps0, hostOps0_1, hostOps0_2, hostOps0_3, List.flatten_cons, List.flatten_nil, List.append_nil, List.cons_append,
    List.nil_append]
  entry_read
  pointwise []
  rfl

theorem v11_at (c : Dev nD) (k : Fin 256) :
    (V m c main_v11 : FVec Ideal S1x256 .f32) (ix2 0 k) = (argsOf m c).ab (ix1 k) := by
  show StableHlo.after [hostOps0, hostOps0_1, hostOps0_2, hostOps0_3].flatten _ _ _ = _
  simp only [hostOps0, hostOps0_1, hostOps0_2, hostOps0_3, List.flatten_cons, List.flatten_nil, List.append_nil, List.cons_append,
    List.nil_append]
  entry_read
  pointwise []
  rfl

theorem v12_at (c : Dev nD) (k : Fin 256) :
    (V m c main_v12 : FVec Ideal S1x256 .f32) (ix2 0 k) = (argsOf m c).lg (ix1 k) := by
  show StableHlo.after [hostOps0, hostOps0_1, hostOps0_2, hostOps0_3].flatten _ _ _ = _
  simp only [hostOps0, hostOps0_1, hostOps0_2, hostOps0_3, List.flatten_cons, List.flatten_nil, List.append_nil, List.cons_append,
    List.nil_append]
  entry_read
  pointwise []
  rfl

theorem v13_at (c : Dev nD) (k : Fin 256) :
    (V m c main_v13 : FVec Ideal S1x256 .f32) (ix2 0 k) = (argsOf m c).lb (ix1 k) := by
  show StableHlo.after [hostOps0, hostOps0_1, hostOps0_2, hostOps0_3].flatten _ _ _ = _
  simp only [hostOps0, hostOps0_1, hostOps0_2, hostOps0_3, List.flatten_cons, List.flatten_nil, List.append_nil, List.cons_append,
    List.nil_append]
  entry_read
  pointwise []
  rfl

theorem v14_at (c : Dev nD) (k : Fin 256) :
    (V m c main_v14 : FVec Ideal S1x256 .f32) (ix2 0 k) = (argsOf m c).ga (ix1 k) := by
  show StableHlo.after [hostOps0, hostOps0_1, hostOps0_2, hostOps0_3].flatten _ _ _ = _
  simp only [hostOps0, hostOps0_1, hostOps0_2, hostOps0_3, List.flatten_cons, List.flatten_nil, List.append_nil, List.cons_append,
    List.nil_append]
  entry_read
  pointwise []
  rfl

theorem v15_at (c : Dev nD) (k : Fin 256) :
    (V m c main_v15 : FVec Ideal S1x256 .f32) (ix2 0 k) = (argsOf m c).gb (ix1 k) := by
  show StableHlo.after [hostOps0, hostOps0_1, hostOps0_2, hostOps0_3].flatten _ _ _ = _
  simp only [hostOps0, hostOps0_1, hostOps0_2, hostOps0_3, List.flatten_cons, List.flatten_nil, List.append_nil, List.cons_append,
    List.nil_append]
  entry_read
  pointwise []
  rfl

theorem blk0 (c : Dev nD) (t : Fin cfg0.N) (r : Fin 128) (k : Fin 1024) :
    (iblk m c 0 t : FVec Ideal S1x128x1024 .f32) (ix3 0 r k) = (argsOf m c).x (ix3 (sq r) (ps r) k) := by
  refine Eq.trans ?_ (v1_at m c r k)
  unfold iblk
  blk_ext [idx t] <;> rfl

theorem blk1 (c : Dev nD) (t : Fin cfg0.N) (g : Fin 6) (r : Fin 128) (k : Fin 1024) :
    (iblk m c 1 t : FVec Ideal S1x6x128x1024 .f32) (ix4 0 g r k)
      = (argsOf m c).mod (ix2 (sq r) ⟨g.val * 1024 + k.val, by have := k.isLt; have := g.isLt; omega⟩) := by
  refine Eq.trans ?_ (v8_at m c g r k)
  unfold iblk
  blk_ext [idx t] <;> rfl

theorem blk3 (c : Dev nD) (t : Fin cfg0.N) (k : Fin 1024) (j : Fin 2816) :
    (iblk m c 3 t : FVec Ideal S1024x2816 .bf16) (ix2 k j) = (argsOf m c).wi (ix2 k j) := by
  refine Eq.trans ?_ (v10_at m c k j)
  unfold iblk
  blk_ext [idx t]

theorem blk11 (c : Dev nD) (t : Fin cfg0.N) (s : Fin 960) (j : Fin 256) :
    (iblk m c 11 t : FVec Ideal S1x960x256 .f32) (ix3 0 s j)
      = (argsOf m c).sa (ix3 (sq s) ⟨s.val / 32, by have := s.isLt; omega⟩ j) := by
  refine Eq.trans ?_ (v19_at m c s j)
  unfold iblk
  blk_ext [idx t] <;> rfl

theorem blk12 (c : Dev nD) (t : Fin cfg0.N) (s : Fin 64) (j : Fin 256) :
    (iblk m c 12 t : FVec Ideal S1x64x256 .f32) (ix3 0 s j)
      = (argsOf m c).sb (ix3 (sq s) ⟨s.val / 32, by have := s.isLt; omega⟩ j) := by
  refine Eq.trans ?_ (v22_at m c s j)
  unfold iblk
  blk_ext [idx t] <;> rfl

theorem blk4 (c : Dev nD) (t : Fin cfg0.N) (k : Fin 31) (j : Fin 256) :
    (iblk m c 4 t : FVec Ideal S31x256 .f32) (ix2 k j) = (argsOf m c).aw (ix2 k j) := by
  unfold argsOf
  blk_ext [iblk, V, idx t]

theorem blk8 (c : Dev nD) (t : Fin cfg0.N) (k : Fin 3) (j : Fin 256) :
    (iblk m c 8 t : FVec Ideal S3x256 .f32) (ix2 k j) = (argsOf m c).bw (ix2 k j) := by
  unfold argsOf
  blk_ext [iblk, V, idx t]

theorem blk2 (c : Dev nD) (t : Fin cfg0.N) (k : Fin 1024) :
    (iblk m c 2 t : FVec Ideal S1x1024 .f32) (ix2 0 k) = (argsOf m c).gp (ix1 k) := by
  refine Eq.trans ?_ (v9_at m c k)
  unfold iblk
  blk_ext [idx t]

theorem blk5 (c : Dev nD) (t : Fin cfg0.N) (k : Fin 256) :
    (iblk m c 5 t : FVec Ideal S1x256 .f32) (ix2 0 k) = (argsOf m c).ab (ix1 k) := by
  refine Eq.trans ?_ (v11_at m c k)
  unfold iblk
  blk_ext [idx t]

theorem blk6 (c : Dev nD) (t : Fin cfg0.N) (k : Fin 256) :
    (iblk m c 6 t : FVec Ideal S1x256 .f32) (ix2 0 k) = (argsOf m c).lg (ix1 k) := by
  refine Eq.trans ?_ (v12_at m c k)
  unfold iblk
  blk_ext [idx t]

theorem blk7 (c : Dev nD) (t : Fin cfg0.N) (k : Fin 256) :
    (iblk m c 7 t : FVec Ideal S1x256 .f32) (ix2 0 k) = (argsOf m c).lb (ix1 k) := by
  refine Eq.trans ?_ (v13_at m c k)
  unfold iblk
  blk_ext [idx t]

theorem blk9 (c : Dev nD) (t : Fin cfg0.N) (k : Fin 256) :
    (iblk m c 9 t : FVec Ideal S1x256 .f32) (ix2 0 k) = (argsOf m c).ga (ix1 k) := by
  refine Eq.trans ?_ (v14_at m c k)
  unfold iblk
  blk_ext [idx t]

theorem blk10 (c : Dev nD) (t : Fin cfg0.N) (k : Fin 256) :
    (iblk m c 10 t : FVec Ideal S1x256 .f32) (ix2 0 k) = (argsOf m c).gb (ix1 k) := by
  refine Eq.trans ?_ (v15_at m c k)
  unfold iblk
  blk_ext [idx t]

/-- What the body loads are the time-major rows of the argument arrays. -/
theorem loads (c : Dev nD) (t : Fin cfg0.N) :
    Loads (argsOf m c)
      (iblk m c 0 t) (iblk m c 2 t)
      (View.ld (Val := Elt Ideal) (iblk m c 1 t) (Rect.unit ![0, 1, 0, 0] ![1, 1, 128, 1024] inb_S1x6x128x1024_S1x1x128x1024_0_1_0_0))
      (View.ld (Val := Elt Ideal) (iblk m c 1 t) (Rect.unit ![0, 0, 0, 0] ![1, 1, 128, 1024] inb_S1x6x128x1024_S1x1x128x1024_0_0_0_0))
      (View.ld (Val := Elt Ideal) (iblk m c 3 t) (Rect.unit ![0, 0] ![1024, 512] inb_S1024x2816_S1024x512_0_0))
      (View.ld (Val := Elt Ideal) (iblk m c 3 t) (Rect.unit ![0, 512] ![1024, 768] inb_S1024x2816_S1024x768_0_512))
      (View.ld (Val := Elt Ideal) (iblk m c 3 t) (Rect.unit ![0, 1280] ![1024, 512] inb_S1024x2816_S1024x512_0_1280))
      (View.ld (Val := Elt Ideal) (iblk m c 3 t) (Rect.unit ![0, 1792] ![1024, 512] inb_S1024x2816_S1024x512_0_1792))
      (View.ld (Val := Elt Ideal) (iblk m c 3 t) (Rect.unit ![0, 2304] ![1024, 512] inb_S1024x2816_S1024x512_0_2304)) where
  x := blk0 m c t
  gp := blk2 m c t
  m1 := fun r k => by
    pointwise []
    exact blk1 m c t 1 r k
  m0 := fun r k => by
    pointwise []
    exact (blk1 m c t 0 r k).trans (congrArg (fun q => (argsOf m c).mod (ix2 (sq r) q)) (Fin.ext (by simp)))
  wa := fun k j => by
    pointwise []
    exact blk3 m c t k _
  wb := fun k j => by
    pointwise []
    exact blk3 m c t k _
  wq := fun k j => by
    pointwise []
    exact blk3 m c t k _
  wk := fun k j => by
    pointwise []
    exact blk3 m c t k _
  wv := fun k j => by
    pointwise []
    exact blk3 m c t k _

end Cert.Kernel5Ideal.Hand

end
-- ==== Proof.StepMixValue.lean ====
module

public import proofs.«01_k».proof.Proof.StepMixBlocks
public import Idealize.ShloMosaic.Lib.WritesUnit
public import Idealize.ShloMosaic.Lib.Pipeline.ReadBack

/-! The value of the decoding step's input projection and convolutions: what the grid's one point leaves in its blocks,
    and the six result arrays. -/

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Hand

open Cert.Kernel5Ideal Cert.Kernel5Ideal.Gen
open Cert.StepMix (Args)
open Cert.Step (sq ps tm)

variable (m : (ℓ : Loc nD τ sig) → Buf (Elt Ideal) ℓ)

/-- A buffer's contents after a last write at a rectangle, at an index of the rectangle. -/
theorem canon_at {s : Shape} {e : EltTy} (r : Rect s) (w : r.shape.Idx → Elt Ideal e) (L : List (View.Piece (Elt Ideal) s e))
    {x : r.shape.Idx} {y : s.Idx} (h : r.emb x = y) : View.canon (Val := Elt Ideal) (⟨r, w⟩ :: L) y = w x := by
  subst h
  exact View.canon_cons_emb r w L x

/-- A load of what the writes left is a load of the contents they leave. -/
theorem readCov_ld {κ : Kind} {sp : Space} {s : Shape} {e : EltTy} (v : View sig κ sp s e) (L : List (View.Piece (Elt Ideal) s e)) (R : Rect s) :
    v.readCov L R.toLoadRect = View.ld (Val := Elt Ideal) (View.canon (Val := Elt Ideal) L) R :=
  View.readCov_eq_canon' v L R.toLoadRect

/-! ## The row buffer of the long convolution: the 960 stored rows, then the block's 128 rows -/

/-- The block's rows in the buffer. -/
abbrev AHi : Rect S1088x256 := Rect.unit ![960, 0] ![128, 256] inb_S1088x256_S128x256_960_0
/-- The stored rows in the buffer. -/
abbrev ALo : Rect S1088x256 := Rect.unit ![0, 0] ![960, 256] inb_S1088x256_S960x256_0_0

theorem emb_hiA (r : Fin 128) (j : Fin 256) :
    AHi.emb (ix2 r j) = (ix2 ⟨960 + r.val, by have := r.isLt; omega⟩ j : S1088x256.Idx) := by
  funext a
  apply Fin.ext
  fin_cases a
  · show 960 + 1 * r.val = 960 + r.val; omega
  · show 0 + 1 * j.val = j.val; omega

theorem emb_loA (s : Fin 960) (j : Fin 256) :
    ALo.emb (ix2 s j) = (ix2 ⟨s.val, by have := s.isLt; omega⟩ j : S1088x256.Idx) := by
  funext a
  apply Fin.ext
  fin_cases a
  · show 0 + 1 * s.val = s.val; omega
  · show 0 + 1 * j.val = j.val; omega

theorem lo_not_hiA (s : Fin 960) (j : Fin 256) : (ix2 ⟨s.val, by have := s.isLt; omega⟩ j : S1088x256.Idx) ∉ AHi.set := by
  rw [Rect.mem_set_unit]
  intro h
  have h0 := (h 0).1
  have : 960 ≤ s.val := h0
  have := s.isLt
  omega

theorem canon_hiA (w : AHi.shape.Idx → Elt Ideal .f32) (L : List (View.Piece (Elt Ideal) S1088x256 .f32)) (r : Fin 128) (j : Fin 256) :
    View.canon (Val := Elt Ideal) (s := S1088x256) (e := .f32) (⟨AHi, w⟩ :: L) (ix2 ⟨960 + r.val, by have := r.isLt; omega⟩ j) = w (ix2 r j) := by
  have h := canon_at AHi w L (emb_hiA r j)
  exact h

theorem canon_firstA (w : ALo.shape.Idx → Elt Ideal .f32) (L : List (View.Piece (Elt Ideal) S1088x256 .f32)) (s : Fin 960) (j : Fin 256) :
    View.canon (Val := Elt Ideal) (s := S1088x256) (e := .f32) (⟨ALo, w⟩ :: L) (ix2 ⟨s.val, by have := s.isLt; omega⟩ j) = w (ix2 s j) := by
  have h := canon_at ALo w L (emb_loA s j)
  exact h

theorem canon_skipA (w : FVec Ideal S128x256 .f32) (L : List (View.Piece (Elt Ideal) S1088x256 .f32)) (s : Fin 960) (j : Fin 256) :
    View.canon (Val := Elt Ideal) (s := S1088x256) (e := .f32) (⟨AHi, w⟩ :: L) (ix2 ⟨s.val, by have := s.isLt; omega⟩ j)
      = View.canon (Val := Elt Ideal) (s := S1088x256) (e := .f32) L (ix2 ⟨s.val, by have := s.isLt; omega⟩ j) :=
  View.canon_cons_of_not_mem _ L (lo_not_hiA s j)

theorem canon_loA (w : FVec Ideal S128x256 .f32) (w' : ALo.shape.Idx → Elt Ideal .f32) (s : Fin 960) (j : Fin 256) :
    View.canon (Val := Elt Ideal) (s := S1088x256) (e := .f32) [⟨AHi, w⟩, ⟨ALo, w'⟩] (ix2 ⟨s.val, by have := s.isLt; omega⟩ j) = w' (ix2 s j) :=
  (canon_skipA w _ s j).trans (canon_firstA w' [] s j)

/-- A row buffer with the stored rows above the block's rows holds the padded rows, time-major. -/
theorem rowsA {A : Args} {w : AHi.shape.Idx → Elt Ideal .f32} {w' : ALo.shape.Idx → Elt Ideal .f32}
    (hi : ∀ (r : Fin 128) (j : Fin 256), w (ix2 r j) = Cert.StepMix.aa A (sq r) (ps r) j)
    (lo : ∀ (s : Fin 960) (j : Fin 256), w' (ix2 s j) = A.sa (ix3 (sq s) ⟨s.val / 32, by have := s.isLt; omega⟩ j))
    (s : Fin 1088) (j : Fin 256) :
    View.canon (Val := Elt Ideal) (s := S1088x256) (e := .f32) [⟨AHi, w⟩, ⟨ALo, w'⟩] (ix2 s j)
      = Cert.StepMix.xa A (sq s) (s.val / 32) j := by
  have hs := s.isLt
  unfold Cert.StepMix.xa
  by_cases h : s.val < 960
  · refine (canon_loA w w' ⟨s.val, h⟩ j).trans ((lo ⟨s.val, h⟩ j).trans ?_)
    rw [dif_pos (by omega)]
    rfl
  · refine Eq.trans (congrArg (fun q => View.canon (Val := Elt Ideal) (s := S1088x256) (e := .f32) [⟨AHi, w⟩, ⟨ALo, w'⟩] (ix2 q j))
      (Fin.ext (by show s.val = 960 + (s.val - 960); omega))) ((canon_hiA w [⟨ALo, w'⟩] ⟨s.val - 960, by omega⟩ j).trans ((hi ⟨s.val - 960, by omega⟩ j).trans ?_))
    rw [dif_neg (by omega), dif_pos (by omega)]
    exact congrArg₂ (fun b t => Cert.StepMix.aa A b t j) (Fin.ext (by show (s.val - 960) % 32 = s.val % 32; omega))
      (Fin.ext (by show (s.val - 960) / 32 = s.val / 32 - 30; omega))

/-! ## The row buffer of the short convolution: the 64 stored rows, then the block's 128 rows -/

/-- The block's rows in the buffer. -/
abbrev BHi : Rect S192x256 := Rect.unit ![64, 0] ![128, 256] inb_S192x256_S128x256_64_0
/-- The stored rows in the buffer. -/
abbrev BLo : Rect S192x256 := Rect.unit ![0, 0] ![64, 256] inb_S192x256_S64x256_0_0

theorem emb_hiB (r : Fin 128) (j : Fin 256) :
    BHi.emb (ix2 r j) = (ix2 ⟨64 + r.val, by have := r.isLt; omega⟩ j : S192x256.Idx) := by
  funext a
  apply Fin.ext
  fin_cases a
  · show 64 + 1 * r.val = 64 + r.val; omega
  · show 0 + 1 * j.val = j.val; omega

theorem emb_loB (s : Fin 64) (j : Fin 256) :
    BLo.emb (ix2 s j) = (ix2 ⟨s.val, by have := s.isLt; omega⟩ j : S192x256.Idx) := by
  funext a
  apply Fin.ext
  fin_cases a
  · show 0 + 1 * s.val = s.val; omega
  · show 0 + 1 * j.val = j.val; omega

theorem lo_not_hiB (s : Fin 64) (j : Fin 256) : (ix2 ⟨s.val, by have := s.isLt; omega⟩ j : S192x256.Idx) ∉ BHi.set := by
  rw [Rect.mem_set_unit]
  intro h
  have h0 := (h 0).1
  have : 64 ≤ s.val := h0
  have := s.isLt
  omega

theorem canon_hiB (w : BHi.shape.Idx → Elt Ideal .f32) (L : List (View.Piece (Elt Ideal) S192x256 .f32)) (r : Fin 128) (j : Fin 256) :
    View.canon (Val := Elt Ideal) (s := S192x256) (e := .f32) (⟨BHi, w⟩ :: L) (ix2 ⟨64 + r.val, by have := r.isLt; omega⟩ j) = w (ix2 r j) := by
  have h := canon_at BHi w L (emb_hiB r j)
  exact h

theorem canon_firstB (w : BLo.shape.Idx → Elt Ideal .f32) (L : List (View.Piece (Elt Ideal) S192x256 .f32)) (s : Fin 64) (j : Fin 256) :
    View.canon (Val := Elt Ideal) (s := S192x256) (e := .f32) (⟨BLo, w⟩ :: L) (ix2 ⟨s.val, by have := s.isLt; omega⟩ j) = w (ix2 s j) := by
  have h := canon_at BLo w L (emb_loB s j)
  exact h

theorem canon_skipB (w : FVec Ideal S128x256 .f32) (L : List (View.Piece (Elt Ideal) S192x256 .f32)) (s : Fin 64) (j : Fin 256) :
    View.canon (Val := Elt Ideal) (s := S192x256) (e := .f32) (⟨BHi, w⟩ :: L) (ix2 ⟨s.val, by have := s.isLt; omega⟩ j)
      = View.canon (Val := Elt Ideal) (s := S192x256) (e := .f32) L (ix2 ⟨s.val, by have := s.isLt; omega⟩ j) :=
  View.canon_cons_of_not_mem _ L (lo_not_hiB s j)

theorem canon_loB (w : FVec Ideal S128x256 .f32) (w' : BLo.shape.Idx → Elt Ideal .f32) (s : Fin 64) (j : Fin 256) :
    View.canon (Val := Elt Ideal) (s := S192x256) (e := .f32) [⟨BHi, w⟩, ⟨BLo, w'⟩] (ix2 ⟨s.val, by have := s.isLt; omega⟩ j) = w' (ix2 s j) :=
  (canon_skipB w _ s j).trans (canon_firstB w' [] s j)

/-- A row buffer with the stored rows above the block's rows holds the padded rows, time-major. -/
theorem rowsB {A : Args} {w : BHi.shape.Idx → Elt Ideal .f32} {w' : BLo.shape.Idx → Elt Ideal .f32}
    (hi : ∀ (r : Fin 128) (j : Fin 256), w (ix2 r j) = Cert.StepMix.ub A (sq r) (ps r) j)
    (lo : ∀ (s : Fin 64) (j : Fin 256), w' (ix2 s j) = A.sb (ix3 (sq s) ⟨s.val / 32, by have := s.isLt; omega⟩ j))
    (s : Fin 192) (j : Fin 256) :
    View.canon (Val := Elt Ideal) (s := S192x256) (e := .f32) [⟨BHi, w⟩, ⟨BLo, w'⟩] (ix2 s j)
      = Cert.StepMix.xb A (sq s) (s.val / 32) j := by
  have hs := s.isLt
  unfold Cert.StepMix.xb
  by_cases h : s.val < 64
  · refine (canon_loB w w' ⟨s.val, h⟩ j).trans ((lo ⟨s.val, h⟩ j).trans ?_)
    rw [dif_pos (by omega)]
    rfl
  · refine Eq.trans (congrArg (fun q => View.canon (Val := Elt Ideal) (s := S192x256) (e := .f32) [⟨BHi, w⟩, ⟨BLo, w'⟩] (ix2 q j))
      (Fin.ext (by show s.val = 64 + (s.val - 64); omega))) ((canon_hiB w [⟨BLo, w'⟩] ⟨s.val - 64, by omega⟩ j).trans ((hi ⟨s.val - 64, by omega⟩ j).trans ?_))
    rw [dif_neg (by omega), dif_pos (by omega)]
    exact congrArg₂ (fun b t => Cert.StepMix.ub A b t j) (Fin.ext (by show (s.val - 64) % 32 = s.val % 32; omega))
      (Fin.ext (by show (s.val - 64) / 32 = s.val / 32 - 2; omega))

/-! ## A block written pair of heads by pair of heads -/

/-- Pair 0 of heads in the block. -/
abbrev P0 : Rect S1x4x128x128 := Rect.unit ![0, 0, 0, 0] ![1, 1, 128, 128] inb_S1x4x128x128_S1x1x128x128_0_0_0_0

theorem emb_pair0 (r l : Fin 128) : P0.emb (ix4 0 0 r l) = (ix4 0 0 r l : S1x4x128x128.Idx) := by
  funext a
  apply Fin.ext
  fin_cases a
  · rfl
  · rfl
  · show 0 + 1 * r.val = r.val; omega
  · show 0 + 1 * l.val = l.val; omega

theorem canon_pair0 (w : P0.shape.Idx → Elt Ideal .f32) (L : List (View.Piece (Elt Ideal) S1x4x128x128 .f32)) (r l : Fin 128) :
    View.canon (Val := Elt Ideal) (s := S1x4x128x128) (e := .f32) (⟨P0, w⟩ :: L) (ix4 0 0 r l) = w (ix4 0 0 r l) := by
  have h := canon_at P0 w L (emb_pair0 r l)
  exact h

/-- Pair 1 of heads in the block. -/
abbrev P1 : Rect S1x4x128x128 := Rect.unit ![0, 1, 0, 0] ![1, 1, 128, 128] inb_S1x4x128x128_S1x1x128x128_0_1_0_0

theorem emb_pair1 (r l : Fin 128) : P1.emb (ix4 0 0 r l) = (ix4 0 1 r l : S1x4x128x128.Idx) := by
  funext a
  apply Fin.ext
  fin_cases a
  · rfl
  · rfl
  · show 0 + 1 * r.val = r.val; omega
  · show 0 + 1 * l.val = l.val; omega

theorem canon_pair1 (w : P1.shape.Idx → Elt Ideal .f32) (L : List (View.Piece (Elt Ideal) S1x4x128x128 .f32)) (r l : Fin 128) :
    View.canon (Val := Elt Ideal) (s := S1x4x128x128) (e := .f32) (⟨P1, w⟩ :: L) (ix4 0 1 r l) = w (ix4 0 0 r l) := by
  have h := canon_at P1 w L (emb_pair1 r l)
  exact h

theorem not_pair1 (g : Fin 4) (hg : g.val < 1) (r l : Fin 128) : (ix4 0 g r l : S1x4x128x128.Idx) ∉ P1.set := by
  rw [Rect.mem_set_unit]
  intro h
  have h0 : 1 ≤ g.val := (h 1).1
  omega

theorem canon_over1 (w : P1.shape.Idx → Elt Ideal .f32) (L : List (View.Piece (Elt Ideal) S1x4x128x128 .f32)) (g : Fin 4) (hg : g.val < 1)
    (r l : Fin 128) :
    View.canon (Val := Elt Ideal) (s := S1x4x128x128) (e := .f32) (⟨P1, w⟩ :: L) (ix4 0 g r l)
      = View.canon (Val := Elt Ideal) (s := S1x4x128x128) (e := .f32) L (ix4 0 g r l) :=
  View.canon_cons_of_not_mem _ L (not_pair1 g hg r l)

/-- Pair 2 of heads in the block. -/
abbrev P2 : Rect S1x4x128x128 := Rect.unit ![0, 2, 0, 0] ![1, 1, 128, 128] inb_S1x4x128x128_S1x1x128x128_0_2_0_0

theorem emb_pair2 (r l : Fin 128) : P2.emb (ix4 0 0 r l) = (ix4 0 2 r l : S1x4x128x128.Idx) := by
  funext a
  apply Fin.ext
  fin_cases a
  · rfl
  · rfl
  · show 0 + 1 * r.val = r.val; omega
  · show 0 + 1 * l.val = l.val; omega

theorem canon_pair2 (w : P2.shape.Idx → Elt Ideal .f32) (L : List (View.Piece (Elt Ideal) S1x4x128x128 .f32)) (r l : Fin 128) :
    View.canon (Val := Elt Ideal) (s := S1x4x128x128) (e := .f32) (⟨P2, w⟩ :: L) (ix4 0 2 r l) = w (ix4 0 0 r l) := by
  have h := canon_at P2 w L (emb_pair2 r l)
  exact h

theorem not_pair2 (g : Fin 4) (hg : g.val < 2) (r l : Fin 128) : (ix4 0 g r l : S1x4x128x128.Idx) ∉ P2.set := by
  rw [Rect.mem_set_unit]
  intro h
  have h0 : 2 ≤ g.val := (h 1).1
  omega

theorem canon_over2 (w : P2.shape.Idx → Elt Ideal .f32) (L : List (View.Piece (Elt Ideal) S1x4x128x128 .f32)) (g : Fin 4) (hg : g.val < 2)
    (r l : Fin 128) :
    View.canon (Val := Elt Ideal) (s := S1x4x128x128) (e := .f32) (⟨P2, w⟩ :: L) (ix4 0 g r l)
      = View.canon (Val := Elt Ideal) (s := S1x4x128x128) (e := .f32) L (ix4 0 g r l) :=
  View.canon_cons_of_not_mem _ L (not_pair2 g hg r l)

/-- Pair 3 of heads in the block. -/
abbrev P3 : Rect S1x4x128x128 := Rect.unit ![0, 3, 0, 0] ![1, 1, 128, 128] inb_S1x4x128x128_S1x1x128x128_0_3_0_0

theorem emb_pair3 (r l : Fin 128) : P3.emb (ix4 0 0 r l) = (ix4 0 3 r l : S1x4x128x128.Idx) := by
  funext a
  apply Fin.ext
  fin_cases a
  · rfl
  · rfl
  · show 0 + 1 * r.val = r.val; omega
  · show 0 + 1 * l.val = l.val; omega

theorem canon_pair3 (w : P3.shape.Idx → Elt Ideal .f32) (L : List (View.Piece (Elt Ideal) S1x4x128x128 .f32)) (r l : Fin 128) :
    View.canon (Val := Elt Ideal) (s := S1x4x128x128) (e := .f32) (⟨P3, w⟩ :: L) (ix4 0 3 r l) = w (ix4 0 0 r l) := by
  have h := canon_at P3 w L (emb_pair3 r l)
  exact h

theorem not_pair3 (g : Fin 4) (hg : g.val < 3) (r l : Fin 128) : (ix4 0 g r l : S1x4x128x128.Idx) ∉ P3.set := by
  rw [Rect.mem_set_unit]
  intro h
  have h0 : 3 ≤ g.val := (h 1).1
  omega

theorem canon_over3 (w : P3.shape.Idx → Elt Ideal .f32) (L : List (View.Piece (Elt Ideal) S1x4x128x128 .f32)) (g : Fin 4) (hg : g.val < 3)
    (r l : Fin 128) :
    View.canon (Val := Elt Ideal) (s := S1x4x128x128) (e := .f32) (⟨P3, w⟩ :: L) (ix4 0 g r l)
      = View.canon (Val := Elt Ideal) (s := S1x4x128x128) (e := .f32) L (ix4 0 g r l) :=
  View.canon_cons_of_not_mem _ L (not_pair3 g hg r l)

/-- A block written pair of heads by pair of heads. -/
theorem quad_at (w3 : P3.shape.Idx → Elt Ideal .f32) (w2 : P2.shape.Idx → Elt Ideal .f32) (w1 : P1.shape.Idx → Elt Ideal .f32)
    (w0 : P0.shape.Idx → Elt Ideal .f32) {f : Fin 4 → Fin 128 → Fin 128 → EReal}
    (h3 : ∀ r l, w3 (ix4 0 0 r l) = f 3 r l) (h2 : ∀ r l, w2 (ix4 0 0 r l) = f 2 r l)
    (h1 : ∀ r l, w1 (ix4 0 0 r l) = f 1 r l) (h0 : ∀ r l, w0 (ix4 0 0 r l) = f 0 r l)
    (g : Fin 4) (r l : Fin 128) :
    View.canon (Val := Elt Ideal) (s := S1x4x128x128) (e := .f32) [⟨P3, w3⟩, ⟨P2, w2⟩, ⟨P1, w1⟩, ⟨P0, w0⟩] (ix4 0 g r l) = f g r l := by
  have hg : g = 3 ∨ g = 2 ∨ g = 1 ∨ g = 0 := by omega
  rcases hg with rfl | rfl | rfl | rfl
  · rw [canon_pair3]; exact h3 r l
  · rw [canon_over3 _ _ _ (by decide), canon_pair2]; exact h2 r l
  · rw [canon_over3 _ _ _ (by decide), canon_over2 _ _ _ (by decide), canon_pair1]; exact h1 r l
  · rw [canon_over3 _ _ _ (by decide), canon_over2 _ _ _ (by decide), canon_over1 _ _ _ (by decide), canon_pair0]; exact h0 r l

/-! ## A block written in two halves of its columns -/

/-- The right half of the first result's block. -/
abbrev HR : Rect S1x128x512 := Rect.unit ![0, 0, 256] ![1, 128, 256] inb_S1x128x512_S1x128x256_0_0_256
/-- The left half of the first result's block. -/
abbrev HL : Rect S1x128x512 := Rect.unit ![0, 0, 0] ![1, 128, 256] inb_S1x128x512_S1x128x256_0_0_0

theorem canon_right (w : HR.shape.Idx → Elt Ideal .bf16) (L : List (View.Piece (Elt Ideal) S1x128x512 .bf16)) (r : Fin 128) (j : Fin 512)
    (hj : ¬ j.val < 256) :
    View.canon (Val := Elt Ideal) (s := S1x128x512) (e := .bf16) (⟨HR, w⟩ :: L) (ix3 0 r j)
      = w (ix3 0 r ⟨j.val - 256, by have := j.isLt; show j.val - 256 < 256; omega⟩) := by
  refine canon_at HR w L ?_
  funext a
  apply Fin.ext
  fin_cases a
  · rfl
  · show 0 + 1 * r.val = r.val; omega
  · show 256 + 1 * (j.val - 256) = j.val; omega

theorem canon_left (w : HR.shape.Idx → Elt Ideal .bf16) (w' : HL.shape.Idx → Elt Ideal .bf16) (L : List (View.Piece (Elt Ideal) S1x128x512 .bf16))
    (r : Fin 128) (j : Fin 512) (hj : j.val < 256) :
    View.canon (Val := Elt Ideal) (s := S1x128x512) (e := .bf16) (⟨HR, w⟩ :: ⟨HL, w'⟩ :: L) (ix3 0 r j) = w' (ix3 0 r ⟨j.val, hj⟩) := by
  refine (View.canon_cons_of_not_mem _ _ ?_).trans (canon_at HL w' L ?_)
  · show (ix3 0 r j : S1x128x512.Idx) ∉ HR.set
    rw [Rect.mem_set_unit]
    intro h
    have h0 : 256 ≤ j.val := (h 2).1
    omega
  · funext a
    apply Fin.ext
    fin_cases a
    · rfl
    · show 0 + 1 * r.val = r.val; omega
    · show 0 + 1 * j.val = j.val; omega

/-! ## What the grid's point leaves -/

theorem sa_at (c : Dev nD) (t : Fin cfg0.N) (s : Fin 960) (j : Fin 256) :
    (k0_pay3 (iblk m c 11 t) : FVec Ideal S960x256 .f32) (ix2 s j)
      = (argsOf m c).sa (ix3 (sq s) ⟨s.val / 32, by have := s.isLt; omega⟩ j) := by
  unfold k0_pay3
  pointwise []
  exact blk11 m c t s j

theorem sb_at (c : Dev nD) (t : Fin cfg0.N) (s : Fin 64) (j : Fin 256) :
    (k0_pay4 (iblk m c 12 t) : FVec Ideal S64x256 .f32) (ix2 s j)
      = (argsOf m c).sb (ix3 (sq s) ⟨s.val / 32, by have := s.isLt; omega⟩ j) := by
  unfold k0_pay4
  pointwise []
  exact blk12 m c t s j

/-- From a buffer of the padded rows, the body's convolution with its bias. -/
theorem la_at {A : Args} (B : Vec Ideal S1088x256 .f32) (W : Vec Ideal S31x256 .f32) {ab : Vec Ideal S1x256 .f32}
    (hB : ∀ (s : Fin 1088) (j : Fin 256), B (ix2 s j) = Cert.StepMix.xa A (sq s) (s.val / 32) j)
    (hW : ∀ (k : Fin 31) (j : Fin 256), W (ix2 k j) = A.aw (ix2 k j)) (hab : ∀ j : Fin 256, ab (ix2 0 j) = A.ab (ix1 j))
    (r : Fin 128) (j : Fin 256) :
    conv B W ab (ix2 r j) = Cert.StepMix.la A (sq r) (ps r) j := by
  refine (conv_at B W (β := fun n j => Cert.StepMix.xa A ⟨n % 32, Nat.mod_lt _ (by decide)⟩ (n / 32) j) (ω := Cert.StepMix.wa A)
    (fun s j => hB s j) (fun k j => ?_) r j).trans ?_
  · unfold Cert.StepMix.wa
    rw [dif_pos k.isLt]
    exact hW k j
  · rw [hab]
    unfold Cert.StepMix.la Cert.StepMix.ca
    refine congrArg (· + A.ab (ix1 j)) (Finset.sum_congr rfl fun k _ => congrArg (· * Cert.StepMix.wa A k.val j) ?_)
    exact congrArg₂ (fun b t => Cert.StepMix.xa A b t j) (Fin.ext (by show (32 * k.val + r.val) % 32 = r.val % 32; omega))
      (by show (32 * k.val + r.val) / 32 = k.val + r.val / 32; omega)

/-- The first result's block. -/
theorem mix_pt (c : Dev nD) (t : Fin cfg0.N) (r : Fin 128) (j : Fin 512) :
    ((outsAt0 m c t).1 : FVec Ideal S1x128x512 .bf16) (ix3 0 r j) = Cert.StepMix.mixab (argsOf m c) (sq r) (ps r) j := by
  unfold outsAt0
  frame_out
  unfold Cert.StepMix.mixab
  by_cases hj : j.val < 256
  · rw [dif_pos hj]
    refine (canon_left _ _ _ r j hj).trans ?_
    simp only [readCov_ld]
    generalize e : (View.canon (Val := Elt Ideal) (s := S1088x256) (e := .f32) [⟨AHi, _⟩, ⟨ALo, _⟩]) = B
    have hB : ∀ (s : Fin 1088) (j : Fin 256), B (ix2 s j) = Cert.StepMix.xa (argsOf m c) (sq s) (s.val / 32) j := fun s j => by
      rw [← e]
      exact rowsA (aa_at (loads m c t)) (sa_at m c t) s j
    exact na_at (la_at B (iblk m c 4 t) hB (blk4 m c t) (blk5 m c t)) (blk6 m c t) (blk7 m c t) (blk9 m c t) r ⟨j.val, hj⟩
  · rw [dif_neg hj]
    refine (canon_right _ _ r j hj).trans ?_
    simp only [readCov_ld]
    generalize e : (View.canon (Val := Elt Ideal) (s := S192x256) (e := .f32) [⟨BHi, _⟩, ⟨BLo, _⟩]) = B
    have hB : ∀ (s : Fin 192) (j : Fin 256), B (ix2 s j) = Cert.StepMix.xb (argsOf m c) (sq s) (s.val / 32) j := fun s j => by
      rw [← e]
      exact rowsB (ub_at (loads m c t)) (sb_at m c t) s j
    refine nb_at (bg_at (loads m c t)) ?_ ?_ ?_ ?_ ?_ ?_ (blk10 m c t) r _
    · intro r j
      pointwise []
      exact hB ⟨r.val, by have := r.isLt; omega⟩ j
    · intro r j
      pointwise []
      refine (hB ⟨32 + r.val, by have := r.isLt; omega⟩ j).trans ?_
      exact congrArg₂ (fun b t => Cert.StepMix.xb (argsOf m c) b t j) (Fin.ext (by show (32 + r.val) % 32 = r.val % 32; omega))
        (by show (32 + r.val) / 32 = 1 + r.val / 32; omega)
    · intro r j
      pointwise []
      refine (hB ⟨64 + r.val, by have := r.isLt; omega⟩ j).trans ?_
      exact congrArg₂ (fun b t => Cert.StepMix.xb (argsOf m c) b t j) (Fin.ext (by show (64 + r.val) % 32 = r.val % 32; omega))
        (by show (64 + r.val) / 32 = 2 + r.val / 32; omega)
    · intro j
      pointwise []
      exact blk8 m c t 0 j
    · intro j
      pointwise []
      exact blk8 m c t 1 j
    · intro j
      pointwise []
      exact blk8 m c t 2 j

theorem q_pt (c : Dev nD) (t : Fin cfg0.N) (g : Fin 4) (r l : Fin 128) :
    ((outsAt0 m c t).2.1 : FVec Ideal S1x4x128x128 .f32) (ix4 0 g r l) = Cert.StepMix.pairs (argsOf m c) 1280 (by decide) g r l := by
  have h := q_at (loads m c t)
  unfold outsAt0
  frame_out
  refine quad_at _ _ _ _ (f := fun g r l => Cert.StepMix.pairs (argsOf m c) 1280 (by decide) g r l) ?_ ?_ ?_ ?_ g r l <;>
    (intro r l; pointwise [k0_pay17, k0_pay18, k0_pay19, k0_pay20, k0_pay21]; refine (h r _).trans (congrArg (Cert.StepMix.zz _ _ _) (Fin.ext ?_)); first | rfl | (simp; done) | (simp; omega))

theorem k_pt (c : Dev nD) (t : Fin cfg0.N) (g : Fin 4) (r l : Fin 128) :
    ((outsAt0 m c t).2.2.1 : FVec Ideal S1x4x128x128 .f32) (ix4 0 g r l) = Cert.StepMix.pairs (argsOf m c) 1792 (by decide) g r l := by
  have h := k_at (loads m c t)
  unfold outsAt0
  frame_out
  refine quad_at _ _ _ _ (f := fun g r l => Cert.StepMix.pairs (argsOf m c) 1792 (by decide) g r l) ?_ ?_ ?_ ?_ g r l <;>
    (intro r l; pointwise [k0_pay22, k0_pay23, k0_pay24, k0_pay25]; refine (h r _).trans (congrArg (Cert.StepMix.zz _ _ _) (Fin.ext ?_)); first | rfl | (simp; done) | (simp; omega))

theorem v_pt (c : Dev nD) (t : Fin cfg0.N) (g : Fin 4) (r l : Fin 128) :
    ((outsAt0 m c t).2.2.2.1 : FVec Ideal S1x4x128x128 .f32) (ix4 0 g r l) = Cert.StepMix.pairs (argsOf m c) 2304 (by decide) g r l := by
  have h := v_at (loads m c t)
  unfold outsAt0
  frame_out
  refine quad_at _ _ _ _ (f := fun g r l => Cert.StepMix.pairs (argsOf m c) 2304 (by decide) g r l) ?_ ?_ ?_ ?_ g r l <;>
    (intro r l; pointwise [k0_pay26, k0_pay27, k0_pay28, k0_pay29]; refine (h r _).trans (congrArg (Cert.StepMix.zz _ _ _) (Fin.ext ?_)); first | rfl | (simp; done) | (simp; omega))

theorem newa_pt (c : Dev nD) (t : Fin cfg0.N) (s : Fin 960) (j : Fin 256) :
    ((outsAt0 m c t).2.2.2.2.1 : FVec Ideal S1x960x256 .f32) (ix3 0 s j) = Cert.StepMix.newa (argsOf m c) s j := by
  unfold outsAt0
  frame_out
  rw [readCov_ld]
  unfold k0_pay46
  pointwise []
  refine (rowsA (aa_at (loads m c t)) (sa_at m c t) ⟨128 + s.val, by have := s.isLt; omega⟩ j).trans ?_
  unfold Cert.StepMix.newa
  exact congrArg₂ (fun b q => Cert.StepMix.xa (argsOf m c) b q j) (Fin.ext (by show (128 + s.val) % 32 = s.val % 32; omega))
    (by show (128 + s.val) / 32 = 4 + s.val / 32; omega)

theorem newb_pt (c : Dev nD) (t : Fin cfg0.N) (s : Fin 64) (j : Fin 256) :
    ((outsAt0 m c t).2.2.2.2.2 : FVec Ideal S1x64x256 .f32) (ix3 0 s j) = Cert.StepMix.newb (argsOf m c) s j := by
  unfold outsAt0
  frame_out
  rw [readCov_ld]
  unfold k0_pay2
  pointwise []
  refine (rowsB (ub_at (loads m c t)) (sb_at m c t) ⟨128 + s.val, by have := s.isLt; omega⟩ j).trans ?_
  unfold Cert.StepMix.newb
  exact congrArg₂ (fun b q => Cert.StepMix.xb (argsOf m c) b q j) (Fin.ext (by show (128 + s.val) % 32 = s.val % 32; omega))
    (by show (128 + s.val) / 32 = 4 + s.val / 32; omega)

/-! ## The result arrays -/

theorem final_13 (c : Dev nD) : (dats m 0 c).arrAt 13 (cfgs 0).N
    = ((fun i => Cert.StepMix.mixab (argsOf m c) (sq (i 1 : Fin 128)) (ps (i 1)) (i 2)) : FVec Ideal S1x128x512 .bf16) := by
  refine (dats m 0 c).arrAt_eq_of_covers 13 _ (by decide +kernel) fun t hf y => ?_
  blk_simp; rw [after0_13]
  obtain ⟨r, j, rfl⟩ : ∃ (r : Fin 128) (j : Fin 512), y = (ix3 0 r j : S1x128x512.Idx) :=
    ⟨y 1, y 2, by
      funext a
      fin_cases a
      · exact Subsingleton.elim (α := Fin 1) _ _
      · rfl
      · rfl⟩
  refine (mix_pt m c t r j).trans ?_
  have hi : win0_13.index t = ![0, 0, 0] := by
    simp only [idx t]
  have e1 : (win0_13.blk t).view.emb (ix3 0 r j : S1x128x512.Idx) 1 = r := Fin.ext (by
    show win0_13.index t 1 * 128 + 1 * r.val = r.val
    rw [hi]; show 0 * 128 + 1 * r.val = r.val; omega)
  have e2 : (win0_13.blk t).view.emb (ix3 0 r j : S1x128x512.Idx) 2 = j := Fin.ext (by
    show win0_13.index t 2 * 512 + 1 * j.val = j.val
    rw [hi]; show 0 * 512 + 1 * j.val = j.val; omega)
  rw [e1, e2]
  rfl

theorem final_14 (c : Dev nD) : (dats m 0 c).arrAt 14 (cfgs 0).N
    = ((fun i => Cert.StepMix.pairs (argsOf m c) 1280 (by decide) (i 1) (i 2) (i 3)) : FVec Ideal S1x4x128x128 .f32) := by
  refine (dats m 0 c).arrAt_eq_of_covers 14 _ (by decide +kernel) fun t hf y => ?_
  blk_simp; rw [after0_14]
  obtain ⟨g, r, l, rfl⟩ : ∃ (g : Fin 4) (r l : Fin 128), y = (ix4 0 g r l : S1x4x128x128.Idx) :=
    ⟨y 1, y 2, y 3, by
      funext a
      fin_cases a
      · exact Subsingleton.elim (α := Fin 1) _ _
      · rfl
      · rfl
      · rfl⟩
  refine (q_pt m c t g r l).trans ?_
  have hi : win0_14.index t = ![0, 0, 0, 0] := by
    simp only [idx t]
  have e1 : (win0_14.blk t).view.emb (ix4 0 g r l : S1x4x128x128.Idx) 1 = g := Fin.ext (by
    show win0_14.index t 1 * 4 + 1 * g.val = g.val
    rw [hi]; show 0 * 4 + 1 * g.val = g.val; omega)
  have e2 : (win0_14.blk t).view.emb (ix4 0 g r l : S1x4x128x128.Idx) 2 = r := Fin.ext (by
    show win0_14.index t 2 * 128 + 1 * r.val = r.val
    rw [hi]; show 0 * 128 + 1 * r.val = r.val; omega)
  have e3 : (win0_14.blk t).view.emb (ix4 0 g r l : S1x4x128x128.Idx) 3 = l := Fin.ext (by
    show win0_14.index t 3 * 128 + 1 * l.val = l.val
    rw [hi]; show 0 * 128 + 1 * l.val = l.val; omega)
  rw [e1, e2, e3]

theorem final_15 (c : Dev nD) : (dats m 0 c).arrAt 15 (cfgs 0).N
    = ((fun i => Cert.StepMix.pairs (argsOf m c) 1792 (by decide) (i 1) (i 2) (i 3)) : FVec Ideal S1x4x128x128 .f32) := by
  refine (dats m 0 c).arrAt_eq_of_covers 15 _ (by decide +kernel) fun t hf y => ?_
  blk_simp; rw [after0_15]
  obtain ⟨g, r, l, rfl⟩ : ∃ (g : Fin 4) (r l : Fin 128), y = (ix4 0 g r l : S1x4x128x128.Idx) :=
    ⟨y 1, y 2, y 3, by
      funext a
      fin_cases a
      · exact Subsingleton.elim (α := Fin 1) _ _
      · rfl
      · rfl
      · rfl⟩
  refine (k_pt m c t g r l).trans ?_
  have hi : win0_15.index t = ![0, 0, 0, 0] := by
    simp only [idx t]
  have e1 : (win0_15.blk t).view.emb (ix4 0 g r l : S1x4x128x128.Idx) 1 = g := Fin.ext (by
    show win0_15.index t 1 * 4 + 1 * g.val = g.val
    rw [hi]; show 0 * 4 + 1 * g.val = g.val; omega)
  have e2 : (win0_15.blk t).view.emb (ix4 0 g r l : S1x4x128x128.Idx) 2 = r := Fin.ext (by
    show win0_15.index t 2 * 128 + 1 * r.val = r.val
    rw [hi]; show 0 * 128 + 1 * r.val = r.val; omega)
  have e3 : (win0_15.blk t).view.emb (ix4 0 g r l : S1x4x128x128.Idx) 3 = l := Fin.ext (by
    show win0_15.index t 3 * 128 + 1 * l.val = l.val
    rw [hi]; show 0 * 128 + 1 * l.val = l.val; omega)
  rw [e1, e2, e3]

theorem final_16 (c : Dev nD) : (dats m 0 c).arrAt 16 (cfgs 0).N
    = ((fun i => Cert.StepMix.pairs (argsOf m c) 2304 (by decide) (i 1) (i 2) (i 3)) : FVec Ideal S1x4x128x128 .f32) := by
  refine (dats m 0 c).arrAt_eq_of_covers 16 _ (by decide +kernel) fun t hf y => ?_
  blk_simp; rw [after0_16]
  obtain ⟨g, r, l, rfl⟩ : ∃ (g : Fin 4) (r l : Fin 128), y = (ix4 0 g r l : S1x4x128x128.Idx) :=
    ⟨y 1, y 2, y 3, by
      funext a
      fin_cases a
      · exact Subsingleton.elim (α := Fin 1) _ _
      · rfl
      · rfl
      · rfl⟩
  refine (v_pt m c t g r l).trans ?_
  have hi : win0_16.index t = ![0, 0, 0, 0] := by
    simp only [idx t]
  have e1 : (win0_16.blk t).view.emb (ix4 0 g r l : S1x4x128x128.Idx) 1 = g := Fin.ext (by
    show win0_16.index t 1 * 4 + 1 * g.val = g.val
    rw [hi]; show 0 * 4 + 1 * g.val = g.val; omega)
  have e2 : (win0_16.blk t).view.emb (ix4 0 g r l : S1x4x128x128.Idx) 2 = r := Fin.ext (by
    show win0_16.index t 2 * 128 + 1 * r.val = r.val
    rw [hi]; show 0 * 128 + 1 * r.val = r.val; omega)
  have e3 : (win0_16.blk t).view.emb (ix4 0 g r l : S1x4x128x128.Idx) 3 = l := Fin.ext (by
    show win0_16.index t 3 * 128 + 1 * l.val = l.val
    rw [hi]; show 0 * 128 + 1 * l.val = l.val; omega)
  rw [e1, e2, e3]

theorem final_17 (c : Dev nD) : (dats m 0 c).arrAt 17 (cfgs 0).N
    = ((fun i => Cert.StepMix.newa (argsOf m c) (i 1) (i 2)) : FVec Ideal S1x960x256 .f32) := by
  refine (dats m 0 c).arrAt_eq_of_covers 17 _ (by decide +kernel) fun t hf y => ?_
  blk_simp; rw [after0_17]
  obtain ⟨s, j, rfl⟩ : ∃ (s : Fin 960) (j : Fin 256), y = (ix3 0 s j : S1x960x256.Idx) :=
    ⟨y 1, y 2, by
      funext a
      fin_cases a
      · exact Subsingleton.elim (α := Fin 1) _ _
      · rfl
      · rfl⟩
  refine (newa_pt m c t s j).trans ?_
  have hi : win0_17.index t = ![0, 0, 0] := by
    simp only [idx t]
  have e1 : (win0_17.blk t).view.emb (ix3 0 s j : S1x960x256.Idx) 1 = s := Fin.ext (by
    show win0_17.index t 1 * 960 + 1 * s.val = s.val
    rw [hi]; show 0 * 960 + 1 * s.val = s.val; omega)
  have e2 : (win0_17.blk t).view.emb (ix3 0 s j : S1x960x256.Idx) 2 = j := Fin.ext (by
    show win0_17.index t 2 * 256 + 1 * j.val = j.val
    rw [hi]; show 0 * 256 + 1 * j.val = j.val; omega)
  rw [e1, e2]

theorem final_18 (c : Dev nD) : (dats m 0 c).arrAt 18 (cfgs 0).N
    = ((fun i => Cert.StepMix.newb (argsOf m c) (i 1) (i 2)) : FVec Ideal S1x64x256 .f32) := by
  refine (dats m 0 c).arrAt_eq_of_covers 18 _ (by decide +kernel) fun t hf y => ?_
  blk_simp; rw [after0_18]
  obtain ⟨s, j, rfl⟩ : ∃ (s : Fin 64) (j : Fin 256), y = (ix3 0 s j : S1x64x256.Idx) :=
    ⟨y 1, y 2, by
      funext a
      fin_cases a
      · exact Subsingleton.elim (α := Fin 1) _ _
      · rfl
      · rfl⟩
  refine (newb_pt m c t s j).trans ?_
  have hi : win0_18.index t = ![0, 0, 0] := by
    simp only [idx t]
  have e1 : (win0_18.blk t).view.emb (ix3 0 s j : S1x64x256.Idx) 1 = s := Fin.ext (by
    show win0_18.index t 1 * 64 + 1 * s.val = s.val
    rw [hi]; show 0 * 64 + 1 * s.val = s.val; omega)
  have e2 : (win0_18.blk t).view.emb (ix3 0 s j : S1x64x256.Idx) 2 = j := Fin.ext (by
    show win0_18.index t 2 * 256 + 1 * j.val = j.val
    rw [hi]; show 0 * 256 + 1 * j.val = j.val; omega)
  rw [e1, e2]

end Cert.Kernel5Ideal.Hand

end
-- ==== Proof.AdaSpec.lean ====
module

public import proofs.«01_k».proof.Proof.Gen.Reference6Ideal.Run
public import proofs.«01_k».proof.Proof.MixSpec

/-! The modulation rows of both layers, entry by entry, over the argument arrays, and the reference's composed term read
    as them. Rows 0 to 7 are the prompt's sequences, rows 8 to 39 the sample group's. -/

@[expose] public section

set_option maxRecDepth 16384

noncomputable section

open Idealize.ShloMosaic Idealize.ShloMosaic.TcCoe Idealize.SL.Sem
open scoped BigOperators

namespace Cert.Ada

open Cert.Reference6Ideal
open Cert.Mix (sgm)

/-- The argument arrays of the call. -/
structure Args where
  cp : FVec Ideal S8x1024 .f32
  cs : FVec Ideal S32x1024 .f32
  w : FVec Ideal S2x1024x6144 .f32
  b : FVec Ideal S2x6144 .f32

variable (A : Args)

/-- The condition of a sequence: the prompt's, then the sample group's. -/
def cc (r : Fin 40) (k : Fin 1024) : EReal :=
  if h : r.val < 8 then A.cp (ix2 ⟨r.val, h⟩ k) else A.cs (ix2 ⟨r.val - 8, by have := r.isLt; omega⟩ k)
/-- A layer's modulation of a sequence. -/
def md (l : Fin 2) (r : Fin 40) (j : Fin 6144) : EReal :=
  (∑ k : Fin 1024, cc A r k * sgm (cc A r k) * A.w (ix3 l k j)) + A.b (ix2 l j)

open Cert.Reference6Ideal.Gen Cert.Reference6Ideal.Value

/-- The reference's result, from the run's composed term. -/
theorem ref_md (l : Fin 2) (r : Fin 40) (j : Fin 6144) :
    (concatenate S2x40x6144 0 [⟨S1x40x6144, (broadcastInDim S1x40x6144 ![1, 2] bcast_S40x6144_S1x40x6144_1_2 (concatenate S40x6144 0 [⟨S8x6144, (addf (Host.dotGeneral dot_S8x1024_S1024x6144_S8x6144_1_0_0_1_n_n none (mulf A.cp (Host.divf (broadcastInDim S8x1024 ![] bcast_S_S8x1024 (constant S_ .f32 0x3F800000#32)) (addf (broadcastInDim S8x1024 ![] bcast_S_S8x1024 (constant S_ .f32 0x3F800000#32)) (Host.exp (Host.negf A.cp))))) (shapeCast _ (extractStridedSlice S1x1024x6144 ![0, 0, 0] A.w slices_S2x1024x6144_S1x1024x6144_0_0_0) shapeCasts_S1x1024x6144_S1024x6144)) (broadcastInDim S8x6144 ![0, 1] bcast_S1x6144_S8x6144_0_1 (broadcastInDim S1x6144 ![1] bcast_S6144_S1x6144_1 (shapeCast _ (extractStridedSlice S1x6144 ![0, 0] A.b slices_S2x6144_S1x6144_0_0) shapeCasts_S1x6144_S6144))))⟩, ⟨S32x6144, (addf (Host.dotGeneral dot_S32x1024_S1024x6144_S32x6144_1_0_0_1_n_n none (mulf A.cs (Host.divf (broadcastInDim S32x1024 ![] bcast_S_S32x1024 (constant S_ .f32 0x3F800000#32)) (addf (broadcastInDim S32x1024 ![] bcast_S_S32x1024 (constant S_ .f32 0x3F800000#32)) (Host.exp (Host.negf A.cs))))) (shapeCast _ (extractStridedSlice S1x1024x6144 ![0, 0, 0] A.w slices_S2x1024x6144_S1x1024x6144_0_0_0) shapeCasts_S1x1024x6144_S1024x6144)) (broadcastInDim S32x6144 ![0, 1] bcast_S1x6144_S32x6144_0_1 (broadcastInDim S1x6144 ![1] bcast_S6144_S1x6144_1 (shapeCast _ (extractStridedSlice S1x6144 ![0, 0] A.b slices_S2x6144_S1x6144_0_0) shapeCasts_S1x6144_S6144))))⟩] concatenates_S8x6144_S32x6144_S40x6144_d0))⟩, ⟨S1x40x6144, (broadcastInDim S1x40x6144 ![1, 2] bcast_S40x6144_S1x40x6144_1_2 (concatenate S40x6144 0 [⟨S8x6144, (addf (Host.dotGeneral dot_S8x1024_S1024x6144_S8x6144_1_0_0_1_n_n none (mulf A.cp (Host.divf (broadcastInDim S8x1024 ![] bcast_S_S8x1024 (constant S_ .f32 0x3F800000#32)) (addf (broadcastInDim S8x1024 ![] bcast_S_S8x1024 (constant S_ .f32 0x3F800000#32)) (Host.exp (Host.negf A.cp))))) (shapeCast _ (extractStridedSlice S1x1024x6144 ![1, 0, 0] A.w slices_S2x1024x6144_S1x1024x6144_1_0_0) shapeCasts_S1x1024x6144_S1024x6144)) (broadcastInDim S8x6144 ![0, 1] bcast_S1x6144_S8x6144_0_1 (broadcastInDim S1x6144 ![1] bcast_S6144_S1x6144_1 (shapeCast _ (extractStridedSlice S1x6144 ![1, 0] A.b slices_S2x6144_S1x6144_1_0) shapeCasts_S1x6144_S6144))))⟩, ⟨S32x6144, (addf (Host.dotGeneral dot_S32x1024_S1024x6144_S32x6144_1_0_0_1_n_n none (mulf A.cs (Host.divf (broadcastInDim S32x1024 ![] bcast_S_S32x1024 (constant S_ .f32 0x3F800000#32)) (addf (broadcastInDim S32x1024 ![] bcast_S_S32x1024 (constant S_ .f32 0x3F800000#32)) (Host.exp (Host.negf A.cs))))) (shapeCast _ (extractStridedSlice S1x1024x6144 ![1, 0, 0] A.w slices_S2x1024x6144_S1x1024x6144_1_0_0) shapeCasts_S1x1024x6144_S1024x6144)) (broadcastInDim S32x6144 ![0, 1] bcast_S1x6144_S32x6144_0_1 (broadcastInDim S1x6144 ![1] bcast_S6144_S1x6144_1 (shapeCast _ (extractStridedSlice S1x6144 ![1, 0] A.b slices_S2x6144_S1x6144_1_0) shapeCasts_S1x6144_S6144))))⟩] concatenates_S8x6144_S32x6144_S40x6144_d0))⟩] concatenates_S1x40x6144_S1x40x6144_S2x40x6144_d0 : FVec Ideal S2x40x6144 .f32) (ix3 l r j) = md A l r j := by
  pointwise []
  have hl := l.isLt
  have hr := r.isLt
  unfold md cc
  by_cases h : l.val < 1
  · obtain rfl : l = 0 := Fin.ext (by show l.val = 0; omega)
    by_cases h' : r.val < 8
    · simp only [h', dif_pos]
      rfl
    · simp only [h', dif_neg, not_false_eq_true]
      rfl
  · obtain rfl : l = 1 := Fin.ext (by show l.val = 1; omega)
    by_cases h' : r.val < 8
    · simp only [h', dif_pos]
      rfl
    · simp only [h', dif_neg, not_false_eq_true]
      rfl

end Cert.Ada

end
-- ==== Proof.AdaValue.lean ====
module

public import proofs.«01_k».proof.Proof.Gen.Kernel6Ideal.Value
public import proofs.«01_k».proof.Proof.AdaSpec
public import Idealize.ShloMosaic.Lib.Pipeline.ValueKit
public import Idealize.ShloMosaic.Lib.Pipeline.ReadBack

/-! The value of the modulation's kernel: grid point `4 l + q` computes columns `1536 q` to `1536 q + 1535` of layer `l`. -/

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Hand

open Cert.Kernel6Ideal Cert.Kernel6Ideal.Gen
open Cert.Ada (Args)

variable (m : (ℓ : Loc nD τ sig) → Buf (Elt Ideal) ℓ)

/-- The argument arrays in memory. -/
def argsOf (c : Dev nD) : Args where
  cp := m ((c : Thread nD τ).loc main_arg0)
  cs := m ((c : Thread nD τ).loc main_arg1)
  w := m ((c : Thread nD τ).loc main_arg2)
  b := m ((c : Thread nD τ).loc main_arg3)

/-- Every window's block index at a grid point. -/
theorem idx : ∀ t : Fin cfg0.N, win0_0.index t = ![0, 0]
    ∧ win0_1.index t = ![t.val / 4, 0, t.val % 4]
    ∧ win0_2.index t = ![t.val / 4, 0, t.val % 4]
    ∧ win0_3.index t = ![t.val / 4, 0, t.val % 4] :=
  (by decide +kernel : ∀ t : Fin grid0.N, _)

theorem N_eq : cfg0.N = 8 := by decide +kernel

/-- The layer of a grid point. -/
def lay (t : Fin cfg0.N) : Fin 2 := ⟨t.val / 4, by have := lt_of_lt_of_eq t.isLt N_eq; omega⟩
/-- A column of a grid point's block, in the array. -/
def col (t : Fin cfg0.N) (j : Fin 1536) : Fin 6144 :=
  ⟨t.val % 4 * 1536 + j.val, by have := j.isLt; have : t.val % 4 < 4 := Nat.mod_lt _ (by decide); omega⟩

theorem v0_at (c : Dev nD) (r : Fin 40) (k : Fin 1024) :
    (V m c main_v0 : FVec Ideal S40x1024 .f32) (ix2 r k) = Cert.Ada.cc (argsOf m c) r k := by
  show StableHlo.after hostOps0 _ _ _ = _
  simp only [hostOps0]
  entry_read
  pointwise []
  rfl

theorem v1_at (c : Dev nD) (l : Fin 2) (j : Fin 6144) :
    (V m c main_v1 : FVec Ideal S2x1x6144 .f32) (ix3 l 0 j) = (argsOf m c).b (ix2 l j) := by
  show StableHlo.after hostOps0 _ _ _ = _
  simp only [hostOps0]
  entry_read
  pointwise []
  rfl

theorem blk0 (c : Dev nD) (t : Fin cfg0.N) (r : Fin 40) (k : Fin 1024) :
    (iblk m c 0 t : FVec Ideal S40x1024 .f32) (ix2 r k) = Cert.Ada.cc (argsOf m c) r k := by
  refine Eq.trans ?_ (v0_at m c r k)
  unfold iblk
  blk_ext [idx t]

theorem blk1 (c : Dev nD) (t : Fin cfg0.N) (k : Fin 1024) (j : Fin 1536) :
    (iblk m c 1 t : FVec Ideal S1x1024x1536 .f32) (ix3 0 k j) = (argsOf m c).w (ix3 (lay t) k (col t j)) := by
  unfold argsOf
  blk_ext [iblk, V, idx t] <;> rfl

theorem blk2 (c : Dev nD) (t : Fin cfg0.N) (j : Fin 1536) :
    (iblk m c 2 t : FVec Ideal S1x1x1536 .f32) (ix3 0 0 j) = (argsOf m c).b (ix2 (lay t) (col t j)) := by
  refine Eq.trans ?_ (v1_at m c (lay t) (col t j))
  unfold iblk
  blk_ext [idx t] <;> rfl

/-- What the body stores, from any vectors that hold the conditions, a layer's columns and its biases. -/
theorem pay_at {A : Args} {l : Fin 2} {f : Fin 1536 → Fin 6144} {v0 : Vec Ideal S40x1024 .f32}
    {v11 : Vec Ideal S1x1024x1536 .f32} {v15 : Vec Ideal S1x1x1536 .f32}
    (h0 : ∀ (r : Fin 40) (k : Fin 1024), v0 (ix2 r k) = Cert.Ada.cc A r k)
    (h1 : ∀ (k : Fin 1024) (j : Fin 1536), v11 (ix3 0 k j) = A.w (ix3 l k (f j)))
    (h2 : ∀ j : Fin 1536, v15 (ix3 0 0 j) = A.b (ix2 l (f j))) (r : Fin 40) (j : Fin 1536) :
    k0_pay1 v0 v11 v15 (ix3 0 r j) = Cert.Ada.md A l r (f j) := by
  pointwise [k0_pay1, h0, h1, h2]
  simp only [zero_sub]
  rfl

/-- The block a grid point leaves. -/
theorem out_at (c : Dev nD) (t : Fin cfg0.N) (r : Fin 40) (j : Fin 1536) :
    (out0_3 (iblk m c 0 t) (iblk m c 1 t) (iblk m c 2 t) : FVec Ideal S1x40x1536 .f32) (ix3 0 r j)
      = Cert.Ada.md (argsOf m c) (lay t) r (col t j) := by
  unfold out0_3
  frame_out
  exact pay_at (blk0 m c t) (blk1 m c t) (blk2 m c t) r j

theorem final_3 (c : Dev nD) : (dats m 0 c).arrAt 3 (cfgs 0).N
    = ((fun i => Cert.Ada.md (argsOf m c) (i 0) (i 1) (i 2)) : FVec Ideal S2x40x6144 .f32) := by
  refine (dats m 0 c).arrAt_eq_of_covers 3 _ (by decide +kernel) fun t hf y => ?_
  blk_simp; rw [after0_3]
  obtain ⟨r, j, rfl⟩ : ∃ (r : Fin 40) (j : Fin 1536), y = (ix3 0 r j : S1x40x1536.Idx) :=
    ⟨y 1, y 2, by
      funext a
      fin_cases a
      · exact Subsingleton.elim (α := Fin 1) _ _
      · rfl
      · rfl⟩
  refine (out_at m c t r j).trans ?_
  have hi : win0_3.index t = ![t.val / 4, 0, t.val % 4] := by
    simp only [idx t]
  have e0 : (win0_3.blk t).view.emb (ix3 0 r j : S1x40x1536.Idx) 0 = lay t := Fin.ext (by
    show win0_3.index t 0 * 1 + 1 * 0 = t.val / 4
    rw [hi]; show t.val / 4 * 1 + 1 * 0 = t.val / 4; omega)
  have e1 : (win0_3.blk t).view.emb (ix3 0 r j : S1x40x1536.Idx) 1 = r := Fin.ext (by
    show win0_3.index t 1 * 40 + 1 * r.val = r.val
    rw [hi]; show 0 * 40 + 1 * r.val = r.val; omega)
  have e2 : (win0_3.blk t).view.emb (ix3 0 r j : S1x40x1536.Idx) 2 = col t j := Fin.ext (by
    show win0_3.index t 2 * 1536 + 1 * j.val = t.val % 4 * 1536 + j.val
    rw [hi]; show t.val % 4 * 1536 + 1 * j.val = t.val % 4 * 1536 + j.val; omega)
  rw [e0, e1, e2]

end Cert.Kernel6Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Reference3Ideal
public import proofs.«01_k».proof.Proof.Gen.Reference3Ideal.Run
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.SampleFrame
public import proofs.«01_k».proof.Proof.SampleFinal
public import proofs.«01_k».proof.Proof.SampleRefOut
public import proofs.«01_k».proof.Proof.SamplePre
public import proofs.«01_k».proof.Proof.FfnFinal
public import proofs.«01_k».proof.Proof.MixFinal
public import proofs.«01_k».proof.Proof.StepValue
public import proofs.«01_k».proof.Proof.StepMixValue
public import proofs.«01_k».proof.Proof.AdaValue
public import Idealize.ShloMosaic.Adequacy
public import Idealize.ShloMosaic.Init

@[expose] public section

noncomputable section

-- The claims about Kernel, KernelIdeal, ReferenceIdeal, Kernel2, Kernel2Ideal, Reference2Ideal, Kernel3, Kernel3Ideal, Reference3Ideal, Kernel4, Kernel4Ideal, Reference4Ideal, Kernel5, Kernel5Ideal, Reference5Ideal,

namespace Cert.Proof

open Idealize.ShloMosaic Idealize.SL.Sem Cert.Kernel

/-- The sample attention's two programs have one text: their body tables are one. -/
theorem bodies_eq : Cert.KernelIdeal.defs₀ (F := Bits) = Cert.Kernel.defs₀ (F := Bits) := by
  unfold Cert.KernelIdeal.defs₀ Cert.Kernel.defs₀
  refine congrArg Defs.onTc (funext fun l => ?_)
  match l with
  | 0 => rfl

theorem defs_eq : Cert.KernelIdeal.defs (F := Bits) = Cert.Kernel.defs (F := Bits) :=
  congrArg (Pipeline.defs Cert.Kernel.pcfgs) bodies_eq

/-- So the run of the one is the run of the other. -/
theorem frame_sample : quiescent_Kernel := fun m ρ _ => by
  have h := Cert.KernelIdeal.Sample.frame (F := Bits) m ρ
  rw [defs_eq] at h
  exact h

theorem frame_reference : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference2 : quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

theorem frame_reference3 : quiescent_Reference3Ideal := fun m ρ _ =>
  (θ_run Cert.Reference3Ideal.defs _ _).mono
    (fun r h => ⟨fun c => (h c).2.2.2.2.2.2.2.2, Idealize.ShloMosaic.sem_eq_zero_of_no_sems (by decide) r.2⟩)
    (Cert.Reference3Ideal.Value.run (F := Ideal) m ρ)

theorem frame_reference4 : quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

theorem frame_reference5 : quiescent_Reference5Ideal := fun m ρ _ =>
  (θ_run Cert.Reference5Ideal.defs _ _).mono
    (fun r h => ⟨fun c => (h c).2.2.2.2.2.2, Idealize.ShloMosaic.sem_eq_zero_of_no_sems (by decide) r.2⟩)
    (Cert.Reference5Ideal.Value.run (F := Ideal) m ρ)

theorem frame_reference6 : quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The output projection and feed-forward kernel computes the reference's layer from the group outputs on. -/
theorem value_ffn : algebraic_Kernel2Ideal_Reference2Ideal := by
  intro m ρ m' ρ' _ hagree
  have hargs : ∀ c : Dev Cert.Kernel2Ideal.nD,
      Cert.Ffn.argsOf (StableHlo.launchContents m' c) = Cert.Kernel2Ideal.Hand.argsOf m c := fun c => by
    obtain ⟨h0, h1, h2, h3, h4, h5, h6, h7, h8, h9, h10, h11, h12⟩ := hagree c
    unfold Cert.Ffn.argsOf Cert.Kernel2Ideal.Hand.argsOf
    simp only [Cert.Ffn.Args.mk.injEq]
    exact ⟨h0, h1, h2, h3, h4, h5, h6, h7, h8, h9, h10, h11, h12⟩
  refine ⟨fun c => (fun i => Cert.Ffn.yy (Cert.Kernel2Ideal.Hand.argsOf m c) (i 0) (i 1) (i 2)),
    fun c => (fun i => Cert.Ffn.nf (Cert.Kernel2Ideal.Hand.argsOf m c) (i 0) (i 1) (i 2)), ?_, ?_⟩
  · refine (θ_run Cert.Kernel2Ideal.defs _ _).mono (fun r h c => ?_) (Cert.Kernel2Ideal.Value.run_blocks (F := Ideal) m ρ)
    obtain ⟨h0, h1, h2⟩ := h c
    exact ⟨h0.trans (Cert.Kernel2Ideal.Hand.final_14 m c), h1.trans (Cert.Kernel2Ideal.Hand.final_15 m c), h2⟩
  · refine (θ_run Cert.Reference2Ideal.defs _ _).mono (fun r h c => ?_) (Cert.Reference2Ideal.Value.run (F := Ideal) m' ρ')
    obtain ⟨h0, h1, h2⟩ := h c
    refine ⟨h0.trans (funext fun i => ?_), h1.trans (funext fun i => ?_), ?_⟩
    · obtain ⟨b, t, j, rfl⟩ : ∃ (b : Fin 8) (t : Fin 4096) (j : Fin 1024), i = ix3 b t j :=
        ⟨i 0, i 1, i 2, by funext a; fin_cases a <;> rfl⟩
      exact (Cert.Ffn.ref_yy (StableHlo.launchContents m' c) b t j).trans (congrArg (fun A => Cert.Ffn.yy A b t j) (hargs c))
    · obtain ⟨b, s, j, rfl⟩ : ∃ (b : Fin 8) (s : Fin 8) (j : Fin 2816), i = ix3 b s j :=
        ⟨i 0, i 1, i 2, by funext a; fin_cases a <;> rfl⟩
      exact (Cert.Ffn.ref_nf (StableHlo.launchContents m' c) b s j).trans (congrArg (fun A => Cert.Ffn.nf A b s j) (hargs c))
    · exact h2

/-- The input projection and mixer kernel computes the reference's layer up to the attention. -/
theorem value_mix : algebraic_Kernel3Ideal_Reference3Ideal := by
  intro m ρ m' ρ' _ hagree
  have hargs : ∀ c : Dev Cert.Kernel3Ideal.nD,
      Cert.Mix.argsOf (StableHlo.launchContents m' c) = Cert.Kernel3Ideal.Hand.argsOf m c := fun c => by
    obtain ⟨h0, h1, h2, h3, h4, h5, h6, h7, h8, h9, h10, h11⟩ := hagree c
    unfold Cert.Mix.argsOf Cert.Kernel3Ideal.Hand.argsOf
    simp only [Cert.Mix.Args.mk.injEq]
    exact ⟨h0, h1, h2, h3, h4, h5, h6, h7, h8, h9, h10⟩
  refine ⟨fun c => (fun i => Cert.Mix.mixab (Cert.Kernel3Ideal.Hand.argsOf m c) (i 0) (i 1) (i 2)),
    fun c => (fun i => Cert.Mix.pairs (Cert.Kernel3Ideal.Hand.argsOf m c) 1280 (by decide) (i 0) (i 1) (i 2) (i 3)),
    fun c => (fun i => Cert.Mix.pairs (Cert.Kernel3Ideal.Hand.argsOf m c) 1792 (by decide) (i 0) (i 1) (i 2) (i 3)),
    fun c => (fun i => Cert.Mix.pairs (Cert.Kernel3Ideal.Hand.argsOf m c) 2304 (by decide) (i 0) (i 1) (i 2) (i 3)),
    fun c => (fun i => Cert.Mix.newa (Cert.Kernel3Ideal.Hand.argsOf m c) (i 0) (i 1) (i 2)),
    fun c => (fun i => Cert.Mix.newb (Cert.Kernel3Ideal.Hand.argsOf m c) (i 0) (i 1) (i 2)),
    fun c => (fun i => Cert.Mix.kept (Cert.Kernel3Ideal.Hand.argsOf m c) 1792 (by decide) (i 1) (i 2) (i 3)),
    fun c => (fun i => Cert.Mix.kept (Cert.Kernel3Ideal.Hand.argsOf m c) 2304 (by decide) (i 1) (i 2) (i 3)), ?_, ?_⟩
  · refine (θ_run Cert.Kernel3Ideal.defs _ _).mono (fun r h c => ?_) (Cert.Kernel3Ideal.Value.run_blocks (F := Ideal) m ρ)
    obtain ⟨h0, h1, h2, h3, h4, h5, h6, h7, h8⟩ := h c
    exact ⟨h0.trans (Cert.Kernel3Ideal.Hand.final_13 m c),
      h1.trans (Cert.Kernel3Ideal.Hand.final_14 m c),
      h2.trans (Cert.Kernel3Ideal.Hand.final_15 m c),
      h3.trans (Cert.Kernel3Ideal.Hand.final_16 m c),
      h4.trans (Cert.Kernel3Ideal.Hand.final_17 m c),
      h5.trans (Cert.Kernel3Ideal.Hand.final_18 m c),
      h6.trans (Cert.Kernel3Ideal.Hand.final_19 m c),
      h7.trans (Cert.Kernel3Ideal.Hand.final_20 m c), h8⟩
  · refine (θ_run Cert.Reference3Ideal.defs _ _).mono (fun r h c => ?_) (Cert.Reference3Ideal.Value.run (F := Ideal) m' ρ')
    obtain ⟨h0, h1, h2, h3, h4, h5, h6, h7, h8⟩ := h c
    refine ⟨h0.trans (funext fun i => ?_), h1.trans (funext fun i => ?_), h2.trans (funext fun i => ?_), h3.trans (funext fun i => ?_), h4.trans (funext fun i => ?_), h5.trans (funext fun i => ?_), h6.trans (funext fun i => ?_), h7.trans (funext fun i => ?_), ?_⟩
    · obtain ⟨b, t, j, rfl⟩ : ∃ (b : Fin 8) (t : Fin 4096) (j : Fin 512), i = ix3 b t j :=
        ⟨i 0, i 1, i 2, by funext a; fin_cases a <;> rfl⟩
      exact (Cert.Mix.ref_mixab (StableHlo.launchContents m' c) b t j).trans (congrArg (fun A => Cert.Mix.mixab A b t j) (hargs c))
    · obtain ⟨b, g, t, l, rfl⟩ : ∃ (b : Fin 8) (g : Fin 4) (t : Fin 4096) (l : Fin 128), i = ix4 b g t l :=
        ⟨i 0, i 1, i 2, i 3, by funext a; fin_cases a <;> rfl⟩
      exact (Cert.Mix.ref_q (StableHlo.launchContents m' c) b g t l).trans (congrArg (fun A => Cert.Mix.pairs A 1280 (by decide) b g t l) (hargs c))
    · obtain ⟨b, g, t, l, rfl⟩ : ∃ (b : Fin 8) (g : Fin 4) (t : Fin 4096) (l : Fin 128), i = ix4 b g t l :=
        ⟨i 0, i 1, i 2, i 3, by funext a; fin_cases a <;> rfl⟩
      exact (Cert.Mix.ref_k (StableHlo.launchContents m' c) b g t l).trans (congrArg (fun A => Cert.Mix.pairs A 1792 (by decide) b g t l) (hargs c))
    · obtain ⟨b, g, t, l, rfl⟩ : ∃ (b : Fin 8) (g : Fin 4) (t : Fin 4096) (l : Fin 128), i = ix4 b g t l :=
        ⟨i 0, i 1, i 2, i 3, by funext a; fin_cases a <;> rfl⟩
      exact (Cert.Mix.ref_v (StableHlo.launchContents m' c) b g t l).trans (congrArg (fun A => Cert.Mix.pairs A 2304 (by decide) b g t l) (hargs c))
    · obtain ⟨b, t, j, rfl⟩ : ∃ (b : Fin 8) (t : Fin 32) (j : Fin 256), i = ix3 b t j :=
        ⟨i 0, i 1, i 2, by funext a; fin_cases a <;> rfl⟩
      exact (Cert.Mix.ref_newa (StableHlo.launchContents m' c) b t j).trans (congrArg (fun A => Cert.Mix.newa A b t j) (hargs c))
    · obtain ⟨b, t, j, rfl⟩ : ∃ (b : Fin 8) (t : Fin 8) (j : Fin 256), i = ix3 b t j :=
        ⟨i 0, i 1, i 2, by funext a; fin_cases a <;> rfl⟩
      exact (Cert.Mix.ref_newb (StableHlo.launchContents m' c) b t j).trans (congrArg (fun A => Cert.Mix.newb A b t j) (hargs c))
    · obtain ⟨b, j, t, rfl⟩ : ∃ (b : Fin 8) (j : Fin 512) (t : Fin 2048), i = ix4 (0 : Fin 1) b j t :=
        ⟨i 1, i 2, i 3, by funext a; fin_cases a <;> first | rfl | exact Subsingleton.elim (α := Fin 1) _ _⟩
      exact (Cert.Mix.ref_keptk (StableHlo.launchContents m' c) b j t).trans (congrArg (fun A => Cert.Mix.kept A 1792 (by decide) b j t) (hargs c))
    · obtain ⟨b, j, t, rfl⟩ : ∃ (b : Fin 8) (j : Fin 512) (t : Fin 2048), i = ix4 (0 : Fin 1) b j t :=
        ⟨i 1, i 2, i 3, by funext a; fin_cases a <;> first | rfl | exact Subsingleton.elim (α := Fin 1) _ _⟩
      exact (Cert.Mix.ref_keptv (StableHlo.launchContents m' c) b j t).trans (congrArg (fun A => Cert.Mix.kept A 2304 (by decide) b j t) (hargs c))
    · exact h8

theorem real_of_eq {s : Shape} {a b : s.Idx → EReal} (e : a = b) (h : Cert.Attn.IsReal b) : Cert.Attn.IsReal a := e ▸ h

theorem out_of_eq {q q' k k' v v' : (⟨4, ![32, 4, 8, 64]⟩ : Shape).Idx → EReal} {ck ck' cv cv' : (⟨5, ![2, 32, 2048, 8, 64]⟩ : Shape).Idx → EReal}
    (hq : q = q') (hk : k = k') (hv : v = v') (hck : ck = ck') (hcv : cv = cv') (b : Fin 32) (h : Fin 8) (i : Fin 4) (d : Fin 64) :
    Cert.Attn.out q k v ck cv b h i d = Cert.Attn.out q' k' v' ck' cv' b h i d := by
  subst hq hk hv hck hcv; rfl

/-- The sample attention's kernel computes the reference's dilated attention, where the arguments are real numbers. -/
theorem value_sample : algebraic_KernelIdeal_ReferenceIdeal_pre_finite (hPre_finite := Cert.Pre_finite.facts) := by
  intro m ρ m' ρ' hpre hagree
  have hr : ∀ c : Dev Cert.KernelIdeal.nD, Cert.KernelIdeal.Sample.Real m c := fun c =>
    Cert.Pre_finite.decode (hf := Cert.Pre_finite.facts) _ _ _ _ _ (hpre c)
  refine ⟨fun c => (fun i => Cert.Attn.out (Cert.KernelIdeal.Sample.aQ m c) (Cert.KernelIdeal.Sample.aK m c) (Cert.KernelIdeal.Sample.aV m c)
    (Cert.KernelIdeal.Sample.aCK m c) (Cert.KernelIdeal.Sample.aCV m c) (i 0) (i 1) (i 2) (i 3)), ?_, ?_⟩
  · refine (θ_run Cert.KernelIdeal.defs _ _).mono (fun r h c => ?_) (Cert.KernelIdeal.Sample.run_main (F := Ideal) m ρ)
    exact ⟨((h c).1 3).trans (Cert.KernelIdeal.Sample.final_3 m c (hr c)), Cert.KernelIdeal.Sample.kept0 m c r h, Cert.KernelIdeal.Sample.kept1 m c r h,
      Cert.KernelIdeal.Sample.kept2 m c r h, Cert.KernelIdeal.Sample.kept3 m c r h, Cert.KernelIdeal.Sample.kept4 m c r h⟩
  · refine (θ_run Cert.ReferenceIdeal.defs _ _).mono (fun r h c => ?_) (Cert.ReferenceIdeal.Value.run (F := Ideal) m' ρ')
    obtain ⟨h0, h1⟩ := h c
    refine ⟨h0.trans (funext fun i => ?_), h1⟩
    obtain ⟨g0, g1, g2, g3, g4⟩ := hagree c
    obtain ⟨r0, r1, r2, r3, r4⟩ := hr c
    obtain ⟨b, h, q, d, rfl⟩ : ∃ (b : Fin 32) (h : Fin 8) (q : Fin 4) (d : Fin 64), i = ix4 b h q d :=
      ⟨i 0, i 1, i 2, i 3, by funext a; fin_cases a <;> rfl⟩
    exact (Cert.ReferenceIdeal.Hand.out_at (V0 := StableHlo.launchContents m' c) (real_of_eq g0 r0) (real_of_eq g1 r1) (real_of_eq g2 r2) (real_of_eq g3 r3) (real_of_eq g4 r4) b h q d).trans
      (out_of_eq g0 g1 g2 g3 g4 b h q d)

/-- The decoding step's output projection and feed-forward kernel computes the reference's layer from the group outputs
    on, time-major. -/
theorem value_step : algebraic_Kernel4Ideal_Reference4Ideal := by
  intro m ρ m' ρ' _ hagree
  have hargs : ∀ c : Dev Cert.Kernel4Ideal.nD,
      Cert.Step.argsOf (StableHlo.launchContents m' c) = Cert.Kernel4Ideal.Hand.argsOf m c := fun c => by
    obtain ⟨h0, h1, h2, h3, h4, h5, h6, h7, h8, h9, h10, h11, h12, h13⟩ := hagree c
    unfold Cert.Step.argsOf Cert.Kernel4Ideal.Hand.argsOf
    simp only [Cert.Step.Args.mk.injEq]
    exact ⟨h0, h1, h2, h3, h4, h5, h6, h7, h8, h9, h10, h11, h12, h13⟩
  refine ⟨fun c => (fun i => Cert.Step.yy (Cert.Kernel4Ideal.Hand.argsOf m c) (Cert.Step.sq (i 1 : Fin 128)) (Cert.Step.ps (i 1)) (i 2)),
    fun c => (fun i => Cert.Step.nf (Cert.Kernel4Ideal.Hand.argsOf m c) (i 1) (i 2)), ?_, ?_⟩
  · refine (θ_run Cert.Kernel4Ideal.defs _ _).mono (fun r h c => ?_) (Cert.Kernel4Ideal.Value.run_blocks (F := Ideal) m ρ)
    obtain ⟨h0, h1, h2⟩ := h c
    exact ⟨h0.trans (Cert.Kernel4Ideal.Hand.final_14 m c), h1.trans (Cert.Kernel4Ideal.Hand.final_15 m c), h2⟩
  · refine (θ_run Cert.Reference4Ideal.defs _ _).mono (fun r h c => ?_) (Cert.Reference4Ideal.Value.run (F := Ideal) m' ρ')
    obtain ⟨h0, h1, h2⟩ := h c
    refine ⟨h0.trans (funext fun i => ?_), h1.trans (funext fun i => ?_), ?_⟩
    · obtain ⟨r, j, rfl⟩ : ∃ (r : Fin 128) (j : Fin 1024), i = ix3 (0 : Fin 1) r j :=
        ⟨i 1, i 2, by funext a; fin_cases a <;> first | rfl | exact Subsingleton.elim (α := Fin 1) _ _⟩
      exact (Cert.Step.ref_yy (StableHlo.launchContents m' c) r j).trans
        (congrArg (fun A => Cert.Step.yy A (Cert.Step.sq r) (Cert.Step.ps r) j) (hargs c))
    · obtain ⟨s, j, rfl⟩ : ∃ (s : Fin 64) (j : Fin 2816), i = ix3 (0 : Fin 1) s j :=
        ⟨i 1, i 2, by funext a; fin_cases a <;> first | rfl | exact Subsingleton.elim (α := Fin 1) _ _⟩
      exact (Cert.Step.ref_nf (StableHlo.launchContents m' c) s j).trans (congrArg (fun A => Cert.Step.nf A s j) (hargs c))
    · exact h2

/-- The decoding step's input projection and mixer kernel computes the reference's layer up to the attention,
    time-major. -/
theorem value_mixstep : algebraic_Kernel5Ideal_Reference5Ideal := by
  intro m ρ m' ρ' _ hagree
  have hargs : ∀ c : Dev Cert.Kernel5Ideal.nD,
      Cert.StepMix.argsOf (StableHlo.launchContents m' c) = Cert.Kernel5Ideal.Hand.argsOf m c := fun c => by
    obtain ⟨h0, h1, h2, h3, h4, h5, h6, h7, h8, h9, h10, h11, h12, h13⟩ := hagree c
    unfold Cert.StepMix.argsOf Cert.Kernel5Ideal.Hand.argsOf
    simp only [Cert.StepMix.Args.mk.injEq]
    exact ⟨h0, h1, h2, h3, h4, h5, h6, h7, h8, h9, h10, h11, h12⟩
  refine ⟨fun c => (fun i => Cert.StepMix.mixab (Cert.Kernel5Ideal.Hand.argsOf m c) (Cert.Step.sq (i 1 : Fin 128)) (Cert.Step.ps (i 1)) (i 2)),
    fun c => (fun i => Cert.StepMix.pairs (Cert.Kernel5Ideal.Hand.argsOf m c) 1280 (by decide) (i 1) (i 2) (i 3)),
    fun c => (fun i => Cert.StepMix.pairs (Cert.Kernel5Ideal.Hand.argsOf m c) 1792 (by decide) (i 1) (i 2) (i 3)),
    fun c => (fun i => Cert.StepMix.pairs (Cert.Kernel5Ideal.Hand.argsOf m c) 2304 (by decide) (i 1) (i 2) (i 3)),
    fun c => (fun i => Cert.StepMix.newa (Cert.Kernel5Ideal.Hand.argsOf m c) (i 1) (i 2)),
    fun c => (fun i => Cert.StepMix.newb (Cert.Kernel5Ideal.Hand.argsOf m c) (i 1) (i 2)), ?_, ?_⟩
  · refine (θ_run Cert.Kernel5Ideal.defs _ _).mono (fun r h c => ?_) (Cert.Kernel5Ideal.Value.run_blocks (F := Ideal) m ρ)
    obtain ⟨h0, h1, h2, h3, h4, h5, h6⟩ := h c
    exact ⟨h0.trans (Cert.Kernel5Ideal.Hand.final_13 m c), h1.trans (Cert.Kernel5Ideal.Hand.final_14 m c),
      h2.trans (Cert.Kernel5Ideal.Hand.final_15 m c), h3.trans (Cert.Kernel5Ideal.Hand.final_16 m c),
      h4.trans (Cert.Kernel5Ideal.Hand.final_17 m c), h5.trans (Cert.Kernel5Ideal.Hand.final_18 m c), h6⟩
  · refine (θ_run Cert.Reference5Ideal.defs _ _).mono (fun r h c => ?_) (Cert.Reference5Ideal.Value.run (F := Ideal) m' ρ')
    obtain ⟨h0, h1, h2, h3, h4, h5, h6⟩ := h c
    refine ⟨h0.trans (funext fun i => ?_), h1.trans (funext fun i => ?_), h2.trans (funext fun i => ?_), h3.trans (funext fun i => ?_),
      h4.trans (funext fun i => ?_), h5.trans (funext fun i => ?_), ?_⟩
    · obtain ⟨r, j, rfl⟩ : ∃ (r : Fin 128) (j : Fin 512), i = ix3 (0 : Fin 1) r j :=
        ⟨i 1, i 2, by funext a; fin_cases a <;> first | rfl | exact Subsingleton.elim (α := Fin 1) _ _⟩
      exact (Cert.StepMix.ref_mixab (StableHlo.launchContents m' c) r j).trans
        (congrArg (fun A => Cert.StepMix.mixab A (Cert.Step.sq r) (Cert.Step.ps r) j) (hargs c))
    · obtain ⟨g, r, l, rfl⟩ : ∃ (g : Fin 4) (r l : Fin 128), i = ix4 (0 : Fin 1) g r l :=
        ⟨i 1, i 2, i 3, by funext a; fin_cases a <;> first | rfl | exact Subsingleton.elim (α := Fin 1) _ _⟩
      exact (Cert.StepMix.ref_q (StableHlo.launchContents m' c) g r l).trans
        (congrArg (fun A => Cert.StepMix.pairs A 1280 (by decide) g r l) (hargs c))
    · obtain ⟨g, r, l, rfl⟩ : ∃ (g : Fin 4) (r l : Fin 128), i = ix4 (0 : Fin 1) g r l :=
        ⟨i 1, i 2, i 3, by funext a; fin_cases a <;> first | rfl | exact Subsingleton.elim (α := Fin 1) _ _⟩
      exact (Cert.StepMix.ref_k (StableHlo.launchContents m' c) g r l).trans
        (congrArg (fun A => Cert.StepMix.pairs A 1792 (by decide) g r l) (hargs c))
    · obtain ⟨g, r, l, rfl⟩ : ∃ (g : Fin 4) (r l : Fin 128), i = ix4 (0 : Fin 1) g r l :=
        ⟨i 1, i 2, i 3, by funext a; fin_cases a <;> first | rfl | exact Subsingleton.elim (α := Fin 1) _ _⟩
      exact (Cert.StepMix.ref_v (StableHlo.launchContents m' c) g r l).trans
        (congrArg (fun A => Cert.StepMix.pairs A 2304 (by decide) g r l) (hargs c))
    · obtain ⟨s, j, rfl⟩ : ∃ (s : Fin 960) (j : Fin 256), i = ix3 (0 : Fin 1) s j :=
        ⟨i 1, i 2, by funext a; fin_cases a <;> first | rfl | exact Subsingleton.elim (α := Fin 1) _ _⟩
      exact (Cert.StepMix.ref_newa (StableHlo.launchContents m' c) s j).trans (congrArg (fun A => Cert.StepMix.newa A s j) (hargs c))
    · obtain ⟨s, j, rfl⟩ : ∃ (s : Fin 64) (j : Fin 256), i = ix3 (0 : Fin 1) s j :=
        ⟨i 1, i 2, by funext a; fin_cases a <;> first | rfl | exact Subsingleton.elim (α := Fin 1) _ _⟩
      exact (Cert.StepMix.ref_newb (StableHlo.launchContents m' c) s j).trans (congrArg (fun A => Cert.StepMix.newb A s j) (hargs c))
    · exact h6

/-- The modulation's kernel computes the reference's modulation of both groups and both layers. -/
theorem value_mod : algebraic_Kernel6Ideal_Reference6Ideal := by
  intro m ρ m' ρ' _ hagree
  refine ⟨fun c => (fun i => Cert.Ada.md (Cert.Kernel6Ideal.Hand.argsOf m c) (i 0) (i 1) (i 2)), ?_, ?_⟩
  · refine (θ_run Cert.Kernel6Ideal.defs _ _).mono (fun r h c => ?_) (Cert.Kernel6Ideal.Value.run_blocks (F := Ideal) m ρ)
    obtain ⟨h0, h1⟩ := h c
    exact ⟨h0.trans (Cert.Kernel6Ideal.Hand.final_3 m c), h1⟩
  · refine (θ_run Cert.Reference6Ideal.defs _ _).mono (fun r h c => ?_) (Cert.Reference6Ideal.Value.run (F := Ideal) m' ρ')
    obtain ⟨h0, h1⟩ := h c
    obtain ⟨a0, a1, a2, a3⟩ := hagree c
    refine ⟨h0.trans (funext fun i => ?_), h1⟩
    obtain ⟨l, r, j, rfl⟩ : ∃ (l : Fin 2) (r : Fin 40) (j : Fin 6144), i = ix3 l r j :=
      ⟨i 0, i 1, i 2, by funext a; fin_cases a <;> rfl⟩
    refine (Cert.Ada.ref_md ⟨m' ((c.tc : Thread Cert.Reference6Ideal.nD Cert.Reference6Ideal.τ).loc Cert.Reference6Ideal.main_arg0),
      m' ((c.tc : Thread Cert.Reference6Ideal.nD Cert.Reference6Ideal.τ).loc Cert.Reference6Ideal.main_arg1),
      m' ((c.tc : Thread Cert.Reference6Ideal.nD Cert.Reference6Ideal.τ).loc Cert.Reference6Ideal.main_arg2),
      m' ((c.tc : Thread Cert.Reference6Ideal.nD Cert.Reference6Ideal.τ).loc Cert.Reference6Ideal.main_arg3)⟩ l r j).trans ?_
    refine congrArg (fun A => Cert.Ada.md A l r j) ?_
    unfold Cert.Kernel6Ideal.Hand.argsOf
    simp only [Cert.Ada.Args.mk.injEq]
    exact ⟨a0, a1, a2, a3⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite.facts,
  frame_sample,
  fun m ρ _ => Cert.KernelIdeal.Sample.frame (F := Ideal) m ρ,
  fun m ρ _ => Cert.KernelIdeal.Sample.frame (F := Ideal) m ρ,
  frame_reference,
  fun m ρ _ => frame_reference m ρ trivial,
  fun m ρ _ => Cert.Kernel2.Gen.frame (F := Bits) m ρ,
  fun m ρ _ => Cert.Kernel2Ideal.Gen.frame (F := Ideal) m ρ,
  frame_reference2,
  fun m ρ _ => Cert.Kernel3.Gen.frame (F := Bits) m ρ,
  fun m ρ _ => Cert.Kernel3Ideal.Gen.frame (F := Ideal) m ρ,
  frame_reference3,
  fun m ρ _ => Cert.Kernel4.Gen.frame (F := Bits) m ρ,
  fun m ρ _ => Cert.Kernel4Ideal.Gen.frame (F := Ideal) m ρ,
  frame_reference4,
  fun m ρ _ => Cert.Kernel5.Gen.frame (F := Bits) m ρ,
  fun m ρ _ => Cert.Kernel5Ideal.Gen.frame (F := Ideal) m ρ,
  frame_reference5,
  fun m ρ _ => Cert.Kernel6.Gen.frame (F := Bits) m ρ,
  fun m ρ _ => Cert.Kernel6Ideal.Gen.frame (F := Ideal) m ρ,
  frame_reference6,
  trivial,
  value_sample,
  trivial,
  value_ffn,
  trivial,
  value_mix,
  trivial,
  value_step,
  trivial,
  value_mixstep,
  trivial,
  value_mod⟩

end Cert.Proof

end
